-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_keys_finite [hPre_keys_finite : Cert.Pre_keys_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_keys_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_keys_finite [hPre_keys_finite : Cert.Pre_keys_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_keys_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_later_keys_finite [hPre_later_keys_finite : Cert.Pre_later_keys_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_later_keys_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_later_keys_finite [hPre_later_keys_finite : Cert.Pre_later_keys_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_later_keys_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_keys_finite [hKernel9Ideal : Cert.Kernel9Ideal.Facts] [hPre_keys_finite : Cert.Pre_keys_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_keys_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_keys_finite [hReference9Ideal : Cert.Reference9Ideal.Facts] [hPre_keys_finite : Cert.Pre_keys_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_keys_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_later_keys_finite [hKernel10Ideal : Cert.Kernel10Ideal.Facts] [hPre_later_keys_finite : Cert.Pre_later_keys_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_later_keys_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_later_keys_finite [hReference10Ideal : Cert.Reference10Ideal.Facts] [hPre_later_keys_finite : Cert.Pre_later_keys_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_later_keys_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "mask" .f32 0xF149F2CA#32 ⊥

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)) (v2 : (c : Dev Cert.Kernel7Ideal.nD) → Buf (Elt Ideal) ((c.tc : Thread Cert.Kernel7Ideal.nD Cert.Kernel7Ideal.τ).loc Cert.Kernel7Ideal.main_v10_2)) (v3 : (c : Dev Cert.Kernel7Ideal.nD) → Buf (Elt Ideal) ((c.tc : Thread Cert.Kernel7Ideal.nD Cert.Kernel7Ideal.τ).loc Cert.Kernel7Ideal.main_v10_3)) (v4 : (c : Dev Cert.Kernel7Ideal.nD) → Buf (Elt Ideal) ((c.tc : Thread Cert.Kernel7Ideal.nD Cert.Kernel7Ideal.τ).loc Cert.Kernel7Ideal.main_v10_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_v10_2) = v2 c
          ∧ r.2.mem ((c.tc : Thread Cert.Kernel7Ideal.nD Cert.Kernel7Ideal.τ).loc Cert.Kernel7Ideal.main_v10_3) = v3 c
          ∧ r.2.mem ((c.tc : Thread Cert.Kernel7Ideal.nD Cert.Kernel7Ideal.τ).loc Cert.Kernel7Ideal.main_v10_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v139) = v0 c
          ∧ r.2.mem ((c.tc : Thread Cert.Reference7Ideal.nD Cert.Reference7Ideal.τ).loc Cert.Reference7Ideal.main_v140) = v1 c
          ∧ r.2.mem ((c.tc : Thread Cert.Reference7Ideal.nD Cert.Reference7Ideal.τ).loc Cert.Reference7Ideal.main_v141) = v2 c
          ∧ r.2.mem ((c.tc : Thread Cert.Reference7Ideal.nD Cert.Reference7Ideal.τ).loc Cert.Reference7Ideal.main_v37) = v3 c
          ∧ r.2.mem ((c.tc : Thread Cert.Reference7Ideal.nD Cert.Reference7Ideal.τ).loc Cert.Reference7Ideal.main_v138) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)) →
    ∃ (v0 : (c : Dev Cert.Kernel8Ideal.nD) → Buf (Elt Ideal) ((c.tc : Thread Cert.Kernel8Ideal.nD Cert.Kernel8Ideal.τ).loc Cert.Kernel8Ideal.main_v14_1)) (v1 : (c : Dev Cert.Kernel8Ideal.nD) → Buf (Elt Ideal) ((c.tc : Thread Cert.Kernel8Ideal.nD Cert.Kernel8Ideal.τ).loc Cert.Kernel8Ideal.main_v14_2)) (v2 : (c : Dev Cert.Kernel8Ideal.nD) → Buf (Elt Ideal) ((c.tc : Thread Cert.Kernel8Ideal.nD Cert.Kernel8Ideal.τ).loc Cert.Kernel8Ideal.main_v14_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_1) = v0 c
          ∧ r.2.mem ((c.tc : Thread Cert.Kernel8Ideal.nD Cert.Kernel8Ideal.τ).loc Cert.Kernel8Ideal.main_v14_2) = v1 c
          ∧ r.2.mem ((c.tc : Thread Cert.Kernel8Ideal.nD Cert.Kernel8Ideal.τ).loc Cert.Kernel8Ideal.main_v14_3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v49) = v1 c
          ∧ r.2.mem ((c.tc : Thread Cert.Reference8Ideal.nD Cert.Reference8Ideal.τ).loc Cert.Reference8Ideal.main_v65) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12))

def preserves_Kernel9_Kernel9Ideal : Prop :=
  True

def algebraic_Kernel9Ideal_Reference9Ideal_pre_keys_finite [hKernel9Ideal : Cert.Kernel9Ideal.Facts] [hReference9Ideal : Cert.Reference9Ideal.Facts] [hPre_keys_finite : Cert.Pre_keys_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_keys_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v8_1)) (v1 : (c : Dev Cert.Kernel9Ideal.nD) → Buf (Elt Ideal) ((c.tc : Thread Cert.Kernel9Ideal.nD Cert.Kernel9Ideal.τ).loc Cert.Kernel9Ideal.main_v8_2)) (v2 : (c : Dev Cert.Kernel9Ideal.nD) → Buf (Elt Ideal) ((c.tc : Thread Cert.Kernel9Ideal.nD Cert.Kernel9Ideal.τ).loc Cert.Kernel9Ideal.main_v8_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_1) = v0 c
          ∧ r.2.mem ((c.tc : Thread Cert.Kernel9Ideal.nD Cert.Kernel9Ideal.τ).loc Cert.Kernel9Ideal.main_v8_2) = v1 c
          ∧ r.2.mem ((c.tc : Thread Cert.Kernel9Ideal.nD Cert.Kernel9Ideal.τ).loc Cert.Kernel9Ideal.main_v8_3) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_v52) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_later_keys_finite [hKernel10Ideal : Cert.Kernel10Ideal.Facts] [hReference10Ideal : Cert.Reference10Ideal.Facts] [hPre_later_keys_finite : Cert.Pre_later_keys_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_later_keys_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v8_1)) (v1 : (c : Dev Cert.Kernel10Ideal.nD) → Buf (Elt Ideal) ((c.tc : Thread Cert.Kernel10Ideal.nD Cert.Kernel10Ideal.τ).loc Cert.Kernel10Ideal.main_v8_2)) (v2 : (c : Dev Cert.Kernel10Ideal.nD) → Buf (Elt Ideal) ((c.tc : Thread Cert.Kernel10Ideal.nD Cert.Kernel10Ideal.τ).loc Cert.Kernel10Ideal.main_v8_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_1) = v0 c
          ∧ r.2.mem ((c.tc : Thread Cert.Kernel10Ideal.nD Cert.Kernel10Ideal.τ).loc Cert.Kernel10Ideal.main_v8_2) = v1 c
          ∧ r.2.mem ((c.tc : Thread Cert.Kernel10Ideal.nD Cert.Kernel10Ideal.τ).loc Cert.Kernel10Ideal.main_v8_3) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_v52) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_keys_finite : Cert.Pre_keys_finite.Facts) (hPre_later_keys_finite : Cert.Pre_later_keys_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_keys_finite (hKernel9Ideal := hKernel9Ideal) (hPre_keys_finite := hPre_keys_finite)
    ∧ quiescent_Reference9Ideal (hReference9Ideal := hReference9Ideal)
    ∧ quiescent_Reference9Ideal_pre_keys_finite (hReference9Ideal := hReference9Ideal) (hPre_keys_finite := hPre_keys_finite)
    ∧ quiescent_Kernel10 (hKernel10 := hKernel10)
    ∧ quiescent_Kernel10Ideal (hKernel10Ideal := hKernel10Ideal)
    ∧ quiescent_Kernel10Ideal_pre_later_keys_finite (hKernel10Ideal := hKernel10Ideal) (hPre_later_keys_finite := hPre_later_keys_finite)
    ∧ quiescent_Reference10Ideal (hReference10Ideal := hReference10Ideal)
    ∧ quiescent_Reference10Ideal_pre_later_keys_finite (hReference10Ideal := hReference10Ideal) (hPre_later_keys_finite := hPre_later_keys_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_keys_finite (hKernel9Ideal := hKernel9Ideal) (hReference9Ideal := hReference9Ideal) (hPre_keys_finite := hPre_keys_finite)
    ∧ preserves_Kernel10_Kernel10Ideal
    ∧ algebraic_Kernel10Ideal_Reference10Ideal_pre_later_keys_finite (hKernel10Ideal := hKernel10Ideal) (hReference10Ideal := hReference10Ideal) (hPre_later_keys_finite := hPre_later_keys_finite)
-- ==== Pre_keys_finite.lean ====
abbrev S8x2048x7680 : Shape := ⟨3, ![8, 2048, 7680]⟩
abbrev S64 : Shape := ⟨1, ![64]⟩
abbrev S3x8x128x256 : Shape := ⟨4, ![3, 8, 128, 256]⟩
abbrev S8x2048x1536 : Shape := ⟨3, ![8, 2048, 1536]⟩
abbrev S_ : Shape := ⟨0, ![]⟩

class Facts : Prop where
  slices_S8x2048x7680_S8x2048x1536_0_0_1536 : S8x2048x7680.Slices ![0, 0, 1536] S8x2048x1536
  bcast_S_S8x2048x1536 : S_.BroadcastsInDim S8x2048x1536 (![] : Fin 0 → Fin S8x2048x1536.rank)

variable [Facts]

def fn {F : FTy → Type} [FloatOps F] (main_arg0 : FVec F S8x2048x7680 .f32) (main_arg1 : FVec F S64 .f32) (main_arg2 : FVec F S64 .f32) (main_arg3 : FVec F S3x8x128x256 .f32) : IVec S8x2048x1536 1 :=
  let main_v0 : FVec F S8x2048x1536 .f32 := (extractStridedSlice S8x2048x1536 ![0, 0, 1536] · slices_S8x2048x7680_S8x2048x1536_0_0_1536) main_arg0
  let main_v1 : FVec F S8x2048x1536 .f32 := Host.absf main_v0
  let main_cst : FVec F S_ .f32 := constant S_ .f32 0x7F800000#32
  let main_v2 : FVec F S8x2048x1536 .f32 := broadcastInDim S8x2048x1536 ![] bcast_S_S8x2048x1536 main_cst
  let main_v3 : IVec S8x2048x1536 1 := cmpf .olt main_v1 main_v2
  main_v3
-- ==== Pre_later_keys_finite.lean ====
abbrev S8x2048x7680 : Shape := ⟨3, ![8, 2048, 7680]⟩
abbrev S64 : Shape := ⟨1, ![64]⟩
abbrev S3x8x128x256 : Shape := ⟨4, ![3, 8, 128, 256]⟩
abbrev S2x8x2x512x128 : Shape := ⟨5, ![2, 8, 2, 512, 128]⟩
abbrev S2x8x2x512x512 : Shape := ⟨5, ![2, 8, 2, 512, 512]⟩
abbrev S2x8x2x512x2048 : Shape := ⟨5, ![2, 8, 2, 512, 2048]⟩
abbrev S8x2048x1536 : Shape := ⟨3, ![8, 2048, 1536]⟩
abbrev S_ : Shape := ⟨0, ![]⟩

class Facts : Prop where
  slices_S8x2048x7680_S8x2048x1536_0_0_1536 : S8x2048x7680.Slices ![0, 0, 1536] S8x2048x1536
  bcast_S_S8x2048x1536 : S_.BroadcastsInDim S8x2048x1536 (![] : Fin 0 → Fin S8x2048x1536.rank)

variable [Facts]

def fn {F : FTy → Type} [FloatOps F] (main_arg0 : FVec F S8x2048x7680 .f32) (main_arg1 : FVec F S64 .f32) (main_arg2 : FVec F S64 .f32) (main_arg3 : FVec F S3x8x128x256 .f32) (main_arg4 : FVec F S2x8x2x512x128 .f32) (main_arg5 : FVec F S2x8x2x512x512 .f32) (main_arg6 : FVec F S2x8x2x512x2048 .f32) : IVec S8x2048x1536 1 :=
  let main_v0 : FVec F S8x2048x1536 .f32 := (extractStridedSlice S8x2048x1536 ![0, 0, 1536] · slices_S8x2048x7680_S8x2048x1536_0_0_1536) main_arg0
  let main_v1 : FVec F S8x2048x1536 .f32 := Host.absf main_v0
  let main_cst : FVec F S_ .f32 := constant S_ .f32 0x7F800000#32
  let main_v2 : FVec F S8x2048x1536 .f32 := broadcastInDim S8x2048x1536 ![] bcast_S_S8x2048x1536 main_cst
  let main_v3 : IVec S8x2048x1536 1 := cmpf .olt main_v1 main_v2
  main_v3
-- ==== Kernel.lean ====
abbrev S16384x1024 : Shape := ⟨2, ![16384, 1024]⟩
abbrev S1024 : Shape := ⟨1, ![1024]⟩
abbrev S1024x8 : Shape := ⟨2, ![1024, 8]⟩
abbrev S8x1024x1792 : Shape := ⟨3, ![8, 1024, 1792]⟩
abbrev S8x1792x1024 : Shape := ⟨3, ![8, 1792, 1024]⟩
abbrev S8x1024 : Shape := ⟨2, ![8, 1024]⟩
abbrev S1x1024 : Shape := ⟨2, ![1, 1024]⟩
abbrev S1024x1024 : Shape := ⟨2, ![1024, 1024]⟩
abbrev S1x1024x1792 : Shape := ⟨3, ![1, 1024, 1792]⟩
abbrev S1x1792x1024 : Shape := ⟨3, ![1, 1792, 1024]⟩
abbrev S8x1 : Shape := ⟨2, ![8, 1]⟩
abbrev S1024x1 : Shape := ⟨2, ![1024, 1]⟩
abbrev S1x1x1024 : Shape := ⟨3, ![1, 1, 1024]⟩
abbrev S1 : Shape := ⟨1, ![1]⟩
abbrev S1x1x1 : Shape := ⟨3, ![1, 1, 1]⟩
abbrev S288x1 : Shape := ⟨2, ![288, 1]⟩
abbrev S288x1024 : Shape := ⟨2, ![288, 1024]⟩
abbrev S288 : Shape := ⟨1, ![288]⟩
abbrev S1024x1792 : Shape := ⟨2, ![1024, 1792]⟩
abbrev S288x1792 : Shape := ⟨2, ![288, 1792]⟩
abbrev S1792x1024 : Shape := ⟨2, ![1792, 1024]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8x1024x1792, .f32⟩
  | .hbm, ⟨4, _⟩ => ⟨S8x1024x1792, .f32⟩
  | .hbm, ⟨5, _⟩ => ⟨S8x1792x1024, .f32⟩
  | .hbm, ⟨6, _⟩ => ⟨S8x1024x1792, .bf16⟩
  | .hbm, ⟨7, _⟩ => ⟨S8x1024x1792, .bf16⟩
  | .hbm, ⟨8, _⟩ => ⟨S8x1792x1024, .bf16⟩
  | .hbm, ⟨9, _⟩ => ⟨S8x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1024, .f32⟩
  | .local _ .vmem, ⟨4, _⟩ => ⟨S1x1024x1792, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1024x1792, .bf16⟩
  | .local _ .vmem, ⟨8, _⟩ => ⟨S1x1792x1024, .bf16⟩
  | .local _ .vmem, ⟨9, _⟩ => ⟨S1x1792x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

@[reducible] def k0_t1_loop (v33 : BitVec 32) : Scf.Loop 32 :=
  let c0_i32_20 : BitVec 32 := 0#32
  let c288_i32 : BitVec 32 := 288#32
  let v36 : BitVec 32 := Scalar.addi v33 c288_i32
  let c1_i32 : BitVec 32 := 1#32
  let v37 : BitVec 32 := Scalar.subi v36 c1_i32
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c288_i32_12 : BitVec 32 := 288#32
  let c0_i32_15 : BitVec 32 := 0#32
  let v44 : BitVec 1 := Scalar.cmpi .sgt c288_i32_12 c0_i32_15
  let v45 : BitVec 32 := Scalar.extui v44
  let c0_i32_16 : BitVec 32 := 0#32
  let v46 : BitVec 1 := Scalar.cmpi .slt c288_i32_12 c0_i32_16
  let v47 : BitVec 32 := Scalar.extui v46
  let v48 : BitVec 32 := Scalar.subi v45 v47
  let v49 : BitVec 1 := Scalar.cmpi .ne v43 v48
  let v50 : BitVec 32 := Scalar.remsi v37 c288_i32_12
  let c0_i32_17 : BitVec 32 := 0#32
  let v51 : BitVec 1 := Scalar.cmpi .ne v50 c0_i32_17
  let v52 : BitVec 1 := Scalar.andi v49 v51
  let v38 : BitVec 32 := Scalar.divsi v37 c288_i32_12
  let c1_i32_18 : BitVec 32 := 1#32
  let v53 : BitVec 32 := Scalar.subi v38 c1_i32_18
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_22 : BitVec 32 := 1#32
  ⟨c0_i32_20, v59, c1_i32_22⟩

@[reducible] def k0_t2_loop (v33 : BitVec 32) : Scf.Loop 32 :=
  let c0_i32_20 : BitVec 32 := 0#32
  let c288_i32 : BitVec 32 := 288#32
  let v36 : BitVec 32 := Scalar.addi v33 c288_i32
  let c1_i32 : BitVec 32 := 1#32
  let v37 : BitVec 32 := Scalar.subi v36 c1_i32
  let c0_i32_13 : BitVec 32 := 0#32
  let v39 : BitVec 1 := Scalar.cmpi .sgt v37 c0_i32_13
  let v40 : BitVec 32 := Scalar.extui v39
  let c0_i32_14 : BitVec 32 := 0#32
  let v41 : BitVec 1 := Scalar.cmpi .slt v37 c0_i32_14
  let v42 : BitVec 32 := Scalar.extui v41
  let v43 : BitVec 32 := Scalar.subi v40 v42
  let c288_i32_12 : BitVec 32 := 288#32
  let c0_i32_15 : BitVec 32 := 0#32
  let v44 : BitVec 1 := Scalar.cmpi .sgt c288_i32_12 c0_i32_15
  let v45 : BitVec 32 := Scalar.extui v44
  let c0_i32_16 : BitVec 32 := 0#32
  let v46 : BitVec 1 := Scalar.cmpi .slt c288_i32_12 c0_i32_16
  let v47 : BitVec 32 := Scalar.extui v46
  let v48 : BitVec 32 := Scalar.subi v45 v47
  let v49 : BitVec 1 := Scalar.cmpi .ne v43 v48
  let v50 : BitVec 32 := Scalar.remsi v37 c288_i32_12
  let c0_i32_17 : BitVec 32 := 0#32
  let v51 : BitVec 1 := Scalar.cmpi .ne v50 c0_i32_17
  let v52 : BitVec 1 := Scalar.andi v49 v51
  let v38 : BitVec 32 := Scalar.divsi v37 c288_i32_12
  let c1_i32_18 : BitVec 32 := 1#32
  let v53 : BitVec 32 := Scalar.subi v38 c1_i32_18
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let v56 : BitVec 32 := Scalar.addi c0_i32_20 v55
  let c1_i32_23 : BitVec 32 := 1#32
  ⟨v59, v56, c1_i32_23⟩

def k0_chk1 (v33 : BitVec 32) : Prop :=
  ((k0_t1_loop v33).OK) ∧
  ((k0_t2_loop v33).OK)
theorem k0_t1_ok : ∀ (v33 : BitVec 32) (k0_hw1 : k0_chk1 v33), (k0_t1_loop v33).OK := fun v33 k0_hw1 => k0_hw1.1
theorem k0_t2_ok : ∀ (v33 : BitVec 32) (k0_hw1 : k0_chk1 v33), (k0_t2_loop v33).OK := fun v33 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1792x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x1024 : Shape := ⟨2, ![16384, 1024]⟩
abbrev S1024 : Shape := ⟨1, ![1024]⟩
abbrev S1024x8 : Shape := ⟨2, ![1024, 8]⟩
abbrev S8x1024x1792 : Shape := ⟨3, ![8, 1024, 1792]⟩
abbrev S8x1792x1024 : Shape := ⟨3, ![8, 1792, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S16384x8x1792 : Shape := ⟨3, ![16384, 8, 1792]⟩
abbrev S16384x8x1 : Shape := ⟨3, ![16384, 8, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8x1024x1792, .f32⟩
  | .hbm, ⟨4, _⟩ => ⟨S8x1024x1792, .f32⟩
  | .hbm, ⟨5, _⟩ => ⟨S8x1792x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x8, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384x1, .f32⟩
  | .hbm, ⟨29, _⟩ => ⟨S16384x8, .f32⟩
  | .hbm, ⟨30, _⟩ => ⟨S16384x8, .f32⟩
  | .hbm, ⟨31, _⟩ => ⟨S16384x8, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x8, .f32⟩
  | .hbm, ⟨36, _⟩ => ⟨S16384x8, .f32⟩
  | .hbm, ⟨37, _⟩ => ⟨S16384x2, .f32⟩
  | .hbm, ⟨38, _⟩ => ⟨S16384x2, .i32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x2, .f32⟩
  | .hbm, ⟨43, _⟩ => ⟨S16384x2, .f32⟩
  | .hbm, ⟨44, _⟩ => ⟨S16384x2x1, .i32⟩
  | .hbm, ⟨45, _⟩ => ⟨S1x1x8, .i32⟩
  | .hbm, ⟨46, _⟩ => ⟨S16384x2x8, .i32⟩
  | .hbm, ⟨47, _⟩ => ⟨S16384x2x8, .i32⟩
  | .hbm, ⟨48, _⟩ => ⟨S16384x2x8, .i1⟩
  | .hbm, ⟨49, _⟩ => ⟨S16384x2x8, .f32⟩
  | .hbm, ⟨50, _⟩ => ⟨S16384x2x1, .f32⟩
  | .hbm, ⟨51, _⟩ => ⟨S16384x2x8, .f32⟩
  | .hbm, ⟨52, _⟩ => ⟨S16384x2x8, .f32⟩
  | .hbm, ⟨53, _⟩ => ⟨S_, .f32⟩
  | .hbm, ⟨54, _⟩ => ⟨S16384x8, .f32⟩
  | .hbm, ⟨55, _⟩ => ⟨S16384x8x1792, .f32⟩
  | .hbm, ⟨56, _⟩ => ⟨S16384x8x1792, .f32⟩
  | .hbm, ⟨57, _⟩ => ⟨S16384x8x1792, .f32⟩
  | .hbm, ⟨58, _⟩ => ⟨S16384x8x1792, .f32⟩
  | .hbm, ⟨59, _⟩ => ⟨S_, .f32⟩
  | .hbm, ⟨60, _⟩ => ⟨S16384x8x1792, .f32⟩
  | .hbm, ⟨61, _⟩ => ⟨S16384x8x1792, .f32⟩
  | .hbm, ⟨62, _⟩ => ⟨S_, .f32⟩
  | .hbm, ⟨63, _⟩ => ⟨S16384x8x1792, .f32⟩
  | .hbm, ⟨64, _⟩ => ⟨S16384x8x1792, .f32⟩
  | .hbm, ⟨65, _⟩ => ⟨S16384x8x1792, .f32⟩
  | .hbm, ⟨66, _⟩ => ⟨S16384x8x1792, .f32⟩
  | .hbm, ⟨67, _⟩ => ⟨S16384x8x1, .f32⟩
  | .hbm, ⟨68, _⟩ => ⟨S16384x8x1792, .f32⟩
  | .hbm, ⟨69, _⟩ => ⟨S16384x8x1792, .f32⟩
  | .hbm, ⟨70, _⟩ => ⟨S16384x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_values : Ref sig .tc := ⟨.hbm, 37, rfl⟩
abbrev main_indices : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x11288 : Shape := ⟨2, ![1024, 11288]⟩
abbrev S1024x1536 : Shape := ⟨2, ![1024, 1536]⟩
abbrev S1024x256 : Shape := ⟨2, ![1024, 256]⟩
abbrev S1024x512 : Shape := ⟨2, ![1024, 512]⟩
abbrev S1024x16 : Shape := ⟨2, ![1024, 16]⟩
abbrev S1024x4 : Shape := ⟨2, ![1024, 4]⟩
abbrev S_ : Shape := ⟨0, ![]⟩
abbrev S1024x488 : Shape := ⟨2, ![1024, 488]⟩
abbrev S1024x7680 : Shape := ⟨2, ![1024, 7680]⟩
abbrev S1024x3072 : Shape := ⟨2, ![1024, 3072]⟩
abbrev S1024x4096 : Shape := ⟨2, ![1024, 4096]⟩
abbrev S1x1024 : Shape := ⟨2, ![1, 1024]⟩
abbrev S16384x7680 : Shape := ⟨2, ![16384, 7680]⟩
abbrev S1024x1024 : Shape := ⟨2, ![1024, 1024]⟩
abbrev S1024x2560 : Shape := ⟨2, ![1024, 2560]⟩
abbrev S1024x1 : Shape := ⟨2, ![1024, 1]⟩

abbrev nBuf : Space → Nat
  | .hbm => 24
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x11288, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x16, .f32⟩
  | .hbm, ⟨11, _⟩ => ⟨S1024x4, .f32⟩
  | .hbm, ⟨12, _⟩ => ⟨S1024x4, .f32⟩
  | .hbm, ⟨13, _⟩ => ⟨S_, .f32⟩
  | .hbm, ⟨14, _⟩ => ⟨S1024x488, .f32⟩
  | .hbm, ⟨15, _⟩ => ⟨S1024x7680, .f32⟩
  | .hbm, ⟨16, _⟩ => ⟨S1024x3072, .f32⟩
  | .hbm, ⟨17, _⟩ => ⟨S1024x512, .f32⟩
  | .hbm, ⟨18, _⟩ => ⟨S1024x512, .f32⟩
  | .hbm, ⟨19, _⟩ => ⟨S1024x4096, .f32⟩
  | .hbm, ⟨20, _⟩ => ⟨S1024x7680, .bf16⟩
  | .hbm, ⟨21, _⟩ => ⟨S1024x4096, .bf16⟩
  | .hbm, ⟨22, _⟩ => ⟨S1x1024, .f32⟩
  | .hbm, ⟨23, _⟩ => ⟨S16384x7680, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .bf16⟩
  | .local _ .vmem, ⟨5, _⟩ => ⟨S1024x2560, .f32⟩
  | .local _ .vmem, ⟨6, _⟩ => ⟨S1024x2560, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x1024 : Shape := ⟨2, ![16384, 1024]⟩
abbrev S1024 : Shape := ⟨1, ![1024]⟩
abbrev S1024x11288 : Shape := ⟨2, ![1024, 11288]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x11288 : Shape := ⟨2, ![16384, 11288]⟩
abbrev S16384x1536 : Shape := ⟨2, ![16384, 1536]⟩
abbrev S16384x256 : Shape := ⟨2, ![16384, 256]⟩
abbrev S16384x512 : Shape := ⟨2, ![16384, 512]⟩
abbrev S16384x16 : Shape := ⟨2, ![16384, 16]⟩
abbrev S16384x4 : Shape := ⟨2, ![16384, 4]⟩
abbrev S16384x3072 : Shape := ⟨2, ![16384, 3072]⟩
abbrev S16384x488 : Shape := ⟨2, ![16384, 488]⟩
abbrev S16384x7680 : Shape := ⟨2, ![16384, 7680]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x11288, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x11288, .f32⟩
  | .hbm, ⟨20, _⟩ => ⟨S16384x1536, .f32⟩
  | .hbm, ⟨21, _⟩ => ⟨S16384x1536, .f32⟩
  | .hbm, ⟨22, _⟩ => ⟨S16384x1536, .f32⟩
  | .hbm, ⟨23, _⟩ => ⟨S16384x256, .f32⟩
  | .hbm, ⟨24, _⟩ => ⟨S16384x256, .f32⟩
  | .hbm, ⟨25, _⟩ => ⟨S16384x512, .f32⟩
  | .hbm, ⟨26, _⟩ => ⟨S16384x512, .f32⟩
  | .hbm, ⟨27, _⟩ => ⟨S16384x16, .f32⟩
  | .hbm, ⟨28, _⟩ => ⟨S16384x1536, .f32⟩
  | .hbm, ⟨29, _⟩ => ⟨S16384x512, .f32⟩
  | .hbm, ⟨30, _⟩ => ⟨S16384x4, .f32⟩
  | .hbm, ⟨31, _⟩ => ⟨S16384x4, .f32⟩
  | .hbm, ⟨32, _⟩ => ⟨S16384x3072, .f32⟩
  | .hbm, ⟨33, _⟩ => ⟨S_, .f32⟩
  | .hbm, ⟨34, _⟩ => ⟨S16384x488, .f32⟩
  | .hbm, ⟨35, _⟩ => ⟨S16384x7680, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x11288 : Shape := ⟨2, ![1024, 11288]⟩
abbrev S1024x1536 : Shape := ⟨2, ![1024, 1536]⟩
abbrev S1024x256 : Shape := ⟨2, ![1024, 256]⟩
abbrev S1024x512 : Shape := ⟨2, ![1024, 512]⟩
abbrev S1024x16 : Shape := ⟨2, ![1024, 16]⟩
abbrev S1024x4 : Shape := ⟨2, ![1024, 4]⟩
abbrev S_ : Shape := ⟨0, ![]⟩
abbrev S1024x488 : Shape := ⟨2, ![1024, 488]⟩
abbrev S1024x7680 : Shape := ⟨2, ![1024, 7680]⟩
abbrev S1024x3072 : Shape := ⟨2, ![1024, 3072]⟩
abbrev S1024x4096 : Shape := ⟨2, ![1024, 4096]⟩
abbrev S1x1024 : Shape := ⟨2, ![1, 1024]⟩
abbrev S16384x4096 : Shape := ⟨2, ![16384, 4096]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 24
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x11288, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x16, .f32⟩
  | .hbm, ⟨11, _⟩ => ⟨S1024x4, .f32⟩
  | .hbm, ⟨12, _⟩ => ⟨S1024x4, .f32⟩
  | .hbm, ⟨13, _⟩ => ⟨S_, .f32⟩
  | .hbm, ⟨14, _⟩ => ⟨S1024x488, .f32⟩
  | .hbm, ⟨15, _⟩ => ⟨S1024x7680, .f32⟩
  | .hbm, ⟨16, _⟩ => ⟨S1024x3072, .f32⟩
  | .hbm, ⟨17, _⟩ => ⟨S1024x512, .f32⟩
  | .hbm, ⟨18, _⟩ => ⟨S1024x512, .f32⟩
  | .hbm, ⟨19, _⟩ => ⟨S1024x4096, .f32⟩
  | .hbm, ⟨20, _⟩ => ⟨S1024x7680, .bf16⟩
  | .hbm, ⟨21, _⟩ => ⟨S1024x4096, .bf16⟩
  | .hbm, ⟨22, _⟩ => ⟨S1x1024, .f32⟩
  | .hbm, ⟨23, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x1024 : Shape := ⟨2, ![16384, 1024]⟩
abbrev S1024 : Shape := ⟨1, ![1024]⟩
abbrev S1024x11288 : Shape := ⟨2, ![1024, 11288]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x11288 : Shape := ⟨2, ![16384, 11288]⟩
abbrev S16384x1536 : Shape := ⟨2, ![16384, 1536]⟩
abbrev S16384x256 : Shape := ⟨2, ![16384, 256]⟩
abbrev S16384x512 : Shape := ⟨2, ![16384, 512]⟩
abbrev S16384x16 : Shape := ⟨2, ![16384, 16]⟩
abbrev S16384x4 : Shape := ⟨2, ![16384, 4]⟩
abbrev S16384x3072 : Shape := ⟨2, ![16384, 3072]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x11288, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x11288, .f32⟩
  | .hbm, ⟨20, _⟩ => ⟨S16384x1536, .f32⟩
  | .hbm, ⟨21, _⟩ => ⟨S16384x1536, .f32⟩
  | .hbm, ⟨22, _⟩ => ⟨S16384x1536, .f32⟩
  | .hbm, ⟨23, _⟩ => ⟨S16384x256, .f32⟩
  | .hbm, ⟨24, _⟩ => ⟨S16384x256, .f32⟩
  | .hbm, ⟨25, _⟩ => ⟨S16384x512, .f32⟩
  | .hbm, ⟨26, _⟩ => ⟨S16384x512, .f32⟩
  | .hbm, ⟨27, _⟩ => ⟨S16384x16, .f32⟩
  | .hbm, ⟨28, _⟩ => ⟨S16384x1536, .f32⟩
  | .hbm, ⟨29, _⟩ => ⟨S16384x512, .f32⟩
  | .hbm, ⟨30, _⟩ => ⟨S16384x4, .f32⟩
  | .hbm, ⟨31, _⟩ => ⟨S16384x4, .f32⟩
  | .hbm, ⟨32, _⟩ => ⟨S16384x3072, .f32⟩
  | .hbm, ⟨33, _⟩ => ⟨S16384x4096, .f32⟩
  | .hbm, ⟨34, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel5.lean ====
abbrev S16384x4096 : Shape := ⟨2, ![16384, 4096]⟩
abbrev S16384x512 : Shape := ⟨2, ![16384, 512]⟩
abbrev S16384x1024 : Shape := ⟨2, ![16384, 1024]⟩
abbrev S128 : Shape := ⟨1, ![128]⟩
abbrev S3x512x1024 : Shape := ⟨3, ![3, 512, 1024]⟩
abbrev S1024x1024 : Shape := ⟨2, ![1024, 1024]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S512x512 : Shape := ⟨2, ![512, 512]⟩
abbrev S512x1024 : Shape := ⟨2, ![512, 1024]⟩
abbrev S512x128 : Shape := ⟨2, ![512, 128]⟩
abbrev S512x1 : Shape := ⟨2, ![512, 1]⟩
abbrev S1x512x1024 : Shape := ⟨3, ![1, 512, 1024]⟩

abbrev nBuf : Space → Nat
  | .hbm => 20
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S128, .f32⟩
  | .hbm, ⟨6, _⟩ => ⟨S128, .f32⟩
  | .hbm, ⟨7, _⟩ => ⟨S3x512x1024, .f32⟩
  | .hbm, ⟨8, _⟩ => ⟨S1024x1024, .f32⟩
  | .hbm, ⟨9, _⟩ => ⟨S1x128, .f32⟩
  | .hbm, ⟨10, _⟩ => ⟨S4x128, .f32⟩
  | .hbm, ⟨11, _⟩ => ⟨S512, .f32⟩
  | .hbm, ⟨12, _⟩ => ⟨S1x512, .f32⟩
  | .hbm, ⟨13, _⟩ => ⟨S1x128, .f32⟩
  | .hbm, ⟨14, _⟩ => ⟨S4x128, .f32⟩
  | .hbm, ⟨15, _⟩ => ⟨S512, .f32⟩
  | .hbm, ⟨16, _⟩ => ⟨S1x512, .f32⟩
  | .hbm, ⟨17, _⟩ => ⟨S3x512x1024, .bf16⟩
  | .hbm, ⟨18, _⟩ => ⟨S1024x1024, .bf16⟩
  | .hbm, ⟨19, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x512, .f32⟩
  | .local _ .vmem, ⟨19, _⟩ => ⟨S1x512, .f32⟩
  | .local _ .vmem, ⟨20, _⟩ => ⟨S3x512x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16384x4096 : Shape := ⟨2, ![16384, 4096]⟩
abbrev S16384x512 : Shape := ⟨2, ![16384, 512]⟩
abbrev S16384x1024 : Shape := ⟨2, ![16384, 1024]⟩
abbrev S128 : Shape := ⟨1, ![128]⟩
abbrev S3x512x1024 : Shape := ⟨3, ![3, 512, 1024]⟩
abbrev S1024x1024 : Shape := ⟨2, ![1024, 1024]⟩
abbrev S16384x3072 : Shape := ⟨2, ![16384, 3072]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S1x512x1024 : Shape := ⟨3, ![1, 512, 1024]⟩
abbrev S512x1024 : Shape := ⟨2, ![512, 1024]⟩

abbrev nBuf : Space → Nat
  | .hbm => 98
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S128, .f32⟩
  | .hbm, ⟨6, _⟩ => ⟨S128, .f32⟩
  | .hbm, ⟨7, _⟩ => ⟨S3x512x1024, .f32⟩
  | .hbm, ⟨8, _⟩ => ⟨S1024x1024, .f32⟩
  | .hbm, ⟨9, _⟩ => ⟨S16384x4096, .f32⟩
  | .hbm, ⟨10, _⟩ => ⟨S16384x3072, .f32⟩
  | .hbm, ⟨11, _⟩ => ⟨S16384x512, .f32⟩
  | .hbm, ⟨12, _⟩ => ⟨S16384x512, .f32⟩
  | .hbm, ⟨13, _⟩ => ⟨S16384x4x128, .f32⟩
  | .hbm, ⟨14, _⟩ => ⟨S16384x4x128, .f32⟩
  | .hbm, ⟨15, _⟩ => ⟨S_, .f32⟩
  | .hbm, ⟨16, _⟩ => ⟨S16384x4, .f32⟩
  | .hbm, ⟨17, _⟩ => ⟨S16384x4x1, .f32⟩
  | .hbm, ⟨18, _⟩ => ⟨S_, .f32⟩
  | .hbm, ⟨19, _⟩ => ⟨S16384x4x1, .f32⟩
  | .hbm, ⟨20, _⟩ => ⟨S16384x4x1, .f32⟩
  | .hbm, ⟨21, _⟩ => ⟨S_, .f32⟩
  | .hbm, ⟨22, _⟩ => ⟨S16384x4x1, .f32⟩
  | .hbm, ⟨23, _⟩ => ⟨S16384x4x1, .f32⟩
  | .hbm, ⟨24, _⟩ => ⟨S16384x4x1, .f32⟩
  | .hbm, ⟨25, _⟩ => ⟨S16384x4x128, .f32⟩
  | .hbm, ⟨26, _⟩ => ⟨S16384x4x128, .f32⟩
  | .hbm, ⟨27, _⟩ => ⟨S1x1x128, .f32⟩
  | .hbm, ⟨28, _⟩ => ⟨S16384x4x128, .f32⟩
  | .hbm, ⟨29, _⟩ => ⟨S16384x4x128, .f32⟩
  | .hbm, ⟨30, _⟩ => ⟨S16384x4x128, .f32⟩
  | .hbm, ⟨31, _⟩ => ⟨S16384x4x128, .f32⟩
  | .hbm, ⟨32, _⟩ => ⟨S16384x4x128, .f32⟩
  | .hbm, ⟨33, _⟩ => ⟨S_, .f32⟩
  | .hbm, ⟨34, _⟩ => ⟨S16384x4x128, .f32⟩
  | .hbm, ⟨35, _⟩ => ⟨S16384x4x128, .f32⟩
  | .hbm, ⟨36, _⟩ => ⟨S_, .f32⟩
  | .hbm, ⟨37, _⟩ => ⟨S16384x4x128, .f32⟩
  | .hbm, ⟨38, _⟩ => ⟨S16384x4x128, .f32⟩
  | .hbm, ⟨39, _⟩ => ⟨S16384x4x128, .f32⟩
  | .hbm, ⟨40, _⟩ => ⟨S16384x4x128, .f32⟩
  | .hbm, ⟨41, _⟩ => ⟨S16384x4x128, .f32⟩
  | .hbm, ⟨42, _⟩ => ⟨S16384x4x128, .f32⟩
  | .hbm, ⟨43, _⟩ => ⟨S_, .f32⟩
  | .hbm, ⟨44, _⟩ => ⟨S16384x4, .f32⟩
  | .hbm, ⟨45, _⟩ => ⟨S16384x4x1, .f32⟩
  | .hbm, ⟨46, _⟩ => ⟨S_, .f32⟩
  | .hbm, ⟨47, _⟩ => ⟨S16384x4x1, .f32⟩
  | .hbm, ⟨48, _⟩ => ⟨S16384x4x1, .f32⟩
  | .hbm, ⟨49, _⟩ => ⟨S_, .f32⟩
  | .hbm, ⟨50, _⟩ => ⟨S16384x4x1, .f32⟩
  | .hbm, ⟨51, _⟩ => ⟨S16384x4x1, .f32⟩
  | .hbm, ⟨52, _⟩ => ⟨S16384x4x1, .f32⟩
  | .hbm, ⟨53, _⟩ => ⟨S16384x4x128, .f32⟩
  | .hbm, ⟨54, _⟩ => ⟨S16384x4x128, .f32⟩
  | .hbm, ⟨55, _⟩ => ⟨S1x1x128, .f32⟩
  | .hbm, ⟨56, _⟩ => ⟨S16384x4x128, .f32⟩
  | .hbm, ⟨57, _⟩ => ⟨S16384x4x128, .f32⟩
  | .hbm, ⟨58, _⟩ => ⟨S16384x4x128, .f32⟩
  | .hbm, ⟨59, _⟩ => ⟨S16384x4x128, .f32⟩
  | .hbm, ⟨60, _⟩ => ⟨S16384x4x128, .f32⟩
  | .hbm, ⟨61, _⟩ => ⟨S_, .f32⟩
  | .hbm, ⟨62, _⟩ => ⟨S16384x4x128, .f32⟩
  | .hbm, ⟨63, _⟩ => ⟨S16384x4x128, .f32⟩
  | .hbm, ⟨64, _⟩ => ⟨S_, .f32⟩
  | .hbm, ⟨65, _⟩ => ⟨S16384x4x128, .f32⟩
  | .hbm, ⟨66, _⟩ => ⟨S16384x4x128, .f32⟩
  | .hbm, ⟨67, _⟩ => ⟨S16384x4x128, .f32⟩
  | .hbm, ⟨68, _⟩ => ⟨S16384x4x128, .f32⟩
  | .hbm, ⟨69, _⟩ => ⟨S16384x512, .f32⟩
  | .hbm, ⟨70, _⟩ => ⟨S16384x512, .f32⟩
  | .hbm, ⟨71, _⟩ => ⟨S16384x3072, .f32⟩
  | .hbm, ⟨72, _⟩ => ⟨S16384x3072, .f32⟩
  | .hbm, ⟨73, _⟩ => ⟨S_, .f32⟩
  | .hbm, ⟨74, _⟩ => ⟨S16384x3072, .f32⟩
  | .hbm, ⟨75, _⟩ => ⟨S16384x3072, .f32⟩
  | .hbm, ⟨76, _⟩ => ⟨S_, .f32⟩
  | .hbm, ⟨77, _⟩ => ⟨S16384x3072, .f32⟩
  | .hbm, ⟨78, _⟩ => ⟨S16384x3072, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S1x512x1024, .f32⟩
  | .hbm, ⟨83, _⟩ => ⟨S512x1024, .f32⟩
  | .hbm, ⟨84, _⟩ => ⟨S16384x1024, .f32⟩
  | .hbm, ⟨85, _⟩ => ⟨S16384x1024, .f32⟩
  | .hbm, ⟨86, _⟩ => ⟨S1x512x1024, .f32⟩
  | .hbm, ⟨87, _⟩ => ⟨S512x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S1x512x1024, .f32⟩
  | .hbm, ⟨92, _⟩ => ⟨S512x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_cst_6 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]
-- ==== Kernel6.lean ====
abbrev S32x1024 : Shape := ⟨2, ![32, 1024]⟩
abbrev S1024 : Shape := ⟨1, ![1024]⟩
abbrev S1024x8 : Shape := ⟨2, ![1024, 8]⟩
abbrev S8x1024x1792 : Shape := ⟨3, ![8, 1024, 1792]⟩
abbrev S8x1792x1024 : Shape := ⟨3, ![8, 1792, 1024]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S1x1024x896 : Shape := ⟨3, ![1, 1024, 896]⟩
abbrev S1x896x1024 : Shape := ⟨3, ![1, 896, 1024]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S1024x896 : Shape := ⟨2, ![1024, 896]⟩
abbrev S32x896 : Shape := ⟨2, ![32, 896]⟩
abbrev S896x1024 : Shape := ⟨2, ![896, 1024]⟩

abbrev nBuf : Space → Nat
  | .hbm => 16
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x8, .f32⟩
  | .hbm, ⟨3, _⟩ => ⟨S8x1024x1792, .f32⟩
  | .hbm, ⟨4, _⟩ => ⟨S8x1024x1792, .f32⟩
  | .hbm, ⟨5, _⟩ => ⟨S8x1792x1024, .f32⟩
  | .hbm, ⟨6, _⟩ => ⟨S8x1024x1792, .bf16⟩
  | .hbm, ⟨7, _⟩ => ⟨S8x1024x1792, .bf16⟩
  | .hbm, ⟨8, _⟩ => ⟨S8x1792x1024, .bf16⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S1x1024, .f32⟩
  | .hbm, ⟨15, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x128, .f32⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1x1024x896, .bf16⟩
  | .local _ .vmem, ⟨7, _⟩ => ⟨S1x896x1024, .bf16⟩
  | .local _ .vmem, ⟨8, _⟩ => ⟨S1x896x1024, .bf16⟩
  | .local _ .vmem, ⟨9, _⟩ => ⟨S32x1024, .f32⟩
  | .local _ .vmem, ⟨10, _⟩ => ⟨S32x1024, .bf16⟩
  | .local _ .vmem, ⟨11, _⟩ => ⟨S32x1024, .f32⟩
  | .local _ .vmem, ⟨12, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let arg2 : BitVec 32 := BitVec.ofNat 32 (i 2).val
  let c1_i32 : BitVec 32 := 1#32
  let v39 : BitVec 1 := Scalar.cmpi .eq arg2 c1_i32
  let v40 : BitVec 1 := Scalar.andi v38 v39
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x896x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== Kernel6Ideal.lean ====
variable {F : FTy → Type} [FloatOps F] [Named F]
def κ : String → Option EReal := fun
  | "mask" => some ⊥
  | _ => none
-- ==== Reference6Ideal.lean ====
abbrev S32x1024 : Shape := ⟨2, ![32, 1024]⟩
abbrev S1024 : Shape := ⟨1, ![1024]⟩
abbrev S1024x8 : Shape := ⟨2, ![1024, 8]⟩
abbrev S8x1024x1792 : Shape := ⟨3, ![8, 1024, 1792]⟩
abbrev S8x1792x1024 : Shape := ⟨3, ![8, 1792, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x8 : Shape := ⟨2, ![32, 8]⟩
abbrev S32x2 : Shape := ⟨2, ![32, 2]⟩
abbrev S32x2x1 : Shape := ⟨3, ![32, 2, 1]⟩
abbrev S1x1x8 : Shape := ⟨3, ![1, 1, 8]⟩
abbrev S32x2x8 : Shape := ⟨3, ![32, 2, 8]⟩
abbrev S32x8x1792 : Shape := ⟨3, ![32, 8, 1792]⟩
abbrev S32x8x1 : Shape := ⟨3, ![32, 8, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x8, .f32⟩
  | .hbm, ⟨3, _⟩ => ⟨S8x1024x1792, .f32⟩
  | .hbm, ⟨4, _⟩ => ⟨S8x1024x1792, .f32⟩
  | .hbm, ⟨5, _⟩ => ⟨S8x1792x1024, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S32x8, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32x1, .f32⟩
  | .hbm, ⟨29, _⟩ => ⟨S32x8, .f32⟩
  | .hbm, ⟨30, _⟩ => ⟨S32x8, .f32⟩
  | .hbm, ⟨31, _⟩ => ⟨S32x8, .f32⟩
  | .hbm, ⟨32, _⟩ => ⟨S_, .f32⟩
  | .hbm, ⟨33, _⟩ => ⟨S32, .f32⟩
  | .hbm, ⟨34, _⟩ => ⟨S32x1, .f32⟩
  | .hbm, ⟨35, _⟩ => ⟨S32x8, .f32⟩
  | .hbm, ⟨36, _⟩ => ⟨S32x8, .f32⟩
  | .hbm, ⟨37, _⟩ => ⟨S32x2, .f32⟩
  | .hbm, ⟨38, _⟩ => ⟨S32x2, .i32⟩
  | .hbm, ⟨39, _⟩ => ⟨S_, .f32⟩
  | .hbm, ⟨40, _⟩ => ⟨S32, .f32⟩
  | .hbm, ⟨41, _⟩ => ⟨S32x1, .f32⟩
  | .hbm, ⟨42, _⟩ => ⟨S32x2, .f32⟩
  | .hbm, ⟨43, _⟩ => ⟨S32x2, .f32⟩
  | .hbm, ⟨44, _⟩ => ⟨S32x2x1, .i32⟩
  | .hbm, ⟨45, _⟩ => ⟨S1x1x8, .i32⟩
  | .hbm, ⟨46, _⟩ => ⟨S32x2x8, .i32⟩
  | .hbm, ⟨47, _⟩ => ⟨S32x2x8, .i32⟩
  | .hbm, ⟨48, _⟩ => ⟨S32x2x8, .i1⟩
  | .hbm, ⟨49, _⟩ => ⟨S32x2x8, .f32⟩
  | .hbm, ⟨50, _⟩ => ⟨S32x2x1, .f32⟩
  | .hbm, ⟨51, _⟩ => ⟨S32x2x8, .f32⟩
  | .hbm, ⟨52, _⟩ => ⟨S32x2x8, .f32⟩
  | .hbm, ⟨53, _⟩ => ⟨S_, .f32⟩
  | .hbm, ⟨54, _⟩ => ⟨S32x8, .f32⟩
  | .hbm, ⟨55, _⟩ => ⟨S32x8x1792, .f32⟩
  | .hbm, ⟨56, _⟩ => ⟨S32x8x1792, .f32⟩
  | .hbm, ⟨57, _⟩ => ⟨S32x8x1792, .f32⟩
  | .hbm, ⟨58, _⟩ => ⟨S32x8x1792, .f32⟩
  | .hbm, ⟨59, _⟩ => ⟨S_, .f32⟩
  | .hbm, ⟨60, _⟩ => ⟨S32x8x1792, .f32⟩
  | .hbm, ⟨61, _⟩ => ⟨S32x8x1792, .f32⟩
  | .hbm, ⟨62, _⟩ => ⟨S_, .f32⟩
  | .hbm, ⟨63, _⟩ => ⟨S32x8x1792, .f32⟩
  | .hbm, ⟨64, _⟩ => ⟨S32x8x1792, .f32⟩
  | .hbm, ⟨65, _⟩ => ⟨S32x8x1792, .f32⟩
  | .hbm, ⟨66, _⟩ => ⟨S32x8x1792, .f32⟩
  | .hbm, ⟨67, _⟩ => ⟨S32x8x1, .f32⟩
  | .hbm, ⟨68, _⟩ => ⟨S32x8x1792, .f32⟩
  | .hbm, ⟨69, _⟩ => ⟨S32x8x1792, .f32⟩
  | .hbm, ⟨70, _⟩ => ⟨S32x1024, .f32⟩
  | .hbm, ⟨71, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_values : Ref sig .tc := ⟨.hbm, 37, rfl⟩
abbrev main_indices : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩

abbrev nD : Nat := 1
abbrev τ : Topo := Topo.v7x

variable {F : FTy → Type} [FloatOps F]
-- ==== Kernel7.lean ====
abbrev S32x1x7680 : Shape := ⟨3, ![32, 1, 7680]⟩
abbrev S32x3x1536 : Shape := ⟨3, ![32, 3, 1536]⟩
abbrev S32x4x64x128 : Shape := ⟨4, ![32, 4, 64, 128]⟩
abbrev S32x4x128x128 : Shape := ⟨4, ![32, 4, 128, 128]⟩
abbrev S16x256 : Shape := ⟨2, ![16, 256]⟩
abbrev S256 : Shape := ⟨1, ![256]⟩
abbrev S4x1536 : Shape := ⟨2, ![4, 1536]⟩
abbrev S4 : Shape := ⟨1, ![4]⟩
abbrev S_ : Shape := ⟨0, ![]⟩
abbrev S256x256 : Shape := ⟨2, ![256, 256]⟩
abbrev S1 : Shape := ⟨1, ![1]⟩
abbrev S1x256 : Shape := ⟨2, ![1, 256]⟩
abbrev S4x128 : Shape := ⟨2, ![4, 128]⟩
abbrev S512 : Shape := ⟨1, ![512]⟩
abbrev S1x512 : Shape := ⟨2, ![1, 512]⟩
abbrev S32x1x512 : Shape := ⟨3, ![32, 1, 512]⟩
abbrev S1x1x256 : Shape := ⟨3, ![1, 1, 256]⟩
abbrev S1x1x512 : Shape := ⟨3, ![1, 1, 512]⟩
abbrev S1x1x1536 : Shape := ⟨3, ![1, 1, 1536]⟩
abbrev S1x3x1536 : Shape := ⟨3, ![1, 3, 1536]⟩
abbrev S1x4x64x128 : Shape := ⟨4, ![1, 4, 64, 128]⟩
abbrev S1x4x128x128 : Shape := ⟨4, ![1, 4, 128, 128]⟩
abbrev S1x1x64x128 : Shape := ⟨4, ![1, 1, 64, 128]⟩
abbrev S64x128 : Shape := ⟨2, ![64, 128]⟩
abbrev S1x64 : Shape := ⟨2, ![1, 64]⟩
abbrev S64x64 : Shape := ⟨2, ![64, 64]⟩
abbrev S64 : Shape := ⟨1, ![64]⟩
abbrev S64x1 : Shape := ⟨2, ![64, 1]⟩
abbrev S1x128 : Shape := ⟨2, ![1, 128]⟩
abbrev S1x1 : Shape := ⟨2, ![1, 1]⟩
abbrev S128 : Shape := ⟨1, ![128]⟩
abbrev S1x1x128 : Shape := ⟨3, ![1, 1, 128]⟩
abbrev S3x1536 : Shape := ⟨2, ![3, 1536]⟩
abbrev S1x1536 : Shape := ⟨2, ![1, 1536]⟩
abbrev S1x1x128x128 : Shape := ⟨4, ![1, 1, 128, 128]⟩
abbrev S128x128 : Shape := ⟨2, ![128, 128]⟩
abbrev S128x1 : Shape := ⟨2, ![128, 1]⟩

abbrev nBuf : Space → Nat
  | .hbm => 26
  | .vmem => 31
  | .smem => 0
  | _ => 0

abbrev bufTy : (tb : Table) → Fin (tcTables nBuf tb) → BufTy
  | .hbm, ⟨0, _⟩ => ⟨S32x1x7680, .f32⟩
  | .hbm, ⟨1, _⟩ => ⟨S32x3x1536, .f32⟩
  | .hbm, ⟨2, _⟩ => ⟨S32x4x64x128, .f32⟩
  | .hbm, ⟨3, _⟩ => ⟨S32x4x128x128, .f32⟩
  | .hbm, ⟨4, _⟩ => ⟨S16x256, .f32⟩
  | .hbm, ⟨5, _⟩ => ⟨S256, .f32⟩
  | .hbm, ⟨6, _⟩ => ⟨S4x1536, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S256x256, .f32⟩
  | .hbm, ⟨11, _⟩ => ⟨S_, .i32⟩
  | .hbm, ⟨12, _⟩ => ⟨S1, .i32⟩
  | .hbm, ⟨13, _⟩ => ⟨S256x256, .f32⟩
  | .hbm, ⟨14, _⟩ => ⟨S1x256, .f32⟩
  | .hbm, ⟨15, _⟩ => ⟨S4x128, .f32⟩
  | .hbm, ⟨16, _⟩ => ⟨S512, .f32⟩
  | .hbm, ⟨17, _⟩ => ⟨S1x512, .f32⟩
  | .hbm, ⟨18, _⟩ => ⟨S4x128, .f32⟩
  | .hbm, ⟨19, _⟩ => ⟨S512, .f32⟩
  | .hbm, ⟨20, _⟩ => ⟨S1x512, .f32⟩
  | .hbm, ⟨21, _⟩ => ⟨S32x1x512, .f32⟩
  | .hbm, ⟨22, _⟩ => ⟨S32x1x512, .f32⟩
  | .hbm, ⟨23, _⟩ => ⟨S32x3x1536, .f32⟩
  | .hbm, ⟨24, _⟩ => ⟨S32x4x64x128, .f32⟩
  | .hbm, ⟨25, _⟩ => ⟨S32x4x128x128, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x512, .f32⟩
  | .local _ .vmem, ⟨5, _⟩ => ⟨S1x1x512, .f32⟩
  | .local _ .vmem, ⟨6, _⟩ => ⟨S1x1x1536, .f32⟩
  | .local _ .vmem, ⟨7, _⟩ => ⟨S1x1x1536, .f32⟩
  | .local _ .vmem, ⟨8, _⟩ => ⟨S1x1x256, .f32⟩
  | .local _ .vmem, ⟨9, _⟩ => ⟨S1x1x256, .f32⟩
  | .local _ .vmem, ⟨10, _⟩ => ⟨S1x3x1536, .f32⟩
  | .local _ .vmem, ⟨11, _⟩ => ⟨S1x3x1536, .f32⟩
  | .local _ .vmem, ⟨12, _⟩ => ⟨S1x4x64x128, .f32⟩
  | .local _ .vmem, ⟨13, _⟩ => ⟨S1x4x64x128, .f32⟩
  | .local _ .vmem, ⟨14, _⟩ => ⟨S1x4x128x128, .f32⟩
  | .local _ .vmem, ⟨15, _⟩ => ⟨S1x4x128x128, .f32⟩
  | .local _ .vmem, ⟨16, _⟩ => ⟨S256x256, .f32⟩
  | .local _ .vmem, ⟨17, _⟩ => ⟨S1x256, .f32⟩
  | .local _ .vmem, ⟨18, _⟩ => ⟨S4x1536, .f32⟩
  | .local _ .vmem, ⟨19, _⟩ => ⟨S1x512, .f32⟩
  | .local _ .vmem, ⟨20, _⟩ => ⟨S1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x3x1536, .f32⟩
  | .local _ .vmem, ⟨26, _⟩ => ⟨S1x3x1536, .f32⟩
  | .local _ .vmem, ⟨27, _⟩ => ⟨S1x4x64x128, .f32⟩
  | .local _ .vmem, ⟨28, _⟩ => ⟨S1x4x64x128, .f32⟩
  | .local _ .vmem, ⟨29, _⟩ => ⟨S1x4x128x128, .f32⟩
  | .local _ .vmem, ⟨30, _⟩ => ⟨S1x4x128x128, .f32⟩
  | _, _ => ⟨S32x1x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c24_i32 : BitVec 32 := 24#32
  let c0_i32_0 : BitVec 32 := 0#32
  ![arg0.toNat, c0_i32.toNat, c24_i32.toNat]

def cc0_transform_1 (i : grid0.Coords) : Fin 3 → Nat :=
  let arg0 : BitVec 32 := BitVec.ofNat 32 (i 0).val
  let c0_i32 : BitVec 32 := 0#32
  let c25_i32 : BitVec 32 := 25#32
  let c0_i32_0 : BitVec 32 := 0#32
  ![arg0.toNat, c0_i32.toNat, c25_i32.toNat]

def cc0_transform_2 (i : grid0.Coords) : Fin 3 → Nat :=
  let arg0 : BitVec 32 := BitVec.ofNat 32 (i 0).val
  let c0_i32 : BitVec 32 := 0#32
  let c13_i32 : BitVec 32 := 13#32
  let c0_i32_0 : BitVec 32 := 0#32
  ![arg0.toNat, c0_i32.toNat, c13_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let c0_i32 : BitVec 32 := 0#32
  let c28_i32 : BitVec 32 := 28#32
  let c0_i32_0 : BitVec 32 := 0#32
  ![arg0.toNat, c0_i32.toNat, c28_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x3x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference7Ideal.lean ====
abbrev S32x1x7680 : Shape := ⟨3, ![32, 1, 7680]⟩
abbrev S32x3x1536 : Shape := ⟨3, ![32, 3, 1536]⟩
abbrev S32x4x64x128 : Shape := ⟨4, ![32, 4, 64, 128]⟩
abbrev S32x4x128x128 : Shape := ⟨4, ![32, 4, 128, 128]⟩
abbrev S16x256 : Shape := ⟨2, ![16, 256]⟩
abbrev S256 : Shape := ⟨1, ![256]⟩
abbrev S4x1536 : Shape := ⟨2, ![4, 1536]⟩
abbrev S4 : Shape := ⟨1, ![4]⟩
abbrev S32x7680 : Shape := ⟨2, ![32, 7680]⟩
abbrev S32x1536 : Shape := ⟨2, ![32, 1536]⟩
abbrev S32x256 : Shape := ⟨2, ![32, 256]⟩
abbrev S32x512 : Shape := ⟨2, ![32, 512]⟩
abbrev S32x16 : Shape := ⟨2, ![32, 16]⟩
abbrev S32x4 : Shape := ⟨2, ![32, 4]⟩
abbrev S1x256 : Shape := ⟨2, ![1, 256]⟩
abbrev S_ : Shape := ⟨0, ![]⟩
abbrev S32x4x64 : Shape := ⟨3, ![32, 4, 64]⟩
abbrev S32x4x128 : Shape := ⟨3, ![32, 4, 128]⟩
abbrev S32x4x1 : Shape := ⟨3, ![32, 4, 1]⟩
abbrev S32x4x64x1 : Shape := ⟨4, ![32, 4, 64, 1]⟩
abbrev S32x4x1x128 : Shape := ⟨4, ![32, 4, 1, 128]⟩
abbrev S32x1x1536 : Shape := ⟨3, ![32, 1, 1536]⟩
abbrev S32x4x1536 : Shape := ⟨3, ![32, 4, 1536]⟩
abbrev S1x1536 : Shape := ⟨2, ![1, 1536]⟩
abbrev S1536 : Shape := ⟨1, ![1536]⟩
abbrev S1x4 : Shape := ⟨2, ![1, 4]⟩
abbrev S32x4x1x1 : Shape := ⟨4, ![32, 4, 1, 1]⟩
abbrev S32x4x128x1 : Shape := ⟨4, ![32, 4, 128, 1]⟩
abbrev S32x1x512 : Shape := ⟨3, ![32, 1, 512]⟩

abbrev nBuf : Space → Nat
  | .hbm => 197
  | .vmem => 0
  | .smem => 0
  | _ => 0

abbrev hbmTy0_0 (i : Nat) : BufTy := match i % 128 with
  | 0 => ⟨S32x1x7680, .f32⟩
  | 1 => ⟨S32x3x1536, .f32⟩
  | 2 => ⟨S32x4x64x128, .f32⟩
  | 3 => ⟨S32x4x128x128, .f32⟩
  | 4 => ⟨S16x256, .f32⟩
  | 5 => ⟨S256, .f32⟩
  | 6 => ⟨S4x1536, .f32⟩
  | 7 => ⟨S4, .f32⟩
  | 8 => ⟨S4, .f32⟩
  | 9 => ⟨S32x7680, .f32⟩
  | 10 => ⟨S32x1536, .f32⟩
  | 11 => ⟨S32x256, .f32⟩
  | 12 => ⟨S32x256, .f32⟩
  | 13 => ⟨S32x512, .f32⟩
  | 14 => ⟨S32x16, .f32⟩
  | 15 => ⟨S32x4, .f32⟩
  | 16 => ⟨S32x4, .f32⟩
  | 17 => ⟨S32x256, .f32⟩
  | 18 => ⟨S1x256, .f32⟩
  | 19 => ⟨S32x256, .f32⟩
  | 20 => ⟨S32x256, .f32⟩
  | 21 => ⟨S32x256, .f32⟩
  | 22 => ⟨S_, .f32⟩
  | 23 => ⟨S32x256, .f32⟩
  | 24 => ⟨S32x256, .f32⟩
  | 25 => ⟨S32x256, .f32⟩
  | 26 => ⟨S32x256, .f32⟩
  | 27 => ⟨S32x256, .i1⟩
  | 28 => ⟨S32x256, .f32⟩
  | 29 => ⟨S32x256, .f32⟩
  | 30 => ⟨S32x256, .f32⟩
  | 31 => ⟨S32x256, .f32⟩
  | 32 => ⟨S32x256, .f32⟩
  | 33 => ⟨S32x256, .f32⟩
  | 34 => ⟨S32x256, .f32⟩
  | 35 => ⟨S32x256, .f32⟩
  | 36 => ⟨S32x256, .f32⟩
  | 37 => ⟨S_, .f32⟩
  | 38 => ⟨S32x256, .f32⟩
  | 39 => ⟨S32x256, .f32⟩
  | 40 => ⟨S32x4x64, .f32⟩
  | 41 => ⟨S32x4x64, .f32⟩
  | 42 => ⟨S32x4x64, .f32⟩
  | 43 => ⟨S_, .f32⟩
  | 44 => ⟨S32x4x64, .f32⟩
  | 45 => ⟨S32x4x64, .f32⟩
  | 46 => ⟨S32x4x64, .f32⟩
  | 47 => ⟨S32x4x128, .f32⟩
  | 48 => ⟨S32x4x64, .f32⟩
  | 49 => ⟨S32x4x128, .f32⟩
  | 50 => ⟨S32x4, .f32⟩
  | 51 => ⟨S32x4x1, .f32⟩
  | 52 => ⟨S32x4x128, .f32⟩
  | 53 => ⟨S32x4x128, .f32⟩
  | 54 => ⟨S32x4x128, .f32⟩
  | 55 => ⟨S32x4x64x1, .f32⟩
  | 56 => ⟨S32x4x64x128, .f32⟩
  | 57 => ⟨S32x4x64x128, .f32⟩
  | 58 => ⟨S32x4x64x1, .f32⟩
  | 59 => ⟨S32x4x1x128, .f32⟩
  | 60 => ⟨S32x4x64x128, .f32⟩
  | 61 => ⟨S32x4x64x128, .f32⟩
  | 62 => ⟨S32x4x64x128, .f32⟩
  | 63 => ⟨S32x4x64x128, .f32⟩
  | 64 => ⟨S32x1x1536, .f32⟩
  | 65 => ⟨S32x4x1536, .f32⟩
  | 66 => ⟨S32x1x1536, .f32⟩
  | 67 => ⟨S32x1536, .f32⟩
  | 68 => ⟨S1x1536, .f32⟩
  | 69 => ⟨S1536, .f32⟩
  | 70 => ⟨S1x1536, .f32⟩
  | 71 => ⟨S32x1536, .f32⟩
  | 72 => ⟨S32x1536, .f32⟩
  | 73 => ⟨S_, .f32⟩
  | 74 => ⟨S32x1536, .f32⟩
  | 75 => ⟨S32x1536, .f32⟩
  | 76 => ⟨S32x1x1536, .f32⟩
  | 77 => ⟨S32x1536, .f32⟩
  | 78 => ⟨S1x1536, .f32⟩
  | 79 => ⟨S1536, .f32⟩
  | 80 => ⟨S1x1536, .f32⟩
  | 81 => ⟨S32x1536, .f32⟩
  | 82 => ⟨S32x1536, .f32⟩
  | 83 => ⟨S32x1536, .f32⟩
  | 84 => ⟨S32x1x1536, .f32⟩
  | 85 => ⟨S32x1536, .f32⟩
  | 86 => ⟨S1x1536, .f32⟩
  | 87 => ⟨S1536, .f32⟩
  | 88 => ⟨S1x1536, .f32⟩
  | 89 => ⟨S32x1536, .f32⟩
  | 90 => ⟨S32x1536, .f32⟩
  | 91 => ⟨S32x1536, .f32⟩
  | 92 => ⟨S32x1x1536, .f32⟩
  | 93 => ⟨S32x1536, .f32⟩
  | 94 => ⟨S1x1536, .f32⟩
  | 95 => ⟨S1536, .f32⟩
  | 96 => ⟨S1x1536, .f32⟩
  | 97 => ⟨S32x1536, .f32⟩
  | 98 => ⟨S32x1536, .f32⟩
  | 99 => ⟨S32x1536, .f32⟩
  | 100 => ⟨S32x1536, .f32⟩
  | 101 => ⟨S32x1536, .f32⟩
  | 102 => ⟨S_, .f32⟩
  | 103 => ⟨S32x1536, .f32⟩
  | 104 => ⟨S32x1536, .f32⟩
  | 105 => ⟨S_, .f32⟩
  | 106 => ⟨S32x1536, .f32⟩
  | 107 => ⟨S32x1536, .f32⟩
  | 108 => ⟨S32x1536, .f32⟩
  | 109 => ⟨S32x512, .f32⟩
  | 110 => ⟨S32x512, .f32⟩
  | 111 => ⟨S32x512, .f32⟩
  | 112 => ⟨S32x4x128, .f32⟩
  | 113 => ⟨S32x4x128, .f32⟩
  | 114 => ⟨S_, .f32⟩
  | 115 => ⟨S32x4, .f32⟩
  | 116 => ⟨S32x4x1, .f32⟩
  | 117 => ⟨S_, .f32⟩
  | 118 => ⟨S32x4x1, .f32⟩
  | 119 => ⟨S32x4x1, .f32⟩
  | 120 => ⟨S32x4x1, .f32⟩
  | 121 => ⟨S32x4x128, .f32⟩
  | 122 => ⟨S32x4x128, .f32⟩
  | 123 => ⟨S_, .f32⟩
  | 124 => ⟨S32x4x128, .f32⟩
  | 125 => ⟨S32x4x128, .f32⟩
  | 126 => ⟨S32x4x128, .f32⟩
  | 127 => ⟨S32x4x128, .f32⟩
  | _ => ⟨S32x1x7680, .f32⟩

abbrev hbmTy0_1 (i : Nat) : BufTy := match i % 128 with
  | 0 => ⟨S_, .f32⟩
  | 1 => ⟨S32x4, .f32⟩
  | 2 => ⟨S32x4x1, .f32⟩
  | 3 => ⟨S_, .f32⟩
  | 4 => ⟨S32x4x1, .f32⟩
  | 5 => ⟨S32x4x1, .f32⟩
  | 6 => ⟨S32x4x1, .f32⟩
  | 7 => ⟨S32x4x128, .f32⟩
  | 8 => ⟨S32x4x128, .f32⟩
  | 9 => ⟨S32x4x128, .f32⟩
  | 10 => ⟨S4, .f32⟩
  | 11 => ⟨S4, .f32⟩
  | 12 => ⟨S1x4, .f32⟩
  | 13 => ⟨S32x4, .f32⟩
  | 14 => ⟨S32x4, .f32⟩
  | 15 => ⟨S_, .f32⟩
  | 16 => ⟨S32x4, .f32⟩
  | 17 => ⟨S32x4, .f32⟩
  | 18 => ⟨S32x4, .f32⟩
  | 19 => ⟨S32x4, .f32⟩
  | 20 => ⟨S32x4, .i1⟩
  | 21 => ⟨S32x4, .f32⟩
  | 22 => ⟨S32x4, .f32⟩
  | 23 => ⟨S32x4, .f32⟩
  | 24 => ⟨S32x4, .f32⟩
  | 25 => ⟨S32x4, .f32⟩
  | 26 => ⟨S32x4, .f32⟩
  | 27 => ⟨S32x4, .f32⟩
  | 28 => ⟨S32x4, .f32⟩
  | 29 => ⟨S1x4, .f32⟩
  | 30 => ⟨S32x4, .f32⟩
  | 31 => ⟨S32x4, .f32⟩
  | 32 => ⟨S32x4, .f32⟩
  | 33 => ⟨S32x4, .f32⟩
  | 34 => ⟨S_, .f32⟩
  | 35 => ⟨S32x4, .f32⟩
  | 36 => ⟨S32x4, .f32⟩
  | 37 => ⟨S_, .f32⟩
  | 38 => ⟨S32x4, .f32⟩
  | 39 => ⟨S32x4, .f32⟩
  | 40 => ⟨S32x4, .f32⟩
  | 41 => ⟨S32x4x1, .f32⟩
  | 42 => ⟨S32x4x1, .f32⟩
  | 43 => ⟨S32x4x128, .f32⟩
  | 44 => ⟨S32x4x128, .f32⟩
  | 45 => ⟨S32x4x128, .f32⟩
  | 46 => ⟨S32x4x128, .f32⟩
  | 47 => ⟨S32x4x128, .f32⟩
  | 48 => ⟨S32x4x128, .f32⟩
  | 49 => ⟨S32x4x128, .f32⟩
  | 50 => ⟨S32x4x128, .f32⟩
  | 51 => ⟨S32x4x128, .f32⟩
  | 52 => ⟨S32x4, .f32⟩
  | 53 => ⟨S32x4x1, .f32⟩
  | 54 => ⟨S32x4x128, .f32⟩
  | 55 => ⟨S32x4x128, .f32⟩
  | 56 => ⟨S32x4x128, .f32⟩
  | 57 => ⟨S32x4x1x1, .f32⟩
  | 58 => ⟨S32x4x128x128, .f32⟩
  | 59 => ⟨S32x4x128x128, .f32⟩
  | 60 => ⟨S32x4x128x1, .f32⟩
  | 61 => ⟨S32x4x1x128, .f32⟩
  | 62 => ⟨S32x4x128x128, .f32⟩
  | 63 => ⟨S32x4x128x128, .f32⟩
  | 64 => ⟨S32x4x128x128, .f32⟩
  | 65 => ⟨S32x4x128x128, .f32⟩
  | 66 => ⟨S32x1x512, .f32⟩
  | 67 => ⟨S32x1x512, .f32⟩
  | 68 => ⟨S32x3x1536, .f32⟩
  | _ => ⟨S32x1x7680, .f32⟩

abbrev hbmTy (i : Nat) : BufTy := match i / 128 with
  | 0 => hbmTy0_0 i
  | 1 => hbmTy0_1 i
  | _ => ⟨S32x1x7680, .f32⟩

abbrev bufTy : (tb : Table) → Fin (tcTables nBuf tb) → BufTy
  | .hbm, ⟨i, _⟩ => hbmTy i
  | _, _ => ⟨S32x1x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_1 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_2 : Ref sig .tc := ⟨.hbm, 114, rfl⟩
abbrev main_v79 : Ref sig .tc := ⟨.hbm, 115, rfl⟩
abbrev main_v80 : Ref sig .tc := ⟨.hbm, 116, rfl⟩
abbrev main_cst_3 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_4 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_5 : Ref sig .tc := ⟨.hbm, 128, rfl⟩
abbrev main_v90 : Ref sig .tc := ⟨.hbm, 129, rfl⟩
abbrev main_v91 : Ref sig .tc := ⟨.hbm, 130, rfl⟩
abbrev main_cst_6 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_v8 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_7 : Ref sig .tc := ⟨.hbm, 162, rfl⟩
abbrev main_v109 : Ref sig .tc := ⟨.hbm, 163, rfl⟩
abbrev main_v110 : Ref sig .tc := ⟨.hbm, 164, rfl⟩
abbrev main_cst_8 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩

abbrev nD : Nat := 1
abbrev τ : Topo := Topo.v7x

variable {F : FTy → Type} [FloatOps F]
-- ==== Kernel8.lean ====
abbrev S32x1x7680 : Shape := ⟨3, ![32, 1, 7680]⟩
abbrev S2x32x128x2x8x64 : Shape := ⟨6, ![2, 32, 128, 2, 8, 64]⟩
abbrev S2x32x512x2x8x64 : Shape := ⟨6, ![2, 32, 512, 2, 8, 64]⟩
abbrev S2x32x2048x2x8x64 : Shape := ⟨6, ![2, 32, 2048, 2, 8, 64]⟩
abbrev S64 : Shape := ⟨1, ![64]⟩
abbrev S8x128 : Shape := ⟨2, ![8, 128]⟩
abbrev S8x512 : Shape := ⟨2, ![8, 512]⟩
abbrev S8x2048 : Shape := ⟨2, ![8, 2048]⟩
abbrev S3x8x1 : Shape := ⟨3, ![3, 8, 1]⟩
abbrev S2x32x2x512x128 : Shape := ⟨5, ![2, 32, 2, 512, 128]⟩
abbrev S2x32x2x512x512 : Shape := ⟨5, ![2, 32, 2, 512, 512]⟩
abbrev S2x32x2x512x2048 : Shape := ⟨5, ![2, 32, 2, 512, 2048]⟩
abbrev S2x32x2x8x64x128 : Shape := ⟨6, ![2, 32, 2, 8, 64, 128]⟩
abbrev S2x32x2x8x64x512 : Shape := ⟨6, ![2, 32, 2, 8, 64, 512]⟩
abbrev S2x32x2x8x64x2048 : Shape := ⟨6, ![2, 32, 2, 8, 64, 2048]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32x1x512 : Shape := ⟨3, ![32, 1, 512]⟩
abbrev S1x1x4608 : Shape := ⟨3, ![1, 1, 4608]⟩
abbrev S1x1x1x512x128 : Shape := ⟨5, ![1, 1, 1, 512, 128]⟩
abbrev S1x1x1x512x512 : Shape := ⟨5, ![1, 1, 1, 512, 512]⟩
abbrev S1x1x1x512x2048 : Shape := ⟨5, ![1, 1, 1, 512, 2048]⟩
abbrev S1x1x512 : Shape := ⟨3, ![1, 1, 512]⟩
abbrev S3x3x8x128 : Shape := ⟨4, ![3, 3, 8, 128]⟩
abbrev S3x8x512 : Shape := ⟨3, ![3, 8, 512]⟩
abbrev S1x128 : Shape := ⟨2, ![1, 128]⟩
abbrev S8 : Shape := ⟨1, ![8]⟩
abbrev S8x1 : Shape := ⟨2, ![8, 1]⟩
abbrev S512x128 : Shape := ⟨2, ![512, 128]⟩
abbrev S512x512 : Shape := ⟨2, ![512, 512]⟩
abbrev S512x1 : Shape := ⟨2, ![512, 1]⟩
abbrev S8x64x128 : Shape := ⟨3, ![8, 64, 128]⟩
abbrev S1x8x1 : Shape := ⟨3, ![1, 8, 1]⟩
abbrev S1x1x8x128 : Shape := ⟨4, ![1, 1, 8, 128]⟩
abbrev S8x1x128 : Shape := ⟨3, ![8, 1, 128]⟩
abbrev S8x64x512 : Shape := ⟨3, ![8, 64, 512]⟩
abbrev S8x1x512 : Shape := ⟨3, ![8, 1, 512]⟩
abbrev S512x2048 : Shape := ⟨2, ![512, 2048]⟩
abbrev S8x64x2048 : Shape := ⟨3, ![8, 64, 2048]⟩
abbrev S8x1x2048 : Shape := ⟨3, ![8, 1, 2048]⟩

abbrev nBuf : Space → Nat
  | .hbm => 31
  | .vmem => 33
  | .smem => 0
  | _ => 0

abbrev bufTy : (tb : Table) → Fin (tcTables nBuf tb) → BufTy
  | .hbm, ⟨0, _⟩ => ⟨S32x1x7680, .f32⟩
  | .hbm, ⟨1, _⟩ => ⟨S2x32x128x2x8x64, .f32⟩
  | .hbm, ⟨2, _⟩ => ⟨S2x32x512x2x8x64, .f32⟩
  | .hbm, ⟨3, _⟩ => ⟨S2x32x2048x2x8x64, .f32⟩
  | .hbm, ⟨4, _⟩ => ⟨S64, .f32⟩
  | .hbm, ⟨5, _⟩ => ⟨S64, .f32⟩
  | .hbm, ⟨6, _⟩ => ⟨S8x128, .f32⟩
  | .hbm, ⟨7, _⟩ => ⟨S8x512, .f32⟩
  | .hbm, ⟨8, _⟩ => ⟨S8x2048, .f32⟩
  | .hbm, ⟨9, _⟩ => ⟨S3x8x1, .f32⟩
  | .hbm, ⟨10, _⟩ => ⟨S2x32x2x512x128, .f32⟩
  | .hbm, ⟨11, _⟩ => ⟨S2x32x2x512x512, .f32⟩
  | .hbm, ⟨12, _⟩ => ⟨S2x32x2x512x2048, .f32⟩
  | .hbm, ⟨13, _⟩ => ⟨S2x32x2x8x64x128, .f32⟩
  | .hbm, ⟨14, _⟩ => ⟨S2x32x2x512x128, .f32⟩
  | .hbm, ⟨15, _⟩ => ⟨S2x32x2x8x64x512, .f32⟩
  | .hbm, ⟨16, _⟩ => ⟨S2x32x2x512x512, .f32⟩
  | .hbm, ⟨17, _⟩ => ⟨S2x32x2x8x64x2048, .f32⟩
  | .hbm, ⟨18, _⟩ => ⟨S2x32x2x512x2048, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S32x1x512, .f32⟩
  | .hbm, ⟨28, _⟩ => ⟨S2x32x2x512x128, .f32⟩
  | .hbm, ⟨29, _⟩ => ⟨S2x32x2x512x512, .f32⟩
  | .hbm, ⟨30, _⟩ => ⟨S2x32x2x512x2048, .f32⟩
  | .local _ .vmem, ⟨0, _⟩ => ⟨S1x1x4608, .f32⟩
  | .local _ .vmem, ⟨1, _⟩ => ⟨S1x1x4608, .f32⟩
  | .local _ .vmem, ⟨2, _⟩ => ⟨S1x512, .f32⟩
  | .local _ .vmem, ⟨3, _⟩ => ⟨S1x512, .f32⟩
  | .local _ .vmem, ⟨4, _⟩ => ⟨S8x128, .f32⟩
  | .local _ .vmem, ⟨5, _⟩ => ⟨S8x512, .f32⟩
  | .local _ .vmem, ⟨6, _⟩ => ⟨S8x2048, .f32⟩
  | .local _ .vmem, ⟨7, _⟩ => ⟨S3x8x1, .f32⟩
  | .local _ .vmem, ⟨8, _⟩ => ⟨S1x1x1x512x128, .f32⟩
  | .local _ .vmem, ⟨9, _⟩ => ⟨S1x1x1x512x128, .f32⟩
  | .local _ .vmem, ⟨10, _⟩ => ⟨S1x1x1x512x512, .f32⟩
  | .local _ .vmem, ⟨11, _⟩ => ⟨S1x1x1x512x512, .f32⟩
  | .local _ .vmem, ⟨12, _⟩ => ⟨S1x1x1x512x2048, .f32⟩
  | .local _ .vmem, ⟨13, _⟩ => ⟨S1x1x1x512x2048, .f32⟩
  | .local _ .vmem, ⟨14, _⟩ => ⟨S1x1x1x512x128, .f32⟩
  | .local _ .vmem, ⟨15, _⟩ => ⟨S1x1x1x512x128, .f32⟩
  | .local _ .vmem, ⟨16, _⟩ => ⟨S1x1x1x512x128, .f32⟩
  | .local _ .vmem, ⟨17, _⟩ => ⟨S1x1x1x512x128, .f32⟩
  | .local _ .vmem, ⟨18, _⟩ => ⟨S1x1x1x512x128, .f32⟩
  | .local _ .vmem, ⟨19, _⟩ => ⟨S1x1x1x512x128, .f32⟩
  | .local _ .vmem, ⟨20, _⟩ => ⟨S1x1x512, .f32⟩
  | .local _ .vmem, ⟨21, _⟩ => ⟨S1x1x512, .f32⟩
  | .local _ .vmem, ⟨22, _⟩ => ⟨S1x1x1x512x128, .f32⟩
  | .local _ .vmem, ⟨23, _⟩ => ⟨S1x1x1x512x128, .f32⟩
  | .local _ .vmem, ⟨24, _⟩ => ⟨S1x1x1x512x128, .f32⟩
  | .local _ .vmem, ⟨25, _⟩ => ⟨S1x1x1x512x128, .f32⟩
  | .local _ .vmem, ⟨26, _⟩ => ⟨S1x1x1x512x128, .f32⟩
  | .local _ .vmem, ⟨27, _⟩ => ⟨S1x1x1x512x128, .f32⟩
  | .local _ .vmem, ⟨28, _⟩ => ⟨S8x128, .f32⟩
  | .local _ .vmem, ⟨29, _⟩ => ⟨S8x512, .f32⟩
  | .local _ .vmem, ⟨30, _⟩ => ⟨S8x2048, .f32⟩
  | .local _ .vmem, ⟨31, _⟩ => ⟨S3x3x8x128, .f32⟩
  | .local _ .vmem, ⟨32, _⟩ => ⟨S3x8x512, .f32⟩
  | _, _ => ⟨S32x1x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![32, 2], ![false, false]⟩

def k0_cond7 (i : grid0.Coords) : BitVec 1 :=
  let true_22 : BitVec 1 := 1#1
  let arg1 : BitVec 32 := BitVec.ofNat 32 (i 1).val
  let c1_i32_21 : BitVec 32 := 1#32
  let v54 : BitVec 1 := Scalar.cmpi .eq arg1 c1_i32_21
  let v55 : BitVec 1 := Scalar.andi true_22 v54
  let v56 : BitVec 32 := Scalar.extui v55
  let c0_i32_23 : BitVec 32 := 0#32
  let v57 : BitVec 1 := Scalar.cmpi .ne v56 c0_i32_23
  v57

def k0_cond1 (i : grid0.Coords) : BitVec 1 :=
  let v_true : BitVec 1 := 1#1
  let arg1 : BitVec 32 := BitVec.ofNat 32 (i 1).val
  let c0_i32_4 : BitVec 32 := 0#32
  let v30 : BitVec 1 := Scalar.cmpi .eq arg1 c0_i32_4
  let v31 : BitVec 1 := Scalar.andi v_true v30
  let v32 : BitVec 32 := Scalar.extui v31
  let c0_i32_5 : BitVec 32 := 0#32
  let v33 : BitVec 1 := Scalar.cmpi .ne v32 c0_i32_5
  v33

def k0_cond2 (i : grid0.Coords) : BitVec 1 :=
  let true_7 : BitVec 1 := 1#1
  let arg1 : BitVec 32 := BitVec.ofNat 32 (i 1).val
  let c1_i32_6 : BitVec 32 := 1#32
  let v34 : BitVec 1 := Scalar.cmpi .eq arg1 c1_i32_6
  let v35 : BitVec 1 := Scalar.andi true_7 v34
  let v36 : BitVec 32 := Scalar.extui v35
  let c0_i32_8 : BitVec 32 := 0#32
  let v37 : BitVec 1 := Scalar.cmpi .ne v36 c0_i32_8
  v37

def k0_cond3 (i : grid0.Coords) : BitVec 1 :=
  let true_10 : BitVec 1 := 1#1
  let arg1 : BitVec 32 := BitVec.ofNat 32 (i 1).val
  let c0_i32_9 : BitVec 32 := 0#32
  let v38 : BitVec 1 := Scalar.cmpi .eq arg1 c0_i32_9
  let v39 : BitVec 1 := Scalar.andi true_10 v38
  let v40 : BitVec 32 := Scalar.extui v39
  let c0_i32_11 : BitVec 32 := 0#32
  let v41 : BitVec 1 := Scalar.cmpi .ne v40 c0_i32_11
  v41

def k0_cond4 (i : grid0.Coords) : BitVec 1 :=
  let true_13 : BitVec 1 := 1#1
  let arg1 : BitVec 32 := BitVec.ofNat 32 (i 1).val
  let c1_i32_12 : BitVec 32 := 1#32
  let v42 : BitVec 1 := Scalar.cmpi .eq arg1 c1_i32_12
  let v43 : BitVec 1 := Scalar.andi true_13 v42
  let v44 : BitVec 32 := Scalar.extui v43
  let c0_i32_14 : BitVec 32 := 0#32
  let v45 : BitVec 1 := Scalar.cmpi .ne v44 c0_i32_14
  v45

def k0_cond5 (i : grid0.Coords) : BitVec 1 :=
  let true_16 : BitVec 1 := 1#1
  let arg1 : BitVec 32 := BitVec.ofNat 32 (i 1).val
  let c0_i32_15 : BitVec 32 := 0#32
  let v46 : BitVec 1 := Scalar.cmpi .eq arg1 c0_i32_15
  let v47 : BitVec 1 := Scalar.andi true_16 v46
  let v48 : BitVec 32 := Scalar.extui v47
  let c0_i32_17 : BitVec 32 := 0#32
  let v49 : BitVec 1 := Scalar.cmpi .ne v48 c0_i32_17
  v49

def k0_cond6 (i : grid0.Coords) : BitVec 1 :=
  let true_19 : BitVec 1 := 1#1
  let arg1 : BitVec 32 := BitVec.ofNat 32 (i 1).val
  let c1_i32_18 : BitVec 32 := 1#32
  let v50 : BitVec 1 := Scalar.cmpi .eq arg1 c1_i32_18
  let v51 : BitVec 1 := Scalar.andi true_19 v50
  let v52 : BitVec 32 := Scalar.extui v51
  let c0_i32_20 : BitVec 32 := 0#32
  let v53 : BitVec 1 := Scalar.cmpi .ne v52 c0_i32_20
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, arg0.toNat, arg1.toNat, c0_i32.toNat, c3_i32.toNat]

def cc0_transform_12 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c15_i32 : BitVec 32 := 15#32
  let c0_i32_0 : BitVec 32 := 0#32
  ![c1_i32.toNat, arg0.toNat, arg1.toNat, c0_i32.toNat, c15_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_15 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, arg0.toNat, arg1.toNat, c0_i32.toNat, c3_i32.toNat]

def cc0_transform_16 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c15_i32 : BitVec 32 := 15#32
  let c0_i32_0 : BitVec 32 := 0#32
  ![c1_i32.toNat, arg0.toNat, arg1.toNat, c0_i32.toNat, c15_i32.toNat]

abbrev stage0_0 : Fin 2 → Memref sig .tc .vmem S1x1x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference8Ideal.lean ====
abbrev S32x1x7680 : Shape := ⟨3, ![32, 1, 7680]⟩
abbrev S2x32x128x2x8x64 : Shape := ⟨6, ![2, 32, 128, 2, 8, 64]⟩
abbrev S2x32x512x2x8x64 : Shape := ⟨6, ![2, 32, 512, 2, 8, 64]⟩
abbrev S2x32x2048x2x8x64 : Shape := ⟨6, ![2, 32, 2048, 2, 8, 64]⟩
abbrev S64 : Shape := ⟨1, ![64]⟩
abbrev S8x128 : Shape := ⟨2, ![8, 128]⟩
abbrev S8x512 : Shape := ⟨2, ![8, 512]⟩
abbrev S8x2048 : Shape := ⟨2, ![8, 2048]⟩
abbrev S3x8x1 : Shape := ⟨3, ![3, 8, 1]⟩
abbrev S2x32x2x512x128 : Shape := ⟨5, ![2, 32, 2, 512, 128]⟩
abbrev S2x32x2x512x512 : Shape := ⟨5, ![2, 32, 2, 512, 512]⟩
abbrev S2x32x2x512x2048 : Shape := ⟨5, ![2, 32, 2, 512, 2048]⟩
abbrev S32x7680 : Shape := ⟨2, ![32, 7680]⟩
abbrev S32x1536 : Shape := ⟨2, ![32, 1536]⟩
abbrev S32x3x8x64 : Shape := ⟨4, ![32, 3, 8, 64]⟩
abbrev S_ : Shape := ⟨0, ![]⟩
abbrev S32x3x8 : Shape := ⟨3, ![32, 3, 8]⟩
abbrev S32x3x8x1 : Shape := ⟨4, ![32, 3, 8, 1]⟩
abbrev S1x1x1x64 : Shape := ⟨4, ![1, 1, 1, 64]⟩
abbrev S32x1x8x64 : Shape := ⟨4, ![32, 1, 8, 64]⟩
abbrev S32x8x64 : Shape := ⟨3, ![32, 8, 64]⟩
abbrev S32x2x8x64 : Shape := ⟨4, ![32, 2, 8, 64]⟩
abbrev S32x2x512x1 : Shape := ⟨4, ![32, 2, 512, 1]⟩
abbrev S1x32x2x512x128 : Shape := ⟨5, ![1, 32, 2, 512, 128]⟩
abbrev S32x2x512x128 : Shape := ⟨4, ![32, 2, 512, 128]⟩
abbrev S1x32x2x512x127 : Shape := ⟨5, ![1, 32, 2, 512, 127]⟩
abbrev S32x2x512x127 : Shape := ⟨4, ![32, 2, 512, 127]⟩
abbrev S1x32x2x512x512 : Shape := ⟨5, ![1, 32, 2, 512, 512]⟩
abbrev S32x2x512x512 : Shape := ⟨4, ![32, 2, 512, 512]⟩
abbrev S1x32x2x512x511 : Shape := ⟨5, ![1, 32, 2, 512, 511]⟩
abbrev S32x2x512x511 : Shape := ⟨4, ![32, 2, 512, 511]⟩
abbrev S1x32x2x512x2048 : Shape := ⟨5, ![1, 32, 2, 512, 2048]⟩
abbrev S32x2x512x2048 : Shape := ⟨4, ![32, 2, 512, 2048]⟩
abbrev S1x32x2x512x2047 : Shape := ⟨5, ![1, 32, 2, 512, 2047]⟩
abbrev S32x2x512x2047 : Shape := ⟨4, ![32, 2, 512, 2047]⟩

abbrev nBuf : Space → Nat
  | .hbm => 82
  | .vmem => 0
  | .smem => 0
  | _ => 0

abbrev bufTy : (tb : Table) → Fin (tcTables nBuf tb) → BufTy
  | .hbm, ⟨0, _⟩ => ⟨S32x1x7680, .f32⟩
  | .hbm, ⟨1, _⟩ => ⟨S2x32x128x2x8x64, .f32⟩
  | .hbm, ⟨2, _⟩ => ⟨S2x32x512x2x8x64, .f32⟩
  | .hbm, ⟨3, _⟩ => ⟨S2x32x2048x2x8x64, .f32⟩
  | .hbm, ⟨4, _⟩ => ⟨S64, .f32⟩
  | .hbm, ⟨5, _⟩ => ⟨S64, .f32⟩
  | .hbm, ⟨6, _⟩ => ⟨S8x128, .f32⟩
  | .hbm, ⟨7, _⟩ => ⟨S8x512, .f32⟩
  | .hbm, ⟨8, _⟩ => ⟨S8x2048, .f32⟩
  | .hbm, ⟨9, _⟩ => ⟨S3x8x1, .f32⟩
  | .hbm, ⟨10, _⟩ => ⟨S2x32x2x512x128, .f32⟩
  | .hbm, ⟨11, _⟩ => ⟨S2x32x2x512x512, .f32⟩
  | .hbm, ⟨12, _⟩ => ⟨S2x32x2x512x2048, .f32⟩
  | .hbm, ⟨13, _⟩ => ⟨S32x7680, .f32⟩
  | .hbm, ⟨14, _⟩ => ⟨S32x1536, .f32⟩
  | .hbm, ⟨15, _⟩ => ⟨S32x3x8x64, .f32⟩
  | .hbm, ⟨16, _⟩ => ⟨S32x3x8x64, .f32⟩
  | .hbm, ⟨17, _⟩ => ⟨S_, .f32⟩
  | .hbm, ⟨18, _⟩ => ⟨S32x3x8, .f32⟩
  | .hbm, ⟨19, _⟩ => ⟨S32x3x8x1, .f32⟩
  | .hbm, ⟨20, _⟩ => ⟨S_, .f32⟩
  | .hbm, ⟨21, _⟩ => ⟨S32x3x8x1, .f32⟩
  | .hbm, ⟨22, _⟩ => ⟨S32x3x8x1, .f32⟩
  | .hbm, ⟨23, _⟩ => ⟨S_, .f32⟩
  | .hbm, ⟨24, _⟩ => ⟨S32x3x8x1, .f32⟩
  | .hbm, ⟨25, _⟩ => ⟨S32x3x8x1, .f32⟩
  | .hbm, ⟨26, _⟩ => ⟨S32x3x8x1, .f32⟩
  | .hbm, ⟨27, _⟩ => ⟨S32x3x8x64, .f32⟩
  | .hbm, ⟨28, _⟩ => ⟨S32x3x8x64, .f32⟩
  | .hbm, ⟨29, _⟩ => ⟨S1x1x1x64, .f32⟩
  | .hbm, ⟨30, _⟩ => ⟨S32x3x8x64, .f32⟩
  | .hbm, ⟨31, _⟩ => ⟨S32x3x8x64, .f32⟩
  | .hbm, ⟨32, _⟩ => ⟨S32x1536, .f32⟩
  | .hbm, ⟨33, _⟩ => ⟨S32x3x8x64, .f32⟩
  | .hbm, ⟨34, _⟩ => ⟨S32x1x8x64, .f32⟩
  | .hbm, ⟨35, _⟩ => ⟨S32x8x64, .f32⟩
  | .hbm, ⟨36, _⟩ => ⟨S32x1x8x64, .f32⟩
  | .hbm, ⟨37, _⟩ => ⟨S32x8x64, .f32⟩
  | .hbm, ⟨38, _⟩ => ⟨S32x1x8x64, .f32⟩
  | .hbm, ⟨39, _⟩ => ⟨S32x1x8x64, .f32⟩
  | .hbm, ⟨40, _⟩ => ⟨S32x2x8x64, .f32⟩
  | .hbm, ⟨41, _⟩ => ⟨S32x2x512x1, .f32⟩
  | .hbm, ⟨42, _⟩ => ⟨S1x32x2x512x128, .f32⟩
  | .hbm, ⟨43, _⟩ => ⟨S32x2x512x128, .f32⟩
  | .hbm, ⟨44, _⟩ => ⟨S1x32x2x512x127, .f32⟩
  | .hbm, ⟨45, _⟩ => ⟨S32x2x512x127, .f32⟩
  | .hbm, ⟨46, _⟩ => ⟨S32x2x512x128, .f32⟩
  | .hbm, ⟨47, _⟩ => ⟨S1x32x2x512x128, .f32⟩
  | .hbm, ⟨48, _⟩ => ⟨S1x32x2x512x128, .f32⟩
  | .hbm, ⟨49, _⟩ => ⟨S2x32x2x512x128, .f32⟩
  | .hbm, ⟨50, _⟩ => ⟨S32x1x8x64, .f32⟩
  | .hbm, ⟨51, _⟩ => ⟨S32x8x64, .f32⟩
  | .hbm, ⟨52, _⟩ => ⟨S32x1x8x64, .f32⟩
  | .hbm, ⟨53, _⟩ => ⟨S32x8x64, .f32⟩
  | .hbm, ⟨54, _⟩ => ⟨S32x1x8x64, .f32⟩
  | .hbm, ⟨55, _⟩ => ⟨S32x1x8x64, .f32⟩
  | .hbm, ⟨56, _⟩ => ⟨S32x2x8x64, .f32⟩
  | .hbm, ⟨57, _⟩ => ⟨S32x2x512x1, .f32⟩
  | .hbm, ⟨58, _⟩ => ⟨S1x32x2x512x512, .f32⟩
  | .hbm, ⟨59, _⟩ => ⟨S32x2x512x512, .f32⟩
  | .hbm, ⟨60, _⟩ => ⟨S1x32x2x512x511, .f32⟩
  | .hbm, ⟨61, _⟩ => ⟨S32x2x512x511, .f32⟩
  | .hbm, ⟨62, _⟩ => ⟨S32x2x512x512, .f32⟩
  | .hbm, ⟨63, _⟩ => ⟨S1x32x2x512x512, .f32⟩
  | .hbm, ⟨64, _⟩ => ⟨S1x32x2x512x512, .f32⟩
  | .hbm, ⟨65, _⟩ => ⟨S2x32x2x512x512, .f32⟩
  | .hbm, ⟨66, _⟩ => ⟨S32x1x8x64, .f32⟩
  | .hbm, ⟨67, _⟩ => ⟨S32x8x64, .f32⟩
  | .hbm, ⟨68, _⟩ => ⟨S32x1x8x64, .f32⟩
  | .hbm, ⟨69, _⟩ => ⟨S32x8x64, .f32⟩
  | .hbm, ⟨70, _⟩ => ⟨S32x1x8x64, .f32⟩
  | .hbm, ⟨71, _⟩ => ⟨S32x1x8x64, .f32⟩
  | .hbm, ⟨72, _⟩ => ⟨S32x2x8x64, .f32⟩
  | .hbm, ⟨73, _⟩ => ⟨S32x2x512x1, .f32⟩
  | .hbm, ⟨74, _⟩ => ⟨S1x32x2x512x2048, .f32⟩
  | .hbm, ⟨75, _⟩ => ⟨S32x2x512x2048, .f32⟩
  | .hbm, ⟨76, _⟩ => ⟨S1x32x2x512x2047, .f32⟩
  | .hbm, ⟨77, _⟩ => ⟨S32x2x512x2047, .f32⟩
  | .hbm, ⟨78, _⟩ => ⟨S32x2x512x2048, .f32⟩
  | .hbm, ⟨79, _⟩ => ⟨S1x32x2x512x2048, .f32⟩
  | .hbm, ⟨80, _⟩ => ⟨S1x32x2x512x2048, .f32⟩
  | .hbm, ⟨81, _⟩ => ⟨S2x32x2x512x2048, .f32⟩
  | _, _ => ⟨S32x1x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Kernel9.lean ====
abbrev S8x2048x7680 : Shape := ⟨3, ![8, 2048, 7680]⟩
abbrev S64 : Shape := ⟨1, ![64]⟩
abbrev S3x8x128x256 : Shape := ⟨4, ![3, 8, 128, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x2048x512 : Shape := ⟨3, ![8, 2048, 512]⟩
abbrev S2x8x2x512x128 : Shape := ⟨5, ![2, 8, 2, 512, 128]⟩
abbrev S2x8x2x512x512 : Shape := ⟨5, ![2, 8, 2, 512, 512]⟩
abbrev S2x8x2x512x2048 : Shape := ⟨5, ![2, 8, 2, 512, 2048]⟩
abbrev S1x2048x128 : Shape := ⟨3, ![1, 2048, 128]⟩
abbrev S3x2x128x256 : Shape := ⟨4, ![3, 2, 128, 256]⟩
abbrev S2x1x2x128x128 : Shape := ⟨5, ![2, 1, 2, 128, 128]⟩
abbrev S2x1x2x128x512 : Shape := ⟨5, ![2, 1, 2, 128, 512]⟩
abbrev S2x1x2x128x2048 : Shape := ⟨5, ![2, 1, 2, 128, 2048]⟩
abbrev S2048x128 : Shape := ⟨2, ![2048, 128]⟩
abbrev S3x2048x128 : Shape := ⟨3, ![3, 2048, 128]⟩
abbrev S1x256 : Shape := ⟨2, ![1, 256]⟩
abbrev S2048 : Shape := ⟨1, ![2048]⟩
abbrev S2048x1 : Shape := ⟨2, ![2048, 1]⟩
abbrev S128x128 : Shape := ⟨2, ![128, 128]⟩
abbrev S1x128x128 : Shape := ⟨3, ![1, 128, 128]⟩
abbrev S1x1x1x128x128 : Shape := ⟨5, ![1, 1, 1, 128, 128]⟩
abbrev S1x1x128x256 : Shape := ⟨4, ![1, 1, 128, 256]⟩
abbrev S128x256 : Shape := ⟨2, ![128, 256]⟩
abbrev S256x256 : Shape := ⟨2, ![256, 256]⟩
abbrev S256x128 : Shape := ⟨2, ![256, 128]⟩
abbrev S4096x256 : Shape := ⟨2, ![4096, 256]⟩
abbrev S4096 : Shape := ⟨1, ![4096]⟩
abbrev S4096x1 : Shape := ⟨2, ![4096, 1]⟩
abbrev S256x1 : Shape := ⟨2, ![256, 1]⟩
abbrev S512x128 : Shape := ⟨2, ![512, 128]⟩
abbrev S128x512 : Shape := ⟨2, ![128, 512]⟩
abbrev S1x512x128 : Shape := ⟨3, ![1, 512, 128]⟩
abbrev S1x1x1x128x512 : Shape := ⟨5, ![1, 1, 1, 128, 512]⟩
abbrev S128x2048 : Shape := ⟨2, ![128, 2048]⟩
abbrev S1x1x1x128x2048 : Shape := ⟨5, ![1, 1, 1, 128, 2048]⟩
abbrev S1x1x128x128 : Shape := ⟨4, ![1, 1, 128, 128]⟩
abbrev S4096x128 : Shape := ⟨2, ![4096, 128]⟩

abbrev nBuf : Space → Nat
  | .hbm => 16
  | .vmem => 39
  | .smem => 0
  | _ => 0

abbrev bufTy : (tb : Table) → Fin (tcTables nBuf tb) → BufTy
  | .hbm, ⟨0, _⟩ => ⟨S8x2048x7680, .f32⟩
  | .hbm, ⟨1, _⟩ => ⟨S64, .f32⟩
  | .hbm, ⟨2, _⟩ => ⟨S64, .f32⟩
  | .hbm, ⟨3, _⟩ => ⟨S3x8x128x256, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S8x2048x512, .f32⟩
  | .hbm, ⟨13, _⟩ => ⟨S2x8x2x512x128, .f32⟩
  | .hbm, ⟨14, _⟩ => ⟨S2x8x2x512x512, .f32⟩
  | .hbm, ⟨15, _⟩ => ⟨S2x8x2x512x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x128, .f32⟩
  | .local _ .vmem, ⟨19, _⟩ => ⟨S1x128, .f32⟩
  | .local _ .vmem, ⟨20, _⟩ => ⟨S3x2x128x256, .f32⟩
  | .local _ .vmem, ⟨21, _⟩ => ⟨S3x2x128x256, .f32⟩
  | .local _ .vmem, ⟨22, _⟩ => ⟨S1x2048x128, .f32⟩
  | .local _ .vmem, ⟨23, _⟩ => ⟨S1x2048x128, .f32⟩
  | .local _ .vmem, ⟨24, _⟩ => ⟨S2x1x2x128x128, .f32⟩
  | .local _ .vmem, ⟨25, _⟩ => ⟨S2x1x2x128x128, .f32⟩
  | .local _ .vmem, ⟨26, _⟩ => ⟨S2x1x2x128x512, .f32⟩
  | .local _ .vmem, ⟨27, _⟩ => ⟨S2x1x2x128x512, .f32⟩
  | .local _ .vmem, ⟨28, _⟩ => ⟨S2x1x2x128x2048, .f32⟩
  | .local _ .vmem, ⟨29, _⟩ => ⟨S2x1x2x128x2048, .f32⟩
  | .local _ .vmem, ⟨30, _⟩ => ⟨S2048x128, .f32⟩
  | .local _ .vmem, ⟨31, _⟩ => ⟨S2048x128, .f32⟩
  | .local _ .vmem, ⟨32, _⟩ => ⟨S2048x128, .bf16⟩
  | .local _ .vmem, ⟨33, _⟩ => ⟨S2048x128, .bf16⟩
  | .local _ .vmem, ⟨34, _⟩ => ⟨S2048x128, .bf16⟩
  | .local _ .vmem, ⟨35, _⟩ => ⟨S3x2048x128, .f32⟩
  | .local _ .vmem, ⟨36, _⟩ => ⟨S3x2048x128, .f32⟩
  | .local _ .vmem, ⟨37, _⟩ => ⟨S2048x128, .f32⟩
  | .local _ .vmem, ⟨38, _⟩ => ⟨S2048x128, .f32⟩
  | _, _ => ⟨S8x2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c16_i32 : BitVec 32 := 16#32
  let v110 : BitVec 32 := Scalar.muli c0_i32 c16_i32
  let c0_i32_67 : BitVec 32 := 0#32
  let v111 : BitVec 32 := Scalar.addi v110 c0_i32_67
  let c128_i32_68 : BitVec 32 := 128#32
  let v112 : BitVec 32 := Scalar.muli v111 c128_i32_68
  v112
def k0_off1 (c0_i32_67 : BitVec 32) : Fin 2 → Nat :=
  let c0_i32 : BitVec 32 := 0#32
  let c16_i32 : BitVec 32 := 16#32
  let v110 : BitVec 32 := Scalar.muli c0_i32 c16_i32
  let v111 : BitVec 32 := Scalar.addi v110 c0_i32_67
  let c128_i32_68 : BitVec 32 := 128#32
  let v112 : BitVec 32 := Scalar.muli v111 c128_i32_68
  let v113 : BitVec 32 := v112
  let v114 : Index := Scalar.indexCast v113
  let c0_69 : Index := 0#32
  ![v114.toNat, 0]
def k0_mult2 : BitVec 32 :=
  let c0_i32 : BitVec 32 := 0#32
  let c16_i32 : BitVec 32 := 16#32
  let v110 : BitVec 32 := Scalar.muli c0_i32 c16_i32
  let c0_i32_67 : BitVec 32 := 0#32
  let v111 : BitVec 32 := Scalar.addi v110 c0_i32_67
  let c128_i32_68 : BitVec 32 := 128#32
  let v112 : BitVec 32 := Scalar.muli v111 c128_i32_68
  let v113 : BitVec 32 := v112
  let c128_i32_72 : BitVec 32 := 128#32
  let v125 : BitVec 32 := Scalar.subi v113 c128_i32_72
  let c0_i32_73 : BitVec 32 := 0#32
  let v126 : BitVec 32 := Scalar.maxsi v125 c0_i32_73
  v126
def k0_off2 (c0_i32_67 : BitVec 32) : Fin 2 → Nat :=
  let c0_i32 : BitVec 32 := 0#32
  let c16_i32 : BitVec 32 := 16#32
  let v110 : BitVec 32 := Scalar.muli c0_i32 c16_i32
  let v111 : BitVec 32 := Scalar.addi v110 c0_i32_67
  let c128_i32_68 : BitVec 32 := 128#32
  let v112 : BitVec 32 := Scalar.muli v111 c128_i32_68
  let v113 : BitVec 32 := v112
  let c128_i32_72 : BitVec 32 := 128#32
  let v125 : BitVec 32 := Scalar.subi v113 c128_i32_72
  let c0_i32_73 : BitVec 32 := 0#32
  let v126 : BitVec 32 := Scalar.maxsi v125 c0_i32_73
  let v127 : BitVec 32 := v126
  let v128 : Index := Scalar.indexCast v127
  let c0_74 : Index := 0#32
  ![v128.toNat, 0]
def k0_mult3 : BitVec 32 :=
  let c0_i32 : BitVec 32 := 0#32
  let c16_i32_88 : BitVec 32 := 16#32
  let v157 : BitVec 32 := Scalar.muli c0_i32 c16_i32_88
  let c1_i32_89 : BitVec 32 := 1#32
  let v158 : BitVec 32 := Scalar.addi v157 c1_i32_89
  let c128_i32_90 : BitVec 32 := 128#32
  let v159 : BitVec 32 := Scalar.muli v158 c128_i32_90
  v159
def k0_mult4 : BitVec 32 :=
  let c0_i32 : BitVec 32 := 0#32
  let c16_i32_88 : BitVec 32 := 16#32
  let v157 : BitVec 32 := Scalar.muli c0_i32 c16_i32_88
  let c1_i32_89 : BitVec 32 := 1#32
  let v158 : BitVec 32 := Scalar.addi v157 c1_i32_89
  let c128_i32_90 : BitVec 32 := 128#32
  let v159 : BitVec 32 := Scalar.muli v158 c128_i32_90
  let v160 : BitVec 32 := v159
  let c128_i32_94 : BitVec 32 := 128#32
  let v172 : BitVec 32 := Scalar.subi v160 c128_i32_94
  let c0_i32_95 : BitVec 32 := 0#32
  let v173 : BitVec 32 := Scalar.maxsi v172 c0_i32_95
  v173
def k0_mult5 : BitVec 32 :=
  let c0_i32 : BitVec 32 := 0#32
  let c16_i32_111 : BitVec 32 := 16#32
  let v204 : BitVec 32 := Scalar.muli c0_i32 c16_i32_111
  let c2_i32 : BitVec 32 := 2#32
  let v205 : BitVec 32 := Scalar.addi v204 c2_i32
  let c128_i32_112 : BitVec 32 := 128#32
  let v206 : BitVec 32 := Scalar.muli v205 c128_i32_112
  v206
def k0_mult6 : BitVec 32 :=
  let c0_i32 : BitVec 32 := 0#32
  let c16_i32_111 : BitVec 32 := 16#32
  let v204 : BitVec 32 := Scalar.muli c0_i32 c16_i32_111
  let c2_i32 : BitVec 32 := 2#32
  let v205 : BitVec 32 := Scalar.addi v204 c2_i32
  let c128_i32_112 : BitVec 32 := 128#32
  let v206 : BitVec 32 := Scalar.muli v205 c128_i32_112
  let v207 : BitVec 32 := v206
  let c128_i32_116 : BitVec 32 := 128#32
  let v219 : BitVec 32 := Scalar.subi v207 c128_i32_116
  let c0_i32_117 : BitVec 32 := 0#32
  let v220 : BitVec 32 := Scalar.maxsi v219 c0_i32_117
  v220
def k0_mult7 : BitVec 32 :=
  let c0_i32 : BitVec 32 := 0#32
  let c16_i32_133 : BitVec 32 := 16#32
  let v251 : BitVec 32 := Scalar.muli c0_i32 c16_i32_133
  let c3_i32 : BitVec 32 := 3#32
  let v252 : BitVec 32 := Scalar.addi v251 c3_i32
  let c128_i32_134 : BitVec 32 := 128#32
  let v253 : BitVec 32 := Scalar.muli v252 c128_i32_134
  v253
def k0_mult8 : BitVec 32 :=
  let c0_i32 : BitVec 32 := 0#32
  let c16_i32_133 : BitVec 32 := 16#32
  let v251 : BitVec 32 := Scalar.muli c0_i32 c16_i32_133
  let c3_i32 : BitVec 32 := 3#32
  let v252 : BitVec 32 := Scalar.addi v251 c3_i32
  let c128_i32_134 : BitVec 32 := 128#32
  let v253 : BitVec 32 := Scalar.muli v252 c128_i32_134
  let v254 : BitVec 32 := v253
  let c128_i32_138 : BitVec 32 := 128#32
  let v266 : BitVec 32 := Scalar.subi v254 c128_i32_138
  let c0_i32_139 : BitVec 32 := 0#32
  let v267 : BitVec 32 := Scalar.maxsi v266 c0_i32_139
  v267
def k0_mult9 : BitVec 32 :=
  let c0_i32 : BitVec 32 := 0#32
  let c16_i32_155 : BitVec 32 := 16#32
  let v298 : BitVec 32 := Scalar.muli c0_i32 c16_i32_155
  let c4_i32 : BitVec 32 := 4#32
  let v299 : BitVec 32 := Scalar.addi v298 c4_i32
  let c128_i32_156 : BitVec 32 := 128#32
  let v300 : BitVec 32 := Scalar.muli v299 c128_i32_156
  v300
def k0_mult10 : BitVec 32 :=
  let c0_i32 : BitVec 32 := 0#32
  let c16_i32_155 : BitVec 32 := 16#32
  let v298 : BitVec 32 := Scalar.muli c0_i32 c16_i32_155
  let c4_i32 : BitVec 32 := 4#32
  let v299 : BitVec 32 := Scalar.addi v298 c4_i32
  let c128_i32_156 : BitVec 32 := 128#32
  let v300 : BitVec 32 := Scalar.muli v299 c128_i32_156
  let v301 : BitVec 32 := v300
  let c128_i32_160 : BitVec 32 := 128#32
  let v313 : BitVec 32 := Scalar.subi v301 c128_i32_160
  let c0_i32_161 : BitVec 32 := 0#32
  let v314 : BitVec 32 := Scalar.maxsi v313 c0_i32_161
  v314
def k0_mult11 : BitVec 32 :=
  let c0_i32 : BitVec 32 := 0#32
  let c16_i32_177 : BitVec 32 := 16#32
  let v345 : BitVec 32 := Scalar.muli c0_i32 c16_i32_177
  let c5_i32 : BitVec 32 := 5#32
  let v346 : BitVec 32 := Scalar.addi v345 c5_i32
  let c128_i32_178 : BitVec 32 := 128#32
  let v347 : BitVec 32 := Scalar.muli v346 c128_i32_178
  v347
def k0_mult12 : BitVec 32 :=
  let c0_i32 : BitVec 32 := 0#32
  let c16_i32_177 : BitVec 32 := 16#32
  let v345 : BitVec 32 := Scalar.muli c0_i32 c16_i32_177
  let c5_i32 : BitVec 32 := 5#32
  let v346 : BitVec 32 := Scalar.addi v345 c5_i32
  let c128_i32_178 : BitVec 32 := 128#32
  let v347 : BitVec 32 := Scalar.muli v346 c128_i32_178
  let v348 : BitVec 32 := v347
  let c128_i32_182 : BitVec 32 := 128#32
  let v360 : BitVec 32 := Scalar.subi v348 c128_i32_182
  let c0_i32_183 : BitVec 32 := 0#32
  let v361 : BitVec 32 := Scalar.maxsi v360 c0_i32_183
  v361
def k0_mult13 : BitVec 32 :=
  let c0_i32 : BitVec 32 := 0#32
  let c16_i32_199 : BitVec 32 := 16#32
  let v392 : BitVec 32 := Scalar.muli c0_i32 c16_i32_199
  let c6_i32 : BitVec 32 := 6#32
  let v393 : BitVec 32 := Scalar.addi v392 c6_i32
  let c128_i32_200 : BitVec 32 := 128#32
  let v394 : BitVec 32 := Scalar.muli v393 c128_i32_200
  v394
def k0_mult14 : BitVec 32 :=
  let c0_i32 : BitVec 32 := 0#32
  let c16_i32_199 : BitVec 32 := 16#32
  let v392 : BitVec 32 := Scalar.muli c0_i32 c16_i32_199
  let c6_i32 : BitVec 32 := 6#32
  let v393 : BitVec 32 := Scalar.addi v392 c6_i32
  let c128_i32_200 : BitVec 32 := 128#32
  let v394 : BitVec 32 := Scalar.muli v393 c128_i32_200
  let v395 : BitVec 32 := v394
  let c128_i32_204 : BitVec 32 := 128#32
  let v407 : BitVec 32 := Scalar.subi v395 c128_i32_204
  let c0_i32_205 : BitVec 32 := 0#32
  let v408 : BitVec 32 := Scalar.maxsi v407 c0_i32_205
  v408
def k0_mult15 : BitVec 32 :=
  let c0_i32 : BitVec 32 := 0#32
  let c16_i32_221 : BitVec 32 := 16#32
  let v439 : BitVec 32 := Scalar.muli c0_i32 c16_i32_221
  let c7_i32 : BitVec 32 := 7#32
  let v440 : BitVec 32 := Scalar.addi v439 c7_i32
  let c128_i32_222 : BitVec 32 := 128#32
  let v441 : BitVec 32 := Scalar.muli v440 c128_i32_222
  v441
def k0_mult16 : BitVec 32 :=
  let c0_i32 : BitVec 32 := 0#32
  let c16_i32_221 : BitVec 32 := 16#32
  let v439 : BitVec 32 := Scalar.muli c0_i32 c16_i32_221
  let c7_i32 : BitVec 32 := 7#32
  let v440 : BitVec 32 := Scalar.addi v439 c7_i32
  let c128_i32_222 : BitVec 32 := 128#32
  let v441 : BitVec 32 := Scalar.muli v440 c128_i32_222
  let v442 : BitVec 32 := v441
  let c128_i32_226 : BitVec 32 := 128#32
  let v454 : BitVec 32 := Scalar.subi v442 c128_i32_226
  let c0_i32_227 : BitVec 32 := 0#32
  let v455 : BitVec 32 := Scalar.maxsi v454 c0_i32_227
  v455
def k0_mult17 : BitVec 32 :=
  let c0_i32 : BitVec 32 := 0#32
  let c16_i32_243 : BitVec 32 := 16#32
  let v486 : BitVec 32 := Scalar.muli c0_i32 c16_i32_243
  let c8_i32 : BitVec 32 := 8#32
  let v487 : BitVec 32 := Scalar.addi v486 c8_i32
  let c128_i32_244 : BitVec 32 := 128#32
  let v488 : BitVec 32 := Scalar.muli v487 c128_i32_244
  v488
def k0_mult18 : BitVec 32 :=
  let c0_i32 : BitVec 32 := 0#32
  let c16_i32_243 : BitVec 32 := 16#32
  let v486 : BitVec 32 := Scalar.muli c0_i32 c16_i32_243
  let c8_i32 : BitVec 32 := 8#32
  let v487 : BitVec 32 := Scalar.addi v486 c8_i32
  let c128_i32_244 : BitVec 32 := 128#32
  let v488 : BitVec 32 := Scalar.muli v487 c128_i32_244
  let v489 : BitVec 32 := v488
  let c128_i32_248 : BitVec 32 := 128#32
  let v501 : BitVec 32 := Scalar.subi v489 c128_i32_248
  let c0_i32_249 : BitVec 32 := 0#32
  let v502 : BitVec 32 := Scalar.maxsi v501 c0_i32_249
  v502
def k0_mult19 : BitVec 32 :=
  let c0_i32 : BitVec 32 := 0#32
  let c16_i32_265 : BitVec 32 := 16#32
  let v533 : BitVec 32 := Scalar.muli c0_i32 c16_i32_265
  let c9_i32 : BitVec 32 := 9#32
  let v534 : BitVec 32 := Scalar.addi v533 c9_i32
  let c128_i32_266 : BitVec 32 := 128#32
  let v535 : BitVec 32 := Scalar.muli v534 c128_i32_266
  v535
def k0_mult20 : BitVec 32 :=
  let c0_i32 : BitVec 32 := 0#32
  let c16_i32_265 : BitVec 32 := 16#32
  let v533 : BitVec 32 := Scalar.muli c0_i32 c16_i32_265
  let c9_i32 : BitVec 32 := 9#32
  let v534 : BitVec 32 := Scalar.addi v533 c9_i32
  let c128_i32_266 : BitVec 32 := 128#32
  let v535 : BitVec 32 := Scalar.muli v534 c128_i32_266
  let v536 : BitVec 32 := v535
  let c128_i32_270 : BitVec 32 := 128#32
  let v548 : BitVec 32 := Scalar.subi v536 c128_i32_270
  let c0_i32_271 : BitVec 32 := 0#32
  let v549 : BitVec 32 := Scalar.maxsi v548 c0_i32_271
  v549
def k0_mult21 : BitVec 32 :=
  let c0_i32 : BitVec 32 := 0#32
  let c16_i32_287 : BitVec 32 := 16#32
  let v580 : BitVec 32 := Scalar.muli c0_i32 c16_i32_287
  let c10_i32 : BitVec 32 := 10#32
  let v581 : BitVec 32 := Scalar.addi v580 c10_i32
  let c128_i32_288 : BitVec 32 := 128#32
  let v582 : BitVec 32 := Scalar.muli v581 c128_i32_288
  v582
def k0_mult22 : BitVec 32 :=
  let c0_i32 : BitVec 32 := 0#32
  let c16_i32_287 : BitVec 32 := 16#32
  let v580 : BitVec 32 := Scalar.muli c0_i32 c16_i32_287
  let c10_i32 : BitVec 32 := 10#32
  let v581 : BitVec 32 := Scalar.addi v580 c10_i32
  let c128_i32_288 : BitVec 32 := 128#32
  let v582 : BitVec 32 := Scalar.muli v581 c128_i32_288
  let v583 : BitVec 32 := v582
  let c128_i32_292 : BitVec 32 := 128#32
  let v595 : BitVec 32 := Scalar.subi v583 c128_i32_292
  let c0_i32_293 : BitVec 32 := 0#32
  let v596 : BitVec 32 := Scalar.maxsi v595 c0_i32_293
  v596
def k0_mult23 : BitVec 32 :=
  let c0_i32 : BitVec 32 := 0#32
  let c16_i32_309 : BitVec 32 := 16#32
  let v627 : BitVec 32 := Scalar.muli c0_i32 c16_i32_309
  let c11_i32 : BitVec 32 := 11#32
  let v628 : BitVec 32 := Scalar.addi v627 c11_i32
  let c128_i32_310 : BitVec 32 := 128#32
  let v629 : BitVec 32 := Scalar.muli v628 c128_i32_310
  v629
def k0_mult24 : BitVec 32 :=
  let c0_i32 : BitVec 32 := 0#32
  let c16_i32_309 : BitVec 32 := 16#32
  let v627 : BitVec 32 := Scalar.muli c0_i32 c16_i32_309
  let c11_i32 : BitVec 32 := 11#32
  let v628 : BitVec 32 := Scalar.addi v627 c11_i32
  let c128_i32_310 : BitVec 32 := 128#32
  let v629 : BitVec 32 := Scalar.muli v628 c128_i32_310
  let v630 : BitVec 32 := v629
  let c128_i32_314 : BitVec 32 := 128#32
  let v642 : BitVec 32 := Scalar.subi v630 c128_i32_314
  let c0_i32_315 : BitVec 32 := 0#32
  let v643 : BitVec 32 := Scalar.maxsi v642 c0_i32_315
  v643
def k0_mult25 : BitVec 32 :=
  let c0_i32 : BitVec 32 := 0#32
  let c16_i32_331 : BitVec 32 := 16#32
  let v674 : BitVec 32 := Scalar.muli c0_i32 c16_i32_331
  let c12_i32 : BitVec 32 := 12#32
  let v675 : BitVec 32 := Scalar.addi v674 c12_i32
  let c128_i32_332 : BitVec 32 := 128#32
  let v676 : BitVec 32 := Scalar.muli v675 c128_i32_332
  v676
def k0_mult26 : BitVec 32 :=
  let c0_i32 : BitVec 32 := 0#32
  let c16_i32_331 : BitVec 32 := 16#32
  let v674 : BitVec 32 := Scalar.muli c0_i32 c16_i32_331
  let c12_i32 : BitVec 32 := 12#32
  let v675 : BitVec 32 := Scalar.addi v674 c12_i32
  let c128_i32_332 : BitVec 32 := 128#32
  let v676 : BitVec 32 := Scalar.muli v675 c128_i32_332
  let v677 : BitVec 32 := v676
  let c128_i32_336 : BitVec 32 := 128#32
  let v689 : BitVec 32 := Scalar.subi v677 c128_i32_336
  let c0_i32_337 : BitVec 32 := 0#32
  let v690 : BitVec 32 := Scalar.maxsi v689 c0_i32_337
  v690
def k0_mult27 : BitVec 32 :=
  let c0_i32 : BitVec 32 := 0#32
  let c16_i32_353 : BitVec 32 := 16#32
  let v721 : BitVec 32 := Scalar.muli c0_i32 c16_i32_353
  let c13_i32 : BitVec 32 := 13#32
  let v722 : BitVec 32 := Scalar.addi v721 c13_i32
  let c128_i32_354 : BitVec 32 := 128#32
  let v723 : BitVec 32 := Scalar.muli v722 c128_i32_354
  v723
def k0_mult28 : BitVec 32 :=
  let c0_i32 : BitVec 32 := 0#32
  let c16_i32_353 : BitVec 32 := 16#32
  let v721 : BitVec 32 := Scalar.muli c0_i32 c16_i32_353
  let c13_i32 : BitVec 32 := 13#32
  let v722 : BitVec 32 := Scalar.addi v721 c13_i32
  let c128_i32_354 : BitVec 32 := 128#32
  let v723 : BitVec 32 := Scalar.muli v722 c128_i32_354
  let v724 : BitVec 32 := v723
  let c128_i32_358 : BitVec 32 := 128#32
  let v736 : BitVec 32 := Scalar.subi v724 c128_i32_358
  let c0_i32_359 : BitVec 32 := 0#32
  let v737 : BitVec 32 := Scalar.maxsi v736 c0_i32_359
  v737
def k0_mult29 : BitVec 32 :=
  let c0_i32 : BitVec 32 := 0#32
  let c16_i32_375 : BitVec 32 := 16#32
  let v768 : BitVec 32 := Scalar.muli c0_i32 c16_i32_375
  let c14_i32 : BitVec 32 := 14#32
  let v769 : BitVec 32 := Scalar.addi v768 c14_i32
  let c128_i32_376 : BitVec 32 := 128#32
  let v770 : BitVec 32 := Scalar.muli v769 c128_i32_376
  v770
def k0_mult30 : BitVec 32 :=
  let c0_i32 : BitVec 32 := 0#32
  let c16_i32_375 : BitVec 32 := 16#32
  let v768 : BitVec 32 := Scalar.muli c0_i32 c16_i32_375
  let c14_i32 : BitVec 32 := 14#32
  let v769 : BitVec 32 := Scalar.addi v768 c14_i32
  let c128_i32_376 : BitVec 32 := 128#32
  let v770 : BitVec 32 := Scalar.muli v769 c128_i32_376
  let v771 : BitVec 32 := v770
  let c128_i32_380 : BitVec 32 := 128#32
  let v783 : BitVec 32 := Scalar.subi v771 c128_i32_380
  let c0_i32_381 : BitVec 32 := 0#32
  let v784 : BitVec 32 := Scalar.maxsi v783 c0_i32_381
  v784
def k0_mult31 : BitVec 32 :=
  let c0_i32 : BitVec 32 := 0#32
  let c16_i32_397 : BitVec 32 := 16#32
  let v815 : BitVec 32 := Scalar.muli c0_i32 c16_i32_397
  let c15_i32 : BitVec 32 := 15#32
  let v816 : BitVec 32 := Scalar.addi v815 c15_i32
  let c128_i32_398 : BitVec 32 := 128#32
  let v817 : BitVec 32 := Scalar.muli v816 c128_i32_398
  v817
def k0_mult32 : BitVec 32 :=
  let c0_i32 : BitVec 32 := 0#32
  let c16_i32_397 : BitVec 32 := 16#32
  let v815 : BitVec 32 := Scalar.muli c0_i32 c16_i32_397
  let c15_i32 : BitVec 32 := 15#32
  let v816 : BitVec 32 := Scalar.addi v815 c15_i32
  let c128_i32_398 : BitVec 32 := 128#32
  let v817 : BitVec 32 := Scalar.muli v816 c128_i32_398
  let v818 : BitVec 32 := v817
  let c128_i32_402 : BitVec 32 := 128#32
  let v830 : BitVec 32 := Scalar.subi v818 c128_i32_402
  let c0_i32_403 : BitVec 32 := 0#32
  let v831 : BitVec 32 := Scalar.maxsi v830 c0_i32_403
  v831
def k0_mult33 : BitVec 32 :=
  let c0_i32_600 : BitVec 32 := 0#32
  let c16_i32_601 : BitVec 32 := 16#32
  let v1493 : BitVec 32 := Scalar.muli c0_i32_600 c16_i32_601
  let c0_i32_602 : BitVec 32 := 0#32
  let v1494 : BitVec 32 := Scalar.addi v1493 c0_i32_602
  let c128_i32_603 : BitVec 32 := 128#32
  let v1495 : BitVec 32 := Scalar.muli v1494 c128_i32_603
  v1495
def k0_mult34 : BitVec 32 :=
  let c0_i32_600 : BitVec 32 := 0#32
  let c16_i32_601 : BitVec 32 := 16#32
  let v1493 : BitVec 32 := Scalar.muli c0_i32_600 c16_i32_601
  let c0_i32_602 : BitVec 32 := 0#32
  let v1494 : BitVec 32 := Scalar.addi v1493 c0_i32_602
  let c128_i32_603 : BitVec 32 := 128#32
  let v1495 : BitVec 32 := Scalar.muli v1494 c128_i32_603
  let v1496 : BitVec 32 := v1495
  let c128_i32_607 : BitVec 32 := 128#32
  let v1508 : BitVec 32 := Scalar.subi v1496 c128_i32_607
  let c0_i32_608 : BitVec 32 := 0#32
  let v1509 : BitVec 32 := Scalar.maxsi v1508 c0_i32_608
  v1509
def k0_mult35 : BitVec 32 :=
  let c0_i32_600 : BitVec 32 := 0#32
  let c16_i32_624 : BitVec 32 := 16#32
  let v1540 : BitVec 32 := Scalar.muli c0_i32_600 c16_i32_624
  let c1_i32_625 : BitVec 32 := 1#32
  let v1541 : BitVec 32 := Scalar.addi v1540 c1_i32_625
  let c128_i32_626 : BitVec 32 := 128#32
  let v1542 : BitVec 32 := Scalar.muli v1541 c128_i32_626
  v1542
def k0_mult36 : BitVec 32 :=
  let c0_i32_600 : BitVec 32 := 0#32
  let c16_i32_624 : BitVec 32 := 16#32
  let v1540 : BitVec 32 := Scalar.muli c0_i32_600 c16_i32_624
  let c1_i32_625 : BitVec 32 := 1#32
  let v1541 : BitVec 32 := Scalar.addi v1540 c1_i32_625
  let c128_i32_626 : BitVec 32 := 128#32
  let v1542 : BitVec 32 := Scalar.muli v1541 c128_i32_626
  let v1543 : BitVec 32 := v1542
  let c128_i32_630 : BitVec 32 := 128#32
  let v1555 : BitVec 32 := Scalar.subi v1543 c128_i32_630
  let c0_i32_631 : BitVec 32 := 0#32
  let v1556 : BitVec 32 := Scalar.maxsi v1555 c0_i32_631
  v1556
def k0_mult37 : BitVec 32 :=
  let c0_i32_600 : BitVec 32 := 0#32
  let c16_i32_647 : BitVec 32 := 16#32
  let v1587 : BitVec 32 := Scalar.muli c0_i32_600 c16_i32_647
  let c2_i32_648 : BitVec 32 := 2#32
  let v1588 : BitVec 32 := Scalar.addi v1587 c2_i32_648
  let c128_i32_649 : BitVec 32 := 128#32
  let v1589 : BitVec 32 := Scalar.muli v1588 c128_i32_649
  v1589
def k0_mult38 : BitVec 32 :=
  let c0_i32_600 : BitVec 32 := 0#32
  let c16_i32_647 : BitVec 32 := 16#32
  let v1587 : BitVec 32 := Scalar.muli c0_i32_600 c16_i32_647
  let c2_i32_648 : BitVec 32 := 2#32
  let v1588 : BitVec 32 := Scalar.addi v1587 c2_i32_648
  let c128_i32_649 : BitVec 32 := 128#32
  let v1589 : BitVec 32 := Scalar.muli v1588 c128_i32_649
  let v1590 : BitVec 32 := v1589
  let c128_i32_653 : BitVec 32 := 128#32
  let v1602 : BitVec 32 := Scalar.subi v1590 c128_i32_653
  let c0_i32_654 : BitVec 32 := 0#32
  let v1603 : BitVec 32 := Scalar.maxsi v1602 c0_i32_654
  v1603
def k0_mult39 : BitVec 32 :=
  let c0_i32_600 : BitVec 32 := 0#32
  let c16_i32_670 : BitVec 32 := 16#32
  let v1634 : BitVec 32 := Scalar.muli c0_i32_600 c16_i32_670
  let c3_i32_671 : BitVec 32 := 3#32
  let v1635 : BitVec 32 := Scalar.addi v1634 c3_i32_671
  let c128_i32_672 : BitVec 32 := 128#32
  let v1636 : BitVec 32 := Scalar.muli v1635 c128_i32_672
  v1636
def k0_mult40 : BitVec 32 :=
  let c0_i32_600 : BitVec 32 := 0#32
  let c16_i32_670 : BitVec 32 := 16#32
  let v1634 : BitVec 32 := Scalar.muli c0_i32_600 c16_i32_670
  let c3_i32_671 : BitVec 32 := 3#32
  let v1635 : BitVec 32 := Scalar.addi v1634 c3_i32_671
  let c128_i32_672 : BitVec 32 := 128#32
  let v1636 : BitVec 32 := Scalar.muli v1635 c128_i32_672
  let v1637 : BitVec 32 := v1636
  let c128_i32_676 : BitVec 32 := 128#32
  let v1649 : BitVec 32 := Scalar.subi v1637 c128_i32_676
  let c0_i32_677 : BitVec 32 := 0#32
  let v1650 : BitVec 32 := Scalar.maxsi v1649 c0_i32_677
  v1650
def k0_mult41 : BitVec 32 :=
  let c0_i32_600 : BitVec 32 := 0#32
  let c16_i32_693 : BitVec 32 := 16#32
  let v1681 : BitVec 32 := Scalar.muli c0_i32_600 c16_i32_693
  let c4_i32_694 : BitVec 32 := 4#32
  let v1682 : BitVec 32 := Scalar.addi v1681 c4_i32_694
  let c128_i32_695 : BitVec 32 := 128#32
  let v1683 : BitVec 32 := Scalar.muli v1682 c128_i32_695
  v1683
def k0_mult42 : BitVec 32 :=
  let c0_i32_600 : BitVec 32 := 0#32
  let c16_i32_693 : BitVec 32 := 16#32
  let v1681 : BitVec 32 := Scalar.muli c0_i32_600 c16_i32_693
  let c4_i32_694 : BitVec 32 := 4#32
  let v1682 : BitVec 32 := Scalar.addi v1681 c4_i32_694
  let c128_i32_695 : BitVec 32 := 128#32
  let v1683 : BitVec 32 := Scalar.muli v1682 c128_i32_695
  let v1684 : BitVec 32 := v1683
  let c128_i32_699 : BitVec 32 := 128#32
  let v1696 : BitVec 32 := Scalar.subi v1684 c128_i32_699
  let c0_i32_700 : BitVec 32 := 0#32
  let v1697 : BitVec 32 := Scalar.maxsi v1696 c0_i32_700
  v1697
def k0_mult43 : BitVec 32 :=
  let c0_i32_600 : BitVec 32 := 0#32
  let c16_i32_716 : BitVec 32 := 16#32
  let v1728 : BitVec 32 := Scalar.muli c0_i32_600 c16_i32_716
  let c5_i32_717 : BitVec 32 := 5#32
  let v1729 : BitVec 32 := Scalar.addi v1728 c5_i32_717
  let c128_i32_718 : BitVec 32 := 128#32
  let v1730 : BitVec 32 := Scalar.muli v1729 c128_i32_718
  v1730
def k0_mult44 : BitVec 32 :=
  let c0_i32_600 : BitVec 32 := 0#32
  let c16_i32_716 : BitVec 32 := 16#32
  let v1728 : BitVec 32 := Scalar.muli c0_i32_600 c16_i32_716
  let c5_i32_717 : BitVec 32 := 5#32
  let v1729 : BitVec 32 := Scalar.addi v1728 c5_i32_717
  let c128_i32_718 : BitVec 32 := 128#32
  let v1730 : BitVec 32 := Scalar.muli v1729 c128_i32_718
  let v1731 : BitVec 32 := v1730
  let c128_i32_722 : BitVec 32 := 128#32
  let v1743 : BitVec 32 := Scalar.subi v1731 c128_i32_722
  let c0_i32_723 : BitVec 32 := 0#32
  let v1744 : BitVec 32 := Scalar.maxsi v1743 c0_i32_723
  v1744
def k0_mult45 : BitVec 32 :=
  let c0_i32_600 : BitVec 32 := 0#32
  let c16_i32_739 : BitVec 32 := 16#32
  let v1775 : BitVec 32 := Scalar.muli c0_i32_600 c16_i32_739
  let c6_i32_740 : BitVec 32 := 6#32
  let v1776 : BitVec 32 := Scalar.addi v1775 c6_i32_740
  let c128_i32_741 : BitVec 32 := 128#32
  let v1777 : BitVec 32 := Scalar.muli v1776 c128_i32_741
  v1777
def k0_mult46 : BitVec 32 :=
  let c0_i32_600 : BitVec 32 := 0#32
  let c16_i32_739 : BitVec 32 := 16#32
  let v1775 : BitVec 32 := Scalar.muli c0_i32_600 c16_i32_739
  let c6_i32_740 : BitVec 32 := 6#32
  let v1776 : BitVec 32 := Scalar.addi v1775 c6_i32_740
  let c128_i32_741 : BitVec 32 := 128#32
  let v1777 : BitVec 32 := Scalar.muli v1776 c128_i32_741
  let v1778 : BitVec 32 := v1777
  let c128_i32_745 : BitVec 32 := 128#32
  let v1790 : BitVec 32 := Scalar.subi v1778 c128_i32_745
  let c0_i32_746 : BitVec 32 := 0#32
  let v1791 : BitVec 32 := Scalar.maxsi v1790 c0_i32_746
  v1791
def k0_mult47 : BitVec 32 :=
  let c0_i32_600 : BitVec 32 := 0#32
  let c16_i32_762 : BitVec 32 := 16#32
  let v1822 : BitVec 32 := Scalar.muli c0_i32_600 c16_i32_762
  let c7_i32_763 : BitVec 32 := 7#32
  let v1823 : BitVec 32 := Scalar.addi v1822 c7_i32_763
  let c128_i32_764 : BitVec 32 := 128#32
  let v1824 : BitVec 32 := Scalar.muli v1823 c128_i32_764
  v1824
def k0_mult48 : BitVec 32 :=
  let c0_i32_600 : BitVec 32 := 0#32
  let c16_i32_762 : BitVec 32 := 16#32
  let v1822 : BitVec 32 := Scalar.muli c0_i32_600 c16_i32_762
  let c7_i32_763 : BitVec 32 := 7#32
  let v1823 : BitVec 32 := Scalar.addi v1822 c7_i32_763
  let c128_i32_764 : BitVec 32 := 128#32
  let v1824 : BitVec 32 := Scalar.muli v1823 c128_i32_764
  let v1825 : BitVec 32 := v1824
  let c128_i32_768 : BitVec 32 := 128#32
  let v1837 : BitVec 32 := Scalar.subi v1825 c128_i32_768
  let c0_i32_769 : BitVec 32 := 0#32
  let v1838 : BitVec 32 := Scalar.maxsi v1837 c0_i32_769
  v1838
def k0_mult49 : BitVec 32 :=
  let c0_i32_600 : BitVec 32 := 0#32
  let c16_i32_785 : BitVec 32 := 16#32
  let v1869 : BitVec 32 := Scalar.muli c0_i32_600 c16_i32_785
  let c8_i32_786 : BitVec 32 := 8#32
  let v1870 : BitVec 32 := Scalar.addi v1869 c8_i32_786
  let c128_i32_787 : BitVec 32 := 128#32
  let v1871 : BitVec 32 := Scalar.muli v1870 c128_i32_787
  v1871
def k0_mult50 : BitVec 32 :=
  let c0_i32_600 : BitVec 32 := 0#32
  let c16_i32_785 : BitVec 32 := 16#32
  let v1869 : BitVec 32 := Scalar.muli c0_i32_600 c16_i32_785
  let c8_i32_786 : BitVec 32 := 8#32
  let v1870 : BitVec 32 := Scalar.addi v1869 c8_i32_786
  let c128_i32_787 : BitVec 32 := 128#32
  let v1871 : BitVec 32 := Scalar.muli v1870 c128_i32_787
  let v1872 : BitVec 32 := v1871
  let c128_i32_791 : BitVec 32 := 128#32
  let v1884 : BitVec 32 := Scalar.subi v1872 c128_i32_791
  let c0_i32_792 : BitVec 32 := 0#32
  let v1885 : BitVec 32 := Scalar.maxsi v1884 c0_i32_792
  v1885
def k0_mult51 : BitVec 32 :=
  let c0_i32_600 : BitVec 32 := 0#32
  let c16_i32_808 : BitVec 32 := 16#32
  let v1916 : BitVec 32 := Scalar.muli c0_i32_600 c16_i32_808
  let c9_i32_809 : BitVec 32 := 9#32
  let v1917 : BitVec 32 := Scalar.addi v1916 c9_i32_809
  let c128_i32_810 : BitVec 32 := 128#32
  let v1918 : BitVec 32 := Scalar.muli v1917 c128_i32_810
  v1918
def k0_mult52 : BitVec 32 :=
  let c0_i32_600 : BitVec 32 := 0#32
  let c16_i32_808 : BitVec 32 := 16#32
  let v1916 : BitVec 32 := Scalar.muli c0_i32_600 c16_i32_808
  let c9_i32_809 : BitVec 32 := 9#32
  let v1917 : BitVec 32 := Scalar.addi v1916 c9_i32_809
  let c128_i32_810 : BitVec 32 := 128#32
  let v1918 : BitVec 32 := Scalar.muli v1917 c128_i32_810
  let v1919 : BitVec 32 := v1918
  let c128_i32_814 : BitVec 32 := 128#32
  let v1931 : BitVec 32 := Scalar.subi v1919 c128_i32_814
  let c0_i32_815 : BitVec 32 := 0#32
  let v1932 : BitVec 32 := Scalar.maxsi v1931 c0_i32_815
  v1932
def k0_mult53 : BitVec 32 :=
  let c0_i32_600 : BitVec 32 := 0#32
  let c16_i32_831 : BitVec 32 := 16#32
  let v1963 : BitVec 32 := Scalar.muli c0_i32_600 c16_i32_831
  let c10_i32_832 : BitVec 32 := 10#32
  let v1964 : BitVec 32 := Scalar.addi v1963 c10_i32_832
  let c128_i32_833 : BitVec 32 := 128#32
  let v1965 : BitVec 32 := Scalar.muli v1964 c128_i32_833
  v1965
def k0_mult54 : BitVec 32 :=
  let c0_i32_600 : BitVec 32 := 0#32
  let c16_i32_831 : BitVec 32 := 16#32
  let v1963 : BitVec 32 := Scalar.muli c0_i32_600 c16_i32_831
  let c10_i32_832 : BitVec 32 := 10#32
  let v1964 : BitVec 32 := Scalar.addi v1963 c10_i32_832
  let c128_i32_833 : BitVec 32 := 128#32
  let v1965 : BitVec 32 := Scalar.muli v1964 c128_i32_833
  let v1966 : BitVec 32 := v1965
  let c128_i32_837 : BitVec 32 := 128#32
  let v1978 : BitVec 32 := Scalar.subi v1966 c128_i32_837
  let c0_i32_838 : BitVec 32 := 0#32
  let v1979 : BitVec 32 := Scalar.maxsi v1978 c0_i32_838
  v1979
def k0_mult55 : BitVec 32 :=
  let c0_i32_600 : BitVec 32 := 0#32
  let c16_i32_854 : BitVec 32 := 16#32
  let v2010 : BitVec 32 := Scalar.muli c0_i32_600 c16_i32_854
  let c11_i32_855 : BitVec 32 := 11#32
  let v2011 : BitVec 32 := Scalar.addi v2010 c11_i32_855
  let c128_i32_856 : BitVec 32 := 128#32
  let v2012 : BitVec 32 := Scalar.muli v2011 c128_i32_856
  v2012
def k0_mult56 : BitVec 32 :=
  let c0_i32_600 : BitVec 32 := 0#32
  let c16_i32_854 : BitVec 32 := 16#32
  let v2010 : BitVec 32 := Scalar.muli c0_i32_600 c16_i32_854
  let c11_i32_855 : BitVec 32 := 11#32
  let v2011 : BitVec 32 := Scalar.addi v2010 c11_i32_855
  let c128_i32_856 : BitVec 32 := 128#32
  let v2012 : BitVec 32 := Scalar.muli v2011 c128_i32_856
  let v2013 : BitVec 32 := v2012
  let c128_i32_860 : BitVec 32 := 128#32
  let v2025 : BitVec 32 := Scalar.subi v2013 c128_i32_860
  let c0_i32_861 : BitVec 32 := 0#32
  let v2026 : BitVec 32 := Scalar.maxsi v2025 c0_i32_861
  v2026
def k0_mult57 : BitVec 32 :=
  let c0_i32_600 : BitVec 32 := 0#32
  let c16_i32_877 : BitVec 32 := 16#32
  let v2057 : BitVec 32 := Scalar.muli c0_i32_600 c16_i32_877
  let c12_i32_878 : BitVec 32 := 12#32
  let v2058 : BitVec 32 := Scalar.addi v2057 c12_i32_878
  let c128_i32_879 : BitVec 32 := 128#32
  let v2059 : BitVec 32 := Scalar.muli v2058 c128_i32_879
  v2059
def k0_mult58 : BitVec 32 :=
  let c0_i32_600 : BitVec 32 := 0#32
  let c16_i32_877 : BitVec 32 := 16#32
  let v2057 : BitVec 32 := Scalar.muli c0_i32_600 c16_i32_877
  let c12_i32_878 : BitVec 32 := 12#32
  let v2058 : BitVec 32 := Scalar.addi v2057 c12_i32_878
  let c128_i32_879 : BitVec 32 := 128#32
  let v2059 : BitVec 32 := Scalar.muli v2058 c128_i32_879
  let v2060 : BitVec 32 := v2059
  let c128_i32_883 : BitVec 32 := 128#32
  let v2072 : BitVec 32 := Scalar.subi v2060 c128_i32_883
  let c0_i32_884 : BitVec 32 := 0#32
  let v2073 : BitVec 32 := Scalar.maxsi v2072 c0_i32_884
  v2073
def k0_mult59 : BitVec 32 :=
  let c0_i32_600 : BitVec 32 := 0#32
  let c16_i32_900 : BitVec 32 := 16#32
  let v2104 : BitVec 32 := Scalar.muli c0_i32_600 c16_i32_900
  let c13_i32_901 : BitVec 32 := 13#32
  let v2105 : BitVec 32 := Scalar.addi v2104 c13_i32_901
  let c128_i32_902 : BitVec 32 := 128#32
  let v2106 : BitVec 32 := Scalar.muli v2105 c128_i32_902
  v2106
def k0_mult60 : BitVec 32 :=
  let c0_i32_600 : BitVec 32 := 0#32
  let c16_i32_900 : BitVec 32 := 16#32
  let v2104 : BitVec 32 := Scalar.muli c0_i32_600 c16_i32_900
  let c13_i32_901 : BitVec 32 := 13#32
  let v2105 : BitVec 32 := Scalar.addi v2104 c13_i32_901
  let c128_i32_902 : BitVec 32 := 128#32
  let v2106 : BitVec 32 := Scalar.muli v2105 c128_i32_902
  let v2107 : BitVec 32 := v2106
  let c128_i32_906 : BitVec 32 := 128#32
  let v2119 : BitVec 32 := Scalar.subi v2107 c128_i32_906
  let c0_i32_907 : BitVec 32 := 0#32
  let v2120 : BitVec 32 := Scalar.maxsi v2119 c0_i32_907
  v2120
def k0_mult61 : BitVec 32 :=
  let c0_i32_600 : BitVec 32 := 0#32
  let c16_i32_923 : BitVec 32 := 16#32
  let v2151 : BitVec 32 := Scalar.muli c0_i32_600 c16_i32_923
  let c14_i32_924 : BitVec 32 := 14#32
  let v2152 : BitVec 32 := Scalar.addi v2151 c14_i32_924
  let c128_i32_925 : BitVec 32 := 128#32
  let v2153 : BitVec 32 := Scalar.muli v2152 c128_i32_925
  v2153
def k0_mult62 : BitVec 32 :=
  let c0_i32_600 : BitVec 32 := 0#32
  let c16_i32_923 : BitVec 32 := 16#32
  let v2151 : BitVec 32 := Scalar.muli c0_i32_600 c16_i32_923
  let c14_i32_924 : BitVec 32 := 14#32
  let v2152 : BitVec 32 := Scalar.addi v2151 c14_i32_924
  let c128_i32_925 : BitVec 32 := 128#32
  let v2153 : BitVec 32 := Scalar.muli v2152 c128_i32_925
  let v2154 : BitVec 32 := v2153
  let c128_i32_929 : BitVec 32 := 128#32
  let v2166 : BitVec 32 := Scalar.subi v2154 c128_i32_929
  let c0_i32_930 : BitVec 32 := 0#32
  let v2167 : BitVec 32 := Scalar.maxsi v2166 c0_i32_930
  v2167
def k0_mult63 : BitVec 32 :=
  let c0_i32_600 : BitVec 32 := 0#32
  let c16_i32_946 : BitVec 32 := 16#32
  let v2198 : BitVec 32 := Scalar.muli c0_i32_600 c16_i32_946
  let c15_i32_947 : BitVec 32 := 15#32
  let v2199 : BitVec 32 := Scalar.addi v2198 c15_i32_947
  let c128_i32_948 : BitVec 32 := 128#32
  let v2200 : BitVec 32 := Scalar.muli v2199 c128_i32_948
  v2200
def k0_mult64 : BitVec 32 :=
  let c0_i32_600 : BitVec 32 := 0#32
  let c16_i32_946 : BitVec 32 := 16#32
  let v2198 : BitVec 32 := Scalar.muli c0_i32_600 c16_i32_946
  let c15_i32_947 : BitVec 32 := 15#32
  let v2199 : BitVec 32 := Scalar.addi v2198 c15_i32_947
  let c128_i32_948 : BitVec 32 := 128#32
  let v2200 : BitVec 32 := Scalar.muli v2199 c128_i32_948
  let v2201 : BitVec 32 := v2200
  let c128_i32_952 : BitVec 32 := 128#32
  let v2213 : BitVec 32 := Scalar.subi v2201 c128_i32_952
  let c0_i32_953 : BitVec 32 := 0#32
  let v2214 : BitVec 32 := Scalar.maxsi v2213 c0_i32_953
  v2214
def k0_mult65 : BitVec 32 :=
  let c0_i32_1318 : BitVec 32 := 0#32
  let c16_i32_1319 : BitVec 32 := 16#32
  let v3092 : BitVec 32 := Scalar.muli c0_i32_1318 c16_i32_1319
  let c0_i32_1320 : BitVec 32 := 0#32
  let v3093 : BitVec 32 := Scalar.addi v3092 c0_i32_1320
  let c128_i32_1321 : BitVec 32 := 128#32
  let v3094 : BitVec 32 := Scalar.muli v3093 c128_i32_1321
  v3094
def k0_mult66 : BitVec 32 :=
  let c0_i32_1318 : BitVec 32 := 0#32
  let c16_i32_1328 : BitVec 32 := 16#32
  let v3113 : BitVec 32 := Scalar.muli c0_i32_1318 c16_i32_1328
  let c1_i32_1329 : BitVec 32 := 1#32
  let v3114 : BitVec 32 := Scalar.addi v3113 c1_i32_1329
  let c128_i32_1330 : BitVec 32 := 128#32
  let v3115 : BitVec 32 := Scalar.muli v3114 c128_i32_1330
  v3115
def k0_mult67 : BitVec 32 :=
  let c0_i32_1318 : BitVec 32 := 0#32
  let c16_i32_1337 : BitVec 32 := 16#32
  let v3134 : BitVec 32 := Scalar.muli c0_i32_1318 c16_i32_1337
  let c2_i32_1338 : BitVec 32 := 2#32
  let v3135 : BitVec 32 := Scalar.addi v3134 c2_i32_1338
  let c128_i32_1339 : BitVec 32 := 128#32
  let v3136 : BitVec 32 := Scalar.muli v3135 c128_i32_1339
  v3136
def k0_mult68 : BitVec 32 :=
  let c0_i32_1318 : BitVec 32 := 0#32
  let c16_i32_1346 : BitVec 32 := 16#32
  let v3155 : BitVec 32 := Scalar.muli c0_i32_1318 c16_i32_1346
  let c3_i32_1347 : BitVec 32 := 3#32
  let v3156 : BitVec 32 := Scalar.addi v3155 c3_i32_1347
  let c128_i32_1348 : BitVec 32 := 128#32
  let v3157 : BitVec 32 := Scalar.muli v3156 c128_i32_1348
  v3157
def k0_mult69 : BitVec 32 :=
  let c0_i32_1318 : BitVec 32 := 0#32
  let c16_i32_1355 : BitVec 32 := 16#32
  let v3176 : BitVec 32 := Scalar.muli c0_i32_1318 c16_i32_1355
  let c4_i32_1356 : BitVec 32 := 4#32
  let v3177 : BitVec 32 := Scalar.addi v3176 c4_i32_1356
  let c128_i32_1357 : BitVec 32 := 128#32
  let v3178 : BitVec 32 := Scalar.muli v3177 c128_i32_1357
  v3178
def k0_mult70 : BitVec 32 :=
  let c0_i32_1318 : BitVec 32 := 0#32
  let c16_i32_1364 : BitVec 32 := 16#32
  let v3197 : BitVec 32 := Scalar.muli c0_i32_1318 c16_i32_1364
  let c5_i32_1365 : BitVec 32 := 5#32
  let v3198 : BitVec 32 := Scalar.addi v3197 c5_i32_1365
  let c128_i32_1366 : BitVec 32 := 128#32
  let v3199 : BitVec 32 := Scalar.muli v3198 c128_i32_1366
  v3199
def k0_mult71 : BitVec 32 :=
  let c0_i32_1318 : BitVec 32 := 0#32
  let c16_i32_1373 : BitVec 32 := 16#32
  let v3218 : BitVec 32 := Scalar.muli c0_i32_1318 c16_i32_1373
  let c6_i32_1374 : BitVec 32 := 6#32
  let v3219 : BitVec 32 := Scalar.addi v3218 c6_i32_1374
  let c128_i32_1375 : BitVec 32 := 128#32
  let v3220 : BitVec 32 := Scalar.muli v3219 c128_i32_1375
  v3220
def k0_mult72 : BitVec 32 :=
  let c0_i32_1318 : BitVec 32 := 0#32
  let c16_i32_1382 : BitVec 32 := 16#32
  let v3239 : BitVec 32 := Scalar.muli c0_i32_1318 c16_i32_1382
  let c7_i32_1383 : BitVec 32 := 7#32
  let v3240 : BitVec 32 := Scalar.addi v3239 c7_i32_1383
  let c128_i32_1384 : BitVec 32 := 128#32
  let v3241 : BitVec 32 := Scalar.muli v3240 c128_i32_1384
  v3241
def k0_mult73 : BitVec 32 :=
  let c0_i32_1318 : BitVec 32 := 0#32
  let c16_i32_1391 : BitVec 32 := 16#32
  let v3260 : BitVec 32 := Scalar.muli c0_i32_1318 c16_i32_1391
  let c8_i32_1392 : BitVec 32 := 8#32
  let v3261 : BitVec 32 := Scalar.addi v3260 c8_i32_1392
  let c128_i32_1393 : BitVec 32 := 128#32
  let v3262 : BitVec 32 := Scalar.muli v3261 c128_i32_1393
  v3262
def k0_mult74 : BitVec 32 :=
  let c0_i32_1318 : BitVec 32 := 0#32
  let c16_i32_1400 : BitVec 32 := 16#32
  let v3281 : BitVec 32 := Scalar.muli c0_i32_1318 c16_i32_1400
  let c9_i32_1401 : BitVec 32 := 9#32
  let v3282 : BitVec 32 := Scalar.addi v3281 c9_i32_1401
  let c128_i32_1402 : BitVec 32 := 128#32
  let v3283 : BitVec 32 := Scalar.muli v3282 c128_i32_1402
  v3283
def k0_mult75 : BitVec 32 :=
  let c0_i32_1318 : BitVec 32 := 0#32
  let c16_i32_1409 : BitVec 32 := 16#32
  let v3302 : BitVec 32 := Scalar.muli c0_i32_1318 c16_i32_1409
  let c10_i32_1410 : BitVec 32 := 10#32
  let v3303 : BitVec 32 := Scalar.addi v3302 c10_i32_1410
  let c128_i32_1411 : BitVec 32 := 128#32
  let v3304 : BitVec 32 := Scalar.muli v3303 c128_i32_1411
  v3304
def k0_mult76 : BitVec 32 :=
  let c0_i32_1318 : BitVec 32 := 0#32
  let c16_i32_1418 : BitVec 32 := 16#32
  let v3323 : BitVec 32 := Scalar.muli c0_i32_1318 c16_i32_1418
  let c11_i32_1419 : BitVec 32 := 11#32
  let v3324 : BitVec 32 := Scalar.addi v3323 c11_i32_1419
  let c128_i32_1420 : BitVec 32 := 128#32
  let v3325 : BitVec 32 := Scalar.muli v3324 c128_i32_1420
  v3325
def k0_mult77 : BitVec 32 :=
  let c0_i32_1318 : BitVec 32 := 0#32
  let c16_i32_1427 : BitVec 32 := 16#32
  let v3344 : BitVec 32 := Scalar.muli c0_i32_1318 c16_i32_1427
  let c12_i32_1428 : BitVec 32 := 12#32
  let v3345 : BitVec 32 := Scalar.addi v3344 c12_i32_1428
  let c128_i32_1429 : BitVec 32 := 128#32
  let v3346 : BitVec 32 := Scalar.muli v3345 c128_i32_1429
  v3346
def k0_mult78 : BitVec 32 :=
  let c0_i32_1318 : BitVec 32 := 0#32
  let c16_i32_1436 : BitVec 32 := 16#32
  let v3365 : BitVec 32 := Scalar.muli c0_i32_1318 c16_i32_1436
  let c13_i32_1437 : BitVec 32 := 13#32
  let v3366 : BitVec 32 := Scalar.addi v3365 c13_i32_1437
  let c128_i32_1438 : BitVec 32 := 128#32
  let v3367 : BitVec 32 := Scalar.muli v3366 c128_i32_1438
  v3367
def k0_mult79 : BitVec 32 :=
  let c0_i32_1318 : BitVec 32 := 0#32
  let c16_i32_1445 : BitVec 32 := 16#32
  let v3386 : BitVec 32 := Scalar.muli c0_i32_1318 c16_i32_1445
  let c14_i32_1446 : BitVec 32 := 14#32
  let v3387 : BitVec 32 := Scalar.addi v3386 c14_i32_1446
  let c128_i32_1447 : BitVec 32 := 128#32
  let v3388 : BitVec 32 := Scalar.muli v3387 c128_i32_1447
  v3388
def k0_mult80 : BitVec 32 :=
  let c0_i32_1318 : BitVec 32 := 0#32
  let c16_i32_1454 : BitVec 32 := 16#32
  let v3407 : BitVec 32 := Scalar.muli c0_i32_1318 c16_i32_1454
  let c15_i32_1455 : BitVec 32 := 15#32
  let v3408 : BitVec 32 := Scalar.addi v3407 c15_i32_1455
  let c128_i32_1456 : BitVec 32 := 128#32
  let v3409 : BitVec 32 := Scalar.muli v3408 c128_i32_1456
  v3409
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S3x2x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x1x2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x1x2x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x1x2x128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference9Ideal.lean ====
abbrev S8x2048x7680 : Shape := ⟨3, ![8, 2048, 7680]⟩
abbrev S64 : Shape := ⟨1, ![64]⟩
abbrev S3x8x128x256 : Shape := ⟨4, ![3, 8, 128, 256]⟩
abbrev S8x2048x1536 : Shape := ⟨3, ![8, 2048, 1536]⟩
abbrev S8x2048x3x8x64 : Shape := ⟨5, ![8, 2048, 3, 8, 64]⟩
abbrev S_ : Shape := ⟨0, ![]⟩
abbrev S8x2048x3x8 : Shape := ⟨4, ![8, 2048, 3, 8]⟩
abbrev S8x2048x3x8x1 : Shape := ⟨5, ![8, 2048, 3, 8, 1]⟩
abbrev S1x1x1x1x64 : Shape := ⟨5, ![1, 1, 1, 1, 64]⟩
abbrev S8x128x1x8x64 : Shape := ⟨5, ![8, 128, 1, 8, 64]⟩
abbrev S8x128x8x64 : Shape := ⟨4, ![8, 128, 8, 64]⟩
abbrev S8x1x128x8x64 : Shape := ⟨5, ![8, 1, 128, 8, 64]⟩
abbrev S8x2x128x8x64 : Shape := ⟨5, ![8, 2, 128, 8, 64]⟩
abbrev S8x2x128x512 : Shape := ⟨4, ![8, 2, 128, 512]⟩
abbrev S8x2x512x128 : Shape := ⟨4, ![8, 2, 512, 128]⟩
abbrev S1x8x2x512x128 : Shape := ⟨5, ![1, 8, 2, 512, 128]⟩
abbrev S2x8x2x512x128 : Shape := ⟨5, ![2, 8, 2, 512, 128]⟩
abbrev S8x512x1x8x64 : Shape := ⟨5, ![8, 512, 1, 8, 64]⟩
abbrev S8x512x8x64 : Shape := ⟨4, ![8, 512, 8, 64]⟩
abbrev S8x1x512x8x64 : Shape := ⟨5, ![8, 1, 512, 8, 64]⟩
abbrev S8x2x512x8x64 : Shape := ⟨5, ![8, 2, 512, 8, 64]⟩
abbrev S8x2x512x512 : Shape := ⟨4, ![8, 2, 512, 512]⟩
abbrev S1x8x2x512x512 : Shape := ⟨5, ![1, 8, 2, 512, 512]⟩
abbrev S2x8x2x512x512 : Shape := ⟨5, ![2, 8, 2, 512, 512]⟩
abbrev S8x2048x1x8x64 : Shape := ⟨5, ![8, 2048, 1, 8, 64]⟩
abbrev S8x2048x8x64 : Shape := ⟨4, ![8, 2048, 8, 64]⟩
abbrev S8x1x2048x8x64 : Shape := ⟨5, ![8, 1, 2048, 8, 64]⟩
abbrev S8x2x2048x8x64 : Shape := ⟨5, ![8, 2, 2048, 8, 64]⟩
abbrev S8x2x2048x512 : Shape := ⟨4, ![8, 2, 2048, 512]⟩
abbrev S8x2x512x2048 : Shape := ⟨4, ![8, 2, 512, 2048]⟩
abbrev S1x8x2x512x2048 : Shape := ⟨5, ![1, 8, 2, 512, 2048]⟩
abbrev S2x8x2x512x2048 : Shape := ⟨5, ![2, 8, 2, 512, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x7680, .f32⟩
  | .hbm, ⟨1, _⟩ => ⟨S64, .f32⟩
  | .hbm, ⟨2, _⟩ => ⟨S64, .f32⟩
  | .hbm, ⟨3, _⟩ => ⟨S3x8x128x256, .f32⟩
  | .hbm, ⟨4, _⟩ => ⟨S8x2048x1536, .f32⟩
  | .hbm, ⟨5, _⟩ => ⟨S8x2048x3x8x64, .f32⟩
  | .hbm, ⟨6, _⟩ => ⟨S8x2048x3x8x64, .f32⟩
  | .hbm, ⟨7, _⟩ => ⟨S_, .f32⟩
  | .hbm, ⟨8, _⟩ => ⟨S8x2048x3x8, .f32⟩
  | .hbm, ⟨9, _⟩ => ⟨S8x2048x3x8x1, .f32⟩
  | .hbm, ⟨10, _⟩ => ⟨S_, .f32⟩
  | .hbm, ⟨11, _⟩ => ⟨S8x2048x3x8x1, .f32⟩
  | .hbm, ⟨12, _⟩ => ⟨S8x2048x3x8x1, .f32⟩
  | .hbm, ⟨13, _⟩ => ⟨S_, .f32⟩
  | .hbm, ⟨14, _⟩ => ⟨S8x2048x3x8x1, .f32⟩
  | .hbm, ⟨15, _⟩ => ⟨S8x2048x3x8x1, .f32⟩
  | .hbm, ⟨16, _⟩ => ⟨S8x2048x3x8x1, .f32⟩
  | .hbm, ⟨17, _⟩ => ⟨S8x2048x3x8x64, .f32⟩
  | .hbm, ⟨18, _⟩ => ⟨S8x2048x3x8x64, .f32⟩
  | .hbm, ⟨19, _⟩ => ⟨S1x1x1x1x64, .f32⟩
  | .hbm, ⟨20, _⟩ => ⟨S8x2048x3x8x64, .f32⟩
  | .hbm, ⟨21, _⟩ => ⟨S8x2048x3x8x64, .f32⟩
  | .hbm, ⟨22, _⟩ => ⟨S8x2048x1536, .f32⟩
  | .hbm, ⟨23, _⟩ => ⟨S8x2048x3x8x64, .f32⟩
  | .hbm, ⟨24, _⟩ => ⟨S8x128x1x8x64, .f32⟩
  | .hbm, ⟨25, _⟩ => ⟨S8x128x8x64, .f32⟩
  | .hbm, ⟨26, _⟩ => ⟨S8x128x1x8x64, .f32⟩
  | .hbm, ⟨27, _⟩ => ⟨S8x128x8x64, .f32⟩
  | .hbm, ⟨28, _⟩ => ⟨S8x1x128x8x64, .f32⟩
  | .hbm, ⟨29, _⟩ => ⟨S8x1x128x8x64, .f32⟩
  | .hbm, ⟨30, _⟩ => ⟨S8x2x128x8x64, .f32⟩
  | .hbm, ⟨31, _⟩ => ⟨S8x2x128x512, .f32⟩
  | .hbm, ⟨32, _⟩ => ⟨S8x2x512x128, .f32⟩
  | .hbm, ⟨33, _⟩ => ⟨S1x8x2x512x128, .f32⟩
  | .hbm, ⟨34, _⟩ => ⟨S1x8x2x512x128, .f32⟩
  | .hbm, ⟨35, _⟩ => ⟨S2x8x2x512x128, .f32⟩
  | .hbm, ⟨36, _⟩ => ⟨S8x512x1x8x64, .f32⟩
  | .hbm, ⟨37, _⟩ => ⟨S8x512x8x64, .f32⟩
  | .hbm, ⟨38, _⟩ => ⟨S8x512x1x8x64, .f32⟩
  | .hbm, ⟨39, _⟩ => ⟨S8x512x8x64, .f32⟩
  | .hbm, ⟨40, _⟩ => ⟨S8x1x512x8x64, .f32⟩
  | .hbm, ⟨41, _⟩ => ⟨S8x1x512x8x64, .f32⟩
  | .hbm, ⟨42, _⟩ => ⟨S8x2x512x8x64, .f32⟩
  | .hbm, ⟨43, _⟩ => ⟨S8x2x512x512, .f32⟩
  | .hbm, ⟨44, _⟩ => ⟨S8x2x512x512, .f32⟩
  | .hbm, ⟨45, _⟩ => ⟨S1x8x2x512x512, .f32⟩
  | .hbm, ⟨46, _⟩ => ⟨S1x8x2x512x512, .f32⟩
  | .hbm, ⟨47, _⟩ => ⟨S2x8x2x512x512, .f32⟩
  | .hbm, ⟨48, _⟩ => ⟨S8x2048x1x8x64, .f32⟩
  | .hbm, ⟨49, _⟩ => ⟨S8x2048x8x64, .f32⟩
  | .hbm, ⟨50, _⟩ => ⟨S8x2048x1x8x64, .f32⟩
  | .hbm, ⟨51, _⟩ => ⟨S8x2048x8x64, .f32⟩
  | .hbm, ⟨52, _⟩ => ⟨S8x1x2048x8x64, .f32⟩
  | .hbm, ⟨53, _⟩ => ⟨S8x1x2048x8x64, .f32⟩
  | .hbm, ⟨54, _⟩ => ⟨S8x2x2048x8x64, .f32⟩
  | .hbm, ⟨55, _⟩ => ⟨S8x2x2048x512, .f32⟩
  | .hbm, ⟨56, _⟩ => ⟨S8x2x512x2048, .f32⟩
  | .hbm, ⟨57, _⟩ => ⟨S1x8x2x512x2048, .f32⟩
  | .hbm, ⟨58, _⟩ => ⟨S1x8x2x512x2048, .f32⟩
  | .hbm, ⟨59, _⟩ => ⟨S2x8x2x512x2048, .f32⟩
  | _, _ => ⟨S8x2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩

abbrev nD : Nat := 1
abbrev τ : Topo := Topo.v7x

variable {F : FTy → Type} [FloatOps F]
-- ==== Kernel10.lean ====
abbrev S8x2048x7680 : Shape := ⟨3, ![8, 2048, 7680]⟩
abbrev S64 : Shape := ⟨1, ![64]⟩
abbrev S3x8x128x256 : Shape := ⟨4, ![3, 8, 128, 256]⟩
abbrev S2x8x2x512x128 : Shape := ⟨5, ![2, 8, 2, 512, 128]⟩
abbrev S2x8x2x512x512 : Shape := ⟨5, ![2, 8, 2, 512, 512]⟩
abbrev S2x8x2x512x2048 : Shape := ⟨5, ![2, 8, 2, 512, 2048]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x2048x512 : Shape := ⟨3, ![8, 2048, 512]⟩
abbrev S1x2048x128 : Shape := ⟨3, ![1, 2048, 128]⟩
abbrev S3x2x128x256 : Shape := ⟨4, ![3, 2, 128, 256]⟩
abbrev S1x1x2x128x128 : Shape := ⟨5, ![1, 1, 2, 128, 128]⟩
abbrev S1x1x2x128x512 : Shape := ⟨5, ![1, 1, 2, 128, 512]⟩
abbrev S1x1x2x128x2048 : Shape := ⟨5, ![1, 1, 2, 128, 2048]⟩
abbrev S2048x128 : Shape := ⟨2, ![2048, 128]⟩
abbrev S3x2048x128 : Shape := ⟨3, ![3, 2048, 128]⟩
abbrev S1x256 : Shape := ⟨2, ![1, 256]⟩
abbrev S2048 : Shape := ⟨1, ![2048]⟩
abbrev S2048x1 : Shape := ⟨2, ![2048, 1]⟩
abbrev S128x128 : Shape := ⟨2, ![128, 128]⟩
abbrev S1x128x128 : Shape := ⟨3, ![1, 128, 128]⟩
abbrev S1x1x1x128x128 : Shape := ⟨5, ![1, 1, 1, 128, 128]⟩
abbrev S1x1x128x256 : Shape := ⟨4, ![1, 1, 128, 256]⟩
abbrev S128x256 : Shape := ⟨2, ![128, 256]⟩
abbrev S256x256 : Shape := ⟨2, ![256, 256]⟩
abbrev S256x128 : Shape := ⟨2, ![256, 128]⟩
abbrev S4096x256 : Shape := ⟨2, ![4096, 256]⟩
abbrev S4096 : Shape := ⟨1, ![4096]⟩
abbrev S4096x1 : Shape := ⟨2, ![4096, 1]⟩
abbrev S256x1 : Shape := ⟨2, ![256, 1]⟩
abbrev S512x128 : Shape := ⟨2, ![512, 128]⟩
abbrev S128x512 : Shape := ⟨2, ![128, 512]⟩
abbrev S1x512x128 : Shape := ⟨3, ![1, 512, 128]⟩
abbrev S1x1x1x128x512 : Shape := ⟨5, ![1, 1, 1, 128, 512]⟩
abbrev S128x2048 : Shape := ⟨2, ![128, 2048]⟩
abbrev S1x1x1x128x2048 : Shape := ⟨5, ![1, 1, 1, 128, 2048]⟩
abbrev S1x1x128x128 : Shape := ⟨4, ![1, 1, 128, 128]⟩
abbrev S4096x128 : Shape := ⟨2, ![4096, 128]⟩

abbrev nBuf : Space → Nat
  | .hbm => 19
  | .vmem => 39
  | .smem => 0
  | _ => 0

abbrev bufTy : (tb : Table) → Fin (tcTables nBuf tb) → BufTy
  | .hbm, ⟨0, _⟩ => ⟨S8x2048x7680, .f32⟩
  | .hbm, ⟨1, _⟩ => ⟨S64, .f32⟩
  | .hbm, ⟨2, _⟩ => ⟨S64, .f32⟩
  | .hbm, ⟨3, _⟩ => ⟨S3x8x128x256, .f32⟩
  | .hbm, ⟨4, _⟩ => ⟨S2x8x2x512x128, .f32⟩
  | .hbm, ⟨5, _⟩ => ⟨S2x8x2x512x512, .f32⟩
  | .hbm, ⟨6, _⟩ => ⟨S2x8x2x512x2048, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S8x2048x512, .f32⟩
  | .hbm, ⟨16, _⟩ => ⟨S2x8x2x512x128, .f32⟩
  | .hbm, ⟨17, _⟩ => ⟨S2x8x2x512x512, .f32⟩
  | .hbm, ⟨18, _⟩ => ⟨S2x8x2x512x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x128, .f32⟩
  | .local _ .vmem, ⟨19, _⟩ => ⟨S1x128, .f32⟩
  | .local _ .vmem, ⟨20, _⟩ => ⟨S3x2x128x256, .f32⟩
  | .local _ .vmem, ⟨21, _⟩ => ⟨S3x2x128x256, .f32⟩
  | .local _ .vmem, ⟨22, _⟩ => ⟨S1x2048x128, .f32⟩
  | .local _ .vmem, ⟨23, _⟩ => ⟨S1x2048x128, .f32⟩
  | .local _ .vmem, ⟨24, _⟩ => ⟨S1x1x2x128x128, .f32⟩
  | .local _ .vmem, ⟨25, _⟩ => ⟨S1x1x2x128x128, .f32⟩
  | .local _ .vmem, ⟨26, _⟩ => ⟨S1x1x2x128x512, .f32⟩
  | .local _ .vmem, ⟨27, _⟩ => ⟨S1x1x2x128x512, .f32⟩
  | .local _ .vmem, ⟨28, _⟩ => ⟨S1x1x2x128x2048, .f32⟩
  | .local _ .vmem, ⟨29, _⟩ => ⟨S1x1x2x128x2048, .f32⟩
  | .local _ .vmem, ⟨30, _⟩ => ⟨S2048x128, .f32⟩
  | .local _ .vmem, ⟨31, _⟩ => ⟨S2048x128, .f32⟩
  | .local _ .vmem, ⟨32, _⟩ => ⟨S2048x128, .bf16⟩
  | .local _ .vmem, ⟨33, _⟩ => ⟨S2048x128, .bf16⟩
  | .local _ .vmem, ⟨34, _⟩ => ⟨S2048x128, .bf16⟩
  | .local _ .vmem, ⟨35, _⟩ => ⟨S3x2048x128, .f32⟩
  | .local _ .vmem, ⟨36, _⟩ => ⟨S3x2048x128, .f32⟩
  | .local _ .vmem, ⟨37, _⟩ => ⟨S2048x128, .f32⟩
  | .local _ .vmem, ⟨38, _⟩ => ⟨S2048x128, .f32⟩
  | _, _ => ⟨S8x2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c16_i32 : BitVec 32 := 16#32
  let v104 : BitVec 32 := Scalar.muli c0_i32 c16_i32
  let c0_i32_57 : BitVec 32 := 0#32
  let v105 : BitVec 32 := Scalar.addi v104 c0_i32_57
  let c128_i32_58 : BitVec 32 := 128#32
  let v106 : BitVec 32 := Scalar.muli v105 c128_i32_58
  v106
def k0_off1 (c0_i32_57 : BitVec 32) : Fin 2 → Nat :=
  let c0_i32 : BitVec 32 := 0#32
  let c16_i32 : BitVec 32 := 16#32
  let v104 : BitVec 32 := Scalar.muli c0_i32 c16_i32
  let v105 : BitVec 32 := Scalar.addi v104 c0_i32_57
  let c128_i32_58 : BitVec 32 := 128#32
  let v106 : BitVec 32 := Scalar.muli v105 c128_i32_58
  let v107 : BitVec 32 := v106
  let v108 : Index := Scalar.indexCast v107
  let c0_59 : Index := 0#32
  ![v108.toNat, 0]
def k0_mult2 : BitVec 32 :=
  let c0_i32 : BitVec 32 := 0#32
  let c16_i32 : BitVec 32 := 16#32
  let v104 : BitVec 32 := Scalar.muli c0_i32 c16_i32
  let c0_i32_57 : BitVec 32 := 0#32
  let v105 : BitVec 32 := Scalar.addi v104 c0_i32_57
  let c128_i32_58 : BitVec 32 := 128#32
  let v106 : BitVec 32 := Scalar.muli v105 c128_i32_58
  let v107 : BitVec 32 := v106
  let c128_i32_62 : BitVec 32 := 128#32
  let v119 : BitVec 32 := Scalar.subi v107 c128_i32_62
  let c0_i32_63 : BitVec 32 := 0#32
  let v120 : BitVec 32 := Scalar.maxsi v119 c0_i32_63
  v120
def k0_off2 (c0_i32_57 : BitVec 32) : Fin 2 → Nat :=
  let c0_i32 : BitVec 32 := 0#32
  let c16_i32 : BitVec 32 := 16#32
  let v104 : BitVec 32 := Scalar.muli c0_i32 c16_i32
  let v105 : BitVec 32 := Scalar.addi v104 c0_i32_57
  let c128_i32_58 : BitVec 32 := 128#32
  let v106 : BitVec 32 := Scalar.muli v105 c128_i32_58
  let v107 : BitVec 32 := v106
  let c128_i32_62 : BitVec 32 := 128#32
  let v119 : BitVec 32 := Scalar.subi v107 c128_i32_62
  let c0_i32_63 : BitVec 32 := 0#32
  let v120 : BitVec 32 := Scalar.maxsi v119 c0_i32_63
  let v121 : BitVec 32 := v120
  let v122 : Index := Scalar.indexCast v121
  let c0_64 : Index := 0#32
  ![v122.toNat, 0]
def k0_mult3 : BitVec 32 :=
  let c0_i32 : BitVec 32 := 0#32
  let c16_i32_78 : BitVec 32 := 16#32
  let v151 : BitVec 32 := Scalar.muli c0_i32 c16_i32_78
  let c1_i32_79 : BitVec 32 := 1#32
  let v152 : BitVec 32 := Scalar.addi v151 c1_i32_79
  let c128_i32_80 : BitVec 32 := 128#32
  let v153 : BitVec 32 := Scalar.muli v152 c128_i32_80
  v153
def k0_mult4 : BitVec 32 :=
  let c0_i32 : BitVec 32 := 0#32
  let c16_i32_78 : BitVec 32 := 16#32
  let v151 : BitVec 32 := Scalar.muli c0_i32 c16_i32_78
  let c1_i32_79 : BitVec 32 := 1#32
  let v152 : BitVec 32 := Scalar.addi v151 c1_i32_79
  let c128_i32_80 : BitVec 32 := 128#32
  let v153 : BitVec 32 := Scalar.muli v152 c128_i32_80
  let v154 : BitVec 32 := v153
  let c128_i32_84 : BitVec 32 := 128#32
  let v166 : BitVec 32 := Scalar.subi v154 c128_i32_84
  let c0_i32_85 : BitVec 32 := 0#32
  let v167 : BitVec 32 := Scalar.maxsi v166 c0_i32_85
  v167
def k0_mult5 : BitVec 32 :=
  let c0_i32 : BitVec 32 := 0#32
  let c16_i32_101 : BitVec 32 := 16#32
  let v198 : BitVec 32 := Scalar.muli c0_i32 c16_i32_101
  let c2_i32 : BitVec 32 := 2#32
  let v199 : BitVec 32 := Scalar.addi v198 c2_i32
  let c128_i32_102 : BitVec 32 := 128#32
  let v200 : BitVec 32 := Scalar.muli v199 c128_i32_102
  v200
def k0_mult6 : BitVec 32 :=
  let c0_i32 : BitVec 32 := 0#32
  let c16_i32_101 : BitVec 32 := 16#32
  let v198 : BitVec 32 := Scalar.muli c0_i32 c16_i32_101
  let c2_i32 : BitVec 32 := 2#32
  let v199 : BitVec 32 := Scalar.addi v198 c2_i32
  let c128_i32_102 : BitVec 32 := 128#32
  let v200 : BitVec 32 := Scalar.muli v199 c128_i32_102
  let v201 : BitVec 32 := v200
  let c128_i32_106 : BitVec 32 := 128#32
  let v213 : BitVec 32 := Scalar.subi v201 c128_i32_106
  let c0_i32_107 : BitVec 32 := 0#32
  let v214 : BitVec 32 := Scalar.maxsi v213 c0_i32_107
  v214
def k0_mult7 : BitVec 32 :=
  let c0_i32 : BitVec 32 := 0#32
  let c16_i32_123 : BitVec 32 := 16#32
  let v245 : BitVec 32 := Scalar.muli c0_i32 c16_i32_123
  let c3_i32 : BitVec 32 := 3#32
  let v246 : BitVec 32 := Scalar.addi v245 c3_i32
  let c128_i32_124 : BitVec 32 := 128#32
  let v247 : BitVec 32 := Scalar.muli v246 c128_i32_124
  v247
def k0_mult8 : BitVec 32 :=
  let c0_i32 : BitVec 32 := 0#32
  let c16_i32_123 : BitVec 32 := 16#32
  let v245 : BitVec 32 := Scalar.muli c0_i32 c16_i32_123
  let c3_i32 : BitVec 32 := 3#32
  let v246 : BitVec 32 := Scalar.addi v245 c3_i32
  let c128_i32_124 : BitVec 32 := 128#32
  let v247 : BitVec 32 := Scalar.muli v246 c128_i32_124
  let v248 : BitVec 32 := v247
  let c128_i32_128 : BitVec 32 := 128#32
  let v260 : BitVec 32 := Scalar.subi v248 c128_i32_128
  let c0_i32_129 : BitVec 32 := 0#32
  let v261 : BitVec 32 := Scalar.maxsi v260 c0_i32_129
  v261
def k0_mult9 : BitVec 32 :=
  let c0_i32 : BitVec 32 := 0#32
  let c16_i32_145 : BitVec 32 := 16#32
  let v292 : BitVec 32 := Scalar.muli c0_i32 c16_i32_145
  let c4_i32 : BitVec 32 := 4#32
  let v293 : BitVec 32 := Scalar.addi v292 c4_i32
  let c128_i32_146 : BitVec 32 := 128#32
  let v294 : BitVec 32 := Scalar.muli v293 c128_i32_146
  v294
def k0_mult10 : BitVec 32 :=
  let c0_i32 : BitVec 32 := 0#32
  let c16_i32_145 : BitVec 32 := 16#32
  let v292 : BitVec 32 := Scalar.muli c0_i32 c16_i32_145
  let c4_i32 : BitVec 32 := 4#32
  let v293 : BitVec 32 := Scalar.addi v292 c4_i32
  let c128_i32_146 : BitVec 32 := 128#32
  let v294 : BitVec 32 := Scalar.muli v293 c128_i32_146
  let v295 : BitVec 32 := v294
  let c128_i32_150 : BitVec 32 := 128#32
  let v307 : BitVec 32 := Scalar.subi v295 c128_i32_150
  let c0_i32_151 : BitVec 32 := 0#32
  let v308 : BitVec 32 := Scalar.maxsi v307 c0_i32_151
  v308
def k0_mult11 : BitVec 32 :=
  let c0_i32 : BitVec 32 := 0#32
  let c16_i32_167 : BitVec 32 := 16#32
  let v339 : BitVec 32 := Scalar.muli c0_i32 c16_i32_167
  let c5_i32 : BitVec 32 := 5#32
  let v340 : BitVec 32 := Scalar.addi v339 c5_i32
  let c128_i32_168 : BitVec 32 := 128#32
  let v341 : BitVec 32 := Scalar.muli v340 c128_i32_168
  v341
def k0_mult12 : BitVec 32 :=
  let c0_i32 : BitVec 32 := 0#32
  let c16_i32_167 : BitVec 32 := 16#32
  let v339 : BitVec 32 := Scalar.muli c0_i32 c16_i32_167
  let c5_i32 : BitVec 32 := 5#32
  let v340 : BitVec 32 := Scalar.addi v339 c5_i32
  let c128_i32_168 : BitVec 32 := 128#32
  let v341 : BitVec 32 := Scalar.muli v340 c128_i32_168
  let v342 : BitVec 32 := v341
  let c128_i32_172 : BitVec 32 := 128#32
  let v354 : BitVec 32 := Scalar.subi v342 c128_i32_172
  let c0_i32_173 : BitVec 32 := 0#32
  let v355 : BitVec 32 := Scalar.maxsi v354 c0_i32_173
  v355
def k0_mult13 : BitVec 32 :=
  let c0_i32 : BitVec 32 := 0#32
  let c16_i32_189 : BitVec 32 := 16#32
  let v386 : BitVec 32 := Scalar.muli c0_i32 c16_i32_189
  let c6_i32 : BitVec 32 := 6#32
  let v387 : BitVec 32 := Scalar.addi v386 c6_i32
  let c128_i32_190 : BitVec 32 := 128#32
  let v388 : BitVec 32 := Scalar.muli v387 c128_i32_190
  v388
def k0_mult14 : BitVec 32 :=
  let c0_i32 : BitVec 32 := 0#32
  let c16_i32_189 : BitVec 32 := 16#32
  let v386 : BitVec 32 := Scalar.muli c0_i32 c16_i32_189
  let c6_i32 : BitVec 32 := 6#32
  let v387 : BitVec 32 := Scalar.addi v386 c6_i32
  let c128_i32_190 : BitVec 32 := 128#32
  let v388 : BitVec 32 := Scalar.muli v387 c128_i32_190
  let v389 : BitVec 32 := v388
  let c128_i32_194 : BitVec 32 := 128#32
  let v401 : BitVec 32 := Scalar.subi v389 c128_i32_194
  let c0_i32_195 : BitVec 32 := 0#32
  let v402 : BitVec 32 := Scalar.maxsi v401 c0_i32_195
  v402
def k0_mult15 : BitVec 32 :=
  let c0_i32 : BitVec 32 := 0#32
  let c16_i32_211 : BitVec 32 := 16#32
  let v433 : BitVec 32 := Scalar.muli c0_i32 c16_i32_211
  let c7_i32 : BitVec 32 := 7#32
  let v434 : BitVec 32 := Scalar.addi v433 c7_i32
  let c128_i32_212 : BitVec 32 := 128#32
  let v435 : BitVec 32 := Scalar.muli v434 c128_i32_212
  v435
def k0_mult16 : BitVec 32 :=
  let c0_i32 : BitVec 32 := 0#32
  let c16_i32_211 : BitVec 32 := 16#32
  let v433 : BitVec 32 := Scalar.muli c0_i32 c16_i32_211
  let c7_i32 : BitVec 32 := 7#32
  let v434 : BitVec 32 := Scalar.addi v433 c7_i32
  let c128_i32_212 : BitVec 32 := 128#32
  let v435 : BitVec 32 := Scalar.muli v434 c128_i32_212
  let v436 : BitVec 32 := v435
  let c128_i32_216 : BitVec 32 := 128#32
  let v448 : BitVec 32 := Scalar.subi v436 c128_i32_216
  let c0_i32_217 : BitVec 32 := 0#32
  let v449 : BitVec 32 := Scalar.maxsi v448 c0_i32_217
  v449
def k0_mult17 : BitVec 32 :=
  let c0_i32 : BitVec 32 := 0#32
  let c16_i32_233 : BitVec 32 := 16#32
  let v480 : BitVec 32 := Scalar.muli c0_i32 c16_i32_233
  let c8_i32 : BitVec 32 := 8#32
  let v481 : BitVec 32 := Scalar.addi v480 c8_i32
  let c128_i32_234 : BitVec 32 := 128#32
  let v482 : BitVec 32 := Scalar.muli v481 c128_i32_234
  v482
def k0_mult18 : BitVec 32 :=
  let c0_i32 : BitVec 32 := 0#32
  let c16_i32_233 : BitVec 32 := 16#32
  let v480 : BitVec 32 := Scalar.muli c0_i32 c16_i32_233
  let c8_i32 : BitVec 32 := 8#32
  let v481 : BitVec 32 := Scalar.addi v480 c8_i32
  let c128_i32_234 : BitVec 32 := 128#32
  let v482 : BitVec 32 := Scalar.muli v481 c128_i32_234
  let v483 : BitVec 32 := v482
  let c128_i32_238 : BitVec 32 := 128#32
  let v495 : BitVec 32 := Scalar.subi v483 c128_i32_238
  let c0_i32_239 : BitVec 32 := 0#32
  let v496 : BitVec 32 := Scalar.maxsi v495 c0_i32_239
  v496
def k0_mult19 : BitVec 32 :=
  let c0_i32 : BitVec 32 := 0#32
  let c16_i32_255 : BitVec 32 := 16#32
  let v527 : BitVec 32 := Scalar.muli c0_i32 c16_i32_255
  let c9_i32 : BitVec 32 := 9#32
  let v528 : BitVec 32 := Scalar.addi v527 c9_i32
  let c128_i32_256 : BitVec 32 := 128#32
  let v529 : BitVec 32 := Scalar.muli v528 c128_i32_256
  v529
def k0_mult20 : BitVec 32 :=
  let c0_i32 : BitVec 32 := 0#32
  let c16_i32_255 : BitVec 32 := 16#32
  let v527 : BitVec 32 := Scalar.muli c0_i32 c16_i32_255
  let c9_i32 : BitVec 32 := 9#32
  let v528 : BitVec 32 := Scalar.addi v527 c9_i32
  let c128_i32_256 : BitVec 32 := 128#32
  let v529 : BitVec 32 := Scalar.muli v528 c128_i32_256
  let v530 : BitVec 32 := v529
  let c128_i32_260 : BitVec 32 := 128#32
  let v542 : BitVec 32 := Scalar.subi v530 c128_i32_260
  let c0_i32_261 : BitVec 32 := 0#32
  let v543 : BitVec 32 := Scalar.maxsi v542 c0_i32_261
  v543
def k0_mult21 : BitVec 32 :=
  let c0_i32 : BitVec 32 := 0#32
  let c16_i32_277 : BitVec 32 := 16#32
  let v574 : BitVec 32 := Scalar.muli c0_i32 c16_i32_277
  let c10_i32 : BitVec 32 := 10#32
  let v575 : BitVec 32 := Scalar.addi v574 c10_i32
  let c128_i32_278 : BitVec 32 := 128#32
  let v576 : BitVec 32 := Scalar.muli v575 c128_i32_278
  v576
def k0_mult22 : BitVec 32 :=
  let c0_i32 : BitVec 32 := 0#32
  let c16_i32_277 : BitVec 32 := 16#32
  let v574 : BitVec 32 := Scalar.muli c0_i32 c16_i32_277
  let c10_i32 : BitVec 32 := 10#32
  let v575 : BitVec 32 := Scalar.addi v574 c10_i32
  let c128_i32_278 : BitVec 32 := 128#32
  let v576 : BitVec 32 := Scalar.muli v575 c128_i32_278
  let v577 : BitVec 32 := v576
  let c128_i32_282 : BitVec 32 := 128#32
  let v589 : BitVec 32 := Scalar.subi v577 c128_i32_282
  let c0_i32_283 : BitVec 32 := 0#32
  let v590 : BitVec 32 := Scalar.maxsi v589 c0_i32_283
  v590
def k0_mult23 : BitVec 32 :=
  let c0_i32 : BitVec 32 := 0#32
  let c16_i32_299 : BitVec 32 := 16#32
  let v621 : BitVec 32 := Scalar.muli c0_i32 c16_i32_299
  let c11_i32 : BitVec 32 := 11#32
  let v622 : BitVec 32 := Scalar.addi v621 c11_i32
  let c128_i32_300 : BitVec 32 := 128#32
  let v623 : BitVec 32 := Scalar.muli v622 c128_i32_300
  v623
def k0_mult24 : BitVec 32 :=
  let c0_i32 : BitVec 32 := 0#32
  let c16_i32_299 : BitVec 32 := 16#32
  let v621 : BitVec 32 := Scalar.muli c0_i32 c16_i32_299
  let c11_i32 : BitVec 32 := 11#32
  let v622 : BitVec 32 := Scalar.addi v621 c11_i32
  let c128_i32_300 : BitVec 32 := 128#32
  let v623 : BitVec 32 := Scalar.muli v622 c128_i32_300
  let v624 : BitVec 32 := v623
  let c128_i32_304 : BitVec 32 := 128#32
  let v636 : BitVec 32 := Scalar.subi v624 c128_i32_304
  let c0_i32_305 : BitVec 32 := 0#32
  let v637 : BitVec 32 := Scalar.maxsi v636 c0_i32_305
  v637
def k0_mult25 : BitVec 32 :=
  let c0_i32 : BitVec 32 := 0#32
  let c16_i32_321 : BitVec 32 := 16#32
  let v668 : BitVec 32 := Scalar.muli c0_i32 c16_i32_321
  let c12_i32 : BitVec 32 := 12#32
  let v669 : BitVec 32 := Scalar.addi v668 c12_i32
  let c128_i32_322 : BitVec 32 := 128#32
  let v670 : BitVec 32 := Scalar.muli v669 c128_i32_322
  v670
def k0_mult26 : BitVec 32 :=
  let c0_i32 : BitVec 32 := 0#32
  let c16_i32_321 : BitVec 32 := 16#32
  let v668 : BitVec 32 := Scalar.muli c0_i32 c16_i32_321
  let c12_i32 : BitVec 32 := 12#32
  let v669 : BitVec 32 := Scalar.addi v668 c12_i32
  let c128_i32_322 : BitVec 32 := 128#32
  let v670 : BitVec 32 := Scalar.muli v669 c128_i32_322
  let v671 : BitVec 32 := v670
  let c128_i32_326 : BitVec 32 := 128#32
  let v683 : BitVec 32 := Scalar.subi v671 c128_i32_326
  let c0_i32_327 : BitVec 32 := 0#32
  let v684 : BitVec 32 := Scalar.maxsi v683 c0_i32_327
  v684
def k0_mult27 : BitVec 32 :=
  let c0_i32 : BitVec 32 := 0#32
  let c16_i32_343 : BitVec 32 := 16#32
  let v715 : BitVec 32 := Scalar.muli c0_i32 c16_i32_343
  let c13_i32 : BitVec 32 := 13#32
  let v716 : BitVec 32 := Scalar.addi v715 c13_i32
  let c128_i32_344 : BitVec 32 := 128#32
  let v717 : BitVec 32 := Scalar.muli v716 c128_i32_344
  v717
def k0_mult28 : BitVec 32 :=
  let c0_i32 : BitVec 32 := 0#32
  let c16_i32_343 : BitVec 32 := 16#32
  let v715 : BitVec 32 := Scalar.muli c0_i32 c16_i32_343
  let c13_i32 : BitVec 32 := 13#32
  let v716 : BitVec 32 := Scalar.addi v715 c13_i32
  let c128_i32_344 : BitVec 32 := 128#32
  let v717 : BitVec 32 := Scalar.muli v716 c128_i32_344
  let v718 : BitVec 32 := v717
  let c128_i32_348 : BitVec 32 := 128#32
  let v730 : BitVec 32 := Scalar.subi v718 c128_i32_348
  let c0_i32_349 : BitVec 32 := 0#32
  let v731 : BitVec 32 := Scalar.maxsi v730 c0_i32_349
  v731
def k0_mult29 : BitVec 32 :=
  let c0_i32 : BitVec 32 := 0#32
  let c16_i32_365 : BitVec 32 := 16#32
  let v762 : BitVec 32 := Scalar.muli c0_i32 c16_i32_365
  let c14_i32 : BitVec 32 := 14#32
  let v763 : BitVec 32 := Scalar.addi v762 c14_i32
  let c128_i32_366 : BitVec 32 := 128#32
  let v764 : BitVec 32 := Scalar.muli v763 c128_i32_366
  v764
def k0_mult30 : BitVec 32 :=
  let c0_i32 : BitVec 32 := 0#32
  let c16_i32_365 : BitVec 32 := 16#32
  let v762 : BitVec 32 := Scalar.muli c0_i32 c16_i32_365
  let c14_i32 : BitVec 32 := 14#32
  let v763 : BitVec 32 := Scalar.addi v762 c14_i32
  let c128_i32_366 : BitVec 32 := 128#32
  let v764 : BitVec 32 := Scalar.muli v763 c128_i32_366
  let v765 : BitVec 32 := v764
  let c128_i32_370 : BitVec 32 := 128#32
  let v777 : BitVec 32 := Scalar.subi v765 c128_i32_370
  let c0_i32_371 : BitVec 32 := 0#32
  let v778 : BitVec 32 := Scalar.maxsi v777 c0_i32_371
  v778
def k0_mult31 : BitVec 32 :=
  let c0_i32 : BitVec 32 := 0#32
  let c16_i32_387 : BitVec 32 := 16#32
  let v809 : BitVec 32 := Scalar.muli c0_i32 c16_i32_387
  let c15_i32 : BitVec 32 := 15#32
  let v810 : BitVec 32 := Scalar.addi v809 c15_i32
  let c128_i32_388 : BitVec 32 := 128#32
  let v811 : BitVec 32 := Scalar.muli v810 c128_i32_388
  v811
def k0_mult32 : BitVec 32 :=
  let c0_i32 : BitVec 32 := 0#32
  let c16_i32_387 : BitVec 32 := 16#32
  let v809 : BitVec 32 := Scalar.muli c0_i32 c16_i32_387
  let c15_i32 : BitVec 32 := 15#32
  let v810 : BitVec 32 := Scalar.addi v809 c15_i32
  let c128_i32_388 : BitVec 32 := 128#32
  let v811 : BitVec 32 := Scalar.muli v810 c128_i32_388
  let v812 : BitVec 32 := v811
  let c128_i32_392 : BitVec 32 := 128#32
  let v824 : BitVec 32 := Scalar.subi v812 c128_i32_392
  let c0_i32_393 : BitVec 32 := 0#32
  let v825 : BitVec 32 := Scalar.maxsi v824 c0_i32_393
  v825
def k0_mult33 : BitVec 32 :=
  let c0_i32_580 : BitVec 32 := 0#32
  let c16_i32_581 : BitVec 32 := 16#32
  let v1481 : BitVec 32 := Scalar.muli c0_i32_580 c16_i32_581
  let c0_i32_582 : BitVec 32 := 0#32
  let v1482 : BitVec 32 := Scalar.addi v1481 c0_i32_582
  let c128_i32_583 : BitVec 32 := 128#32
  let v1483 : BitVec 32 := Scalar.muli v1482 c128_i32_583
  v1483
def k0_mult34 : BitVec 32 :=
  let c0_i32_580 : BitVec 32 := 0#32
  let c16_i32_581 : BitVec 32 := 16#32
  let v1481 : BitVec 32 := Scalar.muli c0_i32_580 c16_i32_581
  let c0_i32_582 : BitVec 32 := 0#32
  let v1482 : BitVec 32 := Scalar.addi v1481 c0_i32_582
  let c128_i32_583 : BitVec 32 := 128#32
  let v1483 : BitVec 32 := Scalar.muli v1482 c128_i32_583
  let v1484 : BitVec 32 := v1483
  let c128_i32_587 : BitVec 32 := 128#32
  let v1496 : BitVec 32 := Scalar.subi v1484 c128_i32_587
  let c0_i32_588 : BitVec 32 := 0#32
  let v1497 : BitVec 32 := Scalar.maxsi v1496 c0_i32_588
  v1497
def k0_mult35 : BitVec 32 :=
  let c0_i32_580 : BitVec 32 := 0#32
  let c16_i32_604 : BitVec 32 := 16#32
  let v1528 : BitVec 32 := Scalar.muli c0_i32_580 c16_i32_604
  let c1_i32_605 : BitVec 32 := 1#32
  let v1529 : BitVec 32 := Scalar.addi v1528 c1_i32_605
  let c128_i32_606 : BitVec 32 := 128#32
  let v1530 : BitVec 32 := Scalar.muli v1529 c128_i32_606
  v1530
def k0_mult36 : BitVec 32 :=
  let c0_i32_580 : BitVec 32 := 0#32
  let c16_i32_604 : BitVec 32 := 16#32
  let v1528 : BitVec 32 := Scalar.muli c0_i32_580 c16_i32_604
  let c1_i32_605 : BitVec 32 := 1#32
  let v1529 : BitVec 32 := Scalar.addi v1528 c1_i32_605
  let c128_i32_606 : BitVec 32 := 128#32
  let v1530 : BitVec 32 := Scalar.muli v1529 c128_i32_606
  let v1531 : BitVec 32 := v1530
  let c128_i32_610 : BitVec 32 := 128#32
  let v1543 : BitVec 32 := Scalar.subi v1531 c128_i32_610
  let c0_i32_611 : BitVec 32 := 0#32
  let v1544 : BitVec 32 := Scalar.maxsi v1543 c0_i32_611
  v1544
def k0_mult37 : BitVec 32 :=
  let c0_i32_580 : BitVec 32 := 0#32
  let c16_i32_627 : BitVec 32 := 16#32
  let v1575 : BitVec 32 := Scalar.muli c0_i32_580 c16_i32_627
  let c2_i32_628 : BitVec 32 := 2#32
  let v1576 : BitVec 32 := Scalar.addi v1575 c2_i32_628
  let c128_i32_629 : BitVec 32 := 128#32
  let v1577 : BitVec 32 := Scalar.muli v1576 c128_i32_629
  v1577
def k0_mult38 : BitVec 32 :=
  let c0_i32_580 : BitVec 32 := 0#32
  let c16_i32_627 : BitVec 32 := 16#32
  let v1575 : BitVec 32 := Scalar.muli c0_i32_580 c16_i32_627
  let c2_i32_628 : BitVec 32 := 2#32
  let v1576 : BitVec 32 := Scalar.addi v1575 c2_i32_628
  let c128_i32_629 : BitVec 32 := 128#32
  let v1577 : BitVec 32 := Scalar.muli v1576 c128_i32_629
  let v1578 : BitVec 32 := v1577
  let c128_i32_633 : BitVec 32 := 128#32
  let v1590 : BitVec 32 := Scalar.subi v1578 c128_i32_633
  let c0_i32_634 : BitVec 32 := 0#32
  let v1591 : BitVec 32 := Scalar.maxsi v1590 c0_i32_634
  v1591
def k0_mult39 : BitVec 32 :=
  let c0_i32_580 : BitVec 32 := 0#32
  let c16_i32_650 : BitVec 32 := 16#32
  let v1622 : BitVec 32 := Scalar.muli c0_i32_580 c16_i32_650
  let c3_i32_651 : BitVec 32 := 3#32
  let v1623 : BitVec 32 := Scalar.addi v1622 c3_i32_651
  let c128_i32_652 : BitVec 32 := 128#32
  let v1624 : BitVec 32 := Scalar.muli v1623 c128_i32_652
  v1624
def k0_mult40 : BitVec 32 :=
  let c0_i32_580 : BitVec 32 := 0#32
  let c16_i32_650 : BitVec 32 := 16#32
  let v1622 : BitVec 32 := Scalar.muli c0_i32_580 c16_i32_650
  let c3_i32_651 : BitVec 32 := 3#32
  let v1623 : BitVec 32 := Scalar.addi v1622 c3_i32_651
  let c128_i32_652 : BitVec 32 := 128#32
  let v1624 : BitVec 32 := Scalar.muli v1623 c128_i32_652
  let v1625 : BitVec 32 := v1624
  let c128_i32_656 : BitVec 32 := 128#32
  let v1637 : BitVec 32 := Scalar.subi v1625 c128_i32_656
  let c0_i32_657 : BitVec 32 := 0#32
  let v1638 : BitVec 32 := Scalar.maxsi v1637 c0_i32_657
  v1638
def k0_mult41 : BitVec 32 :=
  let c0_i32_580 : BitVec 32 := 0#32
  let c16_i32_673 : BitVec 32 := 16#32
  let v1669 : BitVec 32 := Scalar.muli c0_i32_580 c16_i32_673
  let c4_i32_674 : BitVec 32 := 4#32
  let v1670 : BitVec 32 := Scalar.addi v1669 c4_i32_674
  let c128_i32_675 : BitVec 32 := 128#32
  let v1671 : BitVec 32 := Scalar.muli v1670 c128_i32_675
  v1671
def k0_mult42 : BitVec 32 :=
  let c0_i32_580 : BitVec 32 := 0#32
  let c16_i32_673 : BitVec 32 := 16#32
  let v1669 : BitVec 32 := Scalar.muli c0_i32_580 c16_i32_673
  let c4_i32_674 : BitVec 32 := 4#32
  let v1670 : BitVec 32 := Scalar.addi v1669 c4_i32_674
  let c128_i32_675 : BitVec 32 := 128#32
  let v1671 : BitVec 32 := Scalar.muli v1670 c128_i32_675
  let v1672 : BitVec 32 := v1671
  let c128_i32_679 : BitVec 32 := 128#32
  let v1684 : BitVec 32 := Scalar.subi v1672 c128_i32_679
  let c0_i32_680 : BitVec 32 := 0#32
  let v1685 : BitVec 32 := Scalar.maxsi v1684 c0_i32_680
  v1685
def k0_mult43 : BitVec 32 :=
  let c0_i32_580 : BitVec 32 := 0#32
  let c16_i32_696 : BitVec 32 := 16#32
  let v1716 : BitVec 32 := Scalar.muli c0_i32_580 c16_i32_696
  let c5_i32_697 : BitVec 32 := 5#32
  let v1717 : BitVec 32 := Scalar.addi v1716 c5_i32_697
  let c128_i32_698 : BitVec 32 := 128#32
  let v1718 : BitVec 32 := Scalar.muli v1717 c128_i32_698
  v1718
def k0_mult44 : BitVec 32 :=
  let c0_i32_580 : BitVec 32 := 0#32
  let c16_i32_696 : BitVec 32 := 16#32
  let v1716 : BitVec 32 := Scalar.muli c0_i32_580 c16_i32_696
  let c5_i32_697 : BitVec 32 := 5#32
  let v1717 : BitVec 32 := Scalar.addi v1716 c5_i32_697
  let c128_i32_698 : BitVec 32 := 128#32
  let v1718 : BitVec 32 := Scalar.muli v1717 c128_i32_698
  let v1719 : BitVec 32 := v1718
  let c128_i32_702 : BitVec 32 := 128#32
  let v1731 : BitVec 32 := Scalar.subi v1719 c128_i32_702
  let c0_i32_703 : BitVec 32 := 0#32
  let v1732 : BitVec 32 := Scalar.maxsi v1731 c0_i32_703
  v1732
def k0_mult45 : BitVec 32 :=
  let c0_i32_580 : BitVec 32 := 0#32
  let c16_i32_719 : BitVec 32 := 16#32
  let v1763 : BitVec 32 := Scalar.muli c0_i32_580 c16_i32_719
  let c6_i32_720 : BitVec 32 := 6#32
  let v1764 : BitVec 32 := Scalar.addi v1763 c6_i32_720
  let c128_i32_721 : BitVec 32 := 128#32
  let v1765 : BitVec 32 := Scalar.muli v1764 c128_i32_721
  v1765
def k0_mult46 : BitVec 32 :=
  let c0_i32_580 : BitVec 32 := 0#32
  let c16_i32_719 : BitVec 32 := 16#32
  let v1763 : BitVec 32 := Scalar.muli c0_i32_580 c16_i32_719
  let c6_i32_720 : BitVec 32 := 6#32
  let v1764 : BitVec 32 := Scalar.addi v1763 c6_i32_720
  let c128_i32_721 : BitVec 32 := 128#32
  let v1765 : BitVec 32 := Scalar.muli v1764 c128_i32_721
  let v1766 : BitVec 32 := v1765
  let c128_i32_725 : BitVec 32 := 128#32
  let v1778 : BitVec 32 := Scalar.subi v1766 c128_i32_725
  let c0_i32_726 : BitVec 32 := 0#32
  let v1779 : BitVec 32 := Scalar.maxsi v1778 c0_i32_726
  v1779
def k0_mult47 : BitVec 32 :=
  let c0_i32_580 : BitVec 32 := 0#32
  let c16_i32_742 : BitVec 32 := 16#32
  let v1810 : BitVec 32 := Scalar.muli c0_i32_580 c16_i32_742
  let c7_i32_743 : BitVec 32 := 7#32
  let v1811 : BitVec 32 := Scalar.addi v1810 c7_i32_743
  let c128_i32_744 : BitVec 32 := 128#32
  let v1812 : BitVec 32 := Scalar.muli v1811 c128_i32_744
  v1812
def k0_mult48 : BitVec 32 :=
  let c0_i32_580 : BitVec 32 := 0#32
  let c16_i32_742 : BitVec 32 := 16#32
  let v1810 : BitVec 32 := Scalar.muli c0_i32_580 c16_i32_742
  let c7_i32_743 : BitVec 32 := 7#32
  let v1811 : BitVec 32 := Scalar.addi v1810 c7_i32_743
  let c128_i32_744 : BitVec 32 := 128#32
  let v1812 : BitVec 32 := Scalar.muli v1811 c128_i32_744
  let v1813 : BitVec 32 := v1812
  let c128_i32_748 : BitVec 32 := 128#32
  let v1825 : BitVec 32 := Scalar.subi v1813 c128_i32_748
  let c0_i32_749 : BitVec 32 := 0#32
  let v1826 : BitVec 32 := Scalar.maxsi v1825 c0_i32_749
  v1826
def k0_mult49 : BitVec 32 :=
  let c0_i32_580 : BitVec 32 := 0#32
  let c16_i32_765 : BitVec 32 := 16#32
  let v1857 : BitVec 32 := Scalar.muli c0_i32_580 c16_i32_765
  let c8_i32_766 : BitVec 32 := 8#32
  let v1858 : BitVec 32 := Scalar.addi v1857 c8_i32_766
  let c128_i32_767 : BitVec 32 := 128#32
  let v1859 : BitVec 32 := Scalar.muli v1858 c128_i32_767
  v1859
def k0_mult50 : BitVec 32 :=
  let c0_i32_580 : BitVec 32 := 0#32
  let c16_i32_765 : BitVec 32 := 16#32
  let v1857 : BitVec 32 := Scalar.muli c0_i32_580 c16_i32_765
  let c8_i32_766 : BitVec 32 := 8#32
  let v1858 : BitVec 32 := Scalar.addi v1857 c8_i32_766
  let c128_i32_767 : BitVec 32 := 128#32
  let v1859 : BitVec 32 := Scalar.muli v1858 c128_i32_767
  let v1860 : BitVec 32 := v1859
  let c128_i32_771 : BitVec 32 := 128#32
  let v1872 : BitVec 32 := Scalar.subi v1860 c128_i32_771
  let c0_i32_772 : BitVec 32 := 0#32
  let v1873 : BitVec 32 := Scalar.maxsi v1872 c0_i32_772
  v1873
def k0_mult51 : BitVec 32 :=
  let c0_i32_580 : BitVec 32 := 0#32
  let c16_i32_788 : BitVec 32 := 16#32
  let v1904 : BitVec 32 := Scalar.muli c0_i32_580 c16_i32_788
  let c9_i32_789 : BitVec 32 := 9#32
  let v1905 : BitVec 32 := Scalar.addi v1904 c9_i32_789
  let c128_i32_790 : BitVec 32 := 128#32
  let v1906 : BitVec 32 := Scalar.muli v1905 c128_i32_790
  v1906
def k0_mult52 : BitVec 32 :=
  let c0_i32_580 : BitVec 32 := 0#32
  let c16_i32_788 : BitVec 32 := 16#32
  let v1904 : BitVec 32 := Scalar.muli c0_i32_580 c16_i32_788
  let c9_i32_789 : BitVec 32 := 9#32
  let v1905 : BitVec 32 := Scalar.addi v1904 c9_i32_789
  let c128_i32_790 : BitVec 32 := 128#32
  let v1906 : BitVec 32 := Scalar.muli v1905 c128_i32_790
  let v1907 : BitVec 32 := v1906
  let c128_i32_794 : BitVec 32 := 128#32
  let v1919 : BitVec 32 := Scalar.subi v1907 c128_i32_794
  let c0_i32_795 : BitVec 32 := 0#32
  let v1920 : BitVec 32 := Scalar.maxsi v1919 c0_i32_795
  v1920
def k0_mult53 : BitVec 32 :=
  let c0_i32_580 : BitVec 32 := 0#32
  let c16_i32_811 : BitVec 32 := 16#32
  let v1951 : BitVec 32 := Scalar.muli c0_i32_580 c16_i32_811
  let c10_i32_812 : BitVec 32 := 10#32
  let v1952 : BitVec 32 := Scalar.addi v1951 c10_i32_812
  let c128_i32_813 : BitVec 32 := 128#32
  let v1953 : BitVec 32 := Scalar.muli v1952 c128_i32_813
  v1953
def k0_mult54 : BitVec 32 :=
  let c0_i32_580 : BitVec 32 := 0#32
  let c16_i32_811 : BitVec 32 := 16#32
  let v1951 : BitVec 32 := Scalar.muli c0_i32_580 c16_i32_811
  let c10_i32_812 : BitVec 32 := 10#32
  let v1952 : BitVec 32 := Scalar.addi v1951 c10_i32_812
  let c128_i32_813 : BitVec 32 := 128#32
  let v1953 : BitVec 32 := Scalar.muli v1952 c128_i32_813
  let v1954 : BitVec 32 := v1953
  let c128_i32_817 : BitVec 32 := 128#32
  let v1966 : BitVec 32 := Scalar.subi v1954 c128_i32_817
  let c0_i32_818 : BitVec 32 := 0#32
  let v1967 : BitVec 32 := Scalar.maxsi v1966 c0_i32_818
  v1967
def k0_mult55 : BitVec 32 :=
  let c0_i32_580 : BitVec 32 := 0#32
  let c16_i32_834 : BitVec 32 := 16#32
  let v1998 : BitVec 32 := Scalar.muli c0_i32_580 c16_i32_834
  let c11_i32_835 : BitVec 32 := 11#32
  let v1999 : BitVec 32 := Scalar.addi v1998 c11_i32_835
  let c128_i32_836 : BitVec 32 := 128#32
  let v2000 : BitVec 32 := Scalar.muli v1999 c128_i32_836
  v2000
def k0_mult56 : BitVec 32 :=
  let c0_i32_580 : BitVec 32 := 0#32
  let c16_i32_834 : BitVec 32 := 16#32
  let v1998 : BitVec 32 := Scalar.muli c0_i32_580 c16_i32_834
  let c11_i32_835 : BitVec 32 := 11#32
  let v1999 : BitVec 32 := Scalar.addi v1998 c11_i32_835
  let c128_i32_836 : BitVec 32 := 128#32
  let v2000 : BitVec 32 := Scalar.muli v1999 c128_i32_836
  let v2001 : BitVec 32 := v2000
  let c128_i32_840 : BitVec 32 := 128#32
  let v2013 : BitVec 32 := Scalar.subi v2001 c128_i32_840
  let c0_i32_841 : BitVec 32 := 0#32
  let v2014 : BitVec 32 := Scalar.maxsi v2013 c0_i32_841
  v2014
def k0_mult57 : BitVec 32 :=
  let c0_i32_580 : BitVec 32 := 0#32
  let c16_i32_857 : BitVec 32 := 16#32
  let v2045 : BitVec 32 := Scalar.muli c0_i32_580 c16_i32_857
  let c12_i32_858 : BitVec 32 := 12#32
  let v2046 : BitVec 32 := Scalar.addi v2045 c12_i32_858
  let c128_i32_859 : BitVec 32 := 128#32
  let v2047 : BitVec 32 := Scalar.muli v2046 c128_i32_859
  v2047
def k0_mult58 : BitVec 32 :=
  let c0_i32_580 : BitVec 32 := 0#32
  let c16_i32_857 : BitVec 32 := 16#32
  let v2045 : BitVec 32 := Scalar.muli c0_i32_580 c16_i32_857
  let c12_i32_858 : BitVec 32 := 12#32
  let v2046 : BitVec 32 := Scalar.addi v2045 c12_i32_858
  let c128_i32_859 : BitVec 32 := 128#32
  let v2047 : BitVec 32 := Scalar.muli v2046 c128_i32_859
  let v2048 : BitVec 32 := v2047
  let c128_i32_863 : BitVec 32 := 128#32
  let v2060 : BitVec 32 := Scalar.subi v2048 c128_i32_863
  let c0_i32_864 : BitVec 32 := 0#32
  let v2061 : BitVec 32 := Scalar.maxsi v2060 c0_i32_864
  v2061
def k0_mult59 : BitVec 32 :=
  let c0_i32_580 : BitVec 32 := 0#32
  let c16_i32_880 : BitVec 32 := 16#32
  let v2092 : BitVec 32 := Scalar.muli c0_i32_580 c16_i32_880
  let c13_i32_881 : BitVec 32 := 13#32
  let v2093 : BitVec 32 := Scalar.addi v2092 c13_i32_881
  let c128_i32_882 : BitVec 32 := 128#32
  let v2094 : BitVec 32 := Scalar.muli v2093 c128_i32_882
  v2094
def k0_mult60 : BitVec 32 :=
  let c0_i32_580 : BitVec 32 := 0#32
  let c16_i32_880 : BitVec 32 := 16#32
  let v2092 : BitVec 32 := Scalar.muli c0_i32_580 c16_i32_880
  let c13_i32_881 : BitVec 32 := 13#32
  let v2093 : BitVec 32 := Scalar.addi v2092 c13_i32_881
  let c128_i32_882 : BitVec 32 := 128#32
  let v2094 : BitVec 32 := Scalar.muli v2093 c128_i32_882
  let v2095 : BitVec 32 := v2094
  let c128_i32_886 : BitVec 32 := 128#32
  let v2107 : BitVec 32 := Scalar.subi v2095 c128_i32_886
  let c0_i32_887 : BitVec 32 := 0#32
  let v2108 : BitVec 32 := Scalar.maxsi v2107 c0_i32_887
  v2108
def k0_mult61 : BitVec 32 :=
  let c0_i32_580 : BitVec 32 := 0#32
  let c16_i32_903 : BitVec 32 := 16#32
  let v2139 : BitVec 32 := Scalar.muli c0_i32_580 c16_i32_903
  let c14_i32_904 : BitVec 32 := 14#32
  let v2140 : BitVec 32 := Scalar.addi v2139 c14_i32_904
  let c128_i32_905 : BitVec 32 := 128#32
  let v2141 : BitVec 32 := Scalar.muli v2140 c128_i32_905
  v2141
def k0_mult62 : BitVec 32 :=
  let c0_i32_580 : BitVec 32 := 0#32
  let c16_i32_903 : BitVec 32 := 16#32
  let v2139 : BitVec 32 := Scalar.muli c0_i32_580 c16_i32_903
  let c14_i32_904 : BitVec 32 := 14#32
  let v2140 : BitVec 32 := Scalar.addi v2139 c14_i32_904
  let c128_i32_905 : BitVec 32 := 128#32
  let v2141 : BitVec 32 := Scalar.muli v2140 c128_i32_905
  let v2142 : BitVec 32 := v2141
  let c128_i32_909 : BitVec 32 := 128#32
  let v2154 : BitVec 32 := Scalar.subi v2142 c128_i32_909
  let c0_i32_910 : BitVec 32 := 0#32
  let v2155 : BitVec 32 := Scalar.maxsi v2154 c0_i32_910
  v2155
def k0_mult63 : BitVec 32 :=
  let c0_i32_580 : BitVec 32 := 0#32
  let c16_i32_926 : BitVec 32 := 16#32
  let v2186 : BitVec 32 := Scalar.muli c0_i32_580 c16_i32_926
  let c15_i32_927 : BitVec 32 := 15#32
  let v2187 : BitVec 32 := Scalar.addi v2186 c15_i32_927
  let c128_i32_928 : BitVec 32 := 128#32
  let v2188 : BitVec 32 := Scalar.muli v2187 c128_i32_928
  v2188
def k0_mult64 : BitVec 32 :=
  let c0_i32_580 : BitVec 32 := 0#32
  let c16_i32_926 : BitVec 32 := 16#32
  let v2186 : BitVec 32 := Scalar.muli c0_i32_580 c16_i32_926
  let c15_i32_927 : BitVec 32 := 15#32
  let v2187 : BitVec 32 := Scalar.addi v2186 c15_i32_927
  let c128_i32_928 : BitVec 32 := 128#32
  let v2188 : BitVec 32 := Scalar.muli v2187 c128_i32_928
  let v2189 : BitVec 32 := v2188
  let c128_i32_932 : BitVec 32 := 128#32
  let v2201 : BitVec 32 := Scalar.subi v2189 c128_i32_932
  let c0_i32_933 : BitVec 32 := 0#32
  let v2202 : BitVec 32 := Scalar.maxsi v2201 c0_i32_933
  v2202
def k0_mult65 : BitVec 32 :=
  let c0_i32_1288 : BitVec 32 := 0#32
  let c16_i32_1289 : BitVec 32 := 16#32
  let v3074 : BitVec 32 := Scalar.muli c0_i32_1288 c16_i32_1289
  let c0_i32_1290 : BitVec 32 := 0#32
  let v3075 : BitVec 32 := Scalar.addi v3074 c0_i32_1290
  let c128_i32_1291 : BitVec 32 := 128#32
  let v3076 : BitVec 32 := Scalar.muli v3075 c128_i32_1291
  v3076
def k0_mult66 : BitVec 32 :=
  let c0_i32_1288 : BitVec 32 := 0#32
  let c16_i32_1298 : BitVec 32 := 16#32
  let v3095 : BitVec 32 := Scalar.muli c0_i32_1288 c16_i32_1298
  let c1_i32_1299 : BitVec 32 := 1#32
  let v3096 : BitVec 32 := Scalar.addi v3095 c1_i32_1299
  let c128_i32_1300 : BitVec 32 := 128#32
  let v3097 : BitVec 32 := Scalar.muli v3096 c128_i32_1300
  v3097
def k0_mult67 : BitVec 32 :=
  let c0_i32_1288 : BitVec 32 := 0#32
  let c16_i32_1307 : BitVec 32 := 16#32
  let v3116 : BitVec 32 := Scalar.muli c0_i32_1288 c16_i32_1307
  let c2_i32_1308 : BitVec 32 := 2#32
  let v3117 : BitVec 32 := Scalar.addi v3116 c2_i32_1308
  let c128_i32_1309 : BitVec 32 := 128#32
  let v3118 : BitVec 32 := Scalar.muli v3117 c128_i32_1309
  v3118
def k0_mult68 : BitVec 32 :=
  let c0_i32_1288 : BitVec 32 := 0#32
  let c16_i32_1316 : BitVec 32 := 16#32
  let v3137 : BitVec 32 := Scalar.muli c0_i32_1288 c16_i32_1316
  let c3_i32_1317 : BitVec 32 := 3#32
  let v3138 : BitVec 32 := Scalar.addi v3137 c3_i32_1317
  let c128_i32_1318 : BitVec 32 := 128#32
  let v3139 : BitVec 32 := Scalar.muli v3138 c128_i32_1318
  v3139
def k0_mult69 : BitVec 32 :=
  let c0_i32_1288 : BitVec 32 := 0#32
  let c16_i32_1325 : BitVec 32 := 16#32
  let v3158 : BitVec 32 := Scalar.muli c0_i32_1288 c16_i32_1325
  let c4_i32_1326 : BitVec 32 := 4#32
  let v3159 : BitVec 32 := Scalar.addi v3158 c4_i32_1326
  let c128_i32_1327 : BitVec 32 := 128#32
  let v3160 : BitVec 32 := Scalar.muli v3159 c128_i32_1327
  v3160
def k0_mult70 : BitVec 32 :=
  let c0_i32_1288 : BitVec 32 := 0#32
  let c16_i32_1334 : BitVec 32 := 16#32
  let v3179 : BitVec 32 := Scalar.muli c0_i32_1288 c16_i32_1334
  let c5_i32_1335 : BitVec 32 := 5#32
  let v3180 : BitVec 32 := Scalar.addi v3179 c5_i32_1335
  let c128_i32_1336 : BitVec 32 := 128#32
  let v3181 : BitVec 32 := Scalar.muli v3180 c128_i32_1336
  v3181
def k0_mult71 : BitVec 32 :=
  let c0_i32_1288 : BitVec 32 := 0#32
  let c16_i32_1343 : BitVec 32 := 16#32
  let v3200 : BitVec 32 := Scalar.muli c0_i32_1288 c16_i32_1343
  let c6_i32_1344 : BitVec 32 := 6#32
  let v3201 : BitVec 32 := Scalar.addi v3200 c6_i32_1344
  let c128_i32_1345 : BitVec 32 := 128#32
  let v3202 : BitVec 32 := Scalar.muli v3201 c128_i32_1345
  v3202
def k0_mult72 : BitVec 32 :=
  let c0_i32_1288 : BitVec 32 := 0#32
  let c16_i32_1352 : BitVec 32 := 16#32
  let v3221 : BitVec 32 := Scalar.muli c0_i32_1288 c16_i32_1352
  let c7_i32_1353 : BitVec 32 := 7#32
  let v3222 : BitVec 32 := Scalar.addi v3221 c7_i32_1353
  let c128_i32_1354 : BitVec 32 := 128#32
  let v3223 : BitVec 32 := Scalar.muli v3222 c128_i32_1354
  v3223
def k0_mult73 : BitVec 32 :=
  let c0_i32_1288 : BitVec 32 := 0#32
  let c16_i32_1361 : BitVec 32 := 16#32
  let v3242 : BitVec 32 := Scalar.muli c0_i32_1288 c16_i32_1361
  let c8_i32_1362 : BitVec 32 := 8#32
  let v3243 : BitVec 32 := Scalar.addi v3242 c8_i32_1362
  let c128_i32_1363 : BitVec 32 := 128#32
  let v3244 : BitVec 32 := Scalar.muli v3243 c128_i32_1363
  v3244
def k0_mult74 : BitVec 32 :=
  let c0_i32_1288 : BitVec 32 := 0#32
  let c16_i32_1370 : BitVec 32 := 16#32
  let v3263 : BitVec 32 := Scalar.muli c0_i32_1288 c16_i32_1370
  let c9_i32_1371 : BitVec 32 := 9#32
  let v3264 : BitVec 32 := Scalar.addi v3263 c9_i32_1371
  let c128_i32_1372 : BitVec 32 := 128#32
  let v3265 : BitVec 32 := Scalar.muli v3264 c128_i32_1372
  v3265
def k0_mult75 : BitVec 32 :=
  let c0_i32_1288 : BitVec 32 := 0#32
  let c16_i32_1379 : BitVec 32 := 16#32
  let v3284 : BitVec 32 := Scalar.muli c0_i32_1288 c16_i32_1379
  let c10_i32_1380 : BitVec 32 := 10#32
  let v3285 : BitVec 32 := Scalar.addi v3284 c10_i32_1380
  let c128_i32_1381 : BitVec 32 := 128#32
  let v3286 : BitVec 32 := Scalar.muli v3285 c128_i32_1381
  v3286
def k0_mult76 : BitVec 32 :=
  let c0_i32_1288 : BitVec 32 := 0#32
  let c16_i32_1388 : BitVec 32 := 16#32
  let v3305 : BitVec 32 := Scalar.muli c0_i32_1288 c16_i32_1388
  let c11_i32_1389 : BitVec 32 := 11#32
  let v3306 : BitVec 32 := Scalar.addi v3305 c11_i32_1389
  let c128_i32_1390 : BitVec 32 := 128#32
  let v3307 : BitVec 32 := Scalar.muli v3306 c128_i32_1390
  v3307
def k0_mult77 : BitVec 32 :=
  let c0_i32_1288 : BitVec 32 := 0#32
  let c16_i32_1397 : BitVec 32 := 16#32
  let v3326 : BitVec 32 := Scalar.muli c0_i32_1288 c16_i32_1397
  let c12_i32_1398 : BitVec 32 := 12#32
  let v3327 : BitVec 32 := Scalar.addi v3326 c12_i32_1398
  let c128_i32_1399 : BitVec 32 := 128#32
  let v3328 : BitVec 32 := Scalar.muli v3327 c128_i32_1399
  v3328
def k0_mult78 : BitVec 32 :=
  let c0_i32_1288 : BitVec 32 := 0#32
  let c16_i32_1406 : BitVec 32 := 16#32
  let v3347 : BitVec 32 := Scalar.muli c0_i32_1288 c16_i32_1406
  let c13_i32_1407 : BitVec 32 := 13#32
  let v3348 : BitVec 32 := Scalar.addi v3347 c13_i32_1407
  let c128_i32_1408 : BitVec 32 := 128#32
  let v3349 : BitVec 32 := Scalar.muli v3348 c128_i32_1408
  v3349
def k0_mult79 : BitVec 32 :=
  let c0_i32_1288 : BitVec 32 := 0#32
  let c16_i32_1415 : BitVec 32 := 16#32
  let v3368 : BitVec 32 := Scalar.muli c0_i32_1288 c16_i32_1415
  let c14_i32_1416 : BitVec 32 := 14#32
  let v3369 : BitVec 32 := Scalar.addi v3368 c14_i32_1416
  let c128_i32_1417 : BitVec 32 := 128#32
  let v3370 : BitVec 32 := Scalar.muli v3369 c128_i32_1417
  v3370
def k0_mult80 : BitVec 32 :=
  let c0_i32_1288 : BitVec 32 := 0#32
  let c16_i32_1424 : BitVec 32 := 16#32
  let v3389 : BitVec 32 := Scalar.muli c0_i32_1288 c16_i32_1424
  let c15_i32_1425 : BitVec 32 := 15#32
  let v3390 : BitVec 32 := Scalar.addi v3389 c15_i32_1425
  let c128_i32_1426 : BitVec 32 := 128#32
  let v3391 : BitVec 32 := Scalar.muli v3390 c128_i32_1426
  v3391
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, arg1.toNat, c0_i32_0.toNat]

def cc0_transform_17 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, arg1.toNat, c0_i32_0.toNat]

def cc0_transform_18 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, arg1.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S3x2x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x2x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x2x128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference10Ideal.lean ====
abbrev S8x2048x7680 : Shape := ⟨3, ![8, 2048, 7680]⟩
abbrev S64 : Shape := ⟨1, ![64]⟩
abbrev S3x8x128x256 : Shape := ⟨4, ![3, 8, 128, 256]⟩
abbrev S2x8x2x512x128 : Shape := ⟨5, ![2, 8, 2, 512, 128]⟩
abbrev S2x8x2x512x512 : Shape := ⟨5, ![2, 8, 2, 512, 512]⟩
abbrev S2x8x2x512x2048 : Shape := ⟨5, ![2, 8, 2, 512, 2048]⟩
abbrev S8x2048x1536 : Shape := ⟨3, ![8, 2048, 1536]⟩
abbrev S8x2048x3x8x64 : Shape := ⟨5, ![8, 2048, 3, 8, 64]⟩
abbrev S_ : Shape := ⟨0, ![]⟩
abbrev S8x2048x3x8 : Shape := ⟨4, ![8, 2048, 3, 8]⟩
abbrev S8x2048x3x8x1 : Shape := ⟨5, ![8, 2048, 3, 8, 1]⟩
abbrev S1x1x1x1x64 : Shape := ⟨5, ![1, 1, 1, 1, 64]⟩
abbrev S8x128x1x8x64 : Shape := ⟨5, ![8, 128, 1, 8, 64]⟩
abbrev S8x128x8x64 : Shape := ⟨4, ![8, 128, 8, 64]⟩
abbrev S8x1x128x8x64 : Shape := ⟨5, ![8, 1, 128, 8, 64]⟩
abbrev S8x2x128x8x64 : Shape := ⟨5, ![8, 2, 128, 8, 64]⟩
abbrev S8x2x128x512 : Shape := ⟨4, ![8, 2, 128, 512]⟩
abbrev S8x2x512x128 : Shape := ⟨4, ![8, 2, 512, 128]⟩
abbrev S1x8x2x512x128 : Shape := ⟨5, ![1, 8, 2, 512, 128]⟩
abbrev S8x512x1x8x64 : Shape := ⟨5, ![8, 512, 1, 8, 64]⟩
abbrev S8x512x8x64 : Shape := ⟨4, ![8, 512, 8, 64]⟩
abbrev S8x1x512x8x64 : Shape := ⟨5, ![8, 1, 512, 8, 64]⟩
abbrev S8x2x512x8x64 : Shape := ⟨5, ![8, 2, 512, 8, 64]⟩
abbrev S8x2x512x512 : Shape := ⟨4, ![8, 2, 512, 512]⟩
abbrev S1x8x2x512x512 : Shape := ⟨5, ![1, 8, 2, 512, 512]⟩
abbrev S8x2048x1x8x64 : Shape := ⟨5, ![8, 2048, 1, 8, 64]⟩
abbrev S8x2048x8x64 : Shape := ⟨4, ![8, 2048, 8, 64]⟩
abbrev S8x1x2048x8x64 : Shape := ⟨5, ![8, 1, 2048, 8, 64]⟩
abbrev S8x2x2048x8x64 : Shape := ⟨5, ![8, 2, 2048, 8, 64]⟩
abbrev S8x2x2048x512 : Shape := ⟨4, ![8, 2, 2048, 512]⟩
abbrev S8x2x512x2048 : Shape := ⟨4, ![8, 2, 512, 2048]⟩
abbrev S1x8x2x512x2048 : Shape := ⟨5, ![1, 8, 2, 512, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x7680, .f32⟩
  | .hbm, ⟨1, _⟩ => ⟨S64, .f32⟩
  | .hbm, ⟨2, _⟩ => ⟨S64, .f32⟩
  | .hbm, ⟨3, _⟩ => ⟨S3x8x128x256, .f32⟩
  | .hbm, ⟨4, _⟩ => ⟨S2x8x2x512x128, .f32⟩
  | .hbm, ⟨5, _⟩ => ⟨S2x8x2x512x512, .f32⟩
  | .hbm, ⟨6, _⟩ => ⟨S2x8x2x512x2048, .f32⟩
  | .hbm, ⟨7, _⟩ => ⟨S8x2048x1536, .f32⟩
  | .hbm, ⟨8, _⟩ => ⟨S8x2048x3x8x64, .f32⟩
  | .hbm, ⟨9, _⟩ => ⟨S8x2048x3x8x64, .f32⟩
  | .hbm, ⟨10, _⟩ => ⟨S_, .f32⟩
  | .hbm, ⟨11, _⟩ => ⟨S8x2048x3x8, .f32⟩
  | .hbm, ⟨12, _⟩ => ⟨S8x2048x3x8x1, .f32⟩
  | .hbm, ⟨13, _⟩ => ⟨S_, .f32⟩
  | .hbm, ⟨14, _⟩ => ⟨S8x2048x3x8x1, .f32⟩
  | .hbm, ⟨15, _⟩ => ⟨S8x2048x3x8x1, .f32⟩
  | .hbm, ⟨16, _⟩ => ⟨S_, .f32⟩
  | .hbm, ⟨17, _⟩ => ⟨S8x2048x3x8x1, .f32⟩
  | .hbm, ⟨18, _⟩ => ⟨S8x2048x3x8x1, .f32⟩
  | .hbm, ⟨19, _⟩ => ⟨S8x2048x3x8x1, .f32⟩
  | .hbm, ⟨20, _⟩ => ⟨S8x2048x3x8x64, .f32⟩
  | .hbm, ⟨21, _⟩ => ⟨S8x2048x3x8x64, .f32⟩
  | .hbm, ⟨22, _⟩ => ⟨S1x1x1x1x64, .f32⟩
  | .hbm, ⟨23, _⟩ => ⟨S8x2048x3x8x64, .f32⟩
  | .hbm, ⟨24, _⟩ => ⟨S8x2048x3x8x64, .f32⟩
  | .hbm, ⟨25, _⟩ => ⟨S8x2048x1536, .f32⟩
  | .hbm, ⟨26, _⟩ => ⟨S8x2048x3x8x64, .f32⟩
  | .hbm, ⟨27, _⟩ => ⟨S8x128x1x8x64, .f32⟩
  | .hbm, ⟨28, _⟩ => ⟨S8x128x8x64, .f32⟩
  | .hbm, ⟨29, _⟩ => ⟨S8x128x1x8x64, .f32⟩
  | .hbm, ⟨30, _⟩ => ⟨S8x128x8x64, .f32⟩
  | .hbm, ⟨31, _⟩ => ⟨S8x1x128x8x64, .f32⟩
  | .hbm, ⟨32, _⟩ => ⟨S8x1x128x8x64, .f32⟩
  | .hbm, ⟨33, _⟩ => ⟨S8x2x128x8x64, .f32⟩
  | .hbm, ⟨34, _⟩ => ⟨S8x2x128x512, .f32⟩
  | .hbm, ⟨35, _⟩ => ⟨S8x2x512x128, .f32⟩
  | .hbm, ⟨36, _⟩ => ⟨S1x8x2x512x128, .f32⟩
  | .hbm, ⟨37, _⟩ => ⟨S1x8x2x512x128, .f32⟩
  | .hbm, ⟨38, _⟩ => ⟨S2x8x2x512x128, .f32⟩
  | .hbm, ⟨39, _⟩ => ⟨S8x512x1x8x64, .f32⟩
  | .hbm, ⟨40, _⟩ => ⟨S8x512x8x64, .f32⟩
  | .hbm, ⟨41, _⟩ => ⟨S8x512x1x8x64, .f32⟩
  | .hbm, ⟨42, _⟩ => ⟨S8x512x8x64, .f32⟩
  | .hbm, ⟨43, _⟩ => ⟨S8x1x512x8x64, .f32⟩
  | .hbm, ⟨44, _⟩ => ⟨S8x1x512x8x64, .f32⟩
  | .hbm, ⟨45, _⟩ => ⟨S8x2x512x8x64, .f32⟩
  | .hbm, ⟨46, _⟩ => ⟨S8x2x512x512, .f32⟩
  | .hbm, ⟨47, _⟩ => ⟨S8x2x512x512, .f32⟩
  | .hbm, ⟨48, _⟩ => ⟨S1x8x2x512x512, .f32⟩
  | .hbm, ⟨49, _⟩ => ⟨S1x8x2x512x512, .f32⟩
  | .hbm, ⟨50, _⟩ => ⟨S2x8x2x512x512, .f32⟩
  | .hbm, ⟨51, _⟩ => ⟨S8x2048x1x8x64, .f32⟩
  | .hbm, ⟨52, _⟩ => ⟨S8x2048x8x64, .f32⟩
  | .hbm, ⟨53, _⟩ => ⟨S8x2048x1x8x64, .f32⟩
  | .hbm, ⟨54, _⟩ => ⟨S8x2048x8x64, .f32⟩
  | .hbm, ⟨55, _⟩ => ⟨S8x1x2048x8x64, .f32⟩
  | .hbm, ⟨56, _⟩ => ⟨S8x1x2048x8x64, .f32⟩
  | .hbm, ⟨57, _⟩ => ⟨S8x2x2048x8x64, .f32⟩
  | .hbm, ⟨58, _⟩ => ⟨S8x2x2048x512, .f32⟩
  | .hbm, ⟨59, _⟩ => ⟨S8x2x512x2048, .f32⟩
  | .hbm, ⟨60, _⟩ => ⟨S1x8x2x512x2048, .f32⟩
  | .hbm, ⟨61, _⟩ => ⟨S1x8x2x512x2048, .f32⟩
  | .hbm, ⟨62, _⟩ => ⟨S2x8x2x512x2048, .f32⟩
  | _, _ => ⟨S8x2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Proof.Moe.Words.lean ====
module

public import proofs.«01_k».proof.Proof.Gen.KernelIdeal
public import Idealize.ShloMosaic.Lib.Affine

@[expose] public section

/-! The words that drive the loop over an expert's tokens: the loop has a meaning whatever the count is, its remainder copy
runs no trip, and for a count of at most 1024 tokens it runs the count divided by 288, rounded up. -/

namespace Cert.KernelIdeal.Moe

open Idealize.ShloMosaic

/-- A loop from zero by steps of one has a meaning whatever its upper bound is. -/
theorem ok_from_zero (ub : BitVec 32) : Scf.OK 0#32 ub 1#32 := by
  refine ⟨by decide, ?_⟩
  have h : ub.toInt < 2 ^ 31 := by have := BitVec.toInt_lt (x := ub); simpa using this
  have h0 : (0#32).toInt = 0 := by decide
  have h1 : (1#32).toInt = 1 := by decide
  simp only [Scf.trips, h0, h1, Int.ediv_one, Nat.reduceSub]
  omega

/-- A loop from a word to itself by steps of one has a meaning. -/
theorem ok_self (b : BitVec 32) : Scf.OK b b 1#32 := by
  refine ⟨by decide, ?_⟩
  have h : b.toInt < 2 ^ 31 := by have := BitVec.toInt_lt (x := b); simpa using this
  have h1 : (1#32).toInt = 1 := by decide
  simp only [Scf.trips, h1, Int.ediv_one, Nat.reduceSub]
  omega

/-- A loop from a word to itself runs no trip. -/
theorem trips_self (b : BitVec 32) : Scf.trips b b 1#32 = 0 := by
  have h1 : (1#32).toInt = 1 := by decide
  simp only [Scf.trips, h1, Int.ediv_one]
  omega

/-- Division by one changes no word. -/
theorem divsi_one (x : BitVec 32) : Scalar.divsi x 1#32 = x := by
  have h : ¬ IntOp.SDivCorner x 1#32 := by
    unfold IntOp.SDivCorner
    rintro (h | ⟨-, h⟩) <;> exact absurd h (by decide)
  simp [Scalar.divsi, IntOp.divsi, h]

/-- The remainder copy of the loop starts where it ends. -/
theorem t2_bounds (v : BitVec 32) : (k0_t2_loop v).lb = (k0_t2_loop v).ub := by
  unfold k0_t2_loop
  dsimp only
  rw [divsi_one]
  simp [Scalar.muli, Scalar.addi, IntOp.muli, IntOp.addi]

/-- The side condition of the two loops holds for every count word. -/
theorem chk_all (v : BitVec 32) : k0_chk1 v :=
  ⟨ok_from_zero _, by
    have h := t2_bounds v
    show Scf.OK (k0_t2_loop v).lb (k0_t2_loop v).ub 1#32
    rw [h]
    exact ok_self _⟩

/-- The remainder copy of the loop runs no trip. -/
theorem t2_trips (v : BitVec 32) : (k0_t2_loop v).trips = 0 := by
  show Scf.trips (k0_t2_loop v).lb (k0_t2_loop v).ub 1#32 = 0
  rw [t2_bounds v]
  exact trips_self _

/-- For a count of at most 1024 the loop runs the count divided by 288, rounded up. -/
theorem t1_trips : ∀ n : Fin 1025, (k0_t1_loop (BitVec.ofNat 32 n.val)).trips = (n.val + 287) / 288 := by
  decide +kernel

end Cert.KernelIdeal.Moe
-- ==== Proof.Moe.Body.lean ====
module

public import proofs.«01_k».proof.Proof.Moe.Words
public import proofs.«01_k».proof.Proof.Gen.KernelIdeal.Frame
public import proofs.«01_k».proof.Proof.Gen.KernelIdeal.Skeleton
public import proofs.«01_k».proof.Proof.Gen.KernelIdeal.Points
public import Idealize.ShloMosaic.Lib.VecWindow
public import Idealize.ShloMosaic.Lib.WholeRead

/-! What one grid point of the routed mixture of experts does: at the first expert the routing is computed and kept in
the scratch buffers, and at every expert the chunks of the tokens it serves are gathered, sent through its gated layer
and added back into the block of outputs. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The functions of one point -/

/-- The normalised tokens of a block, as the scratch buffer keeps them. -/
def hOf (x : Vec F S1024x1024 .f32) (g : Vec F S1x1024 .f32) : Vec F S1024x1024 .bf16 := k0_pay4 x g

/-- The gates: for every expert and token the weight of the expert, zero where the token does not go. -/
def gateOf (x : Vec F S1024x1024 .f32) (g : Vec F S1x1024 .f32) (r : Vec F S8x1024 .f32) : Vec F S8x1024 .f32 :=
  k0_pay13 (k0_pay22 (F := F)) (k0_pay5 x g r) (k0_pay6 x g r) (k0_pay7 x g r) (Scalar.ofBits .f32 0x41000000#32) (k0_pay8 (k0_pay22 (F := F)))

/-- The routing mask: one where the token goes to the expert, zero elsewhere. -/
def maskOf (x : Vec F S1024x1024 .f32) (g : Vec F S1x1024 .f32) (r : Vec F S8x1024 .f32) : Vec F S8x1024 .f32 :=
  k0_pay15 (k0_pay22 (F := F)) (k0_pay5 x g r) (k0_pay7 x g r) (Scalar.ofBits .f32 0x41000000#32) (k0_pay8 (k0_pay22 (F := F)))

/-- The triangle of ones by which the ranks are counted. -/
def triOf : Vec F S1024x1024 .bf16 := k0_pay23 (F := F) (iota .tc S1024x1024 32 [0] iota_S1024x1024_d0_w32)

/-- The rank of every token among those of the same expert. -/
def rankOf (x : Vec F S1024x1024 .f32) (g : Vec F S1x1024 .f32) (r : Vec F S8x1024 .f32) : Vec F S8x1024 .f32 :=
  k0_pay24 (k0_pay14 (k0_pay22 (F := F)) (k0_pay5 x g r) (k0_pay7 x g r) (Scalar.ofBits .f32 0x41000000#32) (k0_pay8 (k0_pay22 (F := F)))) triOf

/-- One chunk of one expert: the block of outputs with the chunk's tokens added to. -/
def chunk (v14 v21 v28 : FVec F S1x1024 .f32) (v33 : BitVec 32) (v35 : FVec F S288x1 .f32)
    (h : Vec F S1024x1024 .bf16) (wg wu : Vec F S1x1024x1792 .bf16) (wd : Vec F S1x1792x1024 .bf16)
    (k : Fin (k0_t1_loop v33).trips) (y : Vec F S1024x1024 .f32) : Vec F S1024x1024 .f32 :=
  k0_pay1 (k0_pay17 v21 v28 v33 v35 0#32 1#32 k) (k0_pay18 v14 v21 v28 v33 v35 0#32 1#32 k h wg wu wd) y

/-- The block of outputs after the first `n` chunks of one expert. -/
def chunks (v14 v21 v28 : FVec F S1x1024 .f32) (v33 : BitVec 32) (v35 : FVec F S288x1 .f32)
    (h : Vec F S1024x1024 .bf16) (wg wu : Vec F S1x1024x1792 .bf16) (wd : Vec F S1x1792x1024 .bf16)
    (y : Vec F S1024x1024 .f32) : ℕ → Vec F S1024x1024 .f32
  | 0 => y
  | n + 1 =>
    if hn : n < (k0_t1_loop v33).trips then
      chunk v14 v21 v28 v33 v35 h wg wu wd ⟨n, hn⟩ (chunks v14 v21 v28 v33 v35 h wg wu wd y n)
    else chunks v14 v21 v28 v33 v35 h wg wu wd y n

theorem chunks_succ (v14 v21 v28 : FVec F S1x1024 .f32) (v33 : BitVec 32) (v35 : FVec F S288x1 .f32)
    (h : Vec F S1024x1024 .bf16) (wg wu : Vec F S1x1024x1792 .bf16) (wd : Vec F S1x1792x1024 .bf16)
    (y : Vec F S1024x1024 .f32) (k : Fin (k0_t1_loop v33).trips) :
    chunks v14 v21 v28 v33 v35 h wg wu wd y (k.val + 1)
      = chunk v14 v21 v28 v33 v35 h wg wu wd k (chunks v14 v21 v28 v33 v35 h wg wu wd y k.val) := by
  rw [chunks.eq_2]; exact dif_pos k.isLt

/-- The number of tokens of the point's expert, as a word. -/
def cnt (i : grid0.Coords) (mask : Vec F S8x1024 .f32) : BitVec 32 := Scalar.fptosi 32 (k0_pay29 i mask)

/-- The block of outputs after all the chunks of the point's expert. -/
def expert (i : grid0.Coords) (h : Vec F S1024x1024 .bf16) (gate mask rank : Vec F S8x1024 .f32)
    (wg wu : Vec F S1x1024x1792 .bf16) (wd : Vec F S1x1792x1024 .bf16) (y : Vec F S1024x1024 .f32) : Vec F S1024x1024 .f32 :=
  chunks (k0_pay26 i gate) (k0_pay27 i mask) (k0_pay28 i rank) (cnt i mask) (k0_pay30 (F := F)) h wg wu wd y
    (k0_t1_loop (cnt i mask)).trips

/-! ## One trip and the loop -/

set_option maxHeartbeats 1600000 in
/-- One trip of the loop over chunks. -/
theorem trip (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S8x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S1024x1024 .bf16) (harg13 : arg13.IsWhole)
    (v14 v21 v28 : FVec F S1x1024 .f32) (v33 : BitVec 32) (k0_hw1 : k0_chk1 v33) (v35 : FVec F S288x1 .f32)
    (X5 : BufTy.Contents (Elt F) arg5.view.ty) (X6 : BufTy.Contents (Elt F) arg6.view.ty) (X7 : BufTy.Contents (Elt F) arg7.view.ty)
    (X9 : BufTy.Contents (Elt F) arg9.view.ty) (f : BufTy.Contents (Elt F) arg8.view.ty) (k : Fin (k0_t1_loop v33).trips) (E : Set ℕ) :
    (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg8.view.loc (c : Thread nD τ) ↦[arg8.view.set]{fullShare} f)) : sProp (MT nD τ sig Unit (Elt F) ℕ (UR sig nD τ) ℕ))
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 v14 v21 v28 v33 k0_hw1 v35 k PUnit.unit)
          (fun _ => iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ ∃ f', (arg8.view.loc (c : Thread nD τ) ↦[arg8.view.set]{fullShare} f') ∗
            ⌜arg8.view.read (Elt F) f' = chunk v14 v21 v28 v33 v35 (arg9.view.read (Elt F) X9) (arg5.view.read (Elt F) X5)
              (arg6.view.read (Elt F) X6) (arg7.view.read (Elt F) X7) k (arg8.view.read (Elt F) f)⌝)) := by
  unfold k0_t1_body
  iintro ⟨H5, H6, H7, H9, H8⟩
  sl_exec
  sl_step
  isplitl [H5]; · iexact H5
  isplitl [H6]; · iexact H6
  isplitl [H7]; · iexact H7
  isplitl [H9]; · iexact H9
  iexists _; isplitl [H8]; · iexact H8
  ipureintro
  rw [View.read_writes_full]
  unfold trip.sl.r trip.sl.r_1 chunk
  repeat rw [View.readAt_full]

/-- The loop over the chunks, by what the block of outputs holds before each trip. -/
@[sl_loop, instance_reducible] def chunkLoop (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S8x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S1024x1024 .bf16) (harg13 : arg13.IsWhole)
    (v14 v21 v28 : FVec F S1x1024 .f32) (v33 : BitVec 32) (k0_hw1 : k0_chk1 v33) (v35 : FVec F S288x1 .f32)
    (X5 : BufTy.Contents (Elt F) arg5.view.ty) (X6 : BufTy.Contents (Elt F) arg6.view.ty) (X7 : BufTy.Contents (Elt F) arg7.view.ty)
    (X9 : BufTy.Contents (Elt F) arg9.view.ty) (G : BufTy.Contents (Elt F) arg8.view.ty) :
    LoopInv (M := MT nD τ sig Unit (Elt F) ℕ (UR sig nD τ) ℕ) Idealize.ShloMosaic.frame
      (wpE (defs₀ (F := F)) Variants.none (c : Thread nD τ) none) E
      (k0_t1_loop v33).lb (k0_t1_loop v33).ub (k0_t1_loop v33).st (k0_t1_ok v33 k0_hw1) ()
      (k0_t1_body (F := F) i arg2 harg2 arg3 harg3 arg4 harg4 arg5 harg5 arg6 harg6 arg7 harg7 arg8 harg8 arg9 harg9 arg10 harg10 arg11 harg11 arg12 harg12 arg13 harg13 v14 v21 v28 v33 k0_hw1 v35) where
  inv k _ := iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ ∃ f, (arg8.view.loc (c : Thread nD τ) ↦[arg8.view.set]{fullShare} f) ∗
    ⌜arg8.view.read (Elt F) f = chunks v14 v21 v28 v33 v35 (arg9.view.read (Elt F) X9) (arg5.view.read (Elt F) X5)
      (arg6.view.read (Elt F) X6) (arg7.view.read (Elt F) X7) (arg8.view.read (Elt F) G) k⌝)
  step k acc := by
    iintro ⟨H5, H6, H7, H9, ⟨%f, H8, %h8⟩⟩
    iapply (wp_wand_r Idealize.ShloMosaic.frame (wpE (defs₀ (F := F)) Variants.none (c : Thread nD τ) none) E)
    isplitl [H5 H6 H7 H9 H8]
    · iapply (trip c i arg2 harg2 arg3 harg3 arg4 harg4 arg5 harg5 arg6 harg6 arg7 harg7 arg8 harg8 arg9 harg9 arg10 harg10 arg11 harg11 arg12 harg12 arg13 harg13 v14 v21 v28 v33 k0_hw1 v35 X5 X6 X7 X9 f k E)
      isplitl [H5]; · iexact H5
      isplitl [H6]; · iexact H6
      isplitl [H7]; · iexact H7
      isplitl [H9]; · iexact H9
      iexact H8
    · iintro %_ ⟨H5, H6, H7, H9, ⟨%f', H8, %h8'⟩⟩
      isplitl [H5]; · iexact H5
      isplitl [H6]; · iexact H6
      isplitl [H7]; · iexact H7
      isplitl [H9]; · iexact H9
      iexists f'; isplitl [H8]; · iexact H8
      ipureintro
      rw [h8', h8, chunks_succ]

/-! ## The whole body -/

/-- A load of a whole buffer over the stores made into it reads what the stores leave. -/
theorem readCov_eq_read {sp : Space} {s : Shape} {e : EltTy} (v : View sig .tc sp s e) (L : List (View.Piece (Elt F) s e))
    {off : Fin s.rank → ℕ} (inb : ∀ a, off a + s.size a ≤ s.size a) :
    v.readCov L (Rect.unit off s.size inb).toLoadRect = v.read (Elt F) (v.writes (Elt F) v.junk L) :=
  View.readAt_full v _ inb

/-- The condition of the body's branch: the point is the first expert's. -/
abbrev first (i : grid0.Coords) : Prop :=
  (Scalar.cmpi .ne (Scalar.extui (Scalar.cmpi .eq (BitVec.ofNat 32 (i 1).val) 0#32)) 0#32) = 1#1

set_option maxHeartbeats 3200000 in
/-- The body at a point that is not the first expert's: the scratch buffers are read, the block of outputs gets the
expert's tokens. -/
theorem run_later (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S8x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S1024x1024 .bf16) (harg13 : arg13.IsWhole) (hc : ¬ first i)
    (x0 : Vec F S1024x1024 .f32) (x1 : Vec F S1x1024 .f32) (x2 : Vec F S8x1024 .f32)
    (x3 x4 : Vec F S1x1024x1792 .bf16) (x5 : Vec F S1x1792x1024 .bf16) (y : Vec F S1024x1024 .f32)
    (h : Vec F S1024x1024 .bf16) (gate mask rank : Vec F S8x1024 .f32) (E : Set ℕ)
    (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y
        ∗ owns (c : Thread nD τ) arg9 fullShare h ∗ owns (c : Thread nD τ) arg10 fullShare gate ∗ owns (c : Thread nD τ) arg11 fullShare mask ∗ owns (c : Thread nD τ) arg12 fullShare rank ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (expert i h gate mask rank x3 x4 x5 y)
            ∗ owns (c : Thread nD τ) arg9 fullShare h ∗ owns (c : Thread nD τ) arg10 fullShare gate ∗ owns (c : Thread nD τ) arg11 fullShare mask ∗ owns (c : Thread nD τ) arg12 fullShare rank ∗ (∃ d, owns (c : Thread nD τ) arg13 fullShare d)) -∗ K ⟨⟩))
      ⊢ wp frame (wpE (defs₀ (F := F)) Variants.none c none) E (cc0_moe_routed i arg2 harg2 arg3 harg3 arg4 harg4 arg5 harg5 arg6 harg6 arg7 harg7 arg8 harg8 arg9 harg9 arg10 harg10 arg11 harg11 arg12 harg12 arg13 harg13) K := by
  simp only [cc0_moe_routed_eq_skeleton]; unfold cc0_moe_routed_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%ds4, %fs4, -, HS4⟩, Hk⟩
  subst hf0 hf1 hf2 hf3 hf4 hf5 hf6 hfs0 hfs1 hfs2 hfs3
  sl_exec (disch := first | sl_exact hc | exact chk_all _)
  have htr : (k0_t2_loop (run_later.sl.v33 c i arg11 fs2)).trips = 0 := t2_trips _
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    have e0 : run_later.sl.r c i arg10 fs1 = k0_pay26 i (arg10.view.read (Elt F) fs1) := by
      unfold run_later.sl.r; rw [View.readAt_full]
    have e1 : run_later.sl.r_1 c i arg11 fs2 = k0_pay27 i (arg11.view.read (Elt F) fs2) := by
      unfold run_later.sl.r_1; rw [View.readAt_full]
    have e2 : run_later.sl.r_2 c i arg12 fs3 = k0_pay28 i (arg12.view.read (Elt F) fs3) := by
      unfold run_later.sl.r_2; rw [View.readAt_full]
    have e3 : run_later.sl.v33 c i arg11 fs2 = cnt i (arg11.view.read (Elt F) fs2) := by
      unfold run_later.sl.v33; rw [View.readAt_full]; rfl
    rw [hL5, e0, e1, e2, e3]; rfl
  isplitl [HS0]
  · iexists _; isplitr; · ipureintro; rfl
    iexact HS0
  isplitl [HS1]
  · iexists _; isplitr; · ipureintro; rfl
    iexact HS1
  isplitl [HS2]
  · iexists _; isplitr; · ipureintro; rfl
    iexact HS2
  isplitl [HS3]
  · iexists _; isplitr; · ipureintro; rfl
    iexact HS3
  iexists _, _; isplitr; swap; · iexact HS4
  ipureintro; rfl

set_option maxHeartbeats 6400000 in
/-- The body at a first expert's point: the routing is computed and kept, the block of outputs starts from the tokens
and gets the first expert's. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S8x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S1024x1024 .bf16) (harg13 : arg13.IsWhole) (hc : first i)
    (x0 : Vec F S1024x1024 .f32) (x1 : Vec F S1x1024 .f32) (x2 : Vec F S8x1024 .f32)
    (x3 x4 : Vec F S1x1024x1792 .bf16) (x5 : Vec F S1x1792x1024 .bf16) (E : Set ℕ)
    (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (expert i (hOf x0 x1) (gateOf x0 x1 x2) (maskOf x0 x1 x2) (rankOf x0 x1 x2) x3 x4 x5 x0)
            ∗ owns (c : Thread nD τ) arg9 fullShare (hOf x0 x1) ∗ owns (c : Thread nD τ) arg10 fullShare (gateOf x0 x1 x2) ∗ owns (c : Thread nD τ) arg11 fullShare (maskOf x0 x1 x2)
            ∗ owns (c : Thread nD τ) arg12 fullShare (rankOf x0 x1 x2) ∗ (∃ d, owns (c : Thread nD τ) arg13 fullShare d)) -∗ K ⟨⟩))
      ⊢ wp frame (wpE (defs₀ (F := F)) Variants.none c none) E (cc0_moe_routed i arg2 harg2 arg3 harg3 arg4 harg4 arg5 harg5 arg6 harg6 arg7 harg7 arg8 harg8 arg9 harg9 arg10 harg10 arg11 harg11 arg12 harg12 arg13 harg13) K := by
  simp only [cc0_moe_routed_eq_skeleton]; unfold cc0_moe_routed_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  subst hf0 hf1 hf2 hf3 hf4 hf5
  sl_exec (disch := first | sl_exact hc | exact chk_all _)
  have htr : (k0_t2_loop (run_first.sl.v33 c i arg2 arg3 arg4 arg11 f0 f1 f2)).trips = 0 := t2_trips _
  sl_exec
  sl_step
  have q0 : arg9.view.read (Elt F) (arg9.view.writes (Elt F) arg9.view.junk (run_first.sl.HS0_1 c arg2 arg3 f0 f1))
      = hOf (arg2.view.read (Elt F) f0) (arg3.view.read (Elt F) f1) := by
    unfold run_first.sl.HS0_1
    rw [View.read_writes_full, View.readAt_full, View.readAt_full]; rfl
  have p0 : run_first.sl.r c arg2 arg3 arg4 f0 f1 f2 = k0_pay5 (arg2.view.read (Elt F) f0) (arg3.view.read (Elt F) f1) (arg4.view.read (Elt F) f2) := by
    unfold run_first.sl.r
    rw [View.readAt_full, View.readAt_full, View.readAt_full]
  have p1 : run_first.sl.r_1 c arg2 arg3 arg4 f0 f1 f2 = k0_pay6 (arg2.view.read (Elt F) f0) (arg3.view.read (Elt F) f1) (arg4.view.read (Elt F) f2) := by
    unfold run_first.sl.r_1
    rw [View.readAt_full, View.readAt_full, View.readAt_full]
  have p2 : run_first.sl.r_2 c arg2 arg3 arg4 f0 f1 f2 = k0_pay7 (arg2.view.read (Elt F) f0) (arg3.view.read (Elt F) f1) (arg4.view.read (Elt F) f2) := by
    unfold run_first.sl.r_2
    rw [View.readAt_full, View.readAt_full, View.readAt_full]
  have q1 : arg10.view.read (Elt F) (arg10.view.writes (Elt F) arg10.view.junk (run_first.sl.HS1_1 c arg2 arg3 arg4 f0 f1 f2))
      = gateOf (arg2.view.read (Elt F) f0) (arg3.view.read (Elt F) f1) (arg4.view.read (Elt F) f2) := by
    unfold run_first.sl.HS1_1
    rw [View.read_writes_full, p0, p1, p2]; rfl
  have q2 : arg11.view.read (Elt F) (arg11.view.writes (Elt F) arg11.view.junk (run_first.sl.HS2_1 c arg2 arg3 arg4 f0 f1 f2))
      = maskOf (arg2.view.read (Elt F) f0) (arg3.view.read (Elt F) f1) (arg4.view.read (Elt F) f2) := by
    unfold run_first.sl.HS2_1
    rw [View.read_writes_full, p0, p2]; rfl
  have p3 : run_first.sl.v155 (F := F) c arg13 = triOf := by
    unfold run_first.sl.v155 run_first.sl.HS4_1
    rw [View.readCov_full]; rfl
  have q3 : arg12.view.read (Elt F) (arg12.view.writes (Elt F) arg12.view.junk (run_first.sl.HS3_1 c arg2 arg3 arg4 arg13 f0 f1 f2))
      = rankOf (arg2.view.read (Elt F) f0) (arg3.view.read (Elt F) f1) (arg4.view.read (Elt F) f2) := by
    unfold run_first.sl.HS3_1
    rw [View.read_writes_full, p3]
    unfold run_first.sl.r_4
    rw [p0, p2]; rfl
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    have e0 : run_first.sl.r_5 c i arg2 arg3 arg4 arg10 f0 f1 f2 = k0_pay26 i (gateOf (arg2.view.read (Elt F) f0) (arg3.view.read (Elt F) f1) (arg4.view.read (Elt F) f2)) := by
      unfold run_first.sl.r_5 run_first.sl.v8
      rw [← q1, readCov_eq_read]
    have e1 : run_first.sl.r_6 c i arg2 arg3 arg4 arg11 f0 f1 f2 = k0_pay27 i (maskOf (arg2.view.read (Elt F) f0) (arg3.view.read (Elt F) f1) (arg4.view.read (Elt F) f2)) := by
      unfold run_first.sl.r_6 run_first.sl.v15
      rw [← q2, readCov_eq_read]
    have e2 : run_first.sl.r_7 c i arg2 arg3 arg4 arg12 arg13 f0 f1 f2 = k0_pay28 i (rankOf (arg2.view.read (Elt F) f0) (arg3.view.read (Elt F) f1) (arg4.view.read (Elt F) f2)) := by
      unfold run_first.sl.r_7 run_first.sl.v22
      rw [← q3, readCov_eq_read]
    have e3 : run_first.sl.v33 c i arg2 arg3 arg4 arg11 f0 f1 f2 = cnt i (maskOf (arg2.view.read (Elt F) f0) (arg3.view.read (Elt F) f1) (arg4.view.read (Elt F) f2)) := by
      unfold run_first.sl.v33 run_first.sl.v15
      rw [← q2, readCov_eq_read]; rfl
    have e4 : arg8.view.read (Elt F) (arg8.view.writes (Elt F) arg8.view.junk (run_first.sl.H6_1 c arg2 f0))
        = arg2.view.read (Elt F) f0 := by
      unfold run_first.sl.H6_1; rw [View.read_writes_full, View.readAt_full]
    rw [hL5, e0, e1, e2, e3, e4, q0]; rfl
  isplitl [HS0]
  · iexists _; isplitr; swap; · iexact HS0
    ipureintro
    exact q0
  isplitl [HS1]
  · iexists _; isplitr; swap; · iexact HS1
    ipureintro
    exact q1
  isplitl [HS2]
  · iexists _; isplitr; swap; · iexact HS2
    ipureintro
    exact q2
  isplitl [HS3]
  · iexists _; isplitr; swap; · iexact HS3
    ipureintro
    exact q3
  iexists _, _; isplitr; swap; · iexact HS4
  ipureintro; rfl

end Cert.KernelIdeal.Moe

end
-- ==== Proof.Moe.Launch.lean ====
module

public import proofs.«01_k».proof.Proof.Moe.Body
public import Idealize.ShloMosaic.Lib.Pipeline.FrameBody
public import Idealize.ShloMosaic.Lib.WordCmp
public import Idealize.ShloMosaic.Lib.Claim

/-! The whole launch: what the block of outputs and the scratch buffers hold after every grid point, that the body
keeps to it, and what the arrays are at the end. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is a first expert's exactly when its number is a multiple of eight. -/
theorem first_iff : ∀ t : Fin cfg0.N, first (grid0.coords t) ↔ t.val % 8 = 0 :=
  (fun t => by
    have ht : t.val < 128 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

/-! ## What the buffers hold after each point -/

/-- The block of outputs, the normalised tokens, the gates, the mask and the ranks. -/
abbrev State (F : FTy → Type) [FloatOps F] : Type :=
  Vec F S1024x1024 .f32 × Vec F S1024x1024 .bf16 × Vec F S8x1024 .f32 × Vec F S8x1024 .f32 × Vec F S8x1024 .f32

/-- What a first expert's point leaves. -/
def opened (c : Dev nD) (t : Fin cfg0.N) : State F :=
  (expert (grid0.coords t) (hOf (iblk m c 0 t) (iblk m c 1 t)) (gateOf (iblk m c 0 t) (iblk m c 1 t) (iblk m c 2 t))
      (maskOf (iblk m c 0 t) (iblk m c 1 t) (iblk m c 2 t)) (rankOf (iblk m c 0 t) (iblk m c 1 t) (iblk m c 2 t))
      (iblk m c 3 t) (iblk m c 4 t) (iblk m c 5 t) (iblk m c 0 t),
    hOf (iblk m c 0 t) (iblk m c 1 t), gateOf (iblk m c 0 t) (iblk m c 1 t) (iblk m c 2 t),
    maskOf (iblk m c 0 t) (iblk m c 1 t) (iblk m c 2 t), rankOf (iblk m c 0 t) (iblk m c 1 t) (iblk m c 2 t))

/-- What a later expert's point leaves, from what the point before left. -/
def added (c : Dev nD) (t : Fin cfg0.N) (s : State F) : State F :=
  (expert (grid0.coords t) s.2.1 s.2.2.1 s.2.2.2.1 s.2.2.2.2 (iblk m c 3 t) (iblk m c 4 t) (iblk m c 5 t) s.1, s.2)

/-- What the buffers hold after point `n`. -/
def left (c : Dev nD) : (n : ℕ) → n < cfg0.N → State F
  | 0, hn => opened m c ⟨0, hn⟩
  | n + 1, hn => if (n + 1) % 8 = 0 then opened m c ⟨n + 1, hn⟩ else added m c ⟨n + 1, hn⟩ (left c n (Nat.lt_of_succ_lt hn))

theorem left_first (c : Dev nD) (t : Fin cfg0.N) (h0 : t.val % 8 = 0) : left m c t.val t.isLt = opened m c t := by
  obtain ⟨n, hn⟩ := t
  cases n with
  | zero => rfl
  | succ n => exact if_pos h0

theorem left_later (c : Dev nD) (t : Fin cfg0.N) (h0 : ¬ t.val % 8 = 0) :
    left m c t.val t.isLt = added m c t (left m c (t.val - 1) (Nat.lt_of_le_of_lt (Nat.sub_le _ _) t.isLt)) := by
  obtain ⟨n, hn⟩ := t
  cases n with
  | zero => exact absurd (Nat.zero_mod _) h0
  | succ n => exact if_neg h0

/-! ## The scratch buffers between the points -/

abbrev scr0 : Memref sig .tc .vmem S1024x1024 .bf16 := Memref.whole cc0_scratch0
abbrev scr1 : Memref sig .tc .vmem S8x1024 .f32 := Memref.whole cc0_scratch1
abbrev scr2 : Memref sig .tc .vmem S8x1024 .f32 := Memref.whole cc0_scratch2
abbrev scr3 : Memref sig .tc .vmem S8x1024 .f32 := Memref.whole cc0_scratch3
abbrev scr4 : Memref sig .tc .vmem S1024x1024 .bf16 := Memref.whole cc0_scratch4

/-- The scratch buffers at anything. -/
theorem rest_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)
          ∗ (∃ d, owns (c : Thread nD τ) scr4 fullShare d)) ∗ (∃ r, prngReg c r)) := by
  unfold Pipeline.ΦA; rw [scopedRest0_eq]; simp only [scr0, scr1, scr2, scr3, scr4, owns_whole]; try rfl

/-- The scratch buffers holding the routing of a state. -/
def kept (c : Dev nD) (s : State F) : sProp 𝕄 :=
  iprop(iprop(owns (c : Thread nD τ) scr0 fullShare s.2.1 ∗ owns (c : Thread nD τ) scr1 fullShare s.2.2.1
    ∗ owns (c : Thread nD τ) scr2 fullShare s.2.2.2.1 ∗ owns (c : Thread nD τ) scr3 fullShare s.2.2.2.2
    ∗ (∃ d, owns (c : Thread nD τ) scr4 fullShare d)) ∗ (∃ r, prngReg c r))

/-- What the scratch buffers hold before point `n`. -/
def between (c : Dev nD) : (n : ℕ) → n ≤ cfg0.N → sProp 𝕄
  | 0, _ => Pipeline.ΦA spec0 c
  | n + 1, hn => kept c (left m c n hn)

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = kept c (left m c (n - 1) (by omega)) := by
  cases n with
  | zero => exact absurd rfl hz
  | succ n => rfl

/-- The kept scratch buffers are scratch buffers at something. -/
theorem kept_rest (c : Dev nD) (s : State F) : kept c s ⊢ (Pipeline.ΦA spec0 c : sProp 𝕄) := by
  rw [rest_eq]; unfold kept
  iintro ⟨⟨H0, H1, H2, H3, H4⟩, Hg⟩
  isplitl [H0 H1 H2 H3 H4]
  · isplitl [H0]
    · iexists _; iexact H0
    isplitl [H1]
    · iexists _; iexact H1
    isplitl [H2]
    · iexists _; iexact H2
    isplitl [H3]
    · iexists _; iexact H3
    iexact H4
  iexact Hg

/-- Before any point the scratch buffers are at something. -/
theorem between_rest (c : Dev nD) (n : ℕ) (h : n ≤ cfg0.N) : between m c n h ⊢ (Pipeline.ΦA spec0 c : sProp 𝕄) := by
  cases n with
  | zero => exact Idealize.SL.BI.Entails.refl _
  | succ n => exact kept_rest c _

theorem between_open (c : Dev nD) (n : ℕ) (h : n ≤ cfg0.N) : between m c n h ⊢
    (iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)
          ∗ (∃ d, owns (c : Thread nD τ) scr4 fullShare d)) ∗ (∃ r, prngReg c r)) : sProp 𝕄) := by
  rw [← rest_eq]; exact between_rest m c n h

/-! ## The launch's data -/

/-- The data of the launch: the arrays as the region finds them, the inputs' blocks left in place, the block of outputs
and the scratch buffers as `left` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).1
  Φ t := between m c t.val (Nat.le_of_lt_succ t.isLt)
  q _ := fullShare
  owed _ := 0

theorem dats_arrays (c : Dev nD) (w : Fin cfg0.W) : (dats m 0 c).A w = V m c (Pipeline.arrRef spec0 w) := by
  dsimp only [dats]

theorem dats_before (c : Dev nD) (t : Fin cfg0.N) :
    (dats m 0 c).Φ t.castSucc = between m c t.val (Nat.le_of_lt t.isLt) := by
  dsimp only [dats]; exact Pipeline.Dat.Φ_castSucc (between m c) t

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = (left m c t.val t.isLt).1 := by dsimp only [dats]

/-- At a later expert's point the block of outputs holds what the point before left in it. -/
theorem before_out (c : Dev nD) (t : Fin cfg0.N) (h0 : ¬t.val % 8 = 0) (d) :
    (dats m 0 c).before 6 t d = (left m c (t.val - 1) (Nat.lt_of_le_of_lt (Nat.sub_le _ _) t.isLt)).1 := by
  have hN : t.val < 128 := lt_of_lt_of_eq t.isLt (show cfg0.N = 128 from N_0)
  rw [Dat.before_out_kept _ 6 rfl t (by omega)
    (Bool.eq_false_iff.mpr fun h => by have := (flush0_6 _).mp h; dsimp only at this; omega)
    (fun _ => rfl) (fun _ _ => rfl)]
  dsimp only [dats]

/-! ## The body at every point -/

abbrev stg0 (t : Fin cfg0.N) : Memref sig .tc .vmem S1024x1024 .f32 := win0_0.stage (cfg0.slots t 0)
abbrev stg1 (t : Fin cfg0.N) : Memref sig .tc .vmem S1x1024 .f32 := win0_1.stage (cfg0.slots t 1)
abbrev stg2 (t : Fin cfg0.N) : Memref sig .tc .vmem S8x1024 .f32 := win0_2.stage (cfg0.slots t 2)
abbrev stg3 (t : Fin cfg0.N) : Memref sig .tc .vmem S1x1024x1792 .bf16 := win0_3.stage (cfg0.slots t 3)
abbrev stg4 (t : Fin cfg0.N) : Memref sig .tc .vmem S1x1024x1792 .bf16 := win0_4.stage (cfg0.slots t 4)
abbrev stg5 (t : Fin cfg0.N) : Memref sig .tc .vmem S1x1792x1024 .bf16 := win0_5.stage (cfg0.slots t 5)
abbrev stg6 (t : Fin cfg0.N) : Memref sig .tc .vmem S1024x1024 .f32 := win0_6.stage (cfg0.slots t 6)

/-- What the body is called with at a point. -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What the body returns at a point. -/
def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 6400000 in
/-- The body keeps to what `left` says, at every point. -/
theorem body_sound (c : Dev nD) (t : Fin cfg0.N) :
    given m c t ⊢ wp frame (wpE (defs₀ (F := F)) Variants.none c none) Set.univ (bodyAt0 t) (fun _ => returned m c t) := by
  unfold given returned bodyAt0
  simp only [before0_0_of m (dats m 0 c) (dats_arrays m c 0) (after_in0 m c), before0_1_of m (dats m 0 c) (dats_arrays m c 1) (after_in1 m c),
    before0_2_of m (dats m 0 c) (dats_arrays m c 2) (after_in2 m c), before0_3_of m (dats m 0 c) (dats_arrays m c 3) (after_in3 m c),
    before0_4_of m (dats m 0 c) (dats_arrays m c 4) (after_in4 m c), before0_5_of m (dats m 0 c) (dats_arrays m c 5) (after_in5 m c)]
  rw [show (dats m 0 c).owesAt () t.succ = (dats m 0 c).owesAt () t.castSucc from rfl,
    after_in0, after_in1, after_in2, after_in3, after_in4, after_in5, after_out]
  rw [show (dats m 0 c).Φ t.succ = kept c (left m c t.val t.isLt) from rfl, dats_before]
  by_cases h0 : t.val % 8 = 0
  · rw [left_first m c t h0]
    iintro ⟨Hs, Ho, ⟨%d0, H0⟩, ⟨%d1, H1⟩, ⟨%d2, H2⟩, ⟨%d3, H3⟩, ⟨%d4, H4⟩, ⟨%d5, H5⟩, ⟨%d6, H6⟩⟩
    ihave Hr := (between_open m c t.val (Nat.le_of_lt t.isLt)) $$ Hs
    icases Hr with ⟨⟨S0, S1, S2, S3, S4⟩, Hg⟩
    iapply (run_first c (grid0.coords t) _ _ _ _ _ _ _ _ _ _ _ _ _ _ _ _ _ _ _ _ _ _ _ _ ((first_iff t).mpr h0)
      (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    isplitl [S4]; · iexact S4
    iintro ⟨H0, H1, H2, H3, H4, H5, H6, S0, S1, S2, S3, S4⟩
    unfold kept opened
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [left_later m c t h0, between_pos m c _ _ (fun hz => h0 (by rw [hz]))]
    simp only [before_out m c t h0]
    unfold kept added
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ _ _ _ _ _ _ _ _ (fun h => h0 ((first_iff t).mp h))
      (iblk m c 0 t) (iblk m c 1 t) (iblk m c 2 t) (iblk m c 3 t) (iblk m c 4 t) (iblk m c 5 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    iintro ⟨H0, H1, H2, H3, H4, H5, H6, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_at (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, defs₀_at]
  exact triple_restated (body_sound m c t) rfl .rfl fun _ => .rfl

theorem enter (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl]
  exact between_rest m c _ _

/-! ## The run -/

set_option backward.isDefEq.respectTransparency.types false in
/-- The program runs to the end: every array as the launch's data say, every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_arrays m) (hin := enter m) (hout := leave m)

theorem run_post : θ_run defs (onTc (τ := τ) (main (F := F))) (s₀ m ρ) (Pipeline.FramePost cfgs (dats m) 0 (V m)) :=
  (θ_run defs _ _).mono (fun _ h => h.1) (run_all m ρ)

/-- The frame: the arguments end as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_arrays m) (run_post m ρ)) ((θ_run defs _ _).mono (fun _ h => h.2) (run_all m ρ))

/-- The array of outputs at the end is what the launch's data say. -/
theorem run_out : θ_run defs (onTc (τ := τ) (main (F := F))) ⟨m, fun _ => 0, ρ⟩ (fun r => ∀ c : Dev nD,
      r.2.mem ((c : Thread nD τ).loc main_v5) = (dats m 0 c).arrAt 6 cfg0.N) :=
  (θ_run defs _ _).mono (fun _ h c => (h c).1 6) (run_post m ρ)

end Cert.KernelIdeal.Moe

end
-- ==== Proof.Moe.Blocks.lean ====
module

public import proofs.«01_k».proof.Proof.Moe.Launch
public import Idealize.ShloMosaic.Lib.Pipeline.ValueKit
public import Idealize.ShloMosaic.Lib.Claim

/-! Each window's block at a grid point, read at the argument arrays. -/

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The block index of every window at every point. -/
theorem idx_val : ∀ t : Fin cfg0.N, win0_0.index t = ![t.val / 8, 0] ∧ win0_1.index t = ![0, 0] ∧ win0_2.index t = ![0, 0]
    ∧ win0_3.index t = ![t.val % 8, 0, 0] ∧ win0_4.index t = ![t.val % 8, 0, 0] ∧ win0_5.index t = ![t.val % 8, 0, 0]
    ∧ win0_6.index t = ![t.val / 8, 0] :=
  (by decide +kernel : ∀ t : Fin grid0.N, _)

/-- The number of grid points. -/
theorem points (t : Fin cfg0.N) : t.val < 128 := lt_of_lt_of_eq t.isLt N_0

/-- The tokens' block at a point. -/
theorem x_blk (c : Dev nD) (t : Fin cfg0.N) (a d : Fin 1024) :
    ((iblk m c 0 t : FVec Ideal S1024x1024 .f32) (ix2 a d) : EReal)
      = (m ((c : Thread nD τ).loc main_arg0) : FVec Ideal S16384x1024 .f32)
          (ix2 ⟨t.val / 8 * 1024 + a.val, by have := points t; omega⟩ d) := by
  blk_ext [iblk, V, idx_val t]

/-- The gain's block at a point. -/
theorem g_blk (c : Dev nD) (t : Fin cfg0.N) (d : Fin 1024) :
    ((iblk m c 1 t : FVec Ideal S1x1024 .f32) (ix2 0 d) : EReal)
      = (m ((c : Thread nD τ).loc main_arg1) : FVec Ideal S1024 .f32) (ix1 d) := by
  blk_point [iblk, V, idx_val t]

/-- The router's block at a point. -/
theorem r_blk (c : Dev nD) (t : Fin cfg0.N) (e : Fin 8) (d : Fin 1024) :
    ((iblk m c 2 t : FVec Ideal S8x1024 .f32) (ix2 e d) : EReal)
      = (m ((c : Thread nD τ).loc main_arg2) : FVec Ideal S1024x8 .f32) (ix2 d e) := by
  blk_point [iblk, V, idx_val t]

/-- The gate weights' block at a point. -/
theorem wg_blk (c : Dev nD) (t : Fin cfg0.N) (a : Fin 1024) (f : Fin 1792) :
    ((iblk m c 3 t : FVec Ideal S1x1024x1792 .bf16) (ix3 0 a f) : EReal)
      = (m ((c : Thread nD τ).loc main_arg3) : FVec Ideal S8x1024x1792 .f32) (ix3 ⟨t.val % 8, by omega⟩ a f) := by
  blk_point [iblk, V, idx_val t]

/-- The up weights' block at a point. -/
theorem wu_blk (c : Dev nD) (t : Fin cfg0.N) (a : Fin 1024) (f : Fin 1792) :
    ((iblk m c 4 t : FVec Ideal S1x1024x1792 .bf16) (ix3 0 a f) : EReal)
      = (m ((c : Thread nD τ).loc main_arg4) : FVec Ideal S8x1024x1792 .f32) (ix3 ⟨t.val % 8, by omega⟩ a f) := by
  blk_point [iblk, V, idx_val t]

/-- The down weights' block at a point. -/
theorem wd_blk (c : Dev nD) (t : Fin cfg0.N) (f : Fin 1792) (d : Fin 1024) :
    ((iblk m c 5 t : FVec Ideal S1x1792x1024 .bf16) (ix3 0 f d) : EReal)
      = (m ((c : Thread nD τ).loc main_arg5) : FVec Ideal S8x1792x1024 .f32) (ix3 ⟨t.val % 8, by omega⟩ f d) := by
  blk_point [iblk, V, idx_val t]

end Cert.KernelIdeal.Moe
-- ==== Proof.Moe.Places.lean ====
module

public import Mathlib.Data.EReal.Operations
public import Mathlib.Algebra.BigOperators.Ring.Finset
public import Mathlib.Order.Interval.Finset.Fin

/-! Counting the tokens of an expert: the place of a token among those the expert serves, and the tokens served in one
chunk of places. -/

@[expose] public section

namespace Cert.Moe

variable {n : ℕ} (M : Finset (Fin n))

/-- The place of token `t` among the tokens of `M`: how many of them come before it. -/
def place (t : Fin n) : ℕ := (M.filter (· < t)).card

variable {M}

/-- The tokens up to and with a token of `M` number one more than its place. -/
theorem card_upto {t : Fin n} (ht : t ∈ M) : (M.filter (· ≤ t)).card = place M t + 1 := by
  have h : M.filter (· ≤ t) = insert t (M.filter (· < t)) := by
    ext x
    simp only [Finset.mem_filter, Finset.mem_insert]
    constructor
    · rintro ⟨hx, hle⟩
      exact hle.eq_or_lt.imp id fun h => ⟨hx, h⟩
    · rintro (rfl | ⟨hx, hlt⟩)
      · exact ⟨ht, le_rfl⟩
      · exact ⟨hx, hlt.le⟩
  rw [h, Finset.card_insert_of_notMem (by simp)]
  rfl

/-- A place is less than the number of tokens. -/
theorem place_lt {t : Fin n} (ht : t ∈ M) : place M t < M.card :=
  Nat.lt_of_succ_le ((card_upto ht).symm.trans_le (Finset.card_le_card (Finset.filter_subset _ _)))

/-- A later token has a greater place. -/
theorem place_mono {s t : Fin n} (hs : s ∈ M) (h : s < t) : place M s < place M t := by
  refine Nat.lt_of_succ_le ((card_upto hs).symm.trans_le (Finset.card_le_card fun x hx => ?_))
  simp only [Finset.mem_filter] at hx ⊢
  exact ⟨hx.1, hx.2.trans_lt h⟩

/-- Two tokens of `M` at the same place are the same. -/
theorem place_inj {s t : Fin n} (hs : s ∈ M) (ht : t ∈ M) (h : place M s = place M t) : s = t := by
  rcases lt_trichotomy s t with k | k | k
  · exact absurd (place_mono hs k) (by omega)
  · exact k
  · exact absurd (place_mono ht k) (by omega)

/-- The running count of `M`'s tokens less one is the place, at a token of `M`. -/
theorem sum_upto_sub_one {t : Fin n} (ht : t ∈ M) :
    (∑ x : Fin n, if x ≤ t then (if x ∈ M then (1 : EReal) else 0) else 0) - 1 = ((place M t : ℝ) : EReal) := by
  have h : (∑ x : Fin n, if x ≤ t then (if x ∈ M then (1 : EReal) else 0) else 0) = (((place M t : ℝ) + 1 : ℝ) : EReal) := by
    simp only [← ite_and]
    rw [Finset.sum_boole]
    have e : (Finset.univ.filter fun x : Fin n => x ≤ t ∧ x ∈ M) = M.filter (· ≤ t) := by
      ext x; simp [and_comm]
    rw [e, card_upto ht]
    push_cast
    rfl
  rw [h, show (1 : EReal) = ((1 : ℝ) : EReal) from rfl, ← EReal.coe_sub]
  simp

/-- The number of tokens as a sum of ones. -/
theorem sum_card : (∑ x : Fin n, if x ∈ M then (1 : EReal) else 0) = ((M.card : ℝ) : EReal) := by
  rw [Finset.sum_boole, Finset.filter_mem_eq_inter, Finset.univ_inter]
  rfl

/-- Summing over the slots of a chunk of places a value held at one slot only. -/
theorem sum_slot {b : ℕ} (k q : ℕ) (v : EReal) (hb : 0 < b) :
    (∑ r : Fin b, if q = r.val + b * k then v else 0) = if q / b = k then v else 0 := by
  by_cases h : q / b = k
  · rw [if_pos h, Finset.sum_eq_single ⟨q % b, Nat.mod_lt _ hb⟩]
    · rw [if_pos]
      subst h
      exact (Nat.mod_add_div q b).symm
    · intro r _ hr
      refine if_neg fun e => hr (Fin.ext ?_)
      show r.val = q % b
      rw [e, Nat.add_mul_mod_self_left, Nat.mod_eq_of_lt r.isLt]
    · intro h'; exact absurd (Finset.mem_univ _) h'
  · rw [if_neg h]
    refine Finset.sum_eq_zero fun r _ => if_neg fun e => h ?_
    rw [e, Nat.add_mul_div_left _ _ hb, Nat.div_eq_of_lt r.isLt, Nat.zero_add]

end Cert.Moe
-- ==== Proof.Moe.Gather.lean ====
module

public import proofs.«01_k».proof.Proof.Moe.Body
public import proofs.«01_k».proof.Proof.Moe.Places
public import Idealize.ShloMosaic.Lib.Pipeline.ValueKit

/-! What one expert adds to a block of outputs, over the extended reals: to each token that the expert serves, the
gated layer of the token's own row, and nothing to the others. -/

@[expose] public section

set_option maxRecDepth 16384

noncomputable section

namespace Cert.KernelIdeal.Moe

open Idealize.ShloMosaic Idealize.ShloMosaic.TcCoe Idealize.SL.Sem
open Cert.KernelIdeal Cert.KernelIdeal.Gen Cert.Moe

/-- The gated layer of one expert on the row `h`, with the weight `g`, at channel `d`. -/
def layer (h : Fin 1024 → EReal) (g : EReal) (wg wu : Fin 1024 → Fin 1792 → EReal) (wd : Fin 1792 → Fin 1024 → EReal)
    (d : Fin 1024) : EReal :=
  ∑ f, ((∑ k, h k * wg k f) * Ideal.logistic (∑ k, h k * wg k f) * (∑ k, h k * wu k f) * g) * wd f d

/-- A small number made a word and then a float is that number. -/
theorem sitofp_small (n : ℕ) (hn : n < 2 ^ 31) :
    (FloatOps.sitofp (F := Ideal) FTy.f32 (BitVec.ofNat 32 n) : EReal) = ((n : ℝ) : EReal) := by
  have h : (BitVec.ofNat 32 n).toInt = n := by
    rw [BitVec.toInt_eq_toNat_of_lt] <;> rw [BitVec.toNat_ofNat, Nat.mod_eq_of_lt (by omega)]
    omega
  show (((BitVec.ofNat 32 n).toInt : ℝ) : EReal) = _
  rw [h]
  norm_cast

/-- The first place of chunk `k`. -/
theorem chunk_start (k : ℕ) (hk : k < 4) : (Scalar.muli (Scf.iv 0#32 1#32 k) 288#32).toInt = 288 * k := by
  have h : ∀ k : Fin 4, (Scalar.muli (Scf.iv 0#32 1#32 k.val) 288#32).toInt = 288 * k.val := by decide
  exact_mod_cast h ⟨k, hk⟩

/-- Slot `r` of a chunk takes token `t` just when the expert serves it and its place is the slot's. -/
theorem pick_apply (v21 v28 : FVec Ideal S1x1024 .f32) (M : Finset (Fin 1024)) (w : BitVec 32)
    (hm : ∀ t : Fin 1024, (v21 (ix2 0 t) : EReal) = if t ∈ M then 1 else 0)
    (hr : ∀ t : Fin 1024, t ∈ M → (v28 (ix2 0 t) : EReal) = ((place M t : ℝ) : EReal))
    (k : Fin (k0_t1_loop w).trips) (hk : k.val < 4) (r : Fin 288) (t : Fin 1024) :
    (k0_pay16 (F := Ideal) v21 v28 w k0_pay30 0#32 1#32 k (ix2 r t) : EReal)
      = if t ∈ M ∧ place M t = r.val + 288 * k.val then 1 else 0 := by
  pointwise [k0_pay16, k0_pay30]
  rw [chunk_start k.val hk]
  rw [sitofp_small r.val (by omega)]
  have hpos : (0 < (v21 (ix2 0 t) : EReal)) ↔ t ∈ M := by
    rw [hm t]; split <;> simp_all
  by_cases ht : t ∈ M
  · have heq : ((v28 (ix2 0 t) : EReal) = ((r.val : ℝ) : EReal) + (((288 * k.val : ℤ) : ℝ) : EReal))
        ↔ place M t = r.val + 288 * k.val := by
      rw [hr t ht, ← EReal.coe_add, EReal.coe_eq_coe_iff]
      constructor
      · intro h; exact_mod_cast h
      · intro h; rw [h]; push_cast; rfl
    rw [show (decide (0 < (v21 (ix2 0 t) : EReal))) = true from decide_eq_true (hpos.mpr ht)]
    by_cases hp : place M t = r.val + 288 * k.val
    · rw [decide_eq_true (heq.mpr hp), if_pos ⟨ht, hp⟩]; rfl
    · rw [decide_eq_false (mt heq.mp hp), if_neg fun h => hp h.2]; rfl
  · rw [show (decide (0 < (v21 (ix2 0 t) : EReal))) = false from decide_eq_false (mt hpos.mp ht), if_neg fun h => ht h.1]
    have hb : ∀ b : Bool, Scalar.select (IntOp.andi (BitVec.ofBool b) (BitVec.ofBool false)) (1 : EReal) 0 = 0 := by
      intro b; cases b <;> rfl
    exact hb _

/-- A slot that takes token `t` reads, from any row of numbers over the tokens, the number of token `t`. -/
theorem sum_pick (v21 v28 : FVec Ideal S1x1024 .f32) (M : Finset (Fin 1024)) (w : BitVec 32)
    (hm : ∀ t : Fin 1024, (v21 (ix2 0 t) : EReal) = if t ∈ M then 1 else 0)
    (hr : ∀ t : Fin 1024, t ∈ M → (v28 (ix2 0 t) : EReal) = ((place M t : ℝ) : EReal))
    (k : Fin (k0_t1_loop w).trips) (hk : k.val < 4) (r : Fin 288) (t : Fin 1024) (ht : t ∈ M)
    (hp : place M t = r.val + 288 * k.val) (f : Fin 1024 → EReal) :
    (∑ x : Fin 1024, (k0_pay16 (F := Ideal) v21 v28 w k0_pay30 0#32 1#32 k (ix2 r x) : EReal) * f x) = f t := by
  rw [Finset.sum_eq_single t]
  · rw [pick_apply v21 v28 M w hm hr k hk, if_pos ⟨ht, hp⟩, one_mul]
  · intro x _ hx
    rw [pick_apply v21 v28 M w hm hr k hk, if_neg, zero_mul]
    rintro ⟨hx', hp'⟩
    exact hx (place_inj hx' ht (hp'.trans hp.symm))
  · intro h; exact absurd (Finset.mem_univ _) h

/-- One chunk adds to each token at one of its places the gated layer of the token's row. -/
theorem chunk_apply (v14 v21 v28 : FVec Ideal S1x1024 .f32) (M : Finset (Fin 1024)) (w : BitVec 32)
    (hm : ∀ t : Fin 1024, (v21 (ix2 0 t) : EReal) = if t ∈ M then 1 else 0)
    (hr : ∀ t : Fin 1024, t ∈ M → (v28 (ix2 0 t) : EReal) = ((place M t : ℝ) : EReal))
    (h : Vec Ideal S1024x1024 .bf16) (wg wu : Vec Ideal S1x1024x1792 .bf16) (wd : Vec Ideal S1x1792x1024 .bf16)
    (k : Fin (k0_t1_loop w).trips) (hk : k.val < 4) (y : Vec Ideal S1024x1024 .f32) (t d : Fin 1024) :
    (chunk v14 v21 v28 w (k0_pay30 (F := Ideal)) h wg wu wd k y (ix2 t d) : EReal)
      = y (ix2 t d) + if t ∈ M ∧ place M t / 288 = k.val then
          layer (fun a => h (ix2 t a)) (v14 (ix2 0 t)) (fun a f => wg (ix3 0 a f)) (fun a f => wu (ix3 0 a f))
            (fun f a => wd (ix3 0 f a)) d
        else 0 := by
  unfold chunk
  pointwise [k0_pay1]
  refine congrArg (y (ix2 t d) + ·) ?_
  have hslot : ∀ r : Fin 288, (k0_pay17 (F := Ideal) v21 v28 w k0_pay30 0#32 1#32 k (ix2 r t) : EReal)
      * (k0_pay18 (F := Ideal) v14 v21 v28 w k0_pay30 0#32 1#32 k h wg wu wd (ix2 r d) : EReal)
      = if place M t = r.val + 288 * k.val then (if t ∈ M then
          layer (fun a => h (ix2 t a)) (v14 (ix2 0 t)) (fun a f => wg (ix3 0 a f)) (fun a f => wu (ix3 0 a f))
            (fun f a => wd (ix3 0 f a)) d else 0) else 0 := by
    intro r
    have h17 : ∀ x : Fin 1024, (k0_pay17 (F := Ideal) v21 v28 w k0_pay30 0#32 1#32 k (ix2 r x) : EReal)
        = k0_pay16 (F := Ideal) v21 v28 w k0_pay30 0#32 1#32 k (ix2 r x) := fun x => rfl
    rw [h17 t, pick_apply v21 v28 M w hm hr k hk]
    by_cases ht : t ∈ M ∧ place M t = r.val + 288 * k.val
    · rw [if_pos ht, one_mul, if_pos ht.2, if_pos ht.1]
      have hx := sum_pick v21 v28 M w hm hr k hk r t ht.1 ht.2
      generalize hs : (k0_pay30 (F := Ideal)) = slot at hx h17 ⊢
      pointwise [k0_pay18]
      simp only [h17, hx]
      rfl
    · rw [if_neg ht, zero_mul]
      split
      · rename_i hp; rw [if_neg fun h => ht ⟨h, hp⟩]
      · rfl
  refine (Finset.sum_congr rfl fun r _ => hslot r).trans ((sum_slot k.val _ _ (by omega)).trans ?_)
  by_cases ht : t ∈ M <;> by_cases hp : place M t / 288 = k.val <;> simp [ht, hp]

/-- The chunks before the `n`th add to each token at one of their places the gated layer of the token's row. -/
theorem chunks_apply (v14 v21 v28 : FVec Ideal S1x1024 .f32) (M : Finset (Fin 1024)) (w : BitVec 32)
    (hm : ∀ t : Fin 1024, (v21 (ix2 0 t) : EReal) = if t ∈ M then 1 else 0)
    (hr : ∀ t : Fin 1024, t ∈ M → (v28 (ix2 0 t) : EReal) = ((place M t : ℝ) : EReal))
    (h : Vec Ideal S1024x1024 .bf16) (wg wu : Vec Ideal S1x1024x1792 .bf16) (wd : Vec Ideal S1x1792x1024 .bf16)
    (y : Vec Ideal S1024x1024 .f32) (t d : Fin 1024) (htr : (k0_t1_loop w).trips ≤ 4) :
    ∀ n, n ≤ (k0_t1_loop w).trips →
      (chunks v14 v21 v28 w (k0_pay30 (F := Ideal)) h wg wu wd y n (ix2 t d) : EReal)
        = y (ix2 t d) + if t ∈ M ∧ place M t / 288 < n then
            layer (fun a => h (ix2 t a)) (v14 (ix2 0 t)) (fun a f => wg (ix3 0 a f)) (fun a f => wu (ix3 0 a f))
              (fun f a => wd (ix3 0 f a)) d
          else 0
  | 0, _ => by
    rw [if_neg (by omega), add_zero]; rfl
  | n + 1, hn => by
    rw [chunks_succ v14 v21 v28 w (k0_pay30 (F := Ideal)) h wg wu wd y ⟨n, hn⟩]
    rw [chunk_apply v14 v21 v28 M w hm hr h wg wu wd ⟨n, hn⟩ (by show n < 4; omega)]
    show (chunks v14 v21 v28 w (k0_pay30 (F := Ideal)) h wg wu wd y n (ix2 t d) : EReal) + _ = _
    rw [chunks_apply v14 v21 v28 M w hm hr h wg wu wd y t d htr n (by omega), add_assoc]
    refine congrArg (y (ix2 t d) + ·) ?_
    show (if t ∈ M ∧ place M t / 288 < n then _ else 0) + (if t ∈ M ∧ place M t / 288 = n then _ else 0) = _
    by_cases ht : t ∈ M
    · rcases lt_trichotomy (place M t / 288) n with hp | hp | hp
      · rw [if_pos ⟨ht, hp⟩, if_neg (by omega), if_pos ⟨ht, by omega⟩, add_zero]
      · rw [if_neg (by omega), if_pos ⟨ht, hp⟩, if_pos ⟨ht, by omega⟩, zero_add]
      · rw [if_neg (by omega), if_neg (by omega), if_neg (by omega), add_zero]
    · rw [if_neg fun h => ht h.1, if_neg fun h => ht h.1, if_neg fun h => ht h.1, add_zero]

/-- Summing the rows of a block with every row but expert `e`'s put to zero gives the expert's row. -/
theorem sum_mine (i : grid0.Coords) (e : Fin 8) (he : (i 1).val = e.val) (f : Fin 8 → EReal) :
    (∑ x : Fin 8, if FloatOps.sitofp (F := Ideal) FTy.f32 (BitVec.ofNat 32 x.val)
      = (((BitVec.ofNat 32 (i 1).val).toInt : ℝ) : EReal) then f x else 0) = f e := by
  have hi : (((BitVec.ofNat 32 (i 1).val).toInt : ℝ) : EReal) = ((e.val : ℝ) : EReal) := by
    rw [he]; exact sitofp_small e.val (by omega)
  rw [hi, Finset.sum_eq_single e]
  · rw [if_pos (sitofp_small e.val (by omega))]
  · intro x _ hx
    refine if_neg fun h => hx (Fin.ext ?_)
    rw [sitofp_small x.val (by omega), EReal.coe_eq_coe_iff] at h
    exact_mod_cast h
  · intro h; exact absurd (Finset.mem_univ _) h

/-- The row of weights at a point is its expert's. -/
theorem gate_row (i : grid0.Coords) (e : Fin 8) (he : (i 1).val = e.val) (v : Vec Ideal S8x1024 .f32) (t : Fin 1024) :
    (k0_pay26 (F := Ideal) i v (ix2 0 t) : EReal) = v (ix2 e t) := by
  pointwise [k0_pay26, k0_pay25, k0_pay22]
  exact sum_mine i e he fun x => v (ix2 x t)

/-- The row of the mask at a point is its expert's. -/
theorem mask_row (i : grid0.Coords) (e : Fin 8) (he : (i 1).val = e.val) (v : Vec Ideal S8x1024 .f32) (t : Fin 1024) :
    (k0_pay27 (F := Ideal) i v (ix2 0 t) : EReal) = v (ix2 e t) := by
  pointwise [k0_pay27, k0_pay25, k0_pay22]
  exact sum_mine i e he fun x => v (ix2 x t)

/-- The row of places at a point is its expert's. -/
theorem rank_row (i : grid0.Coords) (e : Fin 8) (he : (i 1).val = e.val) (v : Vec Ideal S8x1024 .f32) (t : Fin 1024) :
    (k0_pay28 (F := Ideal) i v (ix2 0 t) : EReal) = v (ix2 e t) := by
  pointwise [k0_pay28, k0_pay25, k0_pay22]
  exact sum_mine i e he fun x => v (ix2 x t)

/-- The word that counts the point's tokens. -/
theorem cnt_eq (i : grid0.Coords) (e : Fin 8) (he : (i 1).val = e.val) (v : Vec Ideal S8x1024 .f32)
    (M : Finset (Fin 1024)) (hm : ∀ t : Fin 1024, (v (ix2 e t) : EReal) = if t ∈ M then 1 else 0) :
    cnt (F := Ideal) i v = BitVec.ofNat 32 M.card := by
  have hs : (k0_pay29 (F := Ideal) i v : EReal) = ((M.card : ℝ) : EReal) := by
    unfold k0_pay29
    pointwise []
    simp only [mask_row i e he v, hm, sum_card]
    simp
  have hc : M.card ≤ 1024 := (Finset.card_le_univ M).trans_eq (Fintype.card_fin _)
  unfold cnt
  rw [hs]
  show Ideal.fptosi 32 _ = _
  unfold Ideal.fptosi
  have : Ideal.toIntClamped (-(2 ^ (32 - 1) : Nat)) ((2 ^ (32 - 1) : Nat) - 1) ((M.card : ℝ) : EReal) = M.card := by
    show max _ (min _ (if (0 : ℝ) ≤ (M.card : ℝ) then ⌊(M.card : ℝ)⌋ else ⌈(M.card : ℝ)⌉)) = _
    rw [if_pos (Nat.cast_nonneg _), Int.floor_natCast]
    omega
  rw [this]
  rfl

/-- What the point's expert adds: to each token it serves the gated layer of the token's row, nothing to the others. -/
theorem expert_apply (i : grid0.Coords) (e : Fin 8) (he : (i 1).val = e.val) (h : Vec Ideal S1024x1024 .bf16)
    (gate mask rank : Vec Ideal S8x1024 .f32) (M : Finset (Fin 1024))
    (hm : ∀ t : Fin 1024, (mask (ix2 e t) : EReal) = if t ∈ M then 1 else 0)
    (hr : ∀ t : Fin 1024, t ∈ M → (rank (ix2 e t) : EReal) = ((place M t : ℝ) : EReal))
    (wg wu : Vec Ideal S1x1024x1792 .bf16) (wd : Vec Ideal S1x1792x1024 .bf16)
    (y : Vec Ideal S1024x1024 .f32) (t d : Fin 1024) :
    (expert i h gate mask rank wg wu wd y (ix2 t d) : EReal)
      = y (ix2 t d) + if t ∈ M then
          layer (fun a => h (ix2 t a)) (gate (ix2 e t)) (fun a f => wg (ix3 0 a f)) (fun a f => wu (ix3 0 a f))
            (fun f a => wd (ix3 0 f a)) d
        else 0 := by
  have hc : M.card ≤ 1024 := (Finset.card_le_univ M).trans_eq (Fintype.card_fin _)
  have htr : (k0_t1_loop (cnt (F := Ideal) i mask)).trips = (M.card + 287) / 288 := by
    rw [cnt_eq i e he mask M hm]
    exact t1_trips ⟨M.card, by omega⟩
  unfold expert
  rw [chunks_apply _ _ _ M _ (fun t => (mask_row i e he mask t).trans (hm t))
    (fun t ht => (rank_row i e he rank t).trans (hr t ht)) h wg wu wd y t d (by omega) _ le_rfl]
  refine congrArg (y (ix2 t d) + ·) ?_
  by_cases ht : t ∈ M
  · have hp := place_lt ht
    rw [if_pos ht, if_pos ⟨ht, by omega⟩, gate_row i e he gate t]
  · rw [if_neg ht, if_neg fun h => ht h.1]

end Cert.KernelIdeal.Moe
-- ==== Proof.Moe.Topmost.lean ====
module

public import Idealize.ShloMosaic.Lib.SortFacts
public import Mathlib.Data.EReal.Basic
public import Mathlib.Data.Finset.Fold

/-! The greatest and the second greatest of a row of extended reals, the lower position first where two are equal: as
the stable sort lists them, and as two rounds of "take the maximum, then the least position that attains it" find
them. -/

@[expose] public section

noncomputable section

namespace Cert.Moe

open Idealize.ShloMosaic

variable {n : ℕ} (p : Fin n → EReal)

/-- Position `a` is listed before position `b`: its element is greater, or equal and at the lower position. -/
def Before (a b : Fin n) : Prop := p b < p a ∨ (p b = p a ∧ a < b)

/-- Being listed before is transitive. -/
theorem Before.trans {a b c : Fin n} (h : Before p a b) (k : Before p b c) : Before p a c := by
  rcases h with h | ⟨h, h'⟩ <;> rcases k with k | ⟨k, k'⟩
  · exact .inl (k.trans h)
  · exact .inl (k ▸ h)
  · exact .inl (h ▸ k)
  · exact .inr ⟨k.trans h, h'.trans k'⟩

/-- Inserting a position lower than all of a list in order keeps the list in order. -/
theorem pairwise_insert (a : Fin n) (l : List (Fin n)) (ha : ∀ b ∈ l, a < b) (hl : l.Pairwise (Before p)) :
    (insertBefore (fun j k => decide (p k < p j)) a l).Pairwise (Before p) := by
  induction l with
  | nil => exact List.pairwise_singleton _ _
  | cons b l ih =>
    rw [List.pairwise_cons] at hl
    have hab : a < b := ha b List.mem_cons_self
    unfold insertBefore
    split
    · rename_i h
      have h : p a < p b := by simpa using h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl h
      · exact hl.1 c hc'
    · rename_i h
      have h : p b ≤ p a := by simpa using h
      have hb : Before p a b := h.lt_or_eq.imp id fun e => ⟨e, hab⟩
      refine List.pairwise_cons.mpr ⟨fun c hc => ?_, List.pairwise_cons.mpr hl⟩
      rcases List.mem_cons.mp hc with rfl | hc'
      · exact hb
      · exact hb.trans p (hl.1 c hc')

/-- The stable sort of an increasing list of positions lists them in order. -/
theorem pairwise_sort (l : List (Fin n)) (hl : l.Pairwise (· < ·)) :
    (stableSort (fun j k => decide (p k < p j)) l).Pairwise (Before p) := by
  induction l with
  | nil => exact List.Pairwise.nil
  | cons a l ih =>
    rw [List.pairwise_cons] at hl
    unfold stableSort
    exact pairwise_insert p a _ (fun b hb => hl.1 b ((perm_stableSort _ l).mem_iff.mp hb)) (ih hl.2)

/-- The position that the stable sort, greatest first, lists at place `k`. -/
def ranked (k : Fin n) : Fin n := sortedFrom (fun a b => decide (p b < p a)) k

/-- Earlier places of the listing hold positions that come before. -/
theorem ranked_before {j k : Fin n} (h : j < k) : Before p (ranked p j) (ranked p k) := by
  have hp : ∀ a b : Fin (sortPositions n fun a b => decide (p b < p a)).length, a < b →
      Before p ((sortPositions n fun a b => decide (p b < p a)).get a)
        ((sortPositions n fun a b => decide (p b < p a)).get b) :=
    List.pairwise_iff_get.mp (pairwise_sort p _ (List.pairwise_lt_finRange n))
  unfold ranked sortedFrom
  exact hp _ _ h

/-- Every position is listed at some place. -/
theorem exists_ranked (b : Fin n) : ∃ k, ranked p k = b := sortedFrom_surjective _ b

/-- Of eight: the position of the greatest. -/
def first (p : Fin 8 → EReal) : Fin 8 := ranked p 0

/-- Of eight: the position of the second greatest. -/
def second (p : Fin 8 → EReal) : Fin 8 := ranked p 1

/-- The greatest comes before every other. -/
theorem first_before (p : Fin 8 → EReal) (b : Fin 8) (hb : b ≠ first p) : Before p (first p) b := by
  obtain ⟨k, rfl⟩ := exists_ranked p b
  refine ranked_before p (Fin.pos_of_ne_zero fun h => hb ?_)
  rw [h]; rfl

/-- The second greatest comes before every other but the greatest. -/
theorem second_before (p : Fin 8 → EReal) (b : Fin 8) (hb : b ≠ first p) (hb' : b ≠ second p) :
    Before p (second p) b := by
  obtain ⟨k, rfl⟩ := exists_ranked p b
  refine ranked_before p ?_
  have h0 : k ≠ 0 := fun h => hb (by rw [h]; rfl)
  have h1 : k ≠ 1 := fun h => hb' (by rw [h]; rfl)
  omega

/-- The two are different positions. -/
theorem second_ne_first (p : Fin 8 → EReal) : second p ≠ first p := by
  intro h
  rcases ranked_before p (show (0 : Fin 8) < 1 by decide) with k | ⟨_, k⟩
  · exact absurd k (by rw [show ranked p 1 = ranked p 0 from h]; exact lt_irrefl _)
  · exact absurd k (by rw [show ranked p 1 = ranked p 0 from h]; exact lt_irrefl _)

/-- The maximum of a row, taken from `-∞`, is the element of the position that comes before every other. -/
theorem fold_max_eq (i : Fin n) (hi : ∀ b, b ≠ i → Before p i b) (z : EReal) (hz : z = ⊥) :
    Finset.fold max z p Finset.univ = p i := by
  refine le_antisymm ((Finset.fold_max_le _).mpr ⟨hz ▸ bot_le, fun b _ => ?_⟩)
    ((Finset.le_fold_max _).mpr (.inr ⟨i, Finset.mem_univ _, le_rfl⟩))
  by_cases hb : b = i
  · rw [hb]
  · rcases hi b hb with h | ⟨h, _⟩
    · exact h.le
    · exact h.le

/-- The least of the numbers `v x` of the positions that attain the maximum, taken from `+∞` with `c`, not less than
any of them, standing at the others, is the number of the position that comes before every other. -/
theorem fold_min_eq (i : Fin n) (hi : ∀ b, b ≠ i → Before p i b) (v : Fin n → EReal) (hv : Monotone v) (c : EReal)
    (hc : ∀ x, v x ≤ c) (z : EReal) (hz : z = ⊤) :
    Finset.fold min z (fun x => if p x = p i then v x else c) Finset.univ = v i := by
  refine le_antisymm ((Finset.fold_min_le _).mpr (.inr ⟨i, Finset.mem_univ _, by simp⟩))
    ((Finset.le_fold_min _).mpr ⟨hz ▸ le_top, fun b _ => ?_⟩)
  split
  · rename_i h
    by_cases hb : b = i
    · rw [hb]
    · rcases hi b hb with k | ⟨_, k⟩
      · exact absurd h k.ne
      · exact hv k.le
  · exact hc i

/-- Where no element is negative, the greatest of the row with a negative number put at the greatest is the second
greatest. -/
theorem second_before_rest (p : Fin 8 → EReal) (hp : ∀ e, 0 ≤ p e) (c : EReal) (hc : c < 0) (b : Fin 8)
    (hb : b ≠ second p) : Before (fun e => if e = first p then c else p e) (second p) b := by
  by_cases hf : b = first p
  · left
    simp only [if_neg (second_ne_first p), if_pos hf]
    exact lt_of_lt_of_le hc (hp _)
  · have h := second_before p b hf hb
    unfold Before at h ⊢
    simp only [if_neg (second_ne_first p), if_neg hf]
    exact h

end Cert.Moe
-- ==== Proof.Moe.Choice.lean ====
module

public import proofs.«01_k».proof.Proof.Moe.Topmost
public import Idealize.ShloMosaic.PureOps.Ideal
public import Mathlib.Tactic.NormNum

/-! The weights of the eight experts for one token: the two most probable experts share the weight in proportion to
their probabilities. Two spellings — by two rounds of taking the maximum, and by a sorted list — agree. -/

@[expose] public section

noncomputable section

namespace Cert.Moe

open Idealize.ShloMosaic

/-- The probabilities of the eight experts from their scores. -/
def probs (l : Fin 8 → EReal) (e : Fin 8) : EReal :=
  Ideal.div (Ideal.exp (l e - Finset.fold max (Ideal.ofBits FTy.f32 0xFF800000#32) l Finset.univ))
    (∑ x, Ideal.exp (l x - Finset.fold max (Ideal.ofBits FTy.f32 0xFF800000#32) l Finset.univ))

/-- The row with `-1` put at the greatest. -/
def rest (p : Fin 8 → EReal) (e : Fin 8) : EReal := if e = first p then Ideal.ofBits FTy.f32 0xBF800000#32 else p e

/-- The weight of expert `e` by two rounds of taking the maximum. -/
def gate (p : Fin 8 → EReal) (e : Fin 8) : EReal :=
  (if e = first p then Ideal.div (p (first p)) (p (first p) + rest p (first (rest p))) else 0)
    + (if e = first (rest p) then Ideal.div (rest p (first (rest p))) (p (first p) + rest p (first (rest p))) else 0)

/-- Expert `e` is one of the two that the rounds choose. -/
def chosen (p : Fin 8 → EReal) (e : Fin 8) : Prop := e = first p ∨ e = first (rest p)

instance (p : Fin 8 → EReal) (e : Fin 8) : Decidable (chosen p e) := by unfold chosen; infer_instance

/-- An expert that is not chosen has weight zero. -/
theorem gate_of_not_chosen (p : Fin 8 → EReal) (e : Fin 8) (h : ¬ chosen p e) : gate p e = 0 := by
  unfold chosen at h
  push Not at h
  unfold gate
  rw [if_neg h.1, if_neg h.2, add_zero]

/-- The position that comes before every other is the greatest's. -/
theorem eq_first (p : Fin 8 → EReal) (i : Fin 8) (hi : ∀ b, b ≠ i → Before p i b) : first p = i := by
  by_contra h
  rcases hi _ h with h1 | ⟨h1, h2⟩ <;> rcases first_before p i (Ne.symm h) with k1 | ⟨k1, k2⟩
  · exact lt_asymm h1 k1
  · exact h1.ne k1.symm
  · exact k1.ne h1.symm
  · exact lt_asymm h2 k2

/-- An exponential is not negative. -/
theorem exp_nonneg (x : EReal) : 0 ≤ Ideal.exp x := by
  induction x with
  | bot => simp
  | top => simp
  | coe r => rw [Ideal.exp_coe]; exact_mod_cast (Real.exp_pos r).le

/-- The probabilities are all nonnegative, or, where the scores have no finite maximum, all `-∞`. -/
theorem probs_cases (l : Fin 8 → EReal) : (∀ e, 0 ≤ probs l e) ∨ ∀ e, probs l e = ⊥ := by
  unfold probs
  generalize Finset.fold max (Ideal.ofBits FTy.f32 0xFF800000#32) l Finset.univ = M
  by_cases hS : (∑ x, Ideal.exp (l x - M)) = 0
  · right
    intro e
    have h := (Finset.sum_eq_zero_iff_of_nonneg fun x _ => exp_nonneg (l x - M)).mp hS e (Finset.mem_univ _)
    rw [hS, h]
    simp [Ideal.div]
  · left
    intro e
    unfold Ideal.div
    rw [if_neg hS]
    exact mul_nonneg (exp_nonneg _) (EReal.inv_nonneg_of_nonneg (Finset.sum_nonneg fun x _ => exp_nonneg _))

/-- The pattern of minus one. -/
theorem minus_one : Ideal.ofBits FTy.f32 0xBF800000#32 = -1 := by
  simp [Ideal.ofBits, Ideal.ieee]
  rw [← EReal.coe_mul]
  norm_num

/-- Where no probability is negative, the second round finds the second greatest. -/
theorem first_rest_of_nonneg (p : Fin 8 → EReal) (hp : ∀ e, 0 ≤ p e) : first (rest p) = second p :=
  eq_first _ _ fun b hb => second_before_rest p hp _ (by rw [minus_one]; norm_num) b hb

/-- Where every probability is `-∞`, the second round finds the first again. -/
theorem first_rest_of_bot (p : Fin 8 → EReal) (hp : ∀ e, p e = ⊥) : first (rest p) = first p := by
  refine eq_first _ _ fun b hb => .inl ?_
  unfold rest
  rw [if_neg hb, if_pos rfl, hp, minus_one]
  exact EReal.bot_lt_coe _

/-- Dividing by `-∞` gives zero. -/
theorem div_bot (x : EReal) : Ideal.div x ⊥ = 0 := by
  unfold Ideal.div
  rw [if_neg (by simp), EReal.inv_bot, mul_zero]

/-- The two spellings of the weight agree. -/
theorem gate_eq (p : Fin 8 → EReal) (hp : (∀ e, 0 ≤ p e) ∨ ∀ e, p e = ⊥) (e : Fin 8) :
    gate p e = ∑ k : Fin 2, (if ranked p ⟨k.val, by omega⟩ = e then (1 : EReal) else 0)
      * Ideal.div (p (ranked p ⟨k.val, by omega⟩)) (∑ j : Fin 2, p (ranked p ⟨j.val, by omega⟩)) := by
  rw [Fin.sum_univ_two, Fin.sum_univ_two]
  show gate p e = (if first p = e then (1 : EReal) else 0) * Ideal.div (p (first p)) (p (first p) + p (second p))
    + (if second p = e then (1 : EReal) else 0) * Ideal.div (p (second p)) (p (first p) + p (second p))
  rcases hp with hp | hp
  · unfold gate
    have hr : rest p (second p) = p (second p) := if_neg (second_ne_first p)
    rw [first_rest_of_nonneg p hp, hr]
    simp only [eq_comm (a := e), ite_mul, one_mul, zero_mul]
  · unfold gate
    rw [first_rest_of_bot p hp]
    simp only [hp, EReal.bot_add, div_bot, mul_zero, ite_self, add_zero]

end Cert.Moe
-- ==== Proof.Moe.Routing.lean ====
module

public import proofs.«01_k».proof.Proof.Moe.Gather
public import proofs.«01_k».proof.Proof.Moe.Choice

/-! What the first point of a block computes, over the extended reals: the normalised rows, each token's expert
weights, the mask of the chosen experts, and each token's place among those its expert serves. -/

@[expose] public section

set_option maxRecDepth 16384

noncomputable section

namespace Cert.Moe

open Idealize.ShloMosaic

/-- A row divided by its root mean square and multiplied by the gain. -/
def normed (x g : Fin 1024 → EReal) (d : Fin 1024) : EReal :=
  x d * Ideal.rsqrt (Ideal.div (∑ k, x k * x k) (Ideal.ofBits FTy.f32 0x44800000#32)
    + Ideal.ofBits FTy.f32 0x358637BD#32) * g d

/-- The probabilities of the eight experts for one token: its normalised row against each expert's router column. -/
def tokenProbs (x g : Fin 1024 → EReal) (r : Fin 8 → Fin 1024 → EReal) : Fin 8 → EReal :=
  probs fun e => ∑ k, r e k * normed x g k

end Cert.Moe

namespace Cert.KernelIdeal.Moe

open Idealize.ShloMosaic Idealize.ShloMosaic.TcCoe Idealize.SL.Sem
open Cert.KernelIdeal Cert.KernelIdeal.Gen Cert.Moe

/-- The pattern of minus infinity. -/
theorem minus_inf : Ideal.ofBits FTy.f32 0xFF800000#32 = ⊥ := by
  simp [Ideal.ofBits, Ideal.ieee]

/-- The pattern of plus infinity. -/
theorem plus_inf : Ideal.ofBits FTy.f32 0x7F800000#32 = ⊤ := by
  simp [Ideal.ofBits, Ideal.ieee]

/-- The pattern of eight. -/
theorem eight : Ideal.ofBits FTy.f32 0x41000000#32 = ((8 : ℝ) : EReal) := by
  simp [Ideal.ofBits, Ideal.ieee]
  rw [← EReal.coe_mul]
  norm_num

/-- The stored row is the normalised row. -/
theorem hOf_apply (x : Vec Ideal S1024x1024 .f32) (g : Vec Ideal S1x1024 .f32) (t d : Fin 1024) :
    (hOf (F := Ideal) x g (ix2 t d) : EReal) = normed (fun a => x (ix2 t a)) (fun a => g (ix2 0 a)) d := by
  unfold hOf
  pointwise [k0_pay4, k0_pay3]
  rfl

/-- The probabilities of one token. -/
theorem probs_apply (x : Vec Ideal S1024x1024 .f32) (g : Vec Ideal S1x1024 .f32) (r : Vec Ideal S8x1024 .f32)
    (e : Fin 8) (t : Fin 1024) :
    (k0_pay5 (F := Ideal) x g r (ix2 e t) : EReal)
      = tokenProbs (fun a => x (ix2 t a)) (fun a => g (ix2 0 a)) (fun e a => r (ix2 e a)) e := by
  have h3 : ∀ d : Fin 1024, (k0_pay3 (F := Ideal) x g (ix2 t d) : EReal)
      = normed (fun a => x (ix2 t a)) (fun a => g (ix2 0 a)) d := fun d => by
    pointwise [k0_pay3]
    rfl
  pointwise [k0_pay5]
  simp only [h3]
  rfl

/-- Comparing an expert's number with the least number that attains the maximum tells the first that attains it. -/
theorem is_first (p : Fin 8 → EReal) (e : Fin 8) :
    ((FloatOps.sitofp (F := Ideal) FTy.f32 (BitVec.ofNat 32 e.val) : EReal)
        = Finset.fold min (Ideal.ofBits FTy.f32 0x7F800000#32)
            (fun x : Fin 8 => if p x = Finset.fold max (Ideal.ofBits FTy.f32 0xFF800000#32) p Finset.univ then
              (FloatOps.sitofp (F := Ideal) FTy.f32 (BitVec.ofNat 32 x.val) : EReal)
              else Ideal.ofBits FTy.f32 0x41000000#32) Finset.univ)
      ↔ e = Cert.Moe.first p := by
  have hn : ∀ x : Fin 8, (FloatOps.sitofp (F := Ideal) FTy.f32 (BitVec.ofNat 32 x.val) : EReal) = ((x.val : ℝ) : EReal) :=
    fun x => sitofp_small x.val (by omega)
  simp only [hn]
  rw [fold_max_eq p (Cert.Moe.first p) (first_before p) _ minus_inf,
    fold_min_eq p (Cert.Moe.first p) (first_before p) (fun x => ((x.val : ℝ) : EReal))
      (fun a b h => by show ((a.val : ℝ) : EReal) ≤ ((b.val : ℝ) : EReal); exact_mod_cast h) _ (fun x => by rw [eight]; exact_mod_cast (by omega)) _ plus_inf,
    EReal.coe_eq_coe_iff]
  constructor
  · intro h; exact Fin.ext (by exact_mod_cast h)
  · intro h; rw [h]

section Token

variable (p : FVec Ideal S8x1024 .f32) (q : IVec S8x1024 1) (t : Fin 1024) (P : Fin 8 → EReal)

/-- The first round's choice, as a bit. -/
theorem hot1_apply (hq : ∀ e : Fin 8, q (ix2 e t)
      = BitVec.ofBool (decide (P e = Finset.fold max (Ideal.ofBits FTy.f32 0xFF800000#32) P Finset.univ))) (e : Fin 8) :
    k0_pay9 (F := Ideal) k0_pay22 q (Scalar.ofBits .f32 0x41000000#32) (k0_pay8 k0_pay22) (ix2 e t)
      = BitVec.ofBool (decide (e = Cert.Moe.first P)) := by
  pointwise [k0_pay9, k0_pay8, k0_pay22]
  simp only [hq, Scalar.select_ofBool, decide_eq_true_eq]
  exact congrArg BitVec.ofBool (decide_eq_decide.mpr (is_first P e))

/-- The row of the second round. -/
theorem rest_apply (hp : ∀ e : Fin 8, (p (ix2 e t) : EReal) = P e)
    (hq : ∀ e : Fin 8, q (ix2 e t)
      = BitVec.ofBool (decide (P e = Finset.fold max (Ideal.ofBits FTy.f32 0xFF800000#32) P Finset.univ))) (e : Fin 8) :
    (k0_pay10 (F := Ideal) k0_pay22 p q (Scalar.ofBits .f32 0x41000000#32) (k0_pay8 k0_pay22) (ix2 e t) : EReal)
      = rest P e := by
  have h9 := hot1_apply q t P hq
  generalize hc : (Scalar.ofBits .f32 0x41000000#32 : Ideal .f32) = c at h9 ⊢
  generalize hv : (k0_pay8 (F := Ideal) k0_pay22) = v at h9 ⊢
  generalize hw : (k0_pay22 (F := Ideal)) = w at h9 ⊢
  pointwise [k0_pay10]
  rw [h9 e, hp e, Scalar.select_ofBool]
  unfold rest
  simp only [decide_eq_true_eq]

/-- The second round's maximum. -/
theorem max2_apply (hp : ∀ e : Fin 8, (p (ix2 e t) : EReal) = P e)
    (hq : ∀ e : Fin 8, q (ix2 e t)
      = BitVec.ofBool (decide (P e = Finset.fold max (Ideal.ofBits FTy.f32 0xFF800000#32) P Finset.univ))) :
    (k0_pay11 (F := Ideal) k0_pay22 p q (Scalar.ofBits .f32 0x41000000#32) (k0_pay8 k0_pay22) (ix2 0 t) : EReal)
      = rest P (Cert.Moe.first (rest P)) := by
  have h10 := rest_apply p q t P hp hq
  generalize hc : (Scalar.ofBits .f32 0x41000000#32 : Ideal .f32) = c at h10 ⊢
  generalize hv : (k0_pay8 (F := Ideal) k0_pay22) = v at h10 ⊢
  generalize hw : (k0_pay22 (F := Ideal)) = w at h10 ⊢
  pointwise [k0_pay11]
  simp only [h10]
  exact fold_max_eq (rest P) _ (first_before _) _ minus_inf

/-- The second round's choice, as a bit. -/
theorem hot2_apply (hp : ∀ e : Fin 8, (p (ix2 e t) : EReal) = P e)
    (hq : ∀ e : Fin 8, q (ix2 e t)
      = BitVec.ofBool (decide (P e = Finset.fold max (Ideal.ofBits FTy.f32 0xFF800000#32) P Finset.univ))) (e : Fin 8) :
    k0_pay12 (F := Ideal) k0_pay22 p q (Scalar.ofBits .f32 0x41000000#32) (k0_pay8 k0_pay22) (ix2 e t)
      = BitVec.ofBool (decide (e = Cert.Moe.first (rest P))) := by
  have h10 := rest_apply p q t P hp hq
  have h11 := max2_apply p q t P hp hq
  have hw : ∀ x : Fin 8, (k0_pay22 (F := Ideal) (ix2 x 0) : EReal) = FloatOps.sitofp (F := Ideal) FTy.f32 (BitVec.ofNat 32 x.val) :=
    fun x => by pointwise [k0_pay22]
  generalize hc : (Scalar.ofBits .f32 0x41000000#32 : Ideal .f32) = c at h10 h11 ⊢
  generalize hv : (k0_pay8 (F := Ideal) k0_pay22) = v at h10 h11 ⊢
  generalize hw' : (k0_pay22 (F := Ideal)) = w at h10 h11 hw ⊢
  pointwise [k0_pay12]
  simp only [h10, h11, hw]
  refine congrArg BitVec.ofBool (decide_eq_decide.mpr ?_)
  have h := is_first (rest P) e
  rw [fold_max_eq (rest P) _ (first_before _) _ minus_inf] at h
  exact h

end Token

/-- The comparison of the probabilities with their maximum, as bits. -/
theorem tops_apply (x : Vec Ideal S1024x1024 .f32) (g : Vec Ideal S1x1024 .f32) (r : Vec Ideal S8x1024 .f32)
    (P : Fin 8 → EReal) (t : Fin 1024) (hp : ∀ e : Fin 8, (k0_pay5 (F := Ideal) x g r (ix2 e t) : EReal) = P e) (e : Fin 8) :
    k0_pay7 (F := Ideal) x g r (ix2 e t)
      = BitVec.ofBool (decide (P e = Finset.fold max (Ideal.ofBits FTy.f32 0xFF800000#32) P Finset.univ)) := by
  pointwise [k0_pay7, k0_pay6]
  simp only [hp]

/-- The first round's maximum. -/
theorem max1_apply (x : Vec Ideal S1024x1024 .f32) (g : Vec Ideal S1x1024 .f32) (r : Vec Ideal S8x1024 .f32)
    (P : Fin 8 → EReal) (t : Fin 1024) (hp : ∀ e : Fin 8, (k0_pay5 (F := Ideal) x g r (ix2 e t) : EReal) = P e) :
    (k0_pay6 (F := Ideal) x g r (ix2 0 t) : EReal) = P (Cert.Moe.first P) := by
  pointwise [k0_pay6]
  simp only [hp]
  exact fold_max_eq P _ (first_before _) _ minus_inf

/-- The weight of expert `e` for token `t`. -/
theorem gateOf_apply (x : Vec Ideal S1024x1024 .f32) (g : Vec Ideal S1x1024 .f32) (r : Vec Ideal S8x1024 .f32)
    (e : Fin 8) (t : Fin 1024) :
    (gateOf (F := Ideal) x g r (ix2 e t) : EReal)
      = gate (tokenProbs (fun a => x (ix2 t a)) (fun a => g (ix2 0 a)) (fun e a => r (ix2 e a))) e := by
  have hp := fun e => probs_apply x g r e t
  generalize tokenProbs (fun a => x (ix2 t a)) (fun a => g (ix2 0 a)) (fun e a => r (ix2 e a)) = P at hp ⊢
  have hq := tops_apply x g r P t hp
  have h6 := max1_apply x g r P t hp
  have h9 := hot1_apply _ t P hq
  have h11 := max2_apply _ _ t P hp hq
  have h12 := hot2_apply _ _ t P hp hq
  unfold gateOf
  generalize hc : (Scalar.ofBits .f32 0x41000000#32 : Ideal .f32) = c at h9 h11 h12 ⊢
  generalize hv : (k0_pay8 (F := Ideal) k0_pay22) = v at h9 h11 h12 ⊢
  generalize hw : (k0_pay22 (F := Ideal)) = w at h9 h11 h12 ⊢
  pointwise [k0_pay13]
  rw [h9, h12, h11, h6, Scalar.select_ofBool, Scalar.select_ofBool]
  simp only [decide_eq_true_eq]
  rfl

/-- A select on either of two bits. -/
theorem select_or (A B : Prop) [Decidable A] [Decidable B] :
    Scalar.select (IntOp.ori (BitVec.ofBool (decide A)) (BitVec.ofBool (decide B))) (1 : EReal) 0 = if A ∨ B then 1 else 0 := by
  by_cases a : A <;> by_cases b : B <;> simp only [a, b, decide_true, decide_false, true_or, or_true, or_self, if_true, if_false] <;> rfl

/-- The mask before it is stored: one where expert `e` is chosen for token `t`. -/
theorem mask_apply (x : Vec Ideal S1024x1024 .f32) (g : Vec Ideal S1x1024 .f32) (r : Vec Ideal S8x1024 .f32)
    (e : Fin 8) (t : Fin 1024) :
    (k0_pay14 (F := Ideal) k0_pay22 (k0_pay5 x g r) (k0_pay7 x g r) (Scalar.ofBits .f32 0x41000000#32) (k0_pay8 k0_pay22) (ix2 e t) : EReal)
      = if chosen (tokenProbs (fun a => x (ix2 t a)) (fun a => g (ix2 0 a)) (fun e a => r (ix2 e a))) e then 1 else 0 := by
  have hp := fun e => probs_apply x g r e t
  generalize tokenProbs (fun a => x (ix2 t a)) (fun a => g (ix2 0 a)) (fun e a => r (ix2 e a)) = P at hp ⊢
  have hq := tops_apply x g r P t hp
  have h9 := hot1_apply _ t P hq
  have h12 := hot2_apply _ _ t P hp hq
  generalize hc : (Scalar.ofBits .f32 0x41000000#32 : Ideal .f32) = c at h9 h12 ⊢
  generalize hv : (k0_pay8 (F := Ideal) k0_pay22) = v at h9 h12 ⊢
  generalize hw : (k0_pay22 (F := Ideal)) = w at h9 h12 ⊢
  pointwise [k0_pay14]
  rw [h9, h12]
  exact select_or _ _

/-- The tokens of a block that choose expert `e`. -/
def served (x : Vec Ideal S1024x1024 .f32) (g : Vec Ideal S1x1024 .f32) (r : Vec Ideal S8x1024 .f32) (e : Fin 8) :
    Finset (Fin 1024) :=
  Finset.univ.filter fun t => chosen (tokenProbs (fun a => x (ix2 t a)) (fun a => g (ix2 0 a)) (fun e a => r (ix2 e a))) e

/-- The mask is one at the tokens that choose the expert. -/
theorem maskOf_apply (x : Vec Ideal S1024x1024 .f32) (g : Vec Ideal S1x1024 .f32) (r : Vec Ideal S8x1024 .f32)
    (e : Fin 8) (t : Fin 1024) :
    (maskOf (F := Ideal) x g r (ix2 e t) : EReal) = if t ∈ served x g r e then 1 else 0 := by
  have h := mask_apply x g r e t
  unfold maskOf
  pointwise [k0_pay15]
  refine h.trans ?_
  unfold served
  simp only [Finset.mem_filter, Finset.mem_univ, true_and]

/-- Comparing two token numbers as words compares the tokens. -/
theorem sle_tokens (a b : Fin 1024) :
    IntOp.cmpi CmpIPredicate.sle (BitVec.ofNat 32 a.val) (BitVec.ofNat 32 b.val) = BitVec.ofBool (decide (a ≤ b)) := by
  have h : ∀ x : Fin 1024, (BitVec.ofNat 32 x.val).toInt = x.val := fun x => by
    rw [BitVec.toInt_eq_toNat_of_lt] <;> rw [BitVec.toNat_ofNat, Nat.mod_eq_of_lt (by omega)]
    omega
  show BitVec.ofBool (BitVec.sle _ _) = _
  rw [BitVec.sle, h a, h b]
  refine congrArg BitVec.ofBool (decide_eq_decide.mpr ?_)
  rw [Fin.le_def]
  omega

/-- At a token that chooses the expert, the stored rank is its place among them. -/
theorem rankOf_apply (x : Vec Ideal S1024x1024 .f32) (g : Vec Ideal S1x1024 .f32) (r : Vec Ideal S8x1024 .f32)
    (e : Fin 8) (t : Fin 1024) (ht : t ∈ served x g r e) :
    (rankOf (F := Ideal) x g r (ix2 e t) : EReal) = ((place (served x g r e) t : ℝ) : EReal) := by
  have h : ∀ x' : Fin 1024, (k0_pay14 (F := Ideal) k0_pay22 (k0_pay5 x g r) (k0_pay7 x g r) (Scalar.ofBits .f32 0x41000000#32) (k0_pay8 k0_pay22) (ix2 e x') : EReal)
      = if x' ∈ served x g r e then 1 else 0 := fun x' => by
    rw [mask_apply x g r e x']
    unfold served
    simp only [Finset.mem_filter, Finset.mem_univ, true_and]
  unfold rankOf
  generalize hv : k0_pay14 (F := Ideal) k0_pay22 (k0_pay5 x g r) (k0_pay7 x g r) (Scalar.ofBits .f32 0x41000000#32) (k0_pay8 k0_pay22) = v at h ⊢
  pointwise [k0_pay24, triOf, k0_pay23]
  simp only [h, sle_tokens, Scalar.select_ofBool, decide_eq_true_eq]
  exact sum_upto_sub_one ht

end Cert.KernelIdeal.Moe
-- ==== Proof.Moe.Final.lean ====
module

public import proofs.«01_k».proof.Proof.Moe.Blocks
public import proofs.«01_k».proof.Proof.Moe.Routing

/-! The array of outputs after the run: every token plus the weighted layers of all eight experts, an expert that was
not chosen having weight zero. -/

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen Cert.Moe

section Arrays

variable (X : FVec Ideal S16384x1024 .f32) (G : FVec Ideal S1024 .f32) (R : FVec Ideal S1024x8 .f32)
  (Wg Wu : FVec Ideal S8x1024x1792 .f32) (Wd : FVec Ideal S8x1792x1024 .f32)

/-- The normalised row of token `n`. -/
def row (n : Fin 16384) : Fin 1024 → EReal := normed (fun a => X (ix2 n a)) (fun a => G (ix1 a))

/-- The probabilities of the experts for token `n`. -/
def chances (n : Fin 16384) : Fin 8 → EReal := tokenProbs (fun a => X (ix2 n a)) (fun a => G (ix1 a)) fun e a => R (ix2 a e)

/-- What expert `e` adds to token `n` at channel `d`. -/
def share (n : Fin 16384) (d : Fin 1024) (e : Fin 8) : EReal :=
  layer (row X G n) (gate (chances X G R n) e) (fun a f => Wg (ix3 e a f)) (fun a f => Wu (ix3 e a f)) (fun f a => Wd (ix3 e f a)) d

/-- The array of outputs. -/
def outputs : FVec Ideal S16384x1024 .f32 := fun i =>
  (X (ix2 (i 0) (i 1)) : EReal) + ∑ e, share X G R Wg Wu Wd (i 0) (i 1) e

end Arrays

/-- With weight zero a layer gives zero. -/
theorem layer_zero (h : Fin 1024 → EReal) (wg wu : Fin 1024 → Fin 1792 → EReal) (wd : Fin 1792 → Fin 1024 → EReal)
    (d : Fin 1024) : layer h 0 wg wu wd d = 0 := by
  unfold layer
  simp only [mul_zero, zero_mul, Finset.sum_const_zero]

variable (m : (ℓ : Loc nD τ sig) → Buf (Elt Ideal) ℓ)

/-- The tokens as launched. -/
abbrev aX (c : Dev nD) : FVec Ideal S16384x1024 .f32 := m ((c : Thread nD τ).loc main_arg0)
/-- The gain as launched. -/
abbrev aG (c : Dev nD) : FVec Ideal S1024 .f32 := m ((c : Thread nD τ).loc main_arg1)
/-- The router as launched. -/
abbrev aR (c : Dev nD) : FVec Ideal S1024x8 .f32 := m ((c : Thread nD τ).loc main_arg2)
/-- The gate weights as launched. -/
abbrev aWg (c : Dev nD) : FVec Ideal S8x1024x1792 .f32 := m ((c : Thread nD τ).loc main_arg3)
/-- The up weights as launched. -/
abbrev aWu (c : Dev nD) : FVec Ideal S8x1024x1792 .f32 := m ((c : Thread nD τ).loc main_arg4)
/-- The down weights as launched. -/
abbrev aWd (c : Dev nD) : FVec Ideal S8x1792x1024 .f32 := m ((c : Thread nD τ).loc main_arg5)

/-- The token that row `a` of the point's block is. -/
def token (t : Fin cfg0.N) (a : Fin 1024) : Fin 16384 := ⟨t.val / 8 * 1024 + a.val, by have := points t; omega⟩

/-- The point's expert. -/
def expertAt (t : Fin cfg0.N) : Fin 8 := ⟨t.val % 8, by omega⟩

/-- The second coordinate of a point is its expert. -/
theorem coord_expert : ∀ t : Fin cfg0.N, (grid0.coords t 1).val = (expertAt t).val :=
  (by decide +kernel : ∀ t : Fin grid0.N, (grid0.coords t 1).val = t.val % 8)

/-- The scratch buffers hold the routing of the point's block. -/
structure Routed (c : Dev nD) (t : Fin cfg0.N) (h : Vec Ideal S1024x1024 .bf16) (g mask rank : Vec Ideal S8x1024 .f32) : Prop where
  rows : ∀ a d : Fin 1024, (h (ix2 a d) : EReal) = row (aX m c) (aG m c) (token t a) d
  gates : ∀ (e : Fin 8) (a : Fin 1024), (g (ix2 e a) : EReal) = gate (chances (aX m c) (aG m c) (aR m c) (token t a)) e
  tokens : ∃ M : Fin 8 → Finset (Fin 1024),
    (∀ (e : Fin 8) (a : Fin 1024), (mask (ix2 e a) : EReal) = if a ∈ M e then 1 else 0)
    ∧ (∀ (e : Fin 8) (a : Fin 1024), a ∈ M e → (rank (ix2 e a) : EReal) = ((place (M e) a : ℝ) : EReal))
    ∧ ∀ (e : Fin 8) (a : Fin 1024), a ∉ M e → gate (chances (aX m c) (aG m c) (aR m c) (token t a)) e = 0

/-- The routing computed from the point's own block. -/
theorem routed_here (c : Dev nD) (t : Fin cfg0.N) :
    Routed m c t (hOf (iblk m c 0 t) (iblk m c 1 t)) (gateOf (iblk m c 0 t) (iblk m c 1 t) (iblk m c 2 t))
      (maskOf (iblk m c 0 t) (iblk m c 1 t) (iblk m c 2 t)) (rankOf (iblk m c 0 t) (iblk m c 1 t) (iblk m c 2 t)) := by
  have hx : ∀ a : Fin 1024, (fun d : Fin 1024 => ((iblk m c 0 t : FVec Ideal S1024x1024 .f32) (ix2 a d) : EReal))
      = fun d => aX m c (ix2 (token t a) d) := fun a => funext fun d => x_blk m c t a d
  have hg : (fun d : Fin 1024 => ((iblk m c 1 t : FVec Ideal S1x1024 .f32) (ix2 0 d) : EReal))
      = fun d => aG m c (ix1 d) := funext fun d => g_blk m c t d
  have hr : (fun (e : Fin 8) (d : Fin 1024) => ((iblk m c 2 t : FVec Ideal S8x1024 .f32) (ix2 e d) : EReal))
      = fun e d => aR m c (ix2 d e) := funext fun e => funext fun d => r_blk m c t e d
  have hP : ∀ a : Fin 1024, tokenProbs (fun d : Fin 1024 => ((iblk m c 0 t : FVec Ideal S1024x1024 .f32) (ix2 a d) : EReal))
      (fun d : Fin 1024 => ((iblk m c 1 t : FVec Ideal S1x1024 .f32) (ix2 0 d) : EReal))
      (fun (e : Fin 8) (d : Fin 1024) => ((iblk m c 2 t : FVec Ideal S8x1024 .f32) (ix2 e d) : EReal))
      = chances (aX m c) (aG m c) (aR m c) (token t a) := fun a => by rw [hx a, hg, hr]; rfl
  refine ⟨fun a d => ?_, fun e a => ?_, served (iblk m c 0 t) (iblk m c 1 t) (iblk m c 2 t), fun e a => ?_, fun e a ha => ?_, fun e a ha => ?_⟩
  · refine (hOf_apply (iblk m c 0 t) (iblk m c 1 t) a d).trans ?_
    rw [hx a, hg]; rfl
  · refine (gateOf_apply (iblk m c 0 t) (iblk m c 1 t) (iblk m c 2 t) e a).trans ?_
    rw [hP a]
  · exact maskOf_apply (iblk m c 0 t) (iblk m c 1 t) (iblk m c 2 t) e a
  · exact rankOf_apply (iblk m c 0 t) (iblk m c 1 t) (iblk m c 2 t) e a ha
  · refine gate_of_not_chosen _ _ fun hc => ha ?_
    unfold served
    rw [Finset.mem_filter]
    exact ⟨Finset.mem_univ _, by rw [hP a]; exact hc⟩

/-- The point's expert adds its share to every token of the block. -/
theorem expert_share (c : Dev nD) (t : Fin cfg0.N) (h : Vec Ideal S1024x1024 .bf16) (g mask rank : Vec Ideal S8x1024 .f32)
    (H : Routed m c t h g mask rank) (y : Vec Ideal S1024x1024 .f32) (a d : Fin 1024) :
    (expert (grid0.coords t) h g mask rank (iblk m c 3 t) (iblk m c 4 t) (iblk m c 5 t) y (ix2 a d) : EReal)
      = y (ix2 a d) + share (aX m c) (aG m c) (aR m c) (aWg m c) (aWu m c) (aWd m c) (token t a) d (expertAt t) := by
  obtain ⟨hh, hg, M, hm, hr, h0⟩ := H
  refine (expert_apply (grid0.coords t) (expertAt t) (coord_expert t) h g mask rank (M (expertAt t)) (hm _) (hr _)
    (iblk m c 3 t) (iblk m c 4 t) (iblk m c 5 t) y a d).trans (congrArg (y (ix2 a d) + ·) ?_)
  have e1 : (fun x : Fin 1024 => (h (ix2 a x) : EReal)) = row (aX m c) (aG m c) (token t a) := funext fun x => hh a x
  have e3 : (fun (x : Fin 1024) (f : Fin 1792) => ((iblk m c 3 t : FVec Ideal S1x1024x1792 .bf16) (ix3 0 x f) : EReal))
      = fun x f => aWg m c (ix3 (expertAt t) x f) := funext fun x => funext fun f => wg_blk m c t x f
  have e4 : (fun (x : Fin 1024) (f : Fin 1792) => ((iblk m c 4 t : FVec Ideal S1x1024x1792 .bf16) (ix3 0 x f) : EReal))
      = fun x f => aWu m c (ix3 (expertAt t) x f) := funext fun x => funext fun f => wu_blk m c t x f
  have e5 : (fun (f : Fin 1792) (x : Fin 1024) => ((iblk m c 5 t : FVec Ideal S1x1792x1024 .bf16) (ix3 0 f x) : EReal))
      = fun f x => aWd m c (ix3 (expertAt t) f x) := funext fun f => funext fun x => wd_blk m c t f x
  by_cases ha : a ∈ M (expertAt t)
  · rw [if_pos ha, e1, e3, e4, e5, hg]; rfl
  · rw [if_neg ha]
    unfold share
    rw [h0 _ a ha, layer_zero]

/-- What the buffers hold after a point: the block's routing, and the tokens with the shares of the experts so far. -/
def Holds (c : Dev nD) (t : Fin cfg0.N) (s : State Ideal) : Prop :=
  Routed m c t s.2.1 s.2.2.1 s.2.2.2.1 s.2.2.2.2
  ∧ ∀ a d : Fin 1024, (s.1 (ix2 a d) : EReal) = aX m c (ix2 (token t a) d)
      + ∑ e ∈ Finset.univ.filter (fun e : Fin 8 => e.val ≤ t.val % 8),
          share (aX m c) (aG m c) (aR m c) (aWg m c) (aWu m c) (aWd m c) (token t a) d e

/-- The experts up to the first are the first. -/
theorem upto_first (f : Fin 8 → EReal) (t : Fin cfg0.N) (h0 : t.val % 8 = 0) :
    ∑ e ∈ Finset.univ.filter (fun e : Fin 8 => e.val ≤ t.val % 8), f e = f (expertAt t) := by
  have : Finset.univ.filter (fun e : Fin 8 => e.val ≤ t.val % 8) = {expertAt t} := by
    ext e
    simp only [Finset.mem_filter, Finset.mem_univ, true_and, Finset.mem_singleton, Fin.ext_iff, expertAt]
    omega
  rw [this, Finset.sum_singleton]

/-- The experts up to a later one are those up to the one before, and it. -/
theorem upto_next (f : Fin 8 → EReal) (t t' : Fin cfg0.N) (h0 : ¬ t.val % 8 = 0) (ht : t'.val = t.val - 1) :
    ∑ e ∈ Finset.univ.filter (fun e : Fin 8 => e.val ≤ t.val % 8), f e
      = ∑ e ∈ Finset.univ.filter (fun e : Fin 8 => e.val ≤ t'.val % 8), f e + f (expertAt t) := by
  have : Finset.univ.filter (fun e : Fin 8 => e.val ≤ t.val % 8)
      = insert (expertAt t) (Finset.univ.filter (fun e : Fin 8 => e.val ≤ t'.val % 8)) := by
    ext e
    simp only [Finset.mem_filter, Finset.mem_univ, true_and, Finset.mem_insert, Fin.ext_iff, expertAt]
    omega
  rw [this, Finset.sum_insert, add_comm]
  simp only [Finset.mem_filter, Finset.mem_univ, true_and, expertAt]
  omega

/-- After every point the buffers hold the routing and the shares so far. -/
theorem left_holds (c : Dev nD) : ∀ (n : ℕ) (hn : n < cfg0.N), Holds m c ⟨n, hn⟩ (left m c n hn) := by
  intro n
  induction n with
  | zero =>
    intro hn
    rw [left_first m c ⟨0, hn⟩ rfl]
    refine ⟨routed_here m c _, fun a d => ?_⟩
    rw [upto_first _ _ rfl]
    refine (expert_share m c _ _ _ _ _ (routed_here m c _) _ a d).trans ?_
    rw [x_blk m c]; rfl
  | succ n ih =>
    intro hn
    by_cases h0 : (n + 1) % 8 = 0
    · rw [left_first m c ⟨n + 1, hn⟩ h0]
      refine ⟨routed_here m c _, fun a d => ?_⟩
      rw [upto_first _ _ h0]
      refine (expert_share m c _ _ _ _ _ (routed_here m c _) _ a d).trans ?_
      rw [x_blk m c]; rfl
    · have hn' : n < cfg0.N := Nat.lt_of_succ_lt hn
      rw [left_later m c ⟨n + 1, hn⟩ h0]
      obtain ⟨hR, hy⟩ := ih hn'
      have htok : ∀ a, token ⟨n, hn'⟩ a = token ⟨n + 1, hn⟩ a := fun a => Fin.ext (by
        show n / 8 * 1024 + a.val = (n + 1) / 8 * 1024 + a.val
        omega)
      have hR' : Routed m c ⟨n + 1, hn⟩ (left m c n hn').2.1 (left m c n hn').2.2.1 (left m c n hn').2.2.2.1 (left m c n hn').2.2.2.2 := by
        obtain ⟨r1, r2, M, r3, r4, r5⟩ := hR
        simp only [htok] at r1 r2 r5
        exact ⟨r1, r2, M, r3, r4, r5⟩
      refine ⟨hR', fun a d => ?_⟩
      refine (expert_share m c ⟨n + 1, hn⟩ _ _ _ _ hR' (left m c n hn').1 a d).trans ?_
      rw [hy a d, upto_next _ ⟨n + 1, hn⟩ ⟨n, hn'⟩ h0 rfl, add_assoc, htok a]

/-- The array of outputs after the run. -/
theorem final (c : Dev nD) : (dats m 0 c).arrAt 6 cfg0.N
    = outputs (aX m c) (aG m c) (aR m c) (aWg m c) (aWu m c) (aWd m c) := by
  refine (dats m 0 c).arrAt_eq_of_covers 6 _ (by decide +kernel) fun t hf y => ?_
  have h7 : t.val % 8 = 7 := (flush0_6 t).mp hf
  blk_simp
  rw [after_out]
  have h := (left_holds m c t.val t.isLt).2 (y 0) (y 1)
  have hall : Finset.univ.filter (fun e : Fin 8 => e.val ≤ t.val % 8) = Finset.univ := by
    refine Finset.filter_true_of_mem fun e _ => ?_
    have := e.isLt
    rw [h7]
    omega
  rw [hall] at h
  have hy : y = ix2 (y 0) (y 1) := by blk_ext
  have e0 : (((cfg0.win 6).blk t).view.emb y) 0 = token t (y 0) := Fin.ext (by
    blk_simp [idx_val t]
    rfl)
  have e1 : (((cfg0.win 6).blk t).view.emb y) 1 = y 1 := Fin.ext (by
    blk_simp [idx_val t])
  refine (congrArg (left m c t.val t.isLt).1 hy).trans (h.trans ?_)
  unfold outputs
  rw [e0, e1]

end Cert.KernelIdeal.Moe
-- ==== Proof.Moe.Reference.lean ====
module

public import proofs.«01_k».proof.Proof.Gen.ReferenceIdeal.Run
public import proofs.«01_k».proof.Proof.Moe.Final

/-! The reference's result read at an index: every token plus, over all experts, its weighted layer. -/

@[expose] public section

set_option maxRecDepth 16384

noncomputable section

namespace Cert.ReferenceIdeal.Moe

open Idealize.ShloMosaic Idealize.ShloMosaic.TcCoe Idealize.SL.Sem
open Cert.ReferenceIdeal Cert.ReferenceIdeal.Gen Cert.Moe Cert.KernelIdeal.Moe

/-- The normalised tokens. -/
def refNorm (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf
    (broadcastInDim S16384x1 ![0] bcast_S16384_S16384x1_0 (Host.reduceAdd (mulf X X) (constant S_ .f32
    0x00000000#32) reducesTo_S16384x1024_S16384_d1 h_S_)) (broadcastInDim S16384x1 ![] bcast_S_S16384x1 (constant S_
    .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1]
    bcast_S1024_S1x1024_1 G))

/-- The experts' scores. -/
def refScores (H : FVec Ideal S16384x1024 .f32) (R : FVec Ideal S1024x8 .f32) : FVec Ideal S16384x8 .f32 :=
  Host.dotGeneral dot_S16384x1024_S1024x8_S16384x8_1_0_0_1_n_n none H R

/-- The experts' probabilities. -/
def refProbs (L : FVec Ideal S16384x8 .f32) : FVec Ideal S16384x8 .f32 :=
  Host.divf (Host.exp (subf L (broadcastInDim S16384x8 ![0, 1] bcast_S16384x1_S16384x8_0_1 (broadcastInDim S16384x1
    ![0] bcast_S16384_S16384x1_0 (maximumf (broadcastInDim S16384 ![] bcast_S_S16384 (constant S_ .f32
    0xFF800000#32)) (Host.reduce FloatOps.maximumf L (constant S_ .f32 0xFF800000#32) reducesTo_S16384x8_S16384_d1
    h_S_)))))) (broadcastInDim S16384x8 ![0, 1] bcast_S16384x1_S16384x8_0_1 (broadcastInDim S16384x1 ![0]
    bcast_S16384_S16384x1_0 (Host.reduceAdd (Host.exp (subf L (broadcastInDim S16384x8 ![0, 1]
    bcast_S16384x1_S16384x8_0_1 (broadcastInDim S16384x1 ![0] bcast_S16384_S16384x1_0 (maximumf (broadcastInDim
    S16384 ![] bcast_S_S16384 (constant S_ .f32 0xFF800000#32)) (Host.reduce FloatOps.maximumf L (constant S_ .f32
    0xFF800000#32) reducesTo_S16384x8_S16384_d1 h_S_)))))) (constant S_ .f32 0x00000000#32)
    reducesTo_S16384x8_S16384_d1 h_S_)))

/-- The two greatest probabilities. -/
def refValues (Q : FVec Ideal S16384x8 .f32) : FVec Ideal S16384x2 .f32 :=
  (Host.topK S16384x2 1 (FloatOps.cmpfTotal .gt) Q sliceFits_S16384x8_S16384x2).1

/-- Their experts. -/
def refIndices (Q : FVec Ideal S16384x8 .f32) : Vec Ideal S16384x2 .i32 :=
  (Host.topK S16384x2 1 (FloatOps.cmpfTotal .gt) Q sliceFits_S16384x8_S16384x2).2

/-- The experts' weights. -/
def refGate (V : FVec Ideal S16384x2 .f32) (I : Vec Ideal S16384x2 .i32) : FVec Ideal S16384x8 .f32 :=
  Host.reduceAdd (mulf (uitofp .f32 (cmpi .eq (broadcastInDim S16384x2x8 ![0, 1, 2]
    bcast_S16384x2x1_S16384x2x8_0_1_2 (broadcastInDim S16384x2x1 ![0, 1] bcast_S16384x2_S16384x2x1_0_1 I))
    (broadcastInDim S16384x2x8 ![0, 1, 2] bcast_S1x1x8_S16384x2x8_0_1_2 (iotaInDim S1x1x8 32 2)))) (broadcastInDim
    S16384x2x8 ![0, 1, 2] bcast_S16384x2x1_S16384x2x8_0_1_2 (broadcastInDim S16384x2x1 ![0, 1]
    bcast_S16384x2_S16384x2x1_0_1 (Host.divf V (broadcastInDim S16384x2 ![0, 1] bcast_S16384x1_S16384x2_0_1
    (broadcastInDim S16384x1 ![0] bcast_S16384_S16384x1_0 (Host.reduceAdd V (constant S_ .f32 0x00000000#32)
    reducesTo_S16384x2_S16384_d1 h_S_))))))) (constant S_ .f32 0x00000000#32) reducesTo_S16384x2x8_S16384x8_d1 h_S_

/-- The tokens plus the experts' weighted layers. -/
def refOut (X H : FVec Ideal S16384x1024 .f32) (W : FVec Ideal S16384x8 .f32) (Wg Wu : FVec Ideal S8x1024x1792 .f32)
    (Wd : FVec Ideal S8x1792x1024 .f32) : FVec Ideal S16384x1024 .f32 :=
  addf X (Host.dotGeneral dot_S16384x8x1792_S8x1792x1024_S16384x1024_12_01_0_2_n_n none (mulf (mulf (mulf
    (Host.dotGeneral dot_S16384x1024_S8x1024x1792_S16384x8x1792_1_1_0_02_n_n none H Wg) (Host.divf (broadcastInDim
    S16384x8x1792 ![] bcast_S_S16384x8x1792 (constant S_ .f32 0x3F800000#32)) (addf (broadcastInDim S16384x8x1792
    ![] bcast_S_S16384x8x1792 (constant S_ .f32 0x3F800000#32)) (Host.exp (Host.negf (Host.dotGeneral
    dot_S16384x1024_S8x1024x1792_S16384x8x1792_1_1_0_02_n_n none H Wg)))))) (Host.dotGeneral
    dot_S16384x1024_S8x1024x1792_S16384x8x1792_1_1_0_02_n_n none H Wu)) (broadcastInDim S16384x8x1792 ![0, 1, 2]
    bcast_S16384x8x1_S16384x8x1792_0_1_2 (broadcastInDim S16384x8x1 ![0, 1] bcast_S16384x8_S16384x8x1_0_1 W))) Wd)

/-- The normalised token, read. -/
theorem refNorm_apply (X : FVec Ideal S16384x1024 .f32) (G : FVec Ideal S1024 .f32) (n : Fin 16384) (d : Fin 1024) :
    (refNorm X G (ix2 n d) : EReal) = normed (fun a => X (ix2 n a)) (fun a => G (ix1 a)) d := by
  unfold refNorm
  pointwise []
  rfl

/-- The probabilities of a token whose scores are known. -/
theorem refProbs_apply (L : FVec Ideal S16384x8 .f32) (n : Fin 16384) (e : Fin 8) :
    (refProbs L (ix2 n e) : EReal) = probs (fun e => L (ix2 n e)) e := by
  unfold refProbs
  pointwise []
  have hmax : ∀ z : EReal, max (Ideal.ofBits FTy.f32 0xFF800000#32) z = z := fun z => by
    rw [minus_inf]; exact max_eq_right bot_le
  simp only [hmax]
  rfl

/-- The value and the expert of the listing of the probabilities, read. -/
theorem topK_apply (Q : FVec Ideal S16384x8 .f32) (n : Fin 16384) (k : Fin 2) :
    (refValues Q (ix2 n k) : EReal) = Q (ix2 n (ranked (fun e => Q (ix2 n e)) ⟨k.val, by omega⟩))
    ∧ refIndices Q (ix2 n k) = BitVec.ofNat 32 (ranked (fun e => (Q (ix2 n e) : EReal)) ⟨k.val, by omega⟩).val := by
  unfold refValues refIndices Host.topK
  generalize hI : (fun i : S16384x8.Idx => if hd : 1 < S16384x8.rank then iotaInDim S16384x8 32 ⟨1, hd⟩ i else 0#32) = I
  have hIa : ∀ e : Fin 8, I (ix2 n e) = BitVec.ofNat 32 e.val := fun e => by rw [← hI]; rfl
  have hal : ∀ q c : Fin 8, (ix2 n q : S16384x8.Idx).along 1 c = ix2 n c := fun q c => by
    refine funext fun a => ?_
    match a with
    | ⟨0, _⟩ => rfl
    | ⟨1, _⟩ => rfl
  have hsl : ∀ {α : Type} (Z : S16384x8.Idx → α), extractStridedSlice S16384x2 (fun _ => 0) Z sliceFits_S16384x8_S16384x2 (ix2 n k)
      = Z (ix2 n ⟨k.val, by omega⟩) := fun Z => by
    refine congrArg Z (funext fun a => Fin.ext ?_)
    match a with
    | ⟨0, _⟩ => exact Nat.zero_add _
    | ⟨1, _⟩ => exact Nat.zero_add _
  have hord : ∀ q : Fin 8, sortedFrom (n := 8) (fun a b => FloatOps.cmpfTotal (F := Ideal) (φ := FTy.f32) .gt
        (Q ((ix2 n q : S16384x8.Idx).along 1 a)) (Q ((ix2 n q : S16384x8.Idx).along 1 b)) == 1#1) q
      = ranked (fun e => (Q (ix2 n e) : EReal)) q := fun q => by
    unfold ranked
    refine congrArg (fun f => sortedFrom f q) (funext fun a => funext fun b => ?_)
    rw [hal, hal]
    show (BitVec.ofBool (decide ((Q (ix2 n b) : EReal) < Q (ix2 n a))) == 1#1) = _
    by_cases h : (Q (ix2 n b) : EReal) < Q (ix2 n a) <;> simp [h]
  constructor
  · refine (hsl (Host.sort2 S16384x8 1 (fun l r => FloatOps.cmpfTotal (F := Ideal) (φ := FTy.f32) .gt l.1 r.1) Q I).1).trans ?_
    refine (congrArg Q (hal ⟨k.val, by omega⟩ _)).trans ?_
    exact congrArg (fun c => Q (ix2 n c)) (hord ⟨k.val, by omega⟩)
  · refine (hsl (Host.sort2 S16384x8 1 (fun l r => FloatOps.cmpfTotal (F := Ideal) (φ := FTy.f32) .gt l.1 r.1) Q I).2).trans ?_
    refine (congrArg I (hal ⟨k.val, by omega⟩ _)).trans ((hIa _).trans ?_)
    exact congrArg (fun c : Fin 8 => BitVec.ofNat 32 c.val) (hord ⟨k.val, by omega⟩)

/-- The weights, read. -/
theorem refGate_apply (V : FVec Ideal S16384x2 .f32) (I : Vec Ideal S16384x2 .i32) (n : Fin 16384) (e : Fin 8) :
    (refGate V I (ix2 n e) : EReal) = ∑ k : Fin 2, (if I (ix2 n k) = BitVec.ofNat 32 e.val then (1 : EReal) else 0)
      * Ideal.div (V (ix2 n k)) (∑ j : Fin 2, V (ix2 n j)) := by
  have hbit : ∀ a b : BitVec 32, (FloatOps.uitofp (F := Ideal) FTy.f32 (IntOp.cmpi CmpIPredicate.eq a b) : EReal)
      = if a = b then 1 else 0 := fun a b => by
    show ((((BitVec.ofBool (decide (a = b))).toNat : ℝ)) : EReal) = _
    by_cases h : a = b <;> simp [h]
  unfold refGate
  pointwise []
  simp only [hbit]

/-- The output, read. -/
theorem refOut_apply (X H : FVec Ideal S16384x1024 .f32) (W : FVec Ideal S16384x8 .f32)
    (Wg Wu : FVec Ideal S8x1024x1792 .f32) (Wd : FVec Ideal S8x1792x1024 .f32) (n : Fin 16384) (d : Fin 1024) :
    (refOut X H W Wg Wu Wd (ix2 n d) : EReal) = X (ix2 n d) + ∑ e : Fin 8,
      layer (fun a => H (ix2 n a)) (W (ix2 n e)) (fun a f => Wg (ix3 e a f)) (fun a f => Wu (ix3 e a f))
        (fun f a => Wd (ix3 e f a)) d := by
  unfold refOut
  pointwise []
  rfl

/-- The staged reference is the tokens plus the weighted layers of all eight experts. -/
theorem staged (X : FVec Ideal S16384x1024 .f32) (G : FVec Ideal S1024 .f32) (R : FVec Ideal S1024x8 .f32)
    (Wg Wu : FVec Ideal S8x1024x1792 .f32) (Wd : FVec Ideal S8x1792x1024 .f32) (n : Fin 16384) (d : Fin 1024) :
    (refOut X (refNorm X G) (refGate (refValues (refProbs (refScores (refNorm X G) R)))
      (refIndices (refProbs (refScores (refNorm X G) R)))) Wg Wu Wd (ix2 n d) : EReal)
      = outputs X G R Wg Wu Wd (ix2 n d) := by
  have hH : ∀ d, (refNorm X G (ix2 n d) : EReal) = normed (fun a => X (ix2 n a)) (fun a => G (ix1 a)) d := refNorm_apply X G n
  have hL : (fun e => (refScores (refNorm X G) R (ix2 n e) : EReal))
      = fun e => ∑ k, R (ix2 k e) * normed (fun a => X (ix2 n a)) (fun a => G (ix1 a)) k := by
    funext e
    unfold refScores
    generalize refNorm X G = H at hH ⊢
    pointwise []
    simp only [hH]
    exact Finset.sum_congr rfl fun k _ => mul_comm _ _
  have hQ : (fun e => (refProbs (refScores (refNorm X G) R) (ix2 n e) : EReal)) = chances X G R n := by
    funext e
    rw [refProbs_apply, hL]
    rfl
  generalize refProbs (refScores (refNorm X G) R) = Q at hQ ⊢
  have hW : ∀ e : Fin 8, (refGate (refValues Q) (refIndices Q) (ix2 n e) : EReal) = gate (chances X G R n) e := fun e => by
    have hc : (∀ e, 0 ≤ chances X G R n e) ∨ ∀ e, chances X G R n e = ⊥ := probs_cases _
    rw [gate_eq _ hc, refGate_apply]
    have hQ' : ∀ e, (Q (ix2 n e) : EReal) = chances X G R n e := congrFun hQ
    simp only [(topK_apply Q n _).1, (topK_apply Q n _).2, hQ, hQ']
    refine Finset.sum_congr rfl fun k _ => congrArg (· * _) (if_congr ?_ rfl rfl)
    refine ⟨fun h => Fin.ext ?_, fun h => by rw [h]⟩
    have h' := congrArg BitVec.toNat h
    rw [BitVec.toNat_ofNat, BitVec.toNat_ofNat] at h'
    change (ranked (chances X G R n) ⟨k.val, by omega⟩).val % 2 ^ 32 = e.val % 2 ^ 32 at h'
    have := (ranked (chances X G R n) ⟨k.val, by omega⟩).isLt
    have := e.isLt
    omega
  rw [refOut_apply]
  simp only [hW, hH]
  rfl

/-- The reference's result is the tokens plus the weighted layers of all eight experts. -/
theorem result (m : (ℓ : Loc nD τ sig) → Buf (Elt Ideal) ℓ) (c : Dev nD) :
    Value.res_main_v42 m c
      = outputs (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine funext fun i => ?_
  have hi : i = ix2 (i 0) (i 1) := by
    refine funext fun a => ?_
    match a with
    | ⟨0, _⟩ => rfl
    | ⟨1, _⟩ => rfl
  rw [hi]
  exact staged _ _ _ _ _ _ (i 0) (i 1)

end Cert.ReferenceIdeal.Moe
-- ==== Proof.Proj.Columns.lean ====
module

public import proofs.«01_k».proof.Proof.Gen.Kernel2Ideal.Value
public import proofs.«01_k».proof.Proof.Moe.Routing
public import Idealize.ShloMosaic.Lib.Pipeline.ValueKit
public import Idealize.ShloMosaic.Lib.Pipeline.ReadBack
public import Idealize.ShloMosaic.Lib.Claim

/-! The columns of the input projection, as the first of the two projections arranges them. -/

@[expose] public section

set_option maxRecDepth 16384

noncomputable section

namespace Cert.Kernel2Ideal.Proj

open Idealize.ShloMosaic Idealize.ShloMosaic.TcCoe Idealize.SL.Sem
open Idealize.ShloMosaic.Pipeline (Dat)
open Cert.Kernel2Ideal Cert.Kernel2Ideal.Gen Cert.Moe

/-- The column of the projection that stands at place `j`. -/
def source (j : ℕ) : ℕ :=
  if j < 4608 then j else if j < 6144 then j + 1552 else if j < 7168 then j - 1536
  else if j < 7184 then j - 1024 else j + 1024

/-- The column at every used place is one of the projection's. -/
theorem source_lt {j : ℕ} (h : j < 7192) : source j < 11288 := by
  unfold source
  split_ifs <;> omega

/-- The values of the columns in their places, and zero at the places that are not used. -/
def column (f : Fin 11288 → EReal) (j : Fin 7680) : EReal :=
  if h : j.val < 7192 then f ⟨source j.val, source_lt h⟩ else 0

/-- A used place holds its column. -/
theorem at_used (f : Fin 11288 → EReal) (j : Fin 7680) (e : Fin 11288) (h : j.val < 7192) (he : e.val = source j.val) :
    f e = column f j := by
  unfold column
  rw [dif_pos h]
  exact congrArg f (Fin.ext he)

/-- An unused place holds zero. -/
theorem at_unused (f : Fin 11288 → EReal) (j : Fin 7680) (h : ¬ j.val < 7192) : 0 = column f j := by
  unfold column
  rw [dif_neg h]

/-- A value chosen by a condition is `z` when either choice is. -/
theorem either {p : Prop} [Decidable p] {a : p → EReal} {b : ¬ p → EReal} {z : EReal} (ha : ∀ h, a h = z) (hb : ∀ h, b h = z) :
    (if h : p then a h else b h) = z := by
  by_cases h : p
  · rw [dif_pos h]; exact ha h
  · rw [dif_neg h]; exact hb h

/-- The weights with their columns arranged. -/
def arranged (W : FVec Ideal S1024x11288 .f32) : FVec Ideal S1024x7680 .f32 :=
  concatenate S1024x7680 1 [
    ⟨S1024x1536, extractStridedSlice S1024x1536 ![0, 0] W slices_S1024x11288_S1024x1536_0_0⟩,
    ⟨S1024x1536, extractStridedSlice S1024x1536 ![0, 1536] W slices_S1024x11288_S1024x1536_0_1536⟩,
    ⟨S1024x1536, extractStridedSlice S1024x1536 ![0, 3072] W slices_S1024x11288_S1024x1536_0_3072⟩,
    ⟨S1024x1536, extractStridedSlice S1024x1536 ![0, 6160] W slices_S1024x11288_S1024x1536_0_6160⟩,
    ⟨S1024x256, extractStridedSlice S1024x256 ![0, 4608] W slices_S1024x11288_S1024x256_0_4608⟩,
    ⟨S1024x256, extractStridedSlice S1024x256 ![0, 4864] W slices_S1024x11288_S1024x256_0_4864⟩,
    ⟨S1024x512, extractStridedSlice S1024x512 ![0, 5120] W slices_S1024x11288_S1024x512_0_5120⟩,
    ⟨S1024x16, extractStridedSlice S1024x16 ![0, 6144] W slices_S1024x11288_S1024x16_0_6144⟩,
    ⟨S1024x4, extractStridedSlice S1024x4 ![0, 8208] W slices_S1024x11288_S1024x4_0_8208⟩,
    ⟨S1024x4, extractStridedSlice S1024x4 ![0, 8212] W slices_S1024x11288_S1024x4_0_8212⟩,
    ⟨S1024x488, broadcastInDim S1024x488 ![] bcast_S_S1024x488 (constant S_ .f32 0x00000000#32)⟩]
    concatenates_S1024x1536_S1024x1536_S1024x1536_S1024x1536_S1024x256_S1024x256_S1024x512_S1024x16_S1024x4_S1024x4_S1024x488_S1024x7680_d1

/-- The arranged weights, read. -/
theorem arranged_apply (W : FVec Ideal S1024x11288 .f32) (k : Fin 1024) (j : Fin 7680) :
    (arranged W (ix2 k j) : EReal) = column (fun n => W (ix2 k n)) j := by
  unfold arranged
  pointwise []
  repeat refine either (fun h => at_used (fun n => W (ix2 k n)) j _ (by omega) (by dsimp only; unfold source; split_ifs <;> omega)) (fun h => ?_)
  exact at_unused (fun n => W (ix2 k n)) j (by omega)

variable (m : (ℓ : Loc nD τ sig) → Buf (Elt Ideal) ℓ)

set_option maxHeartbeats 2000000 in
/-- The weights the run is given are the arranged ones. -/
theorem weights_eq (c : Dev nD) :
    (V m c main_v16 : FVec Ideal S1024x7680 .bf16) = truncf .bf16 (arranged (m ((c : Thread nD τ).loc main_arg2))) bitsLt_bf16_f32 := by
  unfold V
  after_results_simp <;> (try dsimp only [Matrix.cons_val]) <;> (try after_results_simp) <;> rfl

end Cert.Kernel2Ideal.Proj
-- ==== Proof.Proj.Value.lean ====
module

public import proofs.«01_k».proof.Proof.Proj.Columns

/-! The first input projection: every normalised token against the arranged weights. -/

@[expose] public section

set_option maxRecDepth 16384

noncomputable section

namespace Cert.Kernel2Ideal.Proj

open Idealize.ShloMosaic Idealize.ShloMosaic.TcCoe Idealize.SL.Sem
open Idealize.ShloMosaic.Pipeline (Dat)
open Cert.Kernel2Ideal Cert.Kernel2Ideal.Gen Cert.Moe

/-- The normalised block, read. -/
theorem norm_apply (x : FVec Ideal S1024x1024 .f32) (g : FVec Ideal S1x1024 .f32) (a d : Fin 1024) :
    (k0_pay1 (F := Ideal) x g (ix2 a d) : EReal) = normed (fun k => x (ix2 a k)) (fun k => g (ix2 0 k)) d := by
  pointwise [k0_pay1]
  rfl

/-- The projection of a block, read. -/
theorem project_apply (h : FVec Ideal S1024x1024 .bf16) (w : FVec Ideal S1024x2560 .bf16) (a : Fin 1024) (j : Fin 2560) :
    (k0_pay2 (F := Ideal) h w (ix2 a j) : EReal) = ∑ k : Fin 1024, h (ix2 a k) * w (ix2 k j) := by
  pointwise [k0_pay2]

variable (m : (ℓ : Loc nD τ sig) → Buf (Elt Ideal) ℓ)

/-- The normalised block after a block's first point. -/
theorem first_norm (c : Dev nD) (t : Fin cfg0.N) (h0 : t.val % 3 = 0) :
    (outsAt0 m c t.val t.isLt).2 = k0_pay1 (iblk m c 0 t) (iblk m c 1 t) := by
  rw [outsAt0_A m c t h0]
  frame_out

/-- The output after a block's first point. -/
theorem first_out (c : Dev nD) (t : Fin cfg0.N) (h0 : t.val % 3 = 0) :
    (outsAt0 m c t.val t.isLt).1 = k0_pay2 (k0_pay1 (iblk m c 0 t) (iblk m c 1 t)) (iblk m c 2 t) := by
  rw [outsAt0_A m c t h0]
  frame_out

/-- A later point keeps the normalised block. -/
theorem later_norm (c : Dev nD) (t : Fin cfg0.N) (h0 : ¬ t.val % 3 = 0) :
    (outsAt0 m c t.val t.isLt).2 = (outsAt0 m c (t.val - 1) (Nat.lt_of_le_of_lt (Nat.sub_le _ _) t.isLt)).2 := by
  rw [outsAt0_B m c t h0]
  rfl

/-- The output after a later point. -/
theorem later_out (c : Dev nD) (t : Fin cfg0.N) (h0 : ¬ t.val % 3 = 0) :
    (outsAt0 m c t.val t.isLt).1
      = k0_pay2 (outsAt0 m c (t.val - 1) (Nat.lt_of_le_of_lt (Nat.sub_le _ _) t.isLt)).2 (iblk m c 2 t) := by
  rw [outsAt0_B m c t h0]
  frame_out
  rw [read_unread_whole]

/-- The block index of every window at every point. -/
theorem idx_val : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- The number of grid points. -/
theorem points (t : Fin cfg0.N) : t.val < 48 := lt_of_lt_of_eq t.isLt N_0

/-- The tokens as launched. -/
abbrev aX (c : Dev nD) : FVec Ideal S16384x1024 .f32 := m ((c : Thread nD τ).loc main_arg0)
/-- The gain as launched. -/
abbrev aG (c : Dev nD) : FVec Ideal S1024 .f32 := m ((c : Thread nD τ).loc main_arg1)
/-- The weights as launched. -/
abbrev aW (c : Dev nD) : FVec Ideal S1024x11288 .f32 := m ((c : Thread nD τ).loc main_arg2)

/-- The token that row `a` of the point's block is. -/
def token (t : Fin cfg0.N) (a : Fin 1024) : Fin 16384 := ⟨t.val / 3 * 1024 + a.val, by have := points t; omega⟩

/-- The place that column `j` of the point's block is. -/
def at_ (t : Fin cfg0.N) (j : Fin 2560) : Fin 7680 := ⟨t.val % 3 * 2560 + j.val, by omega⟩

/-- The tokens' block at a point. -/
theorem x_blk (c : Dev nD) (t : Fin cfg0.N) (a : Fin 1024) (d : Fin 1024) :
    ((iblk m c 0 t : FVec Ideal S1024x1024 .f32) (ix2 a d) : EReal) = aX m c (ix2 (token t a) d) := by
  unfold token
  blk_ext [iblk, V, idx_val t]

/-- The gain's block at a point. -/
theorem g_blk (c : Dev nD) (t : Fin cfg0.N) (d : Fin 1024) :
    ((iblk m c 1 t : FVec Ideal S1x1024 .f32) (ix2 0 d) : EReal) = aG m c (ix1 d) := by
  blk_point [iblk, V, idx_val t]

/-- The weights' block at a point. -/
theorem w_blk (c : Dev nD) (t : Fin cfg0.N) (k : Fin 1024) (j : Fin 2560) :
    ((iblk m c 2 t : FVec Ideal S1024x2560 .bf16) (ix2 k j) : EReal) = column (fun n => aW m c (ix2 k n)) (at_ t j) := by
  have h : ((iblk m c 2 t : FVec Ideal S1024x2560 .bf16) (ix2 k j) : EReal)
      = (V m c main_v16 : FVec Ideal S1024x7680 .bf16) (ix2 k (at_ t j)) := by
    unfold at_
    blk_ext [iblk, idx_val t]
  rw [h, weights_eq m c]
  exact arranged_apply _ k (at_ t j)

/-- Every normalised token against every column, the columns in their places. -/
def outputs (X : FVec Ideal S16384x1024 .f32) (G : FVec Ideal S1024 .f32) (W : FVec Ideal S1024x11288 .f32) :
    FVec Ideal S16384x7680 .f32 := fun i =>
  column (fun n => ∑ k, normed (fun a => X (ix2 (i 0) a)) (fun a => G (ix1 a)) k * W (ix2 k n)) (i 1)

/-- Arranging the columns of the weights arranges those of the product. -/
theorem arranged_product (h : Fin 1024 → EReal) (W : Fin 1024 → Fin 11288 → EReal) (j : Fin 7680) :
    ∑ k, h k * column (W k) j = column (fun n => ∑ k, h k * W k n) j := by
  unfold column
  by_cases hj : j.val < 7192
  · simp only [dif_pos hj]
  · simp only [dif_neg hj, mul_zero, Finset.sum_const_zero]

/-- After every point the scratch buffer holds the normalised block. -/
theorem norm_held (c : Dev nD) : ∀ (n : ℕ) (hn : n < cfg0.N) (a d : Fin 1024),
    ((outsAt0 m c n hn).2 (ix2 a d) : EReal)
      = normed (fun k => aX m c (ix2 (token ⟨n, hn⟩ a) k)) (fun k => aG m c (ix1 k)) d := by
  have first : ∀ (t : Fin cfg0.N), t.val % 3 = 0 → ∀ a d : Fin 1024, ((outsAt0 m c t.val t.isLt).2 (ix2 a d) : EReal)
      = normed (fun k => aX m c (ix2 (token t a) k)) (fun k => aG m c (ix1 k)) d := fun t h0 a d => by
    rw [first_norm m c t h0]
    refine (norm_apply (iblk m c 0 t) (iblk m c 1 t) a d).trans ?_
    have hx : (fun d : Fin 1024 => ((iblk m c 0 t : FVec Ideal S1024x1024 .f32) (ix2 a d) : EReal))
        = fun d => aX m c (ix2 (token t a) d) := funext fun d => x_blk m c t a d
    have hg : (fun d : Fin 1024 => ((iblk m c 1 t : FVec Ideal S1x1024 .f32) (ix2 0 d) : EReal))
        = fun d => aG m c (ix1 d) := funext fun d => g_blk m c t d
    rw [hx, hg]
  intro n
  induction n with
  | zero => exact fun hn => first ⟨0, hn⟩ rfl
  | succ n ih =>
    intro hn a d
    by_cases h0 : (n + 1) % 3 = 0
    · exact first ⟨n + 1, hn⟩ h0 a d
    · have e := later_norm m c ⟨n + 1, hn⟩ h0
      refine (congrFun e (ix2 a d)).trans ((ih (Nat.lt_of_succ_lt hn) a d).trans ?_)
      have htok : token ⟨n, Nat.lt_of_succ_lt hn⟩ a = token ⟨n + 1, hn⟩ a := Fin.ext (by
        show n / 3 * 1024 + a.val = (n + 1) / 3 * 1024 + a.val
        omega)
      rw [htok]

/-- Every point's output is the normalised block it holds against its block of the weights. -/
theorem out_eq (c : Dev nD) (t : Fin cfg0.N) :
    (outsAt0 m c t.val t.isLt).1 = k0_pay2 (outsAt0 m c t.val t.isLt).2 (iblk m c 2 t) := by
  by_cases h0 : t.val % 3 = 0
  · rw [first_out m c t h0, first_norm m c t h0]
  · rw [later_out m c t h0, later_norm m c t h0]

/-- Every point's output, read. -/
theorem out_apply (c : Dev nD) (t : Fin cfg0.N) (a : Fin 1024) (j : Fin 2560) :
    ((outsAt0 m c t.val t.isLt).1 (ix2 a j) : EReal)
      = outputs (aX m c) (aG m c) (aW m c) (ix2 (token t a) (at_ t j)) := by
  rw [out_eq m c t]
  refine (project_apply _ (iblk m c 2 t) a j).trans (Eq.trans ?_ (arranged_product _ (fun k n => aW m c (ix2 k n)) (at_ t j)))
  exact Finset.sum_congr rfl fun k _ => congrArg₂ (· * ·) (norm_held m c t.val t.isLt a k) (w_blk m c t k j)

/-- The array of outputs after the run. -/
theorem final (c : Dev nD) : (dats m 0 c).arrAt 3 cfg0.N = outputs (aX m c) (aG m c) (aW m c) := by
  refine (dats m 0 c).arrAt_eq_of_covers 3 _ (by decide +kernel) fun t hf y => ?_
  blk_simp
  rw [after0_3]
  have hy : y = ix2 (y 0) (y 1) := by blk_ext
  have e : ((cfg0.win 3).blk t).view.emb y = ix2 (token t (y 0)) (at_ t (y 1)) := by
    funext a
    match a with
    | ⟨0, _⟩ => exact Fin.ext (by blk_simp [idx_val t]; rfl)
    | ⟨1, _⟩ => exact Fin.ext (by blk_simp [idx_val t]; rfl)
  refine (congrArg (outsAt0 m c t.val t.isLt).1 hy).trans ((out_apply m c t (y 0) (y 1)).trans ?_)
  rw [e]

end Cert.Kernel2Ideal.Proj
-- ==== Proof.Proj.Reference.lean ====
module

public import proofs.«01_k».proof.Proof.Gen.Reference2Ideal.Run
public import proofs.«01_k».proof.Proof.Proj.Value

/-! The reference's first input projection read at an index. -/

@[expose] public section

set_option maxRecDepth 16384

noncomputable section

namespace Cert.Reference2Ideal.Proj

open Idealize.ShloMosaic Idealize.ShloMosaic.TcCoe Idealize.SL.Sem
open Cert.Reference2Ideal Cert.Reference2Ideal.Gen Cert.Moe Cert.Kernel2Ideal.Proj

/-- The normalised tokens. -/
def refNorm (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf
    (broadcastInDim S16384x1 ![0] bcast_S16384_S16384x1_0 (Host.reduceAdd (mulf X X) (constant S_ .f32
    0x00000000#32) reducesTo_S16384x1024_S16384_d1 h_S_)) (broadcastInDim S16384x1 ![] bcast_S_S16384x1 (constant S_
    .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1]
    bcast_S1024_S1x1024_1 G))

/-- The tokens against the weights. -/
def refAll (H : FVec Ideal S16384x1024 .f32) (W : FVec Ideal S1024x11288 .f32) : FVec Ideal S16384x11288 .f32 :=
  Host.dotGeneral dot_S16384x1024_S1024x11288_S16384x11288_1_0_0_1_n_n none H W

/-- The columns in their places. -/
def refPlaced (Z : FVec Ideal S16384x11288 .f32) : FVec Ideal S16384x7680 .f32 :=
  concatenate S16384x7680 1 [
    ⟨S16384x1536, extractStridedSlice S16384x1536 ![0, 0] Z slices_S16384x11288_S16384x1536_0_0⟩,
    ⟨S16384x1536, extractStridedSlice S16384x1536 ![0, 1536] Z slices_S16384x11288_S16384x1536_0_1536⟩,
    ⟨S16384x1536, extractStridedSlice S16384x1536 ![0, 3072] Z slices_S16384x11288_S16384x1536_0_3072⟩,
    ⟨S16384x1536, extractStridedSlice S16384x1536 ![0, 6160] Z slices_S16384x11288_S16384x1536_0_6160⟩,
    ⟨S16384x256, extractStridedSlice S16384x256 ![0, 4608] Z slices_S16384x11288_S16384x256_0_4608⟩,
    ⟨S16384x256, extractStridedSlice S16384x256 ![0, 4864] Z slices_S16384x11288_S16384x256_0_4864⟩,
    ⟨S16384x512, extractStridedSlice S16384x512 ![0, 5120] Z slices_S16384x11288_S16384x512_0_5120⟩,
    ⟨S16384x16, extractStridedSlice S16384x16 ![0, 6144] Z slices_S16384x11288_S16384x16_0_6144⟩,
    ⟨S16384x4, extractStridedSlice S16384x4 ![0, 8208] Z slices_S16384x11288_S16384x4_0_8208⟩,
    ⟨S16384x4, extractStridedSlice S16384x4 ![0, 8212] Z slices_S16384x11288_S16384x4_0_8212⟩,
    ⟨S16384x488, broadcastInDim S16384x488 ![] bcast_S_S16384x488 (constant S_ .f32 0x00000000#32)⟩]
    concatenates_S16384x1536_S16384x1536_S16384x1536_S16384x1536_S16384x256_S16384x256_S16384x512_S16384x16_S16384x4_S16384x4_S16384x488_S16384x7680_d1

/-- The normalised token, read. -/
theorem refNorm_apply (X : FVec Ideal S16384x1024 .f32) (G : FVec Ideal S1024 .f32) (n : Fin 16384) (d : Fin 1024) :
    (refNorm X G (ix2 n d) : EReal) = normed (fun a => X (ix2 n a)) (fun a => G (ix1 a)) d := by
  unfold refNorm
  pointwise []
  rfl

/-- The product, read. -/
theorem refAll_apply (H : FVec Ideal S16384x1024 .f32) (W : FVec Ideal S1024x11288 .f32) (n : Fin 16384) (e : Fin 11288) :
    (refAll H W (ix2 n e) : EReal) = ∑ k : Fin 1024, H (ix2 n k) * W (ix2 k e) := by
  unfold refAll
  pointwise []

/-- The placed columns, read. -/
theorem refPlaced_apply (Z : FVec Ideal S16384x11288 .f32) (n : Fin 16384) (j : Fin 7680) :
    (refPlaced Z (ix2 n j) : EReal) = column (fun e => Z (ix2 n e)) j := by
  unfold refPlaced
  pointwise []
  repeat refine either (fun h => at_used (fun e => Z (ix2 n e)) j _ (by omega) (by dsimp only; unfold source; split_ifs <;> omega)) (fun h => ?_)
  exact at_unused (fun e => Z (ix2 n e)) j (by omega)

/-- The staged reference is the projection. -/
theorem staged (X : FVec Ideal S16384x1024 .f32) (G : FVec Ideal S1024 .f32) (W : FVec Ideal S1024x11288 .f32) :
    refPlaced (refAll (refNorm X G) W) = outputs X G W := by
  refine funext fun i => ?_
  have hi : i = ix2 (i 0) (i 1) := by
    refine funext fun a => ?_
    match a with
    | ⟨0, _⟩ => rfl
    | ⟨1, _⟩ => rfl
  rw [hi]
  refine (refPlaced_apply (refAll (refNorm X G) W) (i 0) (i 1)).trans ?_
  have h : (fun e => (refAll (refNorm X G) W (ix2 (i 0) e) : EReal))
      = fun e => ∑ k, normed (fun a => X (ix2 (i 0) a)) (fun a => G (ix1 a)) k * W (ix2 k e) := funext fun e =>
    (refAll_apply (refNorm X G) W (i 0) e).trans
      (Finset.sum_congr rfl fun k _ => congrArg (· * _) (refNorm_apply X G (i 0) k))
  exact congrArg (fun f => column f (i 1)) h

/-- The reference ends with the projection of the normalised tokens. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = outputs (m ((c.tc : Thread nD τ).loc main_arg0))
        (m ((c.tc : Thread nD τ).loc main_arg1)) (m ((c.tc : Thread nD τ).loc main_arg2)) :=
  (θ_run defs _ _).mono (fun r h c => (h c).1.trans (by unfold Value.res_main_v28; exact staged _ _ _)) (Value.run m ρ)

end Cert.Reference2Ideal.Proj
-- ==== Proof.Proj.GateColumns.lean ====
module

public import proofs.«01_k».proof.Proof.Gen.Kernel3Ideal.Value
public import proofs.«01_k».proof.Proof.Proj.Columns
public import Idealize.ShloMosaic.Lib.Pipeline.ValueKit
public import Idealize.ShloMosaic.Lib.Pipeline.ReadBack
public import Idealize.ShloMosaic.Lib.Claim

/-! The columns of the input projection, as the second of the two projections arranges them. -/

@[expose] public section

set_option maxRecDepth 16384

noncomputable section

namespace Cert.Kernel3Ideal.Proj

open Idealize.ShloMosaic Idealize.ShloMosaic.TcCoe Idealize.SL.Sem
open Idealize.ShloMosaic.Pipeline (Dat)
open Cert.Kernel3Ideal Cert.Kernel3Ideal.Gen Cert.Moe

/-- The column of the projection that stands at place `j`. -/
def source (j : ℕ) : ℕ := if j < 3072 then j + 8216 else if j < 3584 then j + 2560 else j + 4112

/-- The column at every place is one of the projection's. -/
theorem source_lt {j : ℕ} (h : j < 4096) : source j < 11288 := by
  unfold source
  split_ifs <;> omega

/-- The values of the columns in their places. -/
def column (f : Fin 11288 → EReal) (j : Fin 4096) : EReal := f ⟨source j.val, source_lt j.isLt⟩

/-- A place holds its column. -/
theorem at_place (f : Fin 11288 → EReal) (j : Fin 4096) (e : Fin 11288) (he : e.val = source j.val) :
    f e = column f j := congrArg f (Fin.ext he)

/-- The weights with their columns arranged. -/
def arranged (W : FVec Ideal S1024x11288 .f32) : FVec Ideal S1024x4096 .f32 :=
  concatenate S1024x4096 1 [
    ⟨S1024x3072, extractStridedSlice S1024x3072 ![0, 8216] W slices_S1024x11288_S1024x3072_0_8216⟩,
    ⟨S1024x512, extractStridedSlice S1024x512 ![0, 5632] W slices_S1024x11288_S1024x512_0_5632⟩,
    ⟨S1024x512, extractStridedSlice S1024x512 ![0, 7696] W slices_S1024x11288_S1024x512_0_7696⟩]
    concatenates_S1024x3072_S1024x512_S1024x512_S1024x4096_d1

/-- The arranged weights, read. -/
theorem arranged_apply (W : FVec Ideal S1024x11288 .f32) (k : Fin 1024) (j : Fin 4096) :
    (arranged W (ix2 k j) : EReal) = column (fun n => W (ix2 k n)) j := by
  unfold arranged
  pointwise []
  repeat refine Cert.Kernel2Ideal.Proj.either (fun h => at_place (fun n => W (ix2 k n)) j _ (by dsimp only; unfold source; split_ifs <;> omega)) (fun h => ?_)
  exact at_place (fun n => W (ix2 k n)) j _ (by dsimp only; unfold source; split_ifs <;> omega)

variable (m : (ℓ : Loc nD τ sig) → Buf (Elt Ideal) ℓ)

set_option maxHeartbeats 2000000 in
/-- The weights the run is given are the arranged ones. -/
theorem weights_eq (c : Dev nD) :
    (V m c main_v17 : FVec Ideal S1024x4096 .bf16) = truncf .bf16 (arranged (m ((c : Thread nD τ).loc main_arg2))) bitsLt_bf16_f32 := by
  unfold V
  after_results_simp <;> (try dsimp only [Matrix.cons_val]) <;> (try after_results_simp) <;> rfl

end Cert.Kernel3Ideal.Proj
-- ==== Proof.Proj.GateValue.lean ====
module

public import proofs.«01_k».proof.Proof.Proj.GateColumns

/-! The second input projection: every normalised token against the arranged weights. -/

@[expose] public section

set_option maxRecDepth 16384

noncomputable section

namespace Cert.Kernel3Ideal.Proj

open Idealize.ShloMosaic Idealize.ShloMosaic.TcCoe Idealize.SL.Sem
open Idealize.ShloMosaic.Pipeline (Dat)
open Cert.Kernel3Ideal Cert.Kernel3Ideal.Gen Cert.Moe

/-- The normalised block, read. -/
theorem norm_apply (x : FVec Ideal S1024x1024 .f32) (g : FVec Ideal S1x1024 .f32) (a d : Fin 1024) :
    (k0_pay1 (F := Ideal) x g (ix2 a d) : EReal) = normed (fun k => x (ix2 a k)) (fun k => g (ix2 0 k)) d := by
  pointwise [k0_pay1]
  rfl

/-- The projection of a block, read. -/
theorem project_apply (h : FVec Ideal S1024x1024 .bf16) (w : FVec Ideal S1024x2048 .bf16) (a : Fin 1024) (j : Fin 2048) :
    (k0_pay2 (F := Ideal) h w (ix2 a j) : EReal) = ∑ k : Fin 1024, h (ix2 a k) * w (ix2 k j) := by
  pointwise [k0_pay2]

variable (m : (ℓ : Loc nD τ sig) → Buf (Elt Ideal) ℓ)

/-- The normalised block after a block's first point. -/
theorem first_norm (c : Dev nD) (t : Fin cfg0.N) (h0 : t.val % 2 = 0) :
    (outsAt0 m c t.val t.isLt).2 = k0_pay1 (iblk m c 0 t) (iblk m c 1 t) := by
  rw [outsAt0_A m c t h0]
  frame_out

/-- The output after a block's first point. -/
theorem first_out (c : Dev nD) (t : Fin cfg0.N) (h0 : t.val % 2 = 0) :
    (outsAt0 m c t.val t.isLt).1 = k0_pay2 (k0_pay1 (iblk m c 0 t) (iblk m c 1 t)) (iblk m c 2 t) := by
  rw [outsAt0_A m c t h0]
  frame_out

/-- A later point keeps the normalised block. -/
theorem later_norm (c : Dev nD) (t : Fin cfg0.N) (h0 : ¬ t.val % 2 = 0) :
    (outsAt0 m c t.val t.isLt).2 = (outsAt0 m c (t.val - 1) (Nat.lt_of_le_of_lt (Nat.sub_le _ _) t.isLt)).2 := by
  rw [outsAt0_B m c t h0]
  rfl

/-- The output after a later point. -/
theorem later_out (c : Dev nD) (t : Fin cfg0.N) (h0 : ¬ t.val % 2 = 0) :
    (outsAt0 m c t.val t.isLt).1
      = k0_pay2 (outsAt0 m c (t.val - 1) (Nat.lt_of_le_of_lt (Nat.sub_le _ _) t.isLt)).2 (iblk m c 2 t) := by
  rw [outsAt0_B m c t h0]
  frame_out
  rw [read_unread_whole]

/-- The block index of every window at every point. -/
theorem idx_val : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

/-- The number of grid points. -/
theorem points (t : Fin cfg0.N) : t.val < 32 := lt_of_lt_of_eq t.isLt N_0

/-- The tokens as launched. -/
abbrev aX (c : Dev nD) : FVec Ideal S16384x1024 .f32 := m ((c : Thread nD τ).loc main_arg0)
/-- The gain as launched. -/
abbrev aG (c : Dev nD) : FVec Ideal S1024 .f32 := m ((c : Thread nD τ).loc main_arg1)
/-- The weights as launched. -/
abbrev aW (c : Dev nD) : FVec Ideal S1024x11288 .f32 := m ((c : Thread nD τ).loc main_arg2)

/-- The token that row `a` of the point's block is. -/
def token (t : Fin cfg0.N) (a : Fin 1024) : Fin 16384 := ⟨t.val / 2 * 1024 + a.val, by have := points t; omega⟩

/-- The place that column `j` of the point's block is. -/
def at_ (t : Fin cfg0.N) (j : Fin 2048) : Fin 4096 := ⟨t.val % 2 * 2048 + j.val, by omega⟩

/-- The tokens' block at a point. -/
theorem x_blk (c : Dev nD) (t : Fin cfg0.N) (a : Fin 1024) (d : Fin 1024) :
    ((iblk m c 0 t : FVec Ideal S1024x1024 .f32) (ix2 a d) : EReal) = aX m c (ix2 (token t a) d) := by
  unfold token
  blk_ext [iblk, V, idx_val t]

/-- The gain's block at a point. -/
theorem g_blk (c : Dev nD) (t : Fin cfg0.N) (d : Fin 1024) :
    ((iblk m c 1 t : FVec Ideal S1x1024 .f32) (ix2 0 d) : EReal) = aG m c (ix1 d) := by
  blk_point [iblk, V, idx_val t]

/-- The weights' block at a point. -/
theorem w_blk (c : Dev nD) (t : Fin cfg0.N) (k : Fin 1024) (j : Fin 2048) :
    ((iblk m c 2 t : FVec Ideal S1024x2048 .bf16) (ix2 k j) : EReal) = column (fun n => aW m c (ix2 k n)) (at_ t j) := by
  have h : ((iblk m c 2 t : FVec Ideal S1024x2048 .bf16) (ix2 k j) : EReal)
      = (V m c main_v17 : FVec Ideal S1024x4096 .bf16) (ix2 k (at_ t j)) := by
    unfold at_
    blk_ext [iblk, idx_val t]
  rw [h, weights_eq m c]
  exact arranged_apply _ k (at_ t j)

/-- Every normalised token against every column, the columns in their places. -/
def outputs (X : FVec Ideal S16384x1024 .f32) (G : FVec Ideal S1024 .f32) (W : FVec Ideal S1024x11288 .f32) :
    FVec Ideal S16384x4096 .bf16 := fun i =>
  column (fun n => ∑ k, normed (fun a => X (ix2 (i 0) a)) (fun a => G (ix1 a)) k * W (ix2 k n)) (i 1)

/-- Arranging the columns of the weights arranges those of the product. -/
theorem arranged_product (h : Fin 1024 → EReal) (W : Fin 1024 → Fin 11288 → EReal) (j : Fin 4096) :
    ∑ k, h k * column (W k) j = column (fun n => ∑ k, h k * W k n) j := by
  unfold column
  rfl

/-- After every point the scratch buffer holds the normalised block. -/
theorem norm_held (c : Dev nD) : ∀ (n : ℕ) (hn : n < cfg0.N) (a d : Fin 1024),
    ((outsAt0 m c n hn).2 (ix2 a d) : EReal)
      = normed (fun k => aX m c (ix2 (token ⟨n, hn⟩ a) k)) (fun k => aG m c (ix1 k)) d := by
  have first : ∀ (t : Fin cfg0.N), t.val % 2 = 0 → ∀ a d : Fin 1024, ((outsAt0 m c t.val t.isLt).2 (ix2 a d) : EReal)
      = normed (fun k => aX m c (ix2 (token t a) k)) (fun k => aG m c (ix1 k)) d := fun t h0 a d => by
    rw [first_norm m c t h0]
    refine (norm_apply (iblk m c 0 t) (iblk m c 1 t) a d).trans ?_
    have hx : (fun d : Fin 1024 => ((iblk m c 0 t : FVec Ideal S1024x1024 .f32) (ix2 a d) : EReal))
        = fun d => aX m c (ix2 (token t a) d) := funext fun d => x_blk m c t a d
    have hg : (fun d : Fin 1024 => ((iblk m c 1 t : FVec Ideal S1x1024 .f32) (ix2 0 d) : EReal))
        = fun d => aG m c (ix1 d) := funext fun d => g_blk m c t d
    rw [hx, hg]
  intro n
  induction n with
  | zero => exact fun hn => first ⟨0, hn⟩ rfl
  | succ n ih =>
    intro hn a d
    by_cases h0 : (n + 1) % 2 = 0
    · exact first ⟨n + 1, hn⟩ h0 a d
    · have e := later_norm m c ⟨n + 1, hn⟩ h0
      refine (congrFun e (ix2 a d)).trans ((ih (Nat.lt_of_succ_lt hn) a d).trans ?_)
      have htok : token ⟨n, Nat.lt_of_succ_lt hn⟩ a = token ⟨n + 1, hn⟩ a := Fin.ext (by
        show n / 2 * 1024 + a.val = (n + 1) / 2 * 1024 + a.val
        omega)
      rw [htok]

/-- Every point's output is the normalised block it holds against its block of the weights. -/
theorem out_eq (c : Dev nD) (t : Fin cfg0.N) :
    (outsAt0 m c t.val t.isLt).1 = k0_pay2 (outsAt0 m c t.val t.isLt).2 (iblk m c 2 t) := by
  by_cases h0 : t.val % 2 = 0
  · rw [first_out m c t h0, first_norm m c t h0]
  · rw [later_out m c t h0, later_norm m c t h0]

/-- Every point's output, read. -/
theorem out_apply (c : Dev nD) (t : Fin cfg0.N) (a : Fin 1024) (j : Fin 2048) :
    ((outsAt0 m c t.val t.isLt).1 (ix2 a j) : EReal)
      = outputs (aX m c) (aG m c) (aW m c) (ix2 (token t a) (at_ t j)) := by
  rw [out_eq m c t]
  refine (project_apply _ (iblk m c 2 t) a j).trans (Eq.trans ?_ (arranged_product _ (fun k n => aW m c (ix2 k n)) (at_ t j)))
  exact Finset.sum_congr rfl fun k _ => congrArg₂ (· * ·) (norm_held m c t.val t.isLt a k) (w_blk m c t k j)

/-- The array of outputs after the run. -/
theorem final (c : Dev nD) : (dats m 0 c).arrAt 3 cfg0.N = outputs (aX m c) (aG m c) (aW m c) := by
  refine (dats m 0 c).arrAt_eq_of_covers 3 _ (by decide +kernel) fun t hf y => ?_
  blk_simp
  rw [after0_3]
  have hy : y = ix2 (y 0) (y 1) := by blk_ext
  have e : ((cfg0.win 3).blk t).view.emb y = ix2 (token t (y 0)) (at_ t (y 1)) := by
    funext a
    match a with
    | ⟨0, _⟩ => exact Fin.ext (by blk_simp [idx_val t]; rfl)
    | ⟨1, _⟩ => exact Fin.ext (by blk_simp [idx_val t]; rfl)
  refine (congrArg (outsAt0 m c t.val t.isLt).1 hy).trans ((out_apply m c t (y 0) (y 1)).trans ?_)
  rw [e]

end Cert.Kernel3Ideal.Proj
-- ==== Proof.Proj.GateReference.lean ====
module

public import proofs.«01_k».proof.Proof.Gen.Reference3Ideal.Run
public import proofs.«01_k».proof.Proof.Proj.GateValue

/-! The reference's second input projection read at an index. -/

@[expose] public section

set_option maxRecDepth 16384

noncomputable section

namespace Cert.Reference3Ideal.Proj

open Idealize.ShloMosaic Idealize.ShloMosaic.TcCoe Idealize.SL.Sem
open Cert.Reference3Ideal Cert.Reference3Ideal.Gen Cert.Moe Cert.Kernel3Ideal.Proj

/-- The normalised tokens. -/
def refNorm (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf
    (broadcastInDim S16384x1 ![0] bcast_S16384_S16384x1_0 (Host.reduceAdd (mulf X X) (constant S_ .f32
    0x00000000#32) reducesTo_S16384x1024_S16384_d1 h_S_)) (broadcastInDim S16384x1 ![] bcast_S_S16384x1 (constant S_
    .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1]
    bcast_S1024_S1x1024_1 G))

/-- The tokens against the weights. -/
def refAll (H : FVec Ideal S16384x1024 .f32) (W : FVec Ideal S1024x11288 .f32) : FVec Ideal S16384x11288 .f32 :=
  Host.dotGeneral dot_S16384x1024_S1024x11288_S16384x11288_1_0_0_1_n_n none H W

/-- The columns in their places. -/
def refPlaced (Z : FVec Ideal S16384x11288 .f32) : FVec Ideal S16384x4096 .f32 :=
  concatenate S16384x4096 1 [
    ⟨S16384x3072, extractStridedSlice S16384x3072 ![0, 8216] Z slices_S16384x11288_S16384x3072_0_8216⟩,
    ⟨S16384x512, extractStridedSlice S16384x512 ![0, 5632] Z slices_S16384x11288_S16384x512_0_5632⟩,
    ⟨S16384x512, extractStridedSlice S16384x512 ![0, 7696] Z slices_S16384x11288_S16384x512_0_7696⟩]
    concatenates_S16384x3072_S16384x512_S16384x512_S16384x4096_d1

/-- The normalised token, read. -/
theorem refNorm_apply (X : FVec Ideal S16384x1024 .f32) (G : FVec Ideal S1024 .f32) (n : Fin 16384) (d : Fin 1024) :
    (refNorm X G (ix2 n d) : EReal) = normed (fun a => X (ix2 n a)) (fun a => G (ix1 a)) d := by
  unfold refNorm
  pointwise []
  rfl

/-- The product, read. -/
theorem refAll_apply (H : FVec Ideal S16384x1024 .f32) (W : FVec Ideal S1024x11288 .f32) (n : Fin 16384) (e : Fin 11288) :
    (refAll H W (ix2 n e) : EReal) = ∑ k : Fin 1024, H (ix2 n k) * W (ix2 k e) := by
  unfold refAll
  pointwise []

/-- The placed columns, read. -/
theorem refPlaced_apply (Z : FVec Ideal S16384x11288 .f32) (n : Fin 16384) (j : Fin 4096) :
    (refPlaced Z (ix2 n j) : EReal) = column (fun e => Z (ix2 n e)) j := by
  unfold refPlaced
  pointwise []
  repeat refine Cert.Kernel2Ideal.Proj.either (fun h => at_place (fun e => Z (ix2 n e)) j _ (by dsimp only; unfold source; split_ifs <;> omega)) (fun h => ?_)
  exact at_place (fun e => Z (ix2 n e)) j _ (by dsimp only; unfold source; split_ifs <;> omega)

/-- The staged reference is the projection. -/
theorem staged (X : FVec Ideal S16384x1024 .f32) (G : FVec Ideal S1024 .f32) (W : FVec Ideal S1024x11288 .f32) :
    truncf .bf16 (refPlaced (refAll (refNorm X G) W)) bitsLt_bf16_f32 = outputs X G W := by
  refine funext fun i => ?_
  have hi : i = ix2 (i 0) (i 1) := by
    refine funext fun a => ?_
    match a with
    | ⟨0, _⟩ => rfl
    | ⟨1, _⟩ => rfl
  rw [hi]
  refine (refPlaced_apply (refAll (refNorm X G) W) (i 0) (i 1)).trans ?_
  have h : (fun e => (refAll (refNorm X G) W (ix2 (i 0) e) : EReal))
      = fun e => ∑ k, normed (fun a => X (ix2 (i 0) a)) (fun a => G (ix1 a)) k * W (ix2 k e) := funext fun e =>
    (refAll_apply (refNorm X G) W (i 0) e).trans
      (Finset.sum_congr rfl fun k _ => congrArg (· * _) (refNorm_apply X G (i 0) k))
  exact congrArg (fun f => column f (i 1)) h

/-- The reference ends with the projection of the normalised tokens. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = outputs (m ((c.tc : Thread nD τ).loc main_arg0))
        (m ((c.tc : Thread nD τ).loc main_arg1)) (m ((c.tc : Thread nD τ).loc main_arg2)) :=
  (θ_run defs _ _).mono (fun r h c => (h c).1.trans (staged _ _ _)) (Value.run m ρ)

end Cert.Reference3Ideal.Proj
-- ==== Proof.Ffn.Value.lean ====
module

public import proofs.«01_k».proof.Proof.Gen.Kernel4Ideal.Value
public import proofs.«01_k».proof.Proof.Moe.Routing
public import Idealize.ShloMosaic.Lib.Pipeline.ValueKit
public import Idealize.ShloMosaic.Lib.Pipeline.ReadBack
public import Idealize.ShloMosaic.Lib.Claim

/-! The dense feed-forward: every token plus its gated layer, the hidden width taken in two halves. -/

@[expose] public section

set_option maxRecDepth 16384

noncomputable section

namespace Cert.Kernel4Ideal.Ffn

open Idealize.ShloMosaic Idealize.ShloMosaic.TcCoe Idealize.SL.Sem
open Idealize.ShloMosaic.Pipeline (Dat)
open Cert.Kernel4Ideal Cert.Kernel4Ideal.Gen Cert.Moe

/-- What one hidden unit adds to a channel: the gated product of its two scores, times its down weight. -/
def unit (h wg wu : Fin 1024 → EReal) (wd : EReal) : EReal :=
  (∑ k, h k * wg k) * Ideal.logistic (∑ k, h k * wg k) * (∑ k, h k * wu k) * wd

/-- The normalised block, read. -/
theorem norm_apply (x : FVec Ideal S512x1024 .f32) (g : FVec Ideal S1x1024 .f32) (a : Fin 512) (d : Fin 1024) :
    (k0_pay1 (F := Ideal) x g (ix2 a d) : EReal) = normed (fun k => x (ix2 a k)) (fun k => g (ix2 0 k)) d := by
  pointwise [k0_pay1]
  rfl

/-- One half of the hidden width added to the sum so far, read. -/
theorem half_apply (h : FVec Ideal S512x1024 .bf16) (wg wu : FVec Ideal S1024x1408 .bf16) (acc : FVec Ideal S512x1024 .f32)
    (wd : FVec Ideal S1408x1024 .bf16) (a : Fin 512) (d : Fin 1024) :
    (k0_pay3 (F := Ideal) h wg wu acc wd (ix2 a d) : EReal) = acc (ix2 a d)
      + ∑ f : Fin 1408, unit (fun k => h (ix2 a k)) (fun k => wg (ix2 k f)) (fun k => wu (ix2 k f)) (wd (ix2 f d)) := by
  pointwise [k0_pay3]
  rfl

/-- The sum starts at zero. -/
theorem zero_apply (a : Fin 512) (d : Fin 1024) : (k0_pay2 (F := Ideal) (ix2 a d) : EReal) = 0 := by
  pointwise [k0_pay2]

/-- The token is added last. -/
theorem add_apply (x acc : FVec Ideal S512x1024 .f32) (a : Fin 512) (d : Fin 1024) :
    (k0_pay4 (F := Ideal) x acc (ix2 a d) : EReal) = x (ix2 a d) + acc (ix2 a d) := by
  pointwise [k0_pay4]

variable (m : (ℓ : Loc nD τ sig) → Buf (Elt Ideal) ℓ)

/-- The normalised block after a block's first point. -/
theorem first_norm (c : Dev nD) (t : Fin cfg0.N) (h0 : t.val % 2 = 0) :
    (outsAt0 m c t.val t.isLt).2.1 = k0_pay1 (iblk m c 0 t) (iblk m c 1 t) := by
  rw [outsAt0_A m c t h0 (by omega)]
  frame_out

/-- The sum after a block's first point. -/
theorem first_sum (c : Dev nD) (t : Fin cfg0.N) (h0 : t.val % 2 = 0) :
    (outsAt0 m c t.val t.isLt).2.2 = k0_pay3 (k0_pay1 (iblk m c 0 t) (iblk m c 1 t)) (iblk m c 2 t) (iblk m c 3 t) (k0_pay2 (F := Ideal)) (iblk m c 4 t) := by
  rw [outsAt0_A m c t h0 (by omega)]
  frame_out

/-- The output after a block's second point. -/
theorem second_out (c : Dev nD) (t : Fin cfg0.N) (h1 : t.val % 2 = 1) :
    (outsAt0 m c t.val t.isLt).1 = k0_pay4 (iblk m c 0 t) (k0_pay3 (outsAt0 m c (t.val - 1) (Nat.lt_of_le_of_lt (Nat.sub_le _ _) t.isLt)).2.1
      (iblk m c 2 t) (iblk m c 3 t) (outsAt0 m c (t.val - 1) (Nat.lt_of_le_of_lt (Nat.sub_le _ _) t.isLt)).2.2 (iblk m c 4 t)) := by
  rw [outsAt0_B m c t (by omega) h1]
  frame_out
  rw [read_unread_whole, read_unread_whole]

/-- The block index of every window at every point. -/
theorem idx_val : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0] :=
  (by decide +kernel : ∀ t : Fin grid0.N, _)

/-- The number of grid points. -/
theorem points (t : Fin cfg0.N) : t.val < 64 := lt_of_lt_of_eq t.isLt N_0

/-- The tokens as launched. -/
abbrev aX (c : Dev nD) : FVec Ideal S16384x1024 .f32 := m ((c : Thread nD τ).loc main_arg0)
/-- The gain as launched. -/
abbrev aG (c : Dev nD) : FVec Ideal S1024 .f32 := m ((c : Thread nD τ).loc main_arg1)
/-- The gate weights as launched. -/
abbrev aWg (c : Dev nD) : FVec Ideal S1024x2816 .f32 := m ((c : Thread nD τ).loc main_arg2)
/-- The up weights as launched. -/
abbrev aWu (c : Dev nD) : FVec Ideal S1024x2816 .f32 := m ((c : Thread nD τ).loc main_arg3)
/-- The down weights as launched. -/
abbrev aWd (c : Dev nD) : FVec Ideal S2816x1024 .f32 := m ((c : Thread nD τ).loc main_arg4)

/-- The tokens' block at a point. -/
theorem x_blk (c : Dev nD) (t : Fin cfg0.N) (a : Fin 512) (d : Fin 1024) :
    ((iblk m c 0 t : FVec Ideal S512x1024 .f32) (ix2 a d) : EReal)
      = aX m c (ix2 ⟨t.val / 2 * 512 + a.val, by have := points t; omega⟩ d) := by
  blk_ext [iblk, V, idx_val t]

/-- The gain's block at a point. -/
theorem g_blk (c : Dev nD) (t : Fin cfg0.N) (d : Fin 1024) :
    ((iblk m c 1 t : FVec Ideal S1x1024 .f32) (ix2 0 d) : EReal) = aG m c (ix1 d) := by
  blk_point [iblk, V, idx_val t]

/-- The gate weights' block at a point. -/
theorem wg_blk (c : Dev nD) (t : Fin cfg0.N) (k : Fin 1024) (f : Fin 1408) :
    ((iblk m c 2 t : FVec Ideal S1024x1408 .bf16) (ix2 k f) : EReal)
      = aWg m c (ix2 k ⟨t.val % 2 * 1408 + f.val, by omega⟩) := by
  blk_point [iblk, V, idx_val t]

/-- The up weights' block at a point. -/
theorem wu_blk (c : Dev nD) (t : Fin cfg0.N) (k : Fin 1024) (f : Fin 1408) :
    ((iblk m c 3 t : FVec Ideal S1024x1408 .bf16) (ix2 k f) : EReal)
      = aWu m c (ix2 k ⟨t.val % 2 * 1408 + f.val, by omega⟩) := by
  blk_point [iblk, V, idx_val t]

/-- The down weights' block at a point. -/
theorem wd_blk (c : Dev nD) (t : Fin cfg0.N) (f : Fin 1408) (d : Fin 1024) :
    ((iblk m c 4 t : FVec Ideal S1408x1024 .bf16) (ix2 f d) : EReal)
      = aWd m c (ix2 ⟨t.val % 2 * 1408 + f.val, by omega⟩ d) := by
  blk_point [iblk, V, idx_val t]

section Arrays

variable (X : FVec Ideal S16384x1024 .f32) (G : FVec Ideal S1024 .f32) (Wg Wu : FVec Ideal S1024x2816 .f32)
  (Wd : FVec Ideal S2816x1024 .f32)

/-- What hidden unit `f` adds to token `n` at channel `d`. -/
def share (n : Fin 16384) (d : Fin 1024) (f : Fin 2816) : EReal :=
  unit (normed (fun k => X (ix2 n k)) (fun k => G (ix1 k))) (fun k => Wg (ix2 k f)) (fun k => Wu (ix2 k f)) (Wd (ix2 f d))

/-- The array of outputs: every token plus what the hidden units add to it. -/
def outputs : FVec Ideal S16384x1024 .f32 := fun i =>
  (X (ix2 (i 0) (i 1)) : EReal) + ∑ f, share X G Wg Wu Wd (i 0) (i 1) f

/-- The hidden units are those of the first half and those of the second. -/
theorem halves (F : Fin 2816 → EReal) :
    ∑ f, F f = ∑ f : Fin 1408, F ⟨0 * 1408 + f.val, by omega⟩ + ∑ f : Fin 1408, F ⟨1 * 1408 + f.val, by omega⟩ := by
  refine (Fin.sum_univ_add (a := 1408) (b := 1408) F).trans (congrArg₂ (· + ·) ?_ ?_)
  · exact Finset.sum_congr rfl fun f _ => congrArg F (Fin.ext (by show f.val = 0 * 1408 + f.val; omega))
  · exact Finset.sum_congr rfl fun f _ => congrArg F (Fin.ext (by show 1408 + f.val = 1 * 1408 + f.val; omega))

end Arrays

/-- The token that row `a` of the point's block is. -/
def token (t : Fin cfg0.N) (a : Fin 512) : Fin 16384 := ⟨t.val / 2 * 512 + a.val, by have := points t; omega⟩

/-- The normalised block of a point, read at the arguments. -/
theorem norm_here (c : Dev nD) (t : Fin cfg0.N) (a : Fin 512) :
    (fun k => (k0_pay1 (F := Ideal) (iblk m c 0 t) (iblk m c 1 t) (ix2 a k) : EReal))
      = normed (fun k => aX m c (ix2 (token t a) k)) (fun k => aG m c (ix1 k)) := by
  funext k
  refine (norm_apply (iblk m c 0 t) (iblk m c 1 t) a k).trans ?_
  have hx : (fun d : Fin 1024 => ((iblk m c 0 t : FVec Ideal S512x1024 .f32) (ix2 a d) : EReal))
      = fun d => aX m c (ix2 (token t a) d) := funext fun d => x_blk m c t a d
  have hg : (fun d : Fin 1024 => ((iblk m c 1 t : FVec Ideal S1x1024 .f32) (ix2 0 d) : EReal))
      = fun d => aG m c (ix1 d) := funext fun d => g_blk m c t d
  rw [hx, hg]

/-- The half of the hidden width at a point, read at the arguments. -/
theorem half_here (c : Dev nD) (t : Fin cfg0.N) (n : Fin 16384) (h : FVec Ideal S512x1024 .bf16) (acc : FVec Ideal S512x1024 .f32)
    (a : Fin 512) (d : Fin 1024)
    (hh : (fun k => (h (ix2 a k) : EReal)) = normed (fun k => aX m c (ix2 n k)) (fun k => aG m c (ix1 k))) :
    (k0_pay3 (F := Ideal) h (iblk m c 2 t) (iblk m c 3 t) acc (iblk m c 4 t) (ix2 a d) : EReal) = acc (ix2 a d)
      + ∑ f : Fin 1408, share (aX m c) (aG m c) (aWg m c) (aWu m c) (aWd m c) n d ⟨t.val % 2 * 1408 + f.val, by omega⟩ := by
  refine (half_apply h (iblk m c 2 t) (iblk m c 3 t) acc (iblk m c 4 t) a d).trans (congrArg (acc (ix2 a d) + ·) ?_)
  refine Finset.sum_congr rfl fun f _ => ?_
  have h2 : (fun k : Fin 1024 => ((iblk m c 2 t : FVec Ideal S1024x1408 .bf16) (ix2 k f) : EReal))
      = fun k => aWg m c (ix2 k ⟨t.val % 2 * 1408 + f.val, by omega⟩) := funext fun k => wg_blk m c t k f
  have h3 : (fun k : Fin 1024 => ((iblk m c 3 t : FVec Ideal S1024x1408 .bf16) (ix2 k f) : EReal))
      = fun k => aWu m c (ix2 k ⟨t.val % 2 * 1408 + f.val, by omega⟩) := funext fun k => wu_blk m c t k f
  have h4 := wd_blk m c t f d
  unfold share
  rw [hh, h2, h3, h4]

/-- The output block after a block's second point. -/
theorem out_apply (c : Dev nD) (t : Fin cfg0.N) (h1 : t.val % 2 = 1) (a : Fin 512) (d : Fin 1024) :
    ((outsAt0 m c t.val t.isLt).1 (ix2 a d) : EReal)
      = outputs (aX m c) (aG m c) (aWg m c) (aWu m c) (aWd m c) (ix2 (token t a) d) := by
  have hp := points t
  obtain ⟨s, hs⟩ : ∃ s : Fin cfg0.N, s.val = t.val - 1 := ⟨⟨t.val - 1, Nat.lt_of_le_of_lt (Nat.sub_le _ _) t.isLt⟩, rfl⟩
  have hs0 : s.val % 2 = 0 := by omega
  have htok : token s a = token t a := Fin.ext (by show s.val / 2 * 512 + a.val = t.val / 2 * 512 + a.val; omega)
  have e1 : (outsAt0 m c (t.val - 1) (Nat.lt_of_le_of_lt (Nat.sub_le _ _) t.isLt)).2.1
      = k0_pay1 (iblk m c 0 s) (iblk m c 1 s) := by
    rw [← first_norm m c s hs0]; simp only [hs]
  have e2 : (outsAt0 m c (t.val - 1) (Nat.lt_of_le_of_lt (Nat.sub_le _ _) t.isLt)).2.2
      = k0_pay3 (k0_pay1 (iblk m c 0 s) (iblk m c 1 s)) (iblk m c 2 s) (iblk m c 3 s) (k0_pay2 (F := Ideal)) (iblk m c 4 s) := by
    rw [← first_sum m c s hs0]; simp only [hs]
  rw [second_out m c t h1, e1, e2]
  have hn := norm_here m c s a
  rw [htok] at hn
  refine (add_apply (iblk m c 0 t) _ a d).trans ?_
  rw [half_here m c t (token t a) _ _ a d hn, half_here m c s (token t a) _ _ a d hn, zero_apply, zero_add]
  refine congrArg₂ (· + ·) (x_blk m c t a d) ?_
  rw [halves]
  simp only [hs0, h1]
  rfl

/-- The array of outputs after the run. -/
theorem final (c : Dev nD) : (dats m 0 c).arrAt 5 cfg0.N
    = outputs (aX m c) (aG m c) (aWg m c) (aWu m c) (aWd m c) := by
  refine (dats m 0 c).arrAt_eq_of_covers 5 _ (by decide +kernel) fun t hf y => ?_
  have h1 : t.val % 2 = 1 := (flush0_5 t).mp hf
  blk_simp
  rw [after0_5]
  have hy : y = ix2 (y 0) (y 1) := by blk_ext
  have e : ((cfg0.win 5).blk t).view.emb y = ix2 (token t (y 0)) (y 1) := by
    funext a
    match a with
    | ⟨0, _⟩ => exact Fin.ext (by blk_simp [idx_val t]; rfl)
    | ⟨1, _⟩ => exact Fin.ext (by blk_simp [idx_val t]; rfl)
  refine (congrArg (outsAt0 m c t.val t.isLt).1 hy).trans ((out_apply m c t h1 (y 0) (y 1)).trans ?_)
  rw [e]
  rfl

end Cert.Kernel4Ideal.Ffn
-- ==== Proof.Ffn.Reference.lean ====
module

public import proofs.«01_k».proof.Proof.Gen.Reference4Ideal.Run
public import proofs.«01_k».proof.Proof.Ffn.Value

/-! The reference's feed-forward read at an index. -/

@[expose] public section

set_option maxRecDepth 16384

noncomputable section

namespace Cert.Reference4Ideal.Ffn

open Idealize.ShloMosaic Idealize.ShloMosaic.TcCoe Idealize.SL.Sem
open Cert.Reference4Ideal Cert.Reference4Ideal.Gen Cert.Moe Cert.Kernel4Ideal.Ffn

/-- The normalised tokens. -/
def refNorm (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf
    (broadcastInDim S16384x1 ![0] bcast_S16384_S16384x1_0 (Host.reduceAdd (mulf X X) (constant S_ .f32
    0x00000000#32) reducesTo_S16384x1024_S16384_d1 h_S_)) (broadcastInDim S16384x1 ![] bcast_S_S16384x1 (constant S_
    .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1]
    bcast_S1024_S1x1024_1 G))

/-- The tokens plus the gated layer. -/
def refOut (X H : FVec Ideal S16384x1024 .f32) (Wg Wu : FVec Ideal S1024x2816 .f32) (Wd : FVec Ideal S2816x1024 .f32) :
    FVec Ideal S16384x1024 .f32 :=
  addf X (Host.dotGeneral dot_S16384x2816_S2816x1024_S16384x1024_1_0_0_1_n_n none (mulf (mulf (Host.dotGeneral
    dot_S16384x1024_S1024x2816_S16384x2816_1_0_0_1_n_n none H Wg) (Host.divf (broadcastInDim S16384x2816 ![]
    bcast_S_S16384x2816 (constant S_ .f32 0x3F800000#32)) (addf (broadcastInDim S16384x2816 ![] bcast_S_S16384x2816
    (constant S_ .f32 0x3F800000#32)) (Host.exp (Host.negf (Host.dotGeneral
    dot_S16384x1024_S1024x2816_S16384x2816_1_0_0_1_n_n none H Wg)))))) (Host.dotGeneral
    dot_S16384x1024_S1024x2816_S16384x2816_1_0_0_1_n_n none H Wu)) Wd)

/-- The normalised token, read. -/
theorem refNorm_apply (X : FVec Ideal S16384x1024 .f32) (G : FVec Ideal S1024 .f32) (n : Fin 16384) (d : Fin 1024) :
    (refNorm X G (ix2 n d) : EReal) = normed (fun a => X (ix2 n a)) (fun a => G (ix1 a)) d := by
  unfold refNorm
  pointwise []
  rfl

/-- The output, read. -/
theorem refOut_apply (X H : FVec Ideal S16384x1024 .f32) (Wg Wu : FVec Ideal S1024x2816 .f32)
    (Wd : FVec Ideal S2816x1024 .f32) (n : Fin 16384) (d : Fin 1024) :
    (refOut X H Wg Wu Wd (ix2 n d) : EReal) = X (ix2 n d) + ∑ f : Fin 2816,
      unit (fun k => H (ix2 n k)) (fun k => Wg (ix2 k f)) (fun k => Wu (ix2 k f)) (Wd (ix2 f d)) := by
  unfold refOut
  pointwise []
  rfl

/-- The staged reference is the tokens plus what the hidden units add. -/
theorem staged (X : FVec Ideal S16384x1024 .f32) (G : FVec Ideal S1024 .f32) (Wg Wu : FVec Ideal S1024x2816 .f32)
    (Wd : FVec Ideal S2816x1024 .f32) : refOut X (refNorm X G) Wg Wu Wd = outputs X G Wg Wu Wd := by
  refine funext fun i => ?_
  have hi : i = ix2 (i 0) (i 1) := by
    refine funext fun a => ?_
    match a with
    | ⟨0, _⟩ => rfl
    | ⟨1, _⟩ => rfl
  rw [hi]
  have hH : (fun d => (refNorm X G (ix2 (i 0) d) : EReal)) = normed (fun a => X (ix2 (i 0) a)) (fun a => G (ix1 a)) :=
    funext fun d => refNorm_apply X G (i 0) d
  refine (refOut_apply X (refNorm X G) Wg Wu Wd (i 0) (i 1)).trans ?_
  rw [hH]
  rfl

/-- The reference ends with every token plus what the hidden units add to it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = outputs (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) :=
  (θ_run defs _ _).mono (fun r h c => (h c).1.trans (staged _ _ _ _ _)) (Value.run m ρ)

end Cert.Reference4Ideal.Ffn
-- ==== Proof.Merge.Heads.lean ====
module

public import proofs.«01_k».proof.Proof.Gen.Kernel5Ideal.Value
public import proofs.«01_k».proof.Proof.Proj.Columns

/-! The merge of the branches at one block: normalised heads, gates and the output projection. -/

@[expose] public section

set_option maxRecDepth 16384

noncomputable section

namespace Cert.Kernel5Ideal.Merge

open Idealize.ShloMosaic Idealize.ShloMosaic.TcCoe Idealize.SL.Sem
open Idealize.ShloMosaic.Pipeline (Dat)
open Cert.Kernel5Ideal Cert.Kernel5Ideal.Gen Cert.Moe Cert.Kernel2Ideal.Proj

/-- The place of lane `d` of the head that place `j` lies in. -/
def mate (j : Fin 512) (d : Fin 128) : Fin 512 := ⟨j.val / 128 * 128 + d.val, by omega⟩

/-- The value at `j` over the root of the mean square of its head. -/
def scaled (o : Fin 512 → EReal) (j : Fin 512) : EReal :=
  o j * Ideal.rsqrt (Ideal.div (∑ d, o (mate j d) * o (mate j d)) (Ideal.ofBits FTy.f32 0x43000000#32)
    + Ideal.ofBits FTy.f32 0x358637BD#32)

/-- A branch's value: the scaled value by the gain and by the gate times its logistic. -/
def branch (o g z : Fin 512 → EReal) (j : Fin 512) : EReal := scaled o j * g j * (z j * Ideal.logistic (z j))

/-- The scaled value from any places that lie where the head's lanes lie. -/
theorem scaled_of (o : Fin 512 → EReal) (j e : Fin 512) (s : Fin 128 → Fin 512) (he : e.val = j.val)
    (hs : ∀ d, (s d).val = j.val / 128 * 128 + d.val) :
    o e * Ideal.rsqrt (Ideal.div (∑ d, o (s d) * o (s d)) (Ideal.ofBits FTy.f32 0x43000000#32)
      + Ideal.ofBits FTy.f32 0x358637BD#32) = scaled o j := by
  have h1 : e = j := Fin.ext he
  have h2 : s = mate j := funext fun d => Fin.ext (hs d)
  rw [h1, h2]
  rfl

/-- The first normalised branch, read. -/
theorem headB_apply (x : FVec Ideal S512x512 .f32) (g : FVec Ideal S1x512 .f32) (z : FVec Ideal S512x512 .bf16) (a j : Fin 512) :
    (k0_pay9 (F := Ideal) (k0_pay2 g) (k0_pay3 x) (k0_pay4 x) (k0_pay5 x) (k0_pay6 x) (k0_pay7 x) (k0_pay8 (F := Ideal)) z
      (ix2 a j) : EReal) = branch (fun k => x (ix2 a k)) (fun k => g (ix2 0 k)) (fun k => z (ix2 a k)) j := by
  pointwise [k0_pay2, k0_pay3, k0_pay4, k0_pay5, k0_pay6, k0_pay7, k0_pay8, k0_pay9]
  unfold branch
  refine congrArg₂ (· * ·) (congrArg₂ (· * ·) ?_ rfl) rfl
  repeat' refine either (fun h => ?_) (fun h => ?_)
  all_goals
    refine scaled_of (fun k => x (ix2 a k)) j _ _ ?_ (fun d => ?_) <;> (try dsimp only) <;> omega

/-- The second normalised branch, read. -/
theorem headC_apply (x : FVec Ideal S512x512 .f32) (g : FVec Ideal S1x512 .f32) (z : FVec Ideal S512x512 .bf16) (a j : Fin 512) :
    (k0_pay15 (F := Ideal) x (k0_pay10 g) (k0_pay11 x) (k0_pay12 x) (k0_pay13 x) (k0_pay14 x) z
      (ix2 a j) : EReal) = branch (fun k => x (ix2 a k)) (fun k => g (ix2 0 k)) (fun k => z (ix2 a k)) j := by
  pointwise [k0_pay10, k0_pay11, k0_pay12, k0_pay13, k0_pay14, k0_pay15]
  unfold branch
  refine congrArg₂ (· * ·) (congrArg₂ (· * ·) ?_ rfl) rfl
  repeat' refine either (fun h => ?_) (fun h => ?_)
  all_goals
    refine scaled_of (fun k => x (ix2 a k)) j _ _ ?_ (fun d => ?_) <;> (try dsimp only) <;> omega

/-- The token plus its three gated branches, each through its weights, through the output weights. -/
def mixed (x : EReal) (oa ob oc : Fin 512 → EReal) (wa wb wc : Fin 512 → Fin 1024 → EReal) (ga gb gc wo : Fin 1024 → EReal) : EReal :=
  x + ∑ e, (Ideal.logistic (ga e) * (∑ k, oa k * wa k e) + Ideal.logistic (gb e) * (∑ k, ob k * wb k e)
    + Ideal.logistic (gc e) * (∑ k, oc k * wc k e)) * wo e

/-- The output of a block, read. -/
theorem mix_apply (hb hc : FVec Ideal S512x512 .f32) (oa : FVec Ideal S512x512 .f32) (wa wb wc : FVec Ideal S1x512x1024 .bf16)
    (ga gb gc : FVec Ideal S512x1024 .bf16) (x : FVec Ideal S512x1024 .f32) (wo : FVec Ideal S1024x1024 .bf16) (a : Fin 512) (d : Fin 1024) :
    (k0_pay1 (F := Ideal) hc (k0_pay16 hb ga oa wa gb wb) gc wc x wo (ix2 a d) : EReal)
      = mixed (x (ix2 a d)) (fun k => oa (ix2 a k)) (fun k => hb (ix2 a k)) (fun k => hc (ix2 a k))
          (fun k e => wa (ix3 0 k e)) (fun k e => wb (ix3 0 k e)) (fun k e => wc (ix3 0 k e))
          (fun e => ga (ix2 a e)) (fun e => gb (ix2 a e)) (fun e => gc (ix2 a e)) (fun e => wo (ix2 e d)) := by
  pointwise [k0_pay1, k0_pay16]
  rfl

/-- The output of a block from the blocks of the inputs. -/
theorem point (x0 x1 : FVec Ideal S512x512 .f32) (x2 : FVec Ideal S512x512 .bf16) (x3 : FVec Ideal S512x512 .f32)
    (x4 : FVec Ideal S512x512 .bf16) (x5 x6 x7 : FVec Ideal S512x1024 .bf16) (x8 : FVec Ideal S512x1024 .f32)
    (x9 x10 : FVec Ideal S1x512 .f32) (x11 : FVec Ideal S3x512x1024 .bf16) (x12 : FVec Ideal S1024x1024 .bf16) (a : Fin 512) (d : Fin 1024) :
    (out0_13 (F := Ideal) x0 x1 x2 x3 x4 x5 x6 x7 x8 x9 x10 x11 x12 (ix2 a d) : EReal)
      = mixed (x8 (ix2 a d)) (fun k => x0 (ix2 a k))
          (branch (fun k => x1 (ix2 a k)) (fun k => x9 (ix2 0 k)) (fun k => x2 (ix2 a k)))
          (branch (fun k => x3 (ix2 a k)) (fun k => x10 (ix2 0 k)) (fun k => x4 (ix2 a k)))
          (fun k e => x11 (ix3 0 k e)) (fun k e => x11 (ix3 1 k e)) (fun k e => x11 (ix3 2 k e))
          (fun e => x5 (ix2 a e)) (fun e => x6 (ix2 a e)) (fun e => x7 (ix2 a e)) (fun e => x12 (ix2 e d)) := by
  frame_out
  refine (mix_apply _ _ _ _ _ _ _ _ _ _ _ a d).trans ?_
  simp only [headB_apply, headC_apply]
  pointwise [mixed]

end Cert.Kernel5Ideal.Merge
-- ==== Proof.Merge.Value.lean ====
module

public import proofs.«01_k».proof.Proof.Merge.Heads

/-! The merge of the branches: the array the run ends with. -/

@[expose] public section

set_option maxRecDepth 16384

noncomputable section

namespace Cert.Kernel5Ideal.Merge

open Idealize.ShloMosaic Idealize.ShloMosaic.TcCoe Idealize.SL.Sem
open Idealize.ShloMosaic.Pipeline (Dat)
open Cert.Kernel5Ideal Cert.Kernel5Ideal.Gen Cert.Moe

variable (m : (ℓ : Loc nD τ sig) → Buf (Elt Ideal) ℓ)

/-- The block index of every window at every point. -/
theorem idx_val : ∀ t : Fin cfg0.N, win0_0.index t = ![t.val, 0] ∧ win0_1.index t = ![t.val, 0] ∧ win0_2.index t = ![t.val, 6]
    ∧ win0_3.index t = ![t.val, 0] ∧ win0_4.index t = ![t.val, 7] ∧ win0_5.index t = ![t.val, 0] ∧ win0_6.index t = ![t.val, 1]
    ∧ win0_7.index t = ![t.val, 2] ∧ win0_8.index t = ![t.val, 0] ∧ win0_9.index t = ![0, 0] ∧ win0_10.index t = ![0, 0]
    ∧ win0_11.index t = ![0, 0, 0] ∧ win0_12.index t = ![0, 0] ∧ win0_13.index t = ![t.val, 0] :=
  (by decide +kernel : ∀ t : Fin grid0.N, _)

/-- The number of grid points. -/
theorem points (t : Fin cfg0.N) : t.val < 32 := lt_of_lt_of_eq t.isLt N_0

/-- The gates and the branches' gates as launched. -/
abbrev aZ (c : Dev nD) : FVec Ideal S16384x4096 .bf16 := m ((c : Thread nD τ).loc main_arg0)
/-- The first branch as launched. -/
abbrev aA (c : Dev nD) : FVec Ideal S16384x512 .f32 := m ((c : Thread nD τ).loc main_arg1)
/-- The second branch as launched. -/
abbrev aB (c : Dev nD) : FVec Ideal S16384x512 .f32 := m ((c : Thread nD τ).loc main_arg2)
/-- The third branch as launched. -/
abbrev aC (c : Dev nD) : FVec Ideal S16384x512 .f32 := m ((c : Thread nD τ).loc main_arg3)
/-- The tokens as launched. -/
abbrev aX (c : Dev nD) : FVec Ideal S16384x1024 .f32 := m ((c : Thread nD τ).loc main_arg4)
/-- The second branch's gain as launched. -/
abbrev aBn (c : Dev nD) : FVec Ideal S128 .f32 := m ((c : Thread nD τ).loc main_arg5)
/-- The third branch's gain as launched. -/
abbrev aCn (c : Dev nD) : FVec Ideal S128 .f32 := m ((c : Thread nD τ).loc main_arg6)
/-- The branches' weights as launched. -/
abbrev aWb (c : Dev nD) : FVec Ideal S3x512x1024 .f32 := m ((c : Thread nD τ).loc main_arg7)
/-- The output weights as launched. -/
abbrev aWo (c : Dev nD) : FVec Ideal S1024x1024 .f32 := m ((c : Thread nD τ).loc main_arg8)

/-- The token that row `a` of the point's block is. -/
def token (t : Fin cfg0.N) (a : Fin 512) : Fin 16384 := ⟨t.val * 512 + a.val, by have := points t; omega⟩

/-- Column `e` of gate `q`. -/
def gateAt (q : Fin 3) (e : Fin 1024) : Fin 4096 := ⟨q.val * 1024 + e.val, by omega⟩

/-- Column `k` of branch gate `q`, which stand after the three gates. -/
def branchAt (q : Fin 2) (k : Fin 512) : Fin 4096 := ⟨3072 + q.val * 512 + k.val, by omega⟩

/-- The lane of a place in its head. -/
def lane (k : Fin 512) : Fin 128 := ⟨k.val % 128, by omega⟩

/-- The first branch's block. -/
theorem a_blk (c : Dev nD) (t : Fin cfg0.N) (a : Fin 512) (k : Fin 512) :
    ((iblk m c 0 t : FVec Ideal S512x512 .f32) (ix2 a k) : EReal) = aA m c (ix2 (token t a) k) := by
  unfold token
  blk_ext [iblk, V, idx_val t]

/-- The second branch's block. -/
theorem b_blk (c : Dev nD) (t : Fin cfg0.N) (a : Fin 512) (k : Fin 512) :
    ((iblk m c 1 t : FVec Ideal S512x512 .f32) (ix2 a k) : EReal) = aB m c (ix2 (token t a) k) := by
  unfold token
  blk_ext [iblk, V, idx_val t]

/-- The second branch's gate's block. -/
theorem bz_blk (c : Dev nD) (t : Fin cfg0.N) (a : Fin 512) (k : Fin 512) :
    ((iblk m c 2 t : FVec Ideal S512x512 .bf16) (ix2 a k) : EReal) = aZ m c (ix2 (token t a) (branchAt 0 k)) := by
  unfold token branchAt
  blk_ext [iblk, V, idx_val t]

/-- The third branch's block. -/
theorem c_blk (c : Dev nD) (t : Fin cfg0.N) (a : Fin 512) (k : Fin 512) :
    ((iblk m c 3 t : FVec Ideal S512x512 .f32) (ix2 a k) : EReal) = aC m c (ix2 (token t a) k) := by
  unfold token
  blk_ext [iblk, V, idx_val t]

/-- The third branch's gate's block. -/
theorem cz_blk (c : Dev nD) (t : Fin cfg0.N) (a : Fin 512) (k : Fin 512) :
    ((iblk m c 4 t : FVec Ideal S512x512 .bf16) (ix2 a k) : EReal) = aZ m c (ix2 (token t a) (branchAt 1 k)) := by
  unfold token branchAt
  blk_ext [iblk, V, idx_val t]

/-- The block of gate 0. -/
theorem g0_blk (c : Dev nD) (t : Fin cfg0.N) (a : Fin 512) (e : Fin 1024) :
    ((iblk m c 5 t : FVec Ideal S512x1024 .bf16) (ix2 a e) : EReal) = aZ m c (ix2 (token t a) (gateAt 0 e)) := by
  unfold token gateAt
  blk_ext [iblk, V, idx_val t]

/-- The block of gate 1. -/
theorem g1_blk (c : Dev nD) (t : Fin cfg0.N) (a : Fin 512) (e : Fin 1024) :
    ((iblk m c 6 t : FVec Ideal S512x1024 .bf16) (ix2 a e) : EReal) = aZ m c (ix2 (token t a) (gateAt 1 e)) := by
  unfold token gateAt
  blk_ext [iblk, V, idx_val t]

/-- The block of gate 2. -/
theorem g2_blk (c : Dev nD) (t : Fin cfg0.N) (a : Fin 512) (e : Fin 1024) :
    ((iblk m c 7 t : FVec Ideal S512x1024 .bf16) (ix2 a e) : EReal) = aZ m c (ix2 (token t a) (gateAt 2 e)) := by
  unfold token gateAt
  blk_ext [iblk, V, idx_val t]

/-- The tokens' block. -/
theorem x_blk (c : Dev nD) (t : Fin cfg0.N) (a : Fin 512) (e : Fin 1024) :
    ((iblk m c 8 t : FVec Ideal S512x1024 .f32) (ix2 a e) : EReal) = aX m c (ix2 (token t a) e) := by
  unfold token
  blk_ext [iblk, V, idx_val t]

/-- The second branch's gain's block. -/
theorem bn_blk (c : Dev nD) (t : Fin cfg0.N) (k : Fin 512) :
    ((iblk m c 9 t : FVec Ideal S1x512 .f32) (ix2 0 k) : EReal) = aBn m c (ix1 (lane k)) := by
  unfold lane
  blk_point [iblk, V, idx_val t]

/-- The third branch's gain's block. -/
theorem cn_blk (c : Dev nD) (t : Fin cfg0.N) (k : Fin 512) :
    ((iblk m c 10 t : FVec Ideal S1x512 .f32) (ix2 0 k) : EReal) = aCn m c (ix1 (lane k)) := by
  unfold lane
  blk_point [iblk, V, idx_val t]

/-- The branches' weights' block. -/
theorem wb_blk (c : Dev nD) (t : Fin cfg0.N) (q : Fin 3) (k : Fin 512) (e : Fin 1024) :
    ((iblk m c 11 t : FVec Ideal S3x512x1024 .bf16) (ix3 q k e) : EReal) = aWb m c (ix3 q k e) := by
  blk_point [iblk, V, idx_val t]

/-- The output weights' block. -/
theorem wo_blk (c : Dev nD) (t : Fin cfg0.N) (e d : Fin 1024) :
    ((iblk m c 12 t : FVec Ideal S1024x1024 .bf16) (ix2 e d) : EReal) = aWo m c (ix2 e d) := by
  blk_point [iblk, V, idx_val t]

/-- Every token plus its three gated branches through the output weights. -/
def outputs (Z : FVec Ideal S16384x4096 .bf16) (A B C : FVec Ideal S16384x512 .f32) (X : FVec Ideal S16384x1024 .f32)
    (Bn Cn : FVec Ideal S128 .f32) (Wb : FVec Ideal S3x512x1024 .f32) (Wo : FVec Ideal S1024x1024 .f32) :
    FVec Ideal S16384x1024 .f32 := fun i =>
  mixed (X (ix2 (i 0) (i 1))) (fun k => A (ix2 (i 0) k))
    (branch (fun k => B (ix2 (i 0) k)) (fun k => Bn (ix1 (lane k))) (fun k => Z (ix2 (i 0) (branchAt 0 k))))
    (branch (fun k => C (ix2 (i 0) k)) (fun k => Cn (ix1 (lane k))) (fun k => Z (ix2 (i 0) (branchAt 1 k))))
    (fun k e => Wb (ix3 0 k e)) (fun k e => Wb (ix3 1 k e)) (fun k e => Wb (ix3 2 k e))
    (fun e => Z (ix2 (i 0) (gateAt 0 e))) (fun e => Z (ix2 (i 0) (gateAt 1 e))) (fun e => Z (ix2 (i 0) (gateAt 2 e)))
    (fun e => Wo (ix2 e (i 1)))

/-- Every point's output, read. -/
theorem out_apply (c : Dev nD) (t : Fin cfg0.N) (a : Fin 512) (d : Fin 1024) :
    (out0_13 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (ix2 a d) : EReal)
      = outputs (aZ m c) (aA m c) (aB m c) (aC m c) (aX m c) (aBn m c) (aCn m c) (aWb m c) (aWo m c) (ix2 (token t a) d) := by
  refine (point _ _ _ _ _ _ _ _ _ _ _ _ _ a d).trans ?_
  simp only [a_blk, b_blk, bz_blk, c_blk, cz_blk, g0_blk, g1_blk, g2_blk, x_blk, bn_blk, cn_blk, wb_blk, wo_blk]
  rfl

/-- The array of outputs after the run. -/
theorem final (c : Dev nD) : (dats m 0 c).arrAt 13 cfg0.N
    = outputs (aZ m c) (aA m c) (aB m c) (aC m c) (aX m c) (aBn m c) (aCn m c) (aWb m c) (aWo m c) := by
  refine (dats m 0 c).arrAt_eq_of_covers 13 _ (by decide +kernel) fun t hf y => ?_
  blk_simp
  rw [after0_13]
  have hy : y = ix2 (y 0) (y 1) := by blk_ext
  have e : ((cfg0.win 13).blk t).view.emb y = ix2 (token t (y 0)) (y 1) := by
    funext a
    match a with
    | ⟨0, _⟩ => exact Fin.ext (by blk_simp [idx_val t]; rfl)
    | ⟨1, _⟩ => exact Fin.ext (by blk_simp [idx_val t]; rfl)
  rw [e]
  refine (congrArg (out0_13 (F := Ideal) _ _ _ _ _ _ _ _ _ _ _ _ _) hy).trans (out_apply m c t (y 0) (y 1))

end Cert.Kernel5Ideal.Merge
-- ==== Proof.Merge.Reference.lean ====
module

public import proofs.«01_k».proof.Proof.Gen.Reference5Ideal.Run
public import proofs.«01_k».proof.Proof.Merge.Value

/-! The reference's merge read at an index. -/

@[expose] public section

set_option maxRecDepth 16384

noncomputable section

namespace Cert.Reference5Ideal.Merge

open Idealize.ShloMosaic Idealize.ShloMosaic.TcCoe Idealize.SL.Sem
open Cert.Reference5Ideal Cert.Reference5Ideal.Gen Cert.Moe Cert.Kernel5Ideal.Merge

/-- The logistic of the three gates. -/
def refGates (Z : FVec Ideal S16384x4096 .bf16) : FVec Ideal S16384x3072 .f32 :=
  Host.divf (broadcastInDim S16384x3072 ![] bcast_S_S16384x3072 (constant S_ .f32 0x3F800000#32)) (addf (broadcastInDim
    S16384x3072 ![] bcast_S_S16384x3072 (constant S_ .f32 0x3F800000#32)) (Host.exp (Host.negf (extractStridedSlice
    S16384x3072 ![0, 0] (extf .f32 Z bitsLt_bf16_f32) slices_S16384x4096_S16384x3072_0_0))))

/-- The second branch's gate. -/
def refGateB (Z : FVec Ideal S16384x4096 .bf16) : FVec Ideal S16384x512 .f32 :=
  extractStridedSlice S16384x512 ![0, 3072] (extf .f32 Z bitsLt_bf16_f32) slices_S16384x4096_S16384x512_0_3072

/-- The third branch's gate. -/
def refGateC (Z : FVec Ideal S16384x4096 .bf16) : FVec Ideal S16384x512 .f32 :=
  extractStridedSlice S16384x512 ![0, 3584] (extf .f32 Z bitsLt_bf16_f32) slices_S16384x4096_S16384x512_0_3584

/-- A branch by heads: normalised, by its gain, by its gate times its logistic. -/
def refHeads (O : FVec Ideal S16384x4x128 .f32) (G : FVec Ideal S128 .f32) (Z : FVec Ideal S16384x4x128 .f32) :
    FVec Ideal S16384x4x128 .f32 :=
  mulf (mulf (mulf O (broadcastInDim S16384x4x128 ![0, 1, 2] bcast_S16384x4x1_S16384x4x128_0_1_2 (Host.rsqrt (addf
    (Host.divf (broadcastInDim S16384x4x1 ![0, 1] bcast_S16384x4_S16384x4x1_0_1 (Host.reduceAdd (mulf O O) (constant S_
    .f32 0x00000000#32) reducesTo_S16384x4x128_S16384x4_d2 h_S_)) (broadcastInDim S16384x4x1 ![] bcast_S_S16384x4x1
    (constant S_ .f32 0x43000000#32))) (broadcastInDim S16384x4x1 ![] bcast_S_S16384x4x1 (constant S_ .f32
    0x358637BD#32)))))) (broadcastInDim S16384x4x128 ![0, 1, 2] bcast_S1x1x128_S16384x4x128_0_1_2 (broadcastInDim
    S1x1x128 ![2] bcast_S128_S1x1x128_2 G))) (mulf Z (Host.divf (broadcastInDim S16384x4x128 ![] bcast_S_S16384x4x128
    (constant S_ .f32 0x3F800000#32)) (addf (broadcastInDim S16384x4x128 ![] bcast_S_S16384x4x128 (constant S_ .f32
    0x3F800000#32)) (Host.exp (Host.negf Z)))))

/-- A branch with its heads laid out in a row. -/
def refBranch (O : FVec Ideal S16384x512 .f32) (G : FVec Ideal S128 .f32) (Z : FVec Ideal S16384x512 .f32) :
    FVec Ideal S16384x512 .f32 :=
  shapeCast S16384x512 (refHeads (shapeCast S16384x4x128 O shapeCasts_S16384x512_S16384x4x128) G
    (shapeCast S16384x4x128 Z shapeCasts_S16384x512_S16384x4x128)) shapeCasts_S16384x4x128_S16384x512

/-- The tokens plus the gated branches through the output weights. -/
def refOut (X : FVec Ideal S16384x1024 .f32) (S : FVec Ideal S16384x3072 .f32) (A B C : FVec Ideal S16384x512 .f32)
    (Wb : FVec Ideal S3x512x1024 .f32) (Wo : FVec Ideal S1024x1024 .f32) : FVec Ideal S16384x1024 .f32 :=
  addf X (Host.dotGeneral dot_S16384x1024_S1024x1024_S16384x1024_1_0_0_1_n_n none (addf (addf
    (mulf (extractStridedSlice S16384x1024 ![0, 0] S slices_S16384x3072_S16384x1024_0_0)
      (Host.dotGeneral dot_S16384x512_S512x1024_S16384x1024_1_0_0_1_n_n none A (shapeCast S512x1024
        (extractStridedSlice S1x512x1024 ![0, 0, 0] Wb slices_S3x512x1024_S1x512x1024_0_0_0) shapeCasts_S1x512x1024_S512x1024)))
    (mulf (extractStridedSlice S16384x1024 ![0, 1024] S slices_S16384x3072_S16384x1024_0_1024)
      (Host.dotGeneral dot_S16384x512_S512x1024_S16384x1024_1_0_0_1_n_n none B (shapeCast S512x1024
        (extractStridedSlice S1x512x1024 ![1, 0, 0] Wb slices_S3x512x1024_S1x512x1024_1_0_0) shapeCasts_S1x512x1024_S512x1024))))
    (mulf (extractStridedSlice S16384x1024 ![0, 2048] S slices_S16384x3072_S16384x1024_0_2048)
      (Host.dotGeneral dot_S16384x512_S512x1024_S16384x1024_1_0_0_1_n_n none C (shapeCast S512x1024
        (extractStridedSlice S1x512x1024 ![2, 0, 0] Wb slices_S3x512x1024_S1x512x1024_2_0_0) shapeCasts_S1x512x1024_S512x1024)))) Wo)

/-- A gate's logistic, read. -/
theorem refGates_apply (Z : FVec Ideal S16384x4096 .bf16) (n : Fin 16384) (j : Fin 3072) :
    (refGates Z (ix2 n j) : EReal) = Ideal.logistic (Z (ix2 n ⟨j.val, by omega⟩)) := by
  unfold refGates
  pointwise []
  rfl

/-- The second branch's gate, read. -/
theorem refGateB_apply (Z : FVec Ideal S16384x4096 .bf16) (n : Fin 16384) (k : Fin 512) :
    (refGateB Z (ix2 n k) : EReal) = Z (ix2 n (branchAt 0 k)) := by
  unfold refGateB
  pointwise []
  rfl

/-- The third branch's gate, read. -/
theorem refGateC_apply (Z : FVec Ideal S16384x4096 .bf16) (n : Fin 16384) (k : Fin 512) :
    (refGateC Z (ix2 n k) : EReal) = Z (ix2 n (branchAt 1 k)) := by
  unfold refGateC
  pointwise []
  rfl

/-- A branch, read. -/
theorem refBranch_apply (O : FVec Ideal S16384x512 .f32) (G : FVec Ideal S128 .f32) (Z : FVec Ideal S16384x512 .f32)
    (n : Fin 16384) (k : Fin 512) : (refBranch O G Z (ix2 n k) : EReal)
      = branch (fun k => O (ix2 n k)) (fun k => G (ix1 (lane k))) (fun k => Z (ix2 n k)) k := by
  unfold refBranch
  pointwise [refHeads]
  rfl

/-- The output, read. -/
theorem refOut_apply (X : FVec Ideal S16384x1024 .f32) (S : FVec Ideal S16384x3072 .f32) (A B C : FVec Ideal S16384x512 .f32)
    (Wb : FVec Ideal S3x512x1024 .f32) (Wo : FVec Ideal S1024x1024 .f32) (n : Fin 16384) (d : Fin 1024) :
    (refOut X S A B C Wb Wo (ix2 n d) : EReal) = X (ix2 n d) + ∑ e : Fin 1024,
      (S (ix2 n ⟨e.val, by omega⟩) * (∑ k : Fin 512, A (ix2 n k) * Wb (ix3 0 k e))
        + S (ix2 n ⟨1024 + e.val, by omega⟩) * (∑ k : Fin 512, B (ix2 n k) * Wb (ix3 1 k e))
        + S (ix2 n ⟨2048 + e.val, by omega⟩) * (∑ k : Fin 512, C (ix2 n k) * Wb (ix3 2 k e))) * Wo (ix2 e d) := by
  unfold refOut
  pointwise []

/-- The staged reference is the merge. -/
theorem staged (Z : FVec Ideal S16384x4096 .bf16) (A B C : FVec Ideal S16384x512 .f32) (X : FVec Ideal S16384x1024 .f32)
    (Bn Cn : FVec Ideal S128 .f32) (Wb : FVec Ideal S3x512x1024 .f32) (Wo : FVec Ideal S1024x1024 .f32) :
    refOut X (refGates Z) A (refBranch B Bn (refGateB Z)) (refBranch C Cn (refGateC Z)) Wb Wo = outputs Z A B C X Bn Cn Wb Wo := by
  have h : ∀ (n : Fin 16384) (d : Fin 1024),
      (refOut X (refGates Z) A (refBranch B Bn (refGateB Z)) (refBranch C Cn (refGateC Z)) Wb Wo (ix2 n d) : EReal)
        = outputs Z A B C X Bn Cn Wb Wo (ix2 n d) := fun n d => by
    refine (refOut_apply _ _ _ _ _ _ _ n d).trans ?_
    have g0 : ∀ e : Fin 1024, (⟨e.val, by omega⟩ : Fin 4096) = gateAt 0 e := fun e => Fin.ext (by show e.val = 0 * 1024 + e.val; omega)
    have g1 : ∀ e : Fin 1024, (⟨1024 + e.val, by omega⟩ : Fin 4096) = gateAt 1 e := fun e => Fin.ext (by show 1024 + e.val = 1 * 1024 + e.val; omega)
    have g2 : ∀ e : Fin 1024, (⟨2048 + e.val, by omega⟩ : Fin 4096) = gateAt 2 e := fun e => Fin.ext (by show 2048 + e.val = 2 * 1024 + e.val; omega)
    simp only [refGates_apply, refBranch_apply, refGateB_apply, refGateC_apply, g0, g1, g2]
    rfl
  refine funext fun i => ?_
  have hi : i = ix2 (i 0) (i 1) := by
    refine funext fun a => ?_
    match a with
    | ⟨0, _⟩ => rfl
    | ⟨1, _⟩ => rfl
  rw [hi]
  exact h (i 0) (i 1)

/-- The reference ends with every token plus its merged branches. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = outputs (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) :=
  (θ_run defs _ _).mono (fun r h c => (h c).1.trans (staged _ _ _ _ _ _ _ _ _)) (Value.run m ρ)

end Cert.Reference5Ideal.Merge
-- ==== Proof.Sample.Lanes.lean ====
module

public import proofs.«01_k».proof.Proof.Gen.Kernel6Ideal.Value
public import proofs.«01_k».proof.Proof.Moe.Routing
public import Idealize.ShloMosaic.Lib.Pipeline.ValueKit
public import Idealize.ShloMosaic.Lib.Pipeline.ReadBack
public import Idealize.ShloMosaic.Lib.Claim

/-! The choice of two experts for the sampled tokens: a row of 128 places of which the first eight are the experts. -/

@[expose] public section

set_option maxRecDepth 16384

noncomputable section

namespace Cert.Kernel6Ideal.Sample

open Idealize.ShloMosaic Idealize.ShloMosaic.TcCoe Idealize.SL.Sem
open Cert.Kernel6Ideal Cert.Kernel6Ideal.Gen Cert.Moe

/-- The place of an expert in the row. -/
def up (e : Fin 8) : Fin 128 := ⟨e.val, by omega⟩

/-- Eight values, and `z` at the places after them. -/
def pad (p : Fin 8 → EReal) (z : EReal) (j : Fin 128) : EReal := if h : j.val < 8 then p ⟨j.val, h⟩ else z

/-- At an expert's place stands the expert's value. -/
theorem pad_up (p : Fin 8 → EReal) (z : EReal) (e : Fin 8) : pad p z (up e) = p e := dif_pos e.isLt

/-- Different experts have different places. -/
theorem up_inj (a b : Fin 8) : up a = up b ↔ a = b :=
  ⟨fun h => Fin.ext (congrArg Fin.val h : (up a).val = (up b).val), fun h => by rw [h]⟩

/-- Where the value of the first of the eight is not below `z`, its place comes before every other. -/
theorem pad_before (p : Fin 8 → EReal) (z : EReal) (hz : z ≤ p (Cert.Moe.first p)) (b : Fin 128) (hb : b ≠ up (Cert.Moe.first p)) :
    Before (pad p z) (up (Cert.Moe.first p)) b := by
  unfold Before
  rw [pad_up]
  by_cases h : b.val < 8
  · have hpb : pad p z b = p ⟨b.val, h⟩ := dif_pos h
    rw [hpb]
    rcases first_before p ⟨b.val, h⟩ (fun e => hb (Fin.ext (congrArg (fun x : Fin 8 => x.val) e))) with k | ⟨k, k'⟩
    · exact Or.inl k
    · exact Or.inr ⟨k, k'⟩
  · have hpb : pad p z b = z := dif_neg h
    rw [hpb]
    rcases hz.lt_or_eq with k | k
    · exact Or.inl k
    · refine Or.inr ⟨k, ?_⟩
      show (Cert.Moe.first p).val < b.val
      have := (Cert.Moe.first p).isLt
      omega

/-- The maximum of the row is the first expert's value. -/
theorem pad_max (p : Fin 8 → EReal) (z : EReal) (hz : z ≤ p (Cert.Moe.first p)) :
    Finset.fold max (Ideal.ofBits FTy.f32 0xFF800000#32) (pad p z) Finset.univ = p (Cert.Moe.first p) :=
  (fold_max_eq (pad p z) (up (Cert.Moe.first p)) (pad_before p z hz) _ Cert.KernelIdeal.Moe.minus_inf).trans (pad_up p z _)

/-- The maximum of the eight scores is that of the row with `-∞` after them. -/
theorem pad_bot_max (l : Fin 8 → EReal) :
    Finset.fold max (Ideal.ofBits FTy.f32 0xFF800000#32) (pad l ⊥) Finset.univ
      = Finset.fold max (Ideal.ofBits FTy.f32 0xFF800000#32) l Finset.univ :=
  (pad_max l ⊥ bot_le).trans (fold_max_eq l _ (first_before l) _ Cert.KernelIdeal.Moe.minus_inf).symm

/-- The pattern of 128. -/
theorem many : Ideal.ofBits FTy.f32 0x43000000#32 = ((128 : ℝ) : EReal) := by
  simp [Ideal.ofBits, Ideal.ieee]
  rw [← EReal.coe_mul]
  norm_num

/-- The least place at which a condition holds, 128 standing at the others, is `i`. -/
theorem least_place (P : Fin 128 → Prop) [DecidablePred P] (i : Fin 128) (hi : P i) (h : ∀ b, P b → i ≤ b) :
    Finset.fold min (Ideal.ofBits FTy.f32 0x7F800000#32)
      (fun x : Fin 128 => if P x then ((x.val : ℝ) : EReal) else Ideal.ofBits FTy.f32 0x43000000#32) Finset.univ = ((i.val : ℝ) : EReal) := by
  refine le_antisymm ((Finset.fold_min_le _).mpr (.inr ⟨i, Finset.mem_univ _, by rw [if_pos hi]⟩))
    ((Finset.le_fold_min _).mpr ⟨by rw [Cert.KernelIdeal.Moe.plus_inf]; exact le_top, fun b _ => ?_⟩)
  split
  · rename_i hb
    have := Fin.le_def.mp (h b hb)
    exact_mod_cast this
  · rw [many]
    have := i.isLt
    exact_mod_cast (by omega : i.val ≤ 128)

/-- The row of the second round. -/
theorem rest_top (p : Fin 8 → EReal) : Ideal.ofBits FTy.f32 0xBF800000#32 ≤ rest p (Cert.Moe.first (rest p)) := by
  by_cases h : Cert.Moe.first p = Cert.Moe.first (rest p)
  · rw [← h]
    unfold rest
    rw [if_pos rfl]
  · have e : rest p (Cert.Moe.first p) = Ideal.ofBits FTy.f32 0xBF800000#32 := if_pos rfl
    rw [← e]
    rcases first_before (rest p) _ h with k | ⟨k, _⟩
    · exact k.le
    · exact k.le

/-- The probabilities: each value over the sum of the row. -/
def probRow (E : FVec Ideal S32x128 .f32) : FVec Ideal S32x128 .f32 :=
  divf E (broadcastTo S32x128 (shapeCast S32x1 (multiReduction .add [1] S32 E 0x00000000#32 reduces_S32x128_S32 (.inl rfl) rfl)
    shapeCasts_S32_S32x1) broadcasts_S32x1_S32x128)

/-- The maximum of each row. -/
def topRow (P : FVec Ideal S32x128 .f32) : FVec Ideal S32x1 .f32 :=
  shapeCast S32x1 (multiReduction .maximumf [1] S32 P 0xFF800000#32 reduces_S32x128_S32 (.inl rfl) rfl) shapeCasts_S32_S32x1

/-- The least of the marked places of each row. -/
def leastRow (v : FVec Ideal S1x128 .f32) (M : IVec S32x128 1) : FVec Ideal S32x1 .f32 :=
  shapeCast S32x1 (multiReduction .minimumf [1] S32 (select M (broadcastTo S32x128 (shapeCast S1x128 v shapeCasts_S1x128_S1x128)
    broadcasts_S1x128_S32x128) (broadcast S32x128 (Scalar.ofBits .f32 0x43000000#32 : Ideal .f32))) 0x7F800000#32
    reduces_S32x128_S32 (.inl rfl) rfl) shapeCasts_S32_S32x1

/-- The places that attain the maximum. -/
def tops (P : FVec Ideal S32x128 .f32) (t : FVec Ideal S32x1 .f32) : IVec S32x128 1 :=
  cmpf .oeq P (broadcastTo S32x128 t broadcasts_S32x1_S32x128)

/-- Those of them that are experts. -/
def marked (q : IVec S1x128 1) (M : IVec S32x128 1) : IVec S32x128 1 := andi M (broadcastTo S32x128 q broadcasts_S1x128_S32x128)

/-- The place that is a given one. -/
def hot (v : FVec Ideal S1x128 .f32) (i : FVec Ideal S32x1 .f32) : IVec S32x128 1 :=
  cmpf .oeq (broadcastTo S32x128 v broadcasts_S1x128_S32x128) (broadcastTo S32x128 i broadcasts_S32x1_S32x128)

/-- The row of the second round. -/
def restRow (q : IVec S1x128 1) (H : IVec S32x128 1) (P : FVec Ideal S32x128 .f32) : FVec Ideal S32x128 .f32 :=
  select (ori H (broadcastTo S32x128 (xori q (constantI S1x128 1 1#1)) broadcasts_S1x128_S32x128))
    (broadcast S32x128 (Scalar.ofBits .f32 0xBF800000#32 : Ideal .f32)) P

/-- The weights of the two chosen places. -/
def weightRow (H K : IVec S32x128 1) (s t : FVec Ideal S32x1 .f32) : FVec Ideal S32x128 .f32 :=
  addf (select H (broadcastTo S32x128 (shapeCast S32x1 (divf s (addf s t)) shapeCasts_S32x1_S32x1) broadcasts_S32x1_S32x128)
      (broadcast S32x128 (Scalar.ofBits .f32 0x00000000#32 : Ideal .f32)))
    (select K (broadcastTo S32x128 (shapeCast S32x1 (divf t (addf s t)) shapeCasts_S32x1_S32x1) broadcasts_S32x1_S32x128)
      (broadcast S32x128 (Scalar.ofBits .f32 0x00000000#32 : Ideal .f32)))

/-- The first round's choice. -/
def hot1 (v : FVec Ideal S1x128 .f32) (q : IVec S1x128 1) (P : FVec Ideal S32x128 .f32) : IVec S32x128 1 :=
  hot v (leastRow v (marked q (tops P (topRow P))))

/-- The second round's choice. -/
def hot2 (v : FVec Ideal S1x128 .f32) (R : FVec Ideal S32x128 .f32) : IVec S32x128 1 := hot v (leastRow v (tops R (topRow R)))

/-- The weights in stages. -/
theorem choice_staged (v : FVec Ideal S1x128 .f32) (q : IVec S1x128 1) (E : FVec Ideal S32x128 .f32) :
    k0_pay8 (F := Ideal) v q E = weightRow (hot1 v q (probRow E)) (hot2 v (restRow q (hot1 v q (probRow E)) (probRow E)))
      (topRow (probRow E)) (topRow (restRow q (hot1 v q (probRow E)) (probRow E))) := rfl

/-- A probability, read. -/
theorem probRow_apply (E : FVec Ideal S32x128 .f32) (a : Fin 32) (j : Fin 128) :
    (probRow E (ix2 a j) : EReal) = Ideal.div (E (ix2 a j)) (∑ x : Fin 128, E (ix2 a x)) := by
  unfold probRow
  pointwise []

/-- The maximum, read. -/
theorem topRow_apply (P : FVec Ideal S32x128 .f32) (a : Fin 32) :
    (topRow P (ix2 a 0) : EReal) = Finset.fold max (Ideal.ofBits FTy.f32 0xFF800000#32) (fun x : Fin 128 => (P (ix2 a x) : EReal)) Finset.univ := by
  unfold topRow
  pointwise []

/-- The comparison with the maximum, read. -/
theorem tops_apply (P : FVec Ideal S32x128 .f32) (t : FVec Ideal S32x1 .f32) (a : Fin 32) (j : Fin 128) :
    tops P t (ix2 a j) = BitVec.ofBool (decide ((P (ix2 a j) : EReal) = t (ix2 a 0))) := by
  unfold tops
  pointwise []

/-- The least marked place, read. -/
theorem leastRow_apply (v : FVec Ideal S1x128 .f32) (hv : ∀ j : Fin 128, (v (ix2 0 j) : EReal) = ((j.val : ℝ) : EReal)) (M : IVec S32x128 1)
    (P : Fin 128 → Prop) [DecidablePred P] (a : Fin 32) (hM : ∀ j : Fin 128, M (ix2 a j) = BitVec.ofBool (decide (P j)))
    (i : Fin 128) (hi : P i) (h : ∀ b, P b → i ≤ b) : (leastRow v M (ix2 a 0) : EReal) = ((i.val : ℝ) : EReal) := by
  refine Eq.trans ?_ (least_place P i hi h)
  unfold leastRow
  pointwise []
  simp only [hM, hv, Scalar.select_ofBool, decide_eq_true_eq]

/-- The marked places, read. -/
theorem marked_apply (q : IVec S1x128 1) (hq : ∀ j : Fin 128, q (ix2 0 j) = BitVec.ofBool (decide (j.val < 8))) (M : IVec S32x128 1)
    (P : Fin 128 → Prop) [DecidablePred P] (a : Fin 32) (hM : ∀ j : Fin 128, M (ix2 a j) = BitVec.ofBool (decide (P j))) (j : Fin 128) :
    marked q M (ix2 a j) = BitVec.ofBool (decide (P j ∧ j.val < 8)) := by
  unfold marked
  pointwise []
  rw [hM, hq]
  by_cases h : P j <;> by_cases k : j.val < 8 <;> simp [h, k, IntOp.andi]

/-- The chosen place, read. -/
theorem hot_apply (v : FVec Ideal S1x128 .f32) (hv : ∀ j : Fin 128, (v (ix2 0 j) : EReal) = ((j.val : ℝ) : EReal)) (i : FVec Ideal S32x1 .f32)
    (a : Fin 32) (e : Fin 128) (hi : (i (ix2 a 0) : EReal) = ((e.val : ℝ) : EReal)) (j : Fin 128) :
    hot v i (ix2 a j) = BitVec.ofBool (decide (j = e)) := by
  unfold hot
  pointwise []
  rw [hi, hv]
  refine congrArg BitVec.ofBool (decide_eq_decide.mpr ?_)
  rw [EReal.coe_eq_coe_iff, Nat.cast_inj, Fin.ext_iff]

/-- The second round's row, read. -/
theorem restRow_apply (q : IVec S1x128 1) (hq : ∀ j : Fin 128, q (ix2 0 j) = BitVec.ofBool (decide (j.val < 8))) (H : IVec S32x128 1)
    (P : FVec Ideal S32x128 .f32) (a : Fin 32) (p : Fin 8 → EReal) (z : EReal)
    (hH : ∀ j : Fin 128, H (ix2 a j) = BitVec.ofBool (decide (j = up (Cert.Moe.first p))))
    (hP : ∀ j : Fin 128, (P (ix2 a j) : EReal) = pad p z j) (j : Fin 128) :
    (restRow q H P (ix2 a j) : EReal) = pad (rest p) (Ideal.ofBits FTy.f32 0xBF800000#32) j := by
  unfold restRow
  pointwise []
  rw [hH, hq, hP]
  unfold pad rest
  by_cases k : j.val < 8
  · by_cases h : j = up (Cert.Moe.first p)
    · have h' : (⟨j.val, k⟩ : Fin 8) = Cert.Moe.first p := Fin.ext (congrArg Fin.val h : j.val = _)
      simp only [h', h, k, dif_pos, decide_true]
      simp [IntOp.ori, IntOp.xori, Scalar.select, up]
    · have h' : ¬ (⟨j.val, k⟩ : Fin 8) = Cert.Moe.first p := fun e => h (Fin.ext (congrArg (fun x : Fin 8 => x.val) e))
      simp [h', h, k, IntOp.ori, IntOp.xori, Scalar.select]
  · have h : ¬ j = up (Cert.Moe.first p) := fun e => k (by rw [e]; exact (Cert.Moe.first p).isLt)
    simp [h, k, IntOp.ori, IntOp.xori, Scalar.select]

/-- The weights, read. -/
theorem weightRow_apply (H K : IVec S32x128 1) (s t : FVec Ideal S32x1 .f32) (a : Fin 32) (j : Fin 128) (A B : Prop) [Decidable A] [Decidable B]
    (hH : H (ix2 a j) = BitVec.ofBool (decide A)) (hK : K (ix2 a j) = BitVec.ofBool (decide B)) :
    (weightRow H K s t (ix2 a j) : EReal)
      = (if A then Ideal.div (s (ix2 a 0)) (s (ix2 a 0) + t (ix2 a 0)) else 0)
        + (if B then Ideal.div (t (ix2 a 0)) (s (ix2 a 0) + t (ix2 a 0)) else 0) := by
  unfold weightRow
  pointwise []
  rw [hH, hK, Scalar.select_ofBool, Scalar.select_ofBool]
  simp only [decide_eq_true_eq]

/-- The weight of an expert for a token whose exponentials are known. -/
theorem choice_apply (v : FVec Ideal S1x128 .f32) (hv : ∀ j : Fin 128, (v (ix2 0 j) : EReal) = ((j.val : ℝ) : EReal)) (q : IVec S1x128 1)
    (hq : ∀ j : Fin 128, q (ix2 0 j) = BitVec.ofBool (decide (j.val < 8))) (E : FVec Ideal S32x128 .f32) (a : Fin 32)
    (p : Fin 8 → EReal) (z : EReal) (hP : ∀ j : Fin 128, Ideal.div (E (ix2 a j)) (∑ x : Fin 128, E (ix2 a x)) = pad p z j)
    (hz : z ≤ p (Cert.Moe.first p)) (e : Fin 8) : (k0_pay8 (F := Ideal) v q E (ix2 a (up e)) : EReal) = gate p e := by
  rw [choice_staged]
  have hP' : ∀ j : Fin 128, (probRow E (ix2 a j) : EReal) = pad p z j := fun j => (probRow_apply E a j).trans (hP j)
  generalize probRow E = P at hP' ⊢
  have h1 : (topRow P (ix2 a 0) : EReal) = p (Cert.Moe.first p) := by
    rw [topRow_apply]
    simp only [hP']
    exact pad_max p z hz
  have hH : ∀ j : Fin 128, hot1 v q P (ix2 a j) = BitVec.ofBool (decide (j = up (Cert.Moe.first p))) := fun j => by
    unfold hot1
    refine hot_apply v hv _ a _ (leastRow_apply v hv _ (fun j => pad p z j = p (Cert.Moe.first p) ∧ j.val < 8) a (fun j => ?_) _
      ⟨pad_up p z _, (Cert.Moe.first p).isLt⟩ (fun b hb => ?_)) j
    · refine marked_apply q hq _ (fun j => pad p z j = p (Cert.Moe.first p)) a (fun j => ?_) j
      rw [tops_apply, h1, hP']
    · by_cases h : b = up (Cert.Moe.first p)
      · exact h.ge
      · rcases pad_before p z hz b h with k | ⟨_, k⟩
        · rw [pad_up, hb.1] at k
          exact absurd k (lt_irrefl _)
        · exact k.le
  generalize hot1 v q P = H at hH ⊢
  have hR := restRow_apply q hq H P a p z hH hP'
  generalize restRow q H P = R at hR ⊢
  have h2 : (topRow R (ix2 a 0) : EReal) = rest p (Cert.Moe.first (rest p)) := by
    rw [topRow_apply]
    simp only [hR]
    exact pad_max _ _ (rest_top p)
  have hK : ∀ j : Fin 128, hot2 v R (ix2 a j) = BitVec.ofBool (decide (j = up (Cert.Moe.first (rest p)))) := fun j => by
    unfold hot2
    refine hot_apply v hv _ a _ (leastRow_apply v hv _ (fun j => pad (rest p) (Ideal.ofBits FTy.f32 0xBF800000#32) j = rest p (Cert.Moe.first (rest p))) a
      (fun j => ?_) _ (pad_up _ _ _) (fun b hb => ?_)) j
    · rw [tops_apply, h2, hR]
    · by_cases h : b = up (Cert.Moe.first (rest p))
      · exact h.ge
      · rcases pad_before (rest p) _ (rest_top p) b h with k | ⟨_, k⟩
        · rw [pad_up, hb] at k
          exact absurd k (lt_irrefl _)
        · exact k.le
  rw [weightRow_apply H _ _ _ a (up e) _ _ (hH _) (hK _), h1, h2]
  unfold gate
  simp only [up_inj]

/-- The probabilities of the padded scores. -/
theorem padded_probs (l : Fin 8 → EReal) (j : Fin 128) :
    Ideal.div (Ideal.exp (pad l ⊥ j - Finset.fold max (Ideal.ofBits FTy.f32 0xFF800000#32) (pad l ⊥) Finset.univ))
      (∑ x : Fin 128, Ideal.exp (pad l ⊥ x - Finset.fold max (Ideal.ofBits FTy.f32 0xFF800000#32) (pad l ⊥) Finset.univ))
    = pad (probs l) (Ideal.div 0 (∑ x : Fin 8, Ideal.exp (l x - Finset.fold max (Ideal.ofBits FTy.f32 0xFF800000#32) l Finset.univ))) j := by
  rw [pad_bot_max]
  have hs : (∑ x : Fin 128, Ideal.exp (pad l ⊥ x - Finset.fold max (Ideal.ofBits FTy.f32 0xFF800000#32) l Finset.univ))
      = ∑ x : Fin 8, Ideal.exp (l x - Finset.fold max (Ideal.ofBits FTy.f32 0xFF800000#32) l Finset.univ) := by
    refine (Finset.sum_subset (Finset.subset_univ (Finset.univ.image up)) ?_).symm.trans ?_
    · intro x _ hx
      have : ¬ x.val < 8 := fun h => hx (Finset.mem_image.mpr ⟨⟨x.val, h⟩, Finset.mem_univ _, rfl⟩)
      unfold pad
      rw [dif_neg this, EReal.bot_sub]
      simp
    · refine (Finset.sum_image (fun a _ b _ h => (up_inj a b).mp h)).trans (Finset.sum_congr rfl fun x _ => ?_)
      rw [pad_up]
  rw [hs]
  by_cases h : j.val < 8
  · have e1 : ∀ (p : Fin 8 → EReal) (z : EReal), pad p z j = p ⟨j.val, h⟩ := fun p z => dif_pos h
    rw [e1, e1]
    rfl
  · have e1 : ∀ (p : Fin 8 → EReal) (z : EReal), pad p z j = z := fun p z => dif_neg h
    rw [e1, e1, EReal.bot_sub]
    simp

/-- What stands after the eight probabilities is not above the greatest. -/
theorem padded_below (l : Fin 8 → EReal) (e : Fin 8) :
    Ideal.div 0 (∑ x : Fin 8, Ideal.exp (l x - Finset.fold max (Ideal.ofBits FTy.f32 0xFF800000#32) l Finset.univ)) ≤ probs l e := by
  by_cases hS : (∑ x, Ideal.exp (l x - Finset.fold max (Ideal.ofBits FTy.f32 0xFF800000#32) l Finset.univ)) = 0
  · rw [hS]
    have : Ideal.div 0 0 = ⊥ := by simp [Ideal.div]
    rw [this]
    exact bot_le
  · unfold probs
    generalize Finset.fold max (Ideal.ofBits FTy.f32 0xFF800000#32) l Finset.univ = M at hS ⊢
    unfold Ideal.div
    rw [if_neg hS, if_neg hS, zero_mul]
    exact mul_nonneg (exp_nonneg _) (EReal.inv_nonneg_of_nonneg (Finset.sum_nonneg fun x _ => exp_nonneg _))

/-- The weight of an expert for a token whose padded scores are known. -/
theorem scores_apply (v : FVec Ideal S1x128 .f32) (hv : ∀ j : Fin 128, (v (ix2 0 j) : EReal) = ((j.val : ℝ) : EReal)) (q : IVec S1x128 1)
    (hq : ∀ j : Fin 128, q (ix2 0 j) = BitVec.ofBool (decide (j.val < 8))) (E : FVec Ideal S32x128 .f32) (a : Fin 32) (l : Fin 8 → EReal)
    (hE : ∀ j : Fin 128, (E (ix2 a j) : EReal) = Ideal.exp (pad l ⊥ j - Finset.fold max (Ideal.ofBits FTy.f32 0xFF800000#32) (pad l ⊥) Finset.univ))
    (e : Fin 8) : (k0_pay8 (F := Ideal) v q E (ix2 a (up e)) : EReal) = gate (probs l) e := by
  refine choice_apply v hv q hq E a (probs l) _ (fun j => ?_) (padded_below l _) e
  simp only [hE]
  exact padded_probs l j

/-- The places as numbers. -/
theorem lane_apply (j : Fin 128) : (k0_pay9 (F := Ideal) (ix2 0 j) : EReal) = ((j.val : ℝ) : EReal) := by
  pointwise [k0_pay9]
  exact Cert.KernelIdeal.Moe.sitofp_small j.val (by omega)

/-- The places that are experts. -/
theorem valid_apply (v : FVec Ideal S1x128 .f32) (hv : ∀ j : Fin 128, (v (ix2 0 j) : EReal) = ((j.val : ℝ) : EReal)) (j : Fin 128) :
    k0_pay6 (F := Ideal) v (ix2 0 j) = BitVec.ofBool (decide (j.val < 8)) := by
  pointwise [k0_pay6]
  rw [hv, Cert.KernelIdeal.Moe.eight]
  refine congrArg BitVec.ofBool (decide_eq_decide.mpr ?_)
  rw [EReal.coe_lt_coe_iff]
  exact_mod_cast Iff.rfl

/-- The normalised tokens, read. -/
theorem norm_apply (x : FVec Ideal S32x1024 .f32) (g : FVec Ideal S1x1024 .f32) (a : Fin 32) (d : Fin 1024) :
    (k0_pay3 (F := Ideal) x g (ix2 a d) : EReal) = normed (fun k => x (ix2 a k)) (fun k => g (ix2 0 k)) d := by
  pointwise [k0_pay3]
  rfl

/-- The named constant is `-∞`. -/
theorem masked : (Named.named (F := Ideal) κ "mask" (φ := FTy.f32) 0xF149F2CA#32 : EReal) = ⊥ := by
  rfl

/-- The exponentials of the padded scores, read. -/
theorem exps_apply (v : FVec Ideal S1x128 .f32) (hv : ∀ j : Fin 128, (v (ix2 0 j) : EReal) = ((j.val : ℝ) : EReal))
    (x : FVec Ideal S32x1024 .f32) (g : FVec Ideal S1x1024 .f32) (r : FVec Ideal S1024x128 .f32) (a : Fin 32) (j : Fin 128) :
    (k0_pay7 (F := Ideal) v x g r (ix2 a j) : EReal)
      = Ideal.exp (pad (fun e => ∑ k, normed (fun k => x (ix2 a k)) (fun k => g (ix2 0 k)) k * r (ix2 k (up e))) ⊥ j
        - Finset.fold max (Ideal.ofBits FTy.f32 0xFF800000#32)
          (pad (fun e => ∑ k, normed (fun k => x (ix2 a k)) (fun k => g (ix2 0 k)) k * r (ix2 k (up e))) ⊥) Finset.univ) := by
  have h6 := valid_apply v hv
  have h3 := norm_apply x g a
  have hs : ∀ j : Fin 128, (if j.val < 8 then ∑ k, normed (fun k => x (ix2 a k)) (fun k => g (ix2 0 k)) k * r (ix2 k j) else (⊥ : EReal))
      = pad (fun e => ∑ k, normed (fun k => x (ix2 a k)) (fun k => g (ix2 0 k)) k * r (ix2 k (up e))) ⊥ j := fun j => by
    unfold pad
    by_cases h : j.val < 8
    · rw [if_pos h, dif_pos h]; rfl
    · rw [if_neg h, dif_neg h]
  generalize hn : k0_pay3 (F := Ideal) x g = N at h3
  generalize hm : k0_pay6 (F := Ideal) v = q at h6
  unfold k0_pay7
  rw [hn, hm]
  pointwise []
  simp only [h6, h3, Scalar.select_ofBool, decide_eq_true_eq]
  simp only [masked, hs]

end Cert.Kernel6Ideal.Sample
-- ==== Proof.Sample.Value.lean ====
module

public import proofs.«01_k».proof.Proof.Sample.Lanes
public import proofs.«01_k».proof.Proof.Moe.Gather
public import Idealize.ShloMosaic.Lib.Routing.OpsPair

/-! The mixture of experts on the sampled tokens: every token plus the weighted layers of all eight experts, each expert's
hidden width taken in two halves. -/

@[expose] public section

set_option maxRecDepth 16384

noncomputable section

namespace Cert.Kernel6Ideal.Sample

open Idealize.ShloMosaic Idealize.ShloMosaic.TcCoe Idealize.SL.Sem
open Idealize.ShloMosaic.Pipeline (Dat)
open Cert.Kernel6Ideal Cert.Kernel6Ideal.Gen Cert.Moe
open Cert.KernelIdeal.Moe (layer sitofp_small)

/-- What one hidden unit adds to a channel. -/
def unit (h wg wu : Fin 1024 → EReal) (g wd : EReal) : EReal :=
  ((∑ k, h k * wg k) * Ideal.logistic (∑ k, h k * wg k) * (∑ k, h k * wu k) * g) * wd

/-- A sum that picks one place of the row. -/
theorem pick_sum (e : Fin 8) (f : Fin 128 → EReal) : (∑ j : Fin 128, if j = up e then f j else 0) = f (up e) := by
  rw [Finset.sum_ite_eq' Finset.univ (up e) f, if_pos (Finset.mem_univ _)]

/-- The weighted hidden units of the point's expert, read. -/
theorem hidden_apply (i : grid0.Coords) (e : Fin 8) (hi : (i 1).val = e.val) (h : FVec Ideal S32x1024 .bf16) (gt : FVec Ideal S32x128 .f32)
    (wg wu : FVec Ideal S1x1024x896 .bf16) (a : Fin 32) (f : Fin 896) :
    (k0_pay11 (F := Ideal) i h gt wg wu (ix2 a f) : EReal)
      = (∑ k, h (ix2 a k) * wg (ix3 0 k f)) * Ideal.logistic (∑ k, h (ix2 a k) * wg (ix3 0 k f)) * (∑ k, h (ix2 a k) * wu (ix3 0 k f))
        * gt (ix2 a (up e)) := by
  have hl := lane_apply
  have hs : (((BitVec.ofNat 32 e.val).toInt : ℝ) : EReal) = ((e.val : ℝ) : EReal) := sitofp_small e.val (by omega)
  have hb : ∀ j : Fin 128, ((j.val : ℝ) : EReal) = ((e.val : ℝ) : EReal) ↔ j = up e := fun j => by
    rw [EReal.coe_eq_coe_iff, Nat.cast_inj, Fin.ext_iff]
    rfl
  unfold k0_pay11
  generalize k0_pay9 (F := Ideal) = v at hl ⊢
  pointwise []
  rw [hi]
  simp only [hl, hs, hb, Scalar.select_ofBool, decide_eq_true_eq, pick_sum]

/-- One half of an expert's hidden width added to the sum so far, read. -/
theorem half_apply (acc : FVec Ideal S32x1024 .f32) (p : FVec Ideal S32x896 .bf16) (wd : FVec Ideal S1x896x1024 .bf16) (a : Fin 32) (d : Fin 1024) :
    (k0_pay1 (F := Ideal) acc p (k0_pay12 wd) (constant S32x1024 .f32 0x00000000#32) (ix2 a d) : EReal)
      = acc (ix2 a d) + ∑ f : Fin 896, p (ix2 a f) * wd (ix3 0 f d) := by
  pointwise [k0_pay1, k0_pay12]

/-- The sum starts at zero. -/
theorem zero_apply (a : Fin 32) (d : Fin 1024) : (k0_pay5 (F := Ideal) (ix2 a d) : EReal) = 0 := by
  pointwise [k0_pay5]

/-- The token is added last. -/
theorem add_apply (x acc : FVec Ideal S32x1024 .f32) (a : Fin 32) (d : Fin 1024) :
    (k0_pay2 (F := Ideal) x acc (ix2 a d) : EReal) = x (ix2 a d) + acc (ix2 a d) := by
  pointwise [k0_pay2]

/-- The kept normalised tokens, read. -/
theorem kept_apply (x : FVec Ideal S32x1024 .f32) (g : FVec Ideal S1x1024 .f32) (a : Fin 32) (d : Fin 1024) :
    (k0_pay4 (F := Ideal) x g (ix2 a d) : EReal) = normed (fun k => x (ix2 a k)) (fun k => g (ix2 0 k)) d := by
  refine Eq.trans ?_ (norm_apply x g a d)
  pointwise [k0_pay4]

/-- The kept weights, read. -/
theorem weights_apply (x : FVec Ideal S32x1024 .f32) (g : FVec Ideal S1x1024 .f32) (r : FVec Ideal S1024x128 .f32) (a : Fin 32) (e : Fin 8) :
    (k0_pay10 (F := Ideal) (k0_pay8 (k0_pay9 (F := Ideal)) (k0_pay6 (k0_pay9 (F := Ideal))) (k0_pay7 (k0_pay9 (F := Ideal)) x g r)) (ix2 a (up e)) : EReal)
      = gate (probs fun e => ∑ k, normed (fun k => x (ix2 a k)) (fun k => g (ix2 0 k)) k * r (ix2 k (up e))) e := by
  have h := scores_apply (k0_pay9 (F := Ideal)) lane_apply (k0_pay6 (k0_pay9 (F := Ideal))) (valid_apply _ lane_apply)
    (k0_pay7 (k0_pay9 (F := Ideal)) x g r) a _ (exps_apply _ lane_apply x g r a) e
  refine Eq.trans ?_ h
  generalize k0_pay8 (k0_pay9 (F := Ideal)) (k0_pay6 (k0_pay9 (F := Ideal))) (k0_pay7 (k0_pay9 (F := Ideal)) x g r) = Z
  pointwise [k0_pay10]

section Arrays

variable (X : FVec Ideal S32x1024 .f32) (G : FVec Ideal S1024 .f32) (R : FVec Ideal S1024x8 .f32)
  (Wg Wu : FVec Ideal S8x1024x1792 .f32) (Wd : FVec Ideal S8x1792x1024 .f32)

/-- The normalised row of token `n`. -/
def row (n : Fin 32) : Fin 1024 → EReal := normed (fun a => X (ix2 n a)) (fun a => G (ix1 a))

/-- The probabilities of the experts for token `n`. -/
def chances (n : Fin 32) : Fin 8 → EReal := tokenProbs (fun a => X (ix2 n a)) (fun a => G (ix1 a)) fun e a => R (ix2 a e)

/-- What expert `e` adds to token `n` at channel `d`. -/
def share (n : Fin 32) (d : Fin 1024) (e : Fin 8) : EReal :=
  layer (row X G n) (gate (chances X G R n) e) (fun a f => Wg (ix3 e a f)) (fun a f => Wu (ix3 e a f)) (fun f a => Wd (ix3 e f a)) d

/-- The array of outputs. -/
def outputs : FVec Ideal S32x1024 .f32 := fun i =>
  (X (ix2 (i 0) (i 1)) : EReal) + ∑ e, share X G R Wg Wu Wd (i 0) (i 1) e

/-- What hidden unit `f` of expert `e` adds to token `n` at channel `d`. -/
def term (n : Fin 32) (d : Fin 1024) (e : Fin 8) (f : Fin 1792) : EReal :=
  unit (row X G n) (fun k => Wg (ix3 e k f)) (fun k => Wu (ix3 e k f)) (gate (chances X G R n) e) (Wd (ix3 e f d))

/-- What the point `s` adds. -/
def part (n : Fin 32) (d : Fin 1024) (s : ℕ) : EReal :=
  ∑ f : Fin 896, term X G R Wg Wu Wd n d ⟨s / 2 % 8, by omega⟩ ⟨s % 2 * 896 + f.val, by omega⟩

/-- The hidden units are those of the first half and those of the second. -/
theorem halves (F : Fin 1792 → EReal) :
    ∑ f, F f = ∑ f : Fin 896, F ⟨0 * 896 + f.val, by omega⟩ + ∑ f : Fin 896, F ⟨1 * 896 + f.val, by omega⟩ := by
  refine (Fin.sum_univ_add (a := 896) (b := 896) F).trans (congrArg₂ (· + ·) ?_ ?_)
  · exact Finset.sum_congr rfl fun f _ => congrArg F (Fin.ext (by show f.val = 0 * 896 + f.val; omega))
  · exact Finset.sum_congr rfl fun f _ => congrArg F (Fin.ext (by show 896 + f.val = 1 * 896 + f.val; omega))

/-- An expert's share is what its two points add. -/
theorem share_parts (n : Fin 32) (d : Fin 1024) (e : Fin 8) :
    share X G R Wg Wu Wd n d e = part X G R Wg Wu Wd n d (2 * e.val) + part X G R Wg Wu Wd n d (2 * e.val + 1) := by
  have h0 : (⟨2 * e.val / 2 % 8, by omega⟩ : Fin 8) = e := Fin.ext (by show 2 * e.val / 2 % 8 = e.val; omega)
  have h1 : (⟨(2 * e.val + 1) / 2 % 8, by omega⟩ : Fin 8) = e := Fin.ext (by show (2 * e.val + 1) / 2 % 8 = e.val; omega)
  refine (halves (term X G R Wg Wu Wd n d e)).trans (congrArg₂ (· + ·) ?_ ?_)
  · unfold part
    rw [h0]
    exact Finset.sum_congr rfl fun f _ => congrArg _ (Fin.ext (by show 0 * 896 + f.val = 2 * e.val % 2 * 896 + f.val; omega))
  · unfold part
    rw [h1]
    exact Finset.sum_congr rfl fun f _ => congrArg _ (Fin.ext (by show 1 * 896 + f.val = (2 * e.val + 1) % 2 * 896 + f.val; omega))

/-- All points together add the shares of all experts. -/
theorem parts_sum (n : Fin 32) (d : Fin 1024) :
    ∑ s ∈ Finset.range 16, part X G R Wg Wu Wd n d s = ∑ e, share X G R Wg Wu Wd n d e := by
  simp only [share_parts]
  rw [Fin.sum_univ_eight]
  simp only [Finset.sum_range_succ, Finset.sum_range_zero, zero_add]
  simp only [add_assoc]
  rfl

end Arrays

/-- Where an update of the padded router lands. -/
theorem landing (j : S1024x8.Idx) : scatter_S1024x128_S1_S1024x8_01_n_1_0.resultIdx? (w := 32) j (fun _ => 0#32)
    = some (ix2 ⟨(j 0).val, (j 0).isLt⟩ ⟨(j 1).val, by have : (j 1).val < 8 := (j 1).isLt; omega⟩) := by
  have h0 : (j 0).val < 1024 := (j 0).isLt
  have h1 : (j 1).val < 8 := (j 1).isLt
  have s0 : ∀ a, scatter_S1024x128_S1_S1024x8_01_n_1_0.start (w := 32) j (fun _ => 0#32) a = 0 := fun a => by
    unfold ScatterDims.start
    split <;> rfl
  have w0 : scatter_S1024x128_S1_S1024x8_01_n_1_0.window j 0 = (j 0).val := rfl
  have w1 : scatter_S1024x128_S1_S1024x8_01_n_1_0.window j 1 = (j 1).val := rfl
  unfold ScatterDims.resultIdx?
  have hall : ∀ a, 0 ≤ scatter_S1024x128_S1_S1024x8_01_n_1_0.start (w := 32) j (fun _ => 0#32) a + scatter_S1024x128_S1_S1024x8_01_n_1_0.window j a
      ∧ scatter_S1024x128_S1_S1024x8_01_n_1_0.start (w := 32) j (fun _ => 0#32) a + scatter_S1024x128_S1_S1024x8_01_n_1_0.window j a < S1024x128.size a := by
    intro a
    rw [s0]
    match a with
    | ⟨0, _⟩ => exact ⟨by omega, by show (0 : Int) + ((j 0).val : Int) < 1024; omega⟩
    | ⟨1, _⟩ => exact ⟨by omega, by show (0 : Int) + ((j 1).val : Int) < 128; omega⟩
  rw [dif_pos hall]
  refine congrArg some (funext fun a => ?_)
  match a with
  | ⟨0, _⟩ => exact Fin.ext (by
      show (scatter_S1024x128_S1_S1024x8_01_n_1_0.start (w := 32) j (fun _ => 0#32) 0 + ((scatter_S1024x128_S1_S1024x8_01_n_1_0.window j 0 : Nat) : Int)).toNat = (j 0).val
      rw [s0, w0]; omega)
  | ⟨1, _⟩ => exact Fin.ext (by
      show (scatter_S1024x128_S1_S1024x8_01_n_1_0.start (w := 32) j (fun _ => 0#32) 1 + ((scatter_S1024x128_S1_S1024x8_01_n_1_0.window j 1 : Nat) : Int)).toNat = (j 1).val
      rw [s0, w1]; omega)

/-- Updates written one after another, of which one lands and all that land are equal. -/
theorem landed {ι α : Type} (L : List ι) (P : ι → Prop) [DecidablePred P] (v : ι → α) (w x : α) (h : ∀ n, P n → v n = w)
    (hx : x = w ∨ ∃ n ∈ L, P n) : L.foldl (fun a n => if P n then v n else a) x = w := by
  induction L generalizing x with
  | nil => rcases hx with e | ⟨n, hn, _⟩; exacts [e, absurd hn List.not_mem_nil]
  | cons n l ih =>
    rw [List.foldl_cons]
    refine ih _ ?_
    by_cases hn : P n
    · exact Or.inl (by rw [if_pos hn, h n hn])
    · rw [if_neg hn]
      rcases hx with e | ⟨k, hk, hp⟩
      · exact Or.inl e
      · rcases List.mem_cons.mp hk with e | e
        · exact absurd (e ▸ hp) hn
        · exact Or.inr ⟨k, e, hp⟩

/-- The padded router holds the router in the experts' columns. -/
theorem padded (x : FVec Ideal S1024x128 .f32) (u : FVec Ideal S1024x8 .f32) (k : Fin 1024) (e : Fin 8) :
    (Host.scatter scatter_S1024x128_S1_S1024x8_01_n_1_0 (fun _ b => b) x (fun _ => 0#32) u (ix2 k (up e)) : EReal) = u (ix2 k e) := by
  rw [Routing.scatter_at]
  refine landed (List.finRange S1024x8.numel) (fun n => scatter_S1024x128_S1_S1024x8_01_n_1_0.resultIdx? (w := 32) (S1024x8.rowMajor.symm n)
    (fun _ => 0#32) = some (ix2 k (up e))) (fun n => u (S1024x8.rowMajor.symm n)) (u (ix2 k e)) (x (ix2 k (up e))) (fun n hn => ?_)
    (Or.inr ⟨S1024x8.rowMajor (ix2 k e), List.mem_finRange _, ?_⟩)
  · refine congrArg u ?_
    generalize S1024x8.rowMajor.symm n = j at hn
    have hj := Option.some.inj ((landing j).symm.trans hn)
    have e0 : (j 0).val = k.val := congrArg (fun i : S1024x128.Idx => (i 0).val) hj
    have e1 : (j 1).val = e.val := congrArg (fun i : S1024x128.Idx => (i 1).val) hj
    funext a
    match a with
    | ⟨0, _⟩ => exact Fin.ext e0
    | ⟨1, _⟩ => exact Fin.ext e1
  · rw [Equiv.symm_apply_apply]
    exact (landing _).trans rfl

variable (m : (ℓ : Loc nD τ sig) → Buf (Elt Ideal) ℓ)

/-- The block index of every window at every point. -/
theorem idx_val : ∀ t : Fin cfg0.N, win0_0.index t = ![0, 0] ∧ win0_1.index t = ![0, 0] ∧ win0_2.index t = ![0, 0]
    ∧ win0_3.index t = ![t.val / 2, 0, t.val % 2] ∧ win0_4.index t = ![t.val / 2, 0, t.val % 2]
    ∧ win0_5.index t = ![t.val / 2, t.val % 2, 0] ∧ win0_6.index t = ![0, 0] :=
  (by decide +kernel : ∀ t : Fin grid0.N, _)

/-- The number of grid points. -/
theorem points (t : Fin cfg0.N) : t.val < 16 := lt_of_lt_of_eq t.isLt N_0

/-- The point's expert. -/
def expertAt (t : Fin cfg0.N) : Fin 8 := ⟨t.val / 2 % 8, by omega⟩

/-- The second coordinate of a point is its expert. -/
theorem coord_expert : ∀ t : Fin cfg0.N, (grid0.coords t 1).val = (expertAt t).val :=
  (by decide +kernel : ∀ t : Fin grid0.N, (grid0.coords t 1).val = t.val / 2 % 8)

/-- The tokens as launched. -/
abbrev aX (c : Dev nD) : FVec Ideal S32x1024 .f32 := m ((c : Thread nD τ).loc main_arg0)
/-- The gain as launched. -/
abbrev aG (c : Dev nD) : FVec Ideal S1024 .f32 := m ((c : Thread nD τ).loc main_arg1)
/-- The router as launched. -/
abbrev aR (c : Dev nD) : FVec Ideal S1024x8 .f32 := m ((c : Thread nD τ).loc main_arg2)
/-- The gate weights as launched. -/
abbrev aWg (c : Dev nD) : FVec Ideal S8x1024x1792 .f32 := m ((c : Thread nD τ).loc main_arg3)
/-- The up weights as launched. -/
abbrev aWu (c : Dev nD) : FVec Ideal S8x1024x1792 .f32 := m ((c : Thread nD τ).loc main_arg4)
/-- The down weights as launched. -/
abbrev aWd (c : Dev nD) : FVec Ideal S8x1792x1024 .f32 := m ((c : Thread nD τ).loc main_arg5)

/-- The tokens' block at a point. -/
theorem x_blk (c : Dev nD) (t : Fin cfg0.N) (a : Fin 32) (d : Fin 1024) :
    ((iblk m c 0 t : FVec Ideal S32x1024 .f32) (ix2 a d) : EReal) = aX m c (ix2 a d) := by
  blk_ext [iblk, V, idx_val t]

/-- The gain's block at a point. -/
theorem g_blk (c : Dev nD) (t : Fin cfg0.N) (d : Fin 1024) :
    ((iblk m c 1 t : FVec Ideal S1x1024 .f32) (ix2 0 d) : EReal) = aG m c (ix1 d) := by
  blk_point [iblk, V, idx_val t]

/-- The padded router's array. -/
theorem router_eq (c : Dev nD) : (V m c main_v5 : FVec Ideal S1024x128 .f32)
    = Host.scatter scatter_S1024x128_S1_S1024x8_01_n_1_0 (fun _ b => b) (fun _ => Ideal.ofBits FTy.f32 0x00000000#32) (fun _ => 0#32) (aR m c) := by
  unfold V hostOps0
  after_results_simp
  rfl

/-- The router's block at a point, in the experts' columns. -/
theorem r_blk (c : Dev nD) (t : Fin cfg0.N) (k : Fin 1024) (e : Fin 8) :
    ((iblk m c 2 t : FVec Ideal S1024x128 .f32) (ix2 k (up e)) : EReal) = aR m c (ix2 k e) := by
  have e1 : ((iblk m c 2 t : FVec Ideal S1024x128 .f32) (ix2 k (up e)) : EReal) = (V m c main_v5 : FVec Ideal S1024x128 .f32) (ix2 k (up e)) := by
    blk_ext [iblk, idx_val t]
  rw [e1, router_eq]
  exact padded _ _ k e

/-- The gate weights' block at a point. -/
theorem wg_blk (c : Dev nD) (t : Fin cfg0.N) (k : Fin 1024) (f : Fin 896) :
    ((iblk m c 3 t : FVec Ideal S1x1024x896 .bf16) (ix3 0 k f) : EReal)
      = aWg m c (ix3 (expertAt t) k ⟨t.val % 2 * 896 + f.val, by omega⟩) := by
  have e : expertAt t = ⟨t.val / 2, by have := points t; omega⟩ := Fin.ext (by have := points t; show t.val / 2 % 8 = t.val / 2; omega)
  rw [e]
  blk_point [iblk, V, idx_val t]

/-- The up weights' block at a point. -/
theorem wu_blk (c : Dev nD) (t : Fin cfg0.N) (k : Fin 1024) (f : Fin 896) :
    ((iblk m c 4 t : FVec Ideal S1x1024x896 .bf16) (ix3 0 k f) : EReal)
      = aWu m c (ix3 (expertAt t) k ⟨t.val % 2 * 896 + f.val, by omega⟩) := by
  have e : expertAt t = ⟨t.val / 2, by have := points t; omega⟩ := Fin.ext (by have := points t; show t.val / 2 % 8 = t.val / 2; omega)
  rw [e]
  blk_point [iblk, V, idx_val t]

/-- The down weights' block at a point. -/
theorem wd_blk (c : Dev nD) (t : Fin cfg0.N) (f : Fin 896) (d : Fin 1024) :
    ((iblk m c 5 t : FVec Ideal S1x896x1024 .bf16) (ix3 0 f d) : EReal)
      = aWd m c (ix3 (expertAt t) ⟨t.val % 2 * 896 + f.val, by omega⟩ d) := by
  have e : expertAt t = ⟨t.val / 2, by have := points t; omega⟩ := Fin.ext (by have := points t; show t.val / 2 % 8 = t.val / 2; omega)
  rw [e]
  blk_point [iblk, V, idx_val t]

/-- What the kept buffers hold after point `n`. -/
structure Holds (c : Dev nD) (n : ℕ) (h : FVec Ideal S32x1024 .bf16) (s : FVec Ideal S32x1024 .f32) (g : FVec Ideal S32x128 .f32) : Prop where
  rows : ∀ (a : Fin 32) (d : Fin 1024), (h (ix2 a d) : EReal) = row (aX m c) (aG m c) a d
  gates : ∀ (a : Fin 32) (e : Fin 8), (g (ix2 a (up e)) : EReal) = gate (chances (aX m c) (aG m c) (aR m c) a) e
  sums : ∀ (a : Fin 32) (d : Fin 1024), (s (ix2 a d) : EReal)
    = ∑ q ∈ Finset.range n, part (aX m c) (aG m c) (aR m c) (aWg m c) (aWu m c) (aWd m c) a d q

/-- What the first point puts in the buffers before its expert. -/
theorem starts (c : Dev nD) (t : Fin cfg0.N) :
    Holds m c 0 (k0_pay4 (F := Ideal) (iblk m c 0 t) (iblk m c 1 t)) (k0_pay5 (F := Ideal))
      (k0_pay10 (F := Ideal) (k0_pay8 (k0_pay9 (F := Ideal)) (k0_pay6 (k0_pay9 (F := Ideal)))
        (k0_pay7 (k0_pay9 (F := Ideal)) (iblk m c 0 t) (iblk m c 1 t) (iblk m c 2 t)))) := by
  have hx : ∀ a : Fin 32, (fun d : Fin 1024 => ((iblk m c 0 t : FVec Ideal S32x1024 .f32) (ix2 a d) : EReal))
      = fun d => aX m c (ix2 a d) := fun a => funext fun d => x_blk m c t a d
  have hg : (fun d : Fin 1024 => ((iblk m c 1 t : FVec Ideal S1x1024 .f32) (ix2 0 d) : EReal))
      = fun d => aG m c (ix1 d) := funext fun d => g_blk m c t d
  refine ⟨fun a d => ?_, fun a e => ?_, fun a d => ?_⟩
  · refine (kept_apply (iblk m c 0 t) (iblk m c 1 t) a d).trans ?_
    rw [hx, hg]
    rfl
  · refine (weights_apply (iblk m c 0 t) (iblk m c 1 t) (iblk m c 2 t) a e).trans ?_
    rw [hx, hg]
    have hr : ∀ (k : Fin 1024) (e : Fin 8), ((iblk m c 2 t : FVec Ideal S1024x128 .f32) (ix2 k (up e)) : EReal) = aR m c (ix2 k e) := r_blk m c t
    simp only [hr]
    refine congrArg (fun l => gate (probs l) e) (funext fun e => ?_)
    exact Finset.sum_congr rfl fun k _ => mul_comm _ _
  · rw [zero_apply, Finset.sum_range_zero]

/-- A point adds its part to the sum. -/
theorem step (c : Dev nD) (t : Fin cfg0.N) (h : FVec Ideal S32x1024 .bf16) (s : FVec Ideal S32x1024 .f32) (g : FVec Ideal S32x128 .f32)
    (H : Holds m c t.val h s g) :
    Holds m c (t.val + 1) h (k0_pay1 (F := Ideal) s (k0_pay11 (grid0.coords t) h g (iblk m c 3 t) (iblk m c 4 t)) (k0_pay12 (iblk m c 5 t))
      (constant S32x1024 .f32 0x00000000#32)) g := by
  refine ⟨H.rows, H.gates, fun a d => ?_⟩
  refine (half_apply s (k0_pay11 (grid0.coords t) h g (iblk m c 3 t) (iblk m c 4 t)) (iblk m c 5 t) a d).trans ?_
  rw [Finset.sum_range_succ, H.sums]
  refine congrArg (_ + ·) (Finset.sum_congr rfl fun f _ => ?_)
  refine (congrArg (· * _) (hidden_apply (grid0.coords t) (expertAt t) (coord_expert t) h g (iblk m c 3 t) (iblk m c 4 t) a f)).trans ?_
  rw [wd_blk, H.gates]
  simp only [H.rows]
  have h3 : ∀ k : Fin 1024, ((iblk m c 3 t : FVec Ideal S1x1024x896 .bf16) (ix3 0 k f) : EReal)
      = aWg m c (ix3 (expertAt t) k ⟨t.val % 2 * 896 + f.val, by omega⟩) := fun k => wg_blk m c t k f
  have h4 : ∀ k : Fin 1024, ((iblk m c 4 t : FVec Ideal S1x1024x896 .bf16) (ix3 0 k f) : EReal)
      = aWu m c (ix3 (expertAt t) k ⟨t.val % 2 * 896 + f.val, by omega⟩) := fun k => wu_blk m c t k f
  simp only [h3, h4]
  rfl

/-- The buffers after every point. -/
theorem holds (c : Dev nD) : ∀ (n : ℕ) (hn : n < cfg0.N),
    Holds m c (n + 1) (outsAt0 m c n hn).2.1 (outsAt0 m c n hn).2.2.1 (outsAt0 m c n hn).2.2.2
  | 0, hn => by
    have h := step m c ⟨0, hn⟩ _ _ _ (starts m c ⟨0, hn⟩)
    rw [outsAt0_A m c ⟨0, hn⟩ rfl (by show ¬ 0 % 16 = 15; decide)]
    frame_out
    exact h
  | n + 1, hn => by
    have hN := points ⟨n + 1, hn⟩
    have ih := holds c n (by omega)
    have h := step m c ⟨n + 1, hn⟩ _ _ _ ih
    have h0 : ¬ (⟨n + 1, hn⟩ : Fin cfg0.N).val % 16 = 0 := by simp only at hN ⊢; omega
    by_cases h1 : (⟨n + 1, hn⟩ : Fin cfg0.N).val % 16 = 15
    · rw [outsAt0_C m c ⟨n + 1, hn⟩ h0 h1]
      frame_out
      simp only [read_unread_whole]
      exact h
    · rw [outsAt0_B m c ⟨n + 1, hn⟩ h0 h1]
      frame_out
      simp only [read_unread_whole]
      exact h

/-- The output is the tokens plus the sum. -/
theorem last_out (c : Dev nD) (t : Fin cfg0.N) (h1 : t.val % 16 = 15) :
    (outsAt0 m c t.val t.isLt).1 = k0_pay2 (iblk m c 0 t) (outsAt0 m c t.val t.isLt).2.2.1 := by
  rw [outsAt0_C m c t (by omega) h1]
  frame_out

/-- The output block after the last point. -/
theorem out_apply (c : Dev nD) (t : Fin cfg0.N) (h1 : t.val % 16 = 15) (a : Fin 32) (d : Fin 1024) :
    ((outsAt0 m c t.val t.isLt).1 (ix2 a d) : EReal)
      = outputs (aX m c) (aG m c) (aR m c) (aWg m c) (aWu m c) (aWd m c) (ix2 a d) := by
  have hp := points t
  have hs := (holds m c t.val t.isLt).sums a d
  rw [last_out m c t h1]
  refine (add_apply (iblk m c 0 t) _ a d).trans ?_
  rw [hs, show t.val + 1 = 16 by omega, parts_sum]
  exact congrArg (· + _) (x_blk m c t a d)

/-- The array of outputs after the run. -/
theorem final (c : Dev nD) : (dats m 0 c).arrAt 6 cfg0.N
    = outputs (aX m c) (aG m c) (aR m c) (aWg m c) (aWu m c) (aWd m c) := by
  refine (dats m 0 c).arrAt_eq_of_covers 6 _ (by decide +kernel) fun t hf y => ?_
  have h1 : t.val % 16 = 15 := (flush0_6 t).mp hf
  blk_simp
  rw [after0_6]
  have hy : y = ix2 (y 0) (y 1) := by blk_ext
  have e : ((cfg0.win 6).blk t).view.emb y = ix2 (y 0) (y 1) := by
    funext a
    match a with
    | ⟨0, _⟩ => exact Fin.ext (by blk_simp [idx_val t]; rfl)
    | ⟨1, _⟩ => exact Fin.ext (by blk_simp [idx_val t]; rfl)
  refine (congrArg (outsAt0 m c t.val t.isLt).1 hy).trans ((out_apply m c t h1 (y 0) (y 1)).trans ?_)
  rw [e]
  rfl

end Cert.Kernel6Ideal.Sample
-- ==== Proof.Sample.Reference.lean ====
module

public import proofs.«01_k».proof.Proof.Gen.Reference6Ideal.Run
public import proofs.«01_k».proof.Proof.Sample.Value

/-! The reference's result read at an index: every token plus, over all experts, its weighted layer. -/

@[expose] public section

set_option maxRecDepth 16384

noncomputable section

namespace Cert.Reference6Ideal.Sample

open Idealize.ShloMosaic Idealize.ShloMosaic.TcCoe Idealize.SL.Sem
open Cert.Reference6Ideal Cert.Reference6Ideal.Gen Cert.Moe Cert.Kernel6Ideal.Sample
open Cert.KernelIdeal.Moe (layer minus_inf)

/-- The normalised tokens. -/
def refNorm (X : FVec Ideal S32x1024 .f32) (G : FVec Ideal S1024 .f32) : FVec Ideal S32x1024 .f32 :=
  mulf (mulf X (broadcastInDim S32x1024 ![0, 1] bcast_S32x1_S32x1024_0_1 (Host.rsqrt (addf (Host.divf
    (broadcastInDim S32x1 ![0] bcast_S32_S32x1_0 (Host.reduceAdd (mulf X X) (constant S_ .f32
    0x00000000#32) reducesTo_S32x1024_S32_d1 h_S_)) (broadcastInDim S32x1 ![] bcast_S_S32x1 (constant S_
    .f32 0x44800000#32))) (broadcastInDim S32x1 ![] bcast_S_S32x1 (constant S_ .f32 0x358637BD#32))))))
    (broadcastInDim S32x1024 ![0, 1] bcast_S1x1024_S32x1024_0_1 (broadcastInDim S1x1024 ![1]
    bcast_S1024_S1x1024_1 G))

/-- The experts' scores. -/
def refScores (H : FVec Ideal S32x1024 .f32) (R : FVec Ideal S1024x8 .f32) : FVec Ideal S32x8 .f32 :=
  Host.dotGeneral dot_S32x1024_S1024x8_S32x8_1_0_0_1_n_n none H R

/-- The experts' probabilities. -/
def refProbs (L : FVec Ideal S32x8 .f32) : FVec Ideal S32x8 .f32 :=
  Host.divf (Host.exp (subf L (broadcastInDim S32x8 ![0, 1] bcast_S32x1_S32x8_0_1 (broadcastInDim S32x1
    ![0] bcast_S32_S32x1_0 (maximumf (broadcastInDim S32 ![] bcast_S_S32 (constant S_ .f32
    0xFF800000#32)) (Host.reduce FloatOps.maximumf L (constant S_ .f32 0xFF800000#32) reducesTo_S32x8_S32_d1
    h_S_)))))) (broadcastInDim S32x8 ![0, 1] bcast_S32x1_S32x8_0_1 (broadcastInDim S32x1 ![0]
    bcast_S32_S32x1_0 (Host.reduceAdd (Host.exp (subf L (broadcastInDim S32x8 ![0, 1]
    bcast_S32x1_S32x8_0_1 (broadcastInDim S32x1 ![0] bcast_S32_S32x1_0 (maximumf (broadcastInDim
    S32 ![] bcast_S_S32 (constant S_ .f32 0xFF800000#32)) (Host.reduce FloatOps.maximumf L (constant S_ .f32
    0xFF800000#32) reducesTo_S32x8_S32_d1 h_S_)))))) (constant S_ .f32 0x00000000#32)
    reducesTo_S32x8_S32_d1 h_S_)))

/-- The two greatest probabilities. -/
def refValues (Q : FVec Ideal S32x8 .f32) : FVec Ideal S32x2 .f32 :=
  (Host.topK S32x2 1 (FloatOps.cmpfTotal .gt) Q sliceFits_S32x8_S32x2).1

/-- Their experts. -/
def refIndices (Q : FVec Ideal S32x8 .f32) : Vec Ideal S32x2 .i32 :=
  (Host.topK S32x2 1 (FloatOps.cmpfTotal .gt) Q sliceFits_S32x8_S32x2).2

/-- The experts' weights. -/
def refGate (V : FVec Ideal S32x2 .f32) (I : Vec Ideal S32x2 .i32) : FVec Ideal S32x8 .f32 :=
  Host.reduceAdd (mulf (uitofp .f32 (cmpi .eq (broadcastInDim S32x2x8 ![0, 1, 2]
    bcast_S32x2x1_S32x2x8_0_1_2 (broadcastInDim S32x2x1 ![0, 1] bcast_S32x2_S32x2x1_0_1 I))
    (broadcastInDim S32x2x8 ![0, 1, 2] bcast_S1x1x8_S32x2x8_0_1_2 (iotaInDim S1x1x8 32 2)))) (broadcastInDim
    S32x2x8 ![0, 1, 2] bcast_S32x2x1_S32x2x8_0_1_2 (broadcastInDim S32x2x1 ![0, 1]
    bcast_S32x2_S32x2x1_0_1 (Host.divf V (broadcastInDim S32x2 ![0, 1] bcast_S32x1_S32x2_0_1
    (broadcastInDim S32x1 ![0] bcast_S32_S32x1_0 (Host.reduceAdd V (constant S_ .f32 0x00000000#32)
    reducesTo_S32x2_S32_d1 h_S_))))))) (constant S_ .f32 0x00000000#32) reducesTo_S32x2x8_S32x8_d1 h_S_

/-- The tokens plus the experts' weighted layers. -/
def refOut (X H : FVec Ideal S32x1024 .f32) (W : FVec Ideal S32x8 .f32) (Wg Wu : FVec Ideal S8x1024x1792 .f32)
    (Wd : FVec Ideal S8x1792x1024 .f32) : FVec Ideal S32x1024 .f32 :=
  addf X (Host.dotGeneral dot_S32x8x1792_S8x1792x1024_S32x1024_12_01_0_2_n_n none (mulf (mulf (mulf
    (Host.dotGeneral dot_S32x1024_S8x1024x1792_S32x8x1792_1_1_0_02_n_n none H Wg) (Host.divf (broadcastInDim
    S32x8x1792 ![] bcast_S_S32x8x1792 (constant S_ .f32 0x3F800000#32)) (addf (broadcastInDim S32x8x1792
    ![] bcast_S_S32x8x1792 (constant S_ .f32 0x3F800000#32)) (Host.exp (Host.negf (Host.dotGeneral
    dot_S32x1024_S8x1024x1792_S32x8x1792_1_1_0_02_n_n none H Wg)))))) (Host.dotGeneral
    dot_S32x1024_S8x1024x1792_S32x8x1792_1_1_0_02_n_n none H Wu)) (broadcastInDim S32x8x1792 ![0, 1, 2]
    bcast_S32x8x1_S32x8x1792_0_1_2 (broadcastInDim S32x8x1 ![0, 1] bcast_S32x8_S32x8x1_0_1 W))) Wd)

/-- The normalised token, read. -/
theorem refNorm_apply (X : FVec Ideal S32x1024 .f32) (G : FVec Ideal S1024 .f32) (n : Fin 32) (d : Fin 1024) :
    (refNorm X G (ix2 n d) : EReal) = normed (fun a => X (ix2 n a)) (fun a => G (ix1 a)) d := by
  unfold refNorm
  pointwise []
  rfl

/-- The probabilities of a token whose scores are known. -/
theorem refProbs_apply (L : FVec Ideal S32x8 .f32) (n : Fin 32) (e : Fin 8) :
    (refProbs L (ix2 n e) : EReal) = probs (fun e => L (ix2 n e)) e := by
  unfold refProbs
  pointwise []
  have hmax : ∀ z : EReal, max (Ideal.ofBits FTy.f32 0xFF800000#32) z = z := fun z => by
    rw [minus_inf]; exact max_eq_right bot_le
  simp only [hmax]
  rfl

/-- The value and the expert of the listing of the probabilities, read. -/
theorem topK_apply (Q : FVec Ideal S32x8 .f32) (n : Fin 32) (k : Fin 2) :
    (refValues Q (ix2 n k) : EReal) = Q (ix2 n (ranked (fun e => Q (ix2 n e)) ⟨k.val, by omega⟩))
    ∧ refIndices Q (ix2 n k) = BitVec.ofNat 32 (ranked (fun e => (Q (ix2 n e) : EReal)) ⟨k.val, by omega⟩).val := by
  unfold refValues refIndices Host.topK
  generalize hI : (fun i : S32x8.Idx => if hd : 1 < S32x8.rank then iotaInDim S32x8 32 ⟨1, hd⟩ i else 0#32) = I
  have hIa : ∀ e : Fin 8, I (ix2 n e) = BitVec.ofNat 32 e.val := fun e => by rw [← hI]; rfl
  have hal : ∀ q c : Fin 8, (ix2 n q : S32x8.Idx).along 1 c = ix2 n c := fun q c => by
    refine funext fun a => ?_
    match a with
    | ⟨0, _⟩ => rfl
    | ⟨1, _⟩ => rfl
  have hsl : ∀ {α : Type} (Z : S32x8.Idx → α), extractStridedSlice S32x2 (fun _ => 0) Z sliceFits_S32x8_S32x2 (ix2 n k)
      = Z (ix2 n ⟨k.val, by omega⟩) := fun Z => by
    refine congrArg Z (funext fun a => Fin.ext ?_)
    match a with
    | ⟨0, _⟩ => exact Nat.zero_add _
    | ⟨1, _⟩ => exact Nat.zero_add _
  have hord : ∀ q : Fin 8, sortedFrom (n := 8) (fun a b => FloatOps.cmpfTotal (F := Ideal) (φ := FTy.f32) .gt
        (Q ((ix2 n q : S32x8.Idx).along 1 a)) (Q ((ix2 n q : S32x8.Idx).along 1 b)) == 1#1) q
      = ranked (fun e => (Q (ix2 n e) : EReal)) q := fun q => by
    unfold ranked
    refine congrArg (fun f => sortedFrom f q) (funext fun a => funext fun b => ?_)
    rw [hal, hal]
    show (BitVec.ofBool (decide ((Q (ix2 n b) : EReal) < Q (ix2 n a))) == 1#1) = _
    by_cases h : (Q (ix2 n b) : EReal) < Q (ix2 n a) <;> simp [h]
  constructor
  · refine (hsl (Host.sort2 S32x8 1 (fun l r => FloatOps.cmpfTotal (F := Ideal) (φ := FTy.f32) .gt l.1 r.1) Q I).1).trans ?_
    refine (congrArg Q (hal ⟨k.val, by omega⟩ _)).trans ?_
    exact congrArg (fun c => Q (ix2 n c)) (hord ⟨k.val, by omega⟩)
  · refine (hsl (Host.sort2 S32x8 1 (fun l r => FloatOps.cmpfTotal (F := Ideal) (φ := FTy.f32) .gt l.1 r.1) Q I).2).trans ?_
    refine (congrArg I (hal ⟨k.val, by omega⟩ _)).trans ((hIa _).trans ?_)
    exact congrArg (fun c : Fin 8 => BitVec.ofNat 32 c.val) (hord ⟨k.val, by omega⟩)

/-- The weights, read. -/
theorem refGate_apply (V : FVec Ideal S32x2 .f32) (I : Vec Ideal S32x2 .i32) (n : Fin 32) (e : Fin 8) :
    (refGate V I (ix2 n e) : EReal) = ∑ k : Fin 2, (if I (ix2 n k) = BitVec.ofNat 32 e.val then (1 : EReal) else 0)
      * Ideal.div (V (ix2 n k)) (∑ j : Fin 2, V (ix2 n j)) := by
  have hbit : ∀ a b : BitVec 32, (FloatOps.uitofp (F := Ideal) FTy.f32 (IntOp.cmpi CmpIPredicate.eq a b) : EReal)
      = if a = b then 1 else 0 := fun a b => by
    show ((((BitVec.ofBool (decide (a = b))).toNat : ℝ)) : EReal) = _
    by_cases h : a = b <;> simp [h]
  unfold refGate
  pointwise []
  simp only [hbit]

/-- The output, read. -/
theorem refOut_apply (X H : FVec Ideal S32x1024 .f32) (W : FVec Ideal S32x8 .f32)
    (Wg Wu : FVec Ideal S8x1024x1792 .f32) (Wd : FVec Ideal S8x1792x1024 .f32) (n : Fin 32) (d : Fin 1024) :
    (refOut X H W Wg Wu Wd (ix2 n d) : EReal) = X (ix2 n d) + ∑ e : Fin 8,
      layer (fun a => H (ix2 n a)) (W (ix2 n e)) (fun a f => Wg (ix3 e a f)) (fun a f => Wu (ix3 e a f))
        (fun f a => Wd (ix3 e f a)) d := by
  unfold refOut
  pointwise []
  rfl

/-- The staged reference is the tokens plus the weighted layers of all eight experts. -/
theorem staged (X : FVec Ideal S32x1024 .f32) (G : FVec Ideal S1024 .f32) (R : FVec Ideal S1024x8 .f32)
    (Wg Wu : FVec Ideal S8x1024x1792 .f32) (Wd : FVec Ideal S8x1792x1024 .f32) (n : Fin 32) (d : Fin 1024) :
    (refOut X (refNorm X G) (refGate (refValues (refProbs (refScores (refNorm X G) R)))
      (refIndices (refProbs (refScores (refNorm X G) R)))) Wg Wu Wd (ix2 n d) : EReal)
      = outputs X G R Wg Wu Wd (ix2 n d) := by
  have hH : ∀ d, (refNorm X G (ix2 n d) : EReal) = normed (fun a => X (ix2 n a)) (fun a => G (ix1 a)) d := refNorm_apply X G n
  have hL : (fun e => (refScores (refNorm X G) R (ix2 n e) : EReal))
      = fun e => ∑ k, R (ix2 k e) * normed (fun a => X (ix2 n a)) (fun a => G (ix1 a)) k := by
    funext e
    unfold refScores
    generalize refNorm X G = H at hH ⊢
    pointwise []
    simp only [hH]
    exact Finset.sum_congr rfl fun k _ => mul_comm _ _
  have hQ : (fun e => (refProbs (refScores (refNorm X G) R) (ix2 n e) : EReal)) = chances X G R n := by
    funext e
    rw [refProbs_apply, hL]
    rfl
  generalize refProbs (refScores (refNorm X G) R) = Q at hQ ⊢
  have hW : ∀ e : Fin 8, (refGate (refValues Q) (refIndices Q) (ix2 n e) : EReal) = gate (chances X G R n) e := fun e => by
    have hc : (∀ e, 0 ≤ chances X G R n e) ∨ ∀ e, chances X G R n e = ⊥ := probs_cases _
    rw [gate_eq _ hc, refGate_apply]
    have hQ' : ∀ e, (Q (ix2 n e) : EReal) = chances X G R n e := congrFun hQ
    simp only [(topK_apply Q n _).1, (topK_apply Q n _).2, hQ, hQ']
    refine Finset.sum_congr rfl fun k _ => congrArg (· * _) (if_congr ?_ rfl rfl)
    refine ⟨fun h => Fin.ext ?_, fun h => by rw [h]⟩
    have h' := congrArg BitVec.toNat h
    rw [BitVec.toNat_ofNat, BitVec.toNat_ofNat] at h'
    change (ranked (chances X G R n) ⟨k.val, by omega⟩).val % 2 ^ 32 = e.val % 2 ^ 32 at h'
    have := (ranked (chances X G R n) ⟨k.val, by omega⟩).isLt
    have := e.isLt
    omega
  rw [refOut_apply]
  simp only [hW, hH]
  rfl

/-- The staged reference, whole. -/
theorem staged_whole (X : FVec Ideal S32x1024 .f32) (G : FVec Ideal S1024 .f32) (R : FVec Ideal S1024x8 .f32)
    (Wg Wu : FVec Ideal S8x1024x1792 .f32) (Wd : FVec Ideal S8x1792x1024 .f32) :
    refOut X (refNorm X G) (refGate (refValues (refProbs (refScores (refNorm X G) R)))
      (refIndices (refProbs (refScores (refNorm X G) R)))) Wg Wu Wd = outputs X G R Wg Wu Wd := by
  refine funext fun i => ?_
  have hi : i = ix2 (i 0) (i 1) := by
    refine funext fun a => ?_
    match a with
    | ⟨0, _⟩ => rfl
    | ⟨1, _⟩ => rfl
  rw [hi]
  exact staged _ _ _ _ _ _ (i 0) (i 1)

/-- The reference ends with every sampled token plus the weighted layers of all eight experts. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = outputs (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) :=
  (θ_run defs _ _).mono (fun r h c => (h c).1.trans (by unfold Value.res_main_v42; exact staged_whole _ _ _ _ _ _)) (Value.run m ρ)

end Cert.Reference6Ideal.Sample
-- ==== Proof.Step.Terms.lean ====
module

public import proofs.«01_k».proof.Proof.Gen.Kernel7Ideal.Value
public import proofs.«01_k».proof.Proof.Proj.Columns

/-! One step of the gated linear attention and of the gated DeltaNet at one block. -/

@[expose] public section

set_option maxRecDepth 16384

noncomputable section

namespace Cert.Kernel7Ideal.Step

open Idealize.ShloMosaic Idealize.ShloMosaic.TcCoe Idealize.SL.Sem
open Idealize.ShloMosaic.Pipeline (Dat)
open Cert.Kernel7Ideal Cert.Kernel7Ideal.Gen Cert.Moe Cert.Kernel2Ideal.Proj

/-- A sum of terms of which only the one on the diagonal stays is that term, at 64 places. -/
theorem diag64 (f : Fin 64 → EReal) (x : Fin 64) :
    (∑ y : Fin 64, Scalar.select (IntOp.cmpi CmpIPredicate.eq (BitVec.ofNat 32 x.val) (BitVec.ofNat 32 y.val)) (f y) 0) = f x := by
  rw [Finset.sum_eq_single x]
  · simp [Scalar.select, IntOp.cmpi]
  · intro y _ hy
    have hne : (BitVec.ofNat 32 x.val : BitVec 32) ≠ BitVec.ofNat 32 y.val := by
      intro h
      have := congrArg BitVec.toNat h
      simp only [BitVec.toNat_ofNat] at this
      exact hy (Fin.ext (by omega))
    unfold Scalar.select
    rw [if_neg]
    have hf : (BitVec.ofNat 32 x.val == BitVec.ofNat 32 y.val) = false := beq_eq_false_iff_ne.mpr hne
    simp only [IntOp.cmpi, hf]
    decide
  · intro h; exact absurd (Finset.mem_univ x) h

/-- A sum of terms of which only the one on the diagonal stays is that term, at 128 places. -/
theorem diag128 (f : Fin 128 → EReal) (x : Fin 128) :
    (∑ y : Fin 128, Scalar.select (IntOp.cmpi CmpIPredicate.eq (BitVec.ofNat 32 x.val) (BitVec.ofNat 32 y.val)) (f y) 0) = f x := by
  rw [Finset.sum_eq_single x]
  · simp [Scalar.select, IntOp.cmpi]
  · intro y _ hy
    have hne : (BitVec.ofNat 32 x.val : BitVec 32) ≠ BitVec.ofNat 32 y.val := by
      intro h
      have := congrArg BitVec.toNat h
      simp only [BitVec.toNat_ofNat] at this
      exact hy (Fin.ext (by omega))
    unfold Scalar.select
    rw [if_neg]
    have hf : (BitVec.ofNat 32 x.val == BitVec.ofNat 32 y.val) = false := beq_eq_false_iff_ne.mpr hne
    simp only [IntOp.cmpi, hf]
    decide
  · intro h; exact absurd (Finset.mem_univ x) h

/-- The share of a state kept for a score. -/
def decay (x : EReal) : EReal :=
  Ideal.exp ((min x 0 - Ideal.log1p (Ideal.exp (0 - FloatOps.absf (F := Ideal) (φ := .f32) x))) * Ideal.ofBits FTy.f32 0x3D800000#32)

/-- What the attention puts out. -/
def attend (q k a : Fin 64 → EReal) (v : Fin 128 → EReal) (s : Fin 64 → Fin 128 → EReal) (d : Fin 128) : EReal :=
  (∑ r, q r * a r * s r d) + (∑ r, q r * k r) * v d

/-- The attention's next state. -/
def attended (k a : Fin 64 → EReal) (v : Fin 128 → EReal) (s : Fin 64 → Fin 128 → EReal) (r : Fin 64) (d : Fin 128) : EReal :=
  a r * s r d + k r * v d

/-- Places over the root of the sum of their squares. -/
def unit (y : Fin 128 → EReal) (r : Fin 128) : EReal :=
  y r * Ideal.rsqrt ((∑ x, y x * y x) + Ideal.ofBits FTy.f32 0x358637BD#32)

/-- The share of the delta rule's state kept, from its rate, its offset and its score. -/
def fade (al dt ca : EReal) : EReal :=
  Ideal.exp ((0 - Ideal.exp al) * (max (ca + dt) 0
    + Ideal.log1p (Ideal.exp (0 - FloatOps.absf (F := Ideal) (φ := .f32) (ca + dt)))))

/-- The correction that the delta rule writes. -/
def correction (b e : EReal) (k v : Fin 128 → EReal) (s : Fin 128 → Fin 128 → EReal) (d : Fin 128) : EReal :=
  b * (v d - e * ∑ r, k r * s r d)

/-- What the delta rule puts out. -/
def deltaOut (b e : EReal) (q k v : Fin 128 → EReal) (s : Fin 128 → Fin 128 → EReal) (d : Fin 128) : EReal :=
  e * (∑ r, q r * s r d) + (∑ r, q r * k r) * correction b e k v s d

/-- The delta rule's next state. -/
def deltaNext (b e : EReal) (k v : Fin 128 → EReal) (s : Fin 128 → Fin 128 → EReal) (r d : Fin 128) : EReal :=
  e * s r d + k r * correction b e k v s d

/-- A value times its logistic. -/
def swished (x : EReal) : EReal := x * Ideal.logistic x

/-- Place `r` of head `h` among heads of 64. -/
def at64 (h : Fin 4) (r : Fin 64) : Fin 256 := ⟨64 * h.val + r.val, by omega⟩

/-- Place `d` of head `h` among heads of 128. -/
def at128 (h : Fin 4) (d : Fin 128) : Fin 512 := ⟨128 * h.val + d.val, by omega⟩

/-- Place `d` of head `h` of group `p` of the convolved columns. -/
def cAt (p : Fin 3) (h : Fin 4) (d : Fin 128) : Fin 1536 := ⟨512 * p.val + 128 * h.val + d.val, by omega⟩

/-- Where the write strength of head `h` stands among the small columns. -/
def bAt (h : Fin 4) : Fin 256 := ⟨16 + h.val, by omega⟩

/-- Where the decay score of head `h` stands among the small columns. -/
def aAt (h : Fin 4) : Fin 256 := ⟨20 + h.val, by omega⟩

theorem at64_zero (r : Fin 64) : at64 0 r = ⟨r.val, by omega⟩ := Fin.ext (by simp [at64])
theorem at128_zero (d : Fin 128) : at128 0 d = ⟨d.val, by omega⟩ := Fin.ext (by simp [at128])
theorem cAt_zero (d : Fin 128) : cAt 0 0 d = ⟨d.val, by omega⟩ := Fin.ext (by simp [cAt])

variable (x0 x1 : FVec Ideal S1x1x256 .f32) (x2 : FVec Ideal S1x1x512 .f32) (x3 : FVec Ideal S1x1x1536 .f32)
  (x4 : FVec Ideal S1x1x256 .f32) (x5 : FVec Ideal S1x3x1536 .f32) (x6 : FVec Ideal S1x4x64x128 .f32)
  (x7 : FVec Ideal S1x4x128x128 .f32) (x8 : FVec Ideal S256x256 .f32) (x9 : FVec Ideal S1x256 .f32)
  (x10 : FVec Ideal S4x1536 .f32) (x11 x12 : FVec Ideal S1x512 .f32)

/-- The share of the attention's state kept at place `r`, from a block. -/
def kept (x4 : FVec Ideal S1x1x256 .f32) (x8 : FVec Ideal S256x256 .f32) (x9 : FVec Ideal S1x256 .f32) (r : Fin 256) : EReal :=
  decay ((∑ e, x4 (ix3 0 0 e) * x8 (ix2 e r)) + x9 (ix2 0 r))

/-- The convolved columns of a block. -/
def convolved (x3 : FVec Ideal S1x1x1536 .f32) (x5 : FVec Ideal S1x3x1536 .f32) (x10 : FVec Ideal S4x1536 .f32) (r : Fin 1536) : EReal :=
  swished (x5 (ix3 0 0 r) * x10 (ix2 0 r) + x5 (ix3 0 1 r) * x10 (ix2 1 r) + x5 (ix3 0 2 r) * x10 (ix2 2 r)
    + x3 (ix3 0 0 r) * x10 (ix2 3 r))

/-- The convolved columns, read. -/
theorem conv_apply (x : FVec Ideal S1x3x1536 .f32) (y : FVec Ideal S1x1x1536 .f32) (w0 w1 w2 w3 : FVec Ideal S1x1536 .f32) (r : Fin 1536) :
    (k0_pay34 (F := Ideal) x y w0 w1 w2 w3 (ix2 0 r) : EReal)
    = swished (x (ix3 0 0 r) * w0 (ix2 0 r) + x (ix3 0 1 r) * w1 (ix2 0 r) + x (ix3 0 2 r) * w2 (ix2 0 r)
        + y (ix3 0 0 r) * w3 (ix2 0 r)) := by
  pointwise [k0_pay33, k0_pay34]
  rfl

/-- The attention of a block, read. -/
theorem attend_point (h : Fin 4) (d : Fin 128) :
    (out0_13 (F := Ideal) x0 x1 x2 x3 x4 x5 x6 x7 x8 x9 x10 x11 x12 (ix3 0 0 (at128 h d)) : EReal)
      = attend (fun r => x0 (ix3 0 0 (at64 h r)) * Ideal.ofBits FTy.f32 0x3E000000#32) (fun r => x1 (ix3 0 0 (at64 h r)))
          (fun r => kept x4 x8 x9 (at64 h r)) (fun d => x2 (ix3 0 0 (at128 h d))) (fun r d => x6 (ix4 0 h r d)) d := by
  unfold_out out0_13
  canon_tiles z hz
  case piece0 =>
    idx_vars z
    have e : 128 * h.val + d.val = 384 + z2.val := by simpa [at128] using hz2
    obtain rfl : h = 3 := Fin.ext (by show h.val = 3; omega)
    obtain rfl : d = z2 := Fin.ext (by have : ((3 : Fin 4) : Nat) = 3 := rfl; omega)
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [diag64]
    rfl
  case piece1 =>
    idx_vars z
    have e : 128 * h.val + d.val = 256 + z2.val := by simpa [at128] using hz2
    obtain rfl : h = 2 := Fin.ext (by show h.val = 2; omega)
    obtain rfl : d = z2 := Fin.ext (by have : ((2 : Fin 4) : Nat) = 2 := rfl; omega)
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [diag64]
    rfl
  case piece2 =>
    idx_vars z
    have e : 128 * h.val + d.val = 128 + z2.val := by simpa [at128] using hz2
    obtain rfl : h = 1 := Fin.ext (by show h.val = 1; omega)
    obtain rfl : d = z2 := Fin.ext (by have : ((1 : Fin 4) : Nat) = 1 := rfl; omega)
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [diag64]
    rfl
  case piece3 =>
    idx_vars z
    have e : 128 * h.val + d.val = 0 + z2.val := by simpa [at128] using hz2
    obtain rfl : h = 0 := Fin.ext (by show h.val = 0; omega)
    obtain rfl : d = z2 := Fin.ext (by have : ((0 : Fin 4) : Nat) = 0 := rfl; omega)
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [diag64, kept, at64_zero, at128_zero]
    rfl

/-- The attention's next state of a block, read. -/
theorem attended_point (h : Fin 4) (r : Fin 64) (d : Fin 128) :
    (out0_16 (F := Ideal) x0 x1 x2 x3 x4 x5 x6 x7 x8 x9 x10 x11 x12 (ix4 0 h r d) : EReal)
      = attended (fun r => x1 (ix3 0 0 (at64 h r)))
          (fun r => kept x4 x8 x9 (at64 h r)) (fun d => x2 (ix3 0 0 (at128 h d))) (fun r d => x6 (ix4 0 h r d)) r d := by
  unfold_out out0_16
  canon_tiles z hz
  case piece0 =>
    idx_vars z
    obtain rfl : h = 3 := Fin.ext (by have e : h.val = 3 + z1.val := (by simpa using hz1); show h.val = 3; omega)
    obtain rfl : r = z2 := Fin.ext (by simpa using hz2)
    obtain rfl : d = z3 := Fin.ext (by simpa using hz3)
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [diag64]
    rfl
  case piece1 =>
    idx_vars z
    obtain rfl : h = 2 := Fin.ext (by have e : h.val = 2 + z1.val := (by simpa using hz1); show h.val = 2; omega)
    obtain rfl : r = z2 := Fin.ext (by simpa using hz2)
    obtain rfl : d = z3 := Fin.ext (by simpa using hz3)
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [diag64]
    rfl
  case piece2 =>
    idx_vars z
    obtain rfl : h = 1 := Fin.ext (by have e : h.val = 1 + z1.val := (by simpa using hz1); show h.val = 1; omega)
    obtain rfl : r = z2 := Fin.ext (by simpa using hz2)
    obtain rfl : d = z3 := Fin.ext (by simpa using hz3)
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [diag64]
    rfl
  case piece3 =>
    idx_vars z
    obtain rfl : h = 0 := Fin.ext (by have e : h.val = 0 + z1.val := (by simpa using hz1); show h.val = 0; omega)
    obtain rfl : r = z2 := Fin.ext (by simpa using hz2)
    obtain rfl : d = z3 := Fin.ext (by simpa using hz3)
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [diag64, kept, at64_zero, at128_zero]
    rfl

/-- The delta rule of a block, read. -/
theorem delta_point (h : Fin 4) (d : Fin 128) :
    (out0_14 (F := Ideal) x0 x1 x2 x3 x4 x5 x6 x7 x8 x9 x10 x11 x12 (ix3 0 0 (at128 h d)) : EReal)
      = deltaOut (Ideal.logistic (x4 (ix3 0 0 (bAt h)))) (fade (x12 (ix2 0 (at128 h d))) (x11 (ix2 0 (at128 h d))) (x4 (ix3 0 0 (aAt h))))
          (fun r => (unit fun r => convolved x3 x5 x10 (cAt 0 h r)) r * Ideal.ofBits FTy.f32 0x3DB504F3#32) (unit fun r => convolved x3 x5 x10 (cAt 1 h r))
          (fun d => convolved x3 x5 x10 (cAt 2 h d)) (fun r d => x7 (ix4 0 h r d)) d := by
  unfold_out out0_14
  canon_tiles z hz
  case piece0 =>
    idx_vars z
    have e : 128 * h.val + d.val = 384 + z2.val := by simpa [at128] using hz2
    obtain rfl : h = 3 := Fin.ext (by show h.val = 3; omega)
    obtain rfl : d = z2 := Fin.ext (by have : ((3 : Fin 4) : Nat) = 3 := rfl; omega)
    pointwise [k0_pay1, k0_pay2, k0_pay3, conv_apply, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
    simp only [diag128]
    rfl
  case piece1 =>
    idx_vars z
    have e : 128 * h.val + d.val = 256 + z2.val := by simpa [at128] using hz2
    obtain rfl : h = 2 := Fin.ext (by show h.val = 2; omega)
    obtain rfl : d = z2 := Fin.ext (by have : ((2 : Fin 4) : Nat) = 2 := rfl; omega)
    pointwise [k0_pay1, k0_pay2, k0_pay3, conv_apply, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
    simp only [diag128]
    rfl
  case piece2 =>
    idx_vars z
    have e : 128 * h.val + d.val = 128 + z2.val := by simpa [at128] using hz2
    obtain rfl : h = 1 := Fin.ext (by show h.val = 1; omega)
    obtain rfl : d = z2 := Fin.ext (by have : ((1 : Fin 4) : Nat) = 1 := rfl; omega)
    pointwise [k0_pay1, k0_pay2, k0_pay3, conv_apply, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
    simp only [diag128]
    rfl
  case piece3 =>
    idx_vars z
    have e : 128 * h.val + d.val = 0 + z2.val := by simpa [at128] using hz2
    obtain rfl : h = 0 := Fin.ext (by show h.val = 0; omega)
    obtain rfl : d = z2 := Fin.ext (by have : ((0 : Fin 4) : Nat) = 0 := rfl; omega)
    pointwise [k0_pay1, k0_pay2, k0_pay3, conv_apply, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
    simp only [diag128, at128_zero, cAt_zero]
    rfl

/-- The delta rule's next state of a block, read. -/
theorem deltaNext_point (h : Fin 4) (r d : Fin 128) :
    (out0_17 (F := Ideal) x0 x1 x2 x3 x4 x5 x6 x7 x8 x9 x10 x11 x12 (ix4 0 h r d) : EReal)
      = deltaNext (Ideal.logistic (x4 (ix3 0 0 (bAt h)))) (fade (x12 (ix2 0 (at128 h d))) (x11 (ix2 0 (at128 h d))) (x4 (ix3 0 0 (aAt h))))
          (unit fun r => convolved x3 x5 x10 (cAt 1 h r))
          (fun d => convolved x3 x5 x10 (cAt 2 h d)) (fun r d => x7 (ix4 0 h r d)) r d := by
  unfold_out out0_17
  canon_tiles z hz
  case piece0 =>
    idx_vars z
    obtain rfl : h = 3 := Fin.ext (by have e : h.val = 3 + z1.val := (by simpa using hz1); show h.val = 3; omega)
    obtain rfl : r = z2 := Fin.ext (by simpa using hz2)
    obtain rfl : d = z3 := Fin.ext (by simpa using hz3)
    pointwise [k0_pay1, k0_pay2, k0_pay3, conv_apply, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
    simp only [diag128]
    rfl
  case piece1 =>
    idx_vars z
    obtain rfl : h = 2 := Fin.ext (by have e : h.val = 2 + z1.val := (by simpa using hz1); show h.val = 2; omega)
    obtain rfl : r = z2 := Fin.ext (by simpa using hz2)
    obtain rfl : d = z3 := Fin.ext (by simpa using hz3)
    pointwise [k0_pay1, k0_pay2, k0_pay3, conv_apply, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
    simp only [diag128]
    rfl
  case piece2 =>
    idx_vars z
    obtain rfl : h = 1 := Fin.ext (by have e : h.val = 1 + z1.val := (by simpa using hz1); show h.val = 1; omega)
    obtain rfl : r = z2 := Fin.ext (by simpa using hz2)
    obtain rfl : d = z3 := Fin.ext (by simpa using hz3)
    pointwise [k0_pay1, k0_pay2, k0_pay3, conv_apply, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
    simp only [diag128]
    rfl
  case piece3 =>
    idx_vars z
    obtain rfl : h = 0 := Fin.ext (by have e : h.val = 0 + z1.val := (by simpa using hz1); show h.val = 0; omega)
    obtain rfl : r = z2 := Fin.ext (by simpa using hz2)
    obtain rfl : d = z3 := Fin.ext (by simpa using hz3)
    pointwise [k0_pay1, k0_pay2, k0_pay3, conv_apply, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
    simp only [diag128, at128_zero, cAt_zero]
    rfl

/-- The columns kept for the next step's convolution, read. -/
theorem cols_point (j : Fin 3) (r : Fin 1536) :
    (out0_15 (F := Ideal) x0 x1 x2 x3 x4 x5 x6 x7 x8 x9 x10 x11 x12 (ix3 0 j r) : EReal)
      = if h : 1 + j.val < 3 then x5 (ix3 0 ⟨1 + j.val, by omega⟩ r) else x3 (ix3 0 0 r) := by
  unfold_out out0_15
  canon_tiles z hz
  idx_vars z
  obtain rfl : j = z1 := Fin.ext (by simpa using hz1)
  obtain rfl : r = z2 := Fin.ext (by simpa using hz2)
  pointwise [k0_pay35, k0_pay33]

end Cert.Kernel7Ideal.Step
-- ==== Proof.Step.Value.lean ====
module

public import proofs.«01_k».proof.Proof.Step.Terms
public import Idealize.ShloMosaic.Lib.Routing.OpsPair

/-! One step of the two recurrent branches: the arrays the run ends with. -/

@[expose] public section

set_option maxRecDepth 16384

noncomputable section

namespace Cert.Kernel7Ideal.Step

open Idealize.ShloMosaic Idealize.ShloMosaic.TcCoe Idealize.SL.Sem
open Idealize.ShloMosaic.Pipeline (Dat)
open Cert.Kernel7Ideal Cert.Kernel7Ideal.Gen Cert.Moe

/-- Updates written over what stands there, all of those that land being the same, leave that one where one lands. -/
theorem lands {ι α : Type} (L : List ι) (P : ι → Prop) [DecidablePred P] (v : ι → α) (w x : α) (h : ∀ n, P n → v n = w) :
    L.foldl (fun a n => if P n then v n else a) x = w ∨
      (L.foldl (fun a n => if P n then v n else a) x = x ∧ ∀ n ∈ L, ¬ P n) := by
  induction L generalizing x with
  | nil => exact Or.inr ⟨rfl, fun n hn => absurd hn List.not_mem_nil⟩
  | cons n l ih =>
    rw [List.foldl_cons]
    by_cases hn : P n
    · rw [if_pos hn, h n hn]
      rcases ih w with e | ⟨e, _⟩
      · exact Or.inl e
      · exact Or.inl e
    · rw [if_neg hn]
      rcases ih x with e | ⟨e, f⟩
      · exact Or.inl e
      · exact Or.inr ⟨e, fun k hk => by
          rcases List.mem_cons.mp hk with e | e
          · exact e ▸ hn
          · exact f k e⟩

/-- Where an update of the padded weights lands. -/
theorem landing (j : S16x256.Idx) : scatter_S256x256_S1_S16x256_01_n_0_0.resultIdx? (w := 32) j (fun _ => 0#32)
    = some (ix2 ⟨(j 0).val, by have : (j 0).val < 16 := (j 0).isLt; omega⟩ ⟨(j 1).val, (j 1).isLt⟩) := by
  have h0 : (j 0).val < 16 := (j 0).isLt
  have h1 : (j 1).val < 256 := (j 1).isLt
  have s0 : ∀ a, scatter_S256x256_S1_S16x256_01_n_0_0.start (w := 32) j (fun _ => 0#32) a = 0 := fun a => by
    unfold ScatterDims.start
    split <;> rfl
  have w0 : scatter_S256x256_S1_S16x256_01_n_0_0.window j 0 = (j 0).val := rfl
  have w1 : scatter_S256x256_S1_S16x256_01_n_0_0.window j 1 = (j 1).val := rfl
  unfold ScatterDims.resultIdx?
  have hall : ∀ a, 0 ≤ scatter_S256x256_S1_S16x256_01_n_0_0.start (w := 32) j (fun _ => 0#32) a + scatter_S256x256_S1_S16x256_01_n_0_0.window j a
      ∧ scatter_S256x256_S1_S16x256_01_n_0_0.start (w := 32) j (fun _ => 0#32) a + scatter_S256x256_S1_S16x256_01_n_0_0.window j a < S256x256.size a := by
    intro a
    rw [s0]
    match a with
    | ⟨0, _⟩ => exact ⟨by omega, by show (0 : Int) + ((j 0).val : Int) < 256; omega⟩
    | ⟨1, _⟩ => exact ⟨by omega, by show (0 : Int) + ((j 1).val : Int) < 256; omega⟩
  rw [dif_pos hall]
  refine congrArg some (funext fun a => ?_)
  match a with
  | ⟨0, _⟩ => exact Fin.ext (by
      show (scatter_S256x256_S1_S16x256_01_n_0_0.start (w := 32) j (fun _ => 0#32) 0 + ((scatter_S256x256_S1_S16x256_01_n_0_0.window j 0 : Nat) : Int)).toNat = (j 0).val
      rw [s0, w0]; omega)
  | ⟨1, _⟩ => exact Fin.ext (by
      show (scatter_S256x256_S1_S16x256_01_n_0_0.start (w := 32) j (fun _ => 0#32) 1 + ((scatter_S256x256_S1_S16x256_01_n_0_0.window j 1 : Nat) : Int)).toNat = (j 1).val
      rw [s0, w1]; omega)

/-- The padded weights: the weights in their rows and zero below. -/
theorem padded (x : FVec Ideal S256x256 .f32) (u : FVec Ideal S16x256 .f32) (hx : ∀ i, (x i : EReal) = 0) (e r : Fin 256) :
    (Host.scatter scatter_S256x256_S1_S16x256_01_n_0_0 (fun _ b => b) x (fun _ => 0#32) u (ix2 e r) : EReal)
      = if h : e.val < 16 then u (ix2 ⟨e.val, h⟩ r) else 0 := by
  rw [Routing.scatter_at]
  by_cases h : e.val < 16
  · rw [dif_pos h]
    have key : ∀ j : S16x256.Idx, scatter_S256x256_S1_S16x256_01_n_0_0.resultIdx? (w := 32) j (fun _ => 0#32) = some (ix2 e r) →
        j = ix2 ⟨e.val, h⟩ r := by
      intro j hj
      have hj := Option.some.inj ((landing j).symm.trans hj)
      have e0 : (j 0).val = e.val := congrArg (fun i : S256x256.Idx => (i 0).val) hj
      have e1 : (j 1).val = r.val := congrArg (fun i : S256x256.Idx => (i 1).val) hj
      funext a
      match a with
      | ⟨0, _⟩ => exact Fin.ext e0
      | ⟨1, _⟩ => exact Fin.ext e1
    rcases lands (List.finRange S16x256.numel) (fun n => scatter_S256x256_S1_S16x256_01_n_0_0.resultIdx? (w := 32) (S16x256.rowMajor.symm n)
        (fun _ => 0#32) = some (ix2 e r)) (fun n => u (S16x256.rowMajor.symm n)) (u (ix2 ⟨e.val, h⟩ r)) (x (ix2 e r))
        (fun n hn => congrArg u (key _ hn)) with q | ⟨_, q⟩
    · exact q
    · refine absurd ?_ (q (S16x256.rowMajor (ix2 ⟨e.val, h⟩ r)) (List.mem_finRange _))
      rw [Equiv.symm_apply_apply]
      exact (landing _).trans rfl
  · rw [dif_neg h]
    rcases lands (List.finRange S16x256.numel) (fun n => scatter_S256x256_S1_S16x256_01_n_0_0.resultIdx? (w := 32) (S16x256.rowMajor.symm n)
        (fun _ => 0#32) = some (ix2 e r)) (fun n => u (S16x256.rowMajor.symm n)) (x (ix2 e r)) (x (ix2 e r)) (fun n hn => by
        have hn := Option.some.inj ((landing _).symm.trans hn)
        have e0 : ((S16x256.rowMajor.symm n) 0).val = e.val := congrArg (fun i : S256x256.Idx => (i 0).val) hn
        have : ((S16x256.rowMajor.symm n) 0).val < 16 := ((S16x256.rowMajor.symm n) 0).isLt
        omega) with q | ⟨q, _⟩
    · exact q.trans (hx _)
    · exact q.trans (hx _)

/-- A sum against weights padded with zeros is the sum over the weights' own rows. -/
theorem trimmed (f : Fin 256 → EReal) (u : Fin 16 → EReal) :
    (∑ e : Fin 256, f e * (if h : e.val < 16 then u ⟨e.val, h⟩ else 0)) = ∑ e : Fin 16, f ⟨e.val, by omega⟩ * u e := by
  refine (Finset.sum_subset (Finset.subset_univ (Finset.univ.image fun e : Fin 16 => (⟨e.val, by omega⟩ : Fin 256))) ?_).symm.trans ?_
  · intro e _ he
    have : ¬ e.val < 16 := fun h => he (Finset.mem_image.mpr ⟨⟨e.val, h⟩, Finset.mem_univ _, rfl⟩)
    rw [dif_neg this, mul_zero]
  · refine (Finset.sum_image (fun a _ b _ h => Fin.ext (by simpa using congrArg Fin.val h))).trans ?_
    refine Finset.sum_congr rfl fun e _ => ?_
    exact congrArg (f _ * ·) (dif_pos e.isLt)

variable (m : (ℓ : Loc nD τ sig) → Buf (Elt Ideal) ℓ)

/-- The block index of every window at every point. -/
theorem idx_val : ∀ t : Fin cfg0.N, win0_0.index t = ![t.val, 0, 24] ∧ win0_1.index t = ![t.val, 0, 25] ∧ win0_2.index t = ![t.val, 0, 13]
    ∧ win0_3.index t = ![t.val, 0, 3] ∧ win0_4.index t = ![t.val, 0, 28] ∧ win0_5.index t = ![t.val, 0, 0] ∧ win0_6.index t = ![t.val, 0, 0, 0]
    ∧ win0_7.index t = ![t.val, 0, 0, 0] ∧ win0_8.index t = ![0, 0] ∧ win0_9.index t = ![0, 0] ∧ win0_10.index t = ![0, 0]
    ∧ win0_11.index t = ![0, 0] ∧ win0_12.index t = ![0, 0] ∧ win0_13.index t = ![t.val, 0, 0] ∧ win0_14.index t = ![t.val, 0, 0]
    ∧ win0_15.index t = ![t.val, 0, 0] ∧ win0_16.index t = ![t.val, 0, 0, 0] ∧ win0_17.index t = ![t.val, 0, 0, 0] :=
  (by decide +kernel : ∀ t : Fin grid0.N, _)

/-- The number of grid points. -/
theorem points (t : Fin cfg0.N) : t.val < 32 := lt_of_lt_of_eq t.isLt N_0

/-- The projected columns as launched. -/
abbrev aZ (c : Dev nD) : FVec Ideal S32x1x7680 .f32 := m ((c : Thread nD τ).loc main_arg0)
/-- The last three columns of the convolution as launched. -/
abbrev aC (c : Dev nD) : FVec Ideal S32x3x1536 .f32 := m ((c : Thread nD τ).loc main_arg1)
/-- The attention's state as launched. -/
abbrev aS (c : Dev nD) : FVec Ideal S32x4x64x128 .f32 := m ((c : Thread nD τ).loc main_arg2)
/-- The delta rule's state as launched. -/
abbrev aD (c : Dev nD) : FVec Ideal S32x4x128x128 .f32 := m ((c : Thread nD τ).loc main_arg3)
/-- The decay's weights as launched. -/
abbrev aW (c : Dev nD) : FVec Ideal S16x256 .f32 := m ((c : Thread nD τ).loc main_arg4)
/-- The decay's offsets as launched. -/
abbrev aB (c : Dev nD) : FVec Ideal S256 .f32 := m ((c : Thread nD τ).loc main_arg5)
/-- The convolution's weights as launched. -/
abbrev aV (c : Dev nD) : FVec Ideal S4x1536 .f32 := m ((c : Thread nD τ).loc main_arg6)
/-- The delta rule's offsets as launched. -/
abbrev aT (c : Dev nD) : FVec Ideal S4 .f32 := m ((c : Thread nD τ).loc main_arg7)
/-- The delta rule's rates as launched. -/
abbrev aA (c : Dev nD) : FVec Ideal S4 .f32 := m ((c : Thread nD τ).loc main_arg8)

/-- The sequence that the point steps. -/
def row (t : Fin cfg0.N) : Fin 32 := ⟨t.val, points t⟩

/-- The head of a place among heads of 128. -/
def headOf (k : Fin 512) : Fin 4 := ⟨k.val / 128, by omega⟩
/-- The place in its head. -/
def laneOf (k : Fin 512) : Fin 128 := ⟨k.val % 128, by omega⟩

theorem at_head (k : Fin 512) : at128 (headOf k) (laneOf k) = k := Fin.ext (by show 128 * (k.val / 128) + k.val % 128 = k.val; omega)
theorem head_at (h : Fin 4) (d : Fin 128) : headOf (at128 h d) = h := Fin.ext (by show (128 * h.val + d.val) / 128 = h.val; omega)
theorem lane_at (h : Fin 4) (d : Fin 128) : laneOf (at128 h d) = d := Fin.ext (by show (128 * h.val + d.val) % 128 = d.val; omega)

/-- The attention's queries' columns. -/
def qCol (k : Fin 256) : Fin 7680 := ⟨6144 + k.val, by omega⟩
/-- The attention's keys' columns. -/
def kCol (k : Fin 256) : Fin 7680 := ⟨6400 + k.val, by omega⟩
/-- The attention's values' columns. -/
def vCol (k : Fin 512) : Fin 7680 := ⟨6656 + k.val, by omega⟩
/-- The convolution's columns. -/
def cCol (k : Fin 1536) : Fin 7680 := ⟨4608 + k.val, by omega⟩
/-- The small columns. -/
def sCol (k : Fin 256) : Fin 7680 := ⟨7168 + k.val, by omega⟩

/-- The block of the queries. -/
theorem q_blk (c : Dev nD) (t : Fin cfg0.N) (k : Fin 256) :
    ((iblk m c 0 t : FVec Ideal S1x1x256 .f32) (ix3 0 0 k) : EReal) = aZ m c (ix3 (row t) 0 (qCol k)) := by
  unfold row qCol
  blk_ext [iblk, V, idx_val t]

/-- The block of the keys. -/
theorem k_blk (c : Dev nD) (t : Fin cfg0.N) (k : Fin 256) :
    ((iblk m c 1 t : FVec Ideal S1x1x256 .f32) (ix3 0 0 k) : EReal) = aZ m c (ix3 (row t) 0 (kCol k)) := by
  unfold row kCol
  blk_ext [iblk, V, idx_val t]

/-- The block of the values. -/
theorem v_blk (c : Dev nD) (t : Fin cfg0.N) (k : Fin 512) :
    ((iblk m c 2 t : FVec Ideal S1x1x512 .f32) (ix3 0 0 k) : EReal) = aZ m c (ix3 (row t) 0 (vCol k)) := by
  unfold row vCol
  blk_ext [iblk, V, idx_val t]

/-- The block of the columns to convolve. -/
theorem x_blk (c : Dev nD) (t : Fin cfg0.N) (k : Fin 1536) :
    ((iblk m c 3 t : FVec Ideal S1x1x1536 .f32) (ix3 0 0 k) : EReal) = aZ m c (ix3 (row t) 0 (cCol k)) := by
  unfold row cCol
  blk_ext [iblk, V, idx_val t]

/-- The block of the small columns. -/
theorem s_blk (c : Dev nD) (t : Fin cfg0.N) (k : Fin 256) :
    ((iblk m c 4 t : FVec Ideal S1x1x256 .f32) (ix3 0 0 k) : EReal) = aZ m c (ix3 (row t) 0 (sCol k)) := by
  unfold row sCol
  blk_ext [iblk, V, idx_val t]

/-- The block of the columns kept. -/
theorem c_blk (c : Dev nD) (t : Fin cfg0.N) (j : Fin 3) (k : Fin 1536) :
    ((iblk m c 5 t : FVec Ideal S1x3x1536 .f32) (ix3 0 j k) : EReal) = aC m c (ix3 (row t) j k) := by
  unfold row
  blk_ext [iblk, V, idx_val t]

/-- The block of the attention's state. -/
theorem g_blk (c : Dev nD) (t : Fin cfg0.N) (h : Fin 4) (r : Fin 64) (d : Fin 128) :
    ((iblk m c 6 t : FVec Ideal S1x4x64x128 .f32) (ix4 0 h r d) : EReal) = aS m c (ix4 (row t) h r d) := by
  unfold row
  blk_ext [iblk, V, idx_val t]

/-- The block of the delta rule's state. -/
theorem d_blk (c : Dev nD) (t : Fin cfg0.N) (h : Fin 4) (r d : Fin 128) :
    ((iblk m c 7 t : FVec Ideal S1x4x128x128 .f32) (ix4 0 h r d) : EReal) = aD m c (ix4 (row t) h r d) := by
  unfold row
  blk_ext [iblk, V, idx_val t]

/-- The padded weights' array. -/
theorem weights_eq (c : Dev nD) : (V m c main_v2 : FVec Ideal S256x256 .f32)
    = Host.scatter scatter_S256x256_S1_S16x256_01_n_0_0 (fun _ b => b) (fun _ => Ideal.ofBits FTy.f32 0x00000000#32) (fun _ => 0#32) (aW m c) := by
  unfold V hostOps0
  after_results_simp
  rfl

/-- The block of the padded weights. -/
theorem w_blk (c : Dev nD) (t : Fin cfg0.N) (e r : Fin 256) :
    ((iblk m c 8 t : FVec Ideal S256x256 .f32) (ix2 e r) : EReal) = if h : e.val < 16 then aW m c (ix2 ⟨e.val, h⟩ r) else 0 := by
  have e1 : ((iblk m c 8 t : FVec Ideal S256x256 .f32) (ix2 e r) : EReal) = (V m c main_v2 : FVec Ideal S256x256 .f32) (ix2 e r) := by
    blk_ext [iblk, idx_val t]
  rw [e1, weights_eq]
  exact padded _ _ (fun _ => Ideal.ofBits_zero FTy.f32) e r

/-- The block of the decay's offsets. -/
theorem b_blk (c : Dev nD) (t : Fin cfg0.N) (r : Fin 256) :
    ((iblk m c 9 t : FVec Ideal S1x256 .f32) (ix2 0 r) : EReal) = aB m c (ix1 r) := by
  blk_point [iblk, V, idx_val t]

/-- The block of the convolution's weights. -/
theorem u_blk (c : Dev nD) (t : Fin cfg0.N) (j : Fin 4) (r : Fin 1536) :
    ((iblk m c 10 t : FVec Ideal S4x1536 .f32) (ix2 j r) : EReal) = aV m c (ix2 j r) := by
  blk_ext [iblk, V, idx_val t]

/-- The block of the delta rule's offsets. -/
theorem t_blk (c : Dev nD) (t : Fin cfg0.N) (k : Fin 512) :
    ((iblk m c 11 t : FVec Ideal S1x512 .f32) (ix2 0 k) : EReal) = aT m c (ix1 (headOf k)) := by
  unfold headOf
  blk_point [iblk, V, idx_val t]

/-- The block of the delta rule's rates. -/
theorem a_blk (c : Dev nD) (t : Fin cfg0.N) (k : Fin 512) :
    ((iblk m c 12 t : FVec Ideal S1x512 .f32) (ix2 0 k) : EReal) = aA m c (ix1 (headOf k)) := by
  unfold headOf
  blk_point [iblk, V, idx_val t]

/-- The share of a sequence's attention state kept at place `r`. -/
def keptOf (Z : FVec Ideal S32x1x7680 .f32) (W : FVec Ideal S16x256 .f32) (B : FVec Ideal S256 .f32) (n : Fin 32) (r : Fin 256) : EReal :=
  decay ((∑ e : Fin 16, Z (ix3 n 0 (sCol ⟨e.val, by omega⟩)) * W (ix2 e r)) + B (ix1 r))

/-- A sequence's convolved columns. -/
def convOf (Z : FVec Ideal S32x1x7680 .f32) (C : FVec Ideal S32x3x1536 .f32) (U : FVec Ideal S4x1536 .f32) (n : Fin 32) (r : Fin 1536) : EReal :=
  swished (C (ix3 n 0 r) * U (ix2 0 r) + C (ix3 n 1 r) * U (ix2 1 r) + C (ix3 n 2 r) * U (ix2 2 r) + Z (ix3 n 0 (cCol r)) * U (ix2 3 r))

/-- The share of a sequence's delta state kept in head `h`. -/
def fadeOf (Z : FVec Ideal S32x1x7680 .f32) (T A : FVec Ideal S4 .f32) (n : Fin 32) (h : Fin 4) : EReal :=
  fade (A (ix1 h)) (T (ix1 h)) (Z (ix3 n 0 (sCol (aAt h))))

/-- What the attention puts out for every sequence. -/
def outB (Z : FVec Ideal S32x1x7680 .f32) (S : FVec Ideal S32x4x64x128 .f32) (W : FVec Ideal S16x256 .f32) (B : FVec Ideal S256 .f32) :
    FVec Ideal S32x1x512 .f32 := fun i =>
  attend (fun r => Z (ix3 (i 0) 0 (qCol (at64 (headOf (i 2)) r))) * Ideal.ofBits FTy.f32 0x3E000000#32)
    (fun r => Z (ix3 (i 0) 0 (kCol (at64 (headOf (i 2)) r)))) (fun r => keptOf Z W B (i 0) (at64 (headOf (i 2)) r))
    (fun d => Z (ix3 (i 0) 0 (vCol (at128 (headOf (i 2)) d)))) (fun r d => S (ix4 (i 0) (headOf (i 2)) r d)) (laneOf (i 2))

/-- The attention's next state of every sequence. -/
def outS (Z : FVec Ideal S32x1x7680 .f32) (S : FVec Ideal S32x4x64x128 .f32) (W : FVec Ideal S16x256 .f32) (B : FVec Ideal S256 .f32) :
    FVec Ideal S32x4x64x128 .f32 := fun i =>
  attended (fun r => Z (ix3 (i 0) 0 (kCol (at64 (i 1) r)))) (fun r => keptOf Z W B (i 0) (at64 (i 1) r))
    (fun d => Z (ix3 (i 0) 0 (vCol (at128 (i 1) d)))) (fun r d => S (ix4 (i 0) (i 1) r d)) (i 2) (i 3)

/-- What the delta rule puts out for every sequence. -/
def outC (Z : FVec Ideal S32x1x7680 .f32) (C : FVec Ideal S32x3x1536 .f32) (D : FVec Ideal S32x4x128x128 .f32)
    (U : FVec Ideal S4x1536 .f32) (T A : FVec Ideal S4 .f32) : FVec Ideal S32x1x512 .f32 := fun i =>
  deltaOut (Ideal.logistic (Z (ix3 (i 0) 0 (sCol (bAt (headOf (i 2))))))) (fadeOf Z T A (i 0) (headOf (i 2)))
    (fun r => (unit fun r => convOf Z C U (i 0) (cAt 0 (headOf (i 2)) r)) r * Ideal.ofBits FTy.f32 0x3DB504F3#32)
    (unit fun r => convOf Z C U (i 0) (cAt 1 (headOf (i 2)) r)) (fun d => convOf Z C U (i 0) (cAt 2 (headOf (i 2)) d))
    (fun r d => D (ix4 (i 0) (headOf (i 2)) r d)) (laneOf (i 2))

/-- The delta rule's next state of every sequence. -/
def outD (Z : FVec Ideal S32x1x7680 .f32) (C : FVec Ideal S32x3x1536 .f32) (D : FVec Ideal S32x4x128x128 .f32)
    (U : FVec Ideal S4x1536 .f32) (T A : FVec Ideal S4 .f32) : FVec Ideal S32x4x128x128 .f32 := fun i =>
  deltaNext (Ideal.logistic (Z (ix3 (i 0) 0 (sCol (bAt (i 1)))))) (fadeOf Z T A (i 0) (i 1))
    (unit fun r => convOf Z C U (i 0) (cAt 1 (i 1) r)) (fun d => convOf Z C U (i 0) (cAt 2 (i 1) d))
    (fun r d => D (ix4 (i 0) (i 1) r d)) (i 2) (i 3)

/-- The columns kept of every sequence for its next step. -/
def outN (Z : FVec Ideal S32x1x7680 .f32) (C : FVec Ideal S32x3x1536 .f32) : FVec Ideal S32x3x1536 .f32 := fun i =>
  if h : 1 + (i 1).val < 3 then C (ix3 (i 0) ⟨1 + (i 1).val, h⟩ (i 2)) else Z (ix3 (i 0) 0 (cCol (i 2)))

/-- The share kept at a point, read. -/
theorem kept_blk (c : Dev nD) (t : Fin cfg0.N) (r : Fin 256) :
    kept (iblk m c 4 t) (iblk m c 8 t) (iblk m c 9 t) r = keptOf (aZ m c) (aW m c) (aB m c) (row t) r := by
  unfold kept keptOf
  simp only [s_blk, w_blk, b_blk]
  exact congrArg (fun x => decay (x + _)) (trimmed (fun e => aZ m c (ix3 (row t) 0 (sCol e))) (fun e => aW m c (ix2 e r)))

/-- The convolved columns at a point, read. -/
theorem conv_blk (c : Dev nD) (t : Fin cfg0.N) (r : Fin 1536) :
    convolved (iblk m c 3 t) (iblk m c 5 t) (iblk m c 10 t) r = convOf (aZ m c) (aC m c) (aV m c) (row t) r := by
  unfold convolved convOf
  simp only [x_blk, c_blk, u_blk]

/-- A point's attention's output, read. -/
theorem read13 (c : Dev nD) (t : Fin cfg0.N) (k : Fin 512) :
    (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 0 k) : EReal)
      = outB (aZ m c) (aS m c) (aW m c) (aB m c) (ix3 (row t) 0 k) := by
  obtain ⟨h, d, rfl⟩ : ∃ h d, at128 h d = k := ⟨_, _, at_head k⟩
  refine (attend_point _ _ _ _ _ _ _ _ _ _ _ _ _ h d).trans ?_
  simp only [kept_blk, q_blk, k_blk, v_blk, g_blk]
  unfold outB
  show _ = attend (fun r => aZ m c (ix3 (row t) 0 (qCol (at64 (headOf (at128 h d)) r))) * Ideal.ofBits FTy.f32 0x3E000000#32)
    (fun r => aZ m c (ix3 (row t) 0 (kCol (at64 (headOf (at128 h d)) r)))) (fun r => keptOf (aZ m c) (aW m c) (aB m c) (row t) (at64 (headOf (at128 h d)) r))
    (fun e => aZ m c (ix3 (row t) 0 (vCol (at128 (headOf (at128 h d)) e)))) (fun r e => aS m c (ix4 (row t) (headOf (at128 h d)) r e)) (laneOf (at128 h d))
  rw [head_at, lane_at]

/-- The array of the attention's output after the run. -/
theorem final13 (c : Dev nD) : (dats m 0 c).arrAt 13 cfg0.N = outB (aZ m c) (aS m c) (aW m c) (aB m c) := by
  refine (dats m 0 c).arrAt_eq_of_covers 13 _ (by decide +kernel) fun t hf y => ?_
  blk_simp
  rw [after0_13]
  have hy : y = ix3 0 0 (y 2) := by blk_ext
  have e : ((cfg0.win 13).blk t).view.emb y = ix3 (row t) 0 (y 2) := by
    funext a
    match a with
    | ⟨0, _⟩ => exact Fin.ext (by blk_simp [idx_val t]; first | rfl | (unfold row; omega) | omega)
    | ⟨1, _⟩ => exact Fin.ext (by blk_simp [idx_val t]; first | rfl | (unfold row; omega) | omega)
    | ⟨2, _⟩ => exact Fin.ext (by blk_simp [idx_val t]; first | rfl | (unfold row; omega) | omega)
  rw [e]
  refine (congrArg (out0_13 (F := Ideal) _ _ _ _ _ _ _ _ _ _ _ _ _) hy).trans (read13 m c t (y 2))

/-- A point's delta rule's output, read. -/
theorem read14 (c : Dev nD) (t : Fin cfg0.N) (k : Fin 512) :
    (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 0 k) : EReal)
      = outC (aZ m c) (aC m c) (aD m c) (aV m c) (aT m c) (aA m c) (ix3 (row t) 0 k) := by
  obtain ⟨h, d, rfl⟩ : ∃ h d, at128 h d = k := ⟨_, _, at_head k⟩
  refine (delta_point _ _ _ _ _ _ _ _ _ _ _ _ _ h d).trans ?_
  simp only [conv_blk, s_blk, t_blk, a_blk, d_blk, head_at]
  unfold outC
  show _ = deltaOut (Ideal.logistic (aZ m c (ix3 (row t) 0 (sCol (bAt (headOf (at128 h d))))))) (fadeOf (aZ m c) (aT m c) (aA m c) (row t) (headOf (at128 h d)))
    (fun r => (unit fun r => convOf (aZ m c) (aC m c) (aV m c) (row t) (cAt 0 (headOf (at128 h d)) r)) r * Ideal.ofBits FTy.f32 0x3DB504F3#32)
    (unit fun r => convOf (aZ m c) (aC m c) (aV m c) (row t) (cAt 1 (headOf (at128 h d)) r)) (fun e => convOf (aZ m c) (aC m c) (aV m c) (row t) (cAt 2 (headOf (at128 h d)) e))
    (fun r e => aD m c (ix4 (row t) (headOf (at128 h d)) r e)) (laneOf (at128 h d))
  rw [head_at, lane_at]
  rfl

/-- The array of the delta rule's output after the run. -/
theorem final14 (c : Dev nD) : (dats m 0 c).arrAt 14 cfg0.N = outC (aZ m c) (aC m c) (aD m c) (aV m c) (aT m c) (aA m c) := by
  refine (dats m 0 c).arrAt_eq_of_covers 14 _ (by decide +kernel) fun t hf y => ?_
  blk_simp
  rw [after0_14]
  have hy : y = ix3 0 0 (y 2) := by blk_ext
  have e : ((cfg0.win 14).blk t).view.emb y = ix3 (row t) 0 (y 2) := by
    funext a
    match a with
    | ⟨0, _⟩ => exact Fin.ext (by blk_simp [idx_val t]; first | rfl | (unfold row; omega) | omega)
    | ⟨1, _⟩ => exact Fin.ext (by blk_simp [idx_val t]; first | rfl | (unfold row; omega) | omega)
    | ⟨2, _⟩ => exact Fin.ext (by blk_simp [idx_val t]; first | rfl | (unfold row; omega) | omega)
  rw [e]
  refine (congrArg (out0_14 (F := Ideal) _ _ _ _ _ _ _ _ _ _ _ _ _) hy).trans (read14 m c t (y 2))

/-- A point's columns kept, read. -/
theorem read15 (c : Dev nD) (t : Fin cfg0.N) (j : Fin 3) (r : Fin 1536) :
    (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 j r) : EReal)
      = outN (aZ m c) (aC m c) (ix3 (row t) j r) := by
  refine (cols_point _ _ _ _ _ _ _ _ _ _ _ _ _ j r).trans ?_
  simp only [c_blk, x_blk]
  rfl

/-- The array of the columns kept after the run. -/
theorem final15 (c : Dev nD) : (dats m 0 c).arrAt 15 cfg0.N = outN (aZ m c) (aC m c) := by
  refine (dats m 0 c).arrAt_eq_of_covers 15 _ (by decide +kernel) fun t hf y => ?_
  blk_simp
  rw [after0_15]
  have hy : y = ix3 0 (y 1) (y 2) := by blk_ext
  have e : ((cfg0.win 15).blk t).view.emb y = ix3 (row t) (y 1) (y 2) := by
    funext a
    match a with
    | ⟨0, _⟩ => exact Fin.ext (by blk_simp [idx_val t]; first | rfl | (unfold row; omega) | omega)
    | ⟨1, _⟩ => exact Fin.ext (by blk_simp [idx_val t]; first | rfl | (unfold row; omega) | omega)
    | ⟨2, _⟩ => exact Fin.ext (by blk_simp [idx_val t]; first | rfl | (unfold row; omega) | omega)
  rw [e]
  refine (congrArg (out0_15 (F := Ideal) _ _ _ _ _ _ _ _ _ _ _ _ _) hy).trans (read15 m c t (y 1) (y 2))

/-- A point's attention's next state, read. -/
theorem read16 (c : Dev nD) (t : Fin cfg0.N) (h : Fin 4) (r : Fin 64) (d : Fin 128) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 h r d) : EReal)
      = outS (aZ m c) (aS m c) (aW m c) (aB m c) (ix4 (row t) h r d) := by
  refine (attended_point _ _ _ _ _ _ _ _ _ _ _ _ _ h r d).trans ?_
  simp only [kept_blk, k_blk, v_blk, g_blk]
  rfl

/-- The array of the attention's next state after the run. -/
theorem final16 (c : Dev nD) : (dats m 0 c).arrAt 16 cfg0.N = outS (aZ m c) (aS m c) (aW m c) (aB m c) := by
  refine (dats m 0 c).arrAt_eq_of_covers 16 _ (by decide +kernel) fun t hf y => ?_
  blk_simp
  rw [after0_16]
  have hy : y = ix4 0 (y 1) (y 2) (y 3) := by blk_ext
  have e : ((cfg0.win 16).blk t).view.emb y = ix4 (row t) (y 1) (y 2) (y 3) := by
    funext a
    match a with
    | ⟨0, _⟩ => exact Fin.ext (by blk_simp [idx_val t]; first | rfl | (unfold row; omega) | omega)
    | ⟨1, _⟩ => exact Fin.ext (by blk_simp [idx_val t]; first | rfl | (unfold row; omega) | omega)
    | ⟨2, _⟩ => exact Fin.ext (by blk_simp [idx_val t]; first | rfl | (unfold row; omega) | omega)
    | ⟨3, _⟩ => exact Fin.ext (by blk_simp [idx_val t]; first | rfl | (unfold row; omega) | omega)
  rw [e]
  refine (congrArg (out0_16 (F := Ideal) _ _ _ _ _ _ _ _ _ _ _ _ _) hy).trans (read16 m c t (y 1) (y 2) (y 3))

/-- A point's delta rule's next state, read. -/
theorem read17 (c : Dev nD) (t : Fin cfg0.N) (h : Fin 4) (r d : Fin 128) :
    (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 h r d) : EReal)
      = outD (aZ m c) (aC m c) (aD m c) (aV m c) (aT m c) (aA m c) (ix4 (row t) h r d) := by
  refine (deltaNext_point _ _ _ _ _ _ _ _ _ _ _ _ _ h r d).trans ?_
  simp only [conv_blk, s_blk, t_blk, a_blk, d_blk, head_at]
  rfl

/-- The array of the delta rule's next state after the run. -/
theorem final17 (c : Dev nD) : (dats m 0 c).arrAt 17 cfg0.N = outD (aZ m c) (aC m c) (aD m c) (aV m c) (aT m c) (aA m c) := by
  refine (dats m 0 c).arrAt_eq_of_covers 17 _ (by decide +kernel) fun t hf y => ?_
  blk_simp
  rw [after0_17]
  have hy : y = ix4 0 (y 1) (y 2) (y 3) := by blk_ext
  have e : ((cfg0.win 17).blk t).view.emb y = ix4 (row t) (y 1) (y 2) (y 3) := by
    funext a
    match a with
    | ⟨0, _⟩ => exact Fin.ext (by blk_simp [idx_val t]; first | rfl | (unfold row; omega) | omega)
    | ⟨1, _⟩ => exact Fin.ext (by blk_simp [idx_val t]; first | rfl | (unfold row; omega) | omega)
    | ⟨2, _⟩ => exact Fin.ext (by blk_simp [idx_val t]; first | rfl | (unfold row; omega) | omega)
    | ⟨3, _⟩ => exact Fin.ext (by blk_simp [idx_val t]; first | rfl | (unfold row; omega) | omega)
  rw [e]
  refine (congrArg (out0_17 (F := Ideal) _ _ _ _ _ _ _ _ _ _ _ _ _) hy).trans (read17 m c t (y 1) (y 2) (y 3))

end Cert.Kernel7Ideal.Step
-- ==== Proof.Step.Scalars.lean ====
module

public import proofs.«01_k».proof.Proof.Step.Terms

/-! The decays of one step as they are taken through the softplus. -/

@[expose] public section

noncomputable section

namespace Cert.Kernel7Ideal.Step

open Idealize.ShloMosaic Idealize.ShloMosaic.TcCoe Idealize.SL.Sem
open Cert.Kernel7Ideal Cert.Kernel7Ideal.Gen Cert.Moe

/-- Sixteen, read off its pattern. -/
theorem sixteen : Ideal.ofBits FTy.f32 0x41800000#32 = ((16 : ℝ) : EReal) := by
  simp [Ideal.ofBits, Ideal.ieee]
  norm_num
  exact (EReal.coe_mul _ _).symm.trans (congrArg (fun r : ℝ => (r : EReal)) (by norm_num))

/-- One sixteenth, read off its pattern. -/
theorem sixteenth : Ideal.ofBits FTy.f32 0x3D800000#32 = ((1 / 16 : ℝ) : EReal) := by
  simp [Ideal.ofBits, Ideal.ieee]
  norm_num
  exact (EReal.coe_mul _ _).symm.trans (congrArg (fun r : ℝ => (r : EReal)) (by norm_num))

/-- The softplus of a value. -/
def softplus (y : EReal) : EReal :=
  max y 0 + Ideal.log1p (Ideal.exp (0 - FloatOps.absf (F := Ideal) (φ := .f32) y))

/-- The logarithm in the softplus is a number. -/
theorem log1p_real (y : EReal) : ∃ l : ℝ, Ideal.log1p (Ideal.exp (0 - FloatOps.absf (F := Ideal) (φ := .f32) y)) = (l : EReal) := by
  have key : ∀ r : ℝ, 0 ≤ r → ∃ l : ℝ, Ideal.log1p ((r : ℝ) : EReal) = (l : EReal) := fun r hr => by
    refine ⟨Real.log (1 + r), ?_⟩
    have e : (1 : EReal) + (r : EReal) = ((1 + r : ℝ) : EReal) := by norm_cast
    unfold Ideal.log1p
    rw [e]
    show (if 1 + r ≤ 0 then ⊥ else (Real.log (1 + r) : EReal)) = _
    rw [if_neg (by linarith)]
  show ∃ l : ℝ, Ideal.log1p (Ideal.exp (0 - max y (-y))) = (l : EReal)
  rw [zero_sub]
  induction y using EReal.rec with
  | bot =>
    have e : -(max (⊥ : EReal) (-⊥)) = ⊥ := by simp
    rw [e]
    exact key 0 le_rfl
  | top =>
    have e : -(max (⊤ : EReal) (-⊤)) = ⊥ := by simp
    rw [e]
    exact key 0 le_rfl
  | coe r =>
    have e : -(max (r : EReal) (-(r : EReal))) = ((-(max r (-r)) : ℝ) : EReal) := by
      rw [← EReal.coe_neg r, EReal.coe_neg (max r (-r))]
      exact congrArg (fun x : EReal => -x) (EReal.coe_strictMono.monotone.map_max (a := r) (b := -r)).symm
    rw [e]
    exact key _ (Real.exp_pos _).le

/-- The share kept is that of the softplus of the score's opposite over sixteen. -/
theorem decay_eq (x : EReal) : Ideal.exp (Ideal.div (-(softplus (-x))) (Ideal.ofBits FTy.f32 0x41800000#32)) = decay x := by
  obtain ⟨l, hl⟩ := log1p_real (-x)
  have ha : FloatOps.absf (F := Ideal) (φ := .f32) (-x) = FloatOps.absf (F := Ideal) (φ := .f32) x := by
    show max (-x) (- -x) = max x (-x)
    rw [neg_neg, max_comm]
  have hm : -(max (-x) 0) = min x 0 := by
    rcases le_total x 0 with h | h
    · have : 0 ≤ -x := by simpa using EReal.neg_le_neg_iff.mpr h
      rw [max_eq_left this, min_eq_left h, neg_neg]
    · have : -x ≤ 0 := by simpa using EReal.neg_le_neg_iff.mpr h
      rw [max_eq_right this, min_eq_right h, neg_zero]
  have hd : -(softplus (-x)) = min x 0 - Ideal.log1p (Ideal.exp (0 - FloatOps.absf (F := Ideal) (φ := .f32) x)) := by
    unfold softplus
    rw [← ha, hl, EReal.neg_add (Or.inr (EReal.coe_ne_top l)) (Or.inr (EReal.coe_ne_bot l)), hm]
  unfold decay
  rw [hd, sixteen, sixteenth, Ideal.div_coe (by norm_num)]

/-- The softplus as it is taken with its test for a value that is none. -/
theorem softplus_eq (y : EReal) :
    Scalar.select (Ideal.cmp .une (y - 0) (y - 0)) (y + 0) (max y 0
      + Ideal.log1p (Ideal.exp (-(FloatOps.absf (F := Ideal) (φ := .f32) (y - 0))))) = softplus y := by
  have h : Ideal.cmp .une (y - 0) (y - 0) = 0#1 := by
    show BitVec.ofBool (decide (y - 0 ≠ y - 0)) = 0#1
    simp
  rw [h, sub_zero]
  unfold softplus
  rw [zero_sub]
  rfl

/-- The share of the delta rule's state kept, through the softplus. -/
theorem fade_eq (al dt ca : EReal) : Ideal.exp (-(Ideal.exp al) * softplus (ca + dt)) = fade al dt ca := by
  unfold fade
  rw [zero_sub]
  rfl

end Cert.Kernel7Ideal.Step
-- ==== Proof.Step.Reference.lean ====
module

public import proofs.«01_k».proof.Proof.Gen.Reference7Ideal.Run
public import proofs.«01_k».proof.Proof.Step.Value
public import proofs.«01_k».proof.Proof.Step.Scalars

/-! The reference's step read at an index. -/

@[expose] public section

set_option maxRecDepth 16384

noncomputable section

namespace Cert.Reference7Ideal.Step

open Idealize.ShloMosaic Idealize.ShloMosaic.TcCoe Idealize.SL.Sem
open Cert.Reference7Ideal Cert.Reference7Ideal.Gen Cert.Moe
open Cert.Kernel7Ideal.Step (decay attend attended unit fade correction deltaOut deltaNext swished at64 at128 cAt bAt aAt headOf laneOf
  qCol kCol vCol cCol sCol keptOf convOf fadeOf outB outS outC outD outN softplus softplus_eq decay_eq fade_eq at_head head_at lane_at)

/-- The rows of the projected columns. -/
def rZ (Z : FVec Ideal S32x1x7680 .f32) : FVec Ideal S32x7680 .f32 :=
  shapeCast _ Z shapeCasts_S32x1x7680_S32x7680

/-- The opposites of the decay's scores. -/
def rScore (Z : FVec Ideal S32x7680 .f32) (W : FVec Ideal S16x256 .f32) (B : FVec Ideal S256 .f32) : FVec Ideal S32x256 .f32 :=
  Host.negf (addf (Host.dotGeneral dot_S32x16_S16x256_S32x256_1_0_0_1_n_n none (extractStridedSlice S32x16 ![0, 7168] Z slices_S32x7680_S32x16_0_7168) W) (broadcastInDim S32x256 ![0, 1] bcast_S1x256_S32x256_0_1 (broadcastInDim S1x256 ![1] bcast_S256_S1x256_1 B)))

/-- The softplus of the decay's scores' opposites. -/
def rSoft (Y : FVec Ideal S32x256 .f32) : FVec Ideal S32x256 .f32 :=
  select (cmpf .une (subf Y (broadcastInDim S32x256 ![] bcast_S_S32x256 (constant S_ .f32 0x00000000#32))) (subf Y (broadcastInDim S32x256 ![] bcast_S_S32x256 (constant S_ .f32 0x00000000#32)))) (addf Y (broadcastInDim S32x256 ![] bcast_S_S32x256 (constant S_ .f32 0x00000000#32))) (addf (maximumf Y (broadcastInDim S32x256 ![] bcast_S_S32x256 (constant S_ .f32 0x00000000#32))) (Host.log1p (Host.exp (Host.negf (Host.absf (subf Y (broadcastInDim S32x256 ![] bcast_S_S32x256 (constant S_ .f32 0x00000000#32))))))))

/-- The shares of the attention's state kept. -/
def rKept (Y : FVec Ideal S32x256 .f32) : FVec Ideal S32x4x64 .f32 :=
  Host.exp (shapeCast _ (Host.divf (Host.negf Y) (broadcastInDim S32x256 ![] bcast_S_S32x256 (constant S_ .f32 0x41800000#32))) shapeCasts_S32x256_S32x4x64)

/-- The attention's queries. -/
def rQ (Z : FVec Ideal S32x7680 .f32) : FVec Ideal S32x4x64 .f32 :=
  mulf (shapeCast _ (extractStridedSlice S32x256 ![0, 6144] Z slices_S32x7680_S32x256_0_6144) shapeCasts_S32x256_S32x4x64) (broadcastInDim S32x4x64 ![] bcast_S_S32x4x64 (constant S_ .f32 0x3E000000#32))

/-- The attention's keys. -/
def rK (Z : FVec Ideal S32x7680 .f32) : FVec Ideal S32x4x64 .f32 :=
  shapeCast _ (extractStridedSlice S32x256 ![0, 6400] Z slices_S32x7680_S32x256_0_6400) shapeCasts_S32x256_S32x4x64

/-- The attention's values. -/
def rV (Z : FVec Ideal S32x7680 .f32) : FVec Ideal S32x4x128 .f32 :=
  shapeCast _ (extractStridedSlice S32x512 ![0, 6656] Z slices_S32x7680_S32x512_0_6656) shapeCasts_S32x512_S32x4x128

/-- The columns kept and the new ones after them. -/
def rCat (C : FVec Ideal S32x3x1536 .f32) (Z : FVec Ideal S32x7680 .f32) : FVec Ideal S32x4x1536 .f32 :=
  concatenate S32x4x1536 1 [⟨S32x3x1536, C⟩, ⟨S32x1x1536, (broadcastInDim S32x1x1536 ![0, 2] bcast_S32x1536_S32x1x1536_0_2 (extractStridedSlice S32x1536 ![0, 4608] Z slices_S32x7680_S32x1536_0_4608))⟩] concatenates_S32x3x1536_S32x1x1536_S32x4x1536_d1

/-- The convolution. -/
def rConv (K : FVec Ideal S32x4x1536 .f32) (U : FVec Ideal S4x1536 .f32) : FVec Ideal S32x1536 .f32 :=
  addf (addf (addf (addf (broadcastInDim S32x1536 ![] bcast_S_S32x1536 (constant S_ .f32 0x00000000#32)) (mulf (shapeCast _ (extractStridedSlice S32x1x1536 ![0, 0, 0] K slices_S32x4x1536_S32x1x1536_0_0_0) shapeCasts_S32x1x1536_S32x1536) (broadcastInDim S32x1536 ![0, 1] bcast_S1x1536_S32x1536_0_1 (broadcastInDim S1x1536 ![1] bcast_S1536_S1x1536_1 (shapeCast _ (extractStridedSlice S1x1536 ![0, 0] U slices_S4x1536_S1x1536_0_0) shapeCasts_S1x1536_S1536))))) (mulf (shapeCast _ (extractStridedSlice S32x1x1536 ![0, 1, 0] K slices_S32x4x1536_S32x1x1536_0_1_0) shapeCasts_S32x1x1536_S32x1536) (broadcastInDim S32x1536 ![0, 1] bcast_S1x1536_S32x1536_0_1 (broadcastInDim S1x1536 ![1] bcast_S1536_S1x1536_1 (shapeCast _ (extractStridedSlice S1x1536 ![1, 0] U slices_S4x1536_S1x1536_1_0) shapeCasts_S1x1536_S1536))))) (mulf (shapeCast _ (extractStridedSlice S32x1x1536 ![0, 2, 0] K slices_S32x4x1536_S32x1x1536_0_2_0) shapeCasts_S32x1x1536_S32x1536) (broadcastInDim S32x1536 ![0, 1] bcast_S1x1536_S32x1536_0_1 (broadcastInDim S1x1536 ![1] bcast_S1536_S1x1536_1 (shapeCast _ (extractStridedSlice S1x1536 ![2, 0] U slices_S4x1536_S1x1536_2_0) shapeCasts_S1x1536_S1536))))) (mulf (shapeCast _ (extractStridedSlice S32x1x1536 ![0, 3, 0] K slices_S32x4x1536_S32x1x1536_0_3_0) shapeCasts_S32x1x1536_S32x1536) (broadcastInDim S32x1536 ![0, 1] bcast_S1x1536_S32x1536_0_1 (broadcastInDim S1x1536 ![1] bcast_S1536_S1x1536_1 (shapeCast _ (extractStridedSlice S1x1536 ![3, 0] U slices_S4x1536_S1x1536_3_0) shapeCasts_S1x1536_S1536))))

/-- A value by its logistic. -/
def rSwish (X : FVec Ideal S32x1536 .f32) : FVec Ideal S32x1536 .f32 :=
  mulf X (Host.divf (broadcastInDim S32x1536 ![] bcast_S_S32x1536 (constant S_ .f32 0x3F800000#32)) (addf (broadcastInDim S32x1536 ![] bcast_S_S32x1536 (constant S_ .f32 0x3F800000#32)) (Host.exp (Host.negf X))))

/-- The first group of convolved columns by heads. -/
def rHead0 (X : FVec Ideal S32x1536 .f32) : FVec Ideal S32x4x128 .f32 :=
  shapeCast _ (extractStridedSlice S32x512 ![0, 0] X slices_S32x1536_S32x512_0_0) shapeCasts_S32x512_S32x4x128
/-- The second group of convolved columns by heads. -/
def rHead1 (X : FVec Ideal S32x1536 .f32) : FVec Ideal S32x4x128 .f32 :=
  shapeCast _ (extractStridedSlice S32x512 ![0, 512] X slices_S32x1536_S32x512_0_512) shapeCasts_S32x512_S32x4x128
/-- The third group of convolved columns by heads. -/
def rHead2 (X : FVec Ideal S32x1536 .f32) : FVec Ideal S32x4x128 .f32 :=
  shapeCast _ (extractStridedSlice S32x512 ![0, 1024] X slices_S32x1536_S32x512_0_1024) shapeCasts_S32x512_S32x4x128

/-- Heads over the root of the sum of their squares. -/
def rUnit (Y : FVec Ideal S32x4x128 .f32) : FVec Ideal S32x4x128 .f32 :=
  mulf Y (broadcastInDim S32x4x128 ![0, 1, 2] bcast_S32x4x1_S32x4x128_0_1_2 (Host.rsqrt (addf (broadcastInDim S32x4x1 ![0, 1] bcast_S32x4_S32x4x1_0_1 (Host.reduceAdd (mulf Y Y) (constant S_ .f32 0x00000000#32) reducesTo_S32x4x128_S32x4_d2 h_S_)) (broadcastInDim S32x4x1 ![] bcast_S_S32x4x1 (constant S_ .f32 0x358637BD#32)))))

/-- The delta rule's queries, scaled. -/
def rScaled (Y : FVec Ideal S32x4x128 .f32) : FVec Ideal S32x4x128 .f32 :=
  mulf Y (broadcastInDim S32x4x128 ![] bcast_S_S32x4x128 (constant S_ .f32 0x3DB504F3#32))

/-- The delta rule's scores and offsets. -/
def rOffset (Z : FVec Ideal S32x7680 .f32) (T : FVec Ideal S4 .f32) : FVec Ideal S32x4 .f32 :=
  addf (extractStridedSlice S32x4 ![0, 7188] Z slices_S32x7680_S32x4_0_7188) (broadcastInDim S32x4 ![0, 1] bcast_S1x4_S32x4_0_1 (broadcastInDim S1x4 ![1] bcast_S4_S1x4_1 T))

/-- The shares of the delta rule's state kept. -/
def rFade (Y : FVec Ideal S32x4 .f32) (A : FVec Ideal S4 .f32) : FVec Ideal S32x4x1 .f32 :=
  broadcastInDim S32x4x1 ![0, 1] bcast_S32x4_S32x4x1_0_1 (Host.exp (mulf (broadcastInDim S32x4 ![0, 1] bcast_S1x4_S32x4_0_1 (broadcastInDim S1x4 ![1] bcast_S4_S1x4_1 (Host.negf (Host.exp A)))) (select (cmpf .une (subf Y (broadcastInDim S32x4 ![] bcast_S_S32x4 (constant S_ .f32 0x00000000#32))) (subf Y (broadcastInDim S32x4 ![] bcast_S_S32x4 (constant S_ .f32 0x00000000#32)))) (addf Y (broadcastInDim S32x4 ![] bcast_S_S32x4 (constant S_ .f32 0x00000000#32))) (addf (maximumf Y (broadcastInDim S32x4 ![] bcast_S_S32x4 (constant S_ .f32 0x00000000#32))) (Host.log1p (Host.exp (Host.negf (Host.absf (subf Y (broadcastInDim S32x4 ![] bcast_S_S32x4 (constant S_ .f32 0x00000000#32)))))))))))

/-- The corrections. -/
def rFix (Z : FVec Ideal S32x7680 .f32) (V : FVec Ideal S32x4x128 .f32) (E : FVec Ideal S32x4x1 .f32) (K : FVec Ideal S32x4x128 .f32)
    (D : FVec Ideal S32x4x128x128 .f32) : FVec Ideal S32x4x128 .f32 :=
  mulf (broadcastInDim S32x4x128 ![0, 1, 2] bcast_S32x4x1_S32x4x128_0_1_2 (broadcastInDim S32x4x1 ![0, 1] bcast_S32x4_S32x4x1_0_1 (Host.divf (broadcastInDim S32x4 ![] bcast_S_S32x4 (constant S_ .f32 0x3F800000#32)) (addf (broadcastInDim S32x4 ![] bcast_S_S32x4 (constant S_ .f32 0x3F800000#32)) (Host.exp (Host.negf (extractStridedSlice S32x4 ![0, 7184] Z slices_S32x7680_S32x4_0_7184))))))) (subf V (mulf (broadcastInDim S32x4x128 ![0, 1, 2] bcast_S32x4x1_S32x4x128_0_1_2 E) (Host.dotGeneral dot_S32x4x128_S32x4x128x128_S32x4x128_2_2_n_3_01_01 none K D)))

/-- The attention's outputs. -/
def rOutB (q a k : FVec Ideal S32x4x64 .f32) (v : FVec Ideal S32x4x128 .f32) (S : FVec Ideal S32x4x64x128 .f32) : FVec Ideal S32x1x512 .f32 :=
  shapeCast _ (addf (Host.dotGeneral dot_S32x4x64_S32x4x64x128_S32x4x128_2_2_n_3_01_01 none (mulf q a) S) (mulf (broadcastInDim S32x4x128 ![0, 1, 2] bcast_S32x4x1_S32x4x128_0_1_2 (broadcastInDim S32x4x1 ![0, 1] bcast_S32x4_S32x4x1_0_1 (Host.dotGeneral dot_S32x4x64_S32x4x64_S32x4_2_2_n_n_01_01 none q k))) v)) shapeCasts_S32x4x128_S32x1x512

/-- The attention's next states. -/
def rOutS (a k : FVec Ideal S32x4x64 .f32) (v : FVec Ideal S32x4x128 .f32) (S : FVec Ideal S32x4x64x128 .f32) : FVec Ideal S32x4x64x128 .f32 :=
  addf (mulf (broadcastInDim S32x4x64x128 ![0, 1, 2, 3] bcast_S32x4x64x1_S32x4x64x128_0_1_2_3 (broadcastInDim S32x4x64x1 ![0, 1, 2] bcast_S32x4x64_S32x4x64x1_0_1_2 a)) S) (mulf (broadcastInDim S32x4x64x128 ![0, 1, 2, 3] bcast_S32x4x64x1_S32x4x64x128_0_1_2_3 (broadcastInDim S32x4x64x1 ![0, 1, 2] bcast_S32x4x64_S32x4x64x1_0_1_2 k)) (broadcastInDim S32x4x64x128 ![0, 1, 2, 3] bcast_S32x4x1x128_S32x4x64x128_0_1_2_3 (broadcastInDim S32x4x1x128 ![0, 1, 3] bcast_S32x4x128_S32x4x1x128_0_1_3 v)))

/-- The delta rule's outputs. -/
def rOutC (E : FVec Ideal S32x4x1 .f32) (q k u : FVec Ideal S32x4x128 .f32) (D : FVec Ideal S32x4x128x128 .f32) : FVec Ideal S32x1x512 .f32 :=
  shapeCast _ (addf (mulf (broadcastInDim S32x4x128 ![0, 1, 2] bcast_S32x4x1_S32x4x128_0_1_2 E) (Host.dotGeneral dot_S32x4x128_S32x4x128x128_S32x4x128_2_2_n_3_01_01 none q D)) (mulf (broadcastInDim S32x4x128 ![0, 1, 2] bcast_S32x4x1_S32x4x128_0_1_2 (broadcastInDim S32x4x1 ![0, 1] bcast_S32x4_S32x4x1_0_1 (Host.dotGeneral dot_S32x4x128_S32x4x128_S32x4_2_2_n_n_01_01 none q k))) u)) shapeCasts_S32x4x128_S32x1x512

/-- The delta rule's next states. -/
def rOutD (E : FVec Ideal S32x4x1 .f32) (k u : FVec Ideal S32x4x128 .f32) (D : FVec Ideal S32x4x128x128 .f32) : FVec Ideal S32x4x128x128 .f32 :=
  addf (mulf (broadcastInDim S32x4x128x128 ![0, 1, 2, 3] bcast_S32x4x1x1_S32x4x128x128_0_1_2_3 (broadcastInDim S32x4x1x1 ![0, 1, 2] bcast_S32x4x1_S32x4x1x1_0_1_2 E)) D) (mulf (broadcastInDim S32x4x128x128 ![0, 1, 2, 3] bcast_S32x4x128x1_S32x4x128x128_0_1_2_3 (broadcastInDim S32x4x128x1 ![0, 1, 2] bcast_S32x4x128_S32x4x128x1_0_1_2 k)) (broadcastInDim S32x4x128x128 ![0, 1, 2, 3] bcast_S32x4x1x128_S32x4x128x128_0_1_2_3 (broadcastInDim S32x4x1x128 ![0, 1, 3] bcast_S32x4x128_S32x4x1x128_0_1_3 u)))

/-- The columns kept for the next step. -/
def rOutN (K : FVec Ideal S32x4x1536 .f32) : FVec Ideal S32x3x1536 .f32 :=
  extractStridedSlice S32x3x1536 ![0, 1, 0] K slices_S32x4x1536_S32x3x1536_0_1_0

theorem rZ_apply (Z : FVec Ideal S32x1x7680 .f32) (n : Fin 32) (k : Fin 7680) : (rZ Z (ix2 n k) : EReal) = Z (ix3 n 0 k) := by
  pointwise [rZ]

theorem rSoft_apply (Y : FVec Ideal S32x256 .f32) (n : Fin 32) (k : Fin 256) : (rSoft Y (ix2 n k) : EReal) = softplus (Y (ix2 n k)) := by
  refine Eq.trans ?_ (softplus_eq _)
  pointwise [rSoft]

theorem rScore_apply (Z : FVec Ideal S32x7680 .f32) (W : FVec Ideal S16x256 .f32) (B : FVec Ideal S256 .f32) (n : Fin 32) (k : Fin 256) :
    (rScore Z W B (ix2 n k) : EReal) = -((∑ e : Fin 16, Z (ix2 n (sCol ⟨e.val, by omega⟩)) * W (ix2 e k)) + B (ix1 k)) := by
  pointwise [rScore]
  rfl

theorem rKept_apply (Y : FVec Ideal S32x256 .f32) (n : Fin 32) (h : Fin 4) (r : Fin 64) :
    (rKept Y (ix3 n h r) : EReal) = Ideal.exp (Ideal.div (-(Y (ix2 n (at64 h r)))) (Ideal.ofBits FTy.f32 0x41800000#32)) := by
  have e : at64 h r = ⟨h.val * 64 + r.val, by omega⟩ := Fin.ext (by show 64 * h.val + r.val = h.val * 64 + r.val; omega)
  rw [e]
  pointwise [rKept]

theorem rQ_apply (Z : FVec Ideal S32x7680 .f32) (n : Fin 32) (h : Fin 4) (r : Fin 64) :
    (rQ Z (ix3 n h r) : EReal) = Z (ix2 n (qCol (at64 h r))) * Ideal.ofBits FTy.f32 0x3E000000#32 := by
  have e : at64 h r = ⟨h.val * 64 + r.val, by omega⟩ := Fin.ext (by show 64 * h.val + r.val = h.val * 64 + r.val; omega)
  rw [e]
  pointwise [rQ]
  rfl

theorem rK_apply (Z : FVec Ideal S32x7680 .f32) (n : Fin 32) (h : Fin 4) (r : Fin 64) :
    (rK Z (ix3 n h r) : EReal) = Z (ix2 n (kCol (at64 h r))) := by
  have e : at64 h r = ⟨h.val * 64 + r.val, by omega⟩ := Fin.ext (by show 64 * h.val + r.val = h.val * 64 + r.val; omega)
  rw [e]
  pointwise [rK]
  rfl

theorem rV_apply (Z : FVec Ideal S32x7680 .f32) (n : Fin 32) (h : Fin 4) (d : Fin 128) :
    (rV Z (ix3 n h d) : EReal) = Z (ix2 n (vCol (at128 h d))) := by
  have e : at128 h d = ⟨h.val * 128 + d.val, by omega⟩ := Fin.ext (by show 128 * h.val + d.val = h.val * 128 + d.val; omega)
  rw [e]
  pointwise [rV]
  rfl

theorem rCat_apply (C : FVec Ideal S32x3x1536 .f32) (Z : FVec Ideal S32x7680 .f32) (n : Fin 32) (j : Fin 4) (r : Fin 1536) :
    (rCat C Z (ix3 n j r) : EReal) = if h : j.val < 3 then C (ix3 n ⟨j.val, h⟩ r) else Z (ix2 n (cCol r)) := by
  pointwise [rCat]
  rfl

theorem rConv_apply (K : FVec Ideal S32x4x1536 .f32) (U : FVec Ideal S4x1536 .f32) (n : Fin 32) (r : Fin 1536) :
    (rConv K U (ix2 n r) : EReal) = K (ix3 n 0 r) * U (ix2 0 r) + K (ix3 n 1 r) * U (ix2 1 r) + K (ix3 n 2 r) * U (ix2 2 r) + K (ix3 n 3 r) * U (ix2 3 r) := by
  pointwise [rConv]
  try simp only [Ideal.ofBits_zero, zero_add]

theorem rSwish_apply (X : FVec Ideal S32x1536 .f32) (n : Fin 32) (r : Fin 1536) : (rSwish X (ix2 n r) : EReal) = swished (X (ix2 n r)) := by
  pointwise [rSwish]
  rfl

theorem rHead0_apply (X : FVec Ideal S32x1536 .f32) (n : Fin 32) (h : Fin 4) (d : Fin 128) : (rHead0 X (ix3 n h d) : EReal) = X (ix2 n (cAt 0 h d)) := by
  pointwise [rHead0]
  first | rfl | (unfold cAt; congr 2; refine Fin.ext ?_; simp; try omega)
theorem rHead1_apply (X : FVec Ideal S32x1536 .f32) (n : Fin 32) (h : Fin 4) (d : Fin 128) : (rHead1 X (ix3 n h d) : EReal) = X (ix2 n (cAt 1 h d)) := by
  pointwise [rHead1]
  first | rfl | (unfold cAt; congr 2; refine Fin.ext ?_; simp; try omega)
theorem rHead2_apply (X : FVec Ideal S32x1536 .f32) (n : Fin 32) (h : Fin 4) (d : Fin 128) : (rHead2 X (ix3 n h d) : EReal) = X (ix2 n (cAt 2 h d)) := by
  pointwise [rHead2]
  first | rfl | (unfold cAt; congr 2; refine Fin.ext ?_; simp; try omega)

theorem rUnit_apply (Y : FVec Ideal S32x4x128 .f32) (n : Fin 32) (h : Fin 4) (d : Fin 128) :
    (rUnit Y (ix3 n h d) : EReal) = unit (fun r => Y (ix3 n h r)) d := by
  pointwise [rUnit]
  rfl

theorem rScaled_apply (Y : FVec Ideal S32x4x128 .f32) (n : Fin 32) (h : Fin 4) (d : Fin 128) :
    (rScaled Y (ix3 n h d) : EReal) = Y (ix3 n h d) * Ideal.ofBits FTy.f32 0x3DB504F3#32 := by
  pointwise [rScaled]

theorem rFade_apply (Z : FVec Ideal S32x7680 .f32) (T A : FVec Ideal S4 .f32) (n : Fin 32) (h : Fin 4) :
    (rFade (rOffset Z T) A (ix3 n h 0) : EReal) = fade (A (ix1 h)) (T (ix1 h)) (Z (ix2 n (sCol (aAt h)))) := by
  have e : (rOffset Z T (ix2 n h) : EReal) = Z (ix2 n (sCol (aAt h))) + T (ix1 h) := by
    pointwise [rOffset]
    exact congrArg (fun k => Z (ix2 n k) + T (ix1 h)) (Fin.ext (by show 7188 + h.val = 7168 + (20 + h.val); omega))
  rw [← fade_eq, ← e, ← softplus_eq]
  generalize rOffset Z T = Y
  pointwise [rFade]

theorem rFix_apply (Z : FVec Ideal S32x7680 .f32) (V : FVec Ideal S32x4x128 .f32) (E : FVec Ideal S32x4x1 .f32) (K : FVec Ideal S32x4x128 .f32)
    (D : FVec Ideal S32x4x128x128 .f32) (n : Fin 32) (h : Fin 4) (d : Fin 128) :
    (rFix Z V E K D (ix3 n h d) : EReal) = correction (Ideal.logistic (Z (ix2 n (sCol (bAt h))))) (E (ix3 n h 0)) (fun r => K (ix3 n h r))
      (fun d => V (ix3 n h d)) (fun r d => D (ix4 n h r d)) d := by
  have e : sCol (bAt h) = ⟨7184 + h.val, by omega⟩ := Fin.ext (by show 7168 + (16 + h.val) = 7184 + h.val; omega)
  rw [e]
  pointwise [rFix]
  rfl

theorem rOutB_apply (q a k : FVec Ideal S32x4x64 .f32) (v : FVec Ideal S32x4x128 .f32) (S : FVec Ideal S32x4x64x128 .f32) (n : Fin 32) (k' : Fin 512) :
    (rOutB q a k v S (ix3 n 0 k') : EReal) = attend (fun r => q (ix3 n (headOf k') r)) (fun r => k (ix3 n (headOf k') r)) (fun r => a (ix3 n (headOf k') r))
      (fun d => v (ix3 n (headOf k') d)) (fun r d => S (ix4 n (headOf k') r d)) (laneOf k') := by
  pointwise [rOutB]
  rfl

theorem rOutS_apply (a k : FVec Ideal S32x4x64 .f32) (v : FVec Ideal S32x4x128 .f32) (S : FVec Ideal S32x4x64x128 .f32) (n : Fin 32) (h : Fin 4) (r : Fin 64) (d : Fin 128) :
    (rOutS a k v S (ix4 n h r d) : EReal) = attended (fun r => k (ix3 n h r)) (fun r => a (ix3 n h r)) (fun d => v (ix3 n h d)) (fun r d => S (ix4 n h r d)) r d := by
  pointwise [rOutS]
  rfl

theorem rOutC_apply (E : FVec Ideal S32x4x1 .f32) (q k u : FVec Ideal S32x4x128 .f32) (D : FVec Ideal S32x4x128x128 .f32) (n : Fin 32) (k' : Fin 512) :
    (rOutC E q k u D (ix3 n 0 k') : EReal) = E (ix3 n (headOf k') 0) * (∑ r, q (ix3 n (headOf k') r) * D (ix4 n (headOf k') r (laneOf k')))
      + (∑ r, q (ix3 n (headOf k') r) * k (ix3 n (headOf k') r)) * u (ix3 n (headOf k') (laneOf k')) := by
  pointwise [rOutC]
  rfl

theorem rOutD_apply (E : FVec Ideal S32x4x1 .f32) (k u : FVec Ideal S32x4x128 .f32) (D : FVec Ideal S32x4x128x128 .f32) (n : Fin 32) (h : Fin 4) (r d : Fin 128) :
    (rOutD E k u D (ix4 n h r d) : EReal) = E (ix3 n h 0) * D (ix4 n h r d) + k (ix3 n h r) * u (ix3 n h d) := by
  pointwise [rOutD]

theorem rOutN_apply (K : FVec Ideal S32x4x1536 .f32) (n : Fin 32) (j : Fin 3) (r : Fin 1536) :
    (rOutN K (ix3 n j r) : EReal) = K (ix3 n ⟨1 + j.val, by omega⟩ r) := by
  pointwise [rOutN]

/-- The shares of the attention's state kept, from the launched arrays. -/
theorem kept_at (Z : FVec Ideal S32x1x7680 .f32) (W : FVec Ideal S16x256 .f32) (B : FVec Ideal S256 .f32) (n : Fin 32) (h : Fin 4) (r : Fin 64) :
    (rKept (rSoft (rScore (rZ Z) W B)) (ix3 n h r) : EReal) = keptOf Z W B n (at64 h r) := by
  rw [rKept_apply, rSoft_apply, rScore_apply, decay_eq]
  simp only [rZ_apply]
  rfl

/-- The convolved columns, from the launched arrays. -/
theorem conv_at (Z : FVec Ideal S32x1x7680 .f32) (C : FVec Ideal S32x3x1536 .f32) (U : FVec Ideal S4x1536 .f32) (n : Fin 32) (r : Fin 1536) :
    (rSwish (rConv (rCat C (rZ Z)) U) (ix2 n r) : EReal) = convOf Z C U n r := by
  rw [rSwish_apply, rConv_apply]
  simp only [rCat_apply, rZ_apply]
  rfl

/-- The reference's outputs of the attention are the step's. -/
theorem stagedB (Z : FVec Ideal S32x1x7680 .f32) (S : FVec Ideal S32x4x64x128 .f32) (W : FVec Ideal S16x256 .f32) (B : FVec Ideal S256 .f32) :
    rOutB (rQ (rZ Z)) (rKept (rSoft (rScore (rZ Z) W B))) (rK (rZ Z)) (rV (rZ Z)) S = outB Z S W B := by
  have h : ∀ (n : Fin 32) (k : Fin 512), (rOutB (rQ (rZ Z)) (rKept (rSoft (rScore (rZ Z) W B))) (rK (rZ Z)) (rV (rZ Z)) S (ix3 n 0 k) : EReal)
      = outB Z S W B (ix3 n 0 k) := fun n k => by
    rw [rOutB_apply]
    simp only [kept_at, rQ_apply, rK_apply, rV_apply, rZ_apply]
    rfl
  refine funext fun i => ?_
  have hi : i = ix3 (i 0) 0 (i 2) := by
    refine funext fun a => ?_
    match a with
    | ⟨0, _⟩ => rfl
    | ⟨1, _⟩ => exact Fin.ext (by have : (i 1).val < 1 := (i 1).isLt; show (i 1).val = 0; omega)
    | ⟨2, _⟩ => rfl
  rw [hi]
  exact h (i 0) (i 2)

/-- The reference's next states of the attention are the step's. -/
theorem stagedS (Z : FVec Ideal S32x1x7680 .f32) (S : FVec Ideal S32x4x64x128 .f32) (W : FVec Ideal S16x256 .f32) (B : FVec Ideal S256 .f32) :
    rOutS (rKept (rSoft (rScore (rZ Z) W B))) (rK (rZ Z)) (rV (rZ Z)) S = outS Z S W B := by
  have h : ∀ (n : Fin 32) (h : Fin 4) (r : Fin 64) (d : Fin 128), (rOutS (rKept (rSoft (rScore (rZ Z) W B))) (rK (rZ Z)) (rV (rZ Z)) S (ix4 n h r d) : EReal)
      = outS Z S W B (ix4 n h r d) := fun n h r d => by
    rw [rOutS_apply]
    simp only [kept_at, rK_apply, rV_apply, rZ_apply]
    rfl
  refine funext fun i => ?_
  have hi : i = ix4 (i 0) (i 1) (i 2) (i 3) := by
    refine funext fun a => ?_
    match a with
    | ⟨0, _⟩ => rfl
    | ⟨1, _⟩ => rfl
    | ⟨2, _⟩ => rfl
    | ⟨3, _⟩ => rfl
  rw [hi]
  exact h (i 0) (i 1) (i 2) (i 3)

/-- The delta rule's correction, from the launched arrays. -/
theorem fix_at (Z : FVec Ideal S32x1x7680 .f32) (C : FVec Ideal S32x3x1536 .f32) (D : FVec Ideal S32x4x128x128 .f32)
    (U : FVec Ideal S4x1536 .f32) (T A : FVec Ideal S4 .f32) (n : Fin 32) (h : Fin 4) (d : Fin 128) :
    (rFix (rZ Z) (rHead2 (rSwish (rConv (rCat C (rZ Z)) U))) (rFade (rOffset (rZ Z) T) A) (rUnit (rHead1 (rSwish (rConv (rCat C (rZ Z)) U)))) D (ix3 n h d) : EReal)
      = correction (Ideal.logistic (Z (ix3 n 0 (sCol (bAt h))))) (fadeOf Z T A n h) (unit fun r => convOf Z C U n (cAt 1 h r))
          (fun d => convOf Z C U n (cAt 2 h d)) (fun r d => D (ix4 n h r d)) d := by
  rw [rFix_apply]
  simp only [rFade_apply, rUnit_apply, rHead1_apply, rHead2_apply, conv_at, rZ_apply]
  rfl

/-- The reference's outputs of the delta rule are the step's. -/
theorem stagedC (Z : FVec Ideal S32x1x7680 .f32) (C : FVec Ideal S32x3x1536 .f32) (D : FVec Ideal S32x4x128x128 .f32)
    (U : FVec Ideal S4x1536 .f32) (T A : FVec Ideal S4 .f32) :
    rOutC (rFade (rOffset (rZ Z) T) A) (rScaled (rUnit (rHead0 (rSwish (rConv (rCat C (rZ Z)) U))))) (rUnit (rHead1 (rSwish (rConv (rCat C (rZ Z)) U))))
      (rFix (rZ Z) (rHead2 (rSwish (rConv (rCat C (rZ Z)) U))) (rFade (rOffset (rZ Z) T) A) (rUnit (rHead1 (rSwish (rConv (rCat C (rZ Z)) U)))) D) D
      = outC Z C D U T A := by
  have h : ∀ (n : Fin 32) (k : Fin 512), (rOutC (rFade (rOffset (rZ Z) T) A) (rScaled (rUnit (rHead0 (rSwish (rConv (rCat C (rZ Z)) U))))) (rUnit (rHead1 (rSwish (rConv (rCat C (rZ Z)) U))))
      (rFix (rZ Z) (rHead2 (rSwish (rConv (rCat C (rZ Z)) U))) (rFade (rOffset (rZ Z) T) A) (rUnit (rHead1 (rSwish (rConv (rCat C (rZ Z)) U)))) D) D (ix3 n 0 k) : EReal)
      = outC Z C D U T A (ix3 n 0 k) := fun n k => by
    rw [rOutC_apply]
    simp only [fix_at, rFade_apply, rScaled_apply, rUnit_apply, rHead0_apply, rHead1_apply, conv_at, rZ_apply]
    rfl
  refine funext fun i => ?_
  have hi : i = ix3 (i 0) 0 (i 2) := by
    refine funext fun a => ?_
    match a with
    | ⟨0, _⟩ => rfl
    | ⟨1, _⟩ => exact Fin.ext (by have : (i 1).val < 1 := (i 1).isLt; show (i 1).val = 0; omega)
    | ⟨2, _⟩ => rfl
  rw [hi]
  exact h (i 0) (i 2)

/-- The reference's next states of the delta rule are the step's. -/
theorem stagedD (Z : FVec Ideal S32x1x7680 .f32) (C : FVec Ideal S32x3x1536 .f32) (D : FVec Ideal S32x4x128x128 .f32)
    (U : FVec Ideal S4x1536 .f32) (T A : FVec Ideal S4 .f32) :
    rOutD (rFade (rOffset (rZ Z) T) A) (rUnit (rHead1 (rSwish (rConv (rCat C (rZ Z)) U))))
      (rFix (rZ Z) (rHead2 (rSwish (rConv (rCat C (rZ Z)) U))) (rFade (rOffset (rZ Z) T) A) (rUnit (rHead1 (rSwish (rConv (rCat C (rZ Z)) U)))) D) D
      = outD Z C D U T A := by
  have h : ∀ (n : Fin 32) (h : Fin 4) (r d : Fin 128), (rOutD (rFade (rOffset (rZ Z) T) A) (rUnit (rHead1 (rSwish (rConv (rCat C (rZ Z)) U))))
      (rFix (rZ Z) (rHead2 (rSwish (rConv (rCat C (rZ Z)) U))) (rFade (rOffset (rZ Z) T) A) (rUnit (rHead1 (rSwish (rConv (rCat C (rZ Z)) U)))) D) D (ix4 n h r d) : EReal)
      = outD Z C D U T A (ix4 n h r d) := fun n h r d => by
    rw [rOutD_apply]
    simp only [fix_at, rFade_apply, rUnit_apply, rHead1_apply, conv_at, rZ_apply]
    rfl
  refine funext fun i => ?_
  have hi : i = ix4 (i 0) (i 1) (i 2) (i 3) := by
    refine funext fun a => ?_
    match a with
    | ⟨0, _⟩ => rfl
    | ⟨1, _⟩ => rfl
    | ⟨2, _⟩ => rfl
    | ⟨3, _⟩ => rfl
  rw [hi]
  exact h (i 0) (i 1) (i 2) (i 3)

/-- The reference's columns kept are the step's. -/
theorem stagedN (Z : FVec Ideal S32x1x7680 .f32) (C : FVec Ideal S32x3x1536 .f32) : rOutN (rCat C (rZ Z)) = outN Z C := by
  have h : ∀ (n : Fin 32) (j : Fin 3) (r : Fin 1536), (rOutN (rCat C (rZ Z)) (ix3 n j r) : EReal) = outN Z C (ix3 n j r) := fun n j r => by
    rw [rOutN_apply, rCat_apply]
    simp only [rZ_apply]
    rfl
  refine funext fun i => ?_
  have hi : i = ix3 (i 0) (i 1) (i 2) := by
    refine funext fun a => ?_
    match a with
    | ⟨0, _⟩ => rfl
    | ⟨1, _⟩ => rfl
    | ⟨2, _⟩ => rfl
  rw [hi]
  exact h (i 0) (i 1) (i 2)

/-- The reference ends with one step of the two recurrent branches. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v139) = outB (m ((c.tc : Thread nD τ).loc main_arg0))
        (m ((c.tc : Thread nD τ).loc main_arg2)) (m ((c.tc : Thread nD τ).loc main_arg4)) (m ((c.tc : Thread nD τ).loc main_arg5))
      ∧ r.2.mem ((c.tc : Thread nD τ).loc main_v140) = outC (m ((c.tc : Thread nD τ).loc main_arg0))
        (m ((c.tc : Thread nD τ).loc main_arg1)) (m ((c.tc : Thread nD τ).loc main_arg3)) (m ((c.tc : Thread nD τ).loc main_arg6))
        (m ((c.tc : Thread nD τ).loc main_arg7)) (m ((c.tc : Thread nD τ).loc main_arg8))
      ∧ r.2.mem ((c.tc : Thread nD τ).loc main_v141) = outN (m ((c.tc : Thread nD τ).loc main_arg0)) (m ((c.tc : Thread nD τ).loc main_arg1))
      ∧ r.2.mem ((c.tc : Thread nD τ).loc main_v37) = outS (m ((c.tc : Thread nD τ).loc main_arg0))
        (m ((c.tc : Thread nD τ).loc main_arg2)) (m ((c.tc : Thread nD τ).loc main_arg4)) (m ((c.tc : Thread nD τ).loc main_arg5))
      ∧ r.2.mem ((c.tc : Thread nD τ).loc main_v138) = outD (m ((c.tc : Thread nD τ).loc main_arg0))
        (m ((c.tc : Thread nD τ).loc main_arg1)) (m ((c.tc : Thread nD τ).loc main_arg3)) (m ((c.tc : Thread nD τ).loc main_arg6))
        (m ((c.tc : Thread nD τ).loc main_arg7)) (m ((c.tc : Thread nD τ).loc main_arg8)) :=
  (θ_run defs _ _).mono (fun r h c => ⟨(h c).1.trans (stagedB _ _ _ _), (h c).2.1.trans (stagedC _ _ _ _ _ _), (h c).2.2.1.trans (stagedN _ _),
    (h c).2.2.2.1.trans (stagedS _ _ _ _), (h c).2.2.2.2.1.trans (stagedD _ _ _ _ _ _)⟩) (Value.run m ρ)

end Cert.Reference7Ideal.Step
-- ==== Proof.Window.Terms.lean ====
module

public import proofs.«01_k».proof.Proof.Gen.Kernel8Ideal.Skeleton
public import proofs.«01_k».proof.Proof.Proj.Columns

/-! The last place of the windows: the column a point writes there. -/

@[expose] public section

set_option maxRecDepth 16384

noncomputable section

namespace Cert.Kernel8Ideal.Window

open Idealize.ShloMosaic Idealize.ShloMosaic.TcCoe Idealize.SL.Sem
open Cert.Kernel8Ideal Cert.Kernel8Ideal.Gen Cert.Moe Cert.Kernel2Ideal.Proj

/-- A sum of terms of which only the one on the diagonal stays is that term. -/
theorem diag512 (f : Fin 512 → EReal) (x : Fin 512) :
    (∑ y : Fin 512, Scalar.select (IntOp.cmpi CmpIPredicate.eq (BitVec.ofNat 32 x.val) (BitVec.ofNat 32 y.val)) (f y) 0) = f x := by
  rw [Finset.sum_eq_single x]
  · simp [Scalar.select, IntOp.cmpi]
  · intro y _ hy
    have hne : (BitVec.ofNat 32 x.val : BitVec 32) ≠ BitVec.ofNat 32 y.val := by
      intro h
      have := congrArg BitVec.toNat h
      simp only [BitVec.toNat_ofNat] at this
      exact hy (Fin.ext (by omega))
    unfold Scalar.select
    rw [if_neg]
    have hf : (BitVec.ofNat 32 x.val == BitVec.ofNat 32 y.val) = false := beq_eq_false_iff_ne.mpr hne
    simp only [IntOp.cmpi, hf]
    decide
  · intro h; exact absurd (Finset.mem_univ x) h

/-- Which places belong to a head. -/
theorem heads (h : Fin 8) (k : Fin 512) : k0_pay78 (ix2 h k) = if k.val / 64 = h.val then 1#1 else 0#1 :=
  (by decide +kernel : ∀ (h : Fin 8) (k : Fin 512), k0_pay78 (ix2 h k) = if k.val / 64 = h.val then 1#1 else 0#1) h k

/-- Which place is the last. -/
theorem last (w : Fin 128) : k0_pay79 (ix2 0 w) = if w.val = 127 then 1#1 else 0#1 :=
  (by decide +kernel : ∀ w : Fin 128, k0_pay79 (ix2 0 w) = if w.val = 127 then 1#1 else 0#1) w

/-- The place of lane `e` of the head that place `k` lies in. -/
def mate (k : Fin 512) (e : Fin 64) : Fin 512 := ⟨k.val / 64 * 64 + e.val, by omega⟩

/-- A place over the root of the mean square of its head, by the gain. -/
def keyed (x g : Fin 512 → EReal) (k : Fin 512) : EReal :=
  x k * Ideal.rsqrt ((∑ e, x (mate k e) * x (mate k e)) * Ideal.ofBits FTy.f32 0x3C800000#32 + Ideal.ofBits FTy.f32 0x358637BD#32) * g k

/-- The column of place `k` of the keys of group `g`. -/
def kCol (g : Fin 3) (k : Fin 512) : Fin 7680 := ⟨1536 + 512 * g.val + k.val, by omega⟩
/-- The column of place `k` of the values of group `g`. -/
def vCol (g : Fin 3) (k : Fin 512) : Fin 7680 := ⟨3072 + 512 * g.val + k.val, by omega⟩
/-- The lane of a place in its head. -/
def laneOf (k : Fin 512) : Fin 64 := ⟨k.val % 64, by omega⟩

/-- A sequence's new key or value of group `g` at place `k`. -/
def newAt (Z : FVec Ideal S32x1x7680 .f32) (G : FVec Ideal S64 .f32) (g : Fin 3) (n : Fin 32) (p : Fin 2) (k : Fin 512) : EReal :=
  if p.val = 0 then keyed (fun j => Z (ix3 n 0 (kCol g j))) (fun j => G (ix1 (laneOf j))) k else Z (ix3 n 0 (vCol g k))

/-- The first window with the new keys and values at the second layer's last place. -/
def outA (Z : FVec Ideal S32x1x7680 .f32) (G : FVec Ideal S64 .f32) (W : FVec Ideal S2x32x2x512x128 .f32) : FVec Ideal S2x32x2x512x128 .f32 := fun i =>
  if (i 0).val = 1 ∧ (i 4).val = 127 then newAt Z G 0 (i 1) (i 2) (i 3) else W i
/-- The second window with the new keys and values at the second layer's last place. -/
def outB (Z : FVec Ideal S32x1x7680 .f32) (G : FVec Ideal S64 .f32) (W : FVec Ideal S2x32x2x512x512 .f32) : FVec Ideal S2x32x2x512x512 .f32 := fun i =>
  if (i 0).val = 1 ∧ (i 4).val = 511 then newAt Z G 1 (i 1) (i 2) (i 3) else W i
/-- The third window with the new keys and values at the second layer's last place. -/
def outC (Z : FVec Ideal S32x1x7680 .f32) (G : FVec Ideal S64 .f32) (W : FVec Ideal S2x32x2x512x2048 .f32) : FVec Ideal S2x32x2x512x2048 .f32 := fun i =>
  if (i 0).val = 1 ∧ (i 4).val = 2047 then newAt Z G 2 (i 1) (i 2) (i 3) else W i

/-- Sums over the heads' places, each kept at its head's places, read at a place. -/
theorem headSum (f : Fin 512 → EReal) (k : Fin 512) :
    (∑ h : Fin 8, Scalar.select (k0_pay78 (ix2 h k)) (∑ j : Fin 512, Scalar.select (k0_pay78 (ix2 h j)) (f j) 0) 0) = ∑ e, f (mate k e) := by
  have hk : k.val / 64 < 8 := by omega
  rw [Finset.sum_eq_single (⟨k.val / 64, hk⟩ : Fin 8)]
  · rw [heads, if_pos rfl]
    show (∑ j : Fin 512, Scalar.select (k0_pay78 (ix2 (⟨k.val / 64, hk⟩ : Fin 8) j)) (f j) 0) = ∑ e, f (mate k e)
    refine (Finset.sum_subset (M := EReal) (Finset.subset_univ (Finset.univ.image (mate k))) ?_).symm.trans ?_
    · intro j _ hj
      have : ¬ j.val / 64 = k.val / 64 := fun e => hj (Finset.mem_image.mpr ⟨⟨j.val % 64, by omega⟩, Finset.mem_univ _,
        Fin.ext (by show k.val / 64 * 64 + j.val % 64 = j.val; omega)⟩)
      rw [heads, if_neg this]
      rfl
    · refine (Finset.sum_image (fun a _ b _ h => Fin.ext ?_)).trans ?_
      · have h : k.val / 64 * 64 + a.val = k.val / 64 * 64 + b.val := congrArg (fun x : Fin 512 => x.val) h
        omega
      · refine Finset.sum_congr rfl fun e _ => ?_
        rw [heads, if_pos (by show (k.val / 64 * 64 + e.val) / 64 = k.val / 64; omega)]
        rfl
  · intro h _ hh
    rw [heads, if_neg (fun e => hh (Fin.ext e.symm))]
    rfl
  · intro h; exact absurd (Finset.mem_univ _) h

/-- The first group's normalised keys, read. -/
theorem key0 (x : FVec Ideal S1x1x512 .f32) (g : FVec Ideal S1x512 .f32) (k : Fin 512) :
    (k0_pay11 (F := Ideal) k0_pay78 (k0_pay6 x) (k0_pay8 g) (k0_pay9 k0_pay78 x) (k0_pay10 (F := Ideal)) (ix2 0 k) : EReal)
      = keyed (fun k => x (ix3 0 0 k)) (fun k => g (ix2 0 k)) k := by
  unfold keyed
  rw [← headSum (fun j => x (ix3 0 0 j) * x (ix3 0 0 j)) k]
  pointwise [k0_pay6, k0_pay8, k0_pay9, k0_pay10, k0_pay11]

/-- The first group's column of keys, read. -/
theorem col0 (x : FVec Ideal S1x512 .f32) (k : Fin 512) : (k0_pay21 (F := Ideal) x (ix2 k 0) : EReal) = x (ix2 0 k) := by
  rw [← diag512 (fun k => x (ix2 0 k)) k]
  pointwise [k0_pay21]

/-- The first group's column of values, read. -/
theorem val0 (x : FVec Ideal S1x1x512 .f32) (k : Fin 512) : (k0_pay29 (F := Ideal) (k0_pay22 x) (ix2 k 0) : EReal) = x (ix3 0 0 k) := by
  rw [← diag512 (fun k => x (ix3 0 0 k)) k]
  pointwise [k0_pay22, k0_pay29]

/-- The first group's keys put at the last place, read. -/
theorem keys0 (x : FVec Ideal S512x1 .f32) (y : FVec Ideal S1x1x1x512x128 .f32) (k : Fin 512) (w : Fin 128) :
    (k0_pay80 (F := Ideal) x y (ix5 0 0 0 k w) : EReal) = if w.val = 127 then x (ix2 k 0) else y (ix5 0 0 0 k w) := by
  have e : (k0_pay80 (F := Ideal) x y (ix5 0 0 0 k w) : EReal) = Scalar.select (k0_pay79 (ix2 0 w)) (x (ix2 k 0)) (y (ix5 0 0 0 k w)) := by
    pointwise [k0_pay80]
  rw [e, last]
  split <;> rfl

/-- The first group's values put at the last place, read. -/
theorem values0 (x : FVec Ideal S512x1 .f32) (y : FVec Ideal S1x1x1x512x128 .f32) (k : Fin 512) (w : Fin 128) :
    (k0_pay81 (F := Ideal) x y (ix5 0 0 0 k w) : EReal) = if w.val = 127 then x (ix2 k 0) else y (ix5 0 0 0 k w) := by
  have e : (k0_pay81 (F := Ideal) x y (ix5 0 0 0 k w) : EReal) = Scalar.select (k0_pay79 (ix2 0 w)) (x (ix2 k 0)) (y (ix5 0 0 0 k w)) := by
    pointwise [k0_pay81]
  rw [e, last]
  split <;> rfl

/-- The second group's normalised keys, read. -/
theorem key1 (x : FVec Ideal S1x1x512 .f32) (g : FVec Ideal S1x512 .f32) (k : Fin 512) :
    (k0_pay35 (F := Ideal) k0_pay78 (k0_pay30 x) (k0_pay32 g) (k0_pay33 k0_pay78 x) (k0_pay34 (F := Ideal)) (ix2 0 k) : EReal)
      = keyed (fun k => x (ix3 0 0 k)) (fun k => g (ix2 0 k)) k := by
  unfold keyed
  rw [← headSum (fun j => x (ix3 0 0 j) * x (ix3 0 0 j)) k]
  pointwise [k0_pay30, k0_pay32, k0_pay33, k0_pay34, k0_pay35]

/-- The second group's column of keys, read. -/
theorem col1 (x : FVec Ideal S1x512 .f32) (k : Fin 512) : (k0_pay45 (F := Ideal) x (ix2 k 0) : EReal) = x (ix2 0 k) := by
  rw [← diag512 (fun k => x (ix2 0 k)) k]
  pointwise [k0_pay45]

/-- The second group's column of values, read. -/
theorem val1 (x : FVec Ideal S1x1x512 .f32) (k : Fin 512) : (k0_pay53 (F := Ideal) (k0_pay46 x) (ix2 k 0) : EReal) = x (ix3 0 0 k) := by
  rw [← diag512 (fun k => x (ix3 0 0 k)) k]
  pointwise [k0_pay46, k0_pay53]

/-- The second group's keys put at the last place, read. -/
theorem keys1 (x : FVec Ideal S512x1 .f32) (y : FVec Ideal S1x1x1x512x128 .f32) (k : Fin 512) (w : Fin 128) :
    (k0_pay1 (F := Ideal) k0_pay79 x y (ix5 0 0 0 k w) : EReal) = if w.val = 127 then x (ix2 k 0) else y (ix5 0 0 0 k w) := by
  have e : (k0_pay1 (F := Ideal) k0_pay79 x y (ix5 0 0 0 k w) : EReal) = Scalar.select (k0_pay79 (ix2 0 w)) (x (ix2 k 0)) (y (ix5 0 0 0 k w)) := by
    pointwise [k0_pay1]
  rw [e, last]
  split <;> rfl

/-- The second group's values put at the last place, read. -/
theorem values1 (x : FVec Ideal S512x1 .f32) (y : FVec Ideal S1x1x1x512x128 .f32) (k : Fin 512) (w : Fin 128) :
    (k0_pay2 (F := Ideal) k0_pay79 x y (ix5 0 0 0 k w) : EReal) = if w.val = 127 then x (ix2 k 0) else y (ix5 0 0 0 k w) := by
  have e : (k0_pay2 (F := Ideal) k0_pay79 x y (ix5 0 0 0 k w) : EReal) = Scalar.select (k0_pay79 (ix2 0 w)) (x (ix2 k 0)) (y (ix5 0 0 0 k w)) := by
    pointwise [k0_pay2]
  rw [e, last]
  split <;> rfl

/-- The third group's normalised keys, read. -/
theorem key2 (x : FVec Ideal S1x1x512 .f32) (g : FVec Ideal S1x512 .f32) (k : Fin 512) :
    (k0_pay59 (F := Ideal) k0_pay78 (k0_pay54 x) (k0_pay56 g) (k0_pay57 k0_pay78 x) (k0_pay58 (F := Ideal)) (ix2 0 k) : EReal)
      = keyed (fun k => x (ix3 0 0 k)) (fun k => g (ix2 0 k)) k := by
  unfold keyed
  rw [← headSum (fun j => x (ix3 0 0 j) * x (ix3 0 0 j)) k]
  pointwise [k0_pay54, k0_pay56, k0_pay57, k0_pay58, k0_pay59]

/-- The third group's column of keys, read. -/
theorem col2 (x : FVec Ideal S1x512 .f32) (k : Fin 512) : (k0_pay69 (F := Ideal) x (ix2 k 0) : EReal) = x (ix2 0 k) := by
  rw [← diag512 (fun k => x (ix2 0 k)) k]
  pointwise [k0_pay69]

/-- The third group's column of values, read. -/
theorem val2 (x : FVec Ideal S1x1x512 .f32) (k : Fin 512) : (k0_pay77 (F := Ideal) (k0_pay70 x) (ix2 k 0) : EReal) = x (ix3 0 0 k) := by
  rw [← diag512 (fun k => x (ix3 0 0 k)) k]
  pointwise [k0_pay70, k0_pay77]

/-- The third group's keys put at the last place, read. -/
theorem keys2 (x : FVec Ideal S512x1 .f32) (y : FVec Ideal S1x1x1x512x128 .f32) (k : Fin 512) (w : Fin 128) :
    (k0_pay3 (F := Ideal) k0_pay79 x y (ix5 0 0 0 k w) : EReal) = if w.val = 127 then x (ix2 k 0) else y (ix5 0 0 0 k w) := by
  have e : (k0_pay3 (F := Ideal) k0_pay79 x y (ix5 0 0 0 k w) : EReal) = Scalar.select (k0_pay79 (ix2 0 w)) (x (ix2 k 0)) (y (ix5 0 0 0 k w)) := by
    pointwise [k0_pay3]
  rw [e, last]
  split <;> rfl

/-- The third group's values put at the last place, read. -/
theorem values2 (x : FVec Ideal S512x1 .f32) (y : FVec Ideal S1x1x1x512x128 .f32) (k : Fin 512) (w : Fin 128) :
    (k0_pay4 (F := Ideal) k0_pay79 x y (ix5 0 0 0 k w) : EReal) = if w.val = 127 then x (ix2 k 0) else y (ix5 0 0 0 k w) := by
  have e : (k0_pay4 (F := Ideal) k0_pay79 x y (ix5 0 0 0 k w) : EReal) = Scalar.select (k0_pay79 (ix2 0 w)) (x (ix2 k 0)) (y (ix5 0 0 0 k w)) := by
    pointwise [k0_pay4]
  rw [e, last]
  split <;> rfl

end Cert.Kernel8Ideal.Window
-- ==== Proof.Window.Value.lean ====
module

public import proofs.«01_k».proof.Proof.Gen.Kernel8Ideal.Value
public import proofs.«01_k».proof.Proof.Window.Terms

/-! The windows of the sampled sequences: the arrays the run ends with. -/

@[expose] public section

set_option maxRecDepth 16384

noncomputable section

namespace Cert.Kernel8Ideal.Window

open Idealize.ShloMosaic Idealize.ShloMosaic.TcCoe Idealize.SL.Sem
open Idealize.ShloMosaic.Pipeline (Dat)
open Cert.Kernel8Ideal Cert.Kernel8Ideal.Gen Cert.Moe

variable (m : (ℓ : Loc nD τ sig) → Buf (Elt Ideal) ℓ)

/-- The block index of the windows read for the new columns, at every point. -/
theorem idx_val : ∀ t : Fin cfg0.N, win0_0.index t = ![t.val / 2, 0, 0] ∧ win0_2.index t = ![0, 0]
    ∧ win0_10.index t = ![1, t.val / 2, t.val % 2, 0, 0] ∧ win0_11.index t = ![1, t.val / 2, t.val % 2, 0, 3]
    ∧ win0_12.index t = ![1, t.val / 2, t.val % 2, 0, 15] ∧ win0_14.index t = ![1, t.val / 2, t.val % 2, 0, 0]
    ∧ win0_15.index t = ![1, t.val / 2, t.val % 2, 0, 3] ∧ win0_16.index t = ![1, t.val / 2, t.val % 2, 0, 15] :=
  (by decide +kernel : ∀ t : Fin grid0.N, _)

/-- The number of grid points. -/
theorem points (t : Fin cfg0.N) : t.val < 64 := lt_of_lt_of_eq t.isLt N_0

/-- The projected columns as launched. -/
abbrev aZ (c : Dev nD) : FVec Ideal S32x1x7680 .f32 := m ((c : Thread nD τ).loc main_arg0)
/-- The keys' gain as launched. -/
abbrev aG (c : Dev nD) : FVec Ideal S64 .f32 := m ((c : Thread nD τ).loc main_arg5)
/-- The first window as launched. -/
abbrev aA (c : Dev nD) : FVec Ideal S2x32x2x512x128 .f32 := m ((c : Thread nD τ).loc main_arg10)
/-- The second window as launched. -/
abbrev aB (c : Dev nD) : FVec Ideal S2x32x2x512x512 .f32 := m ((c : Thread nD τ).loc main_arg11)
/-- The third window as launched. -/
abbrev aC (c : Dev nD) : FVec Ideal S2x32x2x512x2048 .f32 := m ((c : Thread nD τ).loc main_arg12)

/-- The sequence of a point. -/
def row (t : Fin cfg0.N) : Fin 32 := ⟨t.val / 2, by have := points t; omega⟩
/-- Whether a point writes keys or values. -/
def part (t : Fin cfg0.N) : Fin 2 := ⟨t.val % 2, by omega⟩

/-- The block of the projected columns. -/
theorem z_blk (c : Dev nD) (t : Fin cfg0.N) (k : Fin 4608) :
    ((X0_0 m c t : FVec Ideal S1x1x4608 .f32) (ix3 0 0 k) : EReal) = aZ m c (ix3 (row t) 0 ⟨k.val, by omega⟩) := by
  unfold row X0_0 Pipeline.Window.fill
  rw [dif_pos (moved0_0 t _)]
  blk_ext [iblk, V, idx_val t]

/-- The block of the keys' gain. -/
theorem g_blk (c : Dev nD) (t : Fin cfg0.N) (k : Fin 512) :
    ((iblk m c 2 t : FVec Ideal S1x512 .f32) (ix2 0 k) : EReal) = aG m c (ix1 (laneOf k)) := by
  unfold laneOf
  blk_point [iblk, V, idx_val t]

/-- The block of the first window. -/
theorem a_blk (c : Dev nD) (t : Fin cfg0.N) (k : Fin 512) (w : Fin 128) :
    ((iblk m c 10 t : FVec Ideal S1x1x1x512x128 .f32) (ix5 0 0 0 k w) : EReal) = aA m c (ix5 1 (row t) (part t) k w) := by
  unfold row part
  blk_ext [iblk, V, idx_val t]

/-- The block of the second window. -/
theorem b_blk (c : Dev nD) (t : Fin cfg0.N) (k : Fin 512) (w : Fin 128) :
    ((iblk m c 11 t : FVec Ideal S1x1x1x512x128 .f32) (ix5 0 0 0 k w) : EReal) = aB m c (ix5 1 (row t) (part t) k ⟨384 + w.val, by omega⟩) := by
  unfold row part
  blk_ext [iblk, V, idx_val t]

/-- The block of the third window. -/
theorem c_blk (c : Dev nD) (t : Fin cfg0.N) (k : Fin 512) (w : Fin 128) :
    ((iblk m c 12 t : FVec Ideal S1x1x1x512x128 .f32) (ix5 0 0 0 k w) : EReal) = aC m c (ix5 1 (row t) (part t) k ⟨1920 + w.val, by omega⟩) := by
  unfold row part
  blk_ext [iblk, V, idx_val t]

/-- The first window's array before the region. -/
theorem entryA (c : Dev nD) : (V m c (Pipeline.arrRef spec0 14) : FVec Ideal S2x32x2x512x128 .f32) = aA m c := by
  unfold V hostOps0
  after_results_simp
  rfl

/-- The second window's array before the region. -/
theorem entryB (c : Dev nD) : (V m c (Pipeline.arrRef spec0 15) : FVec Ideal S2x32x2x512x512 .f32) = aB m c := by
  unfold V hostOps0
  after_results_simp
  rfl

/-- The third window's array before the region. -/
theorem entryC (c : Dev nD) : (V m c (Pipeline.arrRef spec0 16) : FVec Ideal S2x32x2x512x2048 .f32) = aC m c := by
  unfold V hostOps0
  after_results_simp
  rfl

/-- A point's new keys of the first window, read. -/
theorem readK14 (c : Dev nD) (t : Fin cfg0.N) (h : t.val % 2 = 0) (k : Fin 512) (w : Fin 128) :
    ((outsAt0 m c t.val t.isLt).2.1 (ix5 0 0 0 k w) : EReal)
      = if w.val = 127 then keyed (fun j => aZ m c (ix3 (row t) 0 (kCol 0 j))) (fun j => aG m c (ix1 (laneOf j))) k
        else aA m c (ix5 1 (row t) (part t) k w) := by
  rw [outsAt0_A m c t h (by omega) h (by omega) h (by omega) (by omega)]
  frame_out
  refine (keys0 _ _ k w).trans ?_
  rw [a_blk, col0, key0]
  refine if_congr Iff.rfl ?_ rfl
  have hg : (fun j : Fin 512 => ((iblk m c 2 t : FVec Ideal S1x512 .f32) (ix2 0 j) : EReal)) = fun j => aG m c (ix1 (laneOf j)) :=
    funext fun j => g_blk m c t j
  rw [hg]
  refine congrArg (fun x : Fin 512 → EReal => keyed x (fun j => aG m c (ix1 (laneOf j))) k) (funext fun j => ?_)
  refine (View.ld_unit_apply_of (Val := Elt Ideal) (X0_0 m c t) _ _ _ _ (ix3 0 0 (⟨1536 + j.val, by omega⟩ : Fin 4608)) (fun a => ?_)).trans ?_
  · match a with
    | ⟨0, _⟩ => rfl
    | ⟨1, _⟩ => rfl
    | ⟨2, _⟩ => rfl
  · refine (z_blk m c t ⟨1536 + j.val, by omega⟩).trans ?_
    exact congrArg (fun n : Fin 7680 => (aZ m c (ix3 (row t) 0 n) : EReal)) (Fin.ext rfl)

/-- A point's new values of the first window, read. -/
theorem readV14 (c : Dev nD) (t : Fin cfg0.N) (h : ¬ t.val % 2 = 0) (k : Fin 512) (w : Fin 128) :
    ((outsAt0 m c t.val t.isLt).2.1 (ix5 0 0 0 k w) : EReal)
      = if w.val = 127 then aZ m c (ix3 (row t) 0 (vCol 0 k)) else aA m c (ix5 1 (row t) (part t) k w) := by
  rw [outsAt0_B m c t h (by omega) h (by omega) h (by omega) (by omega)]
  frame_out
  refine (values0 _ _ k w).trans ?_
  rw [a_blk, val0]
  refine if_congr Iff.rfl ?_ rfl
  refine (View.ld_unit_apply_of (Val := Elt Ideal) (X0_0 m c t) _ _ _ _ (ix3 0 0 (⟨3072 + k.val, by omega⟩ : Fin 4608)) (fun a => ?_)).trans ?_
  · match a with
    | ⟨0, _⟩ => rfl
    | ⟨1, _⟩ => rfl
    | ⟨2, _⟩ => rfl
  · refine (z_blk m c t ⟨3072 + k.val, by omega⟩).trans ?_
    exact congrArg (fun n : Fin 7680 => (aZ m c (ix3 (row t) 0 n) : EReal)) (Fin.ext rfl)

/-- A point's new block of the first window, read. -/
theorem read14 (c : Dev nD) (t : Fin cfg0.N) (k : Fin 512) (w : Fin 128) :
    ((outsAt0 m c t.val t.isLt).2.1 (ix5 0 0 0 k w) : EReal) = outA (aZ m c) (aG m c) (aA m c) (ix5 1 (row t) (part t) k w) := by
  have e : (outA (aZ m c) (aG m c) (aA m c) (ix5 1 (row t) (part t) k w) : EReal)
      = if w.val = 127 then newAt (aZ m c) (aG m c) 0 (row t) (part t) k else aA m c (ix5 1 (row t) (part t) k w) :=
    if_congr (by show (1 = 1 ∧ w.val = 127) ↔ w.val = 127; omega) rfl rfl
  rw [e]
  unfold newAt
  by_cases h : t.val % 2 = 0
  · rw [if_pos (show (part t).val = 0 from h)]
    exact readK14 m c t h k w
  · rw [if_neg (show ¬ (part t).val = 0 from h)]
    exact readV14 m c t h k w

/-- The array of the first window after the run. -/
theorem final14 (c : Dev nD) : (dats m 0 c).arrAt 14 cfg0.N = outA (aZ m c) (aG m c) (aA m c) := by
  refine (dats m 0 c).arrAt_eq_of_coversWhere_of_agree 14 _ (fun β => 1 ≤ β (0 : Fin 5)) (by decide +kernel) (fun t hf y => ?_) (fun j hj => ?_)
  · blk_simp
    rw [after0_14]
    have hy : y = ix5 0 0 0 (y 3) (y 4) := by blk_ext
    have e : ((cfg0.win 14).blk t).view.emb y = ix5 1 (row t) (part t) (y 3) (y 4) := by
      funext a
      match a with
      | ⟨0, _⟩ => exact Fin.ext (by blk_simp [idx_val t]; first | rfl | omega)
      | ⟨1, _⟩ => exact Fin.ext (by blk_simp [idx_val t]; first | rfl | (unfold row; omega) | omega)
      | ⟨2, _⟩ => exact Fin.ext (by blk_simp [idx_val t]; first | rfl | (unfold part; omega) | omega)
      | ⟨3, _⟩ => exact Fin.ext (by blk_simp [idx_val t]; first | rfl | omega)
      | ⟨4, _⟩ => exact Fin.ext (by blk_simp [idx_val t]; first | rfl | omega)
    rw [e]
    refine (congrArg (outsAt0 m c t.val t.isLt).2.1 hy).trans (read14 m c t (y 3) (y 4))
  · rw [A_eq, entryA]
    refine (if_neg fun h => hj ?_).symm
    blk_simp [Pipeline.Window.cell_apply] at h ⊢
    omega

/-- A point's new keys of the second window, read. -/
theorem readK15 (c : Dev nD) (t : Fin cfg0.N) (h : t.val % 2 = 0) (k : Fin 512) (w : Fin 128) :
    ((outsAt0 m c t.val t.isLt).2.2.1 (ix5 0 0 0 k w) : EReal)
      = if w.val = 127 then keyed (fun j => aZ m c (ix3 (row t) 0 (kCol 1 j))) (fun j => aG m c (ix1 (laneOf j))) k
        else aB m c (ix5 1 (row t) (part t) k ⟨384 + w.val, by omega⟩) := by
  rw [outsAt0_A m c t h (by omega) h (by omega) h (by omega) (by omega)]
  frame_out
  refine (keys1 _ _ k w).trans ?_
  rw [b_blk, col1, key1]
  refine if_congr Iff.rfl ?_ rfl
  have hg : (fun j : Fin 512 => ((iblk m c 2 t : FVec Ideal S1x512 .f32) (ix2 0 j) : EReal)) = fun j => aG m c (ix1 (laneOf j)) :=
    funext fun j => g_blk m c t j
  rw [hg]
  refine congrArg (fun x : Fin 512 → EReal => keyed x (fun j => aG m c (ix1 (laneOf j))) k) (funext fun j => ?_)
  refine (View.ld_unit_apply_of (Val := Elt Ideal) (X0_0 m c t) _ _ _ _ (ix3 0 0 (⟨2048 + j.val, by omega⟩ : Fin 4608)) (fun a => ?_)).trans ?_
  · match a with
    | ⟨0, _⟩ => rfl
    | ⟨1, _⟩ => rfl
    | ⟨2, _⟩ => rfl
  · refine (z_blk m c t ⟨2048 + j.val, by omega⟩).trans ?_
    exact congrArg (fun n : Fin 7680 => (aZ m c (ix3 (row t) 0 n) : EReal)) (Fin.ext rfl)

/-- A point's new values of the second window, read. -/
theorem readV15 (c : Dev nD) (t : Fin cfg0.N) (h : ¬ t.val % 2 = 0) (k : Fin 512) (w : Fin 128) :
    ((outsAt0 m c t.val t.isLt).2.2.1 (ix5 0 0 0 k w) : EReal)
      = if w.val = 127 then aZ m c (ix3 (row t) 0 (vCol 1 k)) else aB m c (ix5 1 (row t) (part t) k ⟨384 + w.val, by omega⟩) := by
  rw [outsAt0_B m c t h (by omega) h (by omega) h (by omega) (by omega)]
  frame_out
  refine (values1 _ _ k w).trans ?_
  rw [b_blk, val1]
  refine if_congr Iff.rfl ?_ rfl
  refine (View.ld_unit_apply_of (Val := Elt Ideal) (X0_0 m c t) _ _ _ _ (ix3 0 0 (⟨3584 + k.val, by omega⟩ : Fin 4608)) (fun a => ?_)).trans ?_
  · match a with
    | ⟨0, _⟩ => rfl
    | ⟨1, _⟩ => rfl
    | ⟨2, _⟩ => rfl
  · refine (z_blk m c t ⟨3584 + k.val, by omega⟩).trans ?_
    exact congrArg (fun n : Fin 7680 => (aZ m c (ix3 (row t) 0 n) : EReal)) (Fin.ext rfl)

/-- A point's new block of the second window, read. -/
theorem read15 (c : Dev nD) (t : Fin cfg0.N) (k : Fin 512) (w : Fin 128) :
    ((outsAt0 m c t.val t.isLt).2.2.1 (ix5 0 0 0 k w) : EReal) = outB (aZ m c) (aG m c) (aB m c) (ix5 1 (row t) (part t) k ⟨384 + w.val, by omega⟩) := by
  have e : (outB (aZ m c) (aG m c) (aB m c) (ix5 1 (row t) (part t) k ⟨384 + w.val, by omega⟩) : EReal)
      = if w.val = 127 then newAt (aZ m c) (aG m c) 1 (row t) (part t) k else aB m c (ix5 1 (row t) (part t) k ⟨384 + w.val, by omega⟩) :=
    if_congr (by show (1 = 1 ∧ 384 + w.val = 511) ↔ w.val = 127; omega) rfl rfl
  rw [e]
  unfold newAt
  by_cases h : t.val % 2 = 0
  · rw [if_pos (show (part t).val = 0 from h)]
    exact readK15 m c t h k w
  · rw [if_neg (show ¬ (part t).val = 0 from h)]
    exact readV15 m c t h k w

/-- The array of the second window after the run. -/
theorem final15 (c : Dev nD) : (dats m 0 c).arrAt 15 cfg0.N = outB (aZ m c) (aG m c) (aB m c) := by
  refine (dats m 0 c).arrAt_eq_of_coversWhere_of_agree 15 _ (fun β => 1 ≤ β (0 : Fin 5) ∧ 3 ≤ β (4 : Fin 5)) (by decide +kernel) (fun t hf y => ?_) (fun j hj => ?_)
  · blk_simp
    rw [after0_15]
    have hy : y = ix5 0 0 0 (y 3) (y 4) := by blk_ext
    have e : ((cfg0.win 15).blk t).view.emb y = ix5 1 (row t) (part t) (y 3) ⟨384 + (y 4).val, by have : (y 4).val < 128 := (y 4).isLt; omega⟩ := by
      funext a
      match a with
      | ⟨0, _⟩ => exact Fin.ext (by blk_simp [idx_val t]; first | rfl | omega)
      | ⟨1, _⟩ => exact Fin.ext (by blk_simp [idx_val t]; first | rfl | (unfold row; omega) | omega)
      | ⟨2, _⟩ => exact Fin.ext (by blk_simp [idx_val t]; first | rfl | (unfold part; omega) | omega)
      | ⟨3, _⟩ => exact Fin.ext (by blk_simp [idx_val t]; first | rfl | omega)
      | ⟨4, _⟩ => exact Fin.ext (by blk_simp [idx_val t]; first | rfl | omega)
    rw [e]
    refine (congrArg (outsAt0 m c t.val t.isLt).2.2.1 hy).trans (read15 m c t (y 3) (y 4))
  · rw [A_eq, entryB]
    refine (if_neg fun h => hj ?_).symm
    blk_simp [Pipeline.Window.cell_apply] at h ⊢
    omega

/-- A point's new keys of the third window, read. -/
theorem readK16 (c : Dev nD) (t : Fin cfg0.N) (h : t.val % 2 = 0) (k : Fin 512) (w : Fin 128) :
    ((outsAt0 m c t.val t.isLt).2.2.2.1 (ix5 0 0 0 k w) : EReal)
      = if w.val = 127 then keyed (fun j => aZ m c (ix3 (row t) 0 (kCol 2 j))) (fun j => aG m c (ix1 (laneOf j))) k
        else aC m c (ix5 1 (row t) (part t) k ⟨1920 + w.val, by omega⟩) := by
  rw [outsAt0_A m c t h (by omega) h (by omega) h (by omega) (by omega)]
  frame_out
  refine (keys2 _ _ k w).trans ?_
  rw [c_blk, col2, key2]
  refine if_congr Iff.rfl ?_ rfl
  have hg : (fun j : Fin 512 => ((iblk m c 2 t : FVec Ideal S1x512 .f32) (ix2 0 j) : EReal)) = fun j => aG m c (ix1 (laneOf j)) :=
    funext fun j => g_blk m c t j
  rw [hg]
  refine congrArg (fun x : Fin 512 → EReal => keyed x (fun j => aG m c (ix1 (laneOf j))) k) (funext fun j => ?_)
  refine (View.ld_unit_apply_of (Val := Elt Ideal) (X0_0 m c t) _ _ _ _ (ix3 0 0 (⟨2560 + j.val, by omega⟩ : Fin 4608)) (fun a => ?_)).trans ?_
  · match a with
    | ⟨0, _⟩ => rfl
    | ⟨1, _⟩ => rfl
    | ⟨2, _⟩ => rfl
  · refine (z_blk m c t ⟨2560 + j.val, by omega⟩).trans ?_
    exact congrArg (fun n : Fin 7680 => (aZ m c (ix3 (row t) 0 n) : EReal)) (Fin.ext rfl)

/-- A point's new values of the third window, read. -/
theorem readV16 (c : Dev nD) (t : Fin cfg0.N) (h : ¬ t.val % 2 = 0) (k : Fin 512) (w : Fin 128) :
    ((outsAt0 m c t.val t.isLt).2.2.2.1 (ix5 0 0 0 k w) : EReal)
      = if w.val = 127 then aZ m c (ix3 (row t) 0 (vCol 2 k)) else aC m c (ix5 1 (row t) (part t) k ⟨1920 + w.val, by omega⟩) := by
  rw [outsAt0_B m c t h (by omega) h (by omega) h (by omega) (by omega)]
  frame_out
  refine (values2 _ _ k w).trans ?_
  rw [c_blk, val2]
  refine if_congr Iff.rfl ?_ rfl
  refine (View.ld_unit_apply_of (Val := Elt Ideal) (X0_0 m c t) _ _ _ _ (ix3 0 0 (⟨4096 + k.val, by omega⟩ : Fin 4608)) (fun a => ?_)).trans ?_
  · match a with
    | ⟨0, _⟩ => rfl
    | ⟨1, _⟩ => rfl
    | ⟨2, _⟩ => rfl
  · refine (z_blk m c t ⟨4096 + k.val, by omega⟩).trans ?_
    exact congrArg (fun n : Fin 7680 => (aZ m c (ix3 (row t) 0 n) : EReal)) (Fin.ext rfl)

/-- A point's new block of the third window, read. -/
theorem read16 (c : Dev nD) (t : Fin cfg0.N) (k : Fin 512) (w : Fin 128) :
    ((outsAt0 m c t.val t.isLt).2.2.2.1 (ix5 0 0 0 k w) : EReal) = outC (aZ m c) (aG m c) (aC m c) (ix5 1 (row t) (part t) k ⟨1920 + w.val, by omega⟩) := by
  have e : (outC (aZ m c) (aG m c) (aC m c) (ix5 1 (row t) (part t) k ⟨1920 + w.val, by omega⟩) : EReal)
      = if w.val = 127 then newAt (aZ m c) (aG m c) 2 (row t) (part t) k else aC m c (ix5 1 (row t) (part t) k ⟨1920 + w.val, by omega⟩) :=
    if_congr (by show (1 = 1 ∧ 1920 + w.val = 2047) ↔ w.val = 127; omega) rfl rfl
  rw [e]
  unfold newAt
  by_cases h : t.val % 2 = 0
  · rw [if_pos (show (part t).val = 0 from h)]
    exact readK16 m c t h k w
  · rw [if_neg (show ¬ (part t).val = 0 from h)]
    exact readV16 m c t h k w

/-- The array of the third window after the run. -/
theorem final16 (c : Dev nD) : (dats m 0 c).arrAt 16 cfg0.N = outC (aZ m c) (aG m c) (aC m c) := by
  refine (dats m 0 c).arrAt_eq_of_coversWhere_of_agree 16 _ (fun β => 1 ≤ β (0 : Fin 5) ∧ 15 ≤ β (4 : Fin 5)) (by decide +kernel) (fun t hf y => ?_) (fun j hj => ?_)
  · blk_simp
    rw [after0_16]
    have hy : y = ix5 0 0 0 (y 3) (y 4) := by blk_ext
    have e : ((cfg0.win 16).blk t).view.emb y = ix5 1 (row t) (part t) (y 3) ⟨1920 + (y 4).val, by have : (y 4).val < 128 := (y 4).isLt; omega⟩ := by
      funext a
      match a with
      | ⟨0, _⟩ => exact Fin.ext (by blk_simp [idx_val t]; first | rfl | omega)
      | ⟨1, _⟩ => exact Fin.ext (by blk_simp [idx_val t]; first | rfl | (unfold row; omega) | omega)
      | ⟨2, _⟩ => exact Fin.ext (by blk_simp [idx_val t]; first | rfl | (unfold part; omega) | omega)
      | ⟨3, _⟩ => exact Fin.ext (by blk_simp [idx_val t]; first | rfl | omega)
      | ⟨4, _⟩ => exact Fin.ext (by blk_simp [idx_val t]; first | rfl | omega)
    rw [e]
    refine (congrArg (outsAt0 m c t.val t.isLt).2.2.2.1 hy).trans (read16 m c t (y 3) (y 4))
  · rw [A_eq, entryC]
    refine (if_neg fun h => hj ?_).symm
    blk_simp [Pipeline.Window.cell_apply] at h ⊢
    omega

end Cert.Kernel8Ideal.Window
-- ==== Proof.Window.Reference.lean ====
module

public import proofs.«01_k».proof.Proof.Gen.Reference8Ideal.Run
public import proofs.«01_k».proof.Proof.Window.Terms

/-! The reference's windows read at an index. -/

@[expose] public section

set_option maxRecDepth 16384

noncomputable section

namespace Cert.Reference8Ideal.Window

open Idealize.ShloMosaic Idealize.ShloMosaic.TcCoe Idealize.SL.Sem
open Cert.Reference8Ideal Cert.Reference8Ideal.Gen Cert.Moe Cert.Kernel2Ideal.Proj
open Cert.Kernel8Ideal.Window (keyed mate kCol vCol laneOf newAt outA outB outC)

/-- The keys' columns by groups and heads. -/
def rK (Z : FVec Ideal S32x1x7680 .f32) : FVec Ideal S32x3x8x64 .f32 :=
  shapeCast _ (extractStridedSlice S32x1536 ![0, 1536] (shapeCast _ Z shapeCasts_S32x1x7680_S32x7680) slices_S32x7680_S32x1536_0_1536) shapeCasts_S32x1536_S32x3x8x64

/-- The values' columns by groups and heads. -/
def rV (Z : FVec Ideal S32x1x7680 .f32) : FVec Ideal S32x3x8x64 .f32 :=
  shapeCast _ (extractStridedSlice S32x1536 ![0, 3072] (shapeCast _ Z shapeCasts_S32x1x7680_S32x7680) slices_S32x7680_S32x1536_0_3072) shapeCasts_S32x1536_S32x3x8x64

/-- Heads over the root of their mean square, by the gain. -/
def rNorm (X : FVec Ideal S32x3x8x64 .f32) (G : FVec Ideal S64 .f32) : FVec Ideal S32x3x8x64 .f32 :=
  mulf (mulf X (broadcastInDim S32x3x8x64 ![0, 1, 2, 3] bcast_S32x3x8x1_S32x3x8x64_0_1_2_3 (Host.rsqrt (addf (Host.divf (broadcastInDim S32x3x8x1 ![0, 1, 2] bcast_S32x3x8_S32x3x8x1_0_1_2 (Host.reduceAdd (mulf X X) (constant S_ .f32 0x00000000#32) reducesTo_S32x3x8x64_S32x3x8_d3 h_S_)) (broadcastInDim S32x3x8x1 ![] bcast_S_S32x3x8x1 (constant S_ .f32 0x42800000#32))) (broadcastInDim S32x3x8x1 ![] bcast_S_S32x3x8x1 (constant S_ .f32 0x358637BD#32)))))) (broadcastInDim S32x3x8x64 ![0, 1, 2, 3] bcast_S1x1x1x64_S32x3x8x64_0_1_2_3 (broadcastInDim S1x1x1x64 ![3] bcast_S64_S1x1x1x64_3 G))

/-- The first group's new keys and values. -/
def rNew0 (K V : FVec Ideal S32x3x8x64 .f32) : FVec Ideal S32x2x512x1 .f32 :=
  shapeCast _ (concatenate S32x2x8x64 1 [⟨S32x1x8x64, (broadcastInDim S32x1x8x64 ![0, 2, 3] bcast_S32x8x64_S32x1x8x64_0_2_3 (shapeCast _ (extractStridedSlice S32x1x8x64 ![0, 0, 0, 0] K slices_S32x3x8x64_S32x1x8x64_0_0_0_0) shapeCasts_S32x1x8x64_S32x8x64))⟩, ⟨S32x1x8x64, (broadcastInDim S32x1x8x64 ![0, 2, 3] bcast_S32x8x64_S32x1x8x64_0_2_3 (shapeCast _ (extractStridedSlice S32x1x8x64 ![0, 0, 0, 0] V slices_S32x3x8x64_S32x1x8x64_0_0_0_0) shapeCasts_S32x1x8x64_S32x8x64))⟩] concatenates_S32x1x8x64_S32x1x8x64_S32x2x8x64_d1) shapeCasts_S32x2x8x64_S32x2x512x1

/-- The first window. -/
def rWin0 (N : FVec Ideal S32x2x512x1 .f32) (W : FVec Ideal S2x32x2x512x128 .f32) : FVec Ideal S2x32x2x512x128 .f32 :=
  concatenate S2x32x2x512x128 0 [⟨S1x32x2x512x128, (broadcastInDim S1x32x2x512x128 ![1, 2, 3, 4] bcast_S32x2x512x128_S1x32x2x512x128_1_2_3_4 (shapeCast _ (extractStridedSlice S1x32x2x512x128 ![0, 0, 0, 0, 0] W slices_S2x32x2x512x128_S1x32x2x512x128_0_0_0_0_0) shapeCasts_S1x32x2x512x128_S32x2x512x128))⟩, ⟨S1x32x2x512x128, (broadcastInDim S1x32x2x512x128 ![1, 2, 3, 4] bcast_S32x2x512x128_S1x32x2x512x128_1_2_3_4 (concatenate S32x2x512x128 3 [⟨S32x2x512x127, (shapeCast _ (extractStridedSlice S1x32x2x512x127 ![1, 0, 0, 0, 0] W slices_S2x32x2x512x128_S1x32x2x512x127_1_0_0_0_0) shapeCasts_S1x32x2x512x127_S32x2x512x127)⟩, ⟨S32x2x512x1, N⟩] concatenates_S32x2x512x127_S32x2x512x1_S32x2x512x128_d3))⟩] concatenates_S1x32x2x512x128_S1x32x2x512x128_S2x32x2x512x128_d0

/-- The second group's new keys and values. -/
def rNew1 (K V : FVec Ideal S32x3x8x64 .f32) : FVec Ideal S32x2x512x1 .f32 :=
  shapeCast _ (concatenate S32x2x8x64 1 [⟨S32x1x8x64, (broadcastInDim S32x1x8x64 ![0, 2, 3] bcast_S32x8x64_S32x1x8x64_0_2_3 (shapeCast _ (extractStridedSlice S32x1x8x64 ![0, 1, 0, 0] K slices_S32x3x8x64_S32x1x8x64_0_1_0_0) shapeCasts_S32x1x8x64_S32x8x64))⟩, ⟨S32x1x8x64, (broadcastInDim S32x1x8x64 ![0, 2, 3] bcast_S32x8x64_S32x1x8x64_0_2_3 (shapeCast _ (extractStridedSlice S32x1x8x64 ![0, 1, 0, 0] V slices_S32x3x8x64_S32x1x8x64_0_1_0_0) shapeCasts_S32x1x8x64_S32x8x64))⟩] concatenates_S32x1x8x64_S32x1x8x64_S32x2x8x64_d1) shapeCasts_S32x2x8x64_S32x2x512x1

/-- The second window. -/
def rWin1 (N : FVec Ideal S32x2x512x1 .f32) (W : FVec Ideal S2x32x2x512x512 .f32) : FVec Ideal S2x32x2x512x512 .f32 :=
  concatenate S2x32x2x512x512 0 [⟨S1x32x2x512x512, (broadcastInDim S1x32x2x512x512 ![1, 2, 3, 4] bcast_S32x2x512x512_S1x32x2x512x512_1_2_3_4 (shapeCast _ (extractStridedSlice S1x32x2x512x512 ![0, 0, 0, 0, 0] W slices_S2x32x2x512x512_S1x32x2x512x512_0_0_0_0_0) shapeCasts_S1x32x2x512x512_S32x2x512x512))⟩, ⟨S1x32x2x512x512, (broadcastInDim S1x32x2x512x512 ![1, 2, 3, 4] bcast_S32x2x512x512_S1x32x2x512x512_1_2_3_4 (concatenate S32x2x512x512 3 [⟨S32x2x512x511, (shapeCast _ (extractStridedSlice S1x32x2x512x511 ![1, 0, 0, 0, 0] W slices_S2x32x2x512x512_S1x32x2x512x511_1_0_0_0_0) shapeCasts_S1x32x2x512x511_S32x2x512x511)⟩, ⟨S32x2x512x1, N⟩] concatenates_S32x2x512x511_S32x2x512x1_S32x2x512x512_d3))⟩] concatenates_S1x32x2x512x512_S1x32x2x512x512_S2x32x2x512x512_d0

/-- The third group's new keys and values. -/
def rNew2 (K V : FVec Ideal S32x3x8x64 .f32) : FVec Ideal S32x2x512x1 .f32 :=
  shapeCast _ (concatenate S32x2x8x64 1 [⟨S32x1x8x64, (broadcastInDim S32x1x8x64 ![0, 2, 3] bcast_S32x8x64_S32x1x8x64_0_2_3 (shapeCast _ (extractStridedSlice S32x1x8x64 ![0, 2, 0, 0] K slices_S32x3x8x64_S32x1x8x64_0_2_0_0) shapeCasts_S32x1x8x64_S32x8x64))⟩, ⟨S32x1x8x64, (broadcastInDim S32x1x8x64 ![0, 2, 3] bcast_S32x8x64_S32x1x8x64_0_2_3 (shapeCast _ (extractStridedSlice S32x1x8x64 ![0, 2, 0, 0] V slices_S32x3x8x64_S32x1x8x64_0_2_0_0) shapeCasts_S32x1x8x64_S32x8x64))⟩] concatenates_S32x1x8x64_S32x1x8x64_S32x2x8x64_d1) shapeCasts_S32x2x8x64_S32x2x512x1

/-- The third window. -/
def rWin2 (N : FVec Ideal S32x2x512x1 .f32) (W : FVec Ideal S2x32x2x512x2048 .f32) : FVec Ideal S2x32x2x512x2048 .f32 :=
  concatenate S2x32x2x512x2048 0 [⟨S1x32x2x512x2048, (broadcastInDim S1x32x2x512x2048 ![1, 2, 3, 4] bcast_S32x2x512x2048_S1x32x2x512x2048_1_2_3_4 (shapeCast _ (extractStridedSlice S1x32x2x512x2048 ![0, 0, 0, 0, 0] W slices_S2x32x2x512x2048_S1x32x2x512x2048_0_0_0_0_0) shapeCasts_S1x32x2x512x2048_S32x2x512x2048))⟩, ⟨S1x32x2x512x2048, (broadcastInDim S1x32x2x512x2048 ![1, 2, 3, 4] bcast_S32x2x512x2048_S1x32x2x512x2048_1_2_3_4 (concatenate S32x2x512x2048 3 [⟨S32x2x512x2047, (shapeCast _ (extractStridedSlice S1x32x2x512x2047 ![1, 0, 0, 0, 0] W slices_S2x32x2x512x2048_S1x32x2x512x2047_1_0_0_0_0) shapeCasts_S1x32x2x512x2047_S32x2x512x2047)⟩, ⟨S32x2x512x1, N⟩] concatenates_S32x2x512x2047_S32x2x512x1_S32x2x512x2048_d3))⟩] concatenates_S1x32x2x512x2048_S1x32x2x512x2048_S2x32x2x512x2048_d0

/-- The head of a place. -/
def headOf (k : Fin 512) : Fin 8 := ⟨k.val / 64, by omega⟩

/-- The keys' columns, read. -/
theorem rK_apply (Z : FVec Ideal S32x1x7680 .f32) (n : Fin 32) (g : Fin 3) (h : Fin 8) (d : Fin 64) :
    (rK Z (ix4 n g h d) : EReal) = Z (ix3 n 0 (kCol g ⟨64 * h.val + d.val, by omega⟩)) := by
  pointwise [rK]
  exact congrArg (fun c => Z (ix3 n 0 c)) (Fin.ext (by show 1536 + (g.val * 512 + h.val * 64 + d.val) = 1536 + 512 * g.val + (64 * h.val + d.val); omega))

/-- The values' columns, read. -/
theorem rV_apply (Z : FVec Ideal S32x1x7680 .f32) (n : Fin 32) (g : Fin 3) (h : Fin 8) (d : Fin 64) :
    (rV Z (ix4 n g h d) : EReal) = Z (ix3 n 0 (vCol g ⟨64 * h.val + d.val, by omega⟩)) := by
  pointwise [rV]
  exact congrArg (fun c => Z (ix3 n 0 c)) (Fin.ext (by show 3072 + (g.val * 512 + h.val * 64 + d.val) = 3072 + 512 * g.val + (64 * h.val + d.val); omega))

/-- The normalised heads, read. -/
theorem rNorm_apply (X : FVec Ideal S32x3x8x64 .f32) (G : FVec Ideal S64 .f32) (n : Fin 32) (g : Fin 3) (h : Fin 8) (d : Fin 64) :
    (rNorm X G (ix4 n g h d) : EReal) = X (ix4 n g h d) * Ideal.rsqrt (Ideal.div (∑ e, X (ix4 n g h e) * X (ix4 n g h e))
      (Ideal.ofBits FTy.f32 0x42800000#32) + Ideal.ofBits FTy.f32 0x358637BD#32) * G (ix1 d) := by
  pointwise [rNorm]

/-- The first group's new keys and values, read. -/
theorem rNew0_apply (K V : FVec Ideal S32x3x8x64 .f32) (n : Fin 32) (p : Fin 2) (k : Fin 512) :
    (rNew0 K V (ix4 n p k 0) : EReal) = if p.val = 0 then K (ix4 n 0 (headOf k) (laneOf k)) else V (ix4 n 0 (headOf k) (laneOf k)) := by
  unfold headOf laneOf
  pointwise [rNew0]
  by_cases h : p.val < 1
  · exact (dif_pos h).trans (if_pos (show p.val = 0 by omega)).symm
  · exact (dif_neg h).trans (if_neg (show ¬ p.val = 0 by omega)).symm

/-- The first window, read. -/
theorem rWin0_apply (N : FVec Ideal S32x2x512x1 .f32) (W : FVec Ideal S2x32x2x512x128 .f32) (l : Fin 2) (n : Fin 32) (p : Fin 2) (k : Fin 512) (w : Fin 128) :
    (rWin0 N W (ix5 l n p k w) : EReal) = if l.val = 1 ∧ w.val = 127 then N (ix4 n p k 0) else W (ix5 l n p k w) := by
  pointwise [rWin0]
  by_cases h : l.val < 1
  · refine (dif_pos h).trans (Eq.trans ?_ (if_neg (show ¬ (l.val = 1 ∧ w.val = 127) by omega)).symm)
    exact congrArg (fun l => W (ix5 l n p k w)) (Fin.ext (by show 0 = l.val; omega))
  · refine (dif_neg h).trans ?_
    by_cases hw : w.val < 127
    · refine (dif_pos hw).trans (Eq.trans ?_ (if_neg (show ¬ (l.val = 1 ∧ w.val = 127) by omega)).symm)
      exact congrArg (fun l => W (ix5 l n p k w)) (Fin.ext (by show 1 = l.val; omega))
    · refine (dif_neg hw).trans (Eq.trans ?_ (if_pos (show l.val = 1 ∧ w.val = 127 by omega)).symm)
      exact congrArg (fun l => N (ix4 n p k l)) (Fin.ext (by show w.val - 127 = 0; omega))

/-- The second group's new keys and values, read. -/
theorem rNew1_apply (K V : FVec Ideal S32x3x8x64 .f32) (n : Fin 32) (p : Fin 2) (k : Fin 512) :
    (rNew1 K V (ix4 n p k 0) : EReal) = if p.val = 0 then K (ix4 n 1 (headOf k) (laneOf k)) else V (ix4 n 1 (headOf k) (laneOf k)) := by
  unfold headOf laneOf
  pointwise [rNew1]
  by_cases h : p.val < 1
  · exact (dif_pos h).trans (if_pos (show p.val = 0 by omega)).symm
  · exact (dif_neg h).trans (if_neg (show ¬ p.val = 0 by omega)).symm

/-- The second window, read. -/
theorem rWin1_apply (N : FVec Ideal S32x2x512x1 .f32) (W : FVec Ideal S2x32x2x512x512 .f32) (l : Fin 2) (n : Fin 32) (p : Fin 2) (k : Fin 512) (w : Fin 512) :
    (rWin1 N W (ix5 l n p k w) : EReal) = if l.val = 1 ∧ w.val = 511 then N (ix4 n p k 0) else W (ix5 l n p k w) := by
  pointwise [rWin1]
  by_cases h : l.val < 1
  · refine (dif_pos h).trans (Eq.trans ?_ (if_neg (show ¬ (l.val = 1 ∧ w.val = 511) by omega)).symm)
    exact congrArg (fun l => W (ix5 l n p k w)) (Fin.ext (by show 0 = l.val; omega))
  · refine (dif_neg h).trans ?_
    by_cases hw : w.val < 511
    · refine (dif_pos hw).trans (Eq.trans ?_ (if_neg (show ¬ (l.val = 1 ∧ w.val = 511) by omega)).symm)
      exact congrArg (fun l => W (ix5 l n p k w)) (Fin.ext (by show 1 = l.val; omega))
    · refine (dif_neg hw).trans (Eq.trans ?_ (if_pos (show l.val = 1 ∧ w.val = 511 by omega)).symm)
      exact congrArg (fun l => N (ix4 n p k l)) (Fin.ext (by show w.val - 511 = 0; omega))

/-- The third group's new keys and values, read. -/
theorem rNew2_apply (K V : FVec Ideal S32x3x8x64 .f32) (n : Fin 32) (p : Fin 2) (k : Fin 512) :
    (rNew2 K V (ix4 n p k 0) : EReal) = if p.val = 0 then K (ix4 n 2 (headOf k) (laneOf k)) else V (ix4 n 2 (headOf k) (laneOf k)) := by
  unfold headOf laneOf
  pointwise [rNew2]
  by_cases h : p.val < 1
  · exact (dif_pos h).trans (if_pos (show p.val = 0 by omega)).symm
  · exact (dif_neg h).trans (if_neg (show ¬ p.val = 0 by omega)).symm

/-- The third window, read. -/
theorem rWin2_apply (N : FVec Ideal S32x2x512x1 .f32) (W : FVec Ideal S2x32x2x512x2048 .f32) (l : Fin 2) (n : Fin 32) (p : Fin 2) (k : Fin 512) (w : Fin 2048) :
    (rWin2 N W (ix5 l n p k w) : EReal) = if l.val = 1 ∧ w.val = 2047 then N (ix4 n p k 0) else W (ix5 l n p k w) := by
  pointwise [rWin2]
  by_cases h : l.val < 1
  · refine (dif_pos h).trans (Eq.trans ?_ (if_neg (show ¬ (l.val = 1 ∧ w.val = 2047) by omega)).symm)
    exact congrArg (fun l => W (ix5 l n p k w)) (Fin.ext (by show 0 = l.val; omega))
  · refine (dif_neg h).trans ?_
    by_cases hw : w.val < 2047
    · refine (dif_pos hw).trans (Eq.trans ?_ (if_neg (show ¬ (l.val = 1 ∧ w.val = 2047) by omega)).symm)
      exact congrArg (fun l => W (ix5 l n p k w)) (Fin.ext (by show 1 = l.val; omega))
    · refine (dif_neg hw).trans (Eq.trans ?_ (if_pos (show l.val = 1 ∧ w.val = 2047 by omega)).symm)
      exact congrArg (fun l => N (ix4 n p k l)) (Fin.ext (by show w.val - 2047 = 0; omega))

/-- Sixty-four, read off its pattern. -/
theorem sixtyFour : Ideal.ofBits FTy.f32 0x42800000#32 = ((64 : ℝ) : EReal) := by
  simp [Ideal.ofBits, Ideal.ieee]
  norm_num
  exact (EReal.coe_mul _ _).symm.trans (congrArg (fun r : ℝ => (r : EReal)) (by norm_num))

/-- One sixty-fourth, read off its pattern. -/
theorem sixtyFourth : Ideal.ofBits FTy.f32 0x3C800000#32 = ((1 / 64 : ℝ) : EReal) := by
  simp [Ideal.ofBits, Ideal.ieee]
  norm_num
  exact (EReal.coe_mul _ _).symm.trans (congrArg (fun r : ℝ => (r : EReal)) (by norm_num))

/-- Dividing by sixty-four is multiplying by its reciprocal. -/
theorem over64 (x : EReal) : Ideal.div x (Ideal.ofBits FTy.f32 0x42800000#32) = x * Ideal.ofBits FTy.f32 0x3C800000#32 := by
  rw [sixtyFour, sixtyFourth, Ideal.div_coe (by norm_num)]

/-- The normalised keys at a place. -/
theorem key_at (Z : FVec Ideal S32x1x7680 .f32) (G : FVec Ideal S64 .f32) (n : Fin 32) (g : Fin 3) (k : Fin 512) :
    (rNorm (rK Z) G (ix4 n g (headOf k) (laneOf k)) : EReal) = keyed (fun j => Z (ix3 n 0 (kCol g j))) (fun j => G (ix1 (laneOf j))) k := by
  rw [rNorm_apply, over64]
  simp only [rK_apply]
  have e : (⟨64 * (headOf k).val + (laneOf k).val, by omega⟩ : Fin 512) = k :=
    Fin.ext (by show 64 * (k.val / 64) + k.val % 64 = k.val; omega)
  have f : ∀ d : Fin 64, (⟨64 * (headOf k).val + d.val, by omega⟩ : Fin 512) = mate k d := fun d =>
    Fin.ext (by show 64 * (k.val / 64) + d.val = k.val / 64 * 64 + d.val; omega)
  rw [e]
  simp only [f]
  rfl

/-- The values at a place. -/
theorem val_at (Z : FVec Ideal S32x1x7680 .f32) (n : Fin 32) (g : Fin 3) (k : Fin 512) :
    (rV Z (ix4 n g (headOf k) (laneOf k)) : EReal) = Z (ix3 n 0 (vCol g k)) := by
  rw [rV_apply]
  exact congrArg (fun c => Z (ix3 n 0 (vCol g c))) (Fin.ext (by show 64 * (k.val / 64) + k.val % 64 = k.val; omega))

/-- The reference's first window is the new window. -/
theorem stagedA (Z : FVec Ideal S32x1x7680 .f32) (G : FVec Ideal S64 .f32) (W : FVec Ideal S2x32x2x512x128 .f32) :
    rWin0 (rNew0 (rNorm (rK Z) G) (rV Z)) W = outA Z G W := by
  have h : ∀ (l : Fin 2) (n : Fin 32) (p : Fin 2) (k : Fin 512) (w : Fin 128),
      (rWin0 (rNew0 (rNorm (rK Z) G) (rV Z)) W (ix5 l n p k w) : EReal) = outA Z G W (ix5 l n p k w) := fun l n p k w => by
    rw [rWin0_apply, rNew0_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The reference's second window is the new window. -/
theorem stagedB (Z : FVec Ideal S32x1x7680 .f32) (G : FVec Ideal S64 .f32) (W : FVec Ideal S2x32x2x512x512 .f32) :
    rWin1 (rNew1 (rNorm (rK Z) G) (rV Z)) W = outB Z G W := by
  have h : ∀ (l : Fin 2) (n : Fin 32) (p : Fin 2) (k : Fin 512) (w : Fin 512),
      (rWin1 (rNew1 (rNorm (rK Z) G) (rV Z)) W (ix5 l n p k w) : EReal) = outB Z G W (ix5 l n p k w) := fun l n p k w => by
    rw [rWin1_apply, rNew1_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The reference's third window is the new window. -/
theorem stagedC (Z : FVec Ideal S32x1x7680 .f32) (G : FVec Ideal S64 .f32) (W : FVec Ideal S2x32x2x512x2048 .f32) :
    rWin2 (rNew2 (rNorm (rK Z) G) (rV Z)) W = outC Z G W := by
  have h : ∀ (l : Fin 2) (n : Fin 32) (p : Fin 2) (k : Fin 512) (w : Fin 2048),
      (rWin2 (rNew2 (rNorm (rK Z) G) (rV Z)) W (ix5 l n p k w) : EReal) = outC Z G W (ix5 l n p k w) := fun l n p k w => by
    rw [rWin2_apply, rNew2_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The reference ends with the new windows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = outA (m ((c.tc : Thread nD τ).loc main_arg0)) (m ((c.tc : Thread nD τ).loc main_arg5))
        (m ((c.tc : Thread nD τ).loc main_arg10))
      ∧ r.2.mem ((c.tc : Thread nD τ).loc main_v49) = outB (m ((c.tc : Thread nD τ).loc main_arg0)) (m ((c.tc : Thread nD τ).loc main_arg5))
        (m ((c.tc : Thread nD τ).loc main_arg11))
      ∧ r.2.mem ((c.tc : Thread nD τ).loc main_v65) = outC (m ((c.tc : Thread nD τ).loc main_arg0)) (m ((c.tc : Thread nD τ).loc main_arg5))
        (m ((c.tc : Thread nD τ).loc main_arg12)) :=
  (θ_run defs _ _).mono (fun r h c => ⟨(h c).1.trans (stagedA _ _ _), (h c).2.1.trans (stagedB _ _ _), (h c).2.2.1.trans (stagedC _ _ _)⟩)
    (Value.run m ρ)

end Cert.Reference8Ideal.Window
-- ==== Proof.Past.Terms.lean ====
module

public import proofs.«01_k».proof.Proof.Gen.Kernel9Ideal.Skeleton
public import proofs.«01_k».proof.Proof.Proj.Columns

/-! The windows that the prompts leave behind: the columns a point writes into them. -/

@[expose] public section

set_option maxRecDepth 16384

noncomputable section

namespace Cert.Kernel9Ideal.Past

open Idealize.ShloMosaic Idealize.ShloMosaic.TcCoe Idealize.SL.Sem
open Cert.Kernel9Ideal Cert.Kernel9Ideal.Gen Cert.Moe Cert.Kernel2Ideal.Proj

/-- Which places belong to the first head of a pair. -/
theorem first (l : Fin 128) : k0_pay2 (ix2 0 l) = if l.val < 64 then 1#1 else 0#1 :=
  (by decide +kernel : ∀ l : Fin 128, k0_pay2 (ix2 0 l) = if l.val < 64 then 1#1 else 0#1) l

/-- The place of lane `e` of the head that place `l` lies in. -/
def mate (l : Fin 128) (e : Fin 64) : Fin 128 := ⟨l.val / 64 * 64 + e.val, by omega⟩

/-- A pair's sum of squares of the first head. -/
def sumA (x : Fin 128 → EReal) : EReal := ∑ j : Fin 128, Scalar.select (k0_pay2 (ix2 0 j)) (x j * x j) 0

/-- A place of a pair over the root of the mean square of its head, by the gain, the second head's sum being the
    pair's less the first's. -/
def paired (x g : Fin 128 → EReal) (l : Fin 128) : EReal :=
  x l * Ideal.rsqrt (Scalar.select (k0_pay2 (ix2 0 l)) (sumA x) ((∑ j, x j * x j) - sumA x) * Ideal.ofBits FTy.f32 0x3C800000#32
    + Ideal.ofBits FTy.f32 0x358637BD#32) * g l

/-- A place over the root of the mean square of its head, by the gain. -/
def keyed (x g : Fin 128 → EReal) (l : Fin 128) : EReal :=
  x l * Ideal.rsqrt ((∑ e, x (mate l e) * x (mate l e)) * Ideal.ofBits FTy.f32 0x3C800000#32 + Ideal.ofBits FTy.f32 0x358637BD#32) * g l

/-- A sum over the 128 places of a pair by its two heads. -/
theorem halves (f : Fin 128 → EReal) : (∑ j, f j) = (∑ e : Fin 64, f ⟨e.val, by omega⟩) + ∑ e : Fin 64, f ⟨64 + e.val, by omega⟩ :=
  Fin.sum_univ_add (a := 64) (b := 64) f

/-- The first head's sum is over its places. -/
theorem sumA_eq (x : Fin 128 → EReal) : sumA x = ∑ e : Fin 64, x ⟨e.val, by omega⟩ * x ⟨e.val, by omega⟩ := by
  unfold sumA
  rw [halves]
  have a : (∑ e : Fin 64, Scalar.select (k0_pay2 (ix2 0 (⟨64 + e.val, by omega⟩ : Fin 128))) (x ⟨64 + e.val, by omega⟩ * x ⟨64 + e.val, by omega⟩) (0 : EReal)) = 0 :=
    Finset.sum_eq_zero fun e _ => by
      rw [first, if_neg (by show ¬ 64 + e.val < 64; omega)]
      rfl
  rw [a, add_zero]
  refine Finset.sum_congr rfl fun e _ => ?_
  rw [first, if_pos e.isLt]
  rfl

/-- The sum of squares of finite values is finite. -/
theorem sum_real (n : Nat) (x : Fin n → EReal) (h : ∀ e, ∃ r : ℝ, x e = (r : EReal)) : ∃ r : ℝ, (∑ e, x e * x e) = (r : EReal) := by
  choose r hr using h
  refine ⟨∑ e, r e * r e, ?_⟩
  have sums : ∀ s : Finset (Fin n), (∑ e ∈ s, x e * x e) = ((∑ e ∈ s, r e * r e : ℝ) : EReal) := fun s => by
    induction s using Finset.cons_induction with
    | empty => exact EReal.coe_zero.symm
    | cons a s ha ih =>
      rw [Finset.sum_cons, Finset.sum_cons, ih, hr a, EReal.coe_add, EReal.coe_mul]
  exact sums Finset.univ

/-- Where a pair's values are finite, its second head's sum is the pair's less the first's. -/
theorem paired_eq (x g : Fin 128 → EReal) (l : Fin 128) (h : ∀ j, ∃ r : ℝ, x j = (r : EReal)) : paired x g l = keyed x g l := by
  unfold paired keyed
  have key : Scalar.select (k0_pay2 (ix2 0 l)) (sumA x) ((∑ j, x j * x j) - sumA x) = ∑ e, x (mate l e) * x (mate l e) := by
    rw [first, sumA_eq, halves]
    by_cases hl : l.val < 64
    · rw [if_pos hl]
      refine (Finset.sum_congr rfl fun e _ => ?_ :
        (∑ e : Fin 64, x ⟨e.val, by omega⟩ * x ⟨e.val, by omega⟩) = ∑ e, x (mate l e) * x (mate l e))
      have : (⟨e.val, by omega⟩ : Fin 128) = mate l e := Fin.ext (by show e.val = l.val / 64 * 64 + e.val; omega)
      rw [this]
    · rw [if_neg hl]
      obtain ⟨a, ha⟩ := sum_real 64 (fun e : Fin 64 => x ⟨e.val, by omega⟩) fun e => h _
      obtain ⟨b, hb⟩ := sum_real 64 (fun e : Fin 64 => x ⟨64 + e.val, by omega⟩) fun e => h _
      have e2 : (∑ e, x (mate l e) * x (mate l e)) = ∑ e : Fin 64, x ⟨64 + e.val, by omega⟩ * x ⟨64 + e.val, by omega⟩ :=
        Finset.sum_congr rfl fun e _ => by
          have : mate l e = (⟨64 + e.val, by omega⟩ : Fin 128) := Fin.ext (by show l.val / 64 * 64 + e.val = 64 + e.val; omega)
          rw [this]
      rw [e2]
      show (∑ e : Fin 64, x ⟨e.val, by omega⟩ * x ⟨e.val, by omega⟩) + (∑ e : Fin 64, x ⟨64 + e.val, by omega⟩ * x ⟨64 + e.val, by omega⟩)
        - (∑ e : Fin 64, x ⟨e.val, by omega⟩ * x ⟨e.val, by omega⟩) = _
      have ha' : (∑ e : Fin 64, x ⟨e.val, by omega⟩ * x ⟨e.val, by omega⟩) = (a : EReal) := ha
      have hb' : (∑ e : Fin 64, x ⟨64 + e.val, by omega⟩ * x ⟨64 + e.val, by omega⟩) = (b : EReal) := hb
      rw [ha', hb']
      exact (congrArg (fun y => y - (a : EReal)) (EReal.coe_add a b).symm).trans ((EReal.coe_sub _ _).symm.trans
        (congrArg (fun r : ℝ => (r : EReal)) (by ring)))
  rw [key]

/-- The first group's normalised keys, read. -/
theorem key0 (x : FVec Ideal S1x2048x128 .f32) (g : FVec Ideal S1x128 .f32) (r : Fin 2048) (l : Fin 128) :
    (k0_pay5 (F := Ideal) k0_pay2 x g (ix2 r l) : EReal) = paired (fun l => x (ix3 0 r l)) (fun l => g (ix2 0 l)) l := by
  unfold paired sumA
  pointwise [k0_pay5]

/-- The second group's normalised keys, read. -/
theorem key1 (x : FVec Ideal S1x2048x128 .f32) (g : FVec Ideal S1x128 .f32) (r : Fin 2048) (l : Fin 128) :
    (k0_pay171 (F := Ideal) (k0_pay164 x) (k0_pay165 g) (k0_pay168 k0_pay2) (k0_pay169 k0_pay2 x) (k0_pay170 k0_pay2 x) (ix2 r l) : EReal)
      = paired (fun l => x (ix3 0 r l)) (fun l => g (ix2 0 l)) l := by
  unfold paired sumA
  pointwise [k0_pay164, k0_pay165, k0_pay166, k0_pay167, k0_pay168, k0_pay169, k0_pay170, k0_pay171]

/-- The third group's normalised keys, read. -/
theorem key2 (x : FVec Ideal S1x2048x128 .f32) (g : FVec Ideal S1x128 .f32) (r : Fin 2048) (l : Fin 128) :
    (k0_pay346 (F := Ideal) k0_pay2 (k0_pay342 x) (k0_pay343 g) (k0_pay344 x) (k0_pay345 k0_pay2 x) (ix2 r l) : EReal)
      = paired (fun l => x (ix3 0 r l)) (fun l => g (ix2 0 l)) l := by
  unfold paired sumA
  pointwise [k0_pay342, k0_pay343, k0_pay344, k0_pay345, k0_pay346]

/-- The first window's keys, read. -/
theorem winK0 (x : FVec Ideal S128x128 .f32) (l : Fin 128) (w : Fin 128) :
    (k0_pay8 (F := Ideal) (k0_pay6 x) (ix5 0 0 0 l w) : EReal) = x (ix2 w l) ∧ (k0_pay10 (F := Ideal) (k0_pay6 x) (ix5 0 0 0 l w) : EReal) = x (ix2 w l) := by
  refine ⟨?_, ?_⟩
  · pointwise [k0_pay6, k0_pay8]
  · pointwise [k0_pay6, k0_pay10]

/-- The first window's values, read. -/
theorem winV0 (x : FVec Ideal S1x128x128 .f32) (l : Fin 128) (w : Fin 128) :
    (k0_pay9 (F := Ideal) (k0_pay7 x) (ix5 0 0 0 l w) : EReal) = x (ix3 0 w l) ∧ (k0_pay11 (F := Ideal) (k0_pay7 x) (ix5 0 0 0 l w) : EReal) = x (ix3 0 w l) := by
  refine ⟨?_, ?_⟩
  · pointwise [k0_pay7, k0_pay9]
  · pointwise [k0_pay7, k0_pay11]

/-- The second window's keys, read. -/
theorem winK1 (x : FVec Ideal S512x128 .f32) (l : Fin 128) (w : Fin 512) :
    (k0_pay174 (F := Ideal) x (ix5 0 0 0 l w) : EReal) = x (ix2 w l) ∧ (k0_pay176 (F := Ideal) x (ix5 0 0 0 l w) : EReal) = x (ix2 w l) := by
  refine ⟨?_, ?_⟩
  · pointwise [k0_pay172, k0_pay174]
  · pointwise [k0_pay172, k0_pay176]

/-- The second window's values, read. -/
theorem winV1 (x : FVec Ideal S1x512x128 .f32) (l : Fin 128) (w : Fin 512) :
    (k0_pay175 (F := Ideal) x (ix5 0 0 0 l w) : EReal) = x (ix3 0 w l) ∧ (k0_pay177 (F := Ideal) (k0_pay173 x) (ix5 0 0 0 l w) : EReal) = x (ix3 0 w l) := by
  refine ⟨?_, ?_⟩
  · pointwise [k0_pay173, k0_pay175]
  · pointwise [k0_pay173, k0_pay177]

/-- The third window's keys, read. -/
theorem winK2 (x : FVec Ideal S2048x128 .f32) (l : Fin 128) (w : Fin 2048) :
    (k0_pay349 (F := Ideal) x (ix5 0 0 0 l w) : EReal) = x (ix2 w l) ∧ (k0_pay351 (F := Ideal) (k0_pay347 x) (ix5 0 0 0 l w) : EReal) = x (ix2 w l) := by
  refine ⟨?_, ?_⟩
  · pointwise [k0_pay347, k0_pay349]
  · pointwise [k0_pay347, k0_pay351]

/-- The third window's values, read. -/
theorem winV2 (x : FVec Ideal S1x2048x128 .f32) (l : Fin 128) (w : Fin 2048) :
    (k0_pay350 (F := Ideal) x (ix5 0 0 0 l w) : EReal) = x (ix3 0 w l) ∧ (k0_pay352 (F := Ideal) (k0_pay348 x) (ix5 0 0 0 l w) : EReal) = x (ix3 0 w l) := by
  refine ⟨?_, ?_⟩
  · pointwise [k0_pay348, k0_pay350]
  · pointwise [k0_pay348, k0_pay352]

/-- The pair of heads of a place. -/
def pairOf (k : Fin 512) : Fin 4 := ⟨k.val / 128, by omega⟩
/-- The place of a place in its pair of heads. -/
def placeOf (k : Fin 512) : Fin 128 := ⟨k.val % 128, by omega⟩
/-- The column of place `l` of pair `h` of the keys of group `g`. -/
def kCol (g : Fin 3) (h : Fin 4) (l : Fin 128) : Fin 7680 := ⟨1536 + 512 * g.val + 128 * h.val + l.val, by omega⟩
/-- The column of place `l` of pair `h` of the values of group `g`. -/
def vCol (g : Fin 3) (h : Fin 4) (l : Fin 128) : Fin 7680 := ⟨3072 + 512 * g.val + 128 * h.val + l.val, by omega⟩
/-- The lane of a place in its head. -/
def laneOf (l : Fin 128) : Fin 64 := ⟨l.val % 64, by omega⟩

/-- A key (part zero) or a value of group `g` at place `l` of pair `h` of a sequence's token. -/
def pastAt (Z : FVec Ideal S8x2048x7680 .f32) (G : FVec Ideal S64 .f32) (g : Fin 3) (n : Fin 8) (p : Fin 2) (h : Fin 4) (l : Fin 128) (r : Fin 2048) : EReal :=
  if p.val = 0 then keyed (fun j => Z (ix3 n r (kCol g h j))) (fun j => G (ix1 (laneOf j))) l else Z (ix3 n r (vCol g h l))

/-- The first window: the last 128 tokens' keys and values, in both layers' places. -/
def outA (Z : FVec Ideal S8x2048x7680 .f32) (G : FVec Ideal S64 .f32) : FVec Ideal S2x8x2x512x128 .f32 := fun i =>
  pastAt Z G 0 (i 1) (i 2) (pairOf (i 3)) (placeOf (i 3)) ⟨1920 + (i 4).val, by have : (i 4).val < 128 := (i 4).isLt; omega⟩
/-- The second window: the last 512 tokens' keys and values, in both layers' places. -/
def outB (Z : FVec Ideal S8x2048x7680 .f32) (G : FVec Ideal S64 .f32) : FVec Ideal S2x8x2x512x512 .f32 := fun i =>
  pastAt Z G 1 (i 1) (i 2) (pairOf (i 3)) (placeOf (i 3)) ⟨1536 + (i 4).val, by have : (i 4).val < 512 := (i 4).isLt; omega⟩
/-- The third window: all 2048 tokens' keys and values, in both layers' places. -/
def outC (Z : FVec Ideal S8x2048x7680 .f32) (G : FVec Ideal S64 .f32) : FVec Ideal S2x8x2x512x2048 .f32 := fun i =>
  pastAt Z G 2 (i 1) (i 2) (pairOf (i 3)) (placeOf (i 3)) (i 4)

end Cert.Kernel9Ideal.Past
-- ==== Proof.Past.Reference.lean ====
module

public import proofs.«01_k».proof.Proof.Gen.Reference9Ideal.Run
public import proofs.«01_k».proof.Proof.Past.Terms

/-! The reference's prompt windows read at an index. -/

@[expose] public section

set_option maxRecDepth 16384

noncomputable section

namespace Cert.Reference9Ideal.Past

open Idealize.ShloMosaic Idealize.ShloMosaic.TcCoe Idealize.SL.Sem
open Cert.Reference9Ideal Cert.Reference9Ideal.Gen Cert.Moe Cert.Kernel2Ideal.Proj
open Cert.Kernel9Ideal.Past (keyed mate kCol vCol laneOf pairOf placeOf pastAt outA outB outC)

/-- The keys' columns by groups and heads. -/
def rK (Z : FVec Ideal S8x2048x7680 .f32) : FVec Ideal S8x2048x3x8x64 .f32 :=
  shapeCast _ (extractStridedSlice S8x2048x1536 ![0, 0, 1536] Z slices_S8x2048x7680_S8x2048x1536_0_0_1536) shapeCasts_S8x2048x1536_S8x2048x3x8x64

/-- The values' columns by groups and heads. -/
def rV (Z : FVec Ideal S8x2048x7680 .f32) : FVec Ideal S8x2048x3x8x64 .f32 :=
  shapeCast _ (extractStridedSlice S8x2048x1536 ![0, 0, 3072] Z slices_S8x2048x7680_S8x2048x1536_0_0_3072) shapeCasts_S8x2048x1536_S8x2048x3x8x64

/-- Heads over the root of their mean square, by the gain. -/
def rNorm (X : FVec Ideal S8x2048x3x8x64 .f32) (G : FVec Ideal S64 .f32) : FVec Ideal S8x2048x3x8x64 .f32 :=
  mulf (mulf X (broadcastInDim S8x2048x3x8x64 ![0, 1, 2, 3, 4] bcast_S8x2048x3x8x1_S8x2048x3x8x64_0_1_2_3_4 (Host.rsqrt (addf (Host.divf (broadcastInDim S8x2048x3x8x1 ![0, 1, 2, 3] bcast_S8x2048x3x8_S8x2048x3x8x1_0_1_2_3 (Host.reduceAdd (mulf X X) (constant S_ .f32 0x00000000#32) reducesTo_S8x2048x3x8x64_S8x2048x3x8_d4 h_S_)) (broadcastInDim S8x2048x3x8x1 ![] bcast_S_S8x2048x3x8x1 (constant S_ .f32 0x42800000#32))) (broadcastInDim S8x2048x3x8x1 ![] bcast_S_S8x2048x3x8x1 (constant S_ .f32 0x358637BD#32)))))) (broadcastInDim S8x2048x3x8x64 ![0, 1, 2, 3, 4] bcast_S1x1x1x1x64_S8x2048x3x8x64_0_1_2_3_4 (broadcastInDim S1x1x1x1x64 ![4] bcast_S64_S1x1x1x1x64_4 G))

/-- The first group's keys and values of every sequence and token. -/
def rCat0 (A B : FVec Ideal S8x2048x3x8x64 .f32) : FVec Ideal S8x2x128x8x64 .f32 :=
  concatenate S8x2x128x8x64 1 [⟨S8x1x128x8x64, (broadcastInDim S8x1x128x8x64 ![0, 2, 3, 4] bcast_S8x128x8x64_S8x1x128x8x64_0_2_3_4 (shapeCast _ (extractStridedSlice S8x128x1x8x64 ![0, 1920, 0, 0, 0] A slices_S8x2048x3x8x64_S8x128x1x8x64_0_1920_0_0_0) shapeCasts_S8x128x1x8x64_S8x128x8x64))⟩, ⟨S8x1x128x8x64, (broadcastInDim S8x1x128x8x64 ![0, 2, 3, 4] bcast_S8x128x8x64_S8x1x128x8x64_0_2_3_4 (shapeCast _ (extractStridedSlice S8x128x1x8x64 ![0, 1920, 0, 0, 0] B slices_S8x2048x3x8x64_S8x128x1x8x64_0_1920_0_0_0) shapeCasts_S8x128x1x8x64_S8x128x8x64))⟩] concatenates_S8x1x128x8x64_S8x1x128x8x64_S8x2x128x8x64_d1

/-- The first group's keys and values by their places. -/
def rTurn0 (C : FVec Ideal S8x2x128x8x64 .f32) : FVec Ideal S8x2x512x128 .f32 :=
  transpose S8x2x512x128 [0, 1, 3, 2] (shapeCast _ C shapeCasts_S8x2x128x8x64_S8x2x128x512) transposes_S8x2x128x512_S8x2x512x128_0_1_3_2

/-- The first window twice. -/
def rTwice0 (P : FVec Ideal S8x2x512x128 .f32) : FVec Ideal S2x8x2x512x128 .f32 :=
  concatenate S2x8x2x512x128 0 [⟨S1x8x2x512x128, (broadcastInDim S1x8x2x512x128 ![1, 2, 3, 4] bcast_S8x2x512x128_S1x8x2x512x128_1_2_3_4 P)⟩, ⟨S1x8x2x512x128, (broadcastInDim S1x8x2x512x128 ![1, 2, 3, 4] bcast_S8x2x512x128_S1x8x2x512x128_1_2_3_4 P)⟩] concatenates_S1x8x2x512x128_S1x8x2x512x128_S2x8x2x512x128_d0

/-- The first window. -/
def rWin0 (A B : FVec Ideal S8x2048x3x8x64 .f32) : FVec Ideal S2x8x2x512x128 .f32 := rTwice0 (rTurn0 (rCat0 A B))

/-- The second group's keys and values of every sequence and token. -/
def rCat1 (A B : FVec Ideal S8x2048x3x8x64 .f32) : FVec Ideal S8x2x512x8x64 .f32 :=
  concatenate S8x2x512x8x64 1 [⟨S8x1x512x8x64, (broadcastInDim S8x1x512x8x64 ![0, 2, 3, 4] bcast_S8x512x8x64_S8x1x512x8x64_0_2_3_4 (shapeCast _ (extractStridedSlice S8x512x1x8x64 ![0, 1536, 1, 0, 0] A slices_S8x2048x3x8x64_S8x512x1x8x64_0_1536_1_0_0) shapeCasts_S8x512x1x8x64_S8x512x8x64))⟩, ⟨S8x1x512x8x64, (broadcastInDim S8x1x512x8x64 ![0, 2, 3, 4] bcast_S8x512x8x64_S8x1x512x8x64_0_2_3_4 (shapeCast _ (extractStridedSlice S8x512x1x8x64 ![0, 1536, 1, 0, 0] B slices_S8x2048x3x8x64_S8x512x1x8x64_0_1536_1_0_0) shapeCasts_S8x512x1x8x64_S8x512x8x64))⟩] concatenates_S8x1x512x8x64_S8x1x512x8x64_S8x2x512x8x64_d1

/-- The second group's keys and values by their places. -/
def rTurn1 (C : FVec Ideal S8x2x512x8x64 .f32) : FVec Ideal S8x2x512x512 .f32 :=
  transpose S8x2x512x512 [0, 1, 3, 2] (shapeCast _ C shapeCasts_S8x2x512x8x64_S8x2x512x512) transposes_S8x2x512x512_S8x2x512x512_0_1_3_2

/-- The second window twice. -/
def rTwice1 (P : FVec Ideal S8x2x512x512 .f32) : FVec Ideal S2x8x2x512x512 .f32 :=
  concatenate S2x8x2x512x512 0 [⟨S1x8x2x512x512, (broadcastInDim S1x8x2x512x512 ![1, 2, 3, 4] bcast_S8x2x512x512_S1x8x2x512x512_1_2_3_4 P)⟩, ⟨S1x8x2x512x512, (broadcastInDim S1x8x2x512x512 ![1, 2, 3, 4] bcast_S8x2x512x512_S1x8x2x512x512_1_2_3_4 P)⟩] concatenates_S1x8x2x512x512_S1x8x2x512x512_S2x8x2x512x512_d0

/-- The second window. -/
def rWin1 (A B : FVec Ideal S8x2048x3x8x64 .f32) : FVec Ideal S2x8x2x512x512 .f32 := rTwice1 (rTurn1 (rCat1 A B))

/-- The third group's keys and values of every sequence and token. -/
def rCat2 (A B : FVec Ideal S8x2048x3x8x64 .f32) : FVec Ideal S8x2x2048x8x64 .f32 :=
  concatenate S8x2x2048x8x64 1 [⟨S8x1x2048x8x64, (broadcastInDim S8x1x2048x8x64 ![0, 2, 3, 4] bcast_S8x2048x8x64_S8x1x2048x8x64_0_2_3_4 (shapeCast _ (extractStridedSlice S8x2048x1x8x64 ![0, 0, 2, 0, 0] A slices_S8x2048x3x8x64_S8x2048x1x8x64_0_0_2_0_0) shapeCasts_S8x2048x1x8x64_S8x2048x8x64))⟩, ⟨S8x1x2048x8x64, (broadcastInDim S8x1x2048x8x64 ![0, 2, 3, 4] bcast_S8x2048x8x64_S8x1x2048x8x64_0_2_3_4 (shapeCast _ (extractStridedSlice S8x2048x1x8x64 ![0, 0, 2, 0, 0] B slices_S8x2048x3x8x64_S8x2048x1x8x64_0_0_2_0_0) shapeCasts_S8x2048x1x8x64_S8x2048x8x64))⟩] concatenates_S8x1x2048x8x64_S8x1x2048x8x64_S8x2x2048x8x64_d1

/-- The third group's keys and values by their places. -/
def rTurn2 (C : FVec Ideal S8x2x2048x8x64 .f32) : FVec Ideal S8x2x512x2048 .f32 :=
  transpose S8x2x512x2048 [0, 1, 3, 2] (shapeCast _ C shapeCasts_S8x2x2048x8x64_S8x2x2048x512) transposes_S8x2x2048x512_S8x2x512x2048_0_1_3_2

/-- The third window twice. -/
def rTwice2 (P : FVec Ideal S8x2x512x2048 .f32) : FVec Ideal S2x8x2x512x2048 .f32 :=
  concatenate S2x8x2x512x2048 0 [⟨S1x8x2x512x2048, (broadcastInDim S1x8x2x512x2048 ![1, 2, 3, 4] bcast_S8x2x512x2048_S1x8x2x512x2048_1_2_3_4 P)⟩, ⟨S1x8x2x512x2048, (broadcastInDim S1x8x2x512x2048 ![1, 2, 3, 4] bcast_S8x2x512x2048_S1x8x2x512x2048_1_2_3_4 P)⟩] concatenates_S1x8x2x512x2048_S1x8x2x512x2048_S2x8x2x512x2048_d0

/-- The third window. -/
def rWin2 (A B : FVec Ideal S8x2048x3x8x64 .f32) : FVec Ideal S2x8x2x512x2048 .f32 := rTwice2 (rTurn2 (rCat2 A B))

/-- The head of a place. -/
def headOf (k : Fin 512) : Fin 8 := ⟨k.val / 64, by omega⟩
/-- The lane of a place. -/
def lane (k : Fin 512) : Fin 64 := ⟨k.val % 64, by omega⟩

/-- The keys' columns, read. -/
theorem rK_apply (Z : FVec Ideal S8x2048x7680 .f32) (n : Fin 8) (r : Fin 2048) (g : Fin 3) (h : Fin 8) (d : Fin 64) :
    (rK Z (ix5 n r g h d) : EReal) = Z (ix3 n r ⟨1536 + (g.val * 512 + h.val * 64 + d.val), by omega⟩) := by
  pointwise [rK]

/-- The values' columns, read. -/
theorem rV_apply (Z : FVec Ideal S8x2048x7680 .f32) (n : Fin 8) (r : Fin 2048) (g : Fin 3) (h : Fin 8) (d : Fin 64) :
    (rV Z (ix5 n r g h d) : EReal) = Z (ix3 n r ⟨3072 + (g.val * 512 + h.val * 64 + d.val), by omega⟩) := by
  pointwise [rV]

/-- The normalised heads, read. -/
theorem rNorm_apply (X : FVec Ideal S8x2048x3x8x64 .f32) (G : FVec Ideal S64 .f32) (n : Fin 8) (r : Fin 2048) (g : Fin 3) (h : Fin 8) (d : Fin 64) :
    (rNorm X G (ix5 n r g h d) : EReal) = X (ix5 n r g h d) * Ideal.rsqrt (Ideal.div (∑ e, X (ix5 n r g h e) * X (ix5 n r g h e))
      (Ideal.ofBits FTy.f32 0x42800000#32) + Ideal.ofBits FTy.f32 0x358637BD#32) * G (ix1 d) := by
  pointwise [rNorm]

/-- The first group's keys and values, read. -/
theorem rCat0_apply (A B : FVec Ideal S8x2048x3x8x64 .f32) (n : Fin 8) (p : Fin 2) (w : Fin 128) (h : Fin 8) (d : Fin 64) :
    (rCat0 A B (ix5 n p w h d) : EReal) = if p.val = 0 then A (ix5 n ⟨1920 + w.val, by omega⟩ 0 h d) else B (ix5 n ⟨1920 + w.val, by omega⟩ 0 h d) := by
  pointwise [rCat0]
  by_cases h : p.val < 1
  · exact (dif_pos h).trans (if_pos (show p.val = 0 by omega)).symm
  · exact (dif_neg h).trans (if_neg (show ¬ p.val = 0 by omega)).symm

/-- The first group's places, read. -/
theorem rTurn0_apply (C : FVec Ideal S8x2x128x8x64 .f32) (n : Fin 8) (p : Fin 2) (k : Fin 512) (w : Fin 128) :
    (rTurn0 C (ix4 n p k w) : EReal) = C (ix5 n p w (headOf k) (lane k)) := by
  unfold headOf lane
  pointwise [rTurn0]

/-- The first window twice, read. -/
theorem rTwice0_apply (P : FVec Ideal S8x2x512x128 .f32) (l : Fin 2) (n : Fin 8) (p : Fin 2) (k : Fin 512) (w : Fin 128) :
    (rTwice0 P (ix5 l n p k w) : EReal) = P (ix4 n p k w) := by
  pointwise [rTwice0]
  by_cases hl : l.val < 1
  · exact dif_pos hl
  · exact dif_neg hl

/-- The first window, read. -/
theorem rWin0_apply (A B : FVec Ideal S8x2048x3x8x64 .f32) (l : Fin 2) (n : Fin 8) (p : Fin 2) (k : Fin 512) (w : Fin 128) :
    (rWin0 A B (ix5 l n p k w) : EReal) = if p.val = 0 then A (ix5 n ⟨1920 + w.val, by omega⟩ 0 (headOf k) (lane k)) else B (ix5 n ⟨1920 + w.val, by omega⟩ 0 (headOf k) (lane k)) :=
  (rTwice0_apply _ l n p k w).trans ((rTurn0_apply _ n p k w).trans (rCat0_apply A B n p w _ _))

/-- The second group's keys and values, read. -/
theorem rCat1_apply (A B : FVec Ideal S8x2048x3x8x64 .f32) (n : Fin 8) (p : Fin 2) (w : Fin 512) (h : Fin 8) (d : Fin 64) :
    (rCat1 A B (ix5 n p w h d) : EReal) = if p.val = 0 then A (ix5 n ⟨1536 + w.val, by omega⟩ 1 h d) else B (ix5 n ⟨1536 + w.val, by omega⟩ 1 h d) := by
  pointwise [rCat1]
  by_cases h : p.val < 1
  · exact (dif_pos h).trans (if_pos (show p.val = 0 by omega)).symm
  · exact (dif_neg h).trans (if_neg (show ¬ p.val = 0 by omega)).symm

/-- The second group's places, read. -/
theorem rTurn1_apply (C : FVec Ideal S8x2x512x8x64 .f32) (n : Fin 8) (p : Fin 2) (k : Fin 512) (w : Fin 512) :
    (rTurn1 C (ix4 n p k w) : EReal) = C (ix5 n p w (headOf k) (lane k)) := by
  unfold headOf lane
  pointwise [rTurn1]

/-- The second window twice, read. -/
theorem rTwice1_apply (P : FVec Ideal S8x2x512x512 .f32) (l : Fin 2) (n : Fin 8) (p : Fin 2) (k : Fin 512) (w : Fin 512) :
    (rTwice1 P (ix5 l n p k w) : EReal) = P (ix4 n p k w) := by
  pointwise [rTwice1]
  by_cases hl : l.val < 1
  · exact dif_pos hl
  · exact dif_neg hl

/-- The second window, read. -/
theorem rWin1_apply (A B : FVec Ideal S8x2048x3x8x64 .f32) (l : Fin 2) (n : Fin 8) (p : Fin 2) (k : Fin 512) (w : Fin 512) :
    (rWin1 A B (ix5 l n p k w) : EReal) = if p.val = 0 then A (ix5 n ⟨1536 + w.val, by omega⟩ 1 (headOf k) (lane k)) else B (ix5 n ⟨1536 + w.val, by omega⟩ 1 (headOf k) (lane k)) :=
  (rTwice1_apply _ l n p k w).trans ((rTurn1_apply _ n p k w).trans (rCat1_apply A B n p w _ _))

/-- The third group's keys and values, read. -/
theorem rCat2_apply (A B : FVec Ideal S8x2048x3x8x64 .f32) (n : Fin 8) (p : Fin 2) (w : Fin 2048) (h : Fin 8) (d : Fin 64) :
    (rCat2 A B (ix5 n p w h d) : EReal) = if p.val = 0 then A (ix5 n w 2 h d) else B (ix5 n w 2 h d) := by
  pointwise [rCat2]
  by_cases h : p.val < 1
  · exact (dif_pos h).trans (if_pos (show p.val = 0 by omega)).symm
  · exact (dif_neg h).trans (if_neg (show ¬ p.val = 0 by omega)).symm

/-- The third group's places, read. -/
theorem rTurn2_apply (C : FVec Ideal S8x2x2048x8x64 .f32) (n : Fin 8) (p : Fin 2) (k : Fin 512) (w : Fin 2048) :
    (rTurn2 C (ix4 n p k w) : EReal) = C (ix5 n p w (headOf k) (lane k)) := by
  unfold headOf lane
  pointwise [rTurn2]

/-- The third window twice, read. -/
theorem rTwice2_apply (P : FVec Ideal S8x2x512x2048 .f32) (l : Fin 2) (n : Fin 8) (p : Fin 2) (k : Fin 512) (w : Fin 2048) :
    (rTwice2 P (ix5 l n p k w) : EReal) = P (ix4 n p k w) := by
  pointwise [rTwice2]
  by_cases hl : l.val < 1
  · exact dif_pos hl
  · exact dif_neg hl

/-- The third window, read. -/
theorem rWin2_apply (A B : FVec Ideal S8x2048x3x8x64 .f32) (l : Fin 2) (n : Fin 8) (p : Fin 2) (k : Fin 512) (w : Fin 2048) :
    (rWin2 A B (ix5 l n p k w) : EReal) = if p.val = 0 then A (ix5 n w 2 (headOf k) (lane k)) else B (ix5 n w 2 (headOf k) (lane k)) :=
  (rTwice2_apply _ l n p k w).trans ((rTurn2_apply _ n p k w).trans (rCat2_apply A B n p w _ _))

/-- Sixty-four, read off its pattern. -/
theorem sixtyFour : Ideal.ofBits FTy.f32 0x42800000#32 = ((64 : ℝ) : EReal) := by
  simp [Ideal.ofBits, Ideal.ieee]
  norm_num
  exact (EReal.coe_mul _ _).symm.trans (congrArg (fun r : ℝ => (r : EReal)) (by norm_num))

/-- One sixty-fourth, read off its pattern. -/
theorem sixtyFourth : Ideal.ofBits FTy.f32 0x3C800000#32 = ((1 / 64 : ℝ) : EReal) := by
  simp [Ideal.ofBits, Ideal.ieee]
  norm_num
  exact (EReal.coe_mul _ _).symm.trans (congrArg (fun r : ℝ => (r : EReal)) (by norm_num))

/-- Dividing by sixty-four is multiplying by its reciprocal. -/
theorem over64 (x : EReal) : Ideal.div x (Ideal.ofBits FTy.f32 0x42800000#32) = x * Ideal.ofBits FTy.f32 0x3C800000#32 := by
  rw [sixtyFour, sixtyFourth, Ideal.div_coe (by norm_num)]

/-- The normalised keys at a place. -/
theorem key_at (Z : FVec Ideal S8x2048x7680 .f32) (G : FVec Ideal S64 .f32) (n : Fin 8) (r : Fin 2048) (g : Fin 3) (k : Fin 512) :
    (rNorm (rK Z) G (ix5 n r g (headOf k) (lane k)) : EReal)
      = keyed (fun j => Z (ix3 n r (kCol g (pairOf k) j))) (fun j => G (ix1 (laneOf j))) (placeOf k) := by
  rw [rNorm_apply, over64]
  simp only [rK_apply]
  have e : (⟨1536 + (g.val * 512 + (headOf k).val * 64 + (lane k).val), by omega⟩ : Fin 7680) = kCol g (pairOf k) (placeOf k) :=
    Fin.ext (by show 1536 + (g.val * 512 + k.val / 64 * 64 + k.val % 64) = 1536 + 512 * g.val + 128 * (k.val / 128) + k.val % 128; omega)
  have f : ∀ d : Fin 64, (⟨1536 + (g.val * 512 + (headOf k).val * 64 + d.val), by omega⟩ : Fin 7680) = kCol g (pairOf k) (mate (placeOf k) d) := fun d =>
    Fin.ext (by show 1536 + (g.val * 512 + k.val / 64 * 64 + d.val) = 1536 + 512 * g.val + 128 * (k.val / 128) + (k.val % 128 / 64 * 64 + d.val); omega)
  have hl : lane k = laneOf (placeOf k) := Fin.ext (by show k.val % 64 = k.val % 128 % 64; omega)
  rw [e, hl]
  simp only [f]
  rfl

/-- The values at a place. -/
theorem val_at (Z : FVec Ideal S8x2048x7680 .f32) (n : Fin 8) (r : Fin 2048) (g : Fin 3) (k : Fin 512) :
    (rV Z (ix5 n r g (headOf k) (lane k)) : EReal) = Z (ix3 n r (vCol g (pairOf k) (placeOf k))) := by
  rw [rV_apply]
  exact congrArg (fun c => Z (ix3 n r c))
    (Fin.ext (by show 3072 + (g.val * 512 + k.val / 64 * 64 + k.val % 64) = 3072 + 512 * g.val + 128 * (k.val / 128) + k.val % 128; omega))

/-- The reference's first window is the window of its sequence. -/
theorem stagedA (Z : FVec Ideal S8x2048x7680 .f32) (G : FVec Ideal S64 .f32) : rWin0 (rNorm (rK Z) G) (rV Z) = outA Z G := by
  have h : ∀ (l : Fin 2) (n : Fin 8) (p : Fin 2) (k : Fin 512) (w : Fin 128),
      (rWin0 (rNorm (rK Z) G) (rV Z) (ix5 l n p k w) : EReal) = outA Z G (ix5 l n p k w) := fun l n p k w => by
    rw [rWin0_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The reference's second window is the window of its sequence. -/
theorem stagedB (Z : FVec Ideal S8x2048x7680 .f32) (G : FVec Ideal S64 .f32) : rWin1 (rNorm (rK Z) G) (rV Z) = outB Z G := by
  have h : ∀ (l : Fin 2) (n : Fin 8) (p : Fin 2) (k : Fin 512) (w : Fin 512),
      (rWin1 (rNorm (rK Z) G) (rV Z) (ix5 l n p k w) : EReal) = outB Z G (ix5 l n p k w) := fun l n p k w => by
    rw [rWin1_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The reference's third window is the window of its sequence. -/
theorem stagedC (Z : FVec Ideal S8x2048x7680 .f32) (G : FVec Ideal S64 .f32) : rWin2 (rNorm (rK Z) G) (rV Z) = outC Z G := by
  have h : ∀ (l : Fin 2) (n : Fin 8) (p : Fin 2) (k : Fin 512) (w : Fin 2048),
      (rWin2 (rNorm (rK Z) G) (rV Z) (ix5 l n p k w) : EReal) = outC Z G (ix5 l n p k w) := fun l n p k w => by
    rw [rWin2_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The reference ends with the windows of its sequences. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = outA (m ((c.tc : Thread nD τ).loc main_arg0)) (m ((c.tc : Thread nD τ).loc main_arg2))
      ∧ r.2.mem ((c.tc : Thread nD τ).loc main_v40) = outB (m ((c.tc : Thread nD τ).loc main_arg0)) (m ((c.tc : Thread nD τ).loc main_arg2))
      ∧ r.2.mem ((c.tc : Thread nD τ).loc main_v52) = outC (m ((c.tc : Thread nD τ).loc main_arg0)) (m ((c.tc : Thread nD τ).loc main_arg2)) :=
  (θ_run defs _ _).mono (fun r h c => ⟨(h c).1.trans (stagedA _ _), (h c).2.1.trans (stagedB _ _), (h c).2.2.1.trans (stagedC _ _)⟩)
    (Value.run m ρ)

end Cert.Reference9Ideal.Past
-- ==== Proof.Past.Value.lean ====
module

public import proofs.«01_k».proof.Proof.Gen.Kernel9Ideal.Value
public import proofs.«01_k».proof.Proof.Past.Terms

/-! The windows that the prompts leave behind: the arrays the run ends with. -/

@[expose] public section

set_option maxRecDepth 16384

noncomputable section

namespace Cert.Kernel9Ideal.Past

open Idealize.ShloMosaic Idealize.ShloMosaic.TcCoe Idealize.SL.Sem
open Idealize.ShloMosaic.Pipeline (Dat)
open Cert.Kernel9Ideal Cert.Kernel9Ideal.Gen Cert.Moe

variable (m : (ℓ : Loc nD τ sig) → Buf (Elt Ideal) ℓ)

/-- The block index of the windows the result windows depend on, at every point. -/
theorem idx_val : ∀ t : Fin cfg0.N, win0_1.index t = ![t.val / 4, 0, 12 + t.val % 4] ∧ win0_2.index t = ![t.val / 4, 0, 24 + t.val % 4]
    ∧ win0_4.index t = ![t.val / 4, 0, 16 + t.val % 4] ∧ win0_5.index t = ![t.val / 4, 0, 28 + t.val % 4]
    ∧ win0_7.index t = ![t.val / 4, 0, 20 + t.val % 4] ∧ win0_8.index t = ![t.val / 4, 0, 32 + t.val % 4]
    ∧ win0_10.index t = ![0, 0] ∧ win0_13.index t = ![0, t.val / 4, 0, t.val % 4, 0]
    ∧ win0_14.index t = ![0, t.val / 4, 0, t.val % 4, 0] ∧ win0_15.index t = ![0, t.val / 4, 0, t.val % 4, 0] :=
  (by decide +kernel : ∀ t : Fin grid0.N, _)

/-- The number of grid points. -/
theorem points (t : Fin cfg0.N) : t.val < 32 := lt_of_lt_of_eq t.isLt N_0

/-- The projected columns as launched. -/
abbrev aZ (c : Dev nD) : FVec Ideal S8x2048x7680 .f32 := m ((c : Thread nD τ).loc main_arg0)
/-- The keys' gain as launched. -/
abbrev aG (c : Dev nD) : FVec Ideal S64 .f32 := m ((c : Thread nD τ).loc main_arg2)

/-- The sequence of a point. -/
def row (t : Fin cfg0.N) : Fin 8 := ⟨t.val / 4, by have := points t; omega⟩
/-- The pair of heads of a point. -/
def pair (t : Fin cfg0.N) : Fin 4 := ⟨t.val % 4, by omega⟩

/-- Every key is finite. -/
def Finite (Z : FVec Ideal S8x2048x7680 .f32) : Prop :=
  ∀ (n : Fin 8) (r : Fin 2048) (g : Fin 3) (h : Fin 4) (l : Fin 128), ∃ q : ℝ, (Z (ix3 n r (kCol g h l)) : EReal) = (q : EReal)

/-- The block of the keys' gain. -/
theorem g_blk (c : Dev nD) (t : Fin cfg0.N) (k : Fin 128) :
    ((iblk m c 10 t : FVec Ideal S1x128 .f32) (ix2 0 k) : EReal) = aG m c (ix1 (laneOf k)) := by
  unfold laneOf
  blk_point [iblk, V, idx_val t]

/-- The block of the first group's keys. -/
theorem k0_blk (c : Dev nD) (t : Fin cfg0.N) (r : Fin 2048) (l : Fin 128) :
    ((iblk m c 1 t : FVec Ideal S1x2048x128 .f32) (ix3 0 r l) : EReal) = aZ m c (ix3 (row t) r (kCol 0 (pair t) l)) := by
  unfold row pair kCol
  refine Eq.trans ?_ (congrArg (fun n : Fin 7680 => (aZ m c (ix3 (row t) r n) : EReal)) (Fin.ext (by show (12 + t.val % 4) * 128 + l.val = 1536 + 512 * 0 + 128 * (t.val % 4) + l.val; omega) :
    (⟨(12 + t.val % 4) * 128 + l.val, by omega⟩ : Fin 7680) = _))
  unfold row
  blk_ext [iblk, V, idx_val t]

/-- The block of the first group's values. -/
theorem v0_blk (c : Dev nD) (t : Fin cfg0.N) (r : Fin 2048) (l : Fin 128) :
    ((iblk m c 2 t : FVec Ideal S1x2048x128 .f32) (ix3 0 r l) : EReal) = aZ m c (ix3 (row t) r (vCol 0 (pair t) l)) := by
  unfold row pair vCol
  refine Eq.trans ?_ (congrArg (fun n : Fin 7680 => (aZ m c (ix3 (row t) r n) : EReal)) (Fin.ext (by show (24 + t.val % 4) * 128 + l.val = 3072 + 512 * 0 + 128 * (t.val % 4) + l.val; omega) :
    (⟨(24 + t.val % 4) * 128 + l.val, by omega⟩ : Fin 7680) = _))
  unfold row
  blk_ext [iblk, V, idx_val t]

/-- The block of the second group's keys. -/
theorem k1_blk (c : Dev nD) (t : Fin cfg0.N) (r : Fin 2048) (l : Fin 128) :
    ((iblk m c 4 t : FVec Ideal S1x2048x128 .f32) (ix3 0 r l) : EReal) = aZ m c (ix3 (row t) r (kCol 1 (pair t) l)) := by
  unfold row pair kCol
  refine Eq.trans ?_ (congrArg (fun n : Fin 7680 => (aZ m c (ix3 (row t) r n) : EReal)) (Fin.ext (by show (16 + t.val % 4) * 128 + l.val = 1536 + 512 * 1 + 128 * (t.val % 4) + l.val; omega) :
    (⟨(16 + t.val % 4) * 128 + l.val, by omega⟩ : Fin 7680) = _))
  unfold row
  blk_ext [iblk, V, idx_val t]

/-- The block of the second group's values. -/
theorem v1_blk (c : Dev nD) (t : Fin cfg0.N) (r : Fin 2048) (l : Fin 128) :
    ((iblk m c 5 t : FVec Ideal S1x2048x128 .f32) (ix3 0 r l) : EReal) = aZ m c (ix3 (row t) r (vCol 1 (pair t) l)) := by
  unfold row pair vCol
  refine Eq.trans ?_ (congrArg (fun n : Fin 7680 => (aZ m c (ix3 (row t) r n) : EReal)) (Fin.ext (by show (28 + t.val % 4) * 128 + l.val = 3072 + 512 * 1 + 128 * (t.val % 4) + l.val; omega) :
    (⟨(28 + t.val % 4) * 128 + l.val, by omega⟩ : Fin 7680) = _))
  unfold row
  blk_ext [iblk, V, idx_val t]

/-- The block of the third group's keys. -/
theorem k2_blk (c : Dev nD) (t : Fin cfg0.N) (r : Fin 2048) (l : Fin 128) :
    ((iblk m c 7 t : FVec Ideal S1x2048x128 .f32) (ix3 0 r l) : EReal) = aZ m c (ix3 (row t) r (kCol 2 (pair t) l)) := by
  unfold row pair kCol
  refine Eq.trans ?_ (congrArg (fun n : Fin 7680 => (aZ m c (ix3 (row t) r n) : EReal)) (Fin.ext (by show (20 + t.val % 4) * 128 + l.val = 1536 + 512 * 2 + 128 * (t.val % 4) + l.val; omega) :
    (⟨(20 + t.val % 4) * 128 + l.val, by omega⟩ : Fin 7680) = _))
  unfold row
  blk_ext [iblk, V, idx_val t]

/-- The block of the third group's values. -/
theorem v2_blk (c : Dev nD) (t : Fin cfg0.N) (r : Fin 2048) (l : Fin 128) :
    ((iblk m c 8 t : FVec Ideal S1x2048x128 .f32) (ix3 0 r l) : EReal) = aZ m c (ix3 (row t) r (vCol 2 (pair t) l)) := by
  unfold row pair vCol
  refine Eq.trans ?_ (congrArg (fun n : Fin 7680 => (aZ m c (ix3 (row t) r n) : EReal)) (Fin.ext (by show (32 + t.val % 4) * 128 + l.val = 3072 + 512 * 2 + 128 * (t.val % 4) + l.val; omega) :
    (⟨(32 + t.val % 4) * 128 + l.val, by omega⟩ : Fin 7680) = _))
  unfold row
  blk_ext [iblk, V, idx_val t]

/-- A load of rows of a box of keys written whole, read. -/
theorem scratch (P : FVec Ideal S2048x128 .f32) (L : List (View.Piece (Elt Ideal) S2048x128 .f32)) (K o : Nat)
    (inb0 : ∀ a, (![0, 0] : Fin 2 → Nat) a + (![2048, 128] : Fin 2 → Nat) a ≤ S2048x128.size a)
    (inb1 : ∀ a, (![o, 0] : Fin 2 → Nat) a + (![K, 128] : Fin 2 → Nat) a ≤ S2048x128.size a)
    (w : Fin K) (l : Fin 128) (r : Fin 2048) (hr : r.val = o + w.val) :
    ((View.whole cc0_scratch1).readCov (⟨Rect.unit (s := S2048x128) ![0, 0] ![2048, 128] inb0, P⟩ :: L)
      (Rect.unit (s := S2048x128) ![o, 0] ![K, 128] inb1).toLoadRect (ix2 w l) : EReal) = P (ix2 r l) := by
  have hz : ∀ a, (![0, 0] : Fin 2 → Nat) a = 0 := fun a => by
    match a with
    | ⟨0, _⟩ => rfl
    | ⟨1, _⟩ => rfl
  rw [View.readCov_eq_canon_ld _ _ _ (fun y => ⟨_, List.mem_cons_self, View.mem_set_unit_zero (funext hz) inb0 y⟩),
    View.canon_cons_unit_lit' (S := S2048x128) inb0 P L hz]
  exact View.ld_unit_apply_of (Val := Elt Ideal) (S := S2048x128) (e := .f32) P ![o, 0] ![K, 128] inb1 (ix2 w l) (ix2 r l) (fun a => by
    match a with
    | ⟨0, _⟩ => exact hr
    | ⟨1, _⟩ => exact (Nat.zero_add _).symm)

/-- A point's normalised keys are its sequence's. -/
theorem keyAt (c : Dev nD) (hZ : Finite (aZ m c)) (t : Fin cfg0.N) (g : Fin 3) (x : FVec Ideal S1x2048x128 .f32)
    (hx : ∀ r l, (x (ix3 0 r l) : EReal) = aZ m c (ix3 (row t) r (kCol g (pair t) l))) (r : Fin 2048) (l : Fin 128) :
    paired (fun l => x (ix3 0 r l)) (fun l => (iblk m c 10 t : FVec Ideal S1x128 .f32) (ix2 0 l)) l
      = pastAt (aZ m c) (aG m c) g (row t) 0 (pair t) l r := by
  rw [funext fun l => hx r l, funext fun l => g_blk m c t l]
  exact (paired_eq _ _ _ fun j => hZ _ _ _ _ _).trans (if_pos rfl).symm

/-- Where a store's entry lands. -/
theorem lands {W : Nat} (o : Fin 5 → Nat) (inb : ∀ a, o a + (![1, 1, 1, 128, W] : Fin 5 → Nat) a ≤ (![2, 1, 2, 128, W] : Fin 5 → Nat) a)
    (l : Fin 128) (w : Fin W) (a : Fin 5) :
    (((Rect.unit (s := ⟨5, ![2, 1, 2, 128, W]⟩) o ![1, 1, 1, 128, W] inb).emb (ix5 0 0 0 l w) a).val) = o a + ((ix5 0 0 0 l w : (⟨5, ![1, 1, 1, 128, W]⟩ : Shape).Idx) a).val :=
  Rect.idx_unit_val (s := ⟨5, ![2, 1, 2, 128, W]⟩) o ![1, 1, 1, 128, W] inb (ix5 0 0 0 l w) a

/-- What a point leaves of the first window. -/
def blockA (c : Dev nD) (t : Fin cfg0.N) : FVec Ideal S2x1x2x128x128 .f32 := fun z =>
  pastAt (aZ m c) (aG m c) 0 (row t) (z 2) (pair t) (z 3) ⟨1920 + (z 4).val, by have : (z 4).val < 128 := (z 4).isLt; omega⟩

/-- What a point leaves of the first window, at the coordinates that count. -/
theorem blockA_of (c : Dev nD) (t : Fin cfg0.N) (z : S2x1x2x128x128.Idx) (p : Fin 2) (l : Fin 128) (w : Fin 128)
    (hp : z 2 = p) (hl : z 3 = l) (hw : z 4 = w) :
    (blockA m c t z : EReal) = pastAt (aZ m c) (aG m c) 0 (row t) p (pair t) l ⟨1920 + w.val, by omega⟩ := by
  subst hp hl hw
  rfl

/-- What a point leaves of the first window, read. -/
theorem read13 (c : Dev nD) (hZ : Finite (aZ m c)) (t : Fin cfg0.N) (y : S2x1x2x128x128.Idx) :
    ((outsAt0 m c t).2.1 y : EReal) = blockA m c t y := by
  unfold outsAt0
  dsimp only
  unfold out0_A_13
  refine View.read_writes_apply_of_pieces (Val := Elt Ideal) VO0_13 _ (blockA m c t) _ ?_ y (cover0_A_13 ..)
  unfold kernelRun0_A
  dsimp only
  frame_out
  refine List.forall_mem_cons.2 ⟨?_, List.forall_mem_cons.2 ⟨?_, List.forall_mem_cons.2 ⟨?_, List.forall_mem_cons.2 ⟨?_, fun p hp => absurd hp List.not_mem_nil⟩⟩⟩⟩
  · refine fun x => ?_
    have hx : x = ix5 0 0 0 (x 3) (x 4) := by blk_ext
    obtain ⟨l, w, rfl⟩ : ∃ (l : Fin 128) (w : Fin 128), x = ix5 0 0 0 l w := ⟨x 3, x 4, hx⟩
    refine Eq.trans ?_ (Eq.symm (blockA_of m c t _ 1 l w ?_ ?_ ?_))
    · dsimp only
      refine ((winV0 _ l w).2).trans ?_
      refine (View.ld_unit_apply_of (Val := Elt Ideal) (S := S1x2048x128) (e := .f32) (iblk m c 2 t) _ _ _ _ (ix3 0 ⟨1920 + w.val, by omega⟩ l) (fun a => by
        match a with
        | ⟨0, _⟩ => rfl
        | ⟨1, _⟩ => rfl
        | ⟨2, _⟩ => exact (Nat.zero_add _).symm)).trans ?_
      exact v0_blk m c t _ l
    · rfl
    · exact Fin.ext ((lands _ inb_S2x1x2x128x128_S1x1x1x128x128_1_0_1_0_0 l w 3).trans (Nat.zero_add _))
    · exact Fin.ext ((lands _ inb_S2x1x2x128x128_S1x1x1x128x128_1_0_1_0_0 l w 4).trans (Nat.zero_add _))
  · refine fun x => ?_
    have hx : x = ix5 0 0 0 (x 3) (x 4) := by blk_ext
    obtain ⟨l, w, rfl⟩ : ∃ (l : Fin 128) (w : Fin 128), x = ix5 0 0 0 l w := ⟨x 3, x 4, hx⟩
    refine Eq.trans ?_ (Eq.symm (blockA_of m c t _ 0 l w ?_ ?_ ?_))
    · dsimp only
      refine ((winK0 _ l w).2).trans ?_
      refine (scratch _ _ 128 1920 _ _ w l ⟨1920 + w.val, by omega⟩ rfl).trans ?_
      refine (key0 _ _ _ l).trans ?_
      exact keyAt m c hZ t 0 _ (k0_blk m c t) _ l
    · rfl
    · exact Fin.ext ((lands _ inb_S2x1x2x128x128_S1x1x1x128x128_1_0_0_0_0 l w 3).trans (Nat.zero_add _))
    · exact Fin.ext ((lands _ inb_S2x1x2x128x128_S1x1x1x128x128_1_0_0_0_0 l w 4).trans (Nat.zero_add _))
  · refine fun x => ?_
    have hx : x = ix5 0 0 0 (x 3) (x 4) := by blk_ext
    obtain ⟨l, w, rfl⟩ : ∃ (l : Fin 128) (w : Fin 128), x = ix5 0 0 0 l w := ⟨x 3, x 4, hx⟩
    refine Eq.trans ?_ (Eq.symm (blockA_of m c t _ 1 l w ?_ ?_ ?_))
    · dsimp only
      refine ((winV0 _ l w).1).trans ?_
      refine (View.ld_unit_apply_of (Val := Elt Ideal) (S := S1x2048x128) (e := .f32) (iblk m c 2 t) _ _ _ _ (ix3 0 ⟨1920 + w.val, by omega⟩ l) (fun a => by
        match a with
        | ⟨0, _⟩ => rfl
        | ⟨1, _⟩ => rfl
        | ⟨2, _⟩ => exact (Nat.zero_add _).symm)).trans ?_
      exact v0_blk m c t _ l
    · rfl
    · exact Fin.ext ((lands _ inb_S2x1x2x128x128_S1x1x1x128x128_0_0_1_0_0 l w 3).trans (Nat.zero_add _))
    · exact Fin.ext ((lands _ inb_S2x1x2x128x128_S1x1x1x128x128_0_0_1_0_0 l w 4).trans (Nat.zero_add _))
  · refine fun x => ?_
    have hx : x = ix5 0 0 0 (x 3) (x 4) := by blk_ext
    obtain ⟨l, w, rfl⟩ : ∃ (l : Fin 128) (w : Fin 128), x = ix5 0 0 0 l w := ⟨x 3, x 4, hx⟩
    refine Eq.trans ?_ (Eq.symm (blockA_of m c t _ 0 l w ?_ ?_ ?_))
    · dsimp only
      refine ((winK0 _ l w).1).trans ?_
      refine (scratch _ _ 128 1920 _ _ w l ⟨1920 + w.val, by omega⟩ rfl).trans ?_
      refine (key0 _ _ _ l).trans ?_
      exact keyAt m c hZ t 0 _ (k0_blk m c t) _ l
    · rfl
    · exact Fin.ext ((lands _ inb_S2x1x2x128x128_S1x1x1x128x128_0_0_0_0_0 l w 3).trans (Nat.zero_add _))
    · exact Fin.ext ((lands _ inb_S2x1x2x128x128_S1x1x1x128x128_0_0_0_0_0 l w 4).trans (Nat.zero_add _))

/-- The array of the first window after the run. -/
theorem final13 (c : Dev nD) (hZ : Finite (aZ m c)) : (dats m 0 c).arrAt 13 cfg0.N = outA (aZ m c) (aG m c) := by
  refine (dats m 0 c).arrAt_eq_of_covers 13 _ (by decide +kernel) fun t hf y => ?_
  blk_simp
  rw [after0_13]
  refine (read13 m c hZ t y).trans ?_
  have h3 : (y 3).val < 128 := (y 3).isLt
  obtain ⟨k, hk⟩ : ∃ k : Fin 512, k.val = 128 * (t.val % 4) + (y 3).val := ⟨⟨128 * (t.val % 4) + (y 3).val, by omega⟩, rfl⟩
  have e : ((cfg0.win 13).blk t).view.emb y = ix5 (y 0) (row t) (y 2) k (y 4) := by
    funext a
    match a with
    | ⟨0, _⟩ => exact Fin.ext (by blk_simp [idx_val t]; first | rfl | omega)
    | ⟨1, _⟩ => exact Fin.ext (by blk_simp [idx_val t]; first | rfl | (unfold row; omega) | omega)
    | ⟨2, _⟩ => exact Fin.ext (by blk_simp [idx_val t]; first | rfl | omega)
    | ⟨3, _⟩ =>
      refine Fin.ext (Eq.trans (b := t.val % 4 * 128 + (y 3).val) ?_ (by show _ = k.val; omega))
      blk_simp [idx_val t]
      rfl
    | ⟨4, _⟩ => exact Fin.ext (by blk_simp [idx_val t]; first | rfl | omega)
  rw [e]
  have a : pair t = pairOf k := Fin.ext (by show t.val % 4 = k.val / 128; omega)
  have b : (y 3 : Fin 128) = placeOf k := Fin.ext (by show (y 3).val = k.val % 128; omega)
  refine (blockA_of m c t y (y 2) (y 3) (y 4) rfl rfl rfl).trans ?_
  exact congrArg₂ (fun (h : Fin 4) (l : Fin 128) => pastAt (aZ m c) (aG m c) 0 (row t) (y 2) h l ⟨1920 + (y 4).val, by have : (y 4).val < 128 := (y 4).isLt; omega⟩) a b

/-- What a point leaves of the second window. -/
def blockB (c : Dev nD) (t : Fin cfg0.N) : FVec Ideal S2x1x2x128x512 .f32 := fun z =>
  pastAt (aZ m c) (aG m c) 1 (row t) (z 2) (pair t) (z 3) ⟨1536 + (z 4).val, by have : (z 4).val < 512 := (z 4).isLt; omega⟩

/-- What a point leaves of the second window, at the coordinates that count. -/
theorem blockB_of (c : Dev nD) (t : Fin cfg0.N) (z : S2x1x2x128x512.Idx) (p : Fin 2) (l : Fin 128) (w : Fin 512)
    (hp : z 2 = p) (hl : z 3 = l) (hw : z 4 = w) :
    (blockB m c t z : EReal) = pastAt (aZ m c) (aG m c) 1 (row t) p (pair t) l ⟨1536 + w.val, by omega⟩ := by
  subst hp hl hw
  rfl

/-- What a point leaves of the second window, read. -/
theorem read14 (c : Dev nD) (hZ : Finite (aZ m c)) (t : Fin cfg0.N) (y : S2x1x2x128x512.Idx) :
    ((outsAt0 m c t).2.2.1 y : EReal) = blockB m c t y := by
  unfold outsAt0
  dsimp only
  unfold out0_A_14
  refine View.read_writes_apply_of_pieces (Val := Elt Ideal) VO0_14 _ (blockB m c t) _ ?_ y (cover0_A_14 ..)
  unfold kernelRun0_A
  dsimp only
  frame_out
  refine List.forall_mem_cons.2 ⟨?_, List.forall_mem_cons.2 ⟨?_, List.forall_mem_cons.2 ⟨?_, List.forall_mem_cons.2 ⟨?_, fun p hp => absurd hp List.not_mem_nil⟩⟩⟩⟩
  · refine fun x => ?_
    have hx : x = ix5 0 0 0 (x 3) (x 4) := by blk_ext
    obtain ⟨l, w, rfl⟩ : ∃ (l : Fin 128) (w : Fin 512), x = ix5 0 0 0 l w := ⟨x 3, x 4, hx⟩
    refine Eq.trans ?_ (Eq.symm (blockB_of m c t _ 1 l w ?_ ?_ ?_))
    · dsimp only
      refine ((winV1 _ l w).2).trans ?_
      refine (View.ld_unit_apply_of (Val := Elt Ideal) (S := S1x2048x128) (e := .f32) (iblk m c 5 t) _ _ _ _ (ix3 0 ⟨1536 + w.val, by omega⟩ l) (fun a => by
        match a with
        | ⟨0, _⟩ => rfl
        | ⟨1, _⟩ => rfl
        | ⟨2, _⟩ => exact (Nat.zero_add _).symm)).trans ?_
      exact v1_blk m c t _ l
    · rfl
    · exact Fin.ext ((lands _ inb_S2x1x2x128x512_S1x1x1x128x512_1_0_1_0_0 l w 3).trans (Nat.zero_add _))
    · exact Fin.ext ((lands _ inb_S2x1x2x128x512_S1x1x1x128x512_1_0_1_0_0 l w 4).trans (Nat.zero_add _))
  · refine fun x => ?_
    have hx : x = ix5 0 0 0 (x 3) (x 4) := by blk_ext
    obtain ⟨l, w, rfl⟩ : ∃ (l : Fin 128) (w : Fin 512), x = ix5 0 0 0 l w := ⟨x 3, x 4, hx⟩
    refine Eq.trans ?_ (Eq.symm (blockB_of m c t _ 0 l w ?_ ?_ ?_))
    · dsimp only
      refine ((winK1 _ l w).2).trans ?_
      refine (scratch _ _ 512 1536 _ _ w l ⟨1536 + w.val, by omega⟩ rfl).trans ?_
      refine (key1 _ _ _ l).trans ?_
      exact keyAt m c hZ t 1 _ (k1_blk m c t) _ l
    · rfl
    · exact Fin.ext ((lands _ inb_S2x1x2x128x512_S1x1x1x128x512_1_0_0_0_0 l w 3).trans (Nat.zero_add _))
    · exact Fin.ext ((lands _ inb_S2x1x2x128x512_S1x1x1x128x512_1_0_0_0_0 l w 4).trans (Nat.zero_add _))
  · refine fun x => ?_
    have hx : x = ix5 0 0 0 (x 3) (x 4) := by blk_ext
    obtain ⟨l, w, rfl⟩ : ∃ (l : Fin 128) (w : Fin 512), x = ix5 0 0 0 l w := ⟨x 3, x 4, hx⟩
    refine Eq.trans ?_ (Eq.symm (blockB_of m c t _ 1 l w ?_ ?_ ?_))
    · dsimp only
      refine ((winV1 _ l w).1).trans ?_
      refine (View.ld_unit_apply_of (Val := Elt Ideal) (S := S1x2048x128) (e := .f32) (iblk m c 5 t) _ _ _ _ (ix3 0 ⟨1536 + w.val, by omega⟩ l) (fun a => by
        match a with
        | ⟨0, _⟩ => rfl
        | ⟨1, _⟩ => rfl
        | ⟨2, _⟩ => exact (Nat.zero_add _).symm)).trans ?_
      exact v1_blk m c t _ l
    · rfl
    · exact Fin.ext ((lands _ inb_S2x1x2x128x512_S1x1x1x128x512_0_0_1_0_0 l w 3).trans (Nat.zero_add _))
    · exact Fin.ext ((lands _ inb_S2x1x2x128x512_S1x1x1x128x512_0_0_1_0_0 l w 4).trans (Nat.zero_add _))
  · refine fun x => ?_
    have hx : x = ix5 0 0 0 (x 3) (x 4) := by blk_ext
    obtain ⟨l, w, rfl⟩ : ∃ (l : Fin 128) (w : Fin 512), x = ix5 0 0 0 l w := ⟨x 3, x 4, hx⟩
    refine Eq.trans ?_ (Eq.symm (blockB_of m c t _ 0 l w ?_ ?_ ?_))
    · dsimp only
      refine ((winK1 _ l w).1).trans ?_
      refine (scratch _ _ 512 1536 _ _ w l ⟨1536 + w.val, by omega⟩ rfl).trans ?_
      refine (key1 _ _ _ l).trans ?_
      exact keyAt m c hZ t 1 _ (k1_blk m c t) _ l
    · rfl
    · exact Fin.ext ((lands _ inb_S2x1x2x128x512_S1x1x1x128x512_0_0_0_0_0 l w 3).trans (Nat.zero_add _))
    · exact Fin.ext ((lands _ inb_S2x1x2x128x512_S1x1x1x128x512_0_0_0_0_0 l w 4).trans (Nat.zero_add _))

/-- The array of the second window after the run. -/
theorem final14 (c : Dev nD) (hZ : Finite (aZ m c)) : (dats m 0 c).arrAt 14 cfg0.N = outB (aZ m c) (aG m c) := by
  refine (dats m 0 c).arrAt_eq_of_covers 14 _ (by decide +kernel) fun t hf y => ?_
  blk_simp
  rw [after0_14]
  refine (read14 m c hZ t y).trans ?_
  have h3 : (y 3).val < 128 := (y 3).isLt
  obtain ⟨k, hk⟩ : ∃ k : Fin 512, k.val = 128 * (t.val % 4) + (y 3).val := ⟨⟨128 * (t.val % 4) + (y 3).val, by omega⟩, rfl⟩
  have e : ((cfg0.win 14).blk t).view.emb y = ix5 (y 0) (row t) (y 2) k (y 4) := by
    funext a
    match a with
    | ⟨0, _⟩ => exact Fin.ext (by blk_simp [idx_val t]; first | rfl | omega)
    | ⟨1, _⟩ => exact Fin.ext (by blk_simp [idx_val t]; first | rfl | (unfold row; omega) | omega)
    | ⟨2, _⟩ => exact Fin.ext (by blk_simp [idx_val t]; first | rfl | omega)
    | ⟨3, _⟩ =>
      refine Fin.ext (Eq.trans (b := t.val % 4 * 128 + (y 3).val) ?_ (by show _ = k.val; omega))
      blk_simp [idx_val t]
      rfl
    | ⟨4, _⟩ => exact Fin.ext (by blk_simp [idx_val t]; first | rfl | omega)
  rw [e]
  have a : pair t = pairOf k := Fin.ext (by show t.val % 4 = k.val / 128; omega)
  have b : (y 3 : Fin 128) = placeOf k := Fin.ext (by show (y 3).val = k.val % 128; omega)
  refine (blockB_of m c t y (y 2) (y 3) (y 4) rfl rfl rfl).trans ?_
  exact congrArg₂ (fun (h : Fin 4) (l : Fin 128) => pastAt (aZ m c) (aG m c) 1 (row t) (y 2) h l ⟨1536 + (y 4).val, by have : (y 4).val < 512 := (y 4).isLt; omega⟩) a b

/-- What a point leaves of the third window. -/
def blockC (c : Dev nD) (t : Fin cfg0.N) : FVec Ideal S2x1x2x128x2048 .f32 := fun z =>
  pastAt (aZ m c) (aG m c) 2 (row t) (z 2) (pair t) (z 3) (z 4)

/-- What a point leaves of the third window, at the coordinates that count. -/
theorem blockC_of (c : Dev nD) (t : Fin cfg0.N) (z : S2x1x2x128x2048.Idx) (p : Fin 2) (l : Fin 128) (w : Fin 2048)
    (hp : z 2 = p) (hl : z 3 = l) (hw : z 4 = w) :
    (blockC m c t z : EReal) = pastAt (aZ m c) (aG m c) 2 (row t) p (pair t) l w := by
  subst hp hl hw
  rfl

/-- What a point leaves of the third window, read. -/
theorem read15 (c : Dev nD) (hZ : Finite (aZ m c)) (t : Fin cfg0.N) (y : S2x1x2x128x2048.Idx) :
    ((outsAt0 m c t).2.2.2 y : EReal) = blockC m c t y := by
  unfold outsAt0
  dsimp only
  unfold out0_A_15
  refine View.read_writes_apply_of_pieces (Val := Elt Ideal) VO0_15 _ (blockC m c t) _ ?_ y (cover0_A_15 ..)
  unfold kernelRun0_A
  dsimp only
  frame_out
  refine List.forall_mem_cons.2 ⟨?_, List.forall_mem_cons.2 ⟨?_, List.forall_mem_cons.2 ⟨?_, List.forall_mem_cons.2 ⟨?_, fun p hp => absurd hp List.not_mem_nil⟩⟩⟩⟩
  · refine fun x => ?_
    have hx : x = ix5 0 0 0 (x 3) (x 4) := by blk_ext
    obtain ⟨l, w, rfl⟩ : ∃ (l : Fin 128) (w : Fin 2048), x = ix5 0 0 0 l w := ⟨x 3, x 4, hx⟩
    refine Eq.trans ?_ (Eq.symm (blockC_of m c t _ 1 l w ?_ ?_ ?_))
    · dsimp only
      refine ((winV2 _ l w).2).trans ?_
      exact v2_blk m c t _ l
    · rfl
    · exact Fin.ext ((lands _ inb_S2x1x2x128x2048_S1x1x1x128x2048_1_0_1_0_0 l w 3).trans (Nat.zero_add _))
    · exact Fin.ext ((lands _ inb_S2x1x2x128x2048_S1x1x1x128x2048_1_0_1_0_0 l w 4).trans (Nat.zero_add _))
  · refine fun x => ?_
    have hx : x = ix5 0 0 0 (x 3) (x 4) := by blk_ext
    obtain ⟨l, w, rfl⟩ : ∃ (l : Fin 128) (w : Fin 2048), x = ix5 0 0 0 l w := ⟨x 3, x 4, hx⟩
    refine Eq.trans ?_ (Eq.symm (blockC_of m c t _ 0 l w ?_ ?_ ?_))
    · dsimp only
      refine ((winK2 _ l w).2).trans ?_
      refine (key2 _ _ _ l).trans ?_
      exact keyAt m c hZ t 2 _ (k2_blk m c t) _ l
    · rfl
    · exact Fin.ext ((lands _ inb_S2x1x2x128x2048_S1x1x1x128x2048_1_0_0_0_0 l w 3).trans (Nat.zero_add _))
    · exact Fin.ext ((lands _ inb_S2x1x2x128x2048_S1x1x1x128x2048_1_0_0_0_0 l w 4).trans (Nat.zero_add _))
  · refine fun x => ?_
    have hx : x = ix5 0 0 0 (x 3) (x 4) := by blk_ext
    obtain ⟨l, w, rfl⟩ : ∃ (l : Fin 128) (w : Fin 2048), x = ix5 0 0 0 l w := ⟨x 3, x 4, hx⟩
    refine Eq.trans ?_ (Eq.symm (blockC_of m c t _ 1 l w ?_ ?_ ?_))
    · dsimp only
      refine ((winV2 _ l w).1).trans ?_
      exact v2_blk m c t _ l
    · rfl
    · exact Fin.ext ((lands _ inb_S2x1x2x128x2048_S1x1x1x128x2048_0_0_1_0_0 l w 3).trans (Nat.zero_add _))
    · exact Fin.ext ((lands _ inb_S2x1x2x128x2048_S1x1x1x128x2048_0_0_1_0_0 l w 4).trans (Nat.zero_add _))
  · refine fun x => ?_
    have hx : x = ix5 0 0 0 (x 3) (x 4) := by blk_ext
    obtain ⟨l, w, rfl⟩ : ∃ (l : Fin 128) (w : Fin 2048), x = ix5 0 0 0 l w := ⟨x 3, x 4, hx⟩
    refine Eq.trans ?_ (Eq.symm (blockC_of m c t _ 0 l w ?_ ?_ ?_))
    · dsimp only
      refine ((winK2 _ l w).1).trans ?_
      refine (key2 _ _ _ l).trans ?_
      exact keyAt m c hZ t 2 _ (k2_blk m c t) _ l
    · rfl
    · exact Fin.ext ((lands _ inb_S2x1x2x128x2048_S1x1x1x128x2048_0_0_0_0_0 l w 3).trans (Nat.zero_add _))
    · exact Fin.ext ((lands _ inb_S2x1x2x128x2048_S1x1x1x128x2048_0_0_0_0_0 l w 4).trans (Nat.zero_add _))

/-- The array of the third window after the run. -/
theorem final15 (c : Dev nD) (hZ : Finite (aZ m c)) : (dats m 0 c).arrAt 15 cfg0.N = outC (aZ m c) (aG m c) := by
  refine (dats m 0 c).arrAt_eq_of_covers 15 _ (by decide +kernel) fun t hf y => ?_
  blk_simp
  rw [after0_15]
  refine (read15 m c hZ t y).trans ?_
  have h3 : (y 3).val < 128 := (y 3).isLt
  obtain ⟨k, hk⟩ : ∃ k : Fin 512, k.val = 128 * (t.val % 4) + (y 3).val := ⟨⟨128 * (t.val % 4) + (y 3).val, by omega⟩, rfl⟩
  have e : ((cfg0.win 15).blk t).view.emb y = ix5 (y 0) (row t) (y 2) k (y 4) := by
    funext a
    match a with
    | ⟨0, _⟩ => exact Fin.ext (by blk_simp [idx_val t]; first | rfl | omega)
    | ⟨1, _⟩ => exact Fin.ext (by blk_simp [idx_val t]; first | rfl | (unfold row; omega) | omega)
    | ⟨2, _⟩ => exact Fin.ext (by blk_simp [idx_val t]; first | rfl | omega)
    | ⟨3, _⟩ =>
      refine Fin.ext (Eq.trans (b := t.val % 4 * 128 + (y 3).val) ?_ (by show _ = k.val; omega))
      blk_simp [idx_val t]
      rfl
    | ⟨4, _⟩ => exact Fin.ext (by blk_simp [idx_val t]; first | rfl | omega)
  rw [e]
  have a : pair t = pairOf k := Fin.ext (by show t.val % 4 = k.val / 128; omega)
  have b : (y 3 : Fin 128) = placeOf k := Fin.ext (by show (y 3).val = k.val % 128; omega)
  refine (blockC_of m c t y (y 2) (y 3) (y 4) rfl rfl rfl).trans ?_
  exact congrArg₂ (fun (h : Fin 4) (l : Fin 128) => pastAt (aZ m c) (aG m c) 2 (row t) (y 2) h l (y 4)) a b

end Cert.Kernel9Ideal.Past
-- ==== Proof.Past.Finite.lean ====
module

public import proofs.«01_k».proof.Pre_keys_finite
public import proofs.«01_k».proof.Proof.Past.Value
public import Idealize.ShloMosaic.Lib.KernelVsHost

/-! What the claim assumes of the projected columns: every key is finite. -/

@[expose] public section

set_option maxRecDepth 16384

noncomputable section

namespace Cert.Kernel9Ideal.Past

open Idealize.ShloMosaic Idealize.ShloMosaic.TcCoe Idealize.SL.Sem
open Cert.Moe Cert.Pre_keys_finite

/-- The side conditions of the assumption. -/
theorem preFacts : Cert.Pre_keys_finite.Facts where
  slices_S8x2048x7680_S8x2048x1536_0_0_1536 := by decide
  bcast_S_S8x2048x1536 := by decide

/-- A value whose magnitude is below infinity is a real number. -/
theorem real_of (x : Ideal .f32)
    (h : FloatOps.cmpf .olt (FloatOps.hostAbsf x) (FloatOps.ofBits (F := Ideal) .f32 0x7F800000#32) = 1#1) : ∃ q : ℝ, (x : EReal) = (q : EReal) := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · exfalso
    rw [decide_eq_true hx] at h'
    exact absurd h' (by decide)
  · rw [not_or] at hx
    exact ⟨EReal.toReal x, (EReal.coe_toReal hx.1 hx.2).symm⟩

/-- What is assumed says that every key is finite. -/
theorem finite_of (Z : FVec Ideal S8x2048x7680 .f32) (a b : FVec Ideal S64 .f32) (d : FVec Ideal S3x8x128x256 .f32)
    (h : (letI := preFacts; Cert.Pre_keys_finite.fn (F := Ideal) Z a b d) = fun _ => 1#1) : Finite Z := fun n r g p l => by
  have e := congrFun h (ix3 n r (⟨512 * g.val + 128 * p.val + l.val, by omega⟩ : Fin 1536))
  refine real_of _ (Eq.trans ?_ e)
  refine congrArg (fun x : Ideal .f32 => FloatOps.cmpf .olt (FloatOps.hostAbsf x) (FloatOps.ofBits (F := Ideal) .f32 0x7F800000#32)) ?_
  refine congrArg Z (funext fun q => ?_)
  match q with
  | ⟨0, _⟩ => exact Fin.ext (by show n.val = 0 + n.val; omega)
  | ⟨1, _⟩ => exact Fin.ext (by show r.val = 0 + r.val; omega)
  | ⟨2, _⟩ => exact Fin.ext (by show 1536 + 512 * g.val + 128 * p.val + l.val = 1536 + (512 * g.val + 128 * p.val + l.val); omega)

end Cert.Kernel9Ideal.Past
-- ==== Proof.Later.Terms.lean ====
module

public import proofs.«01_k».proof.Proof.Gen.Kernel10Ideal.Skeleton
public import proofs.«01_k».proof.Proof.Past.Terms

/-! The windows that the prompts leave in the second layer: the columns a point writes into them. -/

@[expose] public section

set_option maxRecDepth 16384

noncomputable section

namespace Cert.Kernel10Ideal.Later

open Idealize.ShloMosaic Idealize.ShloMosaic.TcCoe Idealize.SL.Sem
open Cert.Kernel10Ideal Cert.Kernel10Ideal.Gen Cert.Moe
open Cert.Kernel9Ideal.Past (paired sumA pairOf placeOf pastAt)

/-- The places of a pair's first head are told apart as in the first layer's call. -/
theorem heads : (k0_pay2 : IVec S1x128 1) = Cert.Kernel9Ideal.Gen.k0_pay2 := rfl

/-- The first group's normalised keys, read. -/
theorem key0 (x : FVec Ideal S1x2048x128 .f32) (g : FVec Ideal S1x128 .f32) (r : Fin 2048) (l : Fin 128) :
    (k0_pay5 (F := Ideal) k0_pay2 x g (ix2 r l) : EReal) = paired (fun l => x (ix3 0 r l)) (fun l => g (ix2 0 l)) l := by
  rw [heads]
  unfold paired sumA
  pointwise [k0_pay5]

/-- The second group's normalised keys, read. -/
theorem key1 (x : FVec Ideal S1x2048x128 .f32) (g : FVec Ideal S1x128 .f32) (r : Fin 2048) (l : Fin 128) :
    (k0_pay160 (F := Ideal) k0_pay2 x g (ix2 r l) : EReal) = paired (fun l => x (ix3 0 r l)) (fun l => g (ix2 0 l)) l := by
  rw [heads]
  unfold paired sumA
  pointwise [k0_pay160]

/-- The third group's normalised keys, read. -/
theorem key2 (x : FVec Ideal S1x2048x128 .f32) (g : FVec Ideal S1x128 .f32) (r : Fin 2048) (l : Fin 128) :
    (k0_pay316 (F := Ideal) k0_pay2 x g (ix2 r l) : EReal) = paired (fun l => x (ix3 0 r l)) (fun l => g (ix2 0 l)) l := by
  rw [heads]
  unfold paired sumA
  pointwise [k0_pay316]

/-- The first window's keys, read. -/
theorem winK0 (x : FVec Ideal S128x128 .f32) (l : Fin 128) (w : Fin 128) : (k0_pay8 (F := Ideal) (k0_pay6 x) (ix5 0 0 0 l w) : EReal) = x (ix2 w l) := by
  pointwise [k0_pay6, k0_pay8]

/-- The first window's values, read. -/
theorem winV0 (x : FVec Ideal S1x128x128 .f32) (l : Fin 128) (w : Fin 128) : (k0_pay9 (F := Ideal) (k0_pay7 x) (ix5 0 0 0 l w) : EReal) = x (ix3 0 w l) := by
  pointwise [k0_pay7, k0_pay9]

/-- The second window's keys, read. -/
theorem winK1 (x : FVec Ideal S512x128 .f32) (l : Fin 128) (w : Fin 512) : (k0_pay161 (F := Ideal) x (ix5 0 0 0 l w) : EReal) = x (ix2 w l) := by
  pointwise [k0_pay161]

/-- The second window's values, read. -/
theorem winV1 (x : FVec Ideal S1x512x128 .f32) (l : Fin 128) (w : Fin 512) : (k0_pay162 (F := Ideal) x (ix5 0 0 0 l w) : EReal) = x (ix3 0 w l) := by
  pointwise [k0_pay162]

/-- The third window's keys, read. -/
theorem winK2 (x : FVec Ideal S2048x128 .f32) (l : Fin 128) (w : Fin 2048) : (k0_pay319 (F := Ideal) (k0_pay317 x) (ix5 0 0 0 l w) : EReal) = x (ix2 w l) := by
  pointwise [k0_pay317, k0_pay319]

/-- The third window's values, read. -/
theorem winV2 (x : FVec Ideal S1x2048x128 .f32) (l : Fin 128) (w : Fin 2048) : (k0_pay320 (F := Ideal) (k0_pay318 x) (ix5 0 0 0 l w) : EReal) = x (ix3 0 w l) := by
  pointwise [k0_pay318, k0_pay320]

/-- The first window: the second layer's place new, the first layer's as passed in. -/
def outA (Z : FVec Ideal S8x2048x7680 .f32) (G : FVec Ideal S64 .f32) (A : FVec Ideal S2x8x2x512x128 .f32) : FVec Ideal S2x8x2x512x128 .f32 := fun i =>
  if (i 0).val = 1 then Cert.Kernel9Ideal.Past.outA Z G i else A i

/-- The first window in the second layer's place. -/
theorem outA_one (Z : FVec Ideal S8x2048x7680 .f32) (G : FVec Ideal S64 .f32) (A : FVec Ideal S2x8x2x512x128 .f32) (n : Fin 8) (p : Fin 2) (k : Fin 512) (w : Fin 128) :
    (outA Z G A (ix5 1 n p k w) : EReal) = pastAt Z G 0 n p (pairOf k) (placeOf k) ⟨1920 + w.val, by omega⟩ := if_pos rfl

/-- The second window: the second layer's place new, the first layer's as passed in. -/
def outB (Z : FVec Ideal S8x2048x7680 .f32) (G : FVec Ideal S64 .f32) (A : FVec Ideal S2x8x2x512x512 .f32) : FVec Ideal S2x8x2x512x512 .f32 := fun i =>
  if (i 0).val = 1 then Cert.Kernel9Ideal.Past.outB Z G i else A i

/-- The second window in the second layer's place. -/
theorem outB_one (Z : FVec Ideal S8x2048x7680 .f32) (G : FVec Ideal S64 .f32) (A : FVec Ideal S2x8x2x512x512 .f32) (n : Fin 8) (p : Fin 2) (k : Fin 512) (w : Fin 512) :
    (outB Z G A (ix5 1 n p k w) : EReal) = pastAt Z G 1 n p (pairOf k) (placeOf k) ⟨1536 + w.val, by omega⟩ := if_pos rfl

/-- The third window: the second layer's place new, the first layer's as passed in. -/
def outC (Z : FVec Ideal S8x2048x7680 .f32) (G : FVec Ideal S64 .f32) (A : FVec Ideal S2x8x2x512x2048 .f32) : FVec Ideal S2x8x2x512x2048 .f32 := fun i =>
  if (i 0).val = 1 then Cert.Kernel9Ideal.Past.outC Z G i else A i

/-- The third window in the second layer's place. -/
theorem outC_one (Z : FVec Ideal S8x2048x7680 .f32) (G : FVec Ideal S64 .f32) (A : FVec Ideal S2x8x2x512x2048 .f32) (n : Fin 8) (p : Fin 2) (k : Fin 512) (w : Fin 2048) :
    (outC Z G A (ix5 1 n p k w) : EReal) = pastAt Z G 2 n p (pairOf k) (placeOf k) w := if_pos rfl

end Cert.Kernel10Ideal.Later
-- ==== Proof.Later.Value.lean ====
module

public import proofs.«01_k».proof.Proof.Gen.Kernel10Ideal.Value
public import proofs.«01_k».proof.Proof.Later.Terms
public import proofs.«01_k».proof.Proof.Past.Value

/-! The windows that the prompts leave in the second layer: the arrays the run ends with. -/

@[expose] public section

set_option maxRecDepth 16384

noncomputable section

namespace Cert.Kernel10Ideal.Later

open Idealize.ShloMosaic Idealize.ShloMosaic.TcCoe Idealize.SL.Sem
open Idealize.ShloMosaic.Pipeline (Dat)
open Cert.Kernel10Ideal Cert.Kernel10Ideal.Gen Cert.Moe
open Cert.Kernel9Ideal.Past (paired paired_eq pairOf placeOf kCol vCol laneOf pastAt Finite)

variable (m : (ℓ : Loc nD τ sig) → Buf (Elt Ideal) ℓ)

/-- The block index of the windows the result windows depend on, at every point. -/
theorem idx_val : ∀ t : Fin cfg0.N, win0_1.index t = ![t.val / 4, 0, 12 + t.val % 4] ∧ win0_2.index t = ![t.val / 4, 0, 24 + t.val % 4]
    ∧ win0_4.index t = ![t.val / 4, 0, 16 + t.val % 4] ∧ win0_5.index t = ![t.val / 4, 0, 28 + t.val % 4]
    ∧ win0_7.index t = ![t.val / 4, 0, 20 + t.val % 4] ∧ win0_8.index t = ![t.val / 4, 0, 32 + t.val % 4]
    ∧ win0_10.index t = ![0, 0] ∧ win0_13.index t = ![1, t.val / 4, 0, t.val % 4, 0]
    ∧ win0_14.index t = ![1, t.val / 4, 0, t.val % 4, 0] ∧ win0_15.index t = ![1, t.val / 4, 0, t.val % 4, 0] :=
  (by decide +kernel : ∀ t : Fin grid0.N, _)

/-- The number of grid points. -/
theorem points (t : Fin cfg0.N) : t.val < 32 := lt_of_lt_of_eq t.isLt N_0

/-- The projected columns as launched. -/
abbrev aZ (c : Dev nD) : FVec Ideal S8x2048x7680 .f32 := m ((c : Thread nD τ).loc main_arg0)
/-- The keys' gain as launched. -/
abbrev aG (c : Dev nD) : FVec Ideal S64 .f32 := m ((c : Thread nD τ).loc main_arg2)

/-- The first window as launched. -/
abbrev aA (c : Dev nD) : FVec Ideal S2x8x2x512x128 .f32 := m ((c : Thread nD τ).loc main_arg4)
/-- The second window as launched. -/
abbrev aB (c : Dev nD) : FVec Ideal S2x8x2x512x512 .f32 := m ((c : Thread nD τ).loc main_arg5)
/-- The third window as launched. -/
abbrev aC (c : Dev nD) : FVec Ideal S2x8x2x512x2048 .f32 := m ((c : Thread nD τ).loc main_arg6)

/-- The sequence of a point. -/
def row (t : Fin cfg0.N) : Fin 8 := ⟨t.val / 4, by have := points t; omega⟩
/-- The pair of heads of a point. -/
def pair (t : Fin cfg0.N) : Fin 4 := ⟨t.val % 4, by omega⟩

/-- The block of the keys' gain. -/
theorem g_blk (c : Dev nD) (t : Fin cfg0.N) (k : Fin 128) :
    ((iblk m c 10 t : FVec Ideal S1x128 .f32) (ix2 0 k) : EReal) = aG m c (ix1 (laneOf k)) := by
  unfold laneOf
  blk_point [iblk, V, idx_val t]

/-- The block of the first group's keys. -/
theorem k0_blk (c : Dev nD) (t : Fin cfg0.N) (r : Fin 2048) (l : Fin 128) :
    ((iblk m c 1 t : FVec Ideal S1x2048x128 .f32) (ix3 0 r l) : EReal) = aZ m c (ix3 (row t) r (kCol 0 (pair t) l)) := by
  unfold row pair kCol
  refine Eq.trans ?_ (congrArg (fun n : Fin 7680 => (aZ m c (ix3 (row t) r n) : EReal)) (Fin.ext (by show (12 + t.val % 4) * 128 + l.val = 1536 + 512 * 0 + 128 * (t.val % 4) + l.val; omega) :
    (⟨(12 + t.val % 4) * 128 + l.val, by omega⟩ : Fin 7680) = _))
  unfold row
  blk_ext [iblk, V, idx_val t]

/-- The block of the first group's values. -/
theorem v0_blk (c : Dev nD) (t : Fin cfg0.N) (r : Fin 2048) (l : Fin 128) :
    ((iblk m c 2 t : FVec Ideal S1x2048x128 .f32) (ix3 0 r l) : EReal) = aZ m c (ix3 (row t) r (vCol 0 (pair t) l)) := by
  unfold row pair vCol
  refine Eq.trans ?_ (congrArg (fun n : Fin 7680 => (aZ m c (ix3 (row t) r n) : EReal)) (Fin.ext (by show (24 + t.val % 4) * 128 + l.val = 3072 + 512 * 0 + 128 * (t.val % 4) + l.val; omega) :
    (⟨(24 + t.val % 4) * 128 + l.val, by omega⟩ : Fin 7680) = _))
  unfold row
  blk_ext [iblk, V, idx_val t]

/-- The block of the second group's keys. -/
theorem k1_blk (c : Dev nD) (t : Fin cfg0.N) (r : Fin 2048) (l : Fin 128) :
    ((iblk m c 4 t : FVec Ideal S1x2048x128 .f32) (ix3 0 r l) : EReal) = aZ m c (ix3 (row t) r (kCol 1 (pair t) l)) := by
  unfold row pair kCol
  refine Eq.trans ?_ (congrArg (fun n : Fin 7680 => (aZ m c (ix3 (row t) r n) : EReal)) (Fin.ext (by show (16 + t.val % 4) * 128 + l.val = 1536 + 512 * 1 + 128 * (t.val % 4) + l.val; omega) :
    (⟨(16 + t.val % 4) * 128 + l.val, by omega⟩ : Fin 7680) = _))
  unfold row
  blk_ext [iblk, V, idx_val t]

/-- The block of the second group's values. -/
theorem v1_blk (c : Dev nD) (t : Fin cfg0.N) (r : Fin 2048) (l : Fin 128) :
    ((iblk m c 5 t : FVec Ideal S1x2048x128 .f32) (ix3 0 r l) : EReal) = aZ m c (ix3 (row t) r (vCol 1 (pair t) l)) := by
  unfold row pair vCol
  refine Eq.trans ?_ (congrArg (fun n : Fin 7680 => (aZ m c (ix3 (row t) r n) : EReal)) (Fin.ext (by show (28 + t.val % 4) * 128 + l.val = 3072 + 512 * 1 + 128 * (t.val % 4) + l.val; omega) :
    (⟨(28 + t.val % 4) * 128 + l.val, by omega⟩ : Fin 7680) = _))
  unfold row
  blk_ext [iblk, V, idx_val t]

/-- The block of the third group's keys. -/
theorem k2_blk (c : Dev nD) (t : Fin cfg0.N) (r : Fin 2048) (l : Fin 128) :
    ((iblk m c 7 t : FVec Ideal S1x2048x128 .f32) (ix3 0 r l) : EReal) = aZ m c (ix3 (row t) r (kCol 2 (pair t) l)) := by
  unfold row pair kCol
  refine Eq.trans ?_ (congrArg (fun n : Fin 7680 => (aZ m c (ix3 (row t) r n) : EReal)) (Fin.ext (by show (20 + t.val % 4) * 128 + l.val = 1536 + 512 * 2 + 128 * (t.val % 4) + l.val; omega) :
    (⟨(20 + t.val % 4) * 128 + l.val, by omega⟩ : Fin 7680) = _))
  unfold row
  blk_ext [iblk, V, idx_val t]

/-- The block of the third group's values. -/
theorem v2_blk (c : Dev nD) (t : Fin cfg0.N) (r : Fin 2048) (l : Fin 128) :
    ((iblk m c 8 t : FVec Ideal S1x2048x128 .f32) (ix3 0 r l) : EReal) = aZ m c (ix3 (row t) r (vCol 2 (pair t) l)) := by
  unfold row pair vCol
  refine Eq.trans ?_ (congrArg (fun n : Fin 7680 => (aZ m c (ix3 (row t) r n) : EReal)) (Fin.ext (by show (32 + t.val % 4) * 128 + l.val = 3072 + 512 * 2 + 128 * (t.val % 4) + l.val; omega) :
    (⟨(32 + t.val % 4) * 128 + l.val, by omega⟩ : Fin 7680) = _))
  unfold row
  blk_ext [iblk, V, idx_val t]

/-- A load of rows of a box of keys written whole, read. -/
theorem scratch (P : FVec Ideal S2048x128 .f32) (L : List (View.Piece (Elt Ideal) S2048x128 .f32)) (K o : Nat)
    (inb0 : ∀ a, (![0, 0] : Fin 2 → Nat) a + (![2048, 128] : Fin 2 → Nat) a ≤ S2048x128.size a)
    (inb1 : ∀ a, (![o, 0] : Fin 2 → Nat) a + (![K, 128] : Fin 2 → Nat) a ≤ S2048x128.size a)
    (w : Fin K) (l : Fin 128) (r : Fin 2048) (hr : r.val = o + w.val) :
    ((View.whole cc0_scratch1).readCov (⟨Rect.unit (s := S2048x128) ![0, 0] ![2048, 128] inb0, P⟩ :: L)
      (Rect.unit (s := S2048x128) ![o, 0] ![K, 128] inb1).toLoadRect (ix2 w l) : EReal) = P (ix2 r l) := by
  have hz : ∀ a, (![0, 0] : Fin 2 → Nat) a = 0 := fun a => by
    match a with
    | ⟨0, _⟩ => rfl
    | ⟨1, _⟩ => rfl
  rw [View.readCov_eq_canon_ld _ _ _ (fun y => ⟨_, List.mem_cons_self, View.mem_set_unit_zero (funext hz) inb0 y⟩),
    View.canon_cons_unit_lit' (S := S2048x128) inb0 P L hz]
  exact View.ld_unit_apply_of (Val := Elt Ideal) (S := S2048x128) (e := .f32) P ![o, 0] ![K, 128] inb1 (ix2 w l) (ix2 r l) (fun a => by
    match a with
    | ⟨0, _⟩ => exact hr
    | ⟨1, _⟩ => exact (Nat.zero_add _).symm)

/-- A point's normalised keys are its sequence's. -/
theorem keyAt (c : Dev nD) (hZ : Finite (aZ m c)) (t : Fin cfg0.N) (g : Fin 3) (x : FVec Ideal S1x2048x128 .f32)
    (hx : ∀ r l, (x (ix3 0 r l) : EReal) = aZ m c (ix3 (row t) r (kCol g (pair t) l))) (r : Fin 2048) (l : Fin 128) :
    paired (fun l => x (ix3 0 r l)) (fun l => (iblk m c 10 t : FVec Ideal S1x128 .f32) (ix2 0 l)) l
      = pastAt (aZ m c) (aG m c) g (row t) 0 (pair t) l r := by
  rw [funext fun l => hx r l, funext fun l => g_blk m c t l]
  exact (paired_eq _ _ _ fun j => hZ _ _ _ _ _).trans (if_pos rfl).symm

/-- Where a store's entry lands. -/
theorem lands {W : Nat} (o : Fin 5 → Nat) (inb : ∀ a, o a + (![1, 1, 1, 128, W] : Fin 5 → Nat) a ≤ (![1, 1, 2, 128, W] : Fin 5 → Nat) a)
    (l : Fin 128) (w : Fin W) (a : Fin 5) :
    (((Rect.unit (s := ⟨5, ![1, 1, 2, 128, W]⟩) o ![1, 1, 1, 128, W] inb).emb (ix5 0 0 0 l w) a).val) = o a + ((ix5 0 0 0 l w : (⟨5, ![1, 1, 1, 128, W]⟩ : Shape).Idx) a).val :=
  Rect.idx_unit_val (s := ⟨5, ![1, 1, 2, 128, W]⟩) o ![1, 1, 1, 128, W] inb (ix5 0 0 0 l w) a

/-- The first window's array before the region. -/
theorem entryA (c : Dev nD) : (V m c (Pipeline.arrRef spec0 13) : FVec Ideal S2x8x2x512x128 .f32) = aA m c := by
  unfold V hostOps0
  after_results_simp
  rfl

/-- What a point leaves of the first window. -/
def blockA (c : Dev nD) (t : Fin cfg0.N) : FVec Ideal S1x1x2x128x128 .f32 := fun z =>
  pastAt (aZ m c) (aG m c) 0 (row t) (z 2) (pair t) (z 3) ⟨1920 + (z 4).val, by have : (z 4).val < 128 := (z 4).isLt; omega⟩

/-- What a point leaves of the first window, at the coordinates that count. -/
theorem blockA_of (c : Dev nD) (t : Fin cfg0.N) (z : S1x1x2x128x128.Idx) (p : Fin 2) (l : Fin 128) (w : Fin 128)
    (hp : z 2 = p) (hl : z 3 = l) (hw : z 4 = w) :
    (blockA m c t z : EReal) = pastAt (aZ m c) (aG m c) 0 (row t) p (pair t) l ⟨1920 + w.val, by omega⟩ := by
  subst hp hl hw
  rfl

/-- What a point leaves of the first window, read. -/
theorem read13 (c : Dev nD) (hZ : Finite (aZ m c)) (t : Fin cfg0.N) (y : S1x1x2x128x128.Idx) :
    ((outsAt0 m c t).2.1 y : EReal) = blockA m c t y := by
  unfold outsAt0
  dsimp only
  unfold out0_A_13
  refine View.read_writes_apply_of_pieces (Val := Elt Ideal) VO0_13 _ (blockA m c t) _ ?_ y (cover0_A_13 ..)
  unfold kernelRun0_A
  dsimp only
  frame_out
  refine List.forall_mem_cons.2 ⟨?_, List.forall_mem_cons.2 ⟨?_, fun p hp => absurd hp List.not_mem_nil⟩⟩
  · refine fun x => ?_
    have hx : x = ix5 0 0 0 (x 3) (x 4) := by blk_ext
    obtain ⟨l, w, rfl⟩ : ∃ (l : Fin 128) (w : Fin 128), x = ix5 0 0 0 l w := ⟨x 3, x 4, hx⟩
    refine Eq.trans ?_ (Eq.symm (blockA_of m c t _ 1 l w ?_ ?_ ?_))
    · dsimp only
      refine (winV0 _ l w).trans ?_
      refine (View.ld_unit_apply_of (Val := Elt Ideal) (S := S1x2048x128) (e := .f32) (iblk m c 2 t) _ _ _ _ (ix3 0 ⟨1920 + w.val, by omega⟩ l) (fun a => by
        match a with
        | ⟨0, _⟩ => rfl
        | ⟨1, _⟩ => rfl
        | ⟨2, _⟩ => exact (Nat.zero_add _).symm)).trans ?_
      exact v0_blk m c t _ l
    · rfl
    · exact Fin.ext ((lands _ inb_S1x1x2x128x128_S1x1x1x128x128_0_0_1_0_0 l w 3).trans (Nat.zero_add _))
    · exact Fin.ext ((lands _ inb_S1x1x2x128x128_S1x1x1x128x128_0_0_1_0_0 l w 4).trans (Nat.zero_add _))
  · refine fun x => ?_
    have hx : x = ix5 0 0 0 (x 3) (x 4) := by blk_ext
    obtain ⟨l, w, rfl⟩ : ∃ (l : Fin 128) (w : Fin 128), x = ix5 0 0 0 l w := ⟨x 3, x 4, hx⟩
    refine Eq.trans ?_ (Eq.symm (blockA_of m c t _ 0 l w ?_ ?_ ?_))
    · dsimp only
      refine (winK0 _ l w).trans ?_
      refine (scratch _ _ 128 1920 _ _ w l ⟨1920 + w.val, by omega⟩ rfl).trans ?_
      refine (key0 _ _ _ l).trans ?_
      exact keyAt m c hZ t 0 _ (k0_blk m c t) _ l
    · rfl
    · exact Fin.ext ((lands _ inb_S1x1x2x128x128_S1x1x1x128x128_0_0_0_0_0 l w 3).trans (Nat.zero_add _))
    · exact Fin.ext ((lands _ inb_S1x1x2x128x128_S1x1x1x128x128_0_0_0_0_0 l w 4).trans (Nat.zero_add _))

/-- The array of the first window after the run. -/
theorem final13 (c : Dev nD) (hZ : Finite (aZ m c)) : (dats m 0 c).arrAt 13 cfg0.N = outA (aZ m c) (aG m c) (aA m c) := by
  refine (dats m 0 c).arrAt_eq_of_coversWhere_of_agree 13 _ (fun β => 1 ≤ β (0 : Fin 5)) (by decide +kernel) (fun t hf y => ?_) (fun j hj => ?_)
  · blk_simp
    rw [after0_13]
    refine (read13 m c hZ t y).trans ?_
    have h3 : (y 3).val < 128 := (y 3).isLt
    obtain ⟨k, hk⟩ : ∃ k : Fin 512, k.val = 128 * (t.val % 4) + (y 3).val := ⟨⟨128 * (t.val % 4) + (y 3).val, by omega⟩, rfl⟩
    have e : ((cfg0.win 13).blk t).view.emb y = ix5 1 (row t) (y 2) k (y 4) := by
      funext a
      match a with
      | ⟨0, _⟩ => exact Fin.ext (by blk_simp [idx_val t]; first | rfl | omega)
      | ⟨1, _⟩ => exact Fin.ext (by blk_simp [idx_val t]; first | rfl | (unfold row; omega) | omega)
      | ⟨2, _⟩ => exact Fin.ext (by blk_simp [idx_val t]; first | rfl | omega)
      | ⟨3, _⟩ =>
        refine Fin.ext (Eq.trans (b := t.val % 4 * 128 + (y 3).val) ?_ (by show _ = k.val; omega))
        blk_simp [idx_val t]
        rfl
      | ⟨4, _⟩ => exact Fin.ext (by blk_simp [idx_val t]; first | rfl | omega)
    rw [e]
    have a : pair t = pairOf k := Fin.ext (by show t.val % 4 = k.val / 128; omega)
    have b : (y 3 : Fin 128) = placeOf k := Fin.ext (by show (y 3).val = k.val % 128; omega)
    refine (blockA_of m c t y (y 2) (y 3) (y 4) rfl rfl rfl).trans ?_
    refine Eq.trans ?_ (outA_one _ _ _ _ _ _ _).symm
    exact congrArg₂ (fun (h : Fin 4) (l : Fin 128) => pastAt (aZ m c) (aG m c) 0 (row t) (y 2) h l ⟨1920 + (y 4).val, by have : (y 4).val < 128 := (y 4).isLt; omega⟩) a b
  · rw [A_eq, entryA]
    refine (if_neg fun h => hj ?_).symm
    blk_simp [Pipeline.Window.cell_apply] at h ⊢
    omega

/-- The second window's array before the region. -/
theorem entryB (c : Dev nD) : (V m c (Pipeline.arrRef spec0 14) : FVec Ideal S2x8x2x512x512 .f32) = aB m c := by
  unfold V hostOps0
  after_results_simp
  rfl

/-- What a point leaves of the second window. -/
def blockB (c : Dev nD) (t : Fin cfg0.N) : FVec Ideal S1x1x2x128x512 .f32 := fun z =>
  pastAt (aZ m c) (aG m c) 1 (row t) (z 2) (pair t) (z 3) ⟨1536 + (z 4).val, by have : (z 4).val < 512 := (z 4).isLt; omega⟩

/-- What a point leaves of the second window, at the coordinates that count. -/
theorem blockB_of (c : Dev nD) (t : Fin cfg0.N) (z : S1x1x2x128x512.Idx) (p : Fin 2) (l : Fin 128) (w : Fin 512)
    (hp : z 2 = p) (hl : z 3 = l) (hw : z 4 = w) :
    (blockB m c t z : EReal) = pastAt (aZ m c) (aG m c) 1 (row t) p (pair t) l ⟨1536 + w.val, by omega⟩ := by
  subst hp hl hw
  rfl

/-- What a point leaves of the second window, read. -/
theorem read14 (c : Dev nD) (hZ : Finite (aZ m c)) (t : Fin cfg0.N) (y : S1x1x2x128x512.Idx) :
    ((outsAt0 m c t).2.2.1 y : EReal) = blockB m c t y := by
  unfold outsAt0
  dsimp only
  unfold out0_A_14
  refine View.read_writes_apply_of_pieces (Val := Elt Ideal) VO0_14 _ (blockB m c t) _ ?_ y (cover0_A_14 ..)
  unfold kernelRun0_A
  dsimp only
  frame_out
  refine List.forall_mem_cons.2 ⟨?_, List.forall_mem_cons.2 ⟨?_, fun p hp => absurd hp List.not_mem_nil⟩⟩
  · refine fun x => ?_
    have hx : x = ix5 0 0 0 (x 3) (x 4) := by blk_ext
    obtain ⟨l, w, rfl⟩ : ∃ (l : Fin 128) (w : Fin 512), x = ix5 0 0 0 l w := ⟨x 3, x 4, hx⟩
    refine Eq.trans ?_ (Eq.symm (blockB_of m c t _ 1 l w ?_ ?_ ?_))
    · dsimp only
      refine (winV1 _ l w).trans ?_
      refine (View.ld_unit_apply_of (Val := Elt Ideal) (S := S1x2048x128) (e := .f32) (iblk m c 5 t) _ _ _ _ (ix3 0 ⟨1536 + w.val, by omega⟩ l) (fun a => by
        match a with
        | ⟨0, _⟩ => rfl
        | ⟨1, _⟩ => rfl
        | ⟨2, _⟩ => exact (Nat.zero_add _).symm)).trans ?_
      exact v1_blk m c t _ l
    · rfl
    · exact Fin.ext ((lands _ inb_S1x1x2x128x512_S1x1x1x128x512_0_0_1_0_0 l w 3).trans (Nat.zero_add _))
    · exact Fin.ext ((lands _ inb_S1x1x2x128x512_S1x1x1x128x512_0_0_1_0_0 l w 4).trans (Nat.zero_add _))
  · refine fun x => ?_
    have hx : x = ix5 0 0 0 (x 3) (x 4) := by blk_ext
    obtain ⟨l, w, rfl⟩ : ∃ (l : Fin 128) (w : Fin 512), x = ix5 0 0 0 l w := ⟨x 3, x 4, hx⟩
    refine Eq.trans ?_ (Eq.symm (blockB_of m c t _ 0 l w ?_ ?_ ?_))
    · dsimp only
      refine (winK1 _ l w).trans ?_
      refine (scratch _ _ 512 1536 _ _ w l ⟨1536 + w.val, by omega⟩ rfl).trans ?_
      refine (key1 _ _ _ l).trans ?_
      exact keyAt m c hZ t 1 _ (k1_blk m c t) _ l
    · rfl
    · exact Fin.ext ((lands _ inb_S1x1x2x128x512_S1x1x1x128x512_0_0_0_0_0 l w 3).trans (Nat.zero_add _))
    · exact Fin.ext ((lands _ inb_S1x1x2x128x512_S1x1x1x128x512_0_0_0_0_0 l w 4).trans (Nat.zero_add _))

/-- The array of the second window after the run. -/
theorem final14 (c : Dev nD) (hZ : Finite (aZ m c)) : (dats m 0 c).arrAt 14 cfg0.N = outB (aZ m c) (aG m c) (aB m c) := by
  refine (dats m 0 c).arrAt_eq_of_coversWhere_of_agree 14 _ (fun β => 1 ≤ β (0 : Fin 5)) (by decide +kernel) (fun t hf y => ?_) (fun j hj => ?_)
  · blk_simp
    rw [after0_14]
    refine (read14 m c hZ t y).trans ?_
    have h3 : (y 3).val < 128 := (y 3).isLt
    obtain ⟨k, hk⟩ : ∃ k : Fin 512, k.val = 128 * (t.val % 4) + (y 3).val := ⟨⟨128 * (t.val % 4) + (y 3).val, by omega⟩, rfl⟩
    have e : ((cfg0.win 14).blk t).view.emb y = ix5 1 (row t) (y 2) k (y 4) := by
      funext a
      match a with
      | ⟨0, _⟩ => exact Fin.ext (by blk_simp [idx_val t]; first | rfl | omega)
      | ⟨1, _⟩ => exact Fin.ext (by blk_simp [idx_val t]; first | rfl | (unfold row; omega) | omega)
      | ⟨2, _⟩ => exact Fin.ext (by blk_simp [idx_val t]; first | rfl | omega)
      | ⟨3, _⟩ =>
        refine Fin.ext (Eq.trans (b := t.val % 4 * 128 + (y 3).val) ?_ (by show _ = k.val; omega))
        blk_simp [idx_val t]
        rfl
      | ⟨4, _⟩ => exact Fin.ext (by blk_simp [idx_val t]; first | rfl | omega)
    rw [e]
    have a : pair t = pairOf k := Fin.ext (by show t.val % 4 = k.val / 128; omega)
    have b : (y 3 : Fin 128) = placeOf k := Fin.ext (by show (y 3).val = k.val % 128; omega)
    refine (blockB_of m c t y (y 2) (y 3) (y 4) rfl rfl rfl).trans ?_
    refine Eq.trans ?_ (outB_one _ _ _ _ _ _ _).symm
    exact congrArg₂ (fun (h : Fin 4) (l : Fin 128) => pastAt (aZ m c) (aG m c) 1 (row t) (y 2) h l ⟨1536 + (y 4).val, by have : (y 4).val < 512 := (y 4).isLt; omega⟩) a b
  · rw [A_eq, entryB]
    refine (if_neg fun h => hj ?_).symm
    blk_simp [Pipeline.Window.cell_apply] at h ⊢
    omega

/-- The third window's array before the region. -/
theorem entryC (c : Dev nD) : (V m c (Pipeline.arrRef spec0 15) : FVec Ideal S2x8x2x512x2048 .f32) = aC m c := by
  unfold V hostOps0
  after_results_simp
  rfl

/-- What a point leaves of the third window. -/
def blockC (c : Dev nD) (t : Fin cfg0.N) : FVec Ideal S1x1x2x128x2048 .f32 := fun z =>
  pastAt (aZ m c) (aG m c) 2 (row t) (z 2) (pair t) (z 3) (z 4)

/-- What a point leaves of the third window, at the coordinates that count. -/
theorem blockC_of (c : Dev nD) (t : Fin cfg0.N) (z : S1x1x2x128x2048.Idx) (p : Fin 2) (l : Fin 128) (w : Fin 2048)
    (hp : z 2 = p) (hl : z 3 = l) (hw : z 4 = w) :
    (blockC m c t z : EReal) = pastAt (aZ m c) (aG m c) 2 (row t) p (pair t) l w := by
  subst hp hl hw
  rfl

/-- What a point leaves of the third window, read. -/
theorem read15 (c : Dev nD) (hZ : Finite (aZ m c)) (t : Fin cfg0.N) (y : S1x1x2x128x2048.Idx) :
    ((outsAt0 m c t).2.2.2 y : EReal) = blockC m c t y := by
  unfold outsAt0
  dsimp only
  unfold out0_A_15
  refine View.read_writes_apply_of_pieces (Val := Elt Ideal) VO0_15 _ (blockC m c t) _ ?_ y (cover0_A_15 ..)
  unfold kernelRun0_A
  dsimp only
  frame_out
  refine List.forall_mem_cons.2 ⟨?_, List.forall_mem_cons.2 ⟨?_, fun p hp => absurd hp List.not_mem_nil⟩⟩
  · refine fun x => ?_
    have hx : x = ix5 0 0 0 (x 3) (x 4) := by blk_ext
    obtain ⟨l, w, rfl⟩ : ∃ (l : Fin 128) (w : Fin 2048), x = ix5 0 0 0 l w := ⟨x 3, x 4, hx⟩
    refine Eq.trans ?_ (Eq.symm (blockC_of m c t _ 1 l w ?_ ?_ ?_))
    · dsimp only
      refine (winV2 _ l w).trans ?_
      exact v2_blk m c t _ l
    · rfl
    · exact Fin.ext ((lands _ inb_S1x1x2x128x2048_S1x1x1x128x2048_0_0_1_0_0 l w 3).trans (Nat.zero_add _))
    · exact Fin.ext ((lands _ inb_S1x1x2x128x2048_S1x1x1x128x2048_0_0_1_0_0 l w 4).trans (Nat.zero_add _))
  · refine fun x => ?_
    have hx : x = ix5 0 0 0 (x 3) (x 4) := by blk_ext
    obtain ⟨l, w, rfl⟩ : ∃ (l : Fin 128) (w : Fin 2048), x = ix5 0 0 0 l w := ⟨x 3, x 4, hx⟩
    refine Eq.trans ?_ (Eq.symm (blockC_of m c t _ 0 l w ?_ ?_ ?_))
    · dsimp only
      refine (winK2 _ l w).trans ?_
      refine (key2 _ _ _ l).trans ?_
      exact keyAt m c hZ t 2 _ (k2_blk m c t) _ l
    · rfl
    · exact Fin.ext ((lands _ inb_S1x1x2x128x2048_S1x1x1x128x2048_0_0_0_0_0 l w 3).trans (Nat.zero_add _))
    · exact Fin.ext ((lands _ inb_S1x1x2x128x2048_S1x1x1x128x2048_0_0_0_0_0 l w 4).trans (Nat.zero_add _))

/-- The array of the third window after the run. -/
theorem final15 (c : Dev nD) (hZ : Finite (aZ m c)) : (dats m 0 c).arrAt 15 cfg0.N = outC (aZ m c) (aG m c) (aC m c) := by
  refine (dats m 0 c).arrAt_eq_of_coversWhere_of_agree 15 _ (fun β => 1 ≤ β (0 : Fin 5)) (by decide +kernel) (fun t hf y => ?_) (fun j hj => ?_)
  · blk_simp
    rw [after0_15]
    refine (read15 m c hZ t y).trans ?_
    have h3 : (y 3).val < 128 := (y 3).isLt
    obtain ⟨k, hk⟩ : ∃ k : Fin 512, k.val = 128 * (t.val % 4) + (y 3).val := ⟨⟨128 * (t.val % 4) + (y 3).val, by omega⟩, rfl⟩
    have e : ((cfg0.win 15).blk t).view.emb y = ix5 1 (row t) (y 2) k (y 4) := by
      funext a
      match a with
      | ⟨0, _⟩ => exact Fin.ext (by blk_simp [idx_val t]; first | rfl | omega)
      | ⟨1, _⟩ => exact Fin.ext (by blk_simp [idx_val t]; first | rfl | (unfold row; omega) | omega)
      | ⟨2, _⟩ => exact Fin.ext (by blk_simp [idx_val t]; first | rfl | omega)
      | ⟨3, _⟩ =>
        refine Fin.ext (Eq.trans (b := t.val % 4 * 128 + (y 3).val) ?_ (by show _ = k.val; omega))
        blk_simp [idx_val t]
        rfl
      | ⟨4, _⟩ => exact Fin.ext (by blk_simp [idx_val t]; first | rfl | omega)
    rw [e]
    have a : pair t = pairOf k := Fin.ext (by show t.val % 4 = k.val / 128; omega)
    have b : (y 3 : Fin 128) = placeOf k := Fin.ext (by show (y 3).val = k.val % 128; omega)
    refine (blockC_of m c t y (y 2) (y 3) (y 4) rfl rfl rfl).trans ?_
    refine Eq.trans ?_ (outC_one _ _ _ _ _ _ _).symm
    exact congrArg₂ (fun (h : Fin 4) (l : Fin 128) => pastAt (aZ m c) (aG m c) 2 (row t) (y 2) h l (y 4)) a b
  · rw [A_eq, entryC]
    refine (if_neg fun h => hj ?_).symm
    blk_simp [Pipeline.Window.cell_apply] at h ⊢
    omega

end Cert.Kernel10Ideal.Later
-- ==== Proof.Later.Reference.lean ====
module

public import proofs.«01_k».proof.Proof.Gen.Reference10Ideal.Run
public import proofs.«01_k».proof.Proof.Past.Reference
public import proofs.«01_k».proof.Proof.Later.Terms

/-! The reference's prompt windows of the second layer read at an index. -/

@[expose] public section

set_option maxRecDepth 16384

noncomputable section

namespace Cert.Reference10Ideal.Later

open Idealize.ShloMosaic Idealize.ShloMosaic.TcCoe Idealize.SL.Sem
open Cert.Reference10Ideal Cert.Reference10Ideal.Gen Cert.Moe
open Cert.Kernel10Ideal.Later (outA outB outC)
open Cert.Reference9Ideal.Past (rK rV rNorm rCat0 rTurn0 rCat1 rTurn1 rCat2 rTurn2 key_at val_at)

/-- The first window after the first layer's place of another. -/
def rOver0 (A : FVec Ideal S2x8x2x512x128 .f32) (P : FVec Ideal S8x2x512x128 .f32) : FVec Ideal S2x8x2x512x128 .f32 :=
  concatenate S2x8x2x512x128 0 [⟨S1x8x2x512x128, (extractStridedSlice S1x8x2x512x128 ![0, 0, 0, 0, 0] A slices_S2x8x2x512x128_S1x8x2x512x128_0_0_0_0_0)⟩, ⟨S1x8x2x512x128, (broadcastInDim S1x8x2x512x128 ![1, 2, 3, 4] bcast_S8x2x512x128_S1x8x2x512x128_1_2_3_4 P)⟩] concatenates_S1x8x2x512x128_S1x8x2x512x128_S2x8x2x512x128_d0

/-- The first window after another's place, read. -/
theorem rOver0_apply (A : FVec Ideal S2x8x2x512x128 .f32) (P : FVec Ideal S8x2x512x128 .f32) (l : Fin 2) (n : Fin 8) (p : Fin 2) (k : Fin 512) (w : Fin 128) :
    (rOver0 A P (ix5 l n p k w) : EReal) = if l.val = 1 then P (ix4 n p k w) else A (ix5 l n p k w) := by
  pointwise [rOver0]
  by_cases hl : l.val < 1
  · refine (dif_pos hl).trans (Eq.trans ?_ (if_neg (show ¬ l.val = 1 by omega)).symm)
    have e : l = 0 := Fin.ext (by show l.val = 0; omega)
    subst e
    rfl
  · exact (dif_neg hl).trans (if_pos (show l.val = 1 by omega)).symm

/-- The reference's first window is the second layer's new place over the window passed in. -/
theorem stagedA (Z : FVec Ideal S8x2048x7680 .f32) (G : FVec Ideal S64 .f32) (A : FVec Ideal S2x8x2x512x128 .f32) :
    rOver0 A (rTurn0 (rCat0 (rNorm (rK Z) G) (rV Z))) = outA Z G A := by
  have h : ∀ (l : Fin 2) (n : Fin 8) (p : Fin 2) (k : Fin 512) (w : Fin 128),
      (rOver0 A (rTurn0 (rCat0 (rNorm (rK Z) G) (rV Z))) (ix5 l n p k w) : EReal) = outA Z G A (ix5 l n p k w) := fun l n p k w => by
    rw [rOver0_apply, Cert.Reference9Ideal.Past.rTurn0_apply, Cert.Reference9Ideal.Past.rCat0_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The second window after the first layer's place of another. -/
def rOver1 (A : FVec Ideal S2x8x2x512x512 .f32) (P : FVec Ideal S8x2x512x512 .f32) : FVec Ideal S2x8x2x512x512 .f32 :=
  concatenate S2x8x2x512x512 0 [⟨S1x8x2x512x512, (extractStridedSlice S1x8x2x512x512 ![0, 0, 0, 0, 0] A slices_S2x8x2x512x512_S1x8x2x512x512_0_0_0_0_0)⟩, ⟨S1x8x2x512x512, (broadcastInDim S1x8x2x512x512 ![1, 2, 3, 4] bcast_S8x2x512x512_S1x8x2x512x512_1_2_3_4 P)⟩] concatenates_S1x8x2x512x512_S1x8x2x512x512_S2x8x2x512x512_d0

/-- The second window after another's place, read. -/
theorem rOver1_apply (A : FVec Ideal S2x8x2x512x512 .f32) (P : FVec Ideal S8x2x512x512 .f32) (l : Fin 2) (n : Fin 8) (p : Fin 2) (k : Fin 512) (w : Fin 512) :
    (rOver1 A P (ix5 l n p k w) : EReal) = if l.val = 1 then P (ix4 n p k w) else A (ix5 l n p k w) := by
  pointwise [rOver1]
  by_cases hl : l.val < 1
  · refine (dif_pos hl).trans (Eq.trans ?_ (if_neg (show ¬ l.val = 1 by omega)).symm)
    have e : l = 0 := Fin.ext (by show l.val = 0; omega)
    subst e
    rfl
  · exact (dif_neg hl).trans (if_pos (show l.val = 1 by omega)).symm

/-- The reference's second window is the second layer's new place over the window passed in. -/
theorem stagedB (Z : FVec Ideal S8x2048x7680 .f32) (G : FVec Ideal S64 .f32) (A : FVec Ideal S2x8x2x512x512 .f32) :
    rOver1 A (rTurn1 (rCat1 (rNorm (rK Z) G) (rV Z))) = outB Z G A := by
  have h : ∀ (l : Fin 2) (n : Fin 8) (p : Fin 2) (k : Fin 512) (w : Fin 512),
      (rOver1 A (rTurn1 (rCat1 (rNorm (rK Z) G) (rV Z))) (ix5 l n p k w) : EReal) = outB Z G A (ix5 l n p k w) := fun l n p k w => by
    rw [rOver1_apply, Cert.Reference9Ideal.Past.rTurn1_apply, Cert.Reference9Ideal.Past.rCat1_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The third window after the first layer's place of another. -/
def rOver2 (A : FVec Ideal S2x8x2x512x2048 .f32) (P : FVec Ideal S8x2x512x2048 .f32) : FVec Ideal S2x8x2x512x2048 .f32 :=
  concatenate S2x8x2x512x2048 0 [⟨S1x8x2x512x2048, (extractStridedSlice S1x8x2x512x2048 ![0, 0, 0, 0, 0] A slices_S2x8x2x512x2048_S1x8x2x512x2048_0_0_0_0_0)⟩, ⟨S1x8x2x512x2048, (broadcastInDim S1x8x2x512x2048 ![1, 2, 3, 4] bcast_S8x2x512x2048_S1x8x2x512x2048_1_2_3_4 P)⟩] concatenates_S1x8x2x512x2048_S1x8x2x512x2048_S2x8x2x512x2048_d0

/-- The third window after another's place, read. -/
theorem rOver2_apply (A : FVec Ideal S2x8x2x512x2048 .f32) (P : FVec Ideal S8x2x512x2048 .f32) (l : Fin 2) (n : Fin 8) (p : Fin 2) (k : Fin 512) (w : Fin 2048) :
    (rOver2 A P (ix5 l n p k w) : EReal) = if l.val = 1 then P (ix4 n p k w) else A (ix5 l n p k w) := by
  pointwise [rOver2]
  by_cases hl : l.val < 1
  · refine (dif_pos hl).trans (Eq.trans ?_ (if_neg (show ¬ l.val = 1 by omega)).symm)
    have e : l = 0 := Fin.ext (by show l.val = 0; omega)
    subst e
    rfl
  · exact (dif_neg hl).trans (if_pos (show l.val = 1 by omega)).symm

/-- The reference's third window is the second layer's new place over the window passed in. -/
theorem stagedC (Z : FVec Ideal S8x2048x7680 .f32) (G : FVec Ideal S64 .f32) (A : FVec Ideal S2x8x2x512x2048 .f32) :
    rOver2 A (rTurn2 (rCat2 (rNorm (rK Z) G) (rV Z))) = outC Z G A := by
  have h : ∀ (l : Fin 2) (n : Fin 8) (p : Fin 2) (k : Fin 512) (w : Fin 2048),
      (rOver2 A (rTurn2 (rCat2 (rNorm (rK Z) G) (rV Z))) (ix5 l n p k w) : EReal) = outC Z G A (ix5 l n p k w) := fun l n p k w => by
    rw [rOver2_apply, Cert.Reference9Ideal.Past.rTurn2_apply, Cert.Reference9Ideal.Past.rCat2_apply, key_at, val_at]
    rfl
  refine funext fun i => ?_
  have hi : i = ix5 (i 0) (i 1) (i 2) (i 3) (i 4) := by
    refine funext fun a => ?_
    match a with
    | ⟨0, _⟩ => rfl
    | ⟨1, _⟩ => rfl
    | ⟨2, _⟩ => rfl
    | ⟨3, _⟩ => rfl
    | ⟨4, _⟩ => rfl
  rw [hi]
  exact h (i 0) (i 1) (i 2) (i 3) (i 4)

/-- The reference ends with the second layer's places new and the first layer's as passed in. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = outA (m ((c.tc : Thread nD τ).loc main_arg0)) (m ((c.tc : Thread nD τ).loc main_arg2)) (m ((c.tc : Thread nD τ).loc main_arg4))
      ∧ r.2.mem ((c.tc : Thread nD τ).loc main_v40) = outB (m ((c.tc : Thread nD τ).loc main_arg0)) (m ((c.tc : Thread nD τ).loc main_arg2)) (m ((c.tc : Thread nD τ).loc main_arg5))
      ∧ r.2.mem ((c.tc : Thread nD τ).loc main_v52) = outC (m ((c.tc : Thread nD τ).loc main_arg0)) (m ((c.tc : Thread nD τ).loc main_arg2)) (m ((c.tc : Thread nD τ).loc main_arg6)) :=
  (θ_run defs _ _).mono (fun r h c => ⟨(h c).1.trans (stagedA _ _ _), (h c).2.1.trans (stagedB _ _ _), (h c).2.2.1.trans (stagedC _ _ _)⟩)
    (Value.run m ρ)

end Cert.Reference10Ideal.Later
-- ==== Proof.Later.Finite.lean ====
module

public import proofs.«01_k».proof.Pre_later_keys_finite
public import proofs.«01_k».proof.Proof.Past.Finite

/-! What the second layer's claim assumes of the projected columns: every key is finite. -/

@[expose] public section

set_option maxRecDepth 16384

noncomputable section

namespace Cert.Kernel10Ideal.Later

open Idealize.ShloMosaic Idealize.ShloMosaic.TcCoe Idealize.SL.Sem
open Cert.Moe Cert.Pre_later_keys_finite
open Cert.Kernel9Ideal.Past (Finite real_of)

/-- The side conditions of the assumption. -/
theorem preFacts : Cert.Pre_later_keys_finite.Facts where
  slices_S8x2048x7680_S8x2048x1536_0_0_1536 := by decide
  bcast_S_S8x2048x1536 := by decide

/-- What is assumed says that every key is finite. -/
theorem finite_of (Z : FVec Ideal S8x2048x7680 .f32) (a b : FVec Ideal S64 .f32) (d : FVec Ideal S3x8x128x256 .f32)
    (x : FVec Ideal S2x8x2x512x128 .f32) (y : FVec Ideal S2x8x2x512x512 .f32) (z : FVec Ideal S2x8x2x512x2048 .f32)
    (h : (letI := preFacts; Cert.Pre_later_keys_finite.fn (F := Ideal) Z a b d x y z) = fun _ => 1#1) : Finite Z := fun n r g p l => by
  have e := congrFun h (ix3 n r (⟨512 * g.val + 128 * p.val + l.val, by omega⟩ : Fin 1536))
  refine real_of _ (Eq.trans ?_ e)
  refine congrArg (fun x : Ideal .f32 => FloatOps.cmpf .olt (FloatOps.hostAbsf x) (FloatOps.ofBits (F := Ideal) .f32 0x7F800000#32)) ?_
  refine congrArg Z (funext fun q => ?_)
  match q with
  | ⟨0, _⟩ => exact Fin.ext (by show n.val = 0 + n.val; omega)
  | ⟨1, _⟩ => exact Fin.ext (by show r.val = 0 + r.val; omega)
  | ⟨2, _⟩ => exact Fin.ext (by show 1536 + 512 * g.val + 128 * p.val + l.val = 1536 + (512 * g.val + 128 * p.val + l.val); omega)

end Cert.Kernel10Ideal.Later
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel5.Frame
public import proofs.«01_k».proof.Proof.Gen.Kernel4.Frame
public import proofs.«01_k».proof.Proof.Gen.Kernel3.Frame
public import proofs.«01_k».proof.Proof.Gen.Kernel2.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Kernel8Ideal.Value
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel9Ideal.Value
public import proofs.«01_k».proof.Proof.Gen.Reference9Ideal.Run
public import proofs.«01_k».proof.Proof.Gen.Reference8Ideal.Run
public import proofs.«01_k».proof.Proof.Gen.Kernel5Ideal.Value
public import proofs.«01_k».proof.Proof.Gen.Reference7Ideal.Run
public import proofs.«01_k».proof.Proof.Gen.Reference5Ideal.Run
public import proofs.«01_k».proof.Proof.Gen.Kernel4Ideal.Value
public import proofs.«01_k».proof.Proof.Gen.Reference4Ideal.Run
public import proofs.«01_k».proof.Proof.Gen.Kernel3Ideal.Value
public import proofs.«01_k».proof.Proof.Gen.Reference3Ideal.Run
public import proofs.«01_k».proof.Proof.Gen.Kernel2Ideal.Value
public import proofs.«01_k».proof.Proof.Gen.Reference2Ideal.Run
public import proofs.«01_k».proof.Proof.Gen.ReferenceIdeal
public import proofs.«01_k».proof.Proof.Gen.ReferenceIdeal.Run
public import proofs.«01_k».proof.Proof.Moe.Launch
public import proofs.«01_k».proof.Proof.Moe.Final
public import proofs.«01_k».proof.Proof.Moe.Reference
public import proofs.«01_k».proof.Proof.MoeBits.Launch
public import proofs.«01_k».proof.Proof.Proj.Reference
public import proofs.«01_k».proof.Proof.Proj.GateReference
public import proofs.«01_k».proof.Proof.Ffn.Reference
public import proofs.«01_k».proof.Proof.Merge.Reference
public import proofs.«01_k».proof.Proof.Sample.Reference
public import proofs.«01_k».proof.Proof.Step.Reference
public import proofs.«01_k».proof.Proof.Window.Value
public import proofs.«01_k».proof.Proof.Window.Reference
public import proofs.«01_k».proof.Proof.Past.Reference
public import proofs.«01_k».proof.Proof.Past.Finite
public import proofs.«01_k».proof.Proof.Later.Terms
public import proofs.«01_k».proof.Proof.Later.Value
public import proofs.«01_k».proof.Proof.Later.Reference
public import proofs.«01_k».proof.Proof.Later.Finite
public import Idealize.ShloMosaic.Adequacy
public import Idealize.ShloMosaic.Init

@[expose] public section

noncomputable section

namespace Cert.Proof

open Idealize.ShloMosaic Idealize.SL.Sem Cert.Kernel

/-- The reference ends with its arguments unchanged and no counter raised: it has no counters. -/
theorem referenceFrame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- The kernel and the reference end with the same array of outputs. -/
theorem sameOutputs : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Moe.outputs (Cert.KernelIdeal.Moe.aX m c) (Cert.KernelIdeal.Moe.aG m c)
    (Cert.KernelIdeal.Moe.aR m c) (Cert.KernelIdeal.Moe.aWg m c) (Cert.KernelIdeal.Moe.aWu m c)
    (Cert.KernelIdeal.Moe.aWd m c), ?_, ?_⟩
  · refine (θ_run _ _ _).mono (fun r h c => ⟨(h.1 c).trans (Cert.KernelIdeal.Moe.final m c), h.2.1 c⟩)
      (θ_run_and (Cert.KernelIdeal.Moe.run_out m g) (Cert.KernelIdeal.Moe.frame m g))
  · refine (θ_run _ _ _).mono (fun r h c => ⟨(h c).1.trans ?_, (h c).2⟩) (Cert.ReferenceIdeal.Value.run m' g')
    rw [Cert.ReferenceIdeal.Moe.result m' c]
    obtain ⟨h0, h1, h2, h3, h4, h5⟩ := hargs c
    rw [h0, h1, h2, h3, h4, h5]

/-- The reference of the first input projection ends with its arguments unchanged and no counter raised. -/
theorem projectedColumnsFrame : Cert.quiescent_Reference2Ideal (hReference2Ideal := Cert.Reference2Ideal.Gen.facts) := fun m g _ =>
  (θ_run _ _ _).mono (fun r h => ⟨fun c => (h c).2, sem_eq_zero_of_no_sems (by decide) r.2⟩)
    (Cert.Reference2Ideal.Value.run m g)

/-- Kernel and reference of the first input projection end with the same array. -/
theorem projectedColumnsSame : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Proj.outputs (Cert.Kernel2Ideal.Proj.aX m c) (Cert.Kernel2Ideal.Proj.aG m c) (Cert.Kernel2Ideal.Proj.aW m c), ?_, ?_⟩
  · exact (θ_run _ _ _).mono (fun r h c => ⟨(h c).1.trans (Cert.Kernel2Ideal.Proj.final m c), (h c).2⟩)
      (Cert.Kernel2Ideal.Value.run_blocks m g)
  · refine (θ_run _ _ _).mono (fun r h c => ⟨(h.1 c).trans ?_, (h.2 c).2⟩)
      (θ_run_and (Cert.Reference2Ideal.Proj.run m' g') (Cert.Reference2Ideal.Value.run m' g'))
    obtain ⟨h0, h1, h2⟩ := hargs c
    rw [h0, h1, h2]

/-- The reference of the second input projection ends with its arguments unchanged and no counter raised. -/
theorem projectedGatesFrame : Cert.quiescent_Reference3Ideal (hReference3Ideal := Cert.Reference3Ideal.Gen.facts) := fun m g _ =>
  (θ_run _ _ _).mono (fun r h => ⟨fun c => (h c).2, sem_eq_zero_of_no_sems (by decide) r.2⟩)
    (Cert.Reference3Ideal.Value.run m g)

/-- Kernel and reference of the second input projection end with the same array. -/
theorem projectedGatesSame : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Proj.outputs (Cert.Kernel3Ideal.Proj.aX m c) (Cert.Kernel3Ideal.Proj.aG m c) (Cert.Kernel3Ideal.Proj.aW m c), ?_, ?_⟩
  · exact (θ_run _ _ _).mono (fun r h c => ⟨(h c).1.trans (Cert.Kernel3Ideal.Proj.final m c), (h c).2⟩)
      (Cert.Kernel3Ideal.Value.run_blocks m g)
  · refine (θ_run _ _ _).mono (fun r h c => ⟨(h.1 c).trans ?_, (h.2 c).2⟩)
      (θ_run_and (Cert.Reference3Ideal.Proj.run m' g') (Cert.Reference3Ideal.Value.run m' g'))
    obtain ⟨h0, h1, h2⟩ := hargs c
    rw [h0, h1, h2]

/-- The reference of the feed-forward ends with its arguments unchanged and no counter raised. -/
theorem feedForwardFrame : Cert.quiescent_Reference4Ideal (hReference4Ideal := Cert.Reference4Ideal.Gen.facts) := fun m g _ =>
  (θ_run _ _ _).mono (fun r h => ⟨fun c => (h c).2, sem_eq_zero_of_no_sems (by decide) r.2⟩)
    (Cert.Reference4Ideal.Value.run m g)

/-- Kernel and reference of the feed-forward end with the same array. -/
theorem feedForwardSame : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Ffn.outputs (Cert.Kernel4Ideal.Ffn.aX m c) (Cert.Kernel4Ideal.Ffn.aG m c) (Cert.Kernel4Ideal.Ffn.aWg m c) (Cert.Kernel4Ideal.Ffn.aWu m c) (Cert.Kernel4Ideal.Ffn.aWd m c), ?_, ?_⟩
  · exact (θ_run _ _ _).mono (fun r h c => ⟨(h c).1.trans (Cert.Kernel4Ideal.Ffn.final m c), (h c).2⟩)
      (Cert.Kernel4Ideal.Value.run_blocks m g)
  · refine (θ_run _ _ _).mono (fun r h c => ⟨(h.1 c).trans ?_, (h.2 c).2⟩)
      (θ_run_and (Cert.Reference4Ideal.Ffn.run m' g') (Cert.Reference4Ideal.Value.run m' g'))
    obtain ⟨h0, h1, h2, h3, h4⟩ := hargs c
    rw [h0, h1, h2, h3, h4]

/-- The reference of the merge ends with its arguments unchanged and no counter raised. -/
theorem mergedFrame : Cert.quiescent_Reference5Ideal (hReference5Ideal := Cert.Reference5Ideal.Gen.facts) := fun m g _ =>
  (θ_run _ _ _).mono (fun r h => ⟨fun c => (h c).2, sem_eq_zero_of_no_sems (by decide) r.2⟩)
    (Cert.Reference5Ideal.Value.run m g)

/-- Kernel and reference of the merge end with the same array. -/
theorem mergedSame : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Merge.outputs (Cert.Kernel5Ideal.Merge.aZ m c) (Cert.Kernel5Ideal.Merge.aA m c) (Cert.Kernel5Ideal.Merge.aB m c) (Cert.Kernel5Ideal.Merge.aC m c) (Cert.Kernel5Ideal.Merge.aX m c) (Cert.Kernel5Ideal.Merge.aBn m c) (Cert.Kernel5Ideal.Merge.aCn m c) (Cert.Kernel5Ideal.Merge.aWb m c) (Cert.Kernel5Ideal.Merge.aWo m c), ?_, ?_⟩
  · exact (θ_run _ _ _).mono (fun r h c => ⟨(h c).1.trans (Cert.Kernel5Ideal.Merge.final m c), (h c).2⟩)
      (Cert.Kernel5Ideal.Value.run_blocks m g)
  · refine (θ_run _ _ _).mono (fun r h c => ⟨(h.1 c).trans ?_, (h.2 c).2⟩)
      (θ_run_and (Cert.Reference5Ideal.Merge.run m' g') (Cert.Reference5Ideal.Value.run m' g'))
    obtain ⟨h0, h1, h2, h3, h4, h5, h6, h7, h8⟩ := hargs c
    rw [h0, h1, h2, h3, h4, h5, h6, h7, h8]

/-- The reference of the sample mixture ends with its arguments unchanged and no counter raised. -/
theorem sampleMixtureFrame : Cert.quiescent_Reference6Ideal (hReference6Ideal := Cert.Reference6Ideal.Gen.facts) := fun m g _ =>
  (θ_run _ _ _).mono (fun r h => ⟨fun c => (h c).2, sem_eq_zero_of_no_sems (by decide) r.2⟩)
    (Cert.Reference6Ideal.Value.run m g)

/-- Kernel and reference of the sample mixture end with the same array. -/
theorem sampleMixtureSame : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Sample.outputs (Cert.Kernel6Ideal.Sample.aX m c) (Cert.Kernel6Ideal.Sample.aG m c) (Cert.Kernel6Ideal.Sample.aR m c) (Cert.Kernel6Ideal.Sample.aWg m c) (Cert.Kernel6Ideal.Sample.aWu m c) (Cert.Kernel6Ideal.Sample.aWd m c), ?_, ?_⟩
  · exact (θ_run _ _ _).mono (fun r h c => ⟨(h c).1.trans (Cert.Kernel6Ideal.Sample.final m c), (h c).2⟩)
      (Cert.Kernel6Ideal.Value.run_blocks m g)
  · refine (θ_run _ _ _).mono (fun r h c => ⟨(h.1 c).trans ?_, (h.2 c).2⟩)
      (θ_run_and (Cert.Reference6Ideal.Sample.run m' g') (Cert.Reference6Ideal.Value.run m' g'))
    obtain ⟨h0, h1, h2, h3, h4, h5⟩ := hargs c
    rw [h0, h1, h2, h3, h4, h5]

/-- The reference of the sample step ends with its arguments unchanged and no counter raised. -/
theorem sampleStepFrame : Cert.quiescent_Reference7Ideal (hReference7Ideal := Cert.Reference7Ideal.Gen.facts) := fun m g _ =>
  (θ_run _ _ _).mono (fun r h => ⟨fun c => (h c).2.2.2.2.2, sem_eq_zero_of_no_sems (by decide) r.2⟩)
    (Cert.Reference7Ideal.Value.run m g)

/-- Kernel and reference of the sample step end with the same five arrays. -/
theorem sampleStepSame : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Step.outB (Cert.Kernel7Ideal.Step.aZ m c) (Cert.Kernel7Ideal.Step.aS m c) (Cert.Kernel7Ideal.Step.aW m c) (Cert.Kernel7Ideal.Step.aB m c), fun c => Cert.Kernel7Ideal.Step.outC (Cert.Kernel7Ideal.Step.aZ m c) (Cert.Kernel7Ideal.Step.aC m c) (Cert.Kernel7Ideal.Step.aD m c) (Cert.Kernel7Ideal.Step.aV m c) (Cert.Kernel7Ideal.Step.aT m c) (Cert.Kernel7Ideal.Step.aA m c), fun c => Cert.Kernel7Ideal.Step.outN (Cert.Kernel7Ideal.Step.aZ m c) (Cert.Kernel7Ideal.Step.aC m c), fun c => Cert.Kernel7Ideal.Step.outS (Cert.Kernel7Ideal.Step.aZ m c) (Cert.Kernel7Ideal.Step.aS m c) (Cert.Kernel7Ideal.Step.aW m c) (Cert.Kernel7Ideal.Step.aB m c), fun c => Cert.Kernel7Ideal.Step.outD (Cert.Kernel7Ideal.Step.aZ m c) (Cert.Kernel7Ideal.Step.aC m c) (Cert.Kernel7Ideal.Step.aD m c) (Cert.Kernel7Ideal.Step.aV m c) (Cert.Kernel7Ideal.Step.aT m c) (Cert.Kernel7Ideal.Step.aA m c), ?_, ?_⟩
  · exact (θ_run _ _ _).mono (fun r h c => ⟨(h c).1.trans (Cert.Kernel7Ideal.Step.final13 m c), (h c).2.1.trans (Cert.Kernel7Ideal.Step.final14 m c),
        (h c).2.2.1.trans (Cert.Kernel7Ideal.Step.final15 m c), (h c).2.2.2.1.trans (Cert.Kernel7Ideal.Step.final16 m c), (h c).2.2.2.2.1.trans (Cert.Kernel7Ideal.Step.final17 m c),
        (h c).2.2.2.2.2⟩)
      (Cert.Kernel7Ideal.Value.run_blocks m g)
  · refine (θ_run _ _ _).mono (fun r h c => ?_)
      (θ_run_and (Cert.Reference7Ideal.Step.run m' g') (Cert.Reference7Ideal.Value.run m' g'))
    obtain ⟨r0, r1, r2, r3, r4⟩ := h.1 c
    obtain ⟨h0, h1, h2, h3, h4, h5, h6, h7, h8⟩ := hargs c
    refine ⟨r0.trans ?_, r1.trans ?_, r2.trans ?_, r3.trans ?_, r4.trans ?_, (h.2 c).2.2.2.2.2⟩
    · rw [h0, h2, h4, h5]
    · rw [h0, h1, h3, h6, h7, h8]
    · rw [h0, h1]
    · rw [h0, h2, h4, h5]
    · rw [h0, h1, h3, h6, h7, h8]

/-- The reference of the sample windows ends with its arguments unchanged and no counter raised. -/
theorem sampleWindowsFrame : Cert.quiescent_Reference8Ideal (hReference8Ideal := Cert.Reference8Ideal.Gen.facts) := fun m g _ =>
  (θ_run _ _ _).mono (fun r h => ⟨fun c => (h c).2.2.2, sem_eq_zero_of_no_sems (by decide) r.2⟩)
    (Cert.Reference8Ideal.Value.run m g)

/-- Kernel and reference of the sample windows end with the same three arrays. -/
theorem sampleWindowsSame : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Window.outA (Cert.Kernel8Ideal.Window.aZ m c) (Cert.Kernel8Ideal.Window.aG m c) (Cert.Kernel8Ideal.Window.aA m c),
    fun c => Cert.Kernel8Ideal.Window.outB (Cert.Kernel8Ideal.Window.aZ m c) (Cert.Kernel8Ideal.Window.aG m c) (Cert.Kernel8Ideal.Window.aB m c),
    fun c => Cert.Kernel8Ideal.Window.outC (Cert.Kernel8Ideal.Window.aZ m c) (Cert.Kernel8Ideal.Window.aG m c) (Cert.Kernel8Ideal.Window.aC m c), ?_, ?_⟩
  · exact (θ_run _ _ _).mono (fun r h c => ⟨(h c).2.1.trans (Cert.Kernel8Ideal.Window.final14 m c), (h c).2.2.1.trans (Cert.Kernel8Ideal.Window.final15 m c),
        (h c).2.2.2.1.trans (Cert.Kernel8Ideal.Window.final16 m c), (h c).2.2.2.2⟩)
      (Cert.Kernel8Ideal.Value.run_blocks m g)
  · refine (θ_run _ _ _).mono (fun r h c => ?_)
      (θ_run_and (Cert.Reference8Ideal.Window.run m' g') (Cert.Reference8Ideal.Value.run m' g'))
    obtain ⟨r0, r1, r2⟩ := h.1 c
    obtain ⟨h0, h1, h2, h3, h4, h5, h6, h7, h8, h9, h10, h11, h12⟩ := hargs c
    refine ⟨r0.trans ?_, r1.trans ?_, r2.trans ?_, (h.2 c).2.2.2⟩
    · rw [h0, h5, h10]
    · rw [h0, h5, h11]
    · rw [h0, h5, h12]

/-- The reference of the prompt windows ends with its arguments unchanged and no counter raised. -/
theorem promptWindowsFrame : Cert.quiescent_Reference9Ideal (hReference9Ideal := Cert.Reference9Ideal.Gen.facts) := fun m g _ =>
  (θ_run _ _ _).mono (fun r h => ⟨fun c => (h c).2.2.2, sem_eq_zero_of_no_sems (by decide) r.2⟩)
    (Cert.Reference9Ideal.Value.run m g)

/-- Where every key is finite, kernel and reference of the prompt windows end with the same three arrays. -/
theorem promptWindowsSame : Cert.algebraic_Kernel9Ideal_Reference9Ideal_pre_keys_finite (hKernel9Ideal := Cert.Kernel9Ideal.Gen.facts)
    (hReference9Ideal := Cert.Reference9Ideal.Gen.facts) (hPre_keys_finite := Cert.Kernel9Ideal.Past.preFacts) := by
  intro m g m' g' hpre hargs
  have hZ : ∀ c, Cert.Kernel9Ideal.Past.Finite (Cert.Kernel9Ideal.Past.aZ m c) := fun c =>
    Cert.Kernel9Ideal.Past.finite_of _ _ _ _ (hpre c)
  refine ⟨fun c => Cert.Kernel9Ideal.Past.outA (Cert.Kernel9Ideal.Past.aZ m c) (Cert.Kernel9Ideal.Past.aG m c),
    fun c => Cert.Kernel9Ideal.Past.outB (Cert.Kernel9Ideal.Past.aZ m c) (Cert.Kernel9Ideal.Past.aG m c),
    fun c => Cert.Kernel9Ideal.Past.outC (Cert.Kernel9Ideal.Past.aZ m c) (Cert.Kernel9Ideal.Past.aG m c), ?_, ?_⟩
  · exact (θ_run _ _ _).mono (fun r h c => ⟨(h c).2.1.trans (Cert.Kernel9Ideal.Past.final13 m c (hZ c)), (h c).2.2.1.trans (Cert.Kernel9Ideal.Past.final14 m c (hZ c)),
        (h c).2.2.2.1.trans (Cert.Kernel9Ideal.Past.final15 m c (hZ c)), (h c).2.2.2.2⟩)
      (Cert.Kernel9Ideal.Value.run_blocks m g)
  · refine (θ_run _ _ _).mono (fun r h c => ?_)
      (θ_run_and (Cert.Reference9Ideal.Past.run m' g') (Cert.Reference9Ideal.Value.run m' g'))
    obtain ⟨r0, r1, r2⟩ := h.1 c
    obtain ⟨h0, h1, h2, h3⟩ := hargs c
    refine ⟨r0.trans ?_, r1.trans ?_, r2.trans ?_, (h.2 c).2.2.2⟩
    · rw [h0, h2]
    · rw [h0, h2]
    · rw [h0, h2]

/-- The reference of the later prompt windows ends with its arguments unchanged and no counter raised. -/
theorem laterWindowsFrame : Cert.quiescent_Reference10Ideal (hReference10Ideal := Cert.Reference10Ideal.Gen.facts) := fun m g _ =>
  (θ_run _ _ _).mono (fun r h => ⟨fun c => (h c).2.2.2, sem_eq_zero_of_no_sems (by decide) r.2⟩)
    (Cert.Reference10Ideal.Value.run m g)

/-- Where every key is finite, kernel and reference of the later prompt windows end with the same three arrays. -/
theorem laterWindowsSame : Cert.algebraic_Kernel10Ideal_Reference10Ideal_pre_later_keys_finite (hKernel10Ideal := Cert.Kernel10Ideal.Gen.facts)
    (hReference10Ideal := Cert.Reference10Ideal.Gen.facts) (hPre_later_keys_finite := Cert.Kernel10Ideal.Later.preFacts) := by
  intro m g m' g' hpre hargs
  have hZ : ∀ c, Cert.Kernel9Ideal.Past.Finite (Cert.Kernel10Ideal.Later.aZ m c) := fun c =>
    Cert.Kernel10Ideal.Later.finite_of _ _ _ _ _ _ _ (hpre c)
  refine ⟨fun c => Cert.Kernel10Ideal.Later.outA (Cert.Kernel10Ideal.Later.aZ m c) (Cert.Kernel10Ideal.Later.aG m c) (Cert.Kernel10Ideal.Later.aA m c),
    fun c => Cert.Kernel10Ideal.Later.outB (Cert.Kernel10Ideal.Later.aZ m c) (Cert.Kernel10Ideal.Later.aG m c) (Cert.Kernel10Ideal.Later.aB m c),
    fun c => Cert.Kernel10Ideal.Later.outC (Cert.Kernel10Ideal.Later.aZ m c) (Cert.Kernel10Ideal.Later.aG m c) (Cert.Kernel10Ideal.Later.aC m c), ?_, ?_⟩
  · exact (θ_run _ _ _).mono (fun r h c => ⟨(h c).2.1.trans (Cert.Kernel10Ideal.Later.final13 m c (hZ c)), (h c).2.2.1.trans (Cert.Kernel10Ideal.Later.final14 m c (hZ c)),
        (h c).2.2.2.1.trans (Cert.Kernel10Ideal.Later.final15 m c (hZ c)), (h c).2.2.2.2⟩)
      (Cert.Kernel10Ideal.Value.run_blocks m g)
  · refine (θ_run _ _ _).mono (fun r h c => ?_)
      (θ_run_and (Cert.Reference10Ideal.Later.run m' g') (Cert.Reference10Ideal.Value.run m' g'))
    obtain ⟨r0, r1, r2⟩ := h.1 c
    obtain ⟨h0, h1, h2, h3, h4, h5, h6⟩ := hargs c
    refine ⟨r0.trans ?_, r1.trans ?_, r2.trans ?_, (h.2 c).2.2.2⟩
    · rw [h0, h2, h4]
    · rw [h0, h2, h5]
    · rw [h0, h2, h6]

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel9Ideal.Past.preFacts, Cert.Kernel10Ideal.Later.preFacts,
    fun m ρ _ => Cert.Kernel.Moe.frame m ρ, fun m ρ _ => Cert.KernelIdeal.Moe.frame m ρ, referenceFrame,
    fun m ρ _ => Cert.Kernel2.Gen.frame m ρ, fun m ρ _ => Cert.Kernel2Ideal.Gen.frame m ρ, projectedColumnsFrame,
    fun m ρ _ => Cert.Kernel3.Gen.frame m ρ, fun m ρ _ => Cert.Kernel3Ideal.Gen.frame m ρ, projectedGatesFrame,
    fun m ρ _ => Cert.Kernel4.Gen.frame m ρ, fun m ρ _ => Cert.Kernel4Ideal.Gen.frame m ρ, feedForwardFrame,
    fun m ρ _ => Cert.Kernel5.Gen.frame m ρ, fun m ρ _ => Cert.Kernel5Ideal.Gen.frame m ρ, mergedFrame,
    fun m ρ _ => Cert.Kernel6.Gen.frame m ρ, fun m ρ _ => Cert.Kernel6Ideal.Gen.frame m ρ, sampleMixtureFrame,
    fun m ρ _ => Cert.Kernel7.Gen.frame m ρ, fun m ρ _ => Cert.Kernel7Ideal.Gen.frame m ρ, sampleStepFrame,
    fun m ρ _ => Cert.Kernel8.Gen.frame m ρ, fun m ρ _ => Cert.Kernel8Ideal.Gen.frame m ρ, sampleWindowsFrame,
    fun m ρ _ => Cert.Kernel9.Gen.frame m ρ, fun m ρ _ => Cert.Kernel9Ideal.Gen.frame m ρ, fun m ρ _ => Cert.Kernel9Ideal.Gen.frame m ρ, promptWindowsFrame,
    fun m g _ => promptWindowsFrame m g trivial,
    fun m ρ _ => Cert.Kernel10.Gen.frame m ρ, fun m ρ _ => Cert.Kernel10Ideal.Gen.frame m ρ, fun m ρ _ => Cert.Kernel10Ideal.Gen.frame m ρ, laterWindowsFrame,
    fun m g _ => laterWindowsFrame m g trivial,
    trivial, sameOutputs, trivial, projectedColumnsSame, trivial, projectedGatesSame, trivial, feedForwardSame, trivial, mergedSame, IdealRules.named_const.statement _ _ _ _ _ rfl, sampleMixtureSame, trivial, sampleStepSame, trivial, sampleWindowsSame, trivial, promptWindowsSame, trivial, laterWindowsSame⟩

end Cert.Proof

end
